-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_RefDwDownIdeal (m : (ℓ : Loc Cert.RefDwDownIdeal.nD Cert.RefDwDownIdeal.τ Cert.RefDwDownIdeal.sig) → Buf (Elt Ideal) ℓ) : Prop :=
  True

def Pre_BwdAct (m : (ℓ : Loc Cert.BwdAct.nD Cert.BwdAct.τ Cert.BwdAct.sig) → Buf (Elt Bits) ℓ) : Prop :=
  True

def Pre_BwdActIdeal (m : (ℓ : Loc Cert.BwdActIdeal.nD Cert.BwdActIdeal.τ Cert.BwdActIdeal.sig) → Buf (Elt Ideal) ℓ) : Prop :=
  True

def Pre_BwdActIdeal_finite_grad [hPre_finite_grad : Cert.Pre_finite_grad.Facts] (m : (ℓ : Loc Cert.BwdActIdeal.nD Cert.BwdActIdeal.τ Cert.BwdActIdeal.sig) → Buf (Elt Ideal) ℓ) : Prop :=
  ∀ c : Dev Cert.BwdActIdeal.nD,
    (Cert.Pre_finite_grad.fn (F := Ideal) (m ((c.tc : Thread Cert.BwdActIdeal.nD Cert.BwdActIdeal.τ).loc Cert.BwdActIdeal.main_arg0)) (m ((c.tc : Thread Cert.BwdActIdeal.nD Cert.BwdActIdeal.τ).loc Cert.BwdActIdeal.main_arg1)) (m ((c.tc : Thread Cert.BwdActIdeal.nD Cert.BwdActIdeal.τ).loc Cert.BwdActIdeal.main_arg2)) (m ((c.tc : Thread Cert.BwdActIdeal.nD Cert.BwdActIdeal.τ).loc Cert.BwdActIdeal.main_arg3))).1 = (fun _ => 1#1)
    ∧ (Cert.Pre_finite_grad.fn (F := Ideal) (m ((c.tc : Thread Cert.BwdActIdeal.nD Cert.BwdActIdeal.τ).loc Cert.BwdActIdeal.main_arg0)) (m ((c.tc : Thread Cert.BwdActIdeal.nD Cert.BwdActIdeal.τ).loc Cert.BwdActIdeal.main_arg1)) (m ((c.tc : Thread Cert.BwdActIdeal.nD Cert.BwdActIdeal.τ).loc Cert.BwdActIdeal.main_arg2)) (m ((c.tc : Thread Cert.BwdActIdeal.nD Cert.BwdActIdeal.τ).loc Cert.BwdActIdeal.main_arg3))).2.1 = (fun _ => 1#1)
    ∧ (Cert.Pre_finite_grad.fn (F := Ideal) (m ((c.tc : Thread Cert.BwdActIdeal.nD Cert.BwdActIdeal.τ).loc Cert.BwdActIdeal.main_arg0)) (m ((c.tc : Thread Cert.BwdActIdeal.nD Cert.BwdActIdeal.τ).loc Cert.BwdActIdeal.main_arg1)) (m ((c.tc : Thread Cert.BwdActIdeal.nD Cert.BwdActIdeal.τ).loc Cert.BwdActIdeal.main_arg2)) (m ((c.tc : Thread Cert.BwdActIdeal.nD Cert.BwdActIdeal.τ).loc Cert.BwdActIdeal.main_arg3))).2.2 = (fun _ => 1#1)

def Pre_RefBwdActIdeal [hPre_finite_grad : Cert.Pre_finite_grad.Facts] (m : (ℓ : Loc Cert.RefBwdActIdeal.nD Cert.RefBwdActIdeal.τ Cert.RefBwdActIdeal.sig) → Buf (Elt Ideal) ℓ) : Prop :=
  ∀ c : Dev Cert.RefBwdActIdeal.nD,
    (Cert.Pre_finite_grad.fn (F := Ideal) (m ((c.tc : Thread Cert.RefBwdActIdeal.nD Cert.RefBwdActIdeal.τ).loc Cert.RefBwdActIdeal.main_arg0)) (m ((c.tc : Thread Cert.RefBwdActIdeal.nD Cert.RefBwdActIdeal.τ).loc Cert.RefBwdActIdeal.main_arg1)) (m ((c.tc : Thread Cert.RefBwdActIdeal.nD Cert.RefBwdActIdeal.τ).loc Cert.RefBwdActIdeal.main_arg2)) (m ((c.tc : Thread Cert.RefBwdActIdeal.nD Cert.RefBwdActIdeal.τ).loc Cert.RefBwdActIdeal.main_arg3))).1 = (fun _ => 1#1)
    ∧ (Cert.Pre_finite_grad.fn (F := Ideal) (m ((c.tc : Thread Cert.RefBwdActIdeal.nD Cert.RefBwdActIdeal.τ).loc Cert.RefBwdActIdeal.main_arg0)) (m ((c.tc : Thread Cert.RefBwdActIdeal.nD Cert.RefBwdActIdeal.τ).loc Cert.RefBwdActIdeal.main_arg1)) (m ((c.tc : Thread Cert.RefBwdActIdeal.nD Cert.RefBwdActIdeal.τ).loc Cert.RefBwdActIdeal.main_arg2)) (m ((c.tc : Thread Cert.RefBwdActIdeal.nD Cert.RefBwdActIdeal.τ).loc Cert.RefBwdActIdeal.main_arg3))).2.1 = (fun _ => 1#1)
    ∧ (Cert.Pre_finite_grad.fn (F := Ideal) (m ((c.tc : Thread Cert.RefBwdActIdeal.nD Cert.RefBwdActIdeal.τ).loc Cert.RefBwdActIdeal.main_arg0)) (m ((c.tc : Thread Cert.RefBwdActIdeal.nD Cert.RefBwdActIdeal.τ).loc Cert.RefBwdActIdeal.main_arg1)) (m ((c.tc : Thread Cert.RefBwdActIdeal.nD Cert.RefBwdActIdeal.τ).loc Cert.RefBwdActIdeal.main_arg2)) (m ((c.tc : Thread Cert.RefBwdActIdeal.nD Cert.RefBwdActIdeal.τ).loc Cert.RefBwdActIdeal.main_arg3))).2.2 = (fun _ => 1#1)

def Pre_RefBwdActIdeal_none (m : (ℓ : Loc Cert.RefBwdActIdeal.nD Cert.RefBwdActIdeal.τ Cert.RefBwdActIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_RefDwFfIdeal (m : (ℓ : Loc Cert.RefDwFfIdeal.nD Cert.RefDwFfIdeal.τ Cert.RefDwFfIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_Dfn (m : (ℓ : Loc Cert.Dfn.nD Cert.Dfn.τ Cert.Dfn.sig) → Buf (Elt Bits) ℓ) : Prop :=
  True

def Pre_DfnIdeal (m : (ℓ : Loc Cert.DfnIdeal.nD Cert.DfnIdeal.τ Cert.DfnIdeal.sig) → Buf (Elt Ideal) ℓ) : Prop :=
  True

def Pre_RefDfnIdeal (m : (ℓ : Loc Cert.RefDfnIdeal.nD Cert.RefDfnIdeal.τ Cert.RefDfnIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_RefGateUpIdeal (m : (ℓ : Loc Cert.RefGateUpIdeal.nD Cert.RefGateUpIdeal.τ Cert.RefGateUpIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_RefDownProjIdeal (m : (ℓ : Loc Cert.RefDownProjIdeal.nD Cert.RefDownProjIdeal.τ Cert.RefDownProjIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_RefDwOutIdeal (m : (ℓ : Loc Cert.RefDwOutIdeal.nD Cert.RefDwOutIdeal.τ Cert.RefDwOutIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_RefDyIdeal (m : (ℓ : Loc Cert.RefDyIdeal.nD Cert.RefDyIdeal.τ Cert.RefDyIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutProjIdeal (m : (ℓ : Loc Cert.RefOutProjIdeal.nD Cert.RefOutProjIdeal.τ Cert.RefOutProjIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_RefInProjIdeal (m : (ℓ : Loc Cert.RefInProjIdeal.nD Cert.RefInProjIdeal.τ Cert.RefInProjIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_RefDwInIdeal (m : (ℓ : Loc Cert.RefDwInIdeal.nD Cert.RefDwInIdeal.τ Cert.RefDwInIdeal.sig) → Buf (Elt Ideal) ℓ) : Prop :=
  True

def Pre_Dhn (m : (ℓ : Loc Cert.Dhn.nD Cert.Dhn.τ Cert.Dhn.sig) → Buf (Elt Bits) ℓ) : Prop :=
  True

def Pre_DhnIdeal (m : (ℓ : Loc Cert.DhnIdeal.nD Cert.DhnIdeal.τ Cert.DhnIdeal.sig) → Buf (Elt Ideal) ℓ) : Prop :=
  True

def Pre_RefDhnIdeal (m : (ℓ : Loc Cert.RefDhnIdeal.nD Cert.RefDhnIdeal.τ Cert.RefDhnIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RefRmsBwdIdeal (m : (ℓ : Loc Cert.RefRmsBwdIdeal.nD Cert.RefRmsBwdIdeal.τ Cert.RefRmsBwdIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_RefAdamInIdeal (m : (ℓ : Loc Cert.RefAdamInIdeal.nD Cert.RefAdamInIdeal.τ Cert.RefAdamInIdeal.sig) → Buf (Elt Ideal) ℓ) : Prop :=
  True

def Pre_AdamUq (m : (ℓ : Loc Cert.AdamUq.nD Cert.AdamUq.τ Cert.AdamUq.sig) → Buf (Elt Bits) ℓ) : Prop :=
  True

def Pre_AdamUqIdeal (m : (ℓ : Loc Cert.AdamUqIdeal.nD Cert.AdamUqIdeal.τ Cert.AdamUqIdeal.sig) → Buf (Elt Ideal) ℓ) : Prop :=
  True

def Pre_RefAdamUqIdeal (m : (ℓ : Loc Cert.RefAdamUqIdeal.nD Cert.RefAdamUqIdeal.τ Cert.RefAdamUqIdeal.sig) → Buf (Elt Ideal) ℓ) : Prop :=
  True

def Pre_AdamUkv (m : (ℓ : Loc Cert.AdamUkv.nD Cert.AdamUkv.τ Cert.AdamUkv.sig) → Buf (Elt Bits) ℓ) : Prop :=
  True

def Pre_AdamUkvIdeal (m : (ℓ : Loc Cert.AdamUkvIdeal.nD Cert.AdamUkvIdeal.τ Cert.AdamUkvIdeal.sig) → Buf (Elt Ideal) ℓ) : Prop :=
  True

def Pre_RefAdamUkvIdeal (m : (ℓ : Loc Cert.RefAdamUkvIdeal.nD Cert.RefAdamUkvIdeal.τ Cert.RefAdamUkvIdeal.sig) → Buf (Elt Ideal) ℓ) : Prop :=
  True

def Pre_AdamMemKv (m : (ℓ : Loc Cert.AdamMemKv.nD Cert.AdamMemKv.τ Cert.AdamMemKv.sig) → Buf (Elt Bits) ℓ) : Prop :=
  True

def Pre_AdamMemKvIdeal (m : (ℓ : Loc Cert.AdamMemKvIdeal.nD Cert.AdamMemKvIdeal.τ Cert.AdamMemKvIdeal.sig) → Buf (Elt Ideal) ℓ) : Prop :=
  True

def Pre_RefAdamMemKvIdeal (m : (ℓ : Loc Cert.RefAdamMemKvIdeal.nD Cert.RefAdamMemKvIdeal.τ Cert.RefAdamMemKvIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_RefAdamOutIdeal (m : (ℓ : Loc Cert.RefAdamOutIdeal.nD Cert.RefAdamOutIdeal.τ Cert.RefAdamOutIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_RefAdamGateIdeal (m : (ℓ : Loc Cert.RefAdamGateIdeal.nD Cert.RefAdamGateIdeal.τ Cert.RefAdamGateIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_RefAdamDownIdeal (m : (ℓ : Loc Cert.RefAdamDownIdeal.nD Cert.RefAdamDownIdeal.τ Cert.RefAdamDownIdeal.sig) → Buf (Elt Ideal) ℓ) : Prop :=
  True

def Pre_MemKvBwd (m : (ℓ : Loc Cert.MemKvBwd.nD Cert.MemKvBwd.τ Cert.MemKvBwd.sig) → Buf (Elt Bits) ℓ) : Prop :=
  True

def Pre_MemKvBwdIdeal (m : (ℓ : Loc Cert.MemKvBwdIdeal.nD Cert.MemKvBwdIdeal.τ Cert.MemKvBwdIdeal.sig) → Buf (Elt Ideal) ℓ) : Prop :=
  True

def Pre_RefMemKvBwdIdeal (m : (ℓ : Loc Cert.RefMemKvBwdIdeal.nD Cert.RefMemKvBwdIdeal.τ Cert.RefMemKvBwdIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_RefMemKvIdeal (m : (ℓ : Loc Cert.RefMemKvIdeal.nD Cert.RefMemKvIdeal.τ Cert.RefMemKvIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_fwd [hPre_finite_fwd : Cert.Pre_finite_fwd.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_fwd.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3))).1 = (fun _ => 1#1)
    ∧ (Cert.Pre_finite_fwd.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3))).2 = (fun _ => 1#1)

def Pre_RefMemAttnIdeal [hPre_finite_fwd : Cert.Pre_finite_fwd.Facts] (m : (ℓ : Loc Cert.RefMemAttnIdeal.nD Cert.RefMemAttnIdeal.τ Cert.RefMemAttnIdeal.sig) → Buf (Elt Ideal) ℓ) : Prop :=
  ∀ c : Dev Cert.RefMemAttnIdeal.nD,
    (Cert.Pre_finite_fwd.fn (F := Ideal) (m ((c.tc : Thread Cert.RefMemAttnIdeal.nD Cert.RefMemAttnIdeal.τ).loc Cert.RefMemAttnIdeal.main_arg0)) (m ((c.tc : Thread Cert.RefMemAttnIdeal.nD Cert.RefMemAttnIdeal.τ).loc Cert.RefMemAttnIdeal.main_arg1)) (m ((c.tc : Thread Cert.RefMemAttnIdeal.nD Cert.RefMemAttnIdeal.τ).loc Cert.RefMemAttnIdeal.main_arg2)) (m ((c.tc : Thread Cert.RefMemAttnIdeal.nD Cert.RefMemAttnIdeal.τ).loc Cert.RefMemAttnIdeal.main_arg3))).1 = (fun _ => 1#1)
    ∧ (Cert.Pre_finite_fwd.fn (F := Ideal) (m ((c.tc : Thread Cert.RefMemAttnIdeal.nD Cert.RefMemAttnIdeal.τ).loc Cert.RefMemAttnIdeal.main_arg0)) (m ((c.tc : Thread Cert.RefMemAttnIdeal.nD Cert.RefMemAttnIdeal.τ).loc Cert.RefMemAttnIdeal.main_arg1)) (m ((c.tc : Thread Cert.RefMemAttnIdeal.nD Cert.RefMemAttnIdeal.τ).loc Cert.RefMemAttnIdeal.main_arg2)) (m ((c.tc : Thread Cert.RefMemAttnIdeal.nD Cert.RefMemAttnIdeal.τ).loc Cert.RefMemAttnIdeal.main_arg3))).2 = (fun _ => 1#1)

def Pre_RefMemAttnIdeal_none (m : (ℓ : Loc Cert.RefMemAttnIdeal.nD Cert.RefMemAttnIdeal.τ Cert.RefMemAttnIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RefRmsFwdIdeal (m : (ℓ : Loc Cert.RefRmsFwdIdeal.nD Cert.RefRmsFwdIdeal.τ Cert.RefRmsFwdIdeal.sig) → Buf (Elt Ideal) ℓ) : Prop :=
  True

def Pre_ChipsIn (m : (ℓ : Loc Cert.ChipsIn.nD Cert.ChipsIn.τ Cert.ChipsIn.sig) → Buf (Elt Bits) ℓ) : Prop :=
  True

def Pre_ChipsInIdeal (m : (ℓ : Loc Cert.ChipsInIdeal.nD Cert.ChipsInIdeal.τ Cert.ChipsInIdeal.sig) → Buf (Elt Ideal) ℓ) : Prop :=
  True

def Pre_RefChipsInIdeal (m : (ℓ : Loc Cert.RefChipsInIdeal.nD Cert.RefChipsInIdeal.τ Cert.RefChipsInIdeal.sig) → Buf (Elt Ideal) ℓ) : Prop :=
  True

def Pre_ChipsUq (m : (ℓ : Loc Cert.ChipsUq.nD Cert.ChipsUq.τ Cert.ChipsUq.sig) → Buf (Elt Bits) ℓ) : Prop :=
  True

def Pre_ChipsUqIdeal (m : (ℓ : Loc Cert.ChipsUqIdeal.nD Cert.ChipsUqIdeal.τ Cert.ChipsUqIdeal.sig) → Buf (Elt Ideal) ℓ) : Prop :=
  True

def Pre_RefChipsUqIdeal (m : (ℓ : Loc Cert.RefChipsUqIdeal.nD Cert.RefChipsUqIdeal.τ Cert.RefChipsUqIdeal.sig) → Buf (Elt Ideal) ℓ) : Prop :=
  True

def Pre_ChipsUkv (m : (ℓ : Loc Cert.ChipsUkv.nD Cert.ChipsUkv.τ Cert.ChipsUkv.sig) → Buf (Elt Bits) ℓ) : Prop :=
  True

def Pre_ChipsUkvIdeal (m : (ℓ : Loc Cert.ChipsUkvIdeal.nD Cert.ChipsUkvIdeal.τ Cert.ChipsUkvIdeal.sig) → Buf (Elt Ideal) ℓ) : Prop :=
  True

def Pre_RefChipsUkvIdeal (m : (ℓ : Loc Cert.RefChipsUkvIdeal.nD Cert.RefChipsUkvIdeal.τ Cert.RefChipsUkvIdeal.sig) → Buf (Elt Ideal) ℓ) : Prop :=
  True

def Pre_ChipsMemKv (m : (ℓ : Loc Cert.ChipsMemKv.nD Cert.ChipsMemKv.τ Cert.ChipsMemKv.sig) → Buf (Elt Bits) ℓ) : Prop :=
  True

def Pre_ChipsMemKvIdeal (m : (ℓ : Loc Cert.ChipsMemKvIdeal.nD Cert.ChipsMemKvIdeal.τ Cert.ChipsMemKvIdeal.sig) → Buf (Elt Ideal) ℓ) : Prop :=
  True

def Pre_RefChipsMemKvIdeal (m : (ℓ : Loc Cert.RefChipsMemKvIdeal.nD Cert.RefChipsMemKvIdeal.τ Cert.RefChipsMemKvIdeal.sig) → Buf (Elt Ideal) ℓ) : Prop :=
  True

def Pre_ChipsOut (m : (ℓ : Loc Cert.ChipsOut.nD Cert.ChipsOut.τ Cert.ChipsOut.sig) → Buf (Elt Bits) ℓ) : Prop :=
  True

def Pre_ChipsOutIdeal (m : (ℓ : Loc Cert.ChipsOutIdeal.nD Cert.ChipsOutIdeal.τ Cert.ChipsOutIdeal.sig) → Buf (Elt Ideal) ℓ) : Prop :=
  True

def Pre_RefChipsOutIdeal (m : (ℓ : Loc Cert.RefChipsOutIdeal.nD Cert.RefChipsOutIdeal.τ Cert.RefChipsOutIdeal.sig) → Buf (Elt Ideal) ℓ) : Prop :=
  True

def Pre_ChipsGate (m : (ℓ : Loc Cert.ChipsGate.nD Cert.ChipsGate.τ Cert.ChipsGate.sig) → Buf (Elt Bits) ℓ) : Prop :=
  True

def Pre_ChipsGateIdeal (m : (ℓ : Loc Cert.ChipsGateIdeal.nD Cert.ChipsGateIdeal.τ Cert.ChipsGateIdeal.sig) → Buf (Elt Ideal) ℓ) : Prop :=
  True

def Pre_RefChipsGateIdeal (m : (ℓ : Loc Cert.RefChipsGateIdeal.nD Cert.RefChipsGateIdeal.τ Cert.RefChipsGateIdeal.sig) → Buf (Elt Ideal) ℓ) : Prop :=
  True

def Pre_ChipsDown (m : (ℓ : Loc Cert.ChipsDown.nD Cert.ChipsDown.τ Cert.ChipsDown.sig) → Buf (Elt Bits) ℓ) : Prop :=
  True

def Pre_ChipsDownIdeal (m : (ℓ : Loc Cert.ChipsDownIdeal.nD Cert.ChipsDownIdeal.τ Cert.ChipsDownIdeal.sig) → Buf (Elt Ideal) ℓ) : Prop :=
  True

def Pre_RefChipsDownIdeal (m : (ℓ : Loc Cert.RefChipsDownIdeal.nD Cert.RefChipsDownIdeal.τ Cert.RefChipsDownIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_RefDwDownIdeal [hRefDwDownIdeal : Cert.RefDwDownIdeal.Facts] : Prop :=
  ∀ (m : (ℓ : Loc Cert.RefDwDownIdeal.nD Cert.RefDwDownIdeal.τ Cert.RefDwDownIdeal.sig) → Buf (Elt Ideal) ℓ) (g : Dev Cert.RefDwDownIdeal.nD → PrngReg), Pre_RefDwDownIdeal m →
    θ_run (Cert.RefDwDownIdeal.defs (F := Ideal)) (onTc (τ := Cert.RefDwDownIdeal.τ) (Cert.RefDwDownIdeal.main (F := Ideal))) ⟨m, fun _ => 0, g⟩ (fun r => (∀ c : Dev Cert.RefDwDownIdeal.nD,
      r.2.mem ((c.tc : Thread Cert.RefDwDownIdeal.nD Cert.RefDwDownIdeal.τ).loc Cert.RefDwDownIdeal.main_arg0) = m ((c.tc : Thread Cert.RefDwDownIdeal.nD Cert.RefDwDownIdeal.τ).loc Cert.RefDwDownIdeal.main_arg0)
      ∧ r.2.mem ((c.tc : Thread Cert.RefDwDownIdeal.nD Cert.RefDwDownIdeal.τ).loc Cert.RefDwDownIdeal.main_arg1) = m ((c.tc : Thread Cert.RefDwDownIdeal.nD Cert.RefDwDownIdeal.τ).loc Cert.RefDwDownIdeal.main_arg1))
      ∧ r.2.sem = fun _ => 0)

def quiescent_BwdAct [hBwdAct : Cert.BwdAct.Facts] : Prop :=
  ∀ (m : (ℓ : Loc Cert.BwdAct.nD Cert.BwdAct.τ Cert.BwdAct.sig) → Buf (Elt Bits) ℓ) (g : Dev Cert.BwdAct.nD → PrngReg), Pre_BwdAct m →
    θ_run (Cert.BwdAct.defs (F := Bits)) (onTc (τ := Cert.BwdAct.τ) (Cert.BwdAct.main (F := Bits))) ⟨m, fun _ => 0, g⟩ (fun r => (∀ c : Dev Cert.BwdAct.nD,
      r.2.mem ((c.tc : Thread Cert.BwdAct.nD Cert.BwdAct.τ).loc Cert.BwdAct.main_arg0) = m ((c.tc : Thread Cert.BwdAct.nD Cert.BwdAct.τ).loc Cert.BwdAct.main_arg0)
      ∧ r.2.mem ((c.tc : Thread Cert.BwdAct.nD Cert.BwdAct.τ).loc Cert.BwdAct.main_arg1) = m ((c.tc : Thread Cert.BwdAct.nD Cert.BwdAct.τ).loc Cert.BwdAct.main_arg1)
      ∧ r.2.mem ((c.tc : Thread Cert.BwdAct.nD Cert.BwdAct.τ).loc Cert.BwdAct.main_arg2) = m ((c.tc : Thread Cert.BwdAct.nD Cert.BwdAct.τ).loc Cert.BwdAct.main_arg2)
      ∧ r.2.mem ((c.tc : Thread Cert.BwdAct.nD Cert.BwdAct.τ).loc Cert.BwdAct.main_arg3) = m ((c.tc : Thread Cert.BwdAct.nD Cert.BwdAct.τ).loc Cert.BwdAct.main_arg3))
      ∧ r.2.sem = fun _ => 0)

def quiescent_BwdActIdeal [hBwdActIdeal : Cert.BwdActIdeal.Facts] : Prop :=
  ∀ (m : (ℓ : Loc Cert.BwdActIdeal.nD Cert.BwdActIdeal.τ Cert.BwdActIdeal.sig) → Buf (Elt Ideal) ℓ) (g : Dev Cert.BwdActIdeal.nD → PrngReg), Pre_BwdActIdeal m →
    θ_run (Cert.BwdActIdeal.defs (F := Ideal)) (onTc (τ := Cert.BwdActIdeal.τ) (Cert.BwdActIdeal.main (F := Ideal))) ⟨m, fun _ => 0, g⟩ (fun r => (∀ c : Dev Cert.BwdActIdeal.nD,
      r.2.mem ((c.tc : Thread Cert.BwdActIdeal.nD Cert.BwdActIdeal.τ).loc Cert.BwdActIdeal.main_arg0) = m ((c.tc : Thread Cert.BwdActIdeal.nD Cert.BwdActIdeal.τ).loc Cert.BwdActIdeal.main_arg0)
      ∧ r.2.mem ((c.tc : Thread Cert.BwdActIdeal.nD Cert.BwdActIdeal.τ).loc Cert.BwdActIdeal.main_arg1) = m ((c.tc : Thread Cert.BwdActIdeal.nD Cert.BwdActIdeal.τ).loc Cert.BwdActIdeal.main_arg1)
      ∧ r.2.mem ((c.tc : Thread Cert.BwdActIdeal.nD Cert.BwdActIdeal.τ).loc Cert.BwdActIdeal.main_arg2) = m ((c.tc : Thread Cert.BwdActIdeal.nD Cert.BwdActIdeal.τ).loc Cert.BwdActIdeal.main_arg2)
      ∧ r.2.mem ((c.tc : Thread Cert.BwdActIdeal.nD Cert.BwdActIdeal.τ).loc Cert.BwdActIdeal.main_arg3) = m ((c.tc : Thread Cert.BwdActIdeal.nD Cert.BwdActIdeal.τ).loc Cert.BwdActIdeal.main_arg3))
      ∧ r.2.sem = fun _ => 0)

def quiescent_BwdActIdeal_pre_finite_grad [hBwdActIdeal : Cert.BwdActIdeal.Facts] [hPre_finite_grad : Cert.Pre_finite_grad.Facts] : Prop :=
  ∀ (m : (ℓ : Loc Cert.BwdActIdeal.nD Cert.BwdActIdeal.τ Cert.BwdActIdeal.sig) → Buf (Elt Ideal) ℓ) (g : Dev Cert.BwdActIdeal.nD → PrngReg), Pre_BwdActIdeal_finite_grad m →
    θ_run (Cert.BwdActIdeal.defs (F := Ideal)) (onTc (τ := Cert.BwdActIdeal.τ) (Cert.BwdActIdeal.main (F := Ideal))) ⟨m, fun _ => 0, g⟩ (fun r => (∀ c : Dev Cert.BwdActIdeal.nD,
      r.2.mem ((c.tc : Thread Cert.BwdActIdeal.nD Cert.BwdActIdeal.τ).loc Cert.BwdActIdeal.main_arg0) = m ((c.tc : Thread Cert.BwdActIdeal.nD Cert.BwdActIdeal.τ).loc Cert.BwdActIdeal.main_arg0)
      ∧ r.2.mem ((c.tc : Thread Cert.BwdActIdeal.nD Cert.BwdActIdeal.τ).loc Cert.BwdActIdeal.main_arg1) = m ((c.tc : Thread Cert.BwdActIdeal.nD Cert.BwdActIdeal.τ).loc Cert.BwdActIdeal.main_arg1)
      ∧ r.2.mem ((c.tc : Thread Cert.BwdActIdeal.nD Cert.BwdActIdeal.τ).loc Cert.BwdActIdeal.main_arg2) = m ((c.tc : Thread Cert.BwdActIdeal.nD Cert.BwdActIdeal.τ).loc Cert.BwdActIdeal.main_arg2)
      ∧ r.2.mem ((c.tc : Thread Cert.BwdActIdeal.nD Cert.BwdActIdeal.τ).loc Cert.BwdActIdeal.main_arg3) = m ((c.tc : Thread Cert.BwdActIdeal.nD Cert.BwdActIdeal.τ).loc Cert.BwdActIdeal.main_arg3))
      ∧ r.2.sem = fun _ => 0)

def quiescent_RefBwdActIdeal [hRefBwdActIdeal : Cert.RefBwdActIdeal.Facts] [hPre_finite_grad : Cert.Pre_finite_grad.Facts] : Prop :=
  ∀ (m : (ℓ : Loc Cert.RefBwdActIdeal.nD Cert.RefBwdActIdeal.τ Cert.RefBwdActIdeal.sig) → Buf (Elt Ideal) ℓ) (g : Dev Cert.RefBwdActIdeal.nD → PrngReg), Pre_RefBwdActIdeal m →
    θ_run (Cert.RefBwdActIdeal.defs (F := Ideal)) (onTc (τ := Cert.RefBwdActIdeal.τ) (Cert.RefBwdActIdeal.main (F := Ideal))) ⟨m, fun _ => 0, g⟩ (fun r => (∀ c : Dev Cert.RefBwdActIdeal.nD,
      r.2.mem ((c.tc : Thread Cert.RefBwdActIdeal.nD Cert.RefBwdActIdeal.τ).loc Cert.RefBwdActIdeal.main_arg0) = m ((c.tc : Thread Cert.RefBwdActIdeal.nD Cert.RefBwdActIdeal.τ).loc Cert.RefBwdActIdeal.main_arg0)
      ∧ r.2.mem ((c.tc : Thread Cert.RefBwdActIdeal.nD Cert.RefBwdActIdeal.τ).loc Cert.RefBwdActIdeal.main_arg1) = m ((c.tc : Thread Cert.RefBwdActIdeal.nD Cert.RefBwdActIdeal.τ).loc Cert.RefBwdActIdeal.main_arg1)
      ∧ r.2.mem ((c.tc : Thread Cert.RefBwdActIdeal.nD Cert.RefBwdActIdeal.τ).loc Cert.RefBwdActIdeal.main_arg2) = m ((c.tc : Thread Cert.RefBwdActIdeal.nD Cert.RefBwdActIdeal.τ).loc Cert.RefBwdActIdeal.main_arg2)
      ∧ r.2.mem ((c.tc : Thread Cert.RefBwdActIdeal.nD Cert.RefBwdActIdeal.τ).loc Cert.RefBwdActIdeal.main_arg3) = m ((c.tc : Thread Cert.RefBwdActIdeal.nD Cert.RefBwdActIdeal.τ).loc Cert.RefBwdActIdeal.main_arg3))
      ∧ r.2.sem = fun _ => 0)

def quiescent_RefBwdActIdeal_pre_none [hRefBwdActIdeal : Cert.RefBwdActIdeal.Facts] : Prop :=
  ∀ (m : (ℓ : Loc Cert.RefBwdActIdeal.nD Cert.RefBwdActIdeal.τ Cert.RefBwdActIdeal.sig) → Buf (Elt Ideal) ℓ) (g : Dev Cert.RefBwdActIdeal.nD → PrngReg), Pre_RefBwdActIdeal_none m →
    θ_run (Cert.RefBwdActIdeal.defs (F := Ideal)) (onTc (τ := Cert.RefBwdActIdeal.τ) (Cert.RefBwdActIdeal.main (F := Ideal))) ⟨m, fun _ => 0, g⟩ (fun r => (∀ c : Dev Cert.RefBwdActIdeal.nD,
      r.2.mem ((c.tc : Thread Cert.RefBwdActIdeal.nD Cert.RefBwdActIdeal.τ).loc Cert.RefBwdActIdeal.main_arg0) = m ((c.tc : Thread Cert.RefBwdActIdeal.nD Cert.RefBwdActIdeal.τ).loc Cert.RefBwdActIdeal.main_arg0)
      ∧ r.2.mem ((c.tc : Thread Cert.RefBwdActIdeal.nD Cert.RefBwdActIdeal.τ).loc Cert.RefBwdActIdeal.main_arg1) = m ((c.tc : Thread Cert.RefBwdActIdeal.nD Cert.RefBwdActIdeal.τ).loc Cert.RefBwdActIdeal.main_arg1)
      ∧ r.2.mem ((c.tc : Thread Cert.RefBwdActIdeal.nD Cert.RefBwdActIdeal.τ).loc Cert.RefBwdActIdeal.main_arg2) = m ((c.tc : Thread Cert.RefBwdActIdeal.nD Cert.RefBwdActIdeal.τ).loc Cert.RefBwdActIdeal.main_arg2)
      ∧ r.2.mem ((c.tc : Thread Cert.RefBwdActIdeal.nD Cert.RefBwdActIdeal.τ).loc Cert.RefBwdActIdeal.main_arg3) = m ((c.tc : Thread Cert.RefBwdActIdeal.nD Cert.RefBwdActIdeal.τ).loc Cert.RefBwdActIdeal.main_arg3))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_RefDwFfIdeal [hRefDwFfIdeal : Cert.RefDwFfIdeal.Facts] : Prop :=
  ∀ (m : (ℓ : Loc Cert.RefDwFfIdeal.nD Cert.RefDwFfIdeal.τ Cert.RefDwFfIdeal.sig) → Buf (Elt Ideal) ℓ) (g : Dev Cert.RefDwFfIdeal.nD → PrngReg), Pre_RefDwFfIdeal m →
    θ_run (Cert.RefDwFfIdeal.defs (F := Ideal)) (onTc (τ := Cert.RefDwFfIdeal.τ) (Cert.RefDwFfIdeal.main (F := Ideal))) ⟨m, fun _ => 0, g⟩ (fun r => (∀ c : Dev Cert.RefDwFfIdeal.nD,
      r.2.mem ((c.tc : Thread Cert.RefDwFfIdeal.nD Cert.RefDwFfIdeal.τ).loc Cert.RefDwFfIdeal.main_arg0) = m ((c.tc : Thread Cert.RefDwFfIdeal.nD Cert.RefDwFfIdeal.τ).loc Cert.RefDwFfIdeal.main_arg0)
      ∧ r.2.mem ((c.tc : Thread Cert.RefDwFfIdeal.nD Cert.RefDwFfIdeal.τ).loc Cert.RefDwFfIdeal.main_arg1) = m ((c.tc : Thread Cert.RefDwFfIdeal.nD Cert.RefDwFfIdeal.τ).loc Cert.RefDwFfIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_Dfn [hDfn : Cert.Dfn.Facts] : Prop :=
  ∀ (m : (ℓ : Loc Cert.Dfn.nD Cert.Dfn.τ Cert.Dfn.sig) → Buf (Elt Bits) ℓ) (g : Dev Cert.Dfn.nD → PrngReg), Pre_Dfn m →
    θ_run (Cert.Dfn.defs (F := Bits)) (onTc (τ := Cert.Dfn.τ) (Cert.Dfn.main (F := Bits))) ⟨m, fun _ => 0, g⟩ (fun r => (∀ c : Dev Cert.Dfn.nD,
      r.2.mem ((c.tc : Thread Cert.Dfn.nD Cert.Dfn.τ).loc Cert.Dfn.main_arg0) = m ((c.tc : Thread Cert.Dfn.nD Cert.Dfn.τ).loc Cert.Dfn.main_arg0)
      ∧ r.2.mem ((c.tc : Thread Cert.Dfn.nD Cert.Dfn.τ).loc Cert.Dfn.main_arg1) = m ((c.tc : Thread Cert.Dfn.nD Cert.Dfn.τ).loc Cert.Dfn.main_arg1)
      ∧ r.2.mem ((c.tc : Thread Cert.Dfn.nD Cert.Dfn.τ).loc Cert.Dfn.main_arg2) = m ((c.tc : Thread Cert.Dfn.nD Cert.Dfn.τ).loc Cert.Dfn.main_arg2)
      ∧ r.2.mem ((c.tc : Thread Cert.Dfn.nD Cert.Dfn.τ).loc Cert.Dfn.main_arg3) = m ((c.tc : Thread Cert.Dfn.nD Cert.Dfn.τ).loc Cert.Dfn.main_arg3))
      ∧ r.2.sem = fun _ => 0)

def quiescent_DfnIdeal [hDfnIdeal : Cert.DfnIdeal.Facts] : Prop :=
  ∀ (m : (ℓ : Loc Cert.DfnIdeal.nD Cert.DfnIdeal.τ Cert.DfnIdeal.sig) → Buf (Elt Ideal) ℓ) (g : Dev Cert.DfnIdeal.nD → PrngReg), Pre_DfnIdeal m →
    θ_run (Cert.DfnIdeal.defs (F := Ideal)) (onTc (τ := Cert.DfnIdeal.τ) (Cert.DfnIdeal.main (F := Ideal))) ⟨m, fun _ => 0, g⟩ (fun r => (∀ c : Dev Cert.DfnIdeal.nD,
      r.2.mem ((c.tc : Thread Cert.DfnIdeal.nD Cert.DfnIdeal.τ).loc Cert.DfnIdeal.main_arg0) = m ((c.tc : Thread Cert.DfnIdeal.nD Cert.DfnIdeal.τ).loc Cert.DfnIdeal.main_arg0)
      ∧ r.2.mem ((c.tc : Thread Cert.DfnIdeal.nD Cert.DfnIdeal.τ).loc Cert.DfnIdeal.main_arg1) = m ((c.tc : Thread Cert.DfnIdeal.nD Cert.DfnIdeal.τ).loc Cert.DfnIdeal.main_arg1)
      ∧ r.2.mem ((c.tc : Thread Cert.DfnIdeal.nD Cert.DfnIdeal.τ).loc Cert.DfnIdeal.main_arg2) = m ((c.tc : Thread Cert.DfnIdeal.nD Cert.DfnIdeal.τ).loc Cert.DfnIdeal.main_arg2)
      ∧ r.2.mem ((c.tc : Thread Cert.DfnIdeal.nD Cert.DfnIdeal.τ).loc Cert.DfnIdeal.main_arg3) = m ((c.tc : Thread Cert.DfnIdeal.nD Cert.DfnIdeal.τ).loc Cert.DfnIdeal.main_arg3))
      ∧ r.2.sem = fun _ => 0)

def quiescent_RefDfnIdeal [hRefDfnIdeal : Cert.RefDfnIdeal.Facts] : Prop :=
  ∀ (m : (ℓ : Loc Cert.RefDfnIdeal.nD Cert.RefDfnIdeal.τ Cert.RefDfnIdeal.sig) → Buf (Elt Ideal) ℓ) (g : Dev Cert.RefDfnIdeal.nD → PrngReg), Pre_RefDfnIdeal m →
    θ_run (Cert.RefDfnIdeal.defs (F := Ideal)) (onTc (τ := Cert.RefDfnIdeal.τ) (Cert.RefDfnIdeal.main (F := Ideal))) ⟨m, fun _ => 0, g⟩ (fun r => (∀ c : Dev Cert.RefDfnIdeal.nD,
      r.2.mem ((c.tc : Thread Cert.RefDfnIdeal.nD Cert.RefDfnIdeal.τ).loc Cert.RefDfnIdeal.main_arg0) = m ((c.tc : Thread Cert.RefDfnIdeal.nD Cert.RefDfnIdeal.τ).loc Cert.RefDfnIdeal.main_arg0)
      ∧ r.2.mem ((c.tc : Thread Cert.RefDfnIdeal.nD Cert.RefDfnIdeal.τ).loc Cert.RefDfnIdeal.main_arg1) = m ((c.tc : Thread Cert.RefDfnIdeal.nD Cert.RefDfnIdeal.τ).loc Cert.RefDfnIdeal.main_arg1)
      ∧ r.2.mem ((c.tc : Thread Cert.RefDfnIdeal.nD Cert.RefDfnIdeal.τ).loc Cert.RefDfnIdeal.main_arg2) = m ((c.tc : Thread Cert.RefDfnIdeal.nD Cert.RefDfnIdeal.τ).loc Cert.RefDfnIdeal.main_arg2)
      ∧ r.2.mem ((c.tc : Thread Cert.RefDfnIdeal.nD Cert.RefDfnIdeal.τ).loc Cert.RefDfnIdeal.main_arg3) = m ((c.tc : Thread Cert.RefDfnIdeal.nD Cert.RefDfnIdeal.τ).loc Cert.RefDfnIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_RefGateUpIdeal [hRefGateUpIdeal : Cert.RefGateUpIdeal.Facts] : Prop :=
  ∀ (m : (ℓ : Loc Cert.RefGateUpIdeal.nD Cert.RefGateUpIdeal.τ Cert.RefGateUpIdeal.sig) → Buf (Elt Ideal) ℓ) (g : Dev Cert.RefGateUpIdeal.nD → PrngReg), Pre_RefGateUpIdeal m →
    θ_run (Cert.RefGateUpIdeal.defs (F := Ideal)) (onTc (τ := Cert.RefGateUpIdeal.τ) (Cert.RefGateUpIdeal.main (F := Ideal))) ⟨m, fun _ => 0, g⟩ (fun r => (∀ c : Dev Cert.RefGateUpIdeal.nD,
      r.2.mem ((c.tc : Thread Cert.RefGateUpIdeal.nD Cert.RefGateUpIdeal.τ).loc Cert.RefGateUpIdeal.main_arg0) = m ((c.tc : Thread Cert.RefGateUpIdeal.nD Cert.RefGateUpIdeal.τ).loc Cert.RefGateUpIdeal.main_arg0)
      ∧ r.2.mem ((c.tc : Thread Cert.RefGateUpIdeal.nD Cert.RefGateUpIdeal.τ).loc Cert.RefGateUpIdeal.main_arg1) = m ((c.tc : Thread Cert.RefGateUpIdeal.nD Cert.RefGateUpIdeal.τ).loc Cert.RefGateUpIdeal.main_arg1)
      ∧ r.2.mem ((c.tc : Thread Cert.RefGateUpIdeal.nD Cert.RefGateUpIdeal.τ).loc Cert.RefGateUpIdeal.main_arg2) = m ((c.tc : Thread Cert.RefGateUpIdeal.nD Cert.RefGateUpIdeal.τ).loc Cert.RefGateUpIdeal.main_arg2))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2)
      ∧ r.2.mem ((c.tc : Thread Cert.DownProj.nD Cert.DownProj.τ).loc Cert.DownProj.main_arg3) = m ((c.tc : Thread Cert.DownProj.nD Cert.DownProj.τ).loc Cert.DownProj.main_arg3))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
      ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3))
      ∧ r.2.sem = fun _ => 0)

def quiescent_RefDownProjIdeal [hRefDownProjIdeal : Cert.RefDownProjIdeal.Facts] : Prop :=
  ∀ (m : (ℓ : Loc Cert.RefDownProjIdeal.nD Cert.RefDownProjIdeal.τ Cert.RefDownProjIdeal.sig) → Buf (Elt Ideal) ℓ) (g : Dev Cert.RefDownProjIdeal.nD → PrngReg), Pre_RefDownProjIdeal m →
    θ_run (Cert.RefDownProjIdeal.defs (F := Ideal)) (onTc (τ := Cert.RefDownProjIdeal.τ) (Cert.RefDownProjIdeal.main (F := Ideal))) ⟨m, fun _ => 0, g⟩ (fun r => (∀ c : Dev Cert.RefDownProjIdeal.nD,
      r.2.mem ((c.tc : Thread Cert.RefDownProjIdeal.nD Cert.RefDownProjIdeal.τ).loc Cert.RefDownProjIdeal.main_arg0) = m ((c.tc : Thread Cert.RefDownProjIdeal.nD Cert.RefDownProjIdeal.τ).loc Cert.RefDownProjIdeal.main_arg0)
      ∧ r.2.mem ((c.tc : Thread Cert.RefDownProjIdeal.nD Cert.RefDownProjIdeal.τ).loc Cert.RefDownProjIdeal.main_arg1) = m ((c.tc : Thread Cert.RefDownProjIdeal.nD Cert.RefDownProjIdeal.τ).loc Cert.RefDownProjIdeal.main_arg1)
      ∧ r.2.mem ((c.tc : Thread Cert.RefDownProjIdeal.nD Cert.RefDownProjIdeal.τ).loc Cert.RefDownProjIdeal.main_arg2) = m ((c.tc : Thread Cert.RefDownProjIdeal.nD Cert.RefDownProjIdeal.τ).loc Cert.RefDownProjIdeal.main_arg2)
      ∧ r.2.mem ((c.tc : Thread Cert.RefDownProjIdeal.nD Cert.RefDownProjIdeal.τ).loc Cert.RefDownProjIdeal.main_arg3) = m ((c.tc : Thread Cert.RefDownProjIdeal.nD Cert.RefDownProjIdeal.τ).loc Cert.RefDownProjIdeal.main_arg3))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_RefDwOutIdeal [hRefDwOutIdeal : Cert.RefDwOutIdeal.Facts] : Prop :=
  ∀ (m : (ℓ : Loc Cert.RefDwOutIdeal.nD Cert.RefDwOutIdeal.τ Cert.RefDwOutIdeal.sig) → Buf (Elt Ideal) ℓ) (g : Dev Cert.RefDwOutIdeal.nD → PrngReg), Pre_RefDwOutIdeal m →
    θ_run (Cert.RefDwOutIdeal.defs (F := Ideal)) (onTc (τ := Cert.RefDwOutIdeal.τ) (Cert.RefDwOutIdeal.main (F := Ideal))) ⟨m, fun _ => 0, g⟩ (fun r => (∀ c : Dev Cert.RefDwOutIdeal.nD,
      r.2.mem ((c.tc : Thread Cert.RefDwOutIdeal.nD Cert.RefDwOutIdeal.τ).loc Cert.RefDwOutIdeal.main_arg0) = m ((c.tc : Thread Cert.RefDwOutIdeal.nD Cert.RefDwOutIdeal.τ).loc Cert.RefDwOutIdeal.main_arg0)
      ∧ r.2.mem ((c.tc : Thread Cert.RefDwOutIdeal.nD Cert.RefDwOutIdeal.τ).loc Cert.RefDwOutIdeal.main_arg1) = m ((c.tc : Thread Cert.RefDwOutIdeal.nD Cert.RefDwOutIdeal.τ).loc Cert.RefDwOutIdeal.main_arg1))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_RefDyIdeal [hRefDyIdeal : Cert.RefDyIdeal.Facts] : Prop :=
  ∀ (m : (ℓ : Loc Cert.RefDyIdeal.nD Cert.RefDyIdeal.τ Cert.RefDyIdeal.sig) → Buf (Elt Ideal) ℓ) (g : Dev Cert.RefDyIdeal.nD → PrngReg), Pre_RefDyIdeal m →
    θ_run (Cert.RefDyIdeal.defs (F := Ideal)) (onTc (τ := Cert.RefDyIdeal.τ) (Cert.RefDyIdeal.main (F := Ideal))) ⟨m, fun _ => 0, g⟩ (fun r => (∀ c : Dev Cert.RefDyIdeal.nD,
      r.2.mem ((c.tc : Thread Cert.RefDyIdeal.nD Cert.RefDyIdeal.τ).loc Cert.RefDyIdeal.main_arg0) = m ((c.tc : Thread Cert.RefDyIdeal.nD Cert.RefDyIdeal.τ).loc Cert.RefDyIdeal.main_arg0)
      ∧ r.2.mem ((c.tc : Thread Cert.RefDyIdeal.nD Cert.RefDyIdeal.τ).loc Cert.RefDyIdeal.main_arg1) = m ((c.tc : Thread Cert.RefDyIdeal.nD Cert.RefDyIdeal.τ).loc Cert.RefDyIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_RefOutProjIdeal [hRefOutProjIdeal : Cert.RefOutProjIdeal.Facts] : Prop :=
  ∀ (m : (ℓ : Loc Cert.RefOutProjIdeal.nD Cert.RefOutProjIdeal.τ Cert.RefOutProjIdeal.sig) → Buf (Elt Ideal) ℓ) (g : Dev Cert.RefOutProjIdeal.nD → PrngReg), Pre_RefOutProjIdeal m →
    θ_run (Cert.RefOutProjIdeal.defs (F := Ideal)) (onTc (τ := Cert.RefOutProjIdeal.τ) (Cert.RefOutProjIdeal.main (F := Ideal))) ⟨m, fun _ => 0, g⟩ (fun r => (∀ c : Dev Cert.RefOutProjIdeal.nD,
      r.2.mem ((c.tc : Thread Cert.RefOutProjIdeal.nD Cert.RefOutProjIdeal.τ).loc Cert.RefOutProjIdeal.main_arg0) = m ((c.tc : Thread Cert.RefOutProjIdeal.nD Cert.RefOutProjIdeal.τ).loc Cert.RefOutProjIdeal.main_arg0)
      ∧ r.2.mem ((c.tc : Thread Cert.RefOutProjIdeal.nD Cert.RefOutProjIdeal.τ).loc Cert.RefOutProjIdeal.main_arg1) = m ((c.tc : Thread Cert.RefOutProjIdeal.nD Cert.RefOutProjIdeal.τ).loc Cert.RefOutProjIdeal.main_arg1)
      ∧ r.2.mem ((c.tc : Thread Cert.RefOutProjIdeal.nD Cert.RefOutProjIdeal.τ).loc Cert.RefOutProjIdeal.main_arg2) = m ((c.tc : Thread Cert.RefOutProjIdeal.nD Cert.RefOutProjIdeal.τ).loc Cert.RefOutProjIdeal.main_arg2)
      ∧ r.2.mem ((c.tc : Thread Cert.RefOutProjIdeal.nD Cert.RefOutProjIdeal.τ).loc Cert.RefOutProjIdeal.main_arg3) = m ((c.tc : Thread Cert.RefOutProjIdeal.nD Cert.RefOutProjIdeal.τ).loc Cert.RefOutProjIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_RefInProjIdeal [hRefInProjIdeal : Cert.RefInProjIdeal.Facts] : Prop :=
  ∀ (m : (ℓ : Loc Cert.RefInProjIdeal.nD Cert.RefInProjIdeal.τ Cert.RefInProjIdeal.sig) → Buf (Elt Ideal) ℓ) (g : Dev Cert.RefInProjIdeal.nD → PrngReg), Pre_RefInProjIdeal m →
    θ_run (Cert.RefInProjIdeal.defs (F := Ideal)) (onTc (τ := Cert.RefInProjIdeal.τ) (Cert.RefInProjIdeal.main (F := Ideal))) ⟨m, fun _ => 0, g⟩ (fun r => (∀ c : Dev Cert.RefInProjIdeal.nD,
      r.2.mem ((c.tc : Thread Cert.RefInProjIdeal.nD Cert.RefInProjIdeal.τ).loc Cert.RefInProjIdeal.main_arg0) = m ((c.tc : Thread Cert.RefInProjIdeal.nD Cert.RefInProjIdeal.τ).loc Cert.RefInProjIdeal.main_arg0)
      ∧ r.2.mem ((c.tc : Thread Cert.RefInProjIdeal.nD Cert.RefInProjIdeal.τ).loc Cert.RefInProjIdeal.main_arg1) = m ((c.tc : Thread Cert.RefInProjIdeal.nD Cert.RefInProjIdeal.τ).loc Cert.RefInProjIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_RefDwInIdeal [hRefDwInIdeal : Cert.RefDwInIdeal.Facts] : Prop :=
  ∀ (m : (ℓ : Loc Cert.RefDwInIdeal.nD Cert.RefDwInIdeal.τ Cert.RefDwInIdeal.sig) → Buf (Elt Ideal) ℓ) (g : Dev Cert.RefDwInIdeal.nD → PrngReg), Pre_RefDwInIdeal m →
    θ_run (Cert.RefDwInIdeal.defs (F := Ideal)) (onTc (τ := Cert.RefDwInIdeal.τ) (Cert.RefDwInIdeal.main (F := Ideal))) ⟨m, fun _ => 0, g⟩ (fun r => (∀ c : Dev Cert.RefDwInIdeal.nD,
      r.2.mem ((c.tc : Thread Cert.RefDwInIdeal.nD Cert.RefDwInIdeal.τ).loc Cert.RefDwInIdeal.main_arg0) = m ((c.tc : Thread Cert.RefDwInIdeal.nD Cert.RefDwInIdeal.τ).loc Cert.RefDwInIdeal.main_arg0)
      ∧ r.2.mem ((c.tc : Thread Cert.RefDwInIdeal.nD Cert.RefDwInIdeal.τ).loc Cert.RefDwInIdeal.main_arg1) = m ((c.tc : Thread Cert.RefDwInIdeal.nD Cert.RefDwInIdeal.τ).loc Cert.RefDwInIdeal.main_arg1))
      ∧ r.2.sem = fun _ => 0)

def quiescent_Dhn [hDhn : Cert.Dhn.Facts] : Prop :=
  ∀ (m : (ℓ : Loc Cert.Dhn.nD Cert.Dhn.τ Cert.Dhn.sig) → Buf (Elt Bits) ℓ) (g : Dev Cert.Dhn.nD → PrngReg), Pre_Dhn m →
    θ_run (Cert.Dhn.defs (F := Bits)) (onTc (τ := Cert.Dhn.τ) (Cert.Dhn.main (F := Bits))) ⟨m, fun _ => 0, g⟩ (fun r => (∀ c : Dev Cert.Dhn.nD,
      r.2.mem ((c.tc : Thread Cert.Dhn.nD Cert.Dhn.τ).loc Cert.Dhn.main_arg0) = m ((c.tc : Thread Cert.Dhn.nD Cert.Dhn.τ).loc Cert.Dhn.main_arg0)
      ∧ r.2.mem ((c.tc : Thread Cert.Dhn.nD Cert.Dhn.τ).loc Cert.Dhn.main_arg1) = m ((c.tc : Thread Cert.Dhn.nD Cert.Dhn.τ).loc Cert.Dhn.main_arg1))
      ∧ r.2.sem = fun _ => 0)

def quiescent_DhnIdeal [hDhnIdeal : Cert.DhnIdeal.Facts] : Prop :=
  ∀ (m : (ℓ : Loc Cert.DhnIdeal.nD Cert.DhnIdeal.τ Cert.DhnIdeal.sig) → Buf (Elt Ideal) ℓ) (g : Dev Cert.DhnIdeal.nD → PrngReg), Pre_DhnIdeal m →
    θ_run (Cert.DhnIdeal.defs (F := Ideal)) (onTc (τ := Cert.DhnIdeal.τ) (Cert.DhnIdeal.main (F := Ideal))) ⟨m, fun _ => 0, g⟩ (fun r => (∀ c : Dev Cert.DhnIdeal.nD,
      r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
      ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1))
      ∧ r.2.sem = fun _ => 0)

def quiescent_RefDhnIdeal [hRefDhnIdeal : Cert.RefDhnIdeal.Facts] : Prop :=
  ∀ (m : (ℓ : Loc Cert.RefDhnIdeal.nD Cert.RefDhnIdeal.τ Cert.RefDhnIdeal.sig) → Buf (Elt Ideal) ℓ) (g : Dev Cert.RefDhnIdeal.nD → PrngReg), Pre_RefDhnIdeal m →
    θ_run (Cert.RefDhnIdeal.defs (F := Ideal)) (onTc (τ := Cert.RefDhnIdeal.τ) (Cert.RefDhnIdeal.main (F := Ideal))) ⟨m, fun _ => 0, g⟩ (fun r => (∀ c : Dev Cert.RefDhnIdeal.nD,
      r.2.mem ((c.tc : Thread Cert.RefDhnIdeal.nD Cert.RefDhnIdeal.τ).loc Cert.RefDhnIdeal.main_arg0) = m ((c.tc : Thread Cert.RefDhnIdeal.nD Cert.RefDhnIdeal.τ).loc Cert.RefDhnIdeal.main_arg0)
      ∧ r.2.mem ((c.tc : Thread Cert.RefDhnIdeal.nD Cert.RefDhnIdeal.τ).loc Cert.RefDhnIdeal.main_arg1) = m ((c.tc : Thread Cert.RefDhnIdeal.nD Cert.RefDhnIdeal.τ).loc Cert.RefDhnIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RefRmsBwdIdeal [hRefRmsBwdIdeal : Cert.RefRmsBwdIdeal.Facts] : Prop :=
  ∀ (m : (ℓ : Loc Cert.RefRmsBwdIdeal.nD Cert.RefRmsBwdIdeal.τ Cert.RefRmsBwdIdeal.sig) → Buf (Elt Ideal) ℓ) (g : Dev Cert.RefRmsBwdIdeal.nD → PrngReg), Pre_RefRmsBwdIdeal m →
    θ_run (Cert.RefRmsBwdIdeal.defs (F := Ideal)) (onTc (τ := Cert.RefRmsBwdIdeal.τ) (Cert.RefRmsBwdIdeal.main (F := Ideal))) ⟨m, fun _ => 0, g⟩ (fun r => (∀ c : Dev Cert.RefRmsBwdIdeal.nD,
      r.2.mem ((c.tc : Thread Cert.RefRmsBwdIdeal.nD Cert.RefRmsBwdIdeal.τ).loc Cert.RefRmsBwdIdeal.main_arg0) = m ((c.tc : Thread Cert.RefRmsBwdIdeal.nD Cert.RefRmsBwdIdeal.τ).loc Cert.RefRmsBwdIdeal.main_arg0)
      ∧ r.2.mem ((c.tc : Thread Cert.RefRmsBwdIdeal.nD Cert.RefRmsBwdIdeal.τ).loc Cert.RefRmsBwdIdeal.main_arg1) = m ((c.tc : Thread Cert.RefRmsBwdIdeal.nD Cert.RefRmsBwdIdeal.τ).loc Cert.RefRmsBwdIdeal.main_arg1)
      ∧ r.2.mem ((c.tc : Thread Cert.RefRmsBwdIdeal.nD Cert.RefRmsBwdIdeal.τ).loc Cert.RefRmsBwdIdeal.main_arg2) = m ((c.tc : Thread Cert.RefRmsBwdIdeal.nD Cert.RefRmsBwdIdeal.τ).loc Cert.RefRmsBwdIdeal.main_arg2)
      ∧ r.2.mem ((c.tc : Thread Cert.RefRmsBwdIdeal.nD Cert.RefRmsBwdIdeal.τ).loc Cert.RefRmsBwdIdeal.main_arg3) = m ((c.tc : Thread Cert.RefRmsBwdIdeal.nD Cert.RefRmsBwdIdeal.τ).loc Cert.RefRmsBwdIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_RefAdamInIdeal [hRefAdamInIdeal : Cert.RefAdamInIdeal.Facts] : Prop :=
  ∀ (m : (ℓ : Loc Cert.RefAdamInIdeal.nD Cert.RefAdamInIdeal.τ Cert.RefAdamInIdeal.sig) → Buf (Elt Ideal) ℓ) (g : Dev Cert.RefAdamInIdeal.nD → PrngReg), Pre_RefAdamInIdeal m →
    θ_run (Cert.RefAdamInIdeal.defs (F := Ideal)) (onTc (τ := Cert.RefAdamInIdeal.τ) (Cert.RefAdamInIdeal.main (F := Ideal))) ⟨m, fun _ => 0, g⟩ (fun r => (∀ c : Dev Cert.RefAdamInIdeal.nD,
      r.2.mem ((c.tc : Thread Cert.RefAdamInIdeal.nD Cert.RefAdamInIdeal.τ).loc Cert.RefAdamInIdeal.main_arg0) = m ((c.tc : Thread Cert.RefAdamInIdeal.nD Cert.RefAdamInIdeal.τ).loc Cert.RefAdamInIdeal.main_arg0)
      ∧ r.2.mem ((c.tc : Thread Cert.RefAdamInIdeal.nD Cert.RefAdamInIdeal.τ).loc Cert.RefAdamInIdeal.main_arg1) = m ((c.tc : Thread Cert.RefAdamInIdeal.nD Cert.RefAdamInIdeal.τ).loc Cert.RefAdamInIdeal.main_arg1)
      ∧ r.2.mem ((c.tc : Thread Cert.RefAdamInIdeal.nD Cert.RefAdamInIdeal.τ).loc Cert.RefAdamInIdeal.main_arg2) = m ((c.tc : Thread Cert.RefAdamInIdeal.nD Cert.RefAdamInIdeal.τ).loc Cert.RefAdamInIdeal.main_arg2)
      ∧ r.2.mem ((c.tc : Thread Cert.RefAdamInIdeal.nD Cert.RefAdamInIdeal.τ).loc Cert.RefAdamInIdeal.main_arg3) = m ((c.tc : Thread Cert.RefAdamInIdeal.nD Cert.RefAdamInIdeal.τ).loc Cert.RefAdamInIdeal.main_arg3)
      ∧ r.2.mem ((c.tc : Thread Cert.RefAdamInIdeal.nD Cert.RefAdamInIdeal.τ).loc Cert.RefAdamInIdeal.main_arg4) = m ((c.tc : Thread Cert.RefAdamInIdeal.nD Cert.RefAdamInIdeal.τ).loc Cert.RefAdamInIdeal.main_arg4)
      ∧ r.2.mem ((c.tc : Thread Cert.RefAdamInIdeal.nD Cert.RefAdamInIdeal.τ).loc Cert.RefAdamInIdeal.main_arg5) = m ((c.tc : Thread Cert.RefAdamInIdeal.nD Cert.RefAdamInIdeal.τ).loc Cert.RefAdamInIdeal.main_arg5))
      ∧ r.2.sem = fun _ => 0)

def quiescent_AdamUq [hAdamUq : Cert.AdamUq.Facts] : Prop :=
  ∀ (m : (ℓ : Loc Cert.AdamUq.nD Cert.AdamUq.τ Cert.AdamUq.sig) → Buf (Elt Bits) ℓ) (g : Dev Cert.AdamUq.nD → PrngReg), Pre_AdamUq m →
    θ_run (Cert.AdamUq.defs (F := Bits)) (onTc (τ := Cert.AdamUq.τ) (Cert.AdamUq.main (F := Bits))) ⟨m, fun _ => 0, g⟩ (fun r => (∀ c : Dev Cert.AdamUq.nD,
      r.2.mem ((c.tc : Thread Cert.AdamUq.nD Cert.AdamUq.τ).loc Cert.AdamUq.main_arg0) = m ((c.tc : Thread Cert.AdamUq.nD Cert.AdamUq.τ).loc Cert.AdamUq.main_arg0)
      ∧ r.2.mem ((c.tc : Thread Cert.AdamUq.nD Cert.AdamUq.τ).loc Cert.AdamUq.main_arg1) = m ((c.tc : Thread Cert.AdamUq.nD Cert.AdamUq.τ).loc Cert.AdamUq.main_arg1)
      ∧ r.2.mem ((c.tc : Thread Cert.AdamUq.nD Cert.AdamUq.τ).loc Cert.AdamUq.main_arg2) = m ((c.tc : Thread Cert.AdamUq.nD Cert.AdamUq.τ).loc Cert.AdamUq.main_arg2)
      ∧ r.2.mem ((c.tc : Thread Cert.AdamUq.nD Cert.AdamUq.τ).loc Cert.AdamUq.main_arg3) = m ((c.tc : Thread Cert.AdamUq.nD Cert.AdamUq.τ).loc Cert.AdamUq.main_arg3)
      ∧ r.2.mem ((c.tc : Thread Cert.AdamUq.nD Cert.AdamUq.τ).loc Cert.AdamUq.main_arg4) = m ((c.tc : Thread Cert.AdamUq.nD Cert.AdamUq.τ).loc Cert.AdamUq.main_arg4)
      ∧ r.2.mem ((c.tc : Thread Cert.AdamUq.nD Cert.AdamUq.τ).loc Cert.AdamUq.main_arg5) = m ((c.tc : Thread Cert.AdamUq.nD Cert.AdamUq.τ).loc Cert.AdamUq.main_arg5))
      ∧ r.2.sem = fun _ => 0)

def quiescent_AdamUqIdeal [hAdamUqIdeal : Cert.AdamUqIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg), Pre_AdamUqIdeal m →
    θ_run (Cert.AdamUqIdeal.defs (F := Ideal)) (onTc (τ := Cert.AdamUqIdeal.τ) (Cert.AdamUqIdeal.main (F := Ideal))) ⟨m, fun _ => 0, g⟩ (fun r => (∀ c : Dev Cert.AdamUqIdeal.nD,
      r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
      ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
      ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
      ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3)
      ∧ r.2.mem ((c.tc : Thread Cert.AdamUqIdeal.nD Cert.AdamUqIdeal.τ).loc Cert.AdamUqIdeal.main_arg4) = m ((c.tc : Thread Cert.AdamUqIdeal.nD Cert.AdamUqIdeal.τ).loc Cert.AdamUqIdeal.main_arg4)
      ∧ r.2.mem ((c.tc : Thread Cert.AdamUqIdeal.nD Cert.AdamUqIdeal.τ).loc Cert.AdamUqIdeal.main_arg5) = m ((c.tc : Thread Cert.AdamUqIdeal.nD Cert.AdamUqIdeal.τ).loc Cert.AdamUqIdeal.main_arg5))
      ∧ r.2.sem = fun _ => 0)

def quiescent_RefAdamUqIdeal [hRefAdamUqIdeal : Cert.RefAdamUqIdeal.Facts] : Prop :=
  ∀ (m : (ℓ : Loc Cert.RefAdamUqIdeal.nD Cert.RefAdamUqIdeal.τ Cert.RefAdamUqIdeal.sig) → Buf (Elt Ideal) ℓ) (g : Dev Cert.RefAdamUqIdeal.nD → PrngReg), Pre_RefAdamUqIdeal m →
    θ_run (Cert.RefAdamUqIdeal.defs (F := Ideal)) (onTc (τ := Cert.RefAdamUqIdeal.τ) (Cert.RefAdamUqIdeal.main (F := Ideal))) ⟨m, fun _ => 0, g⟩ (fun r => (∀ c : Dev Cert.RefAdamUqIdeal.nD,
      r.2.mem ((c.tc : Thread Cert.RefAdamUqIdeal.nD Cert.RefAdamUqIdeal.τ).loc Cert.RefAdamUqIdeal.main_arg0) = m ((c.tc : Thread Cert.RefAdamUqIdeal.nD Cert.RefAdamUqIdeal.τ).loc Cert.RefAdamUqIdeal.main_arg0)
      ∧ r.2.mem ((c.tc : Thread Cert.RefAdamUqIdeal.nD Cert.RefAdamUqIdeal.τ).loc Cert.RefAdamUqIdeal.main_arg1) = m ((c.tc : Thread Cert.RefAdamUqIdeal.nD Cert.RefAdamUqIdeal.τ).loc Cert.RefAdamUqIdeal.main_arg1)
      ∧ r.2.mem ((c.tc : Thread Cert.RefAdamUqIdeal.nD Cert.RefAdamUqIdeal.τ).loc Cert.RefAdamUqIdeal.main_arg2) = m ((c.tc : Thread Cert.RefAdamUqIdeal.nD Cert.RefAdamUqIdeal.τ).loc Cert.RefAdamUqIdeal.main_arg2)
      ∧ r.2.mem ((c.tc : Thread Cert.RefAdamUqIdeal.nD Cert.RefAdamUqIdeal.τ).loc Cert.RefAdamUqIdeal.main_arg3) = m ((c.tc : Thread Cert.RefAdamUqIdeal.nD Cert.RefAdamUqIdeal.τ).loc Cert.RefAdamUqIdeal.main_arg3)
      ∧ r.2.mem ((c.tc : Thread Cert.RefAdamUqIdeal.nD Cert.RefAdamUqIdeal.τ).loc Cert.RefAdamUqIdeal.main_arg4) = m ((c.tc : Thread Cert.RefAdamUqIdeal.nD Cert.RefAdamUqIdeal.τ).loc Cert.RefAdamUqIdeal.main_arg4)
      ∧ r.2.mem ((c.tc : Thread Cert.RefAdamUqIdeal.nD Cert.RefAdamUqIdeal.τ).loc Cert.RefAdamUqIdeal.main_arg5) = m ((c.tc : Thread Cert.RefAdamUqIdeal.nD Cert.RefAdamUqIdeal.τ).loc Cert.RefAdamUqIdeal.main_arg5))
      ∧ r.2.sem = fun _ => 0)

def quiescent_AdamUkv [hAdamUkv : Cert.AdamUkv.Facts] : Prop :=
  ∀ (m : (ℓ : Loc Cert.AdamUkv.nD Cert.AdamUkv.τ Cert.AdamUkv.sig) → Buf (Elt Bits) ℓ) (g : Dev Cert.AdamUkv.nD → PrngReg), Pre_AdamUkv m →
    θ_run (Cert.AdamUkv.defs (F := Bits)) (onTc (τ := Cert.AdamUkv.τ) (Cert.AdamUkv.main (F := Bits))) ⟨m, fun _ => 0, g⟩ (fun r => (∀ c : Dev Cert.AdamUkv.nD,
      r.2.mem ((c.tc : Thread Cert.AdamUkv.nD Cert.AdamUkv.τ).loc Cert.AdamUkv.main_arg0) = m ((c.tc : Thread Cert.AdamUkv.nD Cert.AdamUkv.τ).loc Cert.AdamUkv.main_arg0)
      ∧ r.2.mem ((c.tc : Thread Cert.AdamUkv.nD Cert.AdamUkv.τ).loc Cert.AdamUkv.main_arg1) = m ((c.tc : Thread Cert.AdamUkv.nD Cert.AdamUkv.τ).loc Cert.AdamUkv.main_arg1)
      ∧ r.2.mem ((c.tc : Thread Cert.AdamUkv.nD Cert.AdamUkv.τ).loc Cert.AdamUkv.main_arg2) = m ((c.tc : Thread Cert.AdamUkv.nD Cert.AdamUkv.τ).loc Cert.AdamUkv.main_arg2)
      ∧ r.2.mem ((c.tc : Thread Cert.AdamUkv.nD Cert.AdamUkv.τ).loc Cert.AdamUkv.main_arg3) = m ((c.tc : Thread Cert.AdamUkv.nD Cert.AdamUkv.τ).loc Cert.AdamUkv.main_arg3)
      ∧ r.2.mem ((c.tc : Thread Cert.AdamUkv.nD Cert.AdamUkv.τ).loc Cert.AdamUkv.main_arg4) = m ((c.tc : Thread Cert.AdamUkv.nD Cert.AdamUkv.τ).loc Cert.AdamUkv.main_arg4)
      ∧ r.2.mem ((c.tc : Thread Cert.AdamUkv.nD Cert.AdamUkv.τ).loc Cert.AdamUkv.main_arg5) = m ((c.tc : Thread Cert.AdamUkv.nD Cert.AdamUkv.τ).loc Cert.AdamUkv.main_arg5))
      ∧ r.2.sem = fun _ => 0)

def quiescent_AdamUkvIdeal [hAdamUkvIdeal : Cert.AdamUkvIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg), Pre_AdamUkvIdeal m →
    θ_run (Cert.AdamUkvIdeal.defs (F := Ideal)) (onTc (τ := Cert.AdamUkvIdeal.τ) (Cert.AdamUkvIdeal.main (F := Ideal))) ⟨m, fun _ => 0, g⟩ (fun r => (∀ c : Dev Cert.AdamUkvIdeal.nD,
      r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
      ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
      ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
      ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3)
      ∧ r.2.mem ((c.tc : Thread Cert.AdamUkvIdeal.nD Cert.AdamUkvIdeal.τ).loc Cert.AdamUkvIdeal.main_arg4) = m ((c.tc : Thread Cert.AdamUkvIdeal.nD Cert.AdamUkvIdeal.τ).loc Cert.AdamUkvIdeal.main_arg4)
      ∧ r.2.mem ((c.tc : Thread Cert.AdamUkvIdeal.nD Cert.AdamUkvIdeal.τ).loc Cert.AdamUkvIdeal.main_arg5) = m ((c.tc : Thread Cert.AdamUkvIdeal.nD Cert.AdamUkvIdeal.τ).loc Cert.AdamUkvIdeal.main_arg5))
      ∧ r.2.sem = fun _ => 0)

def quiescent_RefAdamUkvIdeal [hRefAdamUkvIdeal : Cert.RefAdamUkvIdeal.Facts] : Prop :=
  ∀ (m : (ℓ : Loc Cert.RefAdamUkvIdeal.nD Cert.RefAdamUkvIdeal.τ Cert.RefAdamUkvIdeal.sig) → Buf (Elt Ideal) ℓ) (g : Dev Cert.RefAdamUkvIdeal.nD → PrngReg), Pre_RefAdamUkvIdeal m →
    θ_run (Cert.RefAdamUkvIdeal.defs (F := Ideal)) (onTc (τ := Cert.RefAdamUkvIdeal.τ) (Cert.RefAdamUkvIdeal.main (F := Ideal))) ⟨m, fun _ => 0, g⟩ (fun r => (∀ c : Dev Cert.RefAdamUkvIdeal.nD,
      r.2.mem ((c.tc : Thread Cert.RefAdamUkvIdeal.nD Cert.RefAdamUkvIdeal.τ).loc Cert.RefAdamUkvIdeal.main_arg0) = m ((c.tc : Thread Cert.RefAdamUkvIdeal.nD Cert.RefAdamUkvIdeal.τ).loc Cert.RefAdamUkvIdeal.main_arg0)
      ∧ r.2.mem ((c.tc : Thread Cert.RefAdamUkvIdeal.nD Cert.RefAdamUkvIdeal.τ).loc Cert.RefAdamUkvIdeal.main_arg1) = m ((c.tc : Thread Cert.RefAdamUkvIdeal.nD Cert.RefAdamUkvIdeal.τ).loc Cert.RefAdamUkvIdeal.main_arg1)
      ∧ r.2.mem ((c.tc : Thread Cert.RefAdamUkvIdeal.nD Cert.RefAdamUkvIdeal.τ).loc Cert.RefAdamUkvIdeal.main_arg2) = m ((c.tc : Thread Cert.RefAdamUkvIdeal.nD Cert.RefAdamUkvIdeal.τ).loc Cert.RefAdamUkvIdeal.main_arg2)
      ∧ r.2.mem ((c.tc : Thread Cert.RefAdamUkvIdeal.nD Cert.RefAdamUkvIdeal.τ).loc Cert.RefAdamUkvIdeal.main_arg3) = m ((c.tc : Thread Cert.RefAdamUkvIdeal.nD Cert.RefAdamUkvIdeal.τ).loc Cert.RefAdamUkvIdeal.main_arg3)
      ∧ r.2.mem ((c.tc : Thread Cert.RefAdamUkvIdeal.nD Cert.RefAdamUkvIdeal.τ).loc Cert.RefAdamUkvIdeal.main_arg4) = m ((c.tc : Thread Cert.RefAdamUkvIdeal.nD Cert.RefAdamUkvIdeal.τ).loc Cert.RefAdamUkvIdeal.main_arg4)
      ∧ r.2.mem ((c.tc : Thread Cert.RefAdamUkvIdeal.nD Cert.RefAdamUkvIdeal.τ).loc Cert.RefAdamUkvIdeal.main_arg5) = m ((c.tc : Thread Cert.RefAdamUkvIdeal.nD Cert.RefAdamUkvIdeal.τ).loc Cert.RefAdamUkvIdeal.main_arg5))
      ∧ r.2.sem = fun _ => 0)

def quiescent_AdamMemKv [hAdamMemKv : Cert.AdamMemKv.Facts] : Prop :=
  ∀ (m : (ℓ : Loc Cert.AdamMemKv.nD Cert.AdamMemKv.τ Cert.AdamMemKv.sig) → Buf (Elt Bits) ℓ) (g : Dev Cert.AdamMemKv.nD → PrngReg), Pre_AdamMemKv m →
    θ_run (Cert.AdamMemKv.defs (F := Bits)) (onTc (τ := Cert.AdamMemKv.τ) (Cert.AdamMemKv.main (F := Bits))) ⟨m, fun _ => 0, g⟩ (fun r => (∀ c : Dev Cert.AdamMemKv.nD,
      r.2.mem ((c.tc : Thread Cert.AdamMemKv.nD Cert.AdamMemKv.τ).loc Cert.AdamMemKv.main_arg0) = m ((c.tc : Thread Cert.AdamMemKv.nD Cert.AdamMemKv.τ).loc Cert.AdamMemKv.main_arg0)
      ∧ r.2.mem ((c.tc : Thread Cert.AdamMemKv.nD Cert.AdamMemKv.τ).loc Cert.AdamMemKv.main_arg1) = m ((c.tc : Thread Cert.AdamMemKv.nD Cert.AdamMemKv.τ).loc Cert.AdamMemKv.main_arg1)
      ∧ r.2.mem ((c.tc : Thread Cert.AdamMemKv.nD Cert.AdamMemKv.τ).loc Cert.AdamMemKv.main_arg2) = m ((c.tc : Thread Cert.AdamMemKv.nD Cert.AdamMemKv.τ).loc Cert.AdamMemKv.main_arg2)
      ∧ r.2.mem ((c.tc : Thread Cert.AdamMemKv.nD Cert.AdamMemKv.τ).loc Cert.AdamMemKv.main_arg3) = m ((c.tc : Thread Cert.AdamMemKv.nD Cert.AdamMemKv.τ).loc Cert.AdamMemKv.main_arg3)
      ∧ r.2.mem ((c.tc : Thread Cert.AdamMemKv.nD Cert.AdamMemKv.τ).loc Cert.AdamMemKv.main_arg4) = m ((c.tc : Thread Cert.AdamMemKv.nD Cert.AdamMemKv.τ).loc Cert.AdamMemKv.main_arg4)
      ∧ r.2.mem ((c.tc : Thread Cert.AdamMemKv.nD Cert.AdamMemKv.τ).loc Cert.AdamMemKv.main_arg5) = m ((c.tc : Thread Cert.AdamMemKv.nD Cert.AdamMemKv.τ).loc Cert.AdamMemKv.main_arg5))
      ∧ r.2.sem = fun _ => 0)

def quiescent_AdamMemKvIdeal [hAdamMemKvIdeal : Cert.AdamMemKvIdeal.Facts] : Prop :=
  ∀ (m : (ℓ : Loc Cert.AdamMemKvIdeal.nD Cert.AdamMemKvIdeal.τ Cert.AdamMemKvIdeal.sig) → Buf (Elt Ideal) ℓ) (g : Dev Cert.AdamMemKvIdeal.nD → PrngReg), Pre_AdamMemKvIdeal m →
    θ_run (Cert.AdamMemKvIdeal.defs (F := Ideal)) (onTc (τ := Cert.AdamMemKvIdeal.τ) (Cert.AdamMemKvIdeal.main (F := Ideal))) ⟨m, fun _ => 0, g⟩ (fun r => (∀ c : Dev Cert.AdamMemKvIdeal.nD,
      r.2.mem ((c.tc : Thread Cert.AdamMemKvIdeal.nD Cert.AdamMemKvIdeal.τ).loc Cert.AdamMemKvIdeal.main_arg0) = m ((c.tc : Thread Cert.AdamMemKvIdeal.nD Cert.AdamMemKvIdeal.τ).loc Cert.AdamMemKvIdeal.main_arg0)
      ∧ r.2.mem ((c.tc : Thread Cert.AdamMemKvIdeal.nD Cert.AdamMemKvIdeal.τ).loc Cert.AdamMemKvIdeal.main_arg1) = m ((c.tc : Thread Cert.AdamMemKvIdeal.nD Cert.AdamMemKvIdeal.τ).loc Cert.AdamMemKvIdeal.main_arg1)
      ∧ r.2.mem ((c.tc : Thread Cert.AdamMemKvIdeal.nD Cert.AdamMemKvIdeal.τ).loc Cert.AdamMemKvIdeal.main_arg2) = m ((c.tc : Thread Cert.AdamMemKvIdeal.nD Cert.AdamMemKvIdeal.τ).loc Cert.AdamMemKvIdeal.main_arg2)
      ∧ r.2.mem ((c.tc : Thread Cert.AdamMemKvIdeal.nD Cert.AdamMemKvIdeal.τ).loc Cert.AdamMemKvIdeal.main_arg3) = m ((c.tc : Thread Cert.AdamMemKvIdeal.nD Cert.AdamMemKvIdeal.τ).loc Cert.AdamMemKvIdeal.main_arg3)
      ∧ r.2.mem ((c.tc : Thread Cert.AdamMemKvIdeal.nD Cert.AdamMemKvIdeal.τ).loc Cert.AdamMemKvIdeal.main_arg4) = m ((c.tc : Thread Cert.AdamMemKvIdeal.nD Cert.AdamMemKvIdeal.τ).loc Cert.AdamMemKvIdeal.main_arg4)
      ∧ r.2.mem ((c.tc : Thread Cert.AdamMemKvIdeal.nD Cert.AdamMemKvIdeal.τ).loc Cert.AdamMemKvIdeal.main_arg5) = m ((c.tc : Thread Cert.AdamMemKvIdeal.nD Cert.AdamMemKvIdeal.τ).loc Cert.AdamMemKvIdeal.main_arg5))
      ∧ r.2.sem = fun _ => 0)

def quiescent_RefAdamMemKvIdeal [hRefAdamMemKvIdeal : Cert.RefAdamMemKvIdeal.Facts] : Prop :=
  ∀ (m : (ℓ : Loc Cert.RefAdamMemKvIdeal.nD Cert.RefAdamMemKvIdeal.τ Cert.RefAdamMemKvIdeal.sig) → Buf (Elt Ideal) ℓ) (g : Dev Cert.RefAdamMemKvIdeal.nD → PrngReg), Pre_RefAdamMemKvIdeal m →
    θ_run (Cert.RefAdamMemKvIdeal.defs (F := Ideal)) (onTc (τ := Cert.RefAdamMemKvIdeal.τ) (Cert.RefAdamMemKvIdeal.main (F := Ideal))) ⟨m, fun _ => 0, g⟩ (fun r => (∀ c : Dev Cert.RefAdamMemKvIdeal.nD,
      r.2.mem ((c.tc : Thread Cert.RefAdamMemKvIdeal.nD Cert.RefAdamMemKvIdeal.τ).loc Cert.RefAdamMemKvIdeal.main_arg0) = m ((c.tc : Thread Cert.RefAdamMemKvIdeal.nD Cert.RefAdamMemKvIdeal.τ).loc Cert.RefAdamMemKvIdeal.main_arg0)
      ∧ r.2.mem ((c.tc : Thread Cert.RefAdamMemKvIdeal.nD Cert.RefAdamMemKvIdeal.τ).loc Cert.RefAdamMemKvIdeal.main_arg1) = m ((c.tc : Thread Cert.RefAdamMemKvIdeal.nD Cert.RefAdamMemKvIdeal.τ).loc Cert.RefAdamMemKvIdeal.main_arg1)
      ∧ r.2.mem ((c.tc : Thread Cert.RefAdamMemKvIdeal.nD Cert.RefAdamMemKvIdeal.τ).loc Cert.RefAdamMemKvIdeal.main_arg2) = m ((c.tc : Thread Cert.RefAdamMemKvIdeal.nD Cert.RefAdamMemKvIdeal.τ).loc Cert.RefAdamMemKvIdeal.main_arg2)
      ∧ r.2.mem ((c.tc : Thread Cert.RefAdamMemKvIdeal.nD Cert.RefAdamMemKvIdeal.τ).loc Cert.RefAdamMemKvIdeal.main_arg3) = m ((c.tc : Thread Cert.RefAdamMemKvIdeal.nD Cert.RefAdamMemKvIdeal.τ).loc Cert.RefAdamMemKvIdeal.main_arg3)
      ∧ r.2.mem ((c.tc : Thread Cert.RefAdamMemKvIdeal.nD Cert.RefAdamMemKvIdeal.τ).loc Cert.RefAdamMemKvIdeal.main_arg4) = m ((c.tc : Thread Cert.RefAdamMemKvIdeal.nD Cert.RefAdamMemKvIdeal.τ).loc Cert.RefAdamMemKvIdeal.main_arg4)
      ∧ r.2.mem ((c.tc : Thread Cert.RefAdamMemKvIdeal.nD Cert.RefAdamMemKvIdeal.τ).loc Cert.RefAdamMemKvIdeal.main_arg5) = m ((c.tc : Thread Cert.RefAdamMemKvIdeal.nD Cert.RefAdamMemKvIdeal.τ).loc Cert.RefAdamMemKvIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_RefAdamOutIdeal [hRefAdamOutIdeal : Cert.RefAdamOutIdeal.Facts] : Prop :=
  ∀ (m : (ℓ : Loc Cert.RefAdamOutIdeal.nD Cert.RefAdamOutIdeal.τ Cert.RefAdamOutIdeal.sig) → Buf (Elt Ideal) ℓ) (g : Dev Cert.RefAdamOutIdeal.nD → PrngReg), Pre_RefAdamOutIdeal m →
    θ_run (Cert.RefAdamOutIdeal.defs (F := Ideal)) (onTc (τ := Cert.RefAdamOutIdeal.τ) (Cert.RefAdamOutIdeal.main (F := Ideal))) ⟨m, fun _ => 0, g⟩ (fun r => (∀ c : Dev Cert.RefAdamOutIdeal.nD,
      r.2.mem ((c.tc : Thread Cert.RefAdamOutIdeal.nD Cert.RefAdamOutIdeal.τ).loc Cert.RefAdamOutIdeal.main_arg0) = m ((c.tc : Thread Cert.RefAdamOutIdeal.nD Cert.RefAdamOutIdeal.τ).loc Cert.RefAdamOutIdeal.main_arg0)
      ∧ r.2.mem ((c.tc : Thread Cert.RefAdamOutIdeal.nD Cert.RefAdamOutIdeal.τ).loc Cert.RefAdamOutIdeal.main_arg1) = m ((c.tc : Thread Cert.RefAdamOutIdeal.nD Cert.RefAdamOutIdeal.τ).loc Cert.RefAdamOutIdeal.main_arg1)
      ∧ r.2.mem ((c.tc : Thread Cert.RefAdamOutIdeal.nD Cert.RefAdamOutIdeal.τ).loc Cert.RefAdamOutIdeal.main_arg2) = m ((c.tc : Thread Cert.RefAdamOutIdeal.nD Cert.RefAdamOutIdeal.τ).loc Cert.RefAdamOutIdeal.main_arg2)
      ∧ r.2.mem ((c.tc : Thread Cert.RefAdamOutIdeal.nD Cert.RefAdamOutIdeal.τ).loc Cert.RefAdamOutIdeal.main_arg3) = m ((c.tc : Thread Cert.RefAdamOutIdeal.nD Cert.RefAdamOutIdeal.τ).loc Cert.RefAdamOutIdeal.main_arg3)
      ∧ r.2.mem ((c.tc : Thread Cert.RefAdamOutIdeal.nD Cert.RefAdamOutIdeal.τ).loc Cert.RefAdamOutIdeal.main_arg4) = m ((c.tc : Thread Cert.RefAdamOutIdeal.nD Cert.RefAdamOutIdeal.τ).loc Cert.RefAdamOutIdeal.main_arg4)
      ∧ r.2.mem ((c.tc : Thread Cert.RefAdamOutIdeal.nD Cert.RefAdamOutIdeal.τ).loc Cert.RefAdamOutIdeal.main_arg5) = m ((c.tc : Thread Cert.RefAdamOutIdeal.nD Cert.RefAdamOutIdeal.τ).loc Cert.RefAdamOutIdeal.main_arg5))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3)
      ∧ r.2.mem ((c.tc : Thread Cert.AdamGate.nD Cert.AdamGate.τ).loc Cert.AdamGate.main_arg4) = m ((c.tc : Thread Cert.AdamGate.nD Cert.AdamGate.τ).loc Cert.AdamGate.main_arg4)
      ∧ r.2.mem ((c.tc : Thread Cert.AdamGate.nD Cert.AdamGate.τ).loc Cert.AdamGate.main_arg5) = m ((c.tc : Thread Cert.AdamGate.nD Cert.AdamGate.τ).loc Cert.AdamGate.main_arg5))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
      ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4)
      ∧ r.2.mem ((c.tc : Thread Cert.AdamGateIdeal.nD Cert.AdamGateIdeal.τ).loc Cert.AdamGateIdeal.main_arg5) = m ((c.tc : Thread Cert.AdamGateIdeal.nD Cert.AdamGateIdeal.τ).loc Cert.AdamGateIdeal.main_arg5))
      ∧ r.2.sem = fun _ => 0)

def quiescent_RefAdamGateIdeal [hRefAdamGateIdeal : Cert.RefAdamGateIdeal.Facts] : Prop :=
  ∀ (m : (ℓ : Loc Cert.RefAdamGateIdeal.nD Cert.RefAdamGateIdeal.τ Cert.RefAdamGateIdeal.sig) → Buf (Elt Ideal) ℓ) (g : Dev Cert.RefAdamGateIdeal.nD → PrngReg), Pre_RefAdamGateIdeal m →
    θ_run (Cert.RefAdamGateIdeal.defs (F := Ideal)) (onTc (τ := Cert.RefAdamGateIdeal.τ) (Cert.RefAdamGateIdeal.main (F := Ideal))) ⟨m, fun _ => 0, g⟩ (fun r => (∀ c : Dev Cert.RefAdamGateIdeal.nD,
      r.2.mem ((c.tc : Thread Cert.RefAdamGateIdeal.nD Cert.RefAdamGateIdeal.τ).loc Cert.RefAdamGateIdeal.main_arg0) = m ((c.tc : Thread Cert.RefAdamGateIdeal.nD Cert.RefAdamGateIdeal.τ).loc Cert.RefAdamGateIdeal.main_arg0)
      ∧ r.2.mem ((c.tc : Thread Cert.RefAdamGateIdeal.nD Cert.RefAdamGateIdeal.τ).loc Cert.RefAdamGateIdeal.main_arg1) = m ((c.tc : Thread Cert.RefAdamGateIdeal.nD Cert.RefAdamGateIdeal.τ).loc Cert.RefAdamGateIdeal.main_arg1)
      ∧ r.2.mem ((c.tc : Thread Cert.RefAdamGateIdeal.nD Cert.RefAdamGateIdeal.τ).loc Cert.RefAdamGateIdeal.main_arg2) = m ((c.tc : Thread Cert.RefAdamGateIdeal.nD Cert.RefAdamGateIdeal.τ).loc Cert.RefAdamGateIdeal.main_arg2)
      ∧ r.2.mem ((c.tc : Thread Cert.RefAdamGateIdeal.nD Cert.RefAdamGateIdeal.τ).loc Cert.RefAdamGateIdeal.main_arg3) = m ((c.tc : Thread Cert.RefAdamGateIdeal.nD Cert.RefAdamGateIdeal.τ).loc Cert.RefAdamGateIdeal.main_arg3)
      ∧ r.2.mem ((c.tc : Thread Cert.RefAdamGateIdeal.nD Cert.RefAdamGateIdeal.τ).loc Cert.RefAdamGateIdeal.main_arg4) = m ((c.tc : Thread Cert.RefAdamGateIdeal.nD Cert.RefAdamGateIdeal.τ).loc Cert.RefAdamGateIdeal.main_arg4)
      ∧ r.2.mem ((c.tc : Thread Cert.RefAdamGateIdeal.nD Cert.RefAdamGateIdeal.τ).loc Cert.RefAdamGateIdeal.main_arg5) = m ((c.tc : Thread Cert.RefAdamGateIdeal.nD Cert.RefAdamGateIdeal.τ).loc Cert.RefAdamGateIdeal.main_arg5))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_RefAdamDownIdeal [hRefAdamDownIdeal : Cert.RefAdamDownIdeal.Facts] : Prop :=
  ∀ (m : (ℓ : Loc Cert.RefAdamDownIdeal.nD Cert.RefAdamDownIdeal.τ Cert.RefAdamDownIdeal.sig) → Buf (Elt Ideal) ℓ) (g : Dev Cert.RefAdamDownIdeal.nD → PrngReg), Pre_RefAdamDownIdeal m →
    θ_run (Cert.RefAdamDownIdeal.defs (F := Ideal)) (onTc (τ := Cert.RefAdamDownIdeal.τ) (Cert.RefAdamDownIdeal.main (F := Ideal))) ⟨m, fun _ => 0, g⟩ (fun r => (∀ c : Dev Cert.RefAdamDownIdeal.nD,
      r.2.mem ((c.tc : Thread Cert.RefAdamDownIdeal.nD Cert.RefAdamDownIdeal.τ).loc Cert.RefAdamDownIdeal.main_arg0) = m ((c.tc : Thread Cert.RefAdamDownIdeal.nD Cert.RefAdamDownIdeal.τ).loc Cert.RefAdamDownIdeal.main_arg0)
      ∧ r.2.mem ((c.tc : Thread Cert.RefAdamDownIdeal.nD Cert.RefAdamDownIdeal.τ).loc Cert.RefAdamDownIdeal.main_arg1) = m ((c.tc : Thread Cert.RefAdamDownIdeal.nD Cert.RefAdamDownIdeal.τ).loc Cert.RefAdamDownIdeal.main_arg1)
      ∧ r.2.mem ((c.tc : Thread Cert.RefAdamDownIdeal.nD Cert.RefAdamDownIdeal.τ).loc Cert.RefAdamDownIdeal.main_arg2) = m ((c.tc : Thread Cert.RefAdamDownIdeal.nD Cert.RefAdamDownIdeal.τ).loc Cert.RefAdamDownIdeal.main_arg2)
      ∧ r.2.mem ((c.tc : Thread Cert.RefAdamDownIdeal.nD Cert.RefAdamDownIdeal.τ).loc Cert.RefAdamDownIdeal.main_arg3) = m ((c.tc : Thread Cert.RefAdamDownIdeal.nD Cert.RefAdamDownIdeal.τ).loc Cert.RefAdamDownIdeal.main_arg3)
      ∧ r.2.mem ((c.tc : Thread Cert.RefAdamDownIdeal.nD Cert.RefAdamDownIdeal.τ).loc Cert.RefAdamDownIdeal.main_arg4) = m ((c.tc : Thread Cert.RefAdamDownIdeal.nD Cert.RefAdamDownIdeal.τ).loc Cert.RefAdamDownIdeal.main_arg4)
      ∧ r.2.mem ((c.tc : Thread Cert.RefAdamDownIdeal.nD Cert.RefAdamDownIdeal.τ).loc Cert.RefAdamDownIdeal.main_arg5) = m ((c.tc : Thread Cert.RefAdamDownIdeal.nD Cert.RefAdamDownIdeal.τ).loc Cert.RefAdamDownIdeal.main_arg5))
      ∧ r.2.sem = fun _ => 0)

def quiescent_MemKvBwd [hMemKvBwd : Cert.MemKvBwd.Facts] : Prop :=
  ∀ (m : (ℓ : Loc Cert.MemKvBwd.nD Cert.MemKvBwd.τ Cert.MemKvBwd.sig) → Buf (Elt Bits) ℓ) (g : Dev Cert.MemKvBwd.nD → PrngReg), Pre_MemKvBwd m →
    θ_run (Cert.MemKvBwd.defs (F := Bits)) (onTc (τ := Cert.MemKvBwd.τ) (Cert.MemKvBwd.main (F := Bits))) ⟨m, fun _ => 0, g⟩ (fun r => (∀ c : Dev Cert.MemKvBwd.nD,
      r.2.mem ((c.tc : Thread Cert.MemKvBwd.nD Cert.MemKvBwd.τ).loc Cert.MemKvBwd.main_arg0) = m ((c.tc : Thread Cert.MemKvBwd.nD Cert.MemKvBwd.τ).loc Cert.MemKvBwd.main_arg0)
      ∧ r.2.mem ((c.tc : Thread Cert.MemKvBwd.nD Cert.MemKvBwd.τ).loc Cert.MemKvBwd.main_arg1) = m ((c.tc : Thread Cert.MemKvBwd.nD Cert.MemKvBwd.τ).loc Cert.MemKvBwd.main_arg1)
      ∧ r.2.mem ((c.tc : Thread Cert.MemKvBwd.nD Cert.MemKvBwd.τ).loc Cert.MemKvBwd.main_arg2) = m ((c.tc : Thread Cert.MemKvBwd.nD Cert.MemKvBwd.τ).loc Cert.MemKvBwd.main_arg2)
      ∧ r.2.mem ((c.tc : Thread Cert.MemKvBwd.nD Cert.MemKvBwd.τ).loc Cert.MemKvBwd.main_arg3) = m ((c.tc : Thread Cert.MemKvBwd.nD Cert.MemKvBwd.τ).loc Cert.MemKvBwd.main_arg3)
      ∧ r.2.mem ((c.tc : Thread Cert.MemKvBwd.nD Cert.MemKvBwd.τ).loc Cert.MemKvBwd.main_arg4) = m ((c.tc : Thread Cert.MemKvBwd.nD Cert.MemKvBwd.τ).loc Cert.MemKvBwd.main_arg4)
      ∧ r.2.mem ((c.tc : Thread Cert.MemKvBwd.nD Cert.MemKvBwd.τ).loc Cert.MemKvBwd.main_arg5) = m ((c.tc : Thread Cert.MemKvBwd.nD Cert.MemKvBwd.τ).loc Cert.MemKvBwd.main_arg5))
      ∧ r.2.sem = fun _ => 0)

def quiescent_MemKvBwdIdeal [hMemKvBwdIdeal : Cert.MemKvBwdIdeal.Facts] : Prop :=
  ∀ (m : (ℓ : Loc Cert.MemKvBwdIdeal.nD Cert.MemKvBwdIdeal.τ Cert.MemKvBwdIdeal.sig) → Buf (Elt Ideal) ℓ) (g : Dev Cert.MemKvBwdIdeal.nD → PrngReg), Pre_MemKvBwdIdeal m →
    θ_run (Cert.MemKvBwdIdeal.defs (F := Ideal)) (onTc (τ := Cert.MemKvBwdIdeal.τ) (Cert.MemKvBwdIdeal.main (F := Ideal))) ⟨m, fun _ => 0, g⟩ (fun r => (∀ c : Dev Cert.MemKvBwdIdeal.nD,
      r.2.mem ((c.tc : Thread Cert.MemKvBwdIdeal.nD Cert.MemKvBwdIdeal.τ).loc Cert.MemKvBwdIdeal.main_arg0) = m ((c.tc : Thread Cert.MemKvBwdIdeal.nD Cert.MemKvBwdIdeal.τ).loc Cert.MemKvBwdIdeal.main_arg0)
      ∧ r.2.mem ((c.tc : Thread Cert.MemKvBwdIdeal.nD Cert.MemKvBwdIdeal.τ).loc Cert.MemKvBwdIdeal.main_arg1) = m ((c.tc : Thread Cert.MemKvBwdIdeal.nD Cert.MemKvBwdIdeal.τ).loc Cert.MemKvBwdIdeal.main_arg1)
      ∧ r.2.mem ((c.tc : Thread Cert.MemKvBwdIdeal.nD Cert.MemKvBwdIdeal.τ).loc Cert.MemKvBwdIdeal.main_arg2) = m ((c.tc : Thread Cert.MemKvBwdIdeal.nD Cert.MemKvBwdIdeal.τ).loc Cert.MemKvBwdIdeal.main_arg2)
      ∧ r.2.mem ((c.tc : Thread Cert.MemKvBwdIdeal.nD Cert.MemKvBwdIdeal.τ).loc Cert.MemKvBwdIdeal.main_arg3) = m ((c.tc : Thread Cert.MemKvBwdIdeal.nD Cert.MemKvBwdIdeal.τ).loc Cert.MemKvBwdIdeal.main_arg3)
      ∧ r.2.mem ((c.tc : Thread Cert.MemKvBwdIdeal.nD Cert.MemKvBwdIdeal.τ).loc Cert.MemKvBwdIdeal.main_arg4) = m ((c.tc : Thread Cert.MemKvBwdIdeal.nD Cert.MemKvBwdIdeal.τ).loc Cert.MemKvBwdIdeal.main_arg4)
      ∧ r.2.mem ((c.tc : Thread Cert.MemKvBwdIdeal.nD Cert.MemKvBwdIdeal.τ).loc Cert.MemKvBwdIdeal.main_arg5) = m ((c.tc : Thread Cert.MemKvBwdIdeal.nD Cert.MemKvBwdIdeal.τ).loc Cert.MemKvBwdIdeal.main_arg5))
      ∧ r.2.sem = fun _ => 0)

def quiescent_RefMemKvBwdIdeal [hRefMemKvBwdIdeal : Cert.RefMemKvBwdIdeal.Facts] : Prop :=
  ∀ (m : (ℓ : Loc Cert.RefMemKvBwdIdeal.nD Cert.RefMemKvBwdIdeal.τ Cert.RefMemKvBwdIdeal.sig) → Buf (Elt Ideal) ℓ) (g : Dev Cert.RefMemKvBwdIdeal.nD → PrngReg), Pre_RefMemKvBwdIdeal m →
    θ_run (Cert.RefMemKvBwdIdeal.defs (F := Ideal)) (onTc (τ := Cert.RefMemKvBwdIdeal.τ) (Cert.RefMemKvBwdIdeal.main (F := Ideal))) ⟨m, fun _ => 0, g⟩ (fun r => (∀ c : Dev Cert.RefMemKvBwdIdeal.nD,
      r.2.mem ((c.tc : Thread Cert.RefMemKvBwdIdeal.nD Cert.RefMemKvBwdIdeal.τ).loc Cert.RefMemKvBwdIdeal.main_arg0) = m ((c.tc : Thread Cert.RefMemKvBwdIdeal.nD Cert.RefMemKvBwdIdeal.τ).loc Cert.RefMemKvBwdIdeal.main_arg0)
      ∧ r.2.mem ((c.tc : Thread Cert.RefMemKvBwdIdeal.nD Cert.RefMemKvBwdIdeal.τ).loc Cert.RefMemKvBwdIdeal.main_arg1) = m ((c.tc : Thread Cert.RefMemKvBwdIdeal.nD Cert.RefMemKvBwdIdeal.τ).loc Cert.RefMemKvBwdIdeal.main_arg1)
      ∧ r.2.mem ((c.tc : Thread Cert.RefMemKvBwdIdeal.nD Cert.RefMemKvBwdIdeal.τ).loc Cert.RefMemKvBwdIdeal.main_arg2) = m ((c.tc : Thread Cert.RefMemKvBwdIdeal.nD Cert.RefMemKvBwdIdeal.τ).loc Cert.RefMemKvBwdIdeal.main_arg2)
      ∧ r.2.mem ((c.tc : Thread Cert.RefMemKvBwdIdeal.nD Cert.RefMemKvBwdIdeal.τ).loc Cert.RefMemKvBwdIdeal.main_arg3) = m ((c.tc : Thread Cert.RefMemKvBwdIdeal.nD Cert.RefMemKvBwdIdeal.τ).loc Cert.RefMemKvBwdIdeal.main_arg3)
      ∧ r.2.mem ((c.tc : Thread Cert.RefMemKvBwdIdeal.nD Cert.RefMemKvBwdIdeal.τ).loc Cert.RefMemKvBwdIdeal.main_arg4) = m ((c.tc : Thread Cert.RefMemKvBwdIdeal.nD Cert.RefMemKvBwdIdeal.τ).loc Cert.RefMemKvBwdIdeal.main_arg4)
      ∧ r.2.mem ((c.tc : Thread Cert.RefMemKvBwdIdeal.nD Cert.RefMemKvBwdIdeal.τ).loc Cert.RefMemKvBwdIdeal.main_arg5) = m ((c.tc : Thread Cert.RefMemKvBwdIdeal.nD Cert.RefMemKvBwdIdeal.τ).loc Cert.RefMemKvBwdIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_RefMemKvIdeal [hRefMemKvIdeal : Cert.RefMemKvIdeal.Facts] : Prop :=
  ∀ (m : (ℓ : Loc Cert.RefMemKvIdeal.nD Cert.RefMemKvIdeal.τ Cert.RefMemKvIdeal.sig) → Buf (Elt Ideal) ℓ) (g : Dev Cert.RefMemKvIdeal.nD → PrngReg), Pre_RefMemKvIdeal m →
    θ_run (Cert.RefMemKvIdeal.defs (F := Ideal)) (onTc (τ := Cert.RefMemKvIdeal.τ) (Cert.RefMemKvIdeal.main (F := Ideal))) ⟨m, fun _ => 0, g⟩ (fun r => (∀ c : Dev Cert.RefMemKvIdeal.nD,
      r.2.mem ((c.tc : Thread Cert.RefMemKvIdeal.nD Cert.RefMemKvIdeal.τ).loc Cert.RefMemKvIdeal.main_arg0) = m ((c.tc : Thread Cert.RefMemKvIdeal.nD Cert.RefMemKvIdeal.τ).loc Cert.RefMemKvIdeal.main_arg0)
      ∧ r.2.mem ((c.tc : Thread Cert.RefMemKvIdeal.nD Cert.RefMemKvIdeal.τ).loc Cert.RefMemKvIdeal.main_arg1) = m ((c.tc : Thread Cert.RefMemKvIdeal.nD Cert.RefMemKvIdeal.τ).loc Cert.RefMemKvIdeal.main_arg1)
      ∧ r.2.mem ((c.tc : Thread Cert.RefMemKvIdeal.nD Cert.RefMemKvIdeal.τ).loc Cert.RefMemKvIdeal.main_arg2) = m ((c.tc : Thread Cert.RefMemKvIdeal.nD Cert.RefMemKvIdeal.τ).loc Cert.RefMemKvIdeal.main_arg2)
      ∧ r.2.mem ((c.tc : Thread Cert.RefMemKvIdeal.nD Cert.RefMemKvIdeal.τ).loc Cert.RefMemKvIdeal.main_arg3) = m ((c.tc : Thread Cert.RefMemKvIdeal.nD Cert.RefMemKvIdeal.τ).loc Cert.RefMemKvIdeal.main_arg3))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ r.2.sem = fun _ => 0)

def quiescent_MemAttnIdeal_pre_finite_fwd [hMemAttnIdeal : Cert.MemAttnIdeal.Facts] [hPre_finite_fwd : Cert.Pre_finite_fwd.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_fwd m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ r.2.sem = fun _ => 0)

def quiescent_RefMemAttnIdeal [hRefMemAttnIdeal : Cert.RefMemAttnIdeal.Facts] [hPre_finite_fwd : Cert.Pre_finite_fwd.Facts] : Prop :=
  ∀ (m : (ℓ : Loc Cert.RefMemAttnIdeal.nD Cert.RefMemAttnIdeal.τ Cert.RefMemAttnIdeal.sig) → Buf (Elt Ideal) ℓ) (g : Dev Cert.RefMemAttnIdeal.nD → PrngReg), Pre_RefMemAttnIdeal m →
    θ_run (Cert.RefMemAttnIdeal.defs (F := Ideal)) (onTc (τ := Cert.RefMemAttnIdeal.τ) (Cert.RefMemAttnIdeal.main (F := Ideal))) ⟨m, fun _ => 0, g⟩ (fun r => (∀ c : Dev Cert.RefMemAttnIdeal.nD,
      r.2.mem ((c.tc : Thread Cert.RefMemAttnIdeal.nD Cert.RefMemAttnIdeal.τ).loc Cert.RefMemAttnIdeal.main_arg0) = m ((c.tc : Thread Cert.RefMemAttnIdeal.nD Cert.RefMemAttnIdeal.τ).loc Cert.RefMemAttnIdeal.main_arg0)
      ∧ r.2.mem ((c.tc : Thread Cert.RefMemAttnIdeal.nD Cert.RefMemAttnIdeal.τ).loc Cert.RefMemAttnIdeal.main_arg1) = m ((c.tc : Thread Cert.RefMemAttnIdeal.nD Cert.RefMemAttnIdeal.τ).loc Cert.RefMemAttnIdeal.main_arg1)
      ∧ r.2.mem ((c.tc : Thread Cert.RefMemAttnIdeal.nD Cert.RefMemAttnIdeal.τ).loc Cert.RefMemAttnIdeal.main_arg2) = m ((c.tc : Thread Cert.RefMemAttnIdeal.nD Cert.RefMemAttnIdeal.τ).loc Cert.RefMemAttnIdeal.main_arg2)
      ∧ r.2.mem ((c.tc : Thread Cert.RefMemAttnIdeal.nD Cert.RefMemAttnIdeal.τ).loc Cert.RefMemAttnIdeal.main_arg3) = m ((c.tc : Thread Cert.RefMemAttnIdeal.nD Cert.RefMemAttnIdeal.τ).loc Cert.RefMemAttnIdeal.main_arg3))
      ∧ r.2.sem = fun _ => 0)

def quiescent_RefMemAttnIdeal_pre_none [hRefMemAttnIdeal : Cert.RefMemAttnIdeal.Facts] : Prop :=
  ∀ (m : (ℓ : Loc Cert.RefMemAttnIdeal.nD Cert.RefMemAttnIdeal.τ Cert.RefMemAttnIdeal.sig) → Buf (Elt Ideal) ℓ) (g : Dev Cert.RefMemAttnIdeal.nD → PrngReg), Pre_RefMemAttnIdeal_none m →
    θ_run (Cert.RefMemAttnIdeal.defs (F := Ideal)) (onTc (τ := Cert.RefMemAttnIdeal.τ) (Cert.RefMemAttnIdeal.main (F := Ideal))) ⟨m, fun _ => 0, g⟩ (fun r => (∀ c : Dev Cert.RefMemAttnIdeal.nD,
      r.2.mem ((c.tc : Thread Cert.RefMemAttnIdeal.nD Cert.RefMemAttnIdeal.τ).loc Cert.RefMemAttnIdeal.main_arg0) = m ((c.tc : Thread Cert.RefMemAttnIdeal.nD Cert.RefMemAttnIdeal.τ).loc Cert.RefMemAttnIdeal.main_arg0)
      ∧ r.2.mem ((c.tc : Thread Cert.RefMemAttnIdeal.nD Cert.RefMemAttnIdeal.τ).loc Cert.RefMemAttnIdeal.main_arg1) = m ((c.tc : Thread Cert.RefMemAttnIdeal.nD Cert.RefMemAttnIdeal.τ).loc Cert.RefMemAttnIdeal.main_arg1)
      ∧ r.2.mem ((c.tc : Thread Cert.RefMemAttnIdeal.nD Cert.RefMemAttnIdeal.τ).loc Cert.RefMemAttnIdeal.main_arg2) = m ((c.tc : Thread Cert.RefMemAttnIdeal.nD Cert.RefMemAttnIdeal.τ).loc Cert.RefMemAttnIdeal.main_arg2)
      ∧ r.2.mem ((c.tc : Thread Cert.RefMemAttnIdeal.nD Cert.RefMemAttnIdeal.τ).loc Cert.RefMemAttnIdeal.main_arg3) = m ((c.tc : Thread Cert.RefMemAttnIdeal.nD Cert.RefMemAttnIdeal.τ).loc Cert.RefMemAttnIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RefRmsFwdIdeal [hRefRmsFwdIdeal : Cert.RefRmsFwdIdeal.Facts] : Prop :=
  ∀ (m : (ℓ : Loc Cert.RefRmsFwdIdeal.nD Cert.RefRmsFwdIdeal.τ Cert.RefRmsFwdIdeal.sig) → Buf (Elt Ideal) ℓ) (g : Dev Cert.RefRmsFwdIdeal.nD → PrngReg), Pre_RefRmsFwdIdeal m →
    θ_run (Cert.RefRmsFwdIdeal.defs (F := Ideal)) (onTc (τ := Cert.RefRmsFwdIdeal.τ) (Cert.RefRmsFwdIdeal.main (F := Ideal))) ⟨m, fun _ => 0, g⟩ (fun r => (∀ c : Dev Cert.RefRmsFwdIdeal.nD,
      r.2.mem ((c.tc : Thread Cert.RefRmsFwdIdeal.nD Cert.RefRmsFwdIdeal.τ).loc Cert.RefRmsFwdIdeal.main_arg0) = m ((c.tc : Thread Cert.RefRmsFwdIdeal.nD Cert.RefRmsFwdIdeal.τ).loc Cert.RefRmsFwdIdeal.main_arg0)
      ∧ r.2.mem ((c.tc : Thread Cert.RefRmsFwdIdeal.nD Cert.RefRmsFwdIdeal.τ).loc Cert.RefRmsFwdIdeal.main_arg1) = m ((c.tc : Thread Cert.RefRmsFwdIdeal.nD Cert.RefRmsFwdIdeal.τ).loc Cert.RefRmsFwdIdeal.main_arg1))
      ∧ r.2.sem = fun _ => 0)

def quiescent_ChipsIn [hChipsIn : Cert.ChipsIn.Facts] : Prop :=
  ∀ (m : (ℓ : Loc Cert.ChipsIn.nD Cert.ChipsIn.τ Cert.ChipsIn.sig) → Buf (Elt Bits) ℓ) (g : Dev Cert.ChipsIn.nD → PrngReg), Pre_ChipsIn m →
    θ_run (Cert.ChipsIn.defs (F := Bits)) (onTc (τ := Cert.ChipsIn.τ) (Cert.ChipsIn.main (F := Bits))) ⟨m, fun _ => 0, g⟩ (fun r => (∀ c : Dev Cert.ChipsIn.nD,
      r.2.mem ((c.tc : Thread Cert.ChipsIn.nD Cert.ChipsIn.τ).loc Cert.ChipsIn.main_arg0) = m ((c.tc : Thread Cert.ChipsIn.nD Cert.ChipsIn.τ).loc Cert.ChipsIn.main_arg0)
      ∧ r.2.mem ((c.tc : Thread Cert.ChipsIn.nD Cert.ChipsIn.τ).loc Cert.ChipsIn.main_arg1) = m ((c.tc : Thread Cert.ChipsIn.nD Cert.ChipsIn.τ).loc Cert.ChipsIn.main_arg1))
      ∧ r.2.sem = fun _ => 0)

def quiescent_ChipsInIdeal [hChipsInIdeal : Cert.ChipsInIdeal.Facts] : Prop :=
  ∀ (m : (ℓ : Loc Cert.ChipsInIdeal.nD Cert.ChipsInIdeal.τ Cert.ChipsInIdeal.sig) → Buf (Elt Ideal) ℓ) (g : Dev Cert.ChipsInIdeal.nD → PrngReg), Pre_ChipsInIdeal m →
    θ_run (Cert.ChipsInIdeal.defs (F := Ideal)) (onTc (τ := Cert.ChipsInIdeal.τ) (Cert.ChipsInIdeal.main (F := Ideal))) ⟨m, fun _ => 0, g⟩ (fun r => (∀ c : Dev Cert.ChipsInIdeal.nD,
      r.2.mem ((c.tc : Thread Cert.ChipsInIdeal.nD Cert.ChipsInIdeal.τ).loc Cert.ChipsInIdeal.main_arg0) = m ((c.tc : Thread Cert.ChipsInIdeal.nD Cert.ChipsInIdeal.τ).loc Cert.ChipsInIdeal.main_arg0)
      ∧ r.2.mem ((c.tc : Thread Cert.ChipsInIdeal.nD Cert.ChipsInIdeal.τ).loc Cert.ChipsInIdeal.main_arg1) = m ((c.tc : Thread Cert.ChipsInIdeal.nD Cert.ChipsInIdeal.τ).loc Cert.ChipsInIdeal.main_arg1))
      ∧ r.2.sem = fun _ => 0)

def quiescent_RefChipsInIdeal [hRefChipsInIdeal : Cert.RefChipsInIdeal.Facts] : Prop :=
  ∀ (m : (ℓ : Loc Cert.RefChipsInIdeal.nD Cert.RefChipsInIdeal.τ Cert.RefChipsInIdeal.sig) → Buf (Elt Ideal) ℓ) (g : Dev Cert.RefChipsInIdeal.nD → PrngReg), Pre_RefChipsInIdeal m →
    θ_run (Cert.RefChipsInIdeal.defs (F := Ideal)) (onTc (τ := Cert.RefChipsInIdeal.τ) (Cert.RefChipsInIdeal.main (F := Ideal))) ⟨m, fun _ => 0, g⟩ (fun r => (∀ c : Dev Cert.RefChipsInIdeal.nD,
      r.2.mem ((c.tc : Thread Cert.RefChipsInIdeal.nD Cert.RefChipsInIdeal.τ).loc Cert.RefChipsInIdeal.main_arg0) = m ((c.tc : Thread Cert.RefChipsInIdeal.nD Cert.RefChipsInIdeal.τ).loc Cert.RefChipsInIdeal.main_arg0)
      ∧ r.2.mem ((c.tc : Thread Cert.RefChipsInIdeal.nD Cert.RefChipsInIdeal.τ).loc Cert.RefChipsInIdeal.main_arg1) = m ((c.tc : Thread Cert.RefChipsInIdeal.nD Cert.RefChipsInIdeal.τ).loc Cert.RefChipsInIdeal.main_arg1))
      ∧ r.2.sem = fun _ => 0)

def quiescent_ChipsUq [hChipsUq : Cert.ChipsUq.Facts] : Prop :=
  ∀ (m : (ℓ : Loc Cert.ChipsUq.nD Cert.ChipsUq.τ Cert.ChipsUq.sig) → Buf (Elt Bits) ℓ) (g : Dev Cert.ChipsUq.nD → PrngReg), Pre_ChipsUq m →
    θ_run (Cert.ChipsUq.defs (F := Bits)) (onTc (τ := Cert.ChipsUq.τ) (Cert.ChipsUq.main (F := Bits))) ⟨m, fun _ => 0, g⟩ (fun r => (∀ c : Dev Cert.ChipsUq.nD,
      r.2.mem ((c.tc : Thread Cert.ChipsUq.nD Cert.ChipsUq.τ).loc Cert.ChipsUq.main_arg0) = m ((c.tc : Thread Cert.ChipsUq.nD Cert.ChipsUq.τ).loc Cert.ChipsUq.main_arg0)
      ∧ r.2.mem ((c.tc : Thread Cert.ChipsUq.nD Cert.ChipsUq.τ).loc Cert.ChipsUq.main_arg1) = m ((c.tc : Thread Cert.ChipsUq.nD Cert.ChipsUq.τ).loc Cert.ChipsUq.main_arg1))
      ∧ r.2.sem = fun _ => 0)

def quiescent_ChipsUqIdeal [hChipsUqIdeal : Cert.ChipsUqIdeal.Facts] : Prop :=
  ∀ (m : (ℓ : Loc Cert.ChipsUqIdeal.nD Cert.ChipsUqIdeal.τ Cert.ChipsUqIdeal.sig) → Buf (Elt Ideal) ℓ) (g : Dev Cert.ChipsUqIdeal.nD → PrngReg), Pre_ChipsUqIdeal m →
    θ_run (Cert.ChipsUqIdeal.defs (F := Ideal)) (onTc (τ := Cert.ChipsUqIdeal.τ) (Cert.ChipsUqIdeal.main (F := Ideal))) ⟨m, fun _ => 0, g⟩ (fun r => (∀ c : Dev Cert.ChipsUqIdeal.nD,
      r.2.mem ((c.tc : Thread Cert.ChipsUqIdeal.nD Cert.ChipsUqIdeal.τ).loc Cert.ChipsUqIdeal.main_arg0) = m ((c.tc : Thread Cert.ChipsUqIdeal.nD Cert.ChipsUqIdeal.τ).loc Cert.ChipsUqIdeal.main_arg0)
      ∧ r.2.mem ((c.tc : Thread Cert.ChipsUqIdeal.nD Cert.ChipsUqIdeal.τ).loc Cert.ChipsUqIdeal.main_arg1) = m ((c.tc : Thread Cert.ChipsUqIdeal.nD Cert.ChipsUqIdeal.τ).loc Cert.ChipsUqIdeal.main_arg1))
      ∧ r.2.sem = fun _ => 0)

def quiescent_RefChipsUqIdeal [hRefChipsUqIdeal : Cert.RefChipsUqIdeal.Facts] : Prop :=
  ∀ (m : (ℓ : Loc Cert.RefChipsUqIdeal.nD Cert.RefChipsUqIdeal.τ Cert.RefChipsUqIdeal.sig) → Buf (Elt Ideal) ℓ) (g : Dev Cert.RefChipsUqIdeal.nD → PrngReg), Pre_RefChipsUqIdeal m →
    θ_run (Cert.RefChipsUqIdeal.defs (F := Ideal)) (onTc (τ := Cert.RefChipsUqIdeal.τ) (Cert.RefChipsUqIdeal.main (F := Ideal))) ⟨m, fun _ => 0, g⟩ (fun r => (∀ c : Dev Cert.RefChipsUqIdeal.nD,
      r.2.mem ((c.tc : Thread Cert.RefChipsUqIdeal.nD Cert.RefChipsUqIdeal.τ).loc Cert.RefChipsUqIdeal.main_arg0) = m ((c.tc : Thread Cert.RefChipsUqIdeal.nD Cert.RefChipsUqIdeal.τ).loc Cert.RefChipsUqIdeal.main_arg0)
      ∧ r.2.mem ((c.tc : Thread Cert.RefChipsUqIdeal.nD Cert.RefChipsUqIdeal.τ).loc Cert.RefChipsUqIdeal.main_arg1) = m ((c.tc : Thread Cert.RefChipsUqIdeal.nD Cert.RefChipsUqIdeal.τ).loc Cert.RefChipsUqIdeal.main_arg1))
      ∧ r.2.sem = fun _ => 0)

def quiescent_ChipsUkv [hChipsUkv : Cert.ChipsUkv.Facts] : Prop :=
  ∀ (m : (ℓ : Loc Cert.ChipsUkv.nD Cert.ChipsUkv.τ Cert.ChipsUkv.sig) → Buf (Elt Bits) ℓ) (g : Dev Cert.ChipsUkv.nD → PrngReg), Pre_ChipsUkv m →
    θ_run (Cert.ChipsUkv.defs (F := Bits)) (onTc (τ := Cert.ChipsUkv.τ) (Cert.ChipsUkv.main (F := Bits))) ⟨m, fun _ => 0, g⟩ (fun r => (∀ c : Dev Cert.ChipsUkv.nD,
      r.2.mem ((c.tc : Thread Cert.ChipsUkv.nD Cert.ChipsUkv.τ).loc Cert.ChipsUkv.main_arg0) = m ((c.tc : Thread Cert.ChipsUkv.nD Cert.ChipsUkv.τ).loc Cert.ChipsUkv.main_arg0)
      ∧ r.2.mem ((c.tc : Thread Cert.ChipsUkv.nD Cert.ChipsUkv.τ).loc Cert.ChipsUkv.main_arg1) = m ((c.tc : Thread Cert.ChipsUkv.nD Cert.ChipsUkv.τ).loc Cert.ChipsUkv.main_arg1))
      ∧ r.2.sem = fun _ => 0)

def quiescent_ChipsUkvIdeal [hChipsUkvIdeal : Cert.ChipsUkvIdeal.Facts] : Prop :=
  ∀ (m : (ℓ : Loc Cert.ChipsUkvIdeal.nD Cert.ChipsUkvIdeal.τ Cert.ChipsUkvIdeal.sig) → Buf (Elt Ideal) ℓ) (g : Dev Cert.ChipsUkvIdeal.nD → PrngReg), Pre_ChipsUkvIdeal m →
    θ_run (Cert.ChipsUkvIdeal.defs (F := Ideal)) (onTc (τ := Cert.ChipsUkvIdeal.τ) (Cert.ChipsUkvIdeal.main (F := Ideal))) ⟨m, fun _ => 0, g⟩ (fun r => (∀ c : Dev Cert.ChipsUkvIdeal.nD,
      r.2.mem ((c.tc : Thread Cert.ChipsUkvIdeal.nD Cert.ChipsUkvIdeal.τ).loc Cert.ChipsUkvIdeal.main_arg0) = m ((c.tc : Thread Cert.ChipsUkvIdeal.nD Cert.ChipsUkvIdeal.τ).loc Cert.ChipsUkvIdeal.main_arg0)
      ∧ r.2.mem ((c.tc : Thread Cert.ChipsUkvIdeal.nD Cert.ChipsUkvIdeal.τ).loc Cert.ChipsUkvIdeal.main_arg1) = m ((c.tc : Thread Cert.ChipsUkvIdeal.nD Cert.ChipsUkvIdeal.τ).loc Cert.ChipsUkvIdeal.main_arg1))
      ∧ r.2.sem = fun _ => 0)

def quiescent_RefChipsUkvIdeal [hRefChipsUkvIdeal : Cert.RefChipsUkvIdeal.Facts] : Prop :=
  ∀ (m : (ℓ : Loc Cert.RefChipsUkvIdeal.nD Cert.RefChipsUkvIdeal.τ Cert.RefChipsUkvIdeal.sig) → Buf (Elt Ideal) ℓ) (g : Dev Cert.RefChipsUkvIdeal.nD → PrngReg), Pre_RefChipsUkvIdeal m →
    θ_run (Cert.RefChipsUkvIdeal.defs (F := Ideal)) (onTc (τ := Cert.RefChipsUkvIdeal.τ) (Cert.RefChipsUkvIdeal.main (F := Ideal))) ⟨m, fun _ => 0, g⟩ (fun r => (∀ c : Dev Cert.RefChipsUkvIdeal.nD,
      r.2.mem ((c.tc : Thread Cert.RefChipsUkvIdeal.nD Cert.RefChipsUkvIdeal.τ).loc Cert.RefChipsUkvIdeal.main_arg0) = m ((c.tc : Thread Cert.RefChipsUkvIdeal.nD Cert.RefChipsUkvIdeal.τ).loc Cert.RefChipsUkvIdeal.main_arg0)
      ∧ r.2.mem ((c.tc : Thread Cert.RefChipsUkvIdeal.nD Cert.RefChipsUkvIdeal.τ).loc Cert.RefChipsUkvIdeal.main_arg1) = m ((c.tc : Thread Cert.RefChipsUkvIdeal.nD Cert.RefChipsUkvIdeal.τ).loc Cert.RefChipsUkvIdeal.main_arg1))
      ∧ r.2.sem = fun _ => 0)

def quiescent_ChipsMemKv [hChipsMemKv : Cert.ChipsMemKv.Facts] : Prop :=
  ∀ (m : (ℓ : Loc Cert.ChipsMemKv.nD Cert.ChipsMemKv.τ Cert.ChipsMemKv.sig) → Buf (Elt Bits) ℓ) (g : Dev Cert.ChipsMemKv.nD → PrngReg), Pre_ChipsMemKv m →
    θ_run (Cert.ChipsMemKv.defs (F := Bits)) (onTc (τ := Cert.ChipsMemKv.τ) (Cert.ChipsMemKv.main (F := Bits))) ⟨m, fun _ => 0, g⟩ (fun r => (∀ c : Dev Cert.ChipsMemKv.nD,
      r.2.mem ((c.tc : Thread Cert.ChipsMemKv.nD Cert.ChipsMemKv.τ).loc Cert.ChipsMemKv.main_arg0) = m ((c.tc : Thread Cert.ChipsMemKv.nD Cert.ChipsMemKv.τ).loc Cert.ChipsMemKv.main_arg0)
      ∧ r.2.mem ((c.tc : Thread Cert.ChipsMemKv.nD Cert.ChipsMemKv.τ).loc Cert.ChipsMemKv.main_arg1) = m ((c.tc : Thread Cert.ChipsMemKv.nD Cert.ChipsMemKv.τ).loc Cert.ChipsMemKv.main_arg1))
      ∧ r.2.sem = fun _ => 0)

def quiescent_ChipsMemKvIdeal [hChipsMemKvIdeal : Cert.ChipsMemKvIdeal.Facts] : Prop :=
  ∀ (m : (ℓ : Loc Cert.ChipsMemKvIdeal.nD Cert.ChipsMemKvIdeal.τ Cert.ChipsMemKvIdeal.sig) → Buf (Elt Ideal) ℓ) (g : Dev Cert.ChipsMemKvIdeal.nD → PrngReg), Pre_ChipsMemKvIdeal m →
    θ_run (Cert.ChipsMemKvIdeal.defs (F := Ideal)) (onTc (τ := Cert.ChipsMemKvIdeal.τ) (Cert.ChipsMemKvIdeal.main (F := Ideal))) ⟨m, fun _ => 0, g⟩ (fun r => (∀ c : Dev Cert.ChipsMemKvIdeal.nD,
      r.2.mem ((c.tc : Thread Cert.ChipsMemKvIdeal.nD Cert.ChipsMemKvIdeal.τ).loc Cert.ChipsMemKvIdeal.main_arg0) = m ((c.tc : Thread Cert.ChipsMemKvIdeal.nD Cert.ChipsMemKvIdeal.τ).loc Cert.ChipsMemKvIdeal.main_arg0)
      ∧ r.2.mem ((c.tc : Thread Cert.ChipsMemKvIdeal.nD Cert.ChipsMemKvIdeal.τ).loc Cert.ChipsMemKvIdeal.main_arg1) = m ((c.tc : Thread Cert.ChipsMemKvIdeal.nD Cert.ChipsMemKvIdeal.τ).loc Cert.ChipsMemKvIdeal.main_arg1))
      ∧ r.2.sem = fun _ => 0)

def quiescent_RefChipsMemKvIdeal [hRefChipsMemKvIdeal : Cert.RefChipsMemKvIdeal.Facts] : Prop :=
  ∀ (m : (ℓ : Loc Cert.RefChipsMemKvIdeal.nD Cert.RefChipsMemKvIdeal.τ Cert.RefChipsMemKvIdeal.sig) → Buf (Elt Ideal) ℓ) (g : Dev Cert.RefChipsMemKvIdeal.nD → PrngReg), Pre_RefChipsMemKvIdeal m →
    θ_run (Cert.RefChipsMemKvIdeal.defs (F := Ideal)) (onTc (τ := Cert.RefChipsMemKvIdeal.τ) (Cert.RefChipsMemKvIdeal.main (F := Ideal))) ⟨m, fun _ => 0, g⟩ (fun r => (∀ c : Dev Cert.RefChipsMemKvIdeal.nD,
      r.2.mem ((c.tc : Thread Cert.RefChipsMemKvIdeal.nD Cert.RefChipsMemKvIdeal.τ).loc Cert.RefChipsMemKvIdeal.main_arg0) = m ((c.tc : Thread Cert.RefChipsMemKvIdeal.nD Cert.RefChipsMemKvIdeal.τ).loc Cert.RefChipsMemKvIdeal.main_arg0)
      ∧ r.2.mem ((c.tc : Thread Cert.RefChipsMemKvIdeal.nD Cert.RefChipsMemKvIdeal.τ).loc Cert.RefChipsMemKvIdeal.main_arg1) = m ((c.tc : Thread Cert.RefChipsMemKvIdeal.nD Cert.RefChipsMemKvIdeal.τ).loc Cert.RefChipsMemKvIdeal.main_arg1))
      ∧ r.2.sem = fun _ => 0)

def quiescent_ChipsOut [hChipsOut : Cert.ChipsOut.Facts] : Prop :=
  ∀ (m : (ℓ : Loc Cert.ChipsOut.nD Cert.ChipsOut.τ Cert.ChipsOut.sig) → Buf (Elt Bits) ℓ) (g : Dev Cert.ChipsOut.nD → PrngReg), Pre_ChipsOut m →
    θ_run (Cert.ChipsOut.defs (F := Bits)) (onTc (τ := Cert.ChipsOut.τ) (Cert.ChipsOut.main (F := Bits))) ⟨m, fun _ => 0, g⟩ (fun r => (∀ c : Dev Cert.ChipsOut.nD,
      r.2.mem ((c.tc : Thread Cert.ChipsOut.nD Cert.ChipsOut.τ).loc Cert.ChipsOut.main_arg0) = m ((c.tc : Thread Cert.ChipsOut.nD Cert.ChipsOut.τ).loc Cert.ChipsOut.main_arg0)
      ∧ r.2.mem ((c.tc : Thread Cert.ChipsOut.nD Cert.ChipsOut.τ).loc Cert.ChipsOut.main_arg1) = m ((c.tc : Thread Cert.ChipsOut.nD Cert.ChipsOut.τ).loc Cert.ChipsOut.main_arg1))
      ∧ r.2.sem = fun _ => 0)

def quiescent_ChipsOutIdeal [hChipsOutIdeal : Cert.ChipsOutIdeal.Facts] : Prop :=
  ∀ (m : (ℓ : Loc Cert.ChipsOutIdeal.nD Cert.ChipsOutIdeal.τ Cert.ChipsOutIdeal.sig) → Buf (Elt Ideal) ℓ) (g : Dev Cert.ChipsOutIdeal.nD → PrngReg), Pre_ChipsOutIdeal m →
    θ_run (Cert.ChipsOutIdeal.defs (F := Ideal)) (onTc (τ := Cert.ChipsOutIdeal.τ) (Cert.ChipsOutIdeal.main (F := Ideal))) ⟨m, fun _ => 0, g⟩ (fun r => (∀ c : Dev Cert.ChipsOutIdeal.nD,
      r.2.mem ((c.tc : Thread Cert.ChipsOutIdeal.nD Cert.ChipsOutIdeal.τ).loc Cert.ChipsOutIdeal.main_arg0) = m ((c.tc : Thread Cert.ChipsOutIdeal.nD Cert.ChipsOutIdeal.τ).loc Cert.ChipsOutIdeal.main_arg0)
      ∧ r.2.mem ((c.tc : Thread Cert.ChipsOutIdeal.nD Cert.ChipsOutIdeal.τ).loc Cert.ChipsOutIdeal.main_arg1) = m ((c.tc : Thread Cert.ChipsOutIdeal.nD Cert.ChipsOutIdeal.τ).loc Cert.ChipsOutIdeal.main_arg1))
      ∧ r.2.sem = fun _ => 0)

def quiescent_RefChipsOutIdeal [hRefChipsOutIdeal : Cert.RefChipsOutIdeal.Facts] : Prop :=
  ∀ (m : (ℓ : Loc Cert.RefChipsOutIdeal.nD Cert.RefChipsOutIdeal.τ Cert.RefChipsOutIdeal.sig) → Buf (Elt Ideal) ℓ) (g : Dev Cert.RefChipsOutIdeal.nD → PrngReg), Pre_RefChipsOutIdeal m →
    θ_run (Cert.RefChipsOutIdeal.defs (F := Ideal)) (onTc (τ := Cert.RefChipsOutIdeal.τ) (Cert.RefChipsOutIdeal.main (F := Ideal))) ⟨m, fun _ => 0, g⟩ (fun r => (∀ c : Dev Cert.RefChipsOutIdeal.nD,
      r.2.mem ((c.tc : Thread Cert.RefChipsOutIdeal.nD Cert.RefChipsOutIdeal.τ).loc Cert.RefChipsOutIdeal.main_arg0) = m ((c.tc : Thread Cert.RefChipsOutIdeal.nD Cert.RefChipsOutIdeal.τ).loc Cert.RefChipsOutIdeal.main_arg0)
      ∧ r.2.mem ((c.tc : Thread Cert.RefChipsOutIdeal.nD Cert.RefChipsOutIdeal.τ).loc Cert.RefChipsOutIdeal.main_arg1) = m ((c.tc : Thread Cert.RefChipsOutIdeal.nD Cert.RefChipsOutIdeal.τ).loc Cert.RefChipsOutIdeal.main_arg1))
      ∧ r.2.sem = fun _ => 0)

def quiescent_ChipsGate [hChipsGate : Cert.ChipsGate.Facts] : Prop :=
  ∀ (m : (ℓ : Loc Cert.ChipsGate.nD Cert.ChipsGate.τ Cert.ChipsGate.sig) → Buf (Elt Bits) ℓ) (g : Dev Cert.ChipsGate.nD → PrngReg), Pre_ChipsGate m →
    θ_run (Cert.ChipsGate.defs (F := Bits)) (onTc (τ := Cert.ChipsGate.τ) (Cert.ChipsGate.main (F := Bits))) ⟨m, fun _ => 0, g⟩ (fun r => (∀ c : Dev Cert.ChipsGate.nD,
      r.2.mem ((c.tc : Thread Cert.ChipsGate.nD Cert.ChipsGate.τ).loc Cert.ChipsGate.main_arg0) = m ((c.tc : Thread Cert.ChipsGate.nD Cert.ChipsGate.τ).loc Cert.ChipsGate.main_arg0)
      ∧ r.2.mem ((c.tc : Thread Cert.ChipsGate.nD Cert.ChipsGate.τ).loc Cert.ChipsGate.main_arg1) = m ((c.tc : Thread Cert.ChipsGate.nD Cert.ChipsGate.τ).loc Cert.ChipsGate.main_arg1))
      ∧ r.2.sem = fun _ => 0)

def quiescent_ChipsGateIdeal [hChipsGateIdeal : Cert.ChipsGateIdeal.Facts] : Prop :=
  ∀ (m : (ℓ : Loc Cert.ChipsGateIdeal.nD Cert.ChipsGateIdeal.τ Cert.ChipsGateIdeal.sig) → Buf (Elt Ideal) ℓ) (g : Dev Cert.ChipsGateIdeal.nD → PrngReg), Pre_ChipsGateIdeal m →
    θ_run (Cert.ChipsGateIdeal.defs (F := Ideal)) (onTc (τ := Cert.ChipsGateIdeal.τ) (Cert.ChipsGateIdeal.main (F := Ideal))) ⟨m, fun _ => 0, g⟩ (fun r => (∀ c : Dev Cert.ChipsGateIdeal.nD,
      r.2.mem ((c.tc : Thread Cert.ChipsGateIdeal.nD Cert.ChipsGateIdeal.τ).loc Cert.ChipsGateIdeal.main_arg0) = m ((c.tc : Thread Cert.ChipsGateIdeal.nD Cert.ChipsGateIdeal.τ).loc Cert.ChipsGateIdeal.main_arg0)
      ∧ r.2.mem ((c.tc : Thread Cert.ChipsGateIdeal.nD Cert.ChipsGateIdeal.τ).loc Cert.ChipsGateIdeal.main_arg1) = m ((c.tc : Thread Cert.ChipsGateIdeal.nD Cert.ChipsGateIdeal.τ).loc Cert.ChipsGateIdeal.main_arg1))
      ∧ r.2.sem = fun _ => 0)

def quiescent_RefChipsGateIdeal [hRefChipsGateIdeal : Cert.RefChipsGateIdeal.Facts] : Prop :=
  ∀ (m : (ℓ : Loc Cert.RefChipsGateIdeal.nD Cert.RefChipsGateIdeal.τ Cert.RefChipsGateIdeal.sig) → Buf (Elt Ideal) ℓ) (g : Dev Cert.RefChipsGateIdeal.nD → PrngReg), Pre_RefChipsGateIdeal m →
    θ_run (Cert.RefChipsGateIdeal.defs (F := Ideal)) (onTc (τ := Cert.RefChipsGateIdeal.τ) (Cert.RefChipsGateIdeal.main (F := Ideal))) ⟨m, fun _ => 0, g⟩ (fun r => (∀ c : Dev Cert.RefChipsGateIdeal.nD,
      r.2.mem ((c.tc : Thread Cert.RefChipsGateIdeal.nD Cert.RefChipsGateIdeal.τ).loc Cert.RefChipsGateIdeal.main_arg0) = m ((c.tc : Thread Cert.RefChipsGateIdeal.nD Cert.RefChipsGateIdeal.τ).loc Cert.RefChipsGateIdeal.main_arg0)
      ∧ r.2.mem ((c.tc : Thread Cert.RefChipsGateIdeal.nD Cert.RefChipsGateIdeal.τ).loc Cert.RefChipsGateIdeal.main_arg1) = m ((c.tc : Thread Cert.RefChipsGateIdeal.nD Cert.RefChipsGateIdeal.τ).loc Cert.RefChipsGateIdeal.main_arg1))
      ∧ r.2.sem = fun _ => 0)

def quiescent_ChipsDown [hChipsDown : Cert.ChipsDown.Facts] : Prop :=
  ∀ (m : (ℓ : Loc Cert.ChipsDown.nD Cert.ChipsDown.τ Cert.ChipsDown.sig) → Buf (Elt Bits) ℓ) (g : Dev Cert.ChipsDown.nD → PrngReg), Pre_ChipsDown m →
    θ_run (Cert.ChipsDown.defs (F := Bits)) (onTc (τ := Cert.ChipsDown.τ) (Cert.ChipsDown.main (F := Bits))) ⟨m, fun _ => 0, g⟩ (fun r => (∀ c : Dev Cert.ChipsDown.nD,
      r.2.mem ((c.tc : Thread Cert.ChipsDown.nD Cert.ChipsDown.τ).loc Cert.ChipsDown.main_arg0) = m ((c.tc : Thread Cert.ChipsDown.nD Cert.ChipsDown.τ).loc Cert.ChipsDown.main_arg0)
      ∧ r.2.mem ((c.tc : Thread Cert.ChipsDown.nD Cert.ChipsDown.τ).loc Cert.ChipsDown.main_arg1) = m ((c.tc : Thread Cert.ChipsDown.nD Cert.ChipsDown.τ).loc Cert.ChipsDown.main_arg1))
      ∧ r.2.sem = fun _ => 0)

def quiescent_ChipsDownIdeal [hChipsDownIdeal : Cert.ChipsDownIdeal.Facts] : Prop :=
  ∀ (m : (ℓ : Loc Cert.ChipsDownIdeal.nD Cert.ChipsDownIdeal.τ Cert.ChipsDownIdeal.sig) → Buf (Elt Ideal) ℓ) (g : Dev Cert.ChipsDownIdeal.nD → PrngReg), Pre_ChipsDownIdeal m →
    θ_run (Cert.ChipsDownIdeal.defs (F := Ideal)) (onTc (τ := Cert.ChipsDownIdeal.τ) (Cert.ChipsDownIdeal.main (F := Ideal))) ⟨m, fun _ => 0, g⟩ (fun r => (∀ c : Dev Cert.ChipsDownIdeal.nD,
      r.2.mem ((c.tc : Thread Cert.ChipsDownIdeal.nD Cert.ChipsDownIdeal.τ).loc Cert.ChipsDownIdeal.main_arg0) = m ((c.tc : Thread Cert.ChipsDownIdeal.nD Cert.ChipsDownIdeal.τ).loc Cert.ChipsDownIdeal.main_arg0)
      ∧ r.2.mem ((c.tc : Thread Cert.ChipsDownIdeal.nD Cert.ChipsDownIdeal.τ).loc Cert.ChipsDownIdeal.main_arg1) = m ((c.tc : Thread Cert.ChipsDownIdeal.nD Cert.ChipsDownIdeal.τ).loc Cert.ChipsDownIdeal.main_arg1))
      ∧ r.2.sem = fun _ => 0)

def quiescent_RefChipsDownIdeal [hRefChipsDownIdeal : Cert.RefChipsDownIdeal.Facts] : Prop :=
  ∀ (m : (ℓ : Loc Cert.RefChipsDownIdeal.nD Cert.RefChipsDownIdeal.τ Cert.RefChipsDownIdeal.sig) → Buf (Elt Ideal) ℓ) (g : Dev Cert.RefChipsDownIdeal.nD → PrngReg), Pre_RefChipsDownIdeal m →
    θ_run (Cert.RefChipsDownIdeal.defs (F := Ideal)) (onTc (τ := Cert.RefChipsDownIdeal.τ) (Cert.RefChipsDownIdeal.main (F := Ideal))) ⟨m, fun _ => 0, g⟩ (fun r => (∀ c : Dev Cert.RefChipsDownIdeal.nD,
      r.2.mem ((c.tc : Thread Cert.RefChipsDownIdeal.nD Cert.RefChipsDownIdeal.τ).loc Cert.RefChipsDownIdeal.main_arg0) = m ((c.tc : Thread Cert.RefChipsDownIdeal.nD Cert.RefChipsDownIdeal.τ).loc Cert.RefChipsDownIdeal.main_arg0)
      ∧ r.2.mem ((c.tc : Thread Cert.RefChipsDownIdeal.nD Cert.RefChipsDownIdeal.τ).loc Cert.RefChipsDownIdeal.main_arg1) = m ((c.tc : Thread Cert.RefChipsDownIdeal.nD Cert.RefChipsDownIdeal.τ).loc Cert.RefChipsDownIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DwDown_DwDownIdeal : Prop :=
  True

def algebraic_DwDownIdeal_RefDwDownIdeal [hDwDownIdeal : Cert.DwDownIdeal.Facts] [hRefDwDownIdeal : Cert.RefDwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.RefDwDownIdeal.nD Cert.RefDwDownIdeal.τ Cert.RefDwDownIdeal.sig) → Buf (Elt Ideal) ℓ) (g' : Dev Cert.RefDwDownIdeal.nD → PrngReg), Pre_DwDownIdeal m →
    (∀ c : Dev Cert.DwDownIdeal.nD,
      m' ((c.tc : Thread Cert.RefDwDownIdeal.nD Cert.RefDwDownIdeal.τ).loc Cert.RefDwDownIdeal.main_arg0) = m ((c.tc : Thread Cert.DwDownIdeal.nD Cert.DwDownIdeal.τ).loc Cert.DwDownIdeal.main_arg0)
      ∧ m' ((c.tc : Thread Cert.RefDwDownIdeal.nD Cert.RefDwDownIdeal.τ).loc Cert.RefDwDownIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.RefDwDownIdeal.defs (F := Ideal)) (onTc (τ := Cert.RefDwDownIdeal.τ) (Cert.RefDwDownIdeal.main (F := Ideal))) ⟨m', fun _ => 0, g'⟩ (fun r => ∀ c : Dev Cert.RefDwDownIdeal.nD,
          r.2.mem ((c.tc : Thread Cert.RefDwDownIdeal.nD Cert.RefDwDownIdeal.τ).loc Cert.RefDwDownIdeal.main_v5) = v0 c
          ∧ r.2.mem ((c.tc : Thread Cert.RefDwDownIdeal.nD Cert.RefDwDownIdeal.τ).loc Cert.RefDwDownIdeal.main_arg0) = m' ((c.tc : Thread Cert.RefDwDownIdeal.nD Cert.RefDwDownIdeal.τ).loc Cert.RefDwDownIdeal.main_arg0)
          ∧ r.2.mem ((c.tc : Thread Cert.RefDwDownIdeal.nD Cert.RefDwDownIdeal.τ).loc Cert.RefDwDownIdeal.main_arg1) = m' ((c.tc : Thread Cert.RefDwDownIdeal.nD Cert.RefDwDownIdeal.τ).loc Cert.RefDwDownIdeal.main_arg1))

def preserves_BwdAct_BwdActIdeal : Prop :=
  True

def algebraic_BwdActIdeal_RefBwdActIdeal_pre_finite_grad [hBwdActIdeal : Cert.BwdActIdeal.Facts] [hRefBwdActIdeal : Cert.RefBwdActIdeal.Facts] [hPre_finite_grad : Cert.Pre_finite_grad.Facts] : Prop :=
  ∀ (m : (ℓ : Loc Cert.BwdActIdeal.nD Cert.BwdActIdeal.τ Cert.BwdActIdeal.sig) → Buf (Elt Ideal) ℓ) (g : Dev Cert.BwdActIdeal.nD → PrngReg)
    (m' : (ℓ : Loc Cert.RefBwdActIdeal.nD Cert.RefBwdActIdeal.τ Cert.RefBwdActIdeal.sig) → Buf (Elt Ideal) ℓ) (g' : Dev Cert.RefBwdActIdeal.nD → PrngReg), Pre_BwdActIdeal_finite_grad m →
    (∀ c : Dev Cert.BwdActIdeal.nD,
      m' ((c.tc : Thread Cert.RefBwdActIdeal.nD Cert.RefBwdActIdeal.τ).loc Cert.RefBwdActIdeal.main_arg0) = m ((c.tc : Thread Cert.BwdActIdeal.nD Cert.BwdActIdeal.τ).loc Cert.BwdActIdeal.main_arg0)
      ∧ m' ((c.tc : Thread Cert.RefBwdActIdeal.nD Cert.RefBwdActIdeal.τ).loc Cert.RefBwdActIdeal.main_arg1) = m ((c.tc : Thread Cert.BwdActIdeal.nD Cert.BwdActIdeal.τ).loc Cert.BwdActIdeal.main_arg1)
      ∧ m' ((c.tc : Thread Cert.RefBwdActIdeal.nD Cert.RefBwdActIdeal.τ).loc Cert.RefBwdActIdeal.main_arg2) = m ((c.tc : Thread Cert.BwdActIdeal.nD Cert.BwdActIdeal.τ).loc Cert.BwdActIdeal.main_arg2)
      ∧ m' ((c.tc : Thread Cert.RefBwdActIdeal.nD Cert.RefBwdActIdeal.τ).loc Cert.RefBwdActIdeal.main_arg3) = m ((c.tc : Thread Cert.BwdActIdeal.nD Cert.BwdActIdeal.τ).loc Cert.BwdActIdeal.main_arg3)) →
    ∃ (v0 : (c : Dev Cert.BwdActIdeal.nD) → Buf (Elt Ideal) ((c.tc : Thread Cert.BwdActIdeal.nD Cert.BwdActIdeal.τ).loc Cert.BwdActIdeal.main_v0_0)) (v1 : (c : Dev Cert.BwdActIdeal.nD) → Buf (Elt Ideal) ((c.tc : Thread Cert.BwdActIdeal.nD Cert.BwdActIdeal.τ).loc Cert.BwdActIdeal.main_v0_1)),
      θ_run (Cert.BwdActIdeal.defs (F := Ideal)) (onTc (τ := Cert.BwdActIdeal.τ) (Cert.BwdActIdeal.main (F := Ideal))) ⟨m, fun _ => 0, g⟩ (fun r => ∀ c : Dev Cert.BwdActIdeal.nD,
          r.2.mem ((c.tc : Thread Cert.BwdActIdeal.nD Cert.BwdActIdeal.τ).loc Cert.BwdActIdeal.main_v0_0) = v0 c
          ∧ r.2.mem ((c.tc : Thread Cert.BwdActIdeal.nD Cert.BwdActIdeal.τ).loc Cert.BwdActIdeal.main_v0_1) = v1 c
          ∧ r.2.mem ((c.tc : Thread Cert.BwdActIdeal.nD Cert.BwdActIdeal.τ).loc Cert.BwdActIdeal.main_arg0) = m ((c.tc : Thread Cert.BwdActIdeal.nD Cert.BwdActIdeal.τ).loc Cert.BwdActIdeal.main_arg0)
          ∧ r.2.mem ((c.tc : Thread Cert.BwdActIdeal.nD Cert.BwdActIdeal.τ).loc Cert.BwdActIdeal.main_arg1) = m ((c.tc : Thread Cert.BwdActIdeal.nD Cert.BwdActIdeal.τ).loc Cert.BwdActIdeal.main_arg1)
          ∧ r.2.mem ((c.tc : Thread Cert.BwdActIdeal.nD Cert.BwdActIdeal.τ).loc Cert.BwdActIdeal.main_arg2) = m ((c.tc : Thread Cert.BwdActIdeal.nD Cert.BwdActIdeal.τ).loc Cert.BwdActIdeal.main_arg2)
          ∧ r.2.mem ((c.tc : Thread Cert.BwdActIdeal.nD Cert.BwdActIdeal.τ).loc Cert.BwdActIdeal.main_arg3) = m ((c.tc : Thread Cert.BwdActIdeal.nD Cert.BwdActIdeal.τ).loc Cert.BwdActIdeal.main_arg3))
      ∧ θ_run (Cert.RefBwdActIdeal.defs (F := Ideal)) (onTc (τ := Cert.RefBwdActIdeal.τ) (Cert.RefBwdActIdeal.main (F := Ideal))) ⟨m', fun _ => 0, g'⟩ (fun r => ∀ c : Dev Cert.RefBwdActIdeal.nD,
          r.2.mem ((c.tc : Thread Cert.RefBwdActIdeal.nD Cert.RefBwdActIdeal.τ).loc Cert.RefBwdActIdeal.main_v11) = v0 c
          ∧ r.2.mem ((c.tc : Thread Cert.RefBwdActIdeal.nD Cert.RefBwdActIdeal.τ).loc Cert.RefBwdActIdeal.main_v12) = v1 c
          ∧ r.2.mem ((c.tc : Thread Cert.RefBwdActIdeal.nD Cert.RefBwdActIdeal.τ).loc Cert.RefBwdActIdeal.main_arg0) = m' ((c.tc : Thread Cert.RefBwdActIdeal.nD Cert.RefBwdActIdeal.τ).loc Cert.RefBwdActIdeal.main_arg0)
          ∧ r.2.mem ((c.tc : Thread Cert.RefBwdActIdeal.nD Cert.RefBwdActIdeal.τ).loc Cert.RefBwdActIdeal.main_arg1) = m' ((c.tc : Thread Cert.RefBwdActIdeal.nD Cert.RefBwdActIdeal.τ).loc Cert.RefBwdActIdeal.main_arg1)
          ∧ r.2.mem ((c.tc : Thread Cert.RefBwdActIdeal.nD Cert.RefBwdActIdeal.τ).loc Cert.RefBwdActIdeal.main_arg2) = m' ((c.tc : Thread Cert.RefBwdActIdeal.nD Cert.RefBwdActIdeal.τ).loc Cert.RefBwdActIdeal.main_arg2)
          ∧ r.2.mem ((c.tc : Thread Cert.RefBwdActIdeal.nD Cert.RefBwdActIdeal.τ).loc Cert.RefBwdActIdeal.main_arg3) = m' ((c.tc : Thread Cert.RefBwdActIdeal.nD Cert.RefBwdActIdeal.τ).loc Cert.RefBwdActIdeal.main_arg3))

def preserves_DwGate_DwGateIdeal : Prop :=
  True

def algebraic_DwGateIdeal_RefDwFfIdeal [hDwGateIdeal : Cert.DwGateIdeal.Facts] [hRefDwFfIdeal : Cert.RefDwFfIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.RefDwFfIdeal.nD Cert.RefDwFfIdeal.τ Cert.RefDwFfIdeal.sig) → Buf (Elt Ideal) ℓ) (g' : Dev Cert.RefDwFfIdeal.nD → PrngReg), Pre_DwGateIdeal m →
    (∀ c : Dev Cert.DwGateIdeal.nD,
      m' ((c.tc : Thread Cert.RefDwFfIdeal.nD Cert.RefDwFfIdeal.τ).loc Cert.RefDwFfIdeal.main_arg0) = m ((c.tc : Thread Cert.DwGateIdeal.nD Cert.DwGateIdeal.τ).loc Cert.DwGateIdeal.main_arg0)
      ∧ m' ((c.tc : Thread Cert.RefDwFfIdeal.nD Cert.RefDwFfIdeal.τ).loc Cert.RefDwFfIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.RefDwFfIdeal.defs (F := Ideal)) (onTc (τ := Cert.RefDwFfIdeal.τ) (Cert.RefDwFfIdeal.main (F := Ideal))) ⟨m', fun _ => 0, g'⟩ (fun r => ∀ c : Dev Cert.RefDwFfIdeal.nD,
          r.2.mem ((c.tc : Thread Cert.RefDwFfIdeal.nD Cert.RefDwFfIdeal.τ).loc Cert.RefDwFfIdeal.main_v7) = v0 c
          ∧ r.2.mem ((c.tc : Thread Cert.RefDwFfIdeal.nD Cert.RefDwFfIdeal.τ).loc Cert.RefDwFfIdeal.main_arg0) = m' ((c.tc : Thread Cert.RefDwFfIdeal.nD Cert.RefDwFfIdeal.τ).loc Cert.RefDwFfIdeal.main_arg0)
          ∧ r.2.mem ((c.tc : Thread Cert.RefDwFfIdeal.nD Cert.RefDwFfIdeal.τ).loc Cert.RefDwFfIdeal.main_arg1) = m' ((c.tc : Thread Cert.RefDwFfIdeal.nD Cert.RefDwFfIdeal.τ).loc Cert.RefDwFfIdeal.main_arg1))

def preserves_DwUp_DwUpIdeal : Prop :=
  True

def algebraic_DwUpIdeal_RefDwFfIdeal [hDwUpIdeal : Cert.DwUpIdeal.Facts] [hRefDwFfIdeal : Cert.RefDwFfIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.RefDwFfIdeal.nD Cert.RefDwFfIdeal.τ Cert.RefDwFfIdeal.sig) → Buf (Elt Ideal) ℓ) (g' : Dev Cert.RefDwFfIdeal.nD → PrngReg), Pre_DwUpIdeal m →
    (∀ c : Dev Cert.DwUpIdeal.nD,
      m' ((c.tc : Thread Cert.RefDwFfIdeal.nD Cert.RefDwFfIdeal.τ).loc Cert.RefDwFfIdeal.main_arg0) = m ((c.tc : Thread Cert.DwUpIdeal.nD Cert.DwUpIdeal.τ).loc Cert.DwUpIdeal.main_arg0)
      ∧ m' ((c.tc : Thread Cert.RefDwFfIdeal.nD Cert.RefDwFfIdeal.τ).loc Cert.RefDwFfIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.RefDwFfIdeal.defs (F := Ideal)) (onTc (τ := Cert.RefDwFfIdeal.τ) (Cert.RefDwFfIdeal.main (F := Ideal))) ⟨m', fun _ => 0, g'⟩ (fun r => ∀ c : Dev Cert.RefDwFfIdeal.nD,
          r.2.mem ((c.tc : Thread Cert.RefDwFfIdeal.nD Cert.RefDwFfIdeal.τ).loc Cert.RefDwFfIdeal.main_v7) = v0 c
          ∧ r.2.mem ((c.tc : Thread Cert.RefDwFfIdeal.nD Cert.RefDwFfIdeal.τ).loc Cert.RefDwFfIdeal.main_arg0) = m' ((c.tc : Thread Cert.RefDwFfIdeal.nD Cert.RefDwFfIdeal.τ).loc Cert.RefDwFfIdeal.main_arg0)
          ∧ r.2.mem ((c.tc : Thread Cert.RefDwFfIdeal.nD Cert.RefDwFfIdeal.τ).loc Cert.RefDwFfIdeal.main_arg1) = m' ((c.tc : Thread Cert.RefDwFfIdeal.nD Cert.RefDwFfIdeal.τ).loc Cert.RefDwFfIdeal.main_arg1))

def preserves_Dfn_DfnIdeal : Prop :=
  True

def algebraic_DfnIdeal_RefDfnIdeal [hDfnIdeal : Cert.DfnIdeal.Facts] [hRefDfnIdeal : Cert.RefDfnIdeal.Facts] : Prop :=
  ∀ (m : (ℓ : Loc Cert.DfnIdeal.nD Cert.DfnIdeal.τ Cert.DfnIdeal.sig) → Buf (Elt Ideal) ℓ) (g : Dev Cert.DfnIdeal.nD → PrngReg)
    (m' : (ℓ : Loc Cert.RefDfnIdeal.nD Cert.RefDfnIdeal.τ Cert.RefDfnIdeal.sig) → Buf (Elt Ideal) ℓ) (g' : Dev Cert.RefDfnIdeal.nD → PrngReg), Pre_DfnIdeal m →
    (∀ c : Dev Cert.DfnIdeal.nD,
      m' ((c.tc : Thread Cert.RefDfnIdeal.nD Cert.RefDfnIdeal.τ).loc Cert.RefDfnIdeal.main_arg0) = m ((c.tc : Thread Cert.DfnIdeal.nD Cert.DfnIdeal.τ).loc Cert.DfnIdeal.main_arg0)
      ∧ m' ((c.tc : Thread Cert.RefDfnIdeal.nD Cert.RefDfnIdeal.τ).loc Cert.RefDfnIdeal.main_arg1) = m ((c.tc : Thread Cert.DfnIdeal.nD Cert.DfnIdeal.τ).loc Cert.DfnIdeal.main_arg1)
      ∧ m' ((c.tc : Thread Cert.RefDfnIdeal.nD Cert.RefDfnIdeal.τ).loc Cert.RefDfnIdeal.main_arg2) = m ((c.tc : Thread Cert.DfnIdeal.nD Cert.DfnIdeal.τ).loc Cert.DfnIdeal.main_arg2)
      ∧ m' ((c.tc : Thread Cert.RefDfnIdeal.nD Cert.RefDfnIdeal.τ).loc Cert.RefDfnIdeal.main_arg3) = m ((c.tc : Thread Cert.DfnIdeal.nD Cert.DfnIdeal.τ).loc Cert.DfnIdeal.main_arg3)) →
    ∃ (v0 : (c : Dev Cert.DfnIdeal.nD) → Buf (Elt Ideal) ((c.tc : Thread Cert.DfnIdeal.nD Cert.DfnIdeal.τ).loc Cert.DfnIdeal.main_v0)),
      θ_run (Cert.DfnIdeal.defs (F := Ideal)) (onTc (τ := Cert.DfnIdeal.τ) (Cert.DfnIdeal.main (F := Ideal))) ⟨m, fun _ => 0, g⟩ (fun r => ∀ c : Dev Cert.DfnIdeal.nD,
          r.2.mem ((c.tc : Thread Cert.DfnIdeal.nD Cert.DfnIdeal.τ).loc Cert.DfnIdeal.main_v0) = v0 c
          ∧ r.2.mem ((c.tc : Thread Cert.DfnIdeal.nD Cert.DfnIdeal.τ).loc Cert.DfnIdeal.main_arg0) = m ((c.tc : Thread Cert.DfnIdeal.nD Cert.DfnIdeal.τ).loc Cert.DfnIdeal.main_arg0)
          ∧ r.2.mem ((c.tc : Thread Cert.DfnIdeal.nD Cert.DfnIdeal.τ).loc Cert.DfnIdeal.main_arg1) = m ((c.tc : Thread Cert.DfnIdeal.nD Cert.DfnIdeal.τ).loc Cert.DfnIdeal.main_arg1)
          ∧ r.2.mem ((c.tc : Thread Cert.DfnIdeal.nD Cert.DfnIdeal.τ).loc Cert.DfnIdeal.main_arg2) = m ((c.tc : Thread Cert.DfnIdeal.nD Cert.DfnIdeal.τ).loc Cert.DfnIdeal.main_arg2)
          ∧ r.2.mem ((c.tc : Thread Cert.DfnIdeal.nD Cert.DfnIdeal.τ).loc Cert.DfnIdeal.main_arg3) = m ((c.tc : Thread Cert.DfnIdeal.nD Cert.DfnIdeal.τ).loc Cert.DfnIdeal.main_arg3))
      ∧ θ_run (Cert.RefDfnIdeal.defs (F := Ideal)) (onTc (τ := Cert.RefDfnIdeal.τ) (Cert.RefDfnIdeal.main (F := Ideal))) ⟨m', fun _ => 0, g'⟩ (fun r => ∀ c : Dev Cert.RefDfnIdeal.nD,
          r.2.mem ((c.tc : Thread Cert.RefDfnIdeal.nD Cert.RefDfnIdeal.τ).loc Cert.RefDfnIdeal.main_v13) = v0 c
          ∧ r.2.mem ((c.tc : Thread Cert.RefDfnIdeal.nD Cert.RefDfnIdeal.τ).loc Cert.RefDfnIdeal.main_arg0) = m' ((c.tc : Thread Cert.RefDfnIdeal.nD Cert.RefDfnIdeal.τ).loc Cert.RefDfnIdeal.main_arg0)
          ∧ r.2.mem ((c.tc : Thread Cert.RefDfnIdeal.nD Cert.RefDfnIdeal.τ).loc Cert.RefDfnIdeal.main_arg1) = m' ((c.tc : Thread Cert.RefDfnIdeal.nD Cert.RefDfnIdeal.τ).loc Cert.RefDfnIdeal.main_arg1)
          ∧ r.2.mem ((c.tc : Thread Cert.RefDfnIdeal.nD Cert.RefDfnIdeal.τ).loc Cert.RefDfnIdeal.main_arg2) = m' ((c.tc : Thread Cert.RefDfnIdeal.nD Cert.RefDfnIdeal.τ).loc Cert.RefDfnIdeal.main_arg2)
          ∧ r.2.mem ((c.tc : Thread Cert.RefDfnIdeal.nD Cert.RefDfnIdeal.τ).loc Cert.RefDfnIdeal.main_arg3) = m' ((c.tc : Thread Cert.RefDfnIdeal.nD Cert.RefDfnIdeal.τ).loc Cert.RefDfnIdeal.main_arg3))

def preserves_GateUp_GateUpIdeal : Prop :=
  True

def algebraic_GateUpIdeal_RefGateUpIdeal [hGateUpIdeal : Cert.GateUpIdeal.Facts] [hRefGateUpIdeal : Cert.RefGateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.RefGateUpIdeal.nD Cert.RefGateUpIdeal.τ Cert.RefGateUpIdeal.sig) → Buf (Elt Ideal) ℓ) (g' : Dev Cert.RefGateUpIdeal.nD → PrngReg), Pre_GateUpIdeal m →
    (∀ c : Dev Cert.GateUpIdeal.nD,
      m' ((c.tc : Thread Cert.RefGateUpIdeal.nD Cert.RefGateUpIdeal.τ).loc Cert.RefGateUpIdeal.main_arg0) = m ((c.tc : Thread Cert.GateUpIdeal.nD Cert.GateUpIdeal.τ).loc Cert.GateUpIdeal.main_arg0)
      ∧ m' ((c.tc : Thread Cert.RefGateUpIdeal.nD Cert.RefGateUpIdeal.τ).loc Cert.RefGateUpIdeal.main_arg1) = m ((c.tc : Thread Cert.GateUpIdeal.nD Cert.GateUpIdeal.τ).loc Cert.GateUpIdeal.main_arg1)
      ∧ m' ((c.tc : Thread Cert.RefGateUpIdeal.nD Cert.RefGateUpIdeal.τ).loc Cert.RefGateUpIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.RefGateUpIdeal.defs (F := Ideal)) (onTc (τ := Cert.RefGateUpIdeal.τ) (Cert.RefGateUpIdeal.main (F := Ideal))) ⟨m', fun _ => 0, g'⟩ (fun r => ∀ c : Dev Cert.RefGateUpIdeal.nD,
          r.2.mem ((c.tc : Thread Cert.RefGateUpIdeal.nD Cert.RefGateUpIdeal.τ).loc Cert.RefGateUpIdeal.main_v11) = v0 c
          ∧ r.2.mem ((c.tc : Thread Cert.RefGateUpIdeal.nD Cert.RefGateUpIdeal.τ).loc Cert.RefGateUpIdeal.main_v12) = v1 c
          ∧ r.2.mem ((c.tc : Thread Cert.RefGateUpIdeal.nD Cert.RefGateUpIdeal.τ).loc Cert.RefGateUpIdeal.main_v13) = v2 c
          ∧ r.2.mem ((c.tc : Thread Cert.RefGateUpIdeal.nD Cert.RefGateUpIdeal.τ).loc Cert.RefGateUpIdeal.main_arg0) = m' ((c.tc : Thread Cert.RefGateUpIdeal.nD Cert.RefGateUpIdeal.τ).loc Cert.RefGateUpIdeal.main_arg0)
          ∧ r.2.mem ((c.tc : Thread Cert.RefGateUpIdeal.nD Cert.RefGateUpIdeal.τ).loc Cert.RefGateUpIdeal.main_arg1) = m' ((c.tc : Thread Cert.RefGateUpIdeal.nD Cert.RefGateUpIdeal.τ).loc Cert.RefGateUpIdeal.main_arg1)
          ∧ r.2.mem ((c.tc : Thread Cert.RefGateUpIdeal.nD Cert.RefGateUpIdeal.τ).loc Cert.RefGateUpIdeal.main_arg2) = m' ((c.tc : Thread Cert.RefGateUpIdeal.nD Cert.RefGateUpIdeal.τ).loc Cert.RefGateUpIdeal.main_arg2))

def preserves_DownProj_DownProjIdeal : Prop :=
  True

def algebraic_DownProjIdeal_RefDownProjIdeal [hDownProjIdeal : Cert.DownProjIdeal.Facts] [hRefDownProjIdeal : Cert.RefDownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.RefDownProjIdeal.nD Cert.RefDownProjIdeal.τ Cert.RefDownProjIdeal.sig) → Buf (Elt Ideal) ℓ) (g' : Dev Cert.RefDownProjIdeal.nD → PrngReg), Pre_DownProjIdeal m →
    (∀ c : Dev Cert.DownProjIdeal.nD,
      m' ((c.tc : Thread Cert.RefDownProjIdeal.nD Cert.RefDownProjIdeal.τ).loc Cert.RefDownProjIdeal.main_arg0) = m ((c.tc : Thread Cert.DownProjIdeal.nD Cert.DownProjIdeal.τ).loc Cert.DownProjIdeal.main_arg0)
      ∧ m' ((c.tc : Thread Cert.RefDownProjIdeal.nD Cert.RefDownProjIdeal.τ).loc Cert.RefDownProjIdeal.main_arg1) = m ((c.tc : Thread Cert.DownProjIdeal.nD Cert.DownProjIdeal.τ).loc Cert.DownProjIdeal.main_arg1)
      ∧ m' ((c.tc : Thread Cert.RefDownProjIdeal.nD Cert.RefDownProjIdeal.τ).loc Cert.RefDownProjIdeal.main_arg2) = m ((c.tc : Thread Cert.DownProjIdeal.nD Cert.DownProjIdeal.τ).loc Cert.DownProjIdeal.main_arg2)
      ∧ m' ((c.tc : Thread Cert.RefDownProjIdeal.nD Cert.RefDownProjIdeal.τ).loc Cert.RefDownProjIdeal.main_arg3) = m ((c.tc : Thread Cert.DownProjIdeal.nD Cert.DownProjIdeal.τ).loc Cert.DownProjIdeal.main_arg3)) →
    ∃ (v0 : (c : Dev Cert.DownProjIdeal.nD) → Buf (Elt Ideal) ((c.tc : Thread Cert.DownProjIdeal.nD Cert.DownProjIdeal.τ).loc Cert.DownProjIdeal.main_v0_0)) (v1 : (c : Dev Cert.DownProjIdeal.nD) → Buf (Elt Ideal) ((c.tc : Thread Cert.DownProjIdeal.nD Cert.DownProjIdeal.τ).loc Cert.DownProjIdeal.main_v0_1)) (v2 : (c : Dev Cert.DownProjIdeal.nD) → Buf (Elt Ideal) ((c.tc : Thread Cert.DownProjIdeal.nD Cert.DownProjIdeal.τ).loc Cert.DownProjIdeal.main_v0_2)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0_0) = v0 c
          ∧ r.2.mem ((c.tc : Thread Cert.DownProjIdeal.nD Cert.DownProjIdeal.τ).loc Cert.DownProjIdeal.main_v0_1) = v1 c
          ∧ r.2.mem ((c.tc : Thread Cert.DownProjIdeal.nD Cert.DownProjIdeal.τ).loc Cert.DownProjIdeal.main_v0_2) = v2 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
          ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3))
      ∧ θ_run (Cert.RefDownProjIdeal.defs (F := Ideal)) (onTc (τ := Cert.RefDownProjIdeal.τ) (Cert.RefDownProjIdeal.main (F := Ideal))) ⟨m', fun _ => 0, g'⟩ (fun r => ∀ c : Dev Cert.RefDownProjIdeal.nD,
          r.2.mem ((c.tc : Thread Cert.RefDownProjIdeal.nD Cert.RefDownProjIdeal.τ).loc Cert.RefDownProjIdeal.main_v18) = v0 c
          ∧ r.2.mem ((c.tc : Thread Cert.RefDownProjIdeal.nD Cert.RefDownProjIdeal.τ).loc Cert.RefDownProjIdeal.main_v19) = v1 c
          ∧ r.2.mem ((c.tc : Thread Cert.RefDownProjIdeal.nD Cert.RefDownProjIdeal.τ).loc Cert.RefDownProjIdeal.main_v20) = v2 c
          ∧ r.2.mem ((c.tc : Thread Cert.RefDownProjIdeal.nD Cert.RefDownProjIdeal.τ).loc Cert.RefDownProjIdeal.main_arg0) = m' ((c.tc : Thread Cert.RefDownProjIdeal.nD Cert.RefDownProjIdeal.τ).loc Cert.RefDownProjIdeal.main_arg0)
          ∧ r.2.mem ((c.tc : Thread Cert.RefDownProjIdeal.nD Cert.RefDownProjIdeal.τ).loc Cert.RefDownProjIdeal.main_arg1) = m' ((c.tc : Thread Cert.RefDownProjIdeal.nD Cert.RefDownProjIdeal.τ).loc Cert.RefDownProjIdeal.main_arg1)
          ∧ r.2.mem ((c.tc : Thread Cert.RefDownProjIdeal.nD Cert.RefDownProjIdeal.τ).loc Cert.RefDownProjIdeal.main_arg2) = m' ((c.tc : Thread Cert.RefDownProjIdeal.nD Cert.RefDownProjIdeal.τ).loc Cert.RefDownProjIdeal.main_arg2)
          ∧ r.2.mem ((c.tc : Thread Cert.RefDownProjIdeal.nD Cert.RefDownProjIdeal.τ).loc Cert.RefDownProjIdeal.main_arg3) = m' ((c.tc : Thread Cert.RefDownProjIdeal.nD Cert.RefDownProjIdeal.τ).loc Cert.RefDownProjIdeal.main_arg3))

def preserves_DwOut_DwOutIdeal : Prop :=
  True

def algebraic_DwOutIdeal_RefDwOutIdeal [hDwOutIdeal : Cert.DwOutIdeal.Facts] [hRefDwOutIdeal : Cert.RefDwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.RefDwOutIdeal.nD Cert.RefDwOutIdeal.τ Cert.RefDwOutIdeal.sig) → Buf (Elt Ideal) ℓ) (g' : Dev Cert.RefDwOutIdeal.nD → PrngReg), Pre_DwOutIdeal m →
    (∀ c : Dev Cert.DwOutIdeal.nD,
      m' ((c.tc : Thread Cert.RefDwOutIdeal.nD Cert.RefDwOutIdeal.τ).loc Cert.RefDwOutIdeal.main_arg0) = m ((c.tc : Thread Cert.DwOutIdeal.nD Cert.DwOutIdeal.τ).loc Cert.DwOutIdeal.main_arg0)
      ∧ m' ((c.tc : Thread Cert.RefDwOutIdeal.nD Cert.RefDwOutIdeal.τ).loc Cert.RefDwOutIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.RefDwOutIdeal.defs (F := Ideal)) (onTc (τ := Cert.RefDwOutIdeal.τ) (Cert.RefDwOutIdeal.main (F := Ideal))) ⟨m', fun _ => 0, g'⟩ (fun r => ∀ c : Dev Cert.RefDwOutIdeal.nD,
          r.2.mem ((c.tc : Thread Cert.RefDwOutIdeal.nD Cert.RefDwOutIdeal.τ).loc Cert.RefDwOutIdeal.main_v5) = v0 c
          ∧ r.2.mem ((c.tc : Thread Cert.RefDwOutIdeal.nD Cert.RefDwOutIdeal.τ).loc Cert.RefDwOutIdeal.main_arg0) = m' ((c.tc : Thread Cert.RefDwOutIdeal.nD Cert.RefDwOutIdeal.τ).loc Cert.RefDwOutIdeal.main_arg0)
          ∧ r.2.mem ((c.tc : Thread Cert.RefDwOutIdeal.nD Cert.RefDwOutIdeal.τ).loc Cert.RefDwOutIdeal.main_arg1) = m' ((c.tc : Thread Cert.RefDwOutIdeal.nD Cert.RefDwOutIdeal.τ).loc Cert.RefDwOutIdeal.main_arg1))

def preserves_Dy_DyIdeal : Prop :=
  True

def algebraic_DyIdeal_RefDyIdeal [hDyIdeal : Cert.DyIdeal.Facts] [hRefDyIdeal : Cert.RefDyIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.RefDyIdeal.nD Cert.RefDyIdeal.τ Cert.RefDyIdeal.sig) → Buf (Elt Ideal) ℓ) (g' : Dev Cert.RefDyIdeal.nD → PrngReg), Pre_DyIdeal m →
    (∀ c : Dev Cert.DyIdeal.nD,
      m' ((c.tc : Thread Cert.RefDyIdeal.nD Cert.RefDyIdeal.τ).loc Cert.RefDyIdeal.main_arg0) = m ((c.tc : Thread Cert.DyIdeal.nD Cert.DyIdeal.τ).loc Cert.DyIdeal.main_arg0)
      ∧ m' ((c.tc : Thread Cert.RefDyIdeal.nD Cert.RefDyIdeal.τ).loc Cert.RefDyIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v0)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v0) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.RefDyIdeal.defs (F := Ideal)) (onTc (τ := Cert.RefDyIdeal.τ) (Cert.RefDyIdeal.main (F := Ideal))) ⟨m', fun _ => 0, g'⟩ (fun r => ∀ c : Dev Cert.RefDyIdeal.nD,
          r.2.mem ((c.tc : Thread Cert.RefDyIdeal.nD Cert.RefDyIdeal.τ).loc Cert.RefDyIdeal.main_v4) = v0 c
          ∧ r.2.mem ((c.tc : Thread Cert.RefDyIdeal.nD Cert.RefDyIdeal.τ).loc Cert.RefDyIdeal.main_arg0) = m' ((c.tc : Thread Cert.RefDyIdeal.nD Cert.RefDyIdeal.τ).loc Cert.RefDyIdeal.main_arg0)
          ∧ r.2.mem ((c.tc : Thread Cert.RefDyIdeal.nD Cert.RefDyIdeal.τ).loc Cert.RefDyIdeal.main_arg1) = m' ((c.tc : Thread Cert.RefDyIdeal.nD Cert.RefDyIdeal.τ).loc Cert.RefDyIdeal.main_arg1))

def preserves_OutProj_OutProjIdeal : Prop :=
  True

def algebraic_OutProjIdeal_RefOutProjIdeal [hOutProjIdeal : Cert.OutProjIdeal.Facts] [hRefOutProjIdeal : Cert.RefOutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutProjIdeal.nD Cert.RefOutProjIdeal.τ Cert.RefOutProjIdeal.sig) → Buf (Elt Ideal) ℓ) (g' : Dev Cert.RefOutProjIdeal.nD → PrngReg), Pre_OutProjIdeal m →
    (∀ c : Dev Cert.OutProjIdeal.nD,
      m' ((c.tc : Thread Cert.RefOutProjIdeal.nD Cert.RefOutProjIdeal.τ).loc Cert.RefOutProjIdeal.main_arg0) = m ((c.tc : Thread Cert.OutProjIdeal.nD Cert.OutProjIdeal.τ).loc Cert.OutProjIdeal.main_arg0)
      ∧ m' ((c.tc : Thread Cert.RefOutProjIdeal.nD Cert.RefOutProjIdeal.τ).loc Cert.RefOutProjIdeal.main_arg1) = m ((c.tc : Thread Cert.OutProjIdeal.nD Cert.OutProjIdeal.τ).loc Cert.OutProjIdeal.main_arg1)
      ∧ m' ((c.tc : Thread Cert.RefOutProjIdeal.nD Cert.RefOutProjIdeal.τ).loc Cert.RefOutProjIdeal.main_arg2) = m ((c.tc : Thread Cert.OutProjIdeal.nD Cert.OutProjIdeal.τ).loc Cert.OutProjIdeal.main_arg2)
      ∧ m' ((c.tc : Thread Cert.RefOutProjIdeal.nD Cert.RefOutProjIdeal.τ).loc Cert.RefOutProjIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.RefOutProjIdeal.defs (F := Ideal)) (onTc (τ := Cert.RefOutProjIdeal.τ) (Cert.RefOutProjIdeal.main (F := Ideal))) ⟨m', fun _ => 0, g'⟩ (fun r => ∀ c : Dev Cert.RefOutProjIdeal.nD,
          r.2.mem ((c.tc : Thread Cert.RefOutProjIdeal.nD Cert.RefOutProjIdeal.τ).loc Cert.RefOutProjIdeal.main_v3) = v0 c
          ∧ r.2.mem ((c.tc : Thread Cert.RefOutProjIdeal.nD Cert.RefOutProjIdeal.τ).loc Cert.RefOutProjIdeal.main_v16) = v1 c
          ∧ r.2.mem ((c.tc : Thread Cert.RefOutProjIdeal.nD Cert.RefOutProjIdeal.τ).loc Cert.RefOutProjIdeal.main_arg0) = m' ((c.tc : Thread Cert.RefOutProjIdeal.nD Cert.RefOutProjIdeal.τ).loc Cert.RefOutProjIdeal.main_arg0)
          ∧ r.2.mem ((c.tc : Thread Cert.RefOutProjIdeal.nD Cert.RefOutProjIdeal.τ).loc Cert.RefOutProjIdeal.main_arg1) = m' ((c.tc : Thread Cert.RefOutProjIdeal.nD Cert.RefOutProjIdeal.τ).loc Cert.RefOutProjIdeal.main_arg1)
          ∧ r.2.mem ((c.tc : Thread Cert.RefOutProjIdeal.nD Cert.RefOutProjIdeal.τ).loc Cert.RefOutProjIdeal.main_arg2) = m' ((c.tc : Thread Cert.RefOutProjIdeal.nD Cert.RefOutProjIdeal.τ).loc Cert.RefOutProjIdeal.main_arg2)
          ∧ r.2.mem ((c.tc : Thread Cert.RefOutProjIdeal.nD Cert.RefOutProjIdeal.τ).loc Cert.RefOutProjIdeal.main_arg3) = m' ((c.tc : Thread Cert.RefOutProjIdeal.nD Cert.RefOutProjIdeal.τ).loc Cert.RefOutProjIdeal.main_arg3))

def preserves_InProj_InProjIdeal : Prop :=
  True

def algebraic_InProjIdeal_RefInProjIdeal [hInProjIdeal : Cert.InProjIdeal.Facts] [hRefInProjIdeal : Cert.RefInProjIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInProjIdeal.nD Cert.RefInProjIdeal.τ Cert.RefInProjIdeal.sig) → Buf (Elt Ideal) ℓ) (g' : Dev Cert.RefInProjIdeal.nD → PrngReg), Pre_InProjIdeal m →
    (∀ c : Dev Cert.InProjIdeal.nD,
      m' ((c.tc : Thread Cert.RefInProjIdeal.nD Cert.RefInProjIdeal.τ).loc Cert.RefInProjIdeal.main_arg0) = m ((c.tc : Thread Cert.InProjIdeal.nD Cert.InProjIdeal.τ).loc Cert.InProjIdeal.main_arg0)
      ∧ m' ((c.tc : Thread Cert.RefInProjIdeal.nD Cert.RefInProjIdeal.τ).loc Cert.RefInProjIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.RefInProjIdeal.defs (F := Ideal)) (onTc (τ := Cert.RefInProjIdeal.τ) (Cert.RefInProjIdeal.main (F := Ideal))) ⟨m', fun _ => 0, g'⟩ (fun r => ∀ c : Dev Cert.RefInProjIdeal.nD,
          r.2.mem ((c.tc : Thread Cert.RefInProjIdeal.nD Cert.RefInProjIdeal.τ).loc Cert.RefInProjIdeal.main_v2) = v0 c
          ∧ r.2.mem ((c.tc : Thread Cert.RefInProjIdeal.nD Cert.RefInProjIdeal.τ).loc Cert.RefInProjIdeal.main_arg0) = m' ((c.tc : Thread Cert.RefInProjIdeal.nD Cert.RefInProjIdeal.τ).loc Cert.RefInProjIdeal.main_arg0)
          ∧ r.2.mem ((c.tc : Thread Cert.RefInProjIdeal.nD Cert.RefInProjIdeal.τ).loc Cert.RefInProjIdeal.main_arg1) = m' ((c.tc : Thread Cert.RefInProjIdeal.nD Cert.RefInProjIdeal.τ).loc Cert.RefInProjIdeal.main_arg1))

def preserves_DwIn_DwInIdeal : Prop :=
  True

def algebraic_DwInIdeal_RefDwInIdeal [hDwInIdeal : Cert.DwInIdeal.Facts] [hRefDwInIdeal : Cert.RefDwInIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.RefDwInIdeal.nD Cert.RefDwInIdeal.τ Cert.RefDwInIdeal.sig) → Buf (Elt Ideal) ℓ) (g' : Dev Cert.RefDwInIdeal.nD → PrngReg), Pre_DwInIdeal m →
    (∀ c : Dev Cert.DwInIdeal.nD,
      m' ((c.tc : Thread Cert.RefDwInIdeal.nD Cert.RefDwInIdeal.τ).loc Cert.RefDwInIdeal.main_arg0) = m ((c.tc : Thread Cert.DwInIdeal.nD Cert.DwInIdeal.τ).loc Cert.DwInIdeal.main_arg0)
      ∧ m' ((c.tc : Thread Cert.RefDwInIdeal.nD Cert.RefDwInIdeal.τ).loc Cert.RefDwInIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.RefDwInIdeal.defs (F := Ideal)) (onTc (τ := Cert.RefDwInIdeal.τ) (Cert.RefDwInIdeal.main (F := Ideal))) ⟨m', fun _ => 0, g'⟩ (fun r => ∀ c : Dev Cert.RefDwInIdeal.nD,
          r.2.mem ((c.tc : Thread Cert.RefDwInIdeal.nD Cert.RefDwInIdeal.τ).loc Cert.RefDwInIdeal.main_v5) = v0 c
          ∧ r.2.mem ((c.tc : Thread Cert.RefDwInIdeal.nD Cert.RefDwInIdeal.τ).loc Cert.RefDwInIdeal.main_arg0) = m' ((c.tc : Thread Cert.RefDwInIdeal.nD Cert.RefDwInIdeal.τ).loc Cert.RefDwInIdeal.main_arg0)
          ∧ r.2.mem ((c.tc : Thread Cert.RefDwInIdeal.nD Cert.RefDwInIdeal.τ).loc Cert.RefDwInIdeal.main_arg1) = m' ((c.tc : Thread Cert.RefDwInIdeal.nD Cert.RefDwInIdeal.τ).loc Cert.RefDwInIdeal.main_arg1))

def preserves_Dhn_DhnIdeal : Prop :=
  True

def algebraic_DhnIdeal_RefDhnIdeal [hDhnIdeal : Cert.DhnIdeal.Facts] [hRefDhnIdeal : Cert.RefDhnIdeal.Facts] : Prop :=
  ∀ (m : (ℓ : Loc Cert.DhnIdeal.nD Cert.DhnIdeal.τ Cert.DhnIdeal.sig) → Buf (Elt Ideal) ℓ) (g : Dev Cert.DhnIdeal.nD → PrngReg)
    (m' : (ℓ : Loc Cert.RefDhnIdeal.nD Cert.RefDhnIdeal.τ Cert.RefDhnIdeal.sig) → Buf (Elt Ideal) ℓ) (g' : Dev Cert.RefDhnIdeal.nD → PrngReg), Pre_DhnIdeal m →
    (∀ c : Dev Cert.DhnIdeal.nD,
      m' ((c.tc : Thread Cert.RefDhnIdeal.nD Cert.RefDhnIdeal.τ).loc Cert.RefDhnIdeal.main_arg0) = m ((c.tc : Thread Cert.DhnIdeal.nD Cert.DhnIdeal.τ).loc Cert.DhnIdeal.main_arg0)
      ∧ m' ((c.tc : Thread Cert.RefDhnIdeal.nD Cert.RefDhnIdeal.τ).loc Cert.RefDhnIdeal.main_arg1) = m ((c.tc : Thread Cert.DhnIdeal.nD Cert.DhnIdeal.τ).loc Cert.DhnIdeal.main_arg1)) →
    ∃ (v0 : (c : Dev Cert.DhnIdeal.nD) → Buf (Elt Ideal) ((c.tc : Thread Cert.DhnIdeal.nD Cert.DhnIdeal.τ).loc Cert.DhnIdeal.main_v0)),
      θ_run (Cert.DhnIdeal.defs (F := Ideal)) (onTc (τ := Cert.DhnIdeal.τ) (Cert.DhnIdeal.main (F := Ideal))) ⟨m, fun _ => 0, g⟩ (fun r => ∀ c : Dev Cert.DhnIdeal.nD,
          r.2.mem ((c.tc : Thread Cert.DhnIdeal.nD Cert.DhnIdeal.τ).loc Cert.DhnIdeal.main_v0) = v0 c
          ∧ r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
          ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1))
      ∧ θ_run (Cert.RefDhnIdeal.defs (F := Ideal)) (onTc (τ := Cert.RefDhnIdeal.τ) (Cert.RefDhnIdeal.main (F := Ideal))) ⟨m', fun _ => 0, g'⟩ (fun r => ∀ c : Dev Cert.RefDhnIdeal.nD,
          r.2.mem ((c.tc : Thread Cert.RefDhnIdeal.nD Cert.RefDhnIdeal.τ).loc Cert.RefDhnIdeal.main_v4) = v0 c
          ∧ r.2.mem ((c.tc : Thread Cert.RefDhnIdeal.nD Cert.RefDhnIdeal.τ).loc Cert.RefDhnIdeal.main_arg0) = m' ((c.tc : Thread Cert.RefDhnIdeal.nD Cert.RefDhnIdeal.τ).loc Cert.RefDhnIdeal.main_arg0)
          ∧ r.2.mem ((c.tc : Thread Cert.RefDhnIdeal.nD Cert.RefDhnIdeal.τ).loc Cert.RefDhnIdeal.main_arg1) = m' ((c.tc : Thread Cert.RefDhnIdeal.nD Cert.RefDhnIdeal.τ).loc Cert.RefDhnIdeal.main_arg1))

def preserves_RmsBwd_RmsBwdIdeal : Prop :=
  True

def algebraic_RmsBwdIdeal_RefRmsBwdIdeal [hRmsBwdIdeal : Cert.RmsBwdIdeal.Facts] [hRefRmsBwdIdeal : Cert.RefRmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RefRmsBwdIdeal.nD Cert.RefRmsBwdIdeal.τ Cert.RefRmsBwdIdeal.sig) → Buf (Elt Ideal) ℓ) (g' : Dev Cert.RefRmsBwdIdeal.nD → PrngReg), Pre_RmsBwdIdeal m →
    (∀ c : Dev Cert.RmsBwdIdeal.nD,
      m' ((c.tc : Thread Cert.RefRmsBwdIdeal.nD Cert.RefRmsBwdIdeal.τ).loc Cert.RefRmsBwdIdeal.main_arg0) = m ((c.tc : Thread Cert.RmsBwdIdeal.nD Cert.RmsBwdIdeal.τ).loc Cert.RmsBwdIdeal.main_arg0)
      ∧ m' ((c.tc : Thread Cert.RefRmsBwdIdeal.nD Cert.RefRmsBwdIdeal.τ).loc Cert.RefRmsBwdIdeal.main_arg1) = m ((c.tc : Thread Cert.RmsBwdIdeal.nD Cert.RmsBwdIdeal.τ).loc Cert.RmsBwdIdeal.main_arg1)
      ∧ m' ((c.tc : Thread Cert.RefRmsBwdIdeal.nD Cert.RefRmsBwdIdeal.τ).loc Cert.RefRmsBwdIdeal.main_arg2) = m ((c.tc : Thread Cert.RmsBwdIdeal.nD Cert.RmsBwdIdeal.τ).loc Cert.RmsBwdIdeal.main_arg2)
      ∧ m' ((c.tc : Thread Cert.RefRmsBwdIdeal.nD Cert.RefRmsBwdIdeal.τ).loc Cert.RefRmsBwdIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)) (v2 : (c : Dev Cert.RmsBwdIdeal.nD) → Buf (Elt Ideal) ((c.tc : Thread Cert.RmsBwdIdeal.nD Cert.RmsBwdIdeal.τ).loc Cert.RmsBwdIdeal.main_v0_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_v0_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RefRmsBwdIdeal.defs (F := Ideal)) (onTc (τ := Cert.RefRmsBwdIdeal.τ) (Cert.RefRmsBwdIdeal.main (F := Ideal))) ⟨m', fun _ => 0, g'⟩ (fun r => ∀ c : Dev Cert.RefRmsBwdIdeal.nD,
          r.2.mem ((c.tc : Thread Cert.RefRmsBwdIdeal.nD Cert.RefRmsBwdIdeal.τ).loc Cert.RefRmsBwdIdeal.main_v34) = v0 c
          ∧ r.2.mem ((c.tc : Thread Cert.RefRmsBwdIdeal.nD Cert.RefRmsBwdIdeal.τ).loc Cert.RefRmsBwdIdeal.main_v35) = v1 c
          ∧ r.2.mem ((c.tc : Thread Cert.RefRmsBwdIdeal.nD Cert.RefRmsBwdIdeal.τ).loc Cert.RefRmsBwdIdeal.main_v17) = v2 c
          ∧ r.2.mem ((c.tc : Thread Cert.RefRmsBwdIdeal.nD Cert.RefRmsBwdIdeal.τ).loc Cert.RefRmsBwdIdeal.main_arg0) = m' ((c.tc : Thread Cert.RefRmsBwdIdeal.nD Cert.RefRmsBwdIdeal.τ).loc Cert.RefRmsBwdIdeal.main_arg0)
          ∧ r.2.mem ((c.tc : Thread Cert.RefRmsBwdIdeal.nD Cert.RefRmsBwdIdeal.τ).loc Cert.RefRmsBwdIdeal.main_arg1) = m' ((c.tc : Thread Cert.RefRmsBwdIdeal.nD Cert.RefRmsBwdIdeal.τ).loc Cert.RefRmsBwdIdeal.main_arg1)
          ∧ r.2.mem ((c.tc : Thread Cert.RefRmsBwdIdeal.nD Cert.RefRmsBwdIdeal.τ).loc Cert.RefRmsBwdIdeal.main_arg2) = m' ((c.tc : Thread Cert.RefRmsBwdIdeal.nD Cert.RefRmsBwdIdeal.τ).loc Cert.RefRmsBwdIdeal.main_arg2)
          ∧ r.2.mem ((c.tc : Thread Cert.RefRmsBwdIdeal.nD Cert.RefRmsBwdIdeal.τ).loc Cert.RefRmsBwdIdeal.main_arg3) = m' ((c.tc : Thread Cert.RefRmsBwdIdeal.nD Cert.RefRmsBwdIdeal.τ).loc Cert.RefRmsBwdIdeal.main_arg3))

def preserves_AdamIn_AdamInIdeal : Prop :=
  True

def algebraic_AdamInIdeal_RefAdamInIdeal [hAdamInIdeal : Cert.AdamInIdeal.Facts] [hRefAdamInIdeal : Cert.RefAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.RefAdamInIdeal.nD Cert.RefAdamInIdeal.τ Cert.RefAdamInIdeal.sig) → Buf (Elt Ideal) ℓ) (g' : Dev Cert.RefAdamInIdeal.nD → PrngReg), Pre_AdamInIdeal m →
    (∀ c : Dev Cert.AdamInIdeal.nD,
      m' ((c.tc : Thread Cert.RefAdamInIdeal.nD Cert.RefAdamInIdeal.τ).loc Cert.RefAdamInIdeal.main_arg0) = m ((c.tc : Thread Cert.AdamInIdeal.nD Cert.AdamInIdeal.τ).loc Cert.AdamInIdeal.main_arg0)
      ∧ m' ((c.tc : Thread Cert.RefAdamInIdeal.nD Cert.RefAdamInIdeal.τ).loc Cert.RefAdamInIdeal.main_arg1) = m ((c.tc : Thread Cert.AdamInIdeal.nD Cert.AdamInIdeal.τ).loc Cert.AdamInIdeal.main_arg1)
      ∧ m' ((c.tc : Thread Cert.RefAdamInIdeal.nD Cert.RefAdamInIdeal.τ).loc Cert.RefAdamInIdeal.main_arg2) = m ((c.tc : Thread Cert.AdamInIdeal.nD Cert.AdamInIdeal.τ).loc Cert.AdamInIdeal.main_arg2)
      ∧ m' ((c.tc : Thread Cert.RefAdamInIdeal.nD Cert.RefAdamInIdeal.τ).loc Cert.RefAdamInIdeal.main_arg3) = m ((c.tc : Thread Cert.AdamInIdeal.nD Cert.AdamInIdeal.τ).loc Cert.AdamInIdeal.main_arg3)
      ∧ m' ((c.tc : Thread Cert.RefAdamInIdeal.nD Cert.RefAdamInIdeal.τ).loc Cert.RefAdamInIdeal.main_arg4) = m ((c.tc : Thread Cert.AdamInIdeal.nD Cert.AdamInIdeal.τ).loc Cert.AdamInIdeal.main_arg4)
      ∧ m' ((c.tc : Thread Cert.RefAdamInIdeal.nD Cert.RefAdamInIdeal.τ).loc Cert.RefAdamInIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.RefAdamInIdeal.defs (F := Ideal)) (onTc (τ := Cert.RefAdamInIdeal.τ) (Cert.RefAdamInIdeal.main (F := Ideal))) ⟨m', fun _ => 0, g'⟩ (fun r => ∀ c : Dev Cert.RefAdamInIdeal.nD,
          r.2.mem ((c.tc : Thread Cert.RefAdamInIdeal.nD Cert.RefAdamInIdeal.τ).loc Cert.RefAdamInIdeal.main_v8) = v0 c
          ∧ r.2.mem ((c.tc : Thread Cert.RefAdamInIdeal.nD Cert.RefAdamInIdeal.τ).loc Cert.RefAdamInIdeal.main_v32) = v1 c
          ∧ r.2.mem ((c.tc : Thread Cert.RefAdamInIdeal.nD Cert.RefAdamInIdeal.τ).loc Cert.RefAdamInIdeal.main_v13) = v2 c
          ∧ r.2.mem ((c.tc : Thread Cert.RefAdamInIdeal.nD Cert.RefAdamInIdeal.τ).loc Cert.RefAdamInIdeal.main_v19) = v3 c
          ∧ r.2.mem ((c.tc : Thread Cert.RefAdamInIdeal.nD Cert.RefAdamInIdeal.τ).loc Cert.RefAdamInIdeal.main_arg0) = m' ((c.tc : Thread Cert.RefAdamInIdeal.nD Cert.RefAdamInIdeal.τ).loc Cert.RefAdamInIdeal.main_arg0)
          ∧ r.2.mem ((c.tc : Thread Cert.RefAdamInIdeal.nD Cert.RefAdamInIdeal.τ).loc Cert.RefAdamInIdeal.main_arg1) = m' ((c.tc : Thread Cert.RefAdamInIdeal.nD Cert.RefAdamInIdeal.τ).loc Cert.RefAdamInIdeal.main_arg1)
          ∧ r.2.mem ((c.tc : Thread Cert.RefAdamInIdeal.nD Cert.RefAdamInIdeal.τ).loc Cert.RefAdamInIdeal.main_arg2) = m' ((c.tc : Thread Cert.RefAdamInIdeal.nD Cert.RefAdamInIdeal.τ).loc Cert.RefAdamInIdeal.main_arg2)
          ∧ r.2.mem ((c.tc : Thread Cert.RefAdamInIdeal.nD Cert.RefAdamInIdeal.τ).loc Cert.RefAdamInIdeal.main_arg3) = m' ((c.tc : Thread Cert.RefAdamInIdeal.nD Cert.RefAdamInIdeal.τ).loc Cert.RefAdamInIdeal.main_arg3)
          ∧ r.2.mem ((c.tc : Thread Cert.RefAdamInIdeal.nD Cert.RefAdamInIdeal.τ).loc Cert.RefAdamInIdeal.main_arg4) = m' ((c.tc : Thread Cert.RefAdamInIdeal.nD Cert.RefAdamInIdeal.τ).loc Cert.RefAdamInIdeal.main_arg4)
          ∧ r.2.mem ((c.tc : Thread Cert.RefAdamInIdeal.nD Cert.RefAdamInIdeal.τ).loc Cert.RefAdamInIdeal.main_arg5) = m' ((c.tc : Thread Cert.RefAdamInIdeal.nD Cert.RefAdamInIdeal.τ).loc Cert.RefAdamInIdeal.main_arg5))

def preserves_AdamUq_AdamUqIdeal : Prop :=
  True

def algebraic_AdamUqIdeal_RefAdamUqIdeal [hAdamUqIdeal : Cert.AdamUqIdeal.Facts] [hRefAdamUqIdeal : Cert.RefAdamUqIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg)
    (m' : (ℓ : Loc Cert.RefAdamUqIdeal.nD Cert.RefAdamUqIdeal.τ Cert.RefAdamUqIdeal.sig) → Buf (Elt Ideal) ℓ) (g' : Dev Cert.RefAdamUqIdeal.nD → PrngReg), Pre_AdamUqIdeal m →
    (∀ c : Dev Cert.AdamUqIdeal.nD,
      m' ((c.tc : Thread Cert.RefAdamUqIdeal.nD Cert.RefAdamUqIdeal.τ).loc Cert.RefAdamUqIdeal.main_arg0) = m ((c.tc : Thread Cert.AdamUqIdeal.nD Cert.AdamUqIdeal.τ).loc Cert.AdamUqIdeal.main_arg0)
      ∧ m' ((c.tc : Thread Cert.RefAdamUqIdeal.nD Cert.RefAdamUqIdeal.τ).loc Cert.RefAdamUqIdeal.main_arg1) = m ((c.tc : Thread Cert.AdamUqIdeal.nD Cert.AdamUqIdeal.τ).loc Cert.AdamUqIdeal.main_arg1)
      ∧ m' ((c.tc : Thread Cert.RefAdamUqIdeal.nD Cert.RefAdamUqIdeal.τ).loc Cert.RefAdamUqIdeal.main_arg2) = m ((c.tc : Thread Cert.AdamUqIdeal.nD Cert.AdamUqIdeal.τ).loc Cert.AdamUqIdeal.main_arg2)
      ∧ m' ((c.tc : Thread Cert.RefAdamUqIdeal.nD Cert.RefAdamUqIdeal.τ).loc Cert.RefAdamUqIdeal.main_arg3) = m ((c.tc : Thread Cert.AdamUqIdeal.nD Cert.AdamUqIdeal.τ).loc Cert.AdamUqIdeal.main_arg3)
      ∧ m' ((c.tc : Thread Cert.RefAdamUqIdeal.nD Cert.RefAdamUqIdeal.τ).loc Cert.RefAdamUqIdeal.main_arg4) = m ((c.tc : Thread Cert.AdamUqIdeal.nD Cert.AdamUqIdeal.τ).loc Cert.AdamUqIdeal.main_arg4)
      ∧ m' ((c.tc : Thread Cert.RefAdamUqIdeal.nD Cert.RefAdamUqIdeal.τ).loc Cert.RefAdamUqIdeal.main_arg5) = m ((c.tc : Thread Cert.AdamUqIdeal.nD Cert.AdamUqIdeal.τ).loc Cert.AdamUqIdeal.main_arg5)) →
    ∃ (v0 : (c : Dev Cert.AdamUqIdeal.nD) → Buf (Elt Ideal) ((c.tc : Thread Cert.AdamUqIdeal.nD Cert.AdamUqIdeal.τ).loc Cert.AdamUqIdeal.main_v0_0)) (v1 : (c : Dev Cert.AdamUqIdeal.nD) → Buf (Elt Ideal) ((c.tc : Thread Cert.AdamUqIdeal.nD Cert.AdamUqIdeal.τ).loc Cert.AdamUqIdeal.main_v0_1)) (v2 : (c : Dev Cert.AdamUqIdeal.nD) → Buf (Elt Ideal) ((c.tc : Thread Cert.AdamUqIdeal.nD Cert.AdamUqIdeal.τ).loc Cert.AdamUqIdeal.main_v0_2)) (v3 : (c : Dev Cert.AdamUqIdeal.nD) → Buf (Elt Ideal) ((c.tc : Thread Cert.AdamUqIdeal.nD Cert.AdamUqIdeal.τ).loc Cert.AdamUqIdeal.main_v0_3)),
      θ_run (Cert.AdamUqIdeal.defs (F := Ideal)) (onTc (τ := Cert.AdamUqIdeal.τ) (Cert.AdamUqIdeal.main (F := Ideal))) ⟨m, fun _ => 0, g⟩ (fun r => ∀ c : Dev Cert.AdamUqIdeal.nD,
          r.2.mem ((c.tc : Thread Cert.AdamUqIdeal.nD Cert.AdamUqIdeal.τ).loc Cert.AdamUqIdeal.main_v0_0) = v0 c
          ∧ r.2.mem ((c.tc : Thread Cert.AdamUqIdeal.nD Cert.AdamUqIdeal.τ).loc Cert.AdamUqIdeal.main_v0_1) = v1 c
          ∧ r.2.mem ((c.tc : Thread Cert.AdamUqIdeal.nD Cert.AdamUqIdeal.τ).loc Cert.AdamUqIdeal.main_v0_2) = v2 c
          ∧ r.2.mem ((c.tc : Thread Cert.AdamUqIdeal.nD Cert.AdamUqIdeal.τ).loc Cert.AdamUqIdeal.main_v0_3) = v3 c
          ∧ r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
          ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
          ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
          ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3)
          ∧ r.2.mem ((c.tc : Thread Cert.AdamUqIdeal.nD Cert.AdamUqIdeal.τ).loc Cert.AdamUqIdeal.main_arg4) = m ((c.tc : Thread Cert.AdamUqIdeal.nD Cert.AdamUqIdeal.τ).loc Cert.AdamUqIdeal.main_arg4)
          ∧ r.2.mem ((c.tc : Thread Cert.AdamUqIdeal.nD Cert.AdamUqIdeal.τ).loc Cert.AdamUqIdeal.main_arg5) = m ((c.tc : Thread Cert.AdamUqIdeal.nD Cert.AdamUqIdeal.τ).loc Cert.AdamUqIdeal.main_arg5))
      ∧ θ_run (Cert.RefAdamUqIdeal.defs (F := Ideal)) (onTc (τ := Cert.RefAdamUqIdeal.τ) (Cert.RefAdamUqIdeal.main (F := Ideal))) ⟨m', fun _ => 0, g'⟩ (fun r => ∀ c : Dev Cert.RefAdamUqIdeal.nD,
          r.2.mem ((c.tc : Thread Cert.RefAdamUqIdeal.nD Cert.RefAdamUqIdeal.τ).loc Cert.RefAdamUqIdeal.main_v8) = v0 c
          ∧ r.2.mem ((c.tc : Thread Cert.RefAdamUqIdeal.nD Cert.RefAdamUqIdeal.τ).loc Cert.RefAdamUqIdeal.main_v32) = v1 c
          ∧ r.2.mem ((c.tc : Thread Cert.RefAdamUqIdeal.nD Cert.RefAdamUqIdeal.τ).loc Cert.RefAdamUqIdeal.main_v13) = v2 c
          ∧ r.2.mem ((c.tc : Thread Cert.RefAdamUqIdeal.nD Cert.RefAdamUqIdeal.τ).loc Cert.RefAdamUqIdeal.main_v19) = v3 c
          ∧ r.2.mem ((c.tc : Thread Cert.RefAdamUqIdeal.nD Cert.RefAdamUqIdeal.τ).loc Cert.RefAdamUqIdeal.main_arg0) = m' ((c.tc : Thread Cert.RefAdamUqIdeal.nD Cert.RefAdamUqIdeal.τ).loc Cert.RefAdamUqIdeal.main_arg0)
          ∧ r.2.mem ((c.tc : Thread Cert.RefAdamUqIdeal.nD Cert.RefAdamUqIdeal.τ).loc Cert.RefAdamUqIdeal.main_arg1) = m' ((c.tc : Thread Cert.RefAdamUqIdeal.nD Cert.RefAdamUqIdeal.τ).loc Cert.RefAdamUqIdeal.main_arg1)
          ∧ r.2.mem ((c.tc : Thread Cert.RefAdamUqIdeal.nD Cert.RefAdamUqIdeal.τ).loc Cert.RefAdamUqIdeal.main_arg2) = m' ((c.tc : Thread Cert.RefAdamUqIdeal.nD Cert.RefAdamUqIdeal.τ).loc Cert.RefAdamUqIdeal.main_arg2)
          ∧ r.2.mem ((c.tc : Thread Cert.RefAdamUqIdeal.nD Cert.RefAdamUqIdeal.τ).loc Cert.RefAdamUqIdeal.main_arg3) = m' ((c.tc : Thread Cert.RefAdamUqIdeal.nD Cert.RefAdamUqIdeal.τ).loc Cert.RefAdamUqIdeal.main_arg3)
          ∧ r.2.mem ((c.tc : Thread Cert.RefAdamUqIdeal.nD Cert.RefAdamUqIdeal.τ).loc Cert.RefAdamUqIdeal.main_arg4) = m' ((c.tc : Thread Cert.RefAdamUqIdeal.nD Cert.RefAdamUqIdeal.τ).loc Cert.RefAdamUqIdeal.main_arg4)
          ∧ r.2.mem ((c.tc : Thread Cert.RefAdamUqIdeal.nD Cert.RefAdamUqIdeal.τ).loc Cert.RefAdamUqIdeal.main_arg5) = m' ((c.tc : Thread Cert.RefAdamUqIdeal.nD Cert.RefAdamUqIdeal.τ).loc Cert.RefAdamUqIdeal.main_arg5))

def preserves_AdamUkv_AdamUkvIdeal : Prop :=
  True

def algebraic_AdamUkvIdeal_RefAdamUkvIdeal [hAdamUkvIdeal : Cert.AdamUkvIdeal.Facts] [hRefAdamUkvIdeal : Cert.RefAdamUkvIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg)
    (m' : (ℓ : Loc Cert.RefAdamUkvIdeal.nD Cert.RefAdamUkvIdeal.τ Cert.RefAdamUkvIdeal.sig) → Buf (Elt Ideal) ℓ) (g' : Dev Cert.RefAdamUkvIdeal.nD → PrngReg), Pre_AdamUkvIdeal m →
    (∀ c : Dev Cert.AdamUkvIdeal.nD,
      m' ((c.tc : Thread Cert.RefAdamUkvIdeal.nD Cert.RefAdamUkvIdeal.τ).loc Cert.RefAdamUkvIdeal.main_arg0) = m ((c.tc : Thread Cert.AdamUkvIdeal.nD Cert.AdamUkvIdeal.τ).loc Cert.AdamUkvIdeal.main_arg0)
      ∧ m' ((c.tc : Thread Cert.RefAdamUkvIdeal.nD Cert.RefAdamUkvIdeal.τ).loc Cert.RefAdamUkvIdeal.main_arg1) = m ((c.tc : Thread Cert.AdamUkvIdeal.nD Cert.AdamUkvIdeal.τ).loc Cert.AdamUkvIdeal.main_arg1)
      ∧ m' ((c.tc : Thread Cert.RefAdamUkvIdeal.nD Cert.RefAdamUkvIdeal.τ).loc Cert.RefAdamUkvIdeal.main_arg2) = m ((c.tc : Thread Cert.AdamUkvIdeal.nD Cert.AdamUkvIdeal.τ).loc Cert.AdamUkvIdeal.main_arg2)
      ∧ m' ((c.tc : Thread Cert.RefAdamUkvIdeal.nD Cert.RefAdamUkvIdeal.τ).loc Cert.RefAdamUkvIdeal.main_arg3) = m ((c.tc : Thread Cert.AdamUkvIdeal.nD Cert.AdamUkvIdeal.τ).loc Cert.AdamUkvIdeal.main_arg3)
      ∧ m' ((c.tc : Thread Cert.RefAdamUkvIdeal.nD Cert.RefAdamUkvIdeal.τ).loc Cert.RefAdamUkvIdeal.main_arg4) = m ((c.tc : Thread Cert.AdamUkvIdeal.nD Cert.AdamUkvIdeal.τ).loc Cert.AdamUkvIdeal.main_arg4)
      ∧ m' ((c.tc : Thread Cert.RefAdamUkvIdeal.nD Cert.RefAdamUkvIdeal.τ).loc Cert.RefAdamUkvIdeal.main_arg5) = m ((c.tc : Thread Cert.AdamUkvIdeal.nD Cert.AdamUkvIdeal.τ).loc Cert.AdamUkvIdeal.main_arg5)) →
    ∃ (v0 : (c : Dev Cert.AdamUkvIdeal.nD) → Buf (Elt Ideal) ((c.tc : Thread Cert.AdamUkvIdeal.nD Cert.AdamUkvIdeal.τ).loc Cert.AdamUkvIdeal.main_v0_0)) (v1 : (c : Dev Cert.AdamUkvIdeal.nD) → Buf (Elt Ideal) ((c.tc : Thread Cert.AdamUkvIdeal.nD Cert.AdamUkvIdeal.τ).loc Cert.AdamUkvIdeal.main_v0_1)) (v2 : (c : Dev Cert.AdamUkvIdeal.nD) → Buf (Elt Ideal) ((c.tc : Thread Cert.AdamUkvIdeal.nD Cert.AdamUkvIdeal.τ).loc Cert.AdamUkvIdeal.main_v0_2)) (v3 : (c : Dev Cert.AdamUkvIdeal.nD) → Buf (Elt Ideal) ((c.tc : Thread Cert.AdamUkvIdeal.nD Cert.AdamUkvIdeal.τ).loc Cert.AdamUkvIdeal.main_v0_3)),
      θ_run (Cert.AdamUkvIdeal.defs (F := Ideal)) (onTc (τ := Cert.AdamUkvIdeal.τ) (Cert.AdamUkvIdeal.main (F := Ideal))) ⟨m, fun _ => 0, g⟩ (fun r => ∀ c : Dev Cert.AdamUkvIdeal.nD,
          r.2.mem ((c.tc : Thread Cert.AdamUkvIdeal.nD Cert.AdamUkvIdeal.τ).loc Cert.AdamUkvIdeal.main_v0_0) = v0 c
          ∧ r.2.mem ((c.tc : Thread Cert.AdamUkvIdeal.nD Cert.AdamUkvIdeal.τ).loc Cert.AdamUkvIdeal.main_v0_1) = v1 c
          ∧ r.2.mem ((c.tc : Thread Cert.AdamUkvIdeal.nD Cert.AdamUkvIdeal.τ).loc Cert.AdamUkvIdeal.main_v0_2) = v2 c
          ∧ r.2.mem ((c.tc : Thread Cert.AdamUkvIdeal.nD Cert.AdamUkvIdeal.τ).loc Cert.AdamUkvIdeal.main_v0_3) = v3 c
          ∧ r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
          ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
          ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
          ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3)
          ∧ r.2.mem ((c.tc : Thread Cert.AdamUkvIdeal.nD Cert.AdamUkvIdeal.τ).loc Cert.AdamUkvIdeal.main_arg4) = m ((c.tc : Thread Cert.AdamUkvIdeal.nD Cert.AdamUkvIdeal.τ).loc Cert.AdamUkvIdeal.main_arg4)
          ∧ r.2.mem ((c.tc : Thread Cert.AdamUkvIdeal.nD Cert.AdamUkvIdeal.τ).loc Cert.AdamUkvIdeal.main_arg5) = m ((c.tc : Thread Cert.AdamUkvIdeal.nD Cert.AdamUkvIdeal.τ).loc Cert.AdamUkvIdeal.main_arg5))
      ∧ θ_run (Cert.RefAdamUkvIdeal.defs (F := Ideal)) (onTc (τ := Cert.RefAdamUkvIdeal.τ) (Cert.RefAdamUkvIdeal.main (F := Ideal))) ⟨m', fun _ => 0, g'⟩ (fun r => ∀ c : Dev Cert.RefAdamUkvIdeal.nD,
          r.2.mem ((c.tc : Thread Cert.RefAdamUkvIdeal.nD Cert.RefAdamUkvIdeal.τ).loc Cert.RefAdamUkvIdeal.main_v8) = v0 c
          ∧ r.2.mem ((c.tc : Thread Cert.RefAdamUkvIdeal.nD Cert.RefAdamUkvIdeal.τ).loc Cert.RefAdamUkvIdeal.main_v32) = v1 c
          ∧ r.2.mem ((c.tc : Thread Cert.RefAdamUkvIdeal.nD Cert.RefAdamUkvIdeal.τ).loc Cert.RefAdamUkvIdeal.main_v13) = v2 c
          ∧ r.2.mem ((c.tc : Thread Cert.RefAdamUkvIdeal.nD Cert.RefAdamUkvIdeal.τ).loc Cert.RefAdamUkvIdeal.main_v19) = v3 c
          ∧ r.2.mem ((c.tc : Thread Cert.RefAdamUkvIdeal.nD Cert.RefAdamUkvIdeal.τ).loc Cert.RefAdamUkvIdeal.main_arg0) = m' ((c.tc : Thread Cert.RefAdamUkvIdeal.nD Cert.RefAdamUkvIdeal.τ).loc Cert.RefAdamUkvIdeal.main_arg0)
          ∧ r.2.mem ((c.tc : Thread Cert.RefAdamUkvIdeal.nD Cert.RefAdamUkvIdeal.τ).loc Cert.RefAdamUkvIdeal.main_arg1) = m' ((c.tc : Thread Cert.RefAdamUkvIdeal.nD Cert.RefAdamUkvIdeal.τ).loc Cert.RefAdamUkvIdeal.main_arg1)
          ∧ r.2.mem ((c.tc : Thread Cert.RefAdamUkvIdeal.nD Cert.RefAdamUkvIdeal.τ).loc Cert.RefAdamUkvIdeal.main_arg2) = m' ((c.tc : Thread Cert.RefAdamUkvIdeal.nD Cert.RefAdamUkvIdeal.τ).loc Cert.RefAdamUkvIdeal.main_arg2)
          ∧ r.2.mem ((c.tc : Thread Cert.RefAdamUkvIdeal.nD Cert.RefAdamUkvIdeal.τ).loc Cert.RefAdamUkvIdeal.main_arg3) = m' ((c.tc : Thread Cert.RefAdamUkvIdeal.nD Cert.RefAdamUkvIdeal.τ).loc Cert.RefAdamUkvIdeal.main_arg3)
          ∧ r.2.mem ((c.tc : Thread Cert.RefAdamUkvIdeal.nD Cert.RefAdamUkvIdeal.τ).loc Cert.RefAdamUkvIdeal.main_arg4) = m' ((c.tc : Thread Cert.RefAdamUkvIdeal.nD Cert.RefAdamUkvIdeal.τ).loc Cert.RefAdamUkvIdeal.main_arg4)
          ∧ r.2.mem ((c.tc : Thread Cert.RefAdamUkvIdeal.nD Cert.RefAdamUkvIdeal.τ).loc Cert.RefAdamUkvIdeal.main_arg5) = m' ((c.tc : Thread Cert.RefAdamUkvIdeal.nD Cert.RefAdamUkvIdeal.τ).loc Cert.RefAdamUkvIdeal.main_arg5))

def preserves_AdamMemKv_AdamMemKvIdeal : Prop :=
  True

def algebraic_AdamMemKvIdeal_RefAdamMemKvIdeal [hAdamMemKvIdeal : Cert.AdamMemKvIdeal.Facts] [hRefAdamMemKvIdeal : Cert.RefAdamMemKvIdeal.Facts] : Prop :=
  ∀ (m : (ℓ : Loc Cert.AdamMemKvIdeal.nD Cert.AdamMemKvIdeal.τ Cert.AdamMemKvIdeal.sig) → Buf (Elt Ideal) ℓ) (g : Dev Cert.AdamMemKvIdeal.nD → PrngReg)
    (m' : (ℓ : Loc Cert.RefAdamMemKvIdeal.nD Cert.RefAdamMemKvIdeal.τ Cert.RefAdamMemKvIdeal.sig) → Buf (Elt Ideal) ℓ) (g' : Dev Cert.RefAdamMemKvIdeal.nD → PrngReg), Pre_AdamMemKvIdeal m →
    (∀ c : Dev Cert.AdamMemKvIdeal.nD,
      m' ((c.tc : Thread Cert.RefAdamMemKvIdeal.nD Cert.RefAdamMemKvIdeal.τ).loc Cert.RefAdamMemKvIdeal.main_arg0) = m ((c.tc : Thread Cert.AdamMemKvIdeal.nD Cert.AdamMemKvIdeal.τ).loc Cert.AdamMemKvIdeal.main_arg0)
      ∧ m' ((c.tc : Thread Cert.RefAdamMemKvIdeal.nD Cert.RefAdamMemKvIdeal.τ).loc Cert.RefAdamMemKvIdeal.main_arg1) = m ((c.tc : Thread Cert.AdamMemKvIdeal.nD Cert.AdamMemKvIdeal.τ).loc Cert.AdamMemKvIdeal.main_arg1)
      ∧ m' ((c.tc : Thread Cert.RefAdamMemKvIdeal.nD Cert.RefAdamMemKvIdeal.τ).loc Cert.RefAdamMemKvIdeal.main_arg2) = m ((c.tc : Thread Cert.AdamMemKvIdeal.nD Cert.AdamMemKvIdeal.τ).loc Cert.AdamMemKvIdeal.main_arg2)
      ∧ m' ((c.tc : Thread Cert.RefAdamMemKvIdeal.nD Cert.RefAdamMemKvIdeal.τ).loc Cert.RefAdamMemKvIdeal.main_arg3) = m ((c.tc : Thread Cert.AdamMemKvIdeal.nD Cert.AdamMemKvIdeal.τ).loc Cert.AdamMemKvIdeal.main_arg3)
      ∧ m' ((c.tc : Thread Cert.RefAdamMemKvIdeal.nD Cert.RefAdamMemKvIdeal.τ).loc Cert.RefAdamMemKvIdeal.main_arg4) = m ((c.tc : Thread Cert.AdamMemKvIdeal.nD Cert.AdamMemKvIdeal.τ).loc Cert.AdamMemKvIdeal.main_arg4)
      ∧ m' ((c.tc : Thread Cert.RefAdamMemKvIdeal.nD Cert.RefAdamMemKvIdeal.τ).loc Cert.RefAdamMemKvIdeal.main_arg5) = m ((c.tc : Thread Cert.AdamMemKvIdeal.nD Cert.AdamMemKvIdeal.τ).loc Cert.AdamMemKvIdeal.main_arg5)) →
    ∃ (v0 : (c : Dev Cert.AdamMemKvIdeal.nD) → Buf (Elt Ideal) ((c.tc : Thread Cert.AdamMemKvIdeal.nD Cert.AdamMemKvIdeal.τ).loc Cert.AdamMemKvIdeal.main_v0_0)) (v1 : (c : Dev Cert.AdamMemKvIdeal.nD) → Buf (Elt Ideal) ((c.tc : Thread Cert.AdamMemKvIdeal.nD Cert.AdamMemKvIdeal.τ).loc Cert.AdamMemKvIdeal.main_v0_1)) (v2 : (c : Dev Cert.AdamMemKvIdeal.nD) → Buf (Elt Ideal) ((c.tc : Thread Cert.AdamMemKvIdeal.nD Cert.AdamMemKvIdeal.τ).loc Cert.AdamMemKvIdeal.main_v0_2)) (v3 : (c : Dev Cert.AdamMemKvIdeal.nD) → Buf (Elt Ideal) ((c.tc : Thread Cert.AdamMemKvIdeal.nD Cert.AdamMemKvIdeal.τ).loc Cert.AdamMemKvIdeal.main_v0_3)),
      θ_run (Cert.AdamMemKvIdeal.defs (F := Ideal)) (onTc (τ := Cert.AdamMemKvIdeal.τ) (Cert.AdamMemKvIdeal.main (F := Ideal))) ⟨m, fun _ => 0, g⟩ (fun r => ∀ c : Dev Cert.AdamMemKvIdeal.nD,
          r.2.mem ((c.tc : Thread Cert.AdamMemKvIdeal.nD Cert.AdamMemKvIdeal.τ).loc Cert.AdamMemKvIdeal.main_v0_0) = v0 c
          ∧ r.2.mem ((c.tc : Thread Cert.AdamMemKvIdeal.nD Cert.AdamMemKvIdeal.τ).loc Cert.AdamMemKvIdeal.main_v0_1) = v1 c
          ∧ r.2.mem ((c.tc : Thread Cert.AdamMemKvIdeal.nD Cert.AdamMemKvIdeal.τ).loc Cert.AdamMemKvIdeal.main_v0_2) = v2 c
          ∧ r.2.mem ((c.tc : Thread Cert.AdamMemKvIdeal.nD Cert.AdamMemKvIdeal.τ).loc Cert.AdamMemKvIdeal.main_v0_3) = v3 c
          ∧ r.2.mem ((c.tc : Thread Cert.AdamMemKvIdeal.nD Cert.AdamMemKvIdeal.τ).loc Cert.AdamMemKvIdeal.main_arg0) = m ((c.tc : Thread Cert.AdamMemKvIdeal.nD Cert.AdamMemKvIdeal.τ).loc Cert.AdamMemKvIdeal.main_arg0)
          ∧ r.2.mem ((c.tc : Thread Cert.AdamMemKvIdeal.nD Cert.AdamMemKvIdeal.τ).loc Cert.AdamMemKvIdeal.main_arg1) = m ((c.tc : Thread Cert.AdamMemKvIdeal.nD Cert.AdamMemKvIdeal.τ).loc Cert.AdamMemKvIdeal.main_arg1)
          ∧ r.2.mem ((c.tc : Thread Cert.AdamMemKvIdeal.nD Cert.AdamMemKvIdeal.τ).loc Cert.AdamMemKvIdeal.main_arg2) = m ((c.tc : Thread Cert.AdamMemKvIdeal.nD Cert.AdamMemKvIdeal.τ).loc Cert.AdamMemKvIdeal.main_arg2)
          ∧ r.2.mem ((c.tc : Thread Cert.AdamMemKvIdeal.nD Cert.AdamMemKvIdeal.τ).loc Cert.AdamMemKvIdeal.main_arg3) = m ((c.tc : Thread Cert.AdamMemKvIdeal.nD Cert.AdamMemKvIdeal.τ).loc Cert.AdamMemKvIdeal.main_arg3)
          ∧ r.2.mem ((c.tc : Thread Cert.AdamMemKvIdeal.nD Cert.AdamMemKvIdeal.τ).loc Cert.AdamMemKvIdeal.main_arg4) = m ((c.tc : Thread Cert.AdamMemKvIdeal.nD Cert.AdamMemKvIdeal.τ).loc Cert.AdamMemKvIdeal.main_arg4)
          ∧ r.2.mem ((c.tc : Thread Cert.AdamMemKvIdeal.nD Cert.AdamMemKvIdeal.τ).loc Cert.AdamMemKvIdeal.main_arg5) = m ((c.tc : Thread Cert.AdamMemKvIdeal.nD Cert.AdamMemKvIdeal.τ).loc Cert.AdamMemKvIdeal.main_arg5))
      ∧ θ_run (Cert.RefAdamMemKvIdeal.defs (F := Ideal)) (onTc (τ := Cert.RefAdamMemKvIdeal.τ) (Cert.RefAdamMemKvIdeal.main (F := Ideal))) ⟨m', fun _ => 0, g'⟩ (fun r => ∀ c : Dev Cert.RefAdamMemKvIdeal.nD,
          r.2.mem ((c.tc : Thread Cert.RefAdamMemKvIdeal.nD Cert.RefAdamMemKvIdeal.τ).loc Cert.RefAdamMemKvIdeal.main_v8) = v0 c
          ∧ r.2.mem ((c.tc : Thread Cert.RefAdamMemKvIdeal.nD Cert.RefAdamMemKvIdeal.τ).loc Cert.RefAdamMemKvIdeal.main_v32) = v1 c
          ∧ r.2.mem ((c.tc : Thread Cert.RefAdamMemKvIdeal.nD Cert.RefAdamMemKvIdeal.τ).loc Cert.RefAdamMemKvIdeal.main_v13) = v2 c
          ∧ r.2.mem ((c.tc : Thread Cert.RefAdamMemKvIdeal.nD Cert.RefAdamMemKvIdeal.τ).loc Cert.RefAdamMemKvIdeal.main_v19) = v3 c
          ∧ r.2.mem ((c.tc : Thread Cert.RefAdamMemKvIdeal.nD Cert.RefAdamMemKvIdeal.τ).loc Cert.RefAdamMemKvIdeal.main_arg0) = m' ((c.tc : Thread Cert.RefAdamMemKvIdeal.nD Cert.RefAdamMemKvIdeal.τ).loc Cert.RefAdamMemKvIdeal.main_arg0)
          ∧ r.2.mem ((c.tc : Thread Cert.RefAdamMemKvIdeal.nD Cert.RefAdamMemKvIdeal.τ).loc Cert.RefAdamMemKvIdeal.main_arg1) = m' ((c.tc : Thread Cert.RefAdamMemKvIdeal.nD Cert.RefAdamMemKvIdeal.τ).loc Cert.RefAdamMemKvIdeal.main_arg1)
          ∧ r.2.mem ((c.tc : Thread Cert.RefAdamMemKvIdeal.nD Cert.RefAdamMemKvIdeal.τ).loc Cert.RefAdamMemKvIdeal.main_arg2) = m' ((c.tc : Thread Cert.RefAdamMemKvIdeal.nD Cert.RefAdamMemKvIdeal.τ).loc Cert.RefAdamMemKvIdeal.main_arg2)
          ∧ r.2.mem ((c.tc : Thread Cert.RefAdamMemKvIdeal.nD Cert.RefAdamMemKvIdeal.τ).loc Cert.RefAdamMemKvIdeal.main_arg3) = m' ((c.tc : Thread Cert.RefAdamMemKvIdeal.nD Cert.RefAdamMemKvIdeal.τ).loc Cert.RefAdamMemKvIdeal.main_arg3)
          ∧ r.2.mem ((c.tc : Thread Cert.RefAdamMemKvIdeal.nD Cert.RefAdamMemKvIdeal.τ).loc Cert.RefAdamMemKvIdeal.main_arg4) = m' ((c.tc : Thread Cert.RefAdamMemKvIdeal.nD Cert.RefAdamMemKvIdeal.τ).loc Cert.RefAdamMemKvIdeal.main_arg4)
          ∧ r.2.mem ((c.tc : Thread Cert.RefAdamMemKvIdeal.nD Cert.RefAdamMemKvIdeal.τ).loc Cert.RefAdamMemKvIdeal.main_arg5) = m' ((c.tc : Thread Cert.RefAdamMemKvIdeal.nD Cert.RefAdamMemKvIdeal.τ).loc Cert.RefAdamMemKvIdeal.main_arg5))

def preserves_AdamOut_AdamOutIdeal : Prop :=
  True

def algebraic_AdamOutIdeal_RefAdamOutIdeal [hAdamOutIdeal : Cert.AdamOutIdeal.Facts] [hRefAdamOutIdeal : Cert.RefAdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.RefAdamOutIdeal.nD Cert.RefAdamOutIdeal.τ Cert.RefAdamOutIdeal.sig) → Buf (Elt Ideal) ℓ) (g' : Dev Cert.RefAdamOutIdeal.nD → PrngReg), Pre_AdamOutIdeal m →
    (∀ c : Dev Cert.AdamOutIdeal.nD,
      m' ((c.tc : Thread Cert.RefAdamOutIdeal.nD Cert.RefAdamOutIdeal.τ).loc Cert.RefAdamOutIdeal.main_arg0) = m ((c.tc : Thread Cert.AdamOutIdeal.nD Cert.AdamOutIdeal.τ).loc Cert.AdamOutIdeal.main_arg0)
      ∧ m' ((c.tc : Thread Cert.RefAdamOutIdeal.nD Cert.RefAdamOutIdeal.τ).loc Cert.RefAdamOutIdeal.main_arg1) = m ((c.tc : Thread Cert.AdamOutIdeal.nD Cert.AdamOutIdeal.τ).loc Cert.AdamOutIdeal.main_arg1)
      ∧ m' ((c.tc : Thread Cert.RefAdamOutIdeal.nD Cert.RefAdamOutIdeal.τ).loc Cert.RefAdamOutIdeal.main_arg2) = m ((c.tc : Thread Cert.AdamOutIdeal.nD Cert.AdamOutIdeal.τ).loc Cert.AdamOutIdeal.main_arg2)
      ∧ m' ((c.tc : Thread Cert.RefAdamOutIdeal.nD Cert.RefAdamOutIdeal.τ).loc Cert.RefAdamOutIdeal.main_arg3) = m ((c.tc : Thread Cert.AdamOutIdeal.nD Cert.AdamOutIdeal.τ).loc Cert.AdamOutIdeal.main_arg3)
      ∧ m' ((c.tc : Thread Cert.RefAdamOutIdeal.nD Cert.RefAdamOutIdeal.τ).loc Cert.RefAdamOutIdeal.main_arg4) = m ((c.tc : Thread Cert.AdamOutIdeal.nD Cert.AdamOutIdeal.τ).loc Cert.AdamOutIdeal.main_arg4)
      ∧ m' ((c.tc : Thread Cert.RefAdamOutIdeal.nD Cert.RefAdamOutIdeal.τ).loc Cert.RefAdamOutIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.RefAdamOutIdeal.defs (F := Ideal)) (onTc (τ := Cert.RefAdamOutIdeal.τ) (Cert.RefAdamOutIdeal.main (F := Ideal))) ⟨m', fun _ => 0, g'⟩ (fun r => ∀ c : Dev Cert.RefAdamOutIdeal.nD,
          r.2.mem ((c.tc : Thread Cert.RefAdamOutIdeal.nD Cert.RefAdamOutIdeal.τ).loc Cert.RefAdamOutIdeal.main_v8) = v0 c
          ∧ r.2.mem ((c.tc : Thread Cert.RefAdamOutIdeal.nD Cert.RefAdamOutIdeal.τ).loc Cert.RefAdamOutIdeal.main_v32) = v1 c
          ∧ r.2.mem ((c.tc : Thread Cert.RefAdamOutIdeal.nD Cert.RefAdamOutIdeal.τ).loc Cert.RefAdamOutIdeal.main_v13) = v2 c
          ∧ r.2.mem ((c.tc : Thread Cert.RefAdamOutIdeal.nD Cert.RefAdamOutIdeal.τ).loc Cert.RefAdamOutIdeal.main_v19) = v3 c
          ∧ r.2.mem ((c.tc : Thread Cert.RefAdamOutIdeal.nD Cert.RefAdamOutIdeal.τ).loc Cert.RefAdamOutIdeal.main_arg0) = m' ((c.tc : Thread Cert.RefAdamOutIdeal.nD Cert.RefAdamOutIdeal.τ).loc Cert.RefAdamOutIdeal.main_arg0)
          ∧ r.2.mem ((c.tc : Thread Cert.RefAdamOutIdeal.nD Cert.RefAdamOutIdeal.τ).loc Cert.RefAdamOutIdeal.main_arg1) = m' ((c.tc : Thread Cert.RefAdamOutIdeal.nD Cert.RefAdamOutIdeal.τ).loc Cert.RefAdamOutIdeal.main_arg1)
          ∧ r.2.mem ((c.tc : Thread Cert.RefAdamOutIdeal.nD Cert.RefAdamOutIdeal.τ).loc Cert.RefAdamOutIdeal.main_arg2) = m' ((c.tc : Thread Cert.RefAdamOutIdeal.nD Cert.RefAdamOutIdeal.τ).loc Cert.RefAdamOutIdeal.main_arg2)
          ∧ r.2.mem ((c.tc : Thread Cert.RefAdamOutIdeal.nD Cert.RefAdamOutIdeal.τ).loc Cert.RefAdamOutIdeal.main_arg3) = m' ((c.tc : Thread Cert.RefAdamOutIdeal.nD Cert.RefAdamOutIdeal.τ).loc Cert.RefAdamOutIdeal.main_arg3)
          ∧ r.2.mem ((c.tc : Thread Cert.RefAdamOutIdeal.nD Cert.RefAdamOutIdeal.τ).loc Cert.RefAdamOutIdeal.main_arg4) = m' ((c.tc : Thread Cert.RefAdamOutIdeal.nD Cert.RefAdamOutIdeal.τ).loc Cert.RefAdamOutIdeal.main_arg4)
          ∧ r.2.mem ((c.tc : Thread Cert.RefAdamOutIdeal.nD Cert.RefAdamOutIdeal.τ).loc Cert.RefAdamOutIdeal.main_arg5) = m' ((c.tc : Thread Cert.RefAdamOutIdeal.nD Cert.RefAdamOutIdeal.τ).loc Cert.RefAdamOutIdeal.main_arg5))

def preserves_AdamGate_AdamGateIdeal : Prop :=
  True

def algebraic_AdamGateIdeal_RefAdamGateIdeal [hAdamGateIdeal : Cert.AdamGateIdeal.Facts] [hRefAdamGateIdeal : Cert.RefAdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.RefAdamGateIdeal.nD Cert.RefAdamGateIdeal.τ Cert.RefAdamGateIdeal.sig) → Buf (Elt Ideal) ℓ) (g' : Dev Cert.RefAdamGateIdeal.nD → PrngReg), Pre_AdamGateIdeal m →
    (∀ c : Dev Cert.AdamGateIdeal.nD,
      m' ((c.tc : Thread Cert.RefAdamGateIdeal.nD Cert.RefAdamGateIdeal.τ).loc Cert.RefAdamGateIdeal.main_arg0) = m ((c.tc : Thread Cert.AdamGateIdeal.nD Cert.AdamGateIdeal.τ).loc Cert.AdamGateIdeal.main_arg0)
      ∧ m' ((c.tc : Thread Cert.RefAdamGateIdeal.nD Cert.RefAdamGateIdeal.τ).loc Cert.RefAdamGateIdeal.main_arg1) = m ((c.tc : Thread Cert.AdamGateIdeal.nD Cert.AdamGateIdeal.τ).loc Cert.AdamGateIdeal.main_arg1)
      ∧ m' ((c.tc : Thread Cert.RefAdamGateIdeal.nD Cert.RefAdamGateIdeal.τ).loc Cert.RefAdamGateIdeal.main_arg2) = m ((c.tc : Thread Cert.AdamGateIdeal.nD Cert.AdamGateIdeal.τ).loc Cert.AdamGateIdeal.main_arg2)
      ∧ m' ((c.tc : Thread Cert.RefAdamGateIdeal.nD Cert.RefAdamGateIdeal.τ).loc Cert.RefAdamGateIdeal.main_arg3) = m ((c.tc : Thread Cert.AdamGateIdeal.nD Cert.AdamGateIdeal.τ).loc Cert.AdamGateIdeal.main_arg3)
      ∧ m' ((c.tc : Thread Cert.RefAdamGateIdeal.nD Cert.RefAdamGateIdeal.τ).loc Cert.RefAdamGateIdeal.main_arg4) = m ((c.tc : Thread Cert.AdamGateIdeal.nD Cert.AdamGateIdeal.τ).loc Cert.AdamGateIdeal.main_arg4)
      ∧ m' ((c.tc : Thread Cert.RefAdamGateIdeal.nD Cert.RefAdamGateIdeal.τ).loc Cert.RefAdamGateIdeal.main_arg5) = m ((c.tc : Thread Cert.AdamGateIdeal.nD Cert.AdamGateIdeal.τ).loc Cert.AdamGateIdeal.main_arg5)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
          ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4)
          ∧ r.2.mem ((c.tc : Thread Cert.AdamGateIdeal.nD Cert.AdamGateIdeal.τ).loc Cert.AdamGateIdeal.main_arg5) = m ((c.tc : Thread Cert.AdamGateIdeal.nD Cert.AdamGateIdeal.τ).loc Cert.AdamGateIdeal.main_arg5))
      ∧ θ_run (Cert.RefAdamGateIdeal.defs (F := Ideal)) (onTc (τ := Cert.RefAdamGateIdeal.τ) (Cert.RefAdamGateIdeal.main (F := Ideal))) ⟨m', fun _ => 0, g'⟩ (fun r => ∀ c : Dev Cert.RefAdamGateIdeal.nD,
          r.2.mem ((c.tc : Thread Cert.RefAdamGateIdeal.nD Cert.RefAdamGateIdeal.τ).loc Cert.RefAdamGateIdeal.main_v8) = v0 c
          ∧ r.2.mem ((c.tc : Thread Cert.RefAdamGateIdeal.nD Cert.RefAdamGateIdeal.τ).loc Cert.RefAdamGateIdeal.main_v32) = v1 c
          ∧ r.2.mem ((c.tc : Thread Cert.RefAdamGateIdeal.nD Cert.RefAdamGateIdeal.τ).loc Cert.RefAdamGateIdeal.main_v13) = v2 c
          ∧ r.2.mem ((c.tc : Thread Cert.RefAdamGateIdeal.nD Cert.RefAdamGateIdeal.τ).loc Cert.RefAdamGateIdeal.main_v19) = v3 c
          ∧ r.2.mem ((c.tc : Thread Cert.RefAdamGateIdeal.nD Cert.RefAdamGateIdeal.τ).loc Cert.RefAdamGateIdeal.main_arg0) = m' ((c.tc : Thread Cert.RefAdamGateIdeal.nD Cert.RefAdamGateIdeal.τ).loc Cert.RefAdamGateIdeal.main_arg0)
          ∧ r.2.mem ((c.tc : Thread Cert.RefAdamGateIdeal.nD Cert.RefAdamGateIdeal.τ).loc Cert.RefAdamGateIdeal.main_arg1) = m' ((c.tc : Thread Cert.RefAdamGateIdeal.nD Cert.RefAdamGateIdeal.τ).loc Cert.RefAdamGateIdeal.main_arg1)
          ∧ r.2.mem ((c.tc : Thread Cert.RefAdamGateIdeal.nD Cert.RefAdamGateIdeal.τ).loc Cert.RefAdamGateIdeal.main_arg2) = m' ((c.tc : Thread Cert.RefAdamGateIdeal.nD Cert.RefAdamGateIdeal.τ).loc Cert.RefAdamGateIdeal.main_arg2)
          ∧ r.2.mem ((c.tc : Thread Cert.RefAdamGateIdeal.nD Cert.RefAdamGateIdeal.τ).loc Cert.RefAdamGateIdeal.main_arg3) = m' ((c.tc : Thread Cert.RefAdamGateIdeal.nD Cert.RefAdamGateIdeal.τ).loc Cert.RefAdamGateIdeal.main_arg3)
          ∧ r.2.mem ((c.tc : Thread Cert.RefAdamGateIdeal.nD Cert.RefAdamGateIdeal.τ).loc Cert.RefAdamGateIdeal.main_arg4) = m' ((c.tc : Thread Cert.RefAdamGateIdeal.nD Cert.RefAdamGateIdeal.τ).loc Cert.RefAdamGateIdeal.main_arg4)
          ∧ r.2.mem ((c.tc : Thread Cert.RefAdamGateIdeal.nD Cert.RefAdamGateIdeal.τ).loc Cert.RefAdamGateIdeal.main_arg5) = m' ((c.tc : Thread Cert.RefAdamGateIdeal.nD Cert.RefAdamGateIdeal.τ).loc Cert.RefAdamGateIdeal.main_arg5))

def preserves_AdamDown_AdamDownIdeal : Prop :=
  True

def algebraic_AdamDownIdeal_RefAdamDownIdeal [hAdamDownIdeal : Cert.AdamDownIdeal.Facts] [hRefAdamDownIdeal : Cert.RefAdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.RefAdamDownIdeal.nD Cert.RefAdamDownIdeal.τ Cert.RefAdamDownIdeal.sig) → Buf (Elt Ideal) ℓ) (g' : Dev Cert.RefAdamDownIdeal.nD → PrngReg), Pre_AdamDownIdeal m →
    (∀ c : Dev Cert.AdamDownIdeal.nD,
      m' ((c.tc : Thread Cert.RefAdamDownIdeal.nD Cert.RefAdamDownIdeal.τ).loc Cert.RefAdamDownIdeal.main_arg0) = m ((c.tc : Thread Cert.AdamDownIdeal.nD Cert.AdamDownIdeal.τ).loc Cert.AdamDownIdeal.main_arg0)
      ∧ m' ((c.tc : Thread Cert.RefAdamDownIdeal.nD Cert.RefAdamDownIdeal.τ).loc Cert.RefAdamDownIdeal.main_arg1) = m ((c.tc : Thread Cert.AdamDownIdeal.nD Cert.AdamDownIdeal.τ).loc Cert.AdamDownIdeal.main_arg1)
      ∧ m' ((c.tc : Thread Cert.RefAdamDownIdeal.nD Cert.RefAdamDownIdeal.τ).loc Cert.RefAdamDownIdeal.main_arg2) = m ((c.tc : Thread Cert.AdamDownIdeal.nD Cert.AdamDownIdeal.τ).loc Cert.AdamDownIdeal.main_arg2)
      ∧ m' ((c.tc : Thread Cert.RefAdamDownIdeal.nD Cert.RefAdamDownIdeal.τ).loc Cert.RefAdamDownIdeal.main_arg3) = m ((c.tc : Thread Cert.AdamDownIdeal.nD Cert.AdamDownIdeal.τ).loc Cert.AdamDownIdeal.main_arg3)
      ∧ m' ((c.tc : Thread Cert.RefAdamDownIdeal.nD Cert.RefAdamDownIdeal.τ).loc Cert.RefAdamDownIdeal.main_arg4) = m ((c.tc : Thread Cert.AdamDownIdeal.nD Cert.AdamDownIdeal.τ).loc Cert.AdamDownIdeal.main_arg4)
      ∧ m' ((c.tc : Thread Cert.RefAdamDownIdeal.nD Cert.RefAdamDownIdeal.τ).loc Cert.RefAdamDownIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.RefAdamDownIdeal.defs (F := Ideal)) (onTc (τ := Cert.RefAdamDownIdeal.τ) (Cert.RefAdamDownIdeal.main (F := Ideal))) ⟨m', fun _ => 0, g'⟩ (fun r => ∀ c : Dev Cert.RefAdamDownIdeal.nD,
          r.2.mem ((c.tc : Thread Cert.RefAdamDownIdeal.nD Cert.RefAdamDownIdeal.τ).loc Cert.RefAdamDownIdeal.main_v8) = v0 c
          ∧ r.2.mem ((c.tc : Thread Cert.RefAdamDownIdeal.nD Cert.RefAdamDownIdeal.τ).loc Cert.RefAdamDownIdeal.main_v32) = v1 c
          ∧ r.2.mem ((c.tc : Thread Cert.RefAdamDownIdeal.nD Cert.RefAdamDownIdeal.τ).loc Cert.RefAdamDownIdeal.main_v13) = v2 c
          ∧ r.2.mem ((c.tc : Thread Cert.RefAdamDownIdeal.nD Cert.RefAdamDownIdeal.τ).loc Cert.RefAdamDownIdeal.main_v19) = v3 c
          ∧ r.2.mem ((c.tc : Thread Cert.RefAdamDownIdeal.nD Cert.RefAdamDownIdeal.τ).loc Cert.RefAdamDownIdeal.main_arg0) = m' ((c.tc : Thread Cert.RefAdamDownIdeal.nD Cert.RefAdamDownIdeal.τ).loc Cert.RefAdamDownIdeal.main_arg0)
          ∧ r.2.mem ((c.tc : Thread Cert.RefAdamDownIdeal.nD Cert.RefAdamDownIdeal.τ).loc Cert.RefAdamDownIdeal.main_arg1) = m' ((c.tc : Thread Cert.RefAdamDownIdeal.nD Cert.RefAdamDownIdeal.τ).loc Cert.RefAdamDownIdeal.main_arg1)
          ∧ r.2.mem ((c.tc : Thread Cert.RefAdamDownIdeal.nD Cert.RefAdamDownIdeal.τ).loc Cert.RefAdamDownIdeal.main_arg2) = m' ((c.tc : Thread Cert.RefAdamDownIdeal.nD Cert.RefAdamDownIdeal.τ).loc Cert.RefAdamDownIdeal.main_arg2)
          ∧ r.2.mem ((c.tc : Thread Cert.RefAdamDownIdeal.nD Cert.RefAdamDownIdeal.τ).loc Cert.RefAdamDownIdeal.main_arg3) = m' ((c.tc : Thread Cert.RefAdamDownIdeal.nD Cert.RefAdamDownIdeal.τ).loc Cert.RefAdamDownIdeal.main_arg3)
          ∧ r.2.mem ((c.tc : Thread Cert.RefAdamDownIdeal.nD Cert.RefAdamDownIdeal.τ).loc Cert.RefAdamDownIdeal.main_arg4) = m' ((c.tc : Thread Cert.RefAdamDownIdeal.nD Cert.RefAdamDownIdeal.τ).loc Cert.RefAdamDownIdeal.main_arg4)
          ∧ r.2.mem ((c.tc : Thread Cert.RefAdamDownIdeal.nD Cert.RefAdamDownIdeal.τ).loc Cert.RefAdamDownIdeal.main_arg5) = m' ((c.tc : Thread Cert.RefAdamDownIdeal.nD Cert.RefAdamDownIdeal.τ).loc Cert.RefAdamDownIdeal.main_arg5))

def preserves_MemKvBwd_MemKvBwdIdeal : Prop :=
  True

def algebraic_MemKvBwdIdeal_RefMemKvBwdIdeal [hMemKvBwdIdeal : Cert.MemKvBwdIdeal.Facts] [hRefMemKvBwdIdeal : Cert.RefMemKvBwdIdeal.Facts] : Prop :=
  ∀ (m : (ℓ : Loc Cert.MemKvBwdIdeal.nD Cert.MemKvBwdIdeal.τ Cert.MemKvBwdIdeal.sig) → Buf (Elt Ideal) ℓ) (g : Dev Cert.MemKvBwdIdeal.nD → PrngReg)
    (m' : (ℓ : Loc Cert.RefMemKvBwdIdeal.nD Cert.RefMemKvBwdIdeal.τ Cert.RefMemKvBwdIdeal.sig) → Buf (Elt Ideal) ℓ) (g' : Dev Cert.RefMemKvBwdIdeal.nD → PrngReg), Pre_MemKvBwdIdeal m →
    (∀ c : Dev Cert.MemKvBwdIdeal.nD,
      m' ((c.tc : Thread Cert.RefMemKvBwdIdeal.nD Cert.RefMemKvBwdIdeal.τ).loc Cert.RefMemKvBwdIdeal.main_arg0) = m ((c.tc : Thread Cert.MemKvBwdIdeal.nD Cert.MemKvBwdIdeal.τ).loc Cert.MemKvBwdIdeal.main_arg0)
      ∧ m' ((c.tc : Thread Cert.RefMemKvBwdIdeal.nD Cert.RefMemKvBwdIdeal.τ).loc Cert.RefMemKvBwdIdeal.main_arg1) = m ((c.tc : Thread Cert.MemKvBwdIdeal.nD Cert.MemKvBwdIdeal.τ).loc Cert.MemKvBwdIdeal.main_arg1)
      ∧ m' ((c.tc : Thread Cert.RefMemKvBwdIdeal.nD Cert.RefMemKvBwdIdeal.τ).loc Cert.RefMemKvBwdIdeal.main_arg2) = m ((c.tc : Thread Cert.MemKvBwdIdeal.nD Cert.MemKvBwdIdeal.τ).loc Cert.MemKvBwdIdeal.main_arg2)
      ∧ m' ((c.tc : Thread Cert.RefMemKvBwdIdeal.nD Cert.RefMemKvBwdIdeal.τ).loc Cert.RefMemKvBwdIdeal.main_arg3) = m ((c.tc : Thread Cert.MemKvBwdIdeal.nD Cert.MemKvBwdIdeal.τ).loc Cert.MemKvBwdIdeal.main_arg3)
      ∧ m' ((c.tc : Thread Cert.RefMemKvBwdIdeal.nD Cert.RefMemKvBwdIdeal.τ).loc Cert.RefMemKvBwdIdeal.main_arg4) = m ((c.tc : Thread Cert.MemKvBwdIdeal.nD Cert.MemKvBwdIdeal.τ).loc Cert.MemKvBwdIdeal.main_arg4)
      ∧ m' ((c.tc : Thread Cert.RefMemKvBwdIdeal.nD Cert.RefMemKvBwdIdeal.τ).loc Cert.RefMemKvBwdIdeal.main_arg5) = m ((c.tc : Thread Cert.MemKvBwdIdeal.nD Cert.MemKvBwdIdeal.τ).loc Cert.MemKvBwdIdeal.main_arg5)) →
    ∃ (v0 : (c : Dev Cert.MemKvBwdIdeal.nD) → Buf (Elt Ideal) ((c.tc : Thread Cert.MemKvBwdIdeal.nD Cert.MemKvBwdIdeal.τ).loc Cert.MemKvBwdIdeal.main_v35_0)) (v1 : (c : Dev Cert.MemKvBwdIdeal.nD) → Buf (Elt Ideal) ((c.tc : Thread Cert.MemKvBwdIdeal.nD Cert.MemKvBwdIdeal.τ).loc Cert.MemKvBwdIdeal.main_v35_1)) (v2 : (c : Dev Cert.MemKvBwdIdeal.nD) → Buf (Elt Ideal) ((c.tc : Thread Cert.MemKvBwdIdeal.nD Cert.MemKvBwdIdeal.τ).loc Cert.MemKvBwdIdeal.main_v35_2)),
      θ_run (Cert.MemKvBwdIdeal.defs (F := Ideal)) (onTc (τ := Cert.MemKvBwdIdeal.τ) (Cert.MemKvBwdIdeal.main (F := Ideal))) ⟨m, fun _ => 0, g⟩ (fun r => ∀ c : Dev Cert.MemKvBwdIdeal.nD,
          r.2.mem ((c.tc : Thread Cert.MemKvBwdIdeal.nD Cert.MemKvBwdIdeal.τ).loc Cert.MemKvBwdIdeal.main_v35_0) = v0 c
          ∧ r.2.mem ((c.tc : Thread Cert.MemKvBwdIdeal.nD Cert.MemKvBwdIdeal.τ).loc Cert.MemKvBwdIdeal.main_v35_1) = v1 c
          ∧ r.2.mem ((c.tc : Thread Cert.MemKvBwdIdeal.nD Cert.MemKvBwdIdeal.τ).loc Cert.MemKvBwdIdeal.main_v35_2) = v2 c
          ∧ r.2.mem ((c.tc : Thread Cert.MemKvBwdIdeal.nD Cert.MemKvBwdIdeal.τ).loc Cert.MemKvBwdIdeal.main_arg0) = m ((c.tc : Thread Cert.MemKvBwdIdeal.nD Cert.MemKvBwdIdeal.τ).loc Cert.MemKvBwdIdeal.main_arg0)
          ∧ r.2.mem ((c.tc : Thread Cert.MemKvBwdIdeal.nD Cert.MemKvBwdIdeal.τ).loc Cert.MemKvBwdIdeal.main_arg1) = m ((c.tc : Thread Cert.MemKvBwdIdeal.nD Cert.MemKvBwdIdeal.τ).loc Cert.MemKvBwdIdeal.main_arg1)
          ∧ r.2.mem ((c.tc : Thread Cert.MemKvBwdIdeal.nD Cert.MemKvBwdIdeal.τ).loc Cert.MemKvBwdIdeal.main_arg2) = m ((c.tc : Thread Cert.MemKvBwdIdeal.nD Cert.MemKvBwdIdeal.τ).loc Cert.MemKvBwdIdeal.main_arg2)
          ∧ r.2.mem ((c.tc : Thread Cert.MemKvBwdIdeal.nD Cert.MemKvBwdIdeal.τ).loc Cert.MemKvBwdIdeal.main_arg3) = m ((c.tc : Thread Cert.MemKvBwdIdeal.nD Cert.MemKvBwdIdeal.τ).loc Cert.MemKvBwdIdeal.main_arg3)
          ∧ r.2.mem ((c.tc : Thread Cert.MemKvBwdIdeal.nD Cert.MemKvBwdIdeal.τ).loc Cert.MemKvBwdIdeal.main_arg4) = m ((c.tc : Thread Cert.MemKvBwdIdeal.nD Cert.MemKvBwdIdeal.τ).loc Cert.MemKvBwdIdeal.main_arg4)
          ∧ r.2.mem ((c.tc : Thread Cert.MemKvBwdIdeal.nD Cert.MemKvBwdIdeal.τ).loc Cert.MemKvBwdIdeal.main_arg5) = m ((c.tc : Thread Cert.MemKvBwdIdeal.nD Cert.MemKvBwdIdeal.τ).loc Cert.MemKvBwdIdeal.main_arg5))
      ∧ θ_run (Cert.RefMemKvBwdIdeal.defs (F := Ideal)) (onTc (τ := Cert.RefMemKvBwdIdeal.τ) (Cert.RefMemKvBwdIdeal.main (F := Ideal))) ⟨m', fun _ => 0, g'⟩ (fun r => ∀ c : Dev Cert.RefMemKvBwdIdeal.nD,
          r.2.mem ((c.tc : Thread Cert.RefMemKvBwdIdeal.nD Cert.RefMemKvBwdIdeal.τ).loc Cert.RefMemKvBwdIdeal.main_v67) = v0 c
          ∧ r.2.mem ((c.tc : Thread Cert.RefMemKvBwdIdeal.nD Cert.RefMemKvBwdIdeal.τ).loc Cert.RefMemKvBwdIdeal.main_v71) = v1 c
          ∧ r.2.mem ((c.tc : Thread Cert.RefMemKvBwdIdeal.nD Cert.RefMemKvBwdIdeal.τ).loc Cert.RefMemKvBwdIdeal.main_v47) = v2 c
          ∧ r.2.mem ((c.tc : Thread Cert.RefMemKvBwdIdeal.nD Cert.RefMemKvBwdIdeal.τ).loc Cert.RefMemKvBwdIdeal.main_arg0) = m' ((c.tc : Thread Cert.RefMemKvBwdIdeal.nD Cert.RefMemKvBwdIdeal.τ).loc Cert.RefMemKvBwdIdeal.main_arg0)
          ∧ r.2.mem ((c.tc : Thread Cert.RefMemKvBwdIdeal.nD Cert.RefMemKvBwdIdeal.τ).loc Cert.RefMemKvBwdIdeal.main_arg1) = m' ((c.tc : Thread Cert.RefMemKvBwdIdeal.nD Cert.RefMemKvBwdIdeal.τ).loc Cert.RefMemKvBwdIdeal.main_arg1)
          ∧ r.2.mem ((c.tc : Thread Cert.RefMemKvBwdIdeal.nD Cert.RefMemKvBwdIdeal.τ).loc Cert.RefMemKvBwdIdeal.main_arg2) = m' ((c.tc : Thread Cert.RefMemKvBwdIdeal.nD Cert.RefMemKvBwdIdeal.τ).loc Cert.RefMemKvBwdIdeal.main_arg2)
          ∧ r.2.mem ((c.tc : Thread Cert.RefMemKvBwdIdeal.nD Cert.RefMemKvBwdIdeal.τ).loc Cert.RefMemKvBwdIdeal.main_arg3) = m' ((c.tc : Thread Cert.RefMemKvBwdIdeal.nD Cert.RefMemKvBwdIdeal.τ).loc Cert.RefMemKvBwdIdeal.main_arg3)
          ∧ r.2.mem ((c.tc : Thread Cert.RefMemKvBwdIdeal.nD Cert.RefMemKvBwdIdeal.τ).loc Cert.RefMemKvBwdIdeal.main_arg4) = m' ((c.tc : Thread Cert.RefMemKvBwdIdeal.nD Cert.RefMemKvBwdIdeal.τ).loc Cert.RefMemKvBwdIdeal.main_arg4)
          ∧ r.2.mem ((c.tc : Thread Cert.RefMemKvBwdIdeal.nD Cert.RefMemKvBwdIdeal.τ).loc Cert.RefMemKvBwdIdeal.main_arg5) = m' ((c.tc : Thread Cert.RefMemKvBwdIdeal.nD Cert.RefMemKvBwdIdeal.τ).loc Cert.RefMemKvBwdIdeal.main_arg5))

def preserves_MemKv_MemKvIdeal : Prop :=
  True

def algebraic_MemKvIdeal_RefMemKvIdeal [hMemKvIdeal : Cert.MemKvIdeal.Facts] [hRefMemKvIdeal : Cert.RefMemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.RefMemKvIdeal.nD Cert.RefMemKvIdeal.τ Cert.RefMemKvIdeal.sig) → Buf (Elt Ideal) ℓ) (g' : Dev Cert.RefMemKvIdeal.nD → PrngReg), Pre_MemKvIdeal m →
    (∀ c : Dev Cert.MemKvIdeal.nD,
      m' ((c.tc : Thread Cert.RefMemKvIdeal.nD Cert.RefMemKvIdeal.τ).loc Cert.RefMemKvIdeal.main_arg0) = m ((c.tc : Thread Cert.MemKvIdeal.nD Cert.MemKvIdeal.τ).loc Cert.MemKvIdeal.main_arg0)
      ∧ m' ((c.tc : Thread Cert.RefMemKvIdeal.nD Cert.RefMemKvIdeal.τ).loc Cert.RefMemKvIdeal.main_arg1) = m ((c.tc : Thread Cert.MemKvIdeal.nD Cert.MemKvIdeal.τ).loc Cert.MemKvIdeal.main_arg1)
      ∧ m' ((c.tc : Thread Cert.RefMemKvIdeal.nD Cert.RefMemKvIdeal.τ).loc Cert.RefMemKvIdeal.main_arg2) = m ((c.tc : Thread Cert.MemKvIdeal.nD Cert.MemKvIdeal.τ).loc Cert.MemKvIdeal.main_arg2)
      ∧ m' ((c.tc : Thread Cert.RefMemKvIdeal.nD Cert.RefMemKvIdeal.τ).loc Cert.RefMemKvIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v0_0)) (v1 : (c : Dev Cert.MemKvIdeal.nD) → Buf (Elt Ideal) ((c.tc : Thread Cert.MemKvIdeal.nD Cert.MemKvIdeal.τ).loc Cert.MemKvIdeal.main_v0_1)) (v2 : (c : Dev Cert.MemKvIdeal.nD) → Buf (Elt Ideal) ((c.tc : Thread Cert.MemKvIdeal.nD Cert.MemKvIdeal.τ).loc Cert.MemKvIdeal.main_v0_2)) (v3 : (c : Dev Cert.MemKvIdeal.nD) → Buf (Elt Ideal) ((c.tc : Thread Cert.MemKvIdeal.nD Cert.MemKvIdeal.τ).loc Cert.MemKvIdeal.main_v0_3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0_0) = v0 c
          ∧ r.2.mem ((c.tc : Thread Cert.MemKvIdeal.nD Cert.MemKvIdeal.τ).loc Cert.MemKvIdeal.main_v0_1) = v1 c
          ∧ r.2.mem ((c.tc : Thread Cert.MemKvIdeal.nD Cert.MemKvIdeal.τ).loc Cert.MemKvIdeal.main_v0_2) = v2 c
          ∧ r.2.mem ((c.tc : Thread Cert.MemKvIdeal.nD Cert.MemKvIdeal.τ).loc Cert.MemKvIdeal.main_v0_3) = v3 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.RefMemKvIdeal.defs (F := Ideal)) (onTc (τ := Cert.RefMemKvIdeal.τ) (Cert.RefMemKvIdeal.main (F := Ideal))) ⟨m', fun _ => 0, g'⟩ (fun r => ∀ c : Dev Cert.RefMemKvIdeal.nD,
          r.2.mem ((c.tc : Thread Cert.RefMemKvIdeal.nD Cert.RefMemKvIdeal.τ).loc Cert.RefMemKvIdeal.main_v34) = v0 c
          ∧ r.2.mem ((c.tc : Thread Cert.RefMemKvIdeal.nD Cert.RefMemKvIdeal.τ).loc Cert.RefMemKvIdeal.main_v13) = v1 c
          ∧ r.2.mem ((c.tc : Thread Cert.RefMemKvIdeal.nD Cert.RefMemKvIdeal.τ).loc Cert.RefMemKvIdeal.main_v35) = v2 c
          ∧ r.2.mem ((c.tc : Thread Cert.RefMemKvIdeal.nD Cert.RefMemKvIdeal.τ).loc Cert.RefMemKvIdeal.main_v36) = v3 c
          ∧ r.2.mem ((c.tc : Thread Cert.RefMemKvIdeal.nD Cert.RefMemKvIdeal.τ).loc Cert.RefMemKvIdeal.main_arg0) = m' ((c.tc : Thread Cert.RefMemKvIdeal.nD Cert.RefMemKvIdeal.τ).loc Cert.RefMemKvIdeal.main_arg0)
          ∧ r.2.mem ((c.tc : Thread Cert.RefMemKvIdeal.nD Cert.RefMemKvIdeal.τ).loc Cert.RefMemKvIdeal.main_arg1) = m' ((c.tc : Thread Cert.RefMemKvIdeal.nD Cert.RefMemKvIdeal.τ).loc Cert.RefMemKvIdeal.main_arg1)
          ∧ r.2.mem ((c.tc : Thread Cert.RefMemKvIdeal.nD Cert.RefMemKvIdeal.τ).loc Cert.RefMemKvIdeal.main_arg2) = m' ((c.tc : Thread Cert.RefMemKvIdeal.nD Cert.RefMemKvIdeal.τ).loc Cert.RefMemKvIdeal.main_arg2)
          ∧ r.2.mem ((c.tc : Thread Cert.RefMemKvIdeal.nD Cert.RefMemKvIdeal.τ).loc Cert.RefMemKvIdeal.main_arg3) = m' ((c.tc : Thread Cert.RefMemKvIdeal.nD Cert.RefMemKvIdeal.τ).loc Cert.RefMemKvIdeal.main_arg3))

def preserves_MemAttn_MemAttnIdeal : Prop :=
  True

def algebraic_MemAttnIdeal_RefMemAttnIdeal_pre_finite_fwd [hMemAttnIdeal : Cert.MemAttnIdeal.Facts] [hRefMemAttnIdeal : Cert.RefMemAttnIdeal.Facts] [hPre_finite_fwd : Cert.Pre_finite_fwd.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.RefMemAttnIdeal.nD Cert.RefMemAttnIdeal.τ Cert.RefMemAttnIdeal.sig) → Buf (Elt Ideal) ℓ) (g' : Dev Cert.RefMemAttnIdeal.nD → PrngReg), Pre_MemAttnIdeal_finite_fwd m →
    (∀ c : Dev Cert.MemAttnIdeal.nD,
      m' ((c.tc : Thread Cert.RefMemAttnIdeal.nD Cert.RefMemAttnIdeal.τ).loc Cert.RefMemAttnIdeal.main_arg0) = m ((c.tc : Thread Cert.MemAttnIdeal.nD Cert.MemAttnIdeal.τ).loc Cert.MemAttnIdeal.main_arg0)
      ∧ m' ((c.tc : Thread Cert.RefMemAttnIdeal.nD Cert.RefMemAttnIdeal.τ).loc Cert.RefMemAttnIdeal.main_arg1) = m ((c.tc : Thread Cert.MemAttnIdeal.nD Cert.MemAttnIdeal.τ).loc Cert.MemAttnIdeal.main_arg1)
      ∧ m' ((c.tc : Thread Cert.RefMemAttnIdeal.nD Cert.RefMemAttnIdeal.τ).loc Cert.RefMemAttnIdeal.main_arg2) = m ((c.tc : Thread Cert.MemAttnIdeal.nD Cert.MemAttnIdeal.τ).loc Cert.MemAttnIdeal.main_arg2)
      ∧ m' ((c.tc : Thread Cert.RefMemAttnIdeal.nD Cert.RefMemAttnIdeal.τ).loc Cert.RefMemAttnIdeal.main_arg3) = m ((c.tc : Thread Cert.MemAttnIdeal.nD Cert.MemAttnIdeal.τ).loc Cert.MemAttnIdeal.main_arg3)) →
    ∃ (v0 : (c : Dev Cert.MemAttnIdeal.nD) → Buf (Elt Ideal) ((c.tc : Thread Cert.MemAttnIdeal.nD Cert.MemAttnIdeal.τ).loc Cert.MemAttnIdeal.main_v0_0)) (v1 : (c : Dev Cert.MemAttnIdeal.nD) → Buf (Elt Ideal) ((c.tc : Thread Cert.MemAttnIdeal.nD Cert.MemAttnIdeal.τ).loc Cert.MemAttnIdeal.main_v0_1)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0_0) = v0 c
          ∧ r.2.mem ((c.tc : Thread Cert.MemAttnIdeal.nD Cert.MemAttnIdeal.τ).loc Cert.MemAttnIdeal.main_v0_1) = v1 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ θ_run (Cert.RefMemAttnIdeal.defs (F := Ideal)) (onTc (τ := Cert.RefMemAttnIdeal.τ) (Cert.RefMemAttnIdeal.main (F := Ideal))) ⟨m', fun _ => 0, g'⟩ (fun r => ∀ c : Dev Cert.RefMemAttnIdeal.nD,
          r.2.mem ((c.tc : Thread Cert.RefMemAttnIdeal.nD Cert.RefMemAttnIdeal.τ).loc Cert.RefMemAttnIdeal.main_v23) = v0 c
          ∧ r.2.mem ((c.tc : Thread Cert.RefMemAttnIdeal.nD Cert.RefMemAttnIdeal.τ).loc Cert.RefMemAttnIdeal.main_v26) = v1 c
          ∧ r.2.mem ((c.tc : Thread Cert.RefMemAttnIdeal.nD Cert.RefMemAttnIdeal.τ).loc Cert.RefMemAttnIdeal.main_arg0) = m' ((c.tc : Thread Cert.RefMemAttnIdeal.nD Cert.RefMemAttnIdeal.τ).loc Cert.RefMemAttnIdeal.main_arg0)
          ∧ r.2.mem ((c.tc : Thread Cert.RefMemAttnIdeal.nD Cert.RefMemAttnIdeal.τ).loc Cert.RefMemAttnIdeal.main_arg1) = m' ((c.tc : Thread Cert.RefMemAttnIdeal.nD Cert.RefMemAttnIdeal.τ).loc Cert.RefMemAttnIdeal.main_arg1)
          ∧ r.2.mem ((c.tc : Thread Cert.RefMemAttnIdeal.nD Cert.RefMemAttnIdeal.τ).loc Cert.RefMemAttnIdeal.main_arg2) = m' ((c.tc : Thread Cert.RefMemAttnIdeal.nD Cert.RefMemAttnIdeal.τ).loc Cert.RefMemAttnIdeal.main_arg2)
          ∧ r.2.mem ((c.tc : Thread Cert.RefMemAttnIdeal.nD Cert.RefMemAttnIdeal.τ).loc Cert.RefMemAttnIdeal.main_arg3) = m' ((c.tc : Thread Cert.RefMemAttnIdeal.nD Cert.RefMemAttnIdeal.τ).loc Cert.RefMemAttnIdeal.main_arg3))

def preserves_RmsFwd_RmsFwdIdeal : Prop :=
  True

def algebraic_RmsFwdIdeal_RefRmsFwdIdeal [hRmsFwdIdeal : Cert.RmsFwdIdeal.Facts] [hRefRmsFwdIdeal : Cert.RefRmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RefRmsFwdIdeal.nD Cert.RefRmsFwdIdeal.τ Cert.RefRmsFwdIdeal.sig) → Buf (Elt Ideal) ℓ) (g' : Dev Cert.RefRmsFwdIdeal.nD → PrngReg), Pre_RmsFwdIdeal m →
    (∀ c : Dev Cert.RmsFwdIdeal.nD,
      m' ((c.tc : Thread Cert.RefRmsFwdIdeal.nD Cert.RefRmsFwdIdeal.τ).loc Cert.RefRmsFwdIdeal.main_arg0) = m ((c.tc : Thread Cert.RmsFwdIdeal.nD Cert.RmsFwdIdeal.τ).loc Cert.RmsFwdIdeal.main_arg0)
      ∧ m' ((c.tc : Thread Cert.RefRmsFwdIdeal.nD Cert.RefRmsFwdIdeal.τ).loc Cert.RefRmsFwdIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RefRmsFwdIdeal.defs (F := Ideal)) (onTc (τ := Cert.RefRmsFwdIdeal.τ) (Cert.RefRmsFwdIdeal.main (F := Ideal))) ⟨m', fun _ => 0, g'⟩ (fun r => ∀ c : Dev Cert.RefRmsFwdIdeal.nD,
          r.2.mem ((c.tc : Thread Cert.RefRmsFwdIdeal.nD Cert.RefRmsFwdIdeal.τ).loc Cert.RefRmsFwdIdeal.main_v12) = v0 c
          ∧ r.2.mem ((c.tc : Thread Cert.RefRmsFwdIdeal.nD Cert.RefRmsFwdIdeal.τ).loc Cert.RefRmsFwdIdeal.main_arg0) = m' ((c.tc : Thread Cert.RefRmsFwdIdeal.nD Cert.RefRmsFwdIdeal.τ).loc Cert.RefRmsFwdIdeal.main_arg0)
          ∧ r.2.mem ((c.tc : Thread Cert.RefRmsFwdIdeal.nD Cert.RefRmsFwdIdeal.τ).loc Cert.RefRmsFwdIdeal.main_arg1) = m' ((c.tc : Thread Cert.RefRmsFwdIdeal.nD Cert.RefRmsFwdIdeal.τ).loc Cert.RefRmsFwdIdeal.main_arg1))

def preserves_ChipsIn_ChipsInIdeal : Prop :=
  True

def algebraic_ChipsInIdeal_RefChipsInIdeal [hChipsInIdeal : Cert.ChipsInIdeal.Facts] [hRefChipsInIdeal : Cert.RefChipsInIdeal.Facts] : Prop :=
  ∀ (m : (ℓ : Loc Cert.ChipsInIdeal.nD Cert.ChipsInIdeal.τ Cert.ChipsInIdeal.sig) → Buf (Elt Ideal) ℓ) (g : Dev Cert.ChipsInIdeal.nD → PrngReg)
    (m' : (ℓ : Loc Cert.RefChipsInIdeal.nD Cert.RefChipsInIdeal.τ Cert.RefChipsInIdeal.sig) → Buf (Elt Ideal) ℓ) (g' : Dev Cert.RefChipsInIdeal.nD → PrngReg), Pre_ChipsInIdeal m →
    (∀ c : Dev Cert.ChipsInIdeal.nD,
      m' ((c.tc : Thread Cert.RefChipsInIdeal.nD Cert.RefChipsInIdeal.τ).loc Cert.RefChipsInIdeal.main_arg0) = m ((c.tc : Thread Cert.ChipsInIdeal.nD Cert.ChipsInIdeal.τ).loc Cert.ChipsInIdeal.main_arg0)
      ∧ m' ((c.tc : Thread Cert.RefChipsInIdeal.nD Cert.RefChipsInIdeal.τ).loc Cert.RefChipsInIdeal.main_arg1) = m ((c.tc : Thread Cert.ChipsInIdeal.nD Cert.ChipsInIdeal.τ).loc Cert.ChipsInIdeal.main_arg1)) →
    ∃ (v0 : (c : Dev Cert.ChipsInIdeal.nD) → Buf (Elt Ideal) ((c.tc : Thread Cert.ChipsInIdeal.nD Cert.ChipsInIdeal.τ).loc Cert.ChipsInIdeal.main_v0)),
      θ_run (Cert.ChipsInIdeal.defs (F := Ideal)) (onTc (τ := Cert.ChipsInIdeal.τ) (Cert.ChipsInIdeal.main (F := Ideal))) ⟨m, fun _ => 0, g⟩ (fun r => ∀ c : Dev Cert.ChipsInIdeal.nD,
          r.2.mem ((c.tc : Thread Cert.ChipsInIdeal.nD Cert.ChipsInIdeal.τ).loc Cert.ChipsInIdeal.main_v0) = v0 c
          ∧ r.2.mem ((c.tc : Thread Cert.ChipsInIdeal.nD Cert.ChipsInIdeal.τ).loc Cert.ChipsInIdeal.main_arg0) = m ((c.tc : Thread Cert.ChipsInIdeal.nD Cert.ChipsInIdeal.τ).loc Cert.ChipsInIdeal.main_arg0)
          ∧ r.2.mem ((c.tc : Thread Cert.ChipsInIdeal.nD Cert.ChipsInIdeal.τ).loc Cert.ChipsInIdeal.main_arg1) = m ((c.tc : Thread Cert.ChipsInIdeal.nD Cert.ChipsInIdeal.τ).loc Cert.ChipsInIdeal.main_arg1))
      ∧ θ_run (Cert.RefChipsInIdeal.defs (F := Ideal)) (onTc (τ := Cert.RefChipsInIdeal.τ) (Cert.RefChipsInIdeal.main (F := Ideal))) ⟨m', fun _ => 0, g'⟩ (fun r => ∀ c : Dev Cert.RefChipsInIdeal.nD,
          r.2.mem ((c.tc : Thread Cert.RefChipsInIdeal.nD Cert.RefChipsInIdeal.τ).loc Cert.RefChipsInIdeal.main_v2) = v0 c
          ∧ r.2.mem ((c.tc : Thread Cert.RefChipsInIdeal.nD Cert.RefChipsInIdeal.τ).loc Cert.RefChipsInIdeal.main_arg0) = m' ((c.tc : Thread Cert.RefChipsInIdeal.nD Cert.RefChipsInIdeal.τ).loc Cert.RefChipsInIdeal.main_arg0)
          ∧ r.2.mem ((c.tc : Thread Cert.RefChipsInIdeal.nD Cert.RefChipsInIdeal.τ).loc Cert.RefChipsInIdeal.main_arg1) = m' ((c.tc : Thread Cert.RefChipsInIdeal.nD Cert.RefChipsInIdeal.τ).loc Cert.RefChipsInIdeal.main_arg1))

def preserves_ChipsUq_ChipsUqIdeal : Prop :=
  True

def algebraic_ChipsUqIdeal_RefChipsUqIdeal [hChipsUqIdeal : Cert.ChipsUqIdeal.Facts] [hRefChipsUqIdeal : Cert.RefChipsUqIdeal.Facts] : Prop :=
  ∀ (m : (ℓ : Loc Cert.ChipsUqIdeal.nD Cert.ChipsUqIdeal.τ Cert.ChipsUqIdeal.sig) → Buf (Elt Ideal) ℓ) (g : Dev Cert.ChipsUqIdeal.nD → PrngReg)
    (m' : (ℓ : Loc Cert.RefChipsUqIdeal.nD Cert.RefChipsUqIdeal.τ Cert.RefChipsUqIdeal.sig) → Buf (Elt Ideal) ℓ) (g' : Dev Cert.RefChipsUqIdeal.nD → PrngReg), Pre_ChipsUqIdeal m →
    (∀ c : Dev Cert.ChipsUqIdeal.nD,
      m' ((c.tc : Thread Cert.RefChipsUqIdeal.nD Cert.RefChipsUqIdeal.τ).loc Cert.RefChipsUqIdeal.main_arg0) = m ((c.tc : Thread Cert.ChipsUqIdeal.nD Cert.ChipsUqIdeal.τ).loc Cert.ChipsUqIdeal.main_arg0)
      ∧ m' ((c.tc : Thread Cert.RefChipsUqIdeal.nD Cert.RefChipsUqIdeal.τ).loc Cert.RefChipsUqIdeal.main_arg1) = m ((c.tc : Thread Cert.ChipsUqIdeal.nD Cert.ChipsUqIdeal.τ).loc Cert.ChipsUqIdeal.main_arg1)) →
    ∃ (v0 : (c : Dev Cert.ChipsUqIdeal.nD) → Buf (Elt Ideal) ((c.tc : Thread Cert.ChipsUqIdeal.nD Cert.ChipsUqIdeal.τ).loc Cert.ChipsUqIdeal.main_v0)),
      θ_run (Cert.ChipsUqIdeal.defs (F := Ideal)) (onTc (τ := Cert.ChipsUqIdeal.τ) (Cert.ChipsUqIdeal.main (F := Ideal))) ⟨m, fun _ => 0, g⟩ (fun r => ∀ c : Dev Cert.ChipsUqIdeal.nD,
          r.2.mem ((c.tc : Thread Cert.ChipsUqIdeal.nD Cert.ChipsUqIdeal.τ).loc Cert.ChipsUqIdeal.main_v0) = v0 c
          ∧ r.2.mem ((c.tc : Thread Cert.ChipsUqIdeal.nD Cert.ChipsUqIdeal.τ).loc Cert.ChipsUqIdeal.main_arg0) = m ((c.tc : Thread Cert.ChipsUqIdeal.nD Cert.ChipsUqIdeal.τ).loc Cert.ChipsUqIdeal.main_arg0)
          ∧ r.2.mem ((c.tc : Thread Cert.ChipsUqIdeal.nD Cert.ChipsUqIdeal.τ).loc Cert.ChipsUqIdeal.main_arg1) = m ((c.tc : Thread Cert.ChipsUqIdeal.nD Cert.ChipsUqIdeal.τ).loc Cert.ChipsUqIdeal.main_arg1))
      ∧ θ_run (Cert.RefChipsUqIdeal.defs (F := Ideal)) (onTc (τ := Cert.RefChipsUqIdeal.τ) (Cert.RefChipsUqIdeal.main (F := Ideal))) ⟨m', fun _ => 0, g'⟩ (fun r => ∀ c : Dev Cert.RefChipsUqIdeal.nD,
          r.2.mem ((c.tc : Thread Cert.RefChipsUqIdeal.nD Cert.RefChipsUqIdeal.τ).loc Cert.RefChipsUqIdeal.main_v2) = v0 c
          ∧ r.2.mem ((c.tc : Thread Cert.RefChipsUqIdeal.nD Cert.RefChipsUqIdeal.τ).loc Cert.RefChipsUqIdeal.main_arg0) = m' ((c.tc : Thread Cert.RefChipsUqIdeal.nD Cert.RefChipsUqIdeal.τ).loc Cert.RefChipsUqIdeal.main_arg0)
          ∧ r.2.mem ((c.tc : Thread Cert.RefChipsUqIdeal.nD Cert.RefChipsUqIdeal.τ).loc Cert.RefChipsUqIdeal.main_arg1) = m' ((c.tc : Thread Cert.RefChipsUqIdeal.nD Cert.RefChipsUqIdeal.τ).loc Cert.RefChipsUqIdeal.main_arg1))

def preserves_ChipsUkv_ChipsUkvIdeal : Prop :=
  True

def algebraic_ChipsUkvIdeal_RefChipsUkvIdeal [hChipsUkvIdeal : Cert.ChipsUkvIdeal.Facts] [hRefChipsUkvIdeal : Cert.RefChipsUkvIdeal.Facts] : Prop :=
  ∀ (m : (ℓ : Loc Cert.ChipsUkvIdeal.nD Cert.ChipsUkvIdeal.τ Cert.ChipsUkvIdeal.sig) → Buf (Elt Ideal) ℓ) (g : Dev Cert.ChipsUkvIdeal.nD → PrngReg)
    (m' : (ℓ : Loc Cert.RefChipsUkvIdeal.nD Cert.RefChipsUkvIdeal.τ Cert.RefChipsUkvIdeal.sig) → Buf (Elt Ideal) ℓ) (g' : Dev Cert.RefChipsUkvIdeal.nD → PrngReg), Pre_ChipsUkvIdeal m →
    (∀ c : Dev Cert.ChipsUkvIdeal.nD,
      m' ((c.tc : Thread Cert.RefChipsUkvIdeal.nD Cert.RefChipsUkvIdeal.τ).loc Cert.RefChipsUkvIdeal.main_arg0) = m ((c.tc : Thread Cert.ChipsUkvIdeal.nD Cert.ChipsUkvIdeal.τ).loc Cert.ChipsUkvIdeal.main_arg0)
      ∧ m' ((c.tc : Thread Cert.RefChipsUkvIdeal.nD Cert.RefChipsUkvIdeal.τ).loc Cert.RefChipsUkvIdeal.main_arg1) = m ((c.tc : Thread Cert.ChipsUkvIdeal.nD Cert.ChipsUkvIdeal.τ).loc Cert.ChipsUkvIdeal.main_arg1)) →
    ∃ (v0 : (c : Dev Cert.ChipsUkvIdeal.nD) → Buf (Elt Ideal) ((c.tc : Thread Cert.ChipsUkvIdeal.nD Cert.ChipsUkvIdeal.τ).loc Cert.ChipsUkvIdeal.main_v0)),
      θ_run (Cert.ChipsUkvIdeal.defs (F := Ideal)) (onTc (τ := Cert.ChipsUkvIdeal.τ) (Cert.ChipsUkvIdeal.main (F := Ideal))) ⟨m, fun _ => 0, g⟩ (fun r => ∀ c : Dev Cert.ChipsUkvIdeal.nD,
          r.2.mem ((c.tc : Thread Cert.ChipsUkvIdeal.nD Cert.ChipsUkvIdeal.τ).loc Cert.ChipsUkvIdeal.main_v0) = v0 c
          ∧ r.2.mem ((c.tc : Thread Cert.ChipsUkvIdeal.nD Cert.ChipsUkvIdeal.τ).loc Cert.ChipsUkvIdeal.main_arg0) = m ((c.tc : Thread Cert.ChipsUkvIdeal.nD Cert.ChipsUkvIdeal.τ).loc Cert.ChipsUkvIdeal.main_arg0)
          ∧ r.2.mem ((c.tc : Thread Cert.ChipsUkvIdeal.nD Cert.ChipsUkvIdeal.τ).loc Cert.ChipsUkvIdeal.main_arg1) = m ((c.tc : Thread Cert.ChipsUkvIdeal.nD Cert.ChipsUkvIdeal.τ).loc Cert.ChipsUkvIdeal.main_arg1))
      ∧ θ_run (Cert.RefChipsUkvIdeal.defs (F := Ideal)) (onTc (τ := Cert.RefChipsUkvIdeal.τ) (Cert.RefChipsUkvIdeal.main (F := Ideal))) ⟨m', fun _ => 0, g'⟩ (fun r => ∀ c : Dev Cert.RefChipsUkvIdeal.nD,
          r.2.mem ((c.tc : Thread Cert.RefChipsUkvIdeal.nD Cert.RefChipsUkvIdeal.τ).loc Cert.RefChipsUkvIdeal.main_v2) = v0 c
          ∧ r.2.mem ((c.tc : Thread Cert.RefChipsUkvIdeal.nD Cert.RefChipsUkvIdeal.τ).loc Cert.RefChipsUkvIdeal.main_arg0) = m' ((c.tc : Thread Cert.RefChipsUkvIdeal.nD Cert.RefChipsUkvIdeal.τ).loc Cert.RefChipsUkvIdeal.main_arg0)
          ∧ r.2.mem ((c.tc : Thread Cert.RefChipsUkvIdeal.nD Cert.RefChipsUkvIdeal.τ).loc Cert.RefChipsUkvIdeal.main_arg1) = m' ((c.tc : Thread Cert.RefChipsUkvIdeal.nD Cert.RefChipsUkvIdeal.τ).loc Cert.RefChipsUkvIdeal.main_arg1))

def preserves_ChipsMemKv_ChipsMemKvIdeal : Prop :=
  True

def algebraic_ChipsMemKvIdeal_RefChipsMemKvIdeal [hChipsMemKvIdeal : Cert.ChipsMemKvIdeal.Facts] [hRefChipsMemKvIdeal : Cert.RefChipsMemKvIdeal.Facts] : Prop :=
  ∀ (m : (ℓ : Loc Cert.ChipsMemKvIdeal.nD Cert.ChipsMemKvIdeal.τ Cert.ChipsMemKvIdeal.sig) → Buf (Elt Ideal) ℓ) (g : Dev Cert.ChipsMemKvIdeal.nD → PrngReg)
    (m' : (ℓ : Loc Cert.RefChipsMemKvIdeal.nD Cert.RefChipsMemKvIdeal.τ Cert.RefChipsMemKvIdeal.sig) → Buf (Elt Ideal) ℓ) (g' : Dev Cert.RefChipsMemKvIdeal.nD → PrngReg), Pre_ChipsMemKvIdeal m →
    (∀ c : Dev Cert.ChipsMemKvIdeal.nD,
      m' ((c.tc : Thread Cert.RefChipsMemKvIdeal.nD Cert.RefChipsMemKvIdeal.τ).loc Cert.RefChipsMemKvIdeal.main_arg0) = m ((c.tc : Thread Cert.ChipsMemKvIdeal.nD Cert.ChipsMemKvIdeal.τ).loc Cert.ChipsMemKvIdeal.main_arg0)
      ∧ m' ((c.tc : Thread Cert.RefChipsMemKvIdeal.nD Cert.RefChipsMemKvIdeal.τ).loc Cert.RefChipsMemKvIdeal.main_arg1) = m ((c.tc : Thread Cert.ChipsMemKvIdeal.nD Cert.ChipsMemKvIdeal.τ).loc Cert.ChipsMemKvIdeal.main_arg1)) →
    ∃ (v0 : (c : Dev Cert.ChipsMemKvIdeal.nD) → Buf (Elt Ideal) ((c.tc : Thread Cert.ChipsMemKvIdeal.nD Cert.ChipsMemKvIdeal.τ).loc Cert.ChipsMemKvIdeal.main_v0)),
      θ_run (Cert.ChipsMemKvIdeal.defs (F := Ideal)) (onTc (τ := Cert.ChipsMemKvIdeal.τ) (Cert.ChipsMemKvIdeal.main (F := Ideal))) ⟨m, fun _ => 0, g⟩ (fun r => ∀ c : Dev Cert.ChipsMemKvIdeal.nD,
          r.2.mem ((c.tc : Thread Cert.ChipsMemKvIdeal.nD Cert.ChipsMemKvIdeal.τ).loc Cert.ChipsMemKvIdeal.main_v0) = v0 c
          ∧ r.2.mem ((c.tc : Thread Cert.ChipsMemKvIdeal.nD Cert.ChipsMemKvIdeal.τ).loc Cert.ChipsMemKvIdeal.main_arg0) = m ((c.tc : Thread Cert.ChipsMemKvIdeal.nD Cert.ChipsMemKvIdeal.τ).loc Cert.ChipsMemKvIdeal.main_arg0)
          ∧ r.2.mem ((c.tc : Thread Cert.ChipsMemKvIdeal.nD Cert.ChipsMemKvIdeal.τ).loc Cert.ChipsMemKvIdeal.main_arg1) = m ((c.tc : Thread Cert.ChipsMemKvIdeal.nD Cert.ChipsMemKvIdeal.τ).loc Cert.ChipsMemKvIdeal.main_arg1))
      ∧ θ_run (Cert.RefChipsMemKvIdeal.defs (F := Ideal)) (onTc (τ := Cert.RefChipsMemKvIdeal.τ) (Cert.RefChipsMemKvIdeal.main (F := Ideal))) ⟨m', fun _ => 0, g'⟩ (fun r => ∀ c : Dev Cert.RefChipsMemKvIdeal.nD,
          r.2.mem ((c.tc : Thread Cert.RefChipsMemKvIdeal.nD Cert.RefChipsMemKvIdeal.τ).loc Cert.RefChipsMemKvIdeal.main_v2) = v0 c
          ∧ r.2.mem ((c.tc : Thread Cert.RefChipsMemKvIdeal.nD Cert.RefChipsMemKvIdeal.τ).loc Cert.RefChipsMemKvIdeal.main_arg0) = m' ((c.tc : Thread Cert.RefChipsMemKvIdeal.nD Cert.RefChipsMemKvIdeal.τ).loc Cert.RefChipsMemKvIdeal.main_arg0)
          ∧ r.2.mem ((c.tc : Thread Cert.RefChipsMemKvIdeal.nD Cert.RefChipsMemKvIdeal.τ).loc Cert.RefChipsMemKvIdeal.main_arg1) = m' ((c.tc : Thread Cert.RefChipsMemKvIdeal.nD Cert.RefChipsMemKvIdeal.τ).loc Cert.RefChipsMemKvIdeal.main_arg1))

def preserves_ChipsOut_ChipsOutIdeal : Prop :=
  True

def algebraic_ChipsOutIdeal_RefChipsOutIdeal [hChipsOutIdeal : Cert.ChipsOutIdeal.Facts] [hRefChipsOutIdeal : Cert.RefChipsOutIdeal.Facts] : Prop :=
  ∀ (m : (ℓ : Loc Cert.ChipsOutIdeal.nD Cert.ChipsOutIdeal.τ Cert.ChipsOutIdeal.sig) → Buf (Elt Ideal) ℓ) (g : Dev Cert.ChipsOutIdeal.nD → PrngReg)
    (m' : (ℓ : Loc Cert.RefChipsOutIdeal.nD Cert.RefChipsOutIdeal.τ Cert.RefChipsOutIdeal.sig) → Buf (Elt Ideal) ℓ) (g' : Dev Cert.RefChipsOutIdeal.nD → PrngReg), Pre_ChipsOutIdeal m →
    (∀ c : Dev Cert.ChipsOutIdeal.nD,
      m' ((c.tc : Thread Cert.RefChipsOutIdeal.nD Cert.RefChipsOutIdeal.τ).loc Cert.RefChipsOutIdeal.main_arg0) = m ((c.tc : Thread Cert.ChipsOutIdeal.nD Cert.ChipsOutIdeal.τ).loc Cert.ChipsOutIdeal.main_arg0)
      ∧ m' ((c.tc : Thread Cert.RefChipsOutIdeal.nD Cert.RefChipsOutIdeal.τ).loc Cert.RefChipsOutIdeal.main_arg1) = m ((c.tc : Thread Cert.ChipsOutIdeal.nD Cert.ChipsOutIdeal.τ).loc Cert.ChipsOutIdeal.main_arg1)) →
    ∃ (v0 : (c : Dev Cert.ChipsOutIdeal.nD) → Buf (Elt Ideal) ((c.tc : Thread Cert.ChipsOutIdeal.nD Cert.ChipsOutIdeal.τ).loc Cert.ChipsOutIdeal.main_v0)),
      θ_run (Cert.ChipsOutIdeal.defs (F := Ideal)) (onTc (τ := Cert.ChipsOutIdeal.τ) (Cert.ChipsOutIdeal.main (F := Ideal))) ⟨m, fun _ => 0, g⟩ (fun r => ∀ c : Dev Cert.ChipsOutIdeal.nD,
          r.2.mem ((c.tc : Thread Cert.ChipsOutIdeal.nD Cert.ChipsOutIdeal.τ).loc Cert.ChipsOutIdeal.main_v0) = v0 c
          ∧ r.2.mem ((c.tc : Thread Cert.ChipsOutIdeal.nD Cert.ChipsOutIdeal.τ).loc Cert.ChipsOutIdeal.main_arg0) = m ((c.tc : Thread Cert.ChipsOutIdeal.nD Cert.ChipsOutIdeal.τ).loc Cert.ChipsOutIdeal.main_arg0)
          ∧ r.2.mem ((c.tc : Thread Cert.ChipsOutIdeal.nD Cert.ChipsOutIdeal.τ).loc Cert.ChipsOutIdeal.main_arg1) = m ((c.tc : Thread Cert.ChipsOutIdeal.nD Cert.ChipsOutIdeal.τ).loc Cert.ChipsOutIdeal.main_arg1))
      ∧ θ_run (Cert.RefChipsOutIdeal.defs (F := Ideal)) (onTc (τ := Cert.RefChipsOutIdeal.τ) (Cert.RefChipsOutIdeal.main (F := Ideal))) ⟨m', fun _ => 0, g'⟩ (fun r => ∀ c : Dev Cert.RefChipsOutIdeal.nD,
          r.2.mem ((c.tc : Thread Cert.RefChipsOutIdeal.nD Cert.RefChipsOutIdeal.τ).loc Cert.RefChipsOutIdeal.main_v2) = v0 c
          ∧ r.2.mem ((c.tc : Thread Cert.RefChipsOutIdeal.nD Cert.RefChipsOutIdeal.τ).loc Cert.RefChipsOutIdeal.main_arg0) = m' ((c.tc : Thread Cert.RefChipsOutIdeal.nD Cert.RefChipsOutIdeal.τ).loc Cert.RefChipsOutIdeal.main_arg0)
          ∧ r.2.mem ((c.tc : Thread Cert.RefChipsOutIdeal.nD Cert.RefChipsOutIdeal.τ).loc Cert.RefChipsOutIdeal.main_arg1) = m' ((c.tc : Thread Cert.RefChipsOutIdeal.nD Cert.RefChipsOutIdeal.τ).loc Cert.RefChipsOutIdeal.main_arg1))

def preserves_ChipsGate_ChipsGateIdeal : Prop :=
  True

def algebraic_ChipsGateIdeal_RefChipsGateIdeal [hChipsGateIdeal : Cert.ChipsGateIdeal.Facts] [hRefChipsGateIdeal : Cert.RefChipsGateIdeal.Facts] : Prop :=
  ∀ (m : (ℓ : Loc Cert.ChipsGateIdeal.nD Cert.ChipsGateIdeal.τ Cert.ChipsGateIdeal.sig) → Buf (Elt Ideal) ℓ) (g : Dev Cert.ChipsGateIdeal.nD → PrngReg)
    (m' : (ℓ : Loc Cert.RefChipsGateIdeal.nD Cert.RefChipsGateIdeal.τ Cert.RefChipsGateIdeal.sig) → Buf (Elt Ideal) ℓ) (g' : Dev Cert.RefChipsGateIdeal.nD → PrngReg), Pre_ChipsGateIdeal m →
    (∀ c : Dev Cert.ChipsGateIdeal.nD,
      m' ((c.tc : Thread Cert.RefChipsGateIdeal.nD Cert.RefChipsGateIdeal.τ).loc Cert.RefChipsGateIdeal.main_arg0) = m ((c.tc : Thread Cert.ChipsGateIdeal.nD Cert.ChipsGateIdeal.τ).loc Cert.ChipsGateIdeal.main_arg0)
      ∧ m' ((c.tc : Thread Cert.RefChipsGateIdeal.nD Cert.RefChipsGateIdeal.τ).loc Cert.RefChipsGateIdeal.main_arg1) = m ((c.tc : Thread Cert.ChipsGateIdeal.nD Cert.ChipsGateIdeal.τ).loc Cert.ChipsGateIdeal.main_arg1)) →
    ∃ (v0 : (c : Dev Cert.ChipsGateIdeal.nD) → Buf (Elt Ideal) ((c.tc : Thread Cert.ChipsGateIdeal.nD Cert.ChipsGateIdeal.τ).loc Cert.ChipsGateIdeal.main_v0)),
      θ_run (Cert.ChipsGateIdeal.defs (F := Ideal)) (onTc (τ := Cert.ChipsGateIdeal.τ) (Cert.ChipsGateIdeal.main (F := Ideal))) ⟨m, fun _ => 0, g⟩ (fun r => ∀ c : Dev Cert.ChipsGateIdeal.nD,
          r.2.mem ((c.tc : Thread Cert.ChipsGateIdeal.nD Cert.ChipsGateIdeal.τ).loc Cert.ChipsGateIdeal.main_v0) = v0 c
          ∧ r.2.mem ((c.tc : Thread Cert.ChipsGateIdeal.nD Cert.ChipsGateIdeal.τ).loc Cert.ChipsGateIdeal.main_arg0) = m ((c.tc : Thread Cert.ChipsGateIdeal.nD Cert.ChipsGateIdeal.τ).loc Cert.ChipsGateIdeal.main_arg0)
          ∧ r.2.mem ((c.tc : Thread Cert.ChipsGateIdeal.nD Cert.ChipsGateIdeal.τ).loc Cert.ChipsGateIdeal.main_arg1) = m ((c.tc : Thread Cert.ChipsGateIdeal.nD Cert.ChipsGateIdeal.τ).loc Cert.ChipsGateIdeal.main_arg1))
      ∧ θ_run (Cert.RefChipsGateIdeal.defs (F := Ideal)) (onTc (τ := Cert.RefChipsGateIdeal.τ) (Cert.RefChipsGateIdeal.main (F := Ideal))) ⟨m', fun _ => 0, g'⟩ (fun r => ∀ c : Dev Cert.RefChipsGateIdeal.nD,
          r.2.mem ((c.tc : Thread Cert.RefChipsGateIdeal.nD Cert.RefChipsGateIdeal.τ).loc Cert.RefChipsGateIdeal.main_v2) = v0 c
          ∧ r.2.mem ((c.tc : Thread Cert.RefChipsGateIdeal.nD Cert.RefChipsGateIdeal.τ).loc Cert.RefChipsGateIdeal.main_arg0) = m' ((c.tc : Thread Cert.RefChipsGateIdeal.nD Cert.RefChipsGateIdeal.τ).loc Cert.RefChipsGateIdeal.main_arg0)
          ∧ r.2.mem ((c.tc : Thread Cert.RefChipsGateIdeal.nD Cert.RefChipsGateIdeal.τ).loc Cert.RefChipsGateIdeal.main_arg1) = m' ((c.tc : Thread Cert.RefChipsGateIdeal.nD Cert.RefChipsGateIdeal.τ).loc Cert.RefChipsGateIdeal.main_arg1))

def preserves_ChipsDown_ChipsDownIdeal : Prop :=
  True

def algebraic_ChipsDownIdeal_RefChipsDownIdeal [hChipsDownIdeal : Cert.ChipsDownIdeal.Facts] [hRefChipsDownIdeal : Cert.RefChipsDownIdeal.Facts] : Prop :=
  ∀ (m : (ℓ : Loc Cert.ChipsDownIdeal.nD Cert.ChipsDownIdeal.τ Cert.ChipsDownIdeal.sig) → Buf (Elt Ideal) ℓ) (g : Dev Cert.ChipsDownIdeal.nD → PrngReg)
    (m' : (ℓ : Loc Cert.RefChipsDownIdeal.nD Cert.RefChipsDownIdeal.τ Cert.RefChipsDownIdeal.sig) → Buf (Elt Ideal) ℓ) (g' : Dev Cert.RefChipsDownIdeal.nD → PrngReg), Pre_ChipsDownIdeal m →
    (∀ c : Dev Cert.ChipsDownIdeal.nD,
      m' ((c.tc : Thread Cert.RefChipsDownIdeal.nD Cert.RefChipsDownIdeal.τ).loc Cert.RefChipsDownIdeal.main_arg0) = m ((c.tc : Thread Cert.ChipsDownIdeal.nD Cert.ChipsDownIdeal.τ).loc Cert.ChipsDownIdeal.main_arg0)
      ∧ m' ((c.tc : Thread Cert.RefChipsDownIdeal.nD Cert.RefChipsDownIdeal.τ).loc Cert.RefChipsDownIdeal.main_arg1) = m ((c.tc : Thread Cert.ChipsDownIdeal.nD Cert.ChipsDownIdeal.τ).loc Cert.ChipsDownIdeal.main_arg1)) →
    ∃ (v0 : (c : Dev Cert.ChipsDownIdeal.nD) → Buf (Elt Ideal) ((c.tc : Thread Cert.ChipsDownIdeal.nD Cert.ChipsDownIdeal.τ).loc Cert.ChipsDownIdeal.main_v0)),
      θ_run (Cert.ChipsDownIdeal.defs (F := Ideal)) (onTc (τ := Cert.ChipsDownIdeal.τ) (Cert.ChipsDownIdeal.main (F := Ideal))) ⟨m, fun _ => 0, g⟩ (fun r => ∀ c : Dev Cert.ChipsDownIdeal.nD,
          r.2.mem ((c.tc : Thread Cert.ChipsDownIdeal.nD Cert.ChipsDownIdeal.τ).loc Cert.ChipsDownIdeal.main_v0) = v0 c
          ∧ r.2.mem ((c.tc : Thread Cert.ChipsDownIdeal.nD Cert.ChipsDownIdeal.τ).loc Cert.ChipsDownIdeal.main_arg0) = m ((c.tc : Thread Cert.ChipsDownIdeal.nD Cert.ChipsDownIdeal.τ).loc Cert.ChipsDownIdeal.main_arg0)
          ∧ r.2.mem ((c.tc : Thread Cert.ChipsDownIdeal.nD Cert.ChipsDownIdeal.τ).loc Cert.ChipsDownIdeal.main_arg1) = m ((c.tc : Thread Cert.ChipsDownIdeal.nD Cert.ChipsDownIdeal.τ).loc Cert.ChipsDownIdeal.main_arg1))
      ∧ θ_run (Cert.RefChipsDownIdeal.defs (F := Ideal)) (onTc (τ := Cert.RefChipsDownIdeal.τ) (Cert.RefChipsDownIdeal.main (F := Ideal))) ⟨m', fun _ => 0, g'⟩ (fun r => ∀ c : Dev Cert.RefChipsDownIdeal.nD,
          r.2.mem ((c.tc : Thread Cert.RefChipsDownIdeal.nD Cert.RefChipsDownIdeal.τ).loc Cert.RefChipsDownIdeal.main_v2) = v0 c
          ∧ r.2.mem ((c.tc : Thread Cert.RefChipsDownIdeal.nD Cert.RefChipsDownIdeal.τ).loc Cert.RefChipsDownIdeal.main_arg0) = m' ((c.tc : Thread Cert.RefChipsDownIdeal.nD Cert.RefChipsDownIdeal.τ).loc Cert.RefChipsDownIdeal.main_arg0)
          ∧ r.2.mem ((c.tc : Thread Cert.RefChipsDownIdeal.nD Cert.RefChipsDownIdeal.τ).loc Cert.RefChipsDownIdeal.main_arg1) = m' ((c.tc : Thread Cert.RefChipsDownIdeal.nD Cert.RefChipsDownIdeal.τ).loc Cert.RefChipsDownIdeal.main_arg1))

def Claim : Prop :=
  ∃ (hKernel : Cert.Kernel.Facts) (hKernelIdeal : Cert.KernelIdeal.Facts) (hReferenceIdeal : Cert.ReferenceIdeal.Facts) (hDwDown : Cert.DwDown.Facts) (hDwDownIdeal : Cert.DwDownIdeal.Facts) (hRefDwDownIdeal : Cert.RefDwDownIdeal.Facts) (hBwdAct : Cert.BwdAct.Facts) (hBwdActIdeal : Cert.BwdActIdeal.Facts) (hRefBwdActIdeal : Cert.RefBwdActIdeal.Facts) (hDwGate : Cert.DwGate.Facts) (hDwGateIdeal : Cert.DwGateIdeal.Facts) (hRefDwFfIdeal : Cert.RefDwFfIdeal.Facts) (hDwUp : Cert.DwUp.Facts) (hDwUpIdeal : Cert.DwUpIdeal.Facts) (hDfn : Cert.Dfn.Facts) (hDfnIdeal : Cert.DfnIdeal.Facts) (hRefDfnIdeal : Cert.RefDfnIdeal.Facts) (hGateUp : Cert.GateUp.Facts) (hGateUpIdeal : Cert.GateUpIdeal.Facts) (hRefGateUpIdeal : Cert.RefGateUpIdeal.Facts) (hDownProj : Cert.DownProj.Facts) (hDownProjIdeal : Cert.DownProjIdeal.Facts) (hRefDownProjIdeal : Cert.RefDownProjIdeal.Facts) (hDwOut : Cert.DwOut.Facts) (hDwOutIdeal : Cert.DwOutIdeal.Facts) (hRefDwOutIdeal : Cert.RefDwOutIdeal.Facts) (hDy : Cert.Dy.Facts) (hDyIdeal : Cert.DyIdeal.Facts) (hRefDyIdeal : Cert.RefDyIdeal.Facts) (hOutProj : Cert.OutProj.Facts) (hOutProjIdeal : Cert.OutProjIdeal.Facts) (hRefOutProjIdeal : Cert.RefOutProjIdeal.Facts) (hInProj : Cert.InProj.Facts) (hInProjIdeal : Cert.InProjIdeal.Facts) (hRefInProjIdeal : Cert.RefInProjIdeal.Facts) (hDwIn : Cert.DwIn.Facts) (hDwInIdeal : Cert.DwInIdeal.Facts) (hRefDwInIdeal : Cert.RefDwInIdeal.Facts) (hDhn : Cert.Dhn.Facts) (hDhnIdeal : Cert.DhnIdeal.Facts) (hRefDhnIdeal : Cert.RefDhnIdeal.Facts) (hRmsBwd : Cert.RmsBwd.Facts) (hRmsBwdIdeal : Cert.RmsBwdIdeal.Facts) (hRefRmsBwdIdeal : Cert.RefRmsBwdIdeal.Facts) (hAdamIn : Cert.AdamIn.Facts) (hAdamInIdeal : Cert.AdamInIdeal.Facts) (hRefAdamInIdeal : Cert.RefAdamInIdeal.Facts) (hAdamUq : Cert.AdamUq.Facts) (hAdamUqIdeal : Cert.AdamUqIdeal.Facts) (hRefAdamUqIdeal : Cert.RefAdamUqIdeal.Facts) (hAdamUkv : Cert.AdamUkv.Facts) (hAdamUkvIdeal : Cert.AdamUkvIdeal.Facts) (hRefAdamUkvIdeal : Cert.RefAdamUkvIdeal.Facts) (hAdamMemKv : Cert.AdamMemKv.Facts) (hAdamMemKvIdeal : Cert.AdamMemKvIdeal.Facts) (hRefAdamMemKvIdeal : Cert.RefAdamMemKvIdeal.Facts) (hAdamOut : Cert.AdamOut.Facts) (hAdamOutIdeal : Cert.AdamOutIdeal.Facts) (hRefAdamOutIdeal : Cert.RefAdamOutIdeal.Facts) (hAdamGate : Cert.AdamGate.Facts) (hAdamGateIdeal : Cert.AdamGateIdeal.Facts) (hRefAdamGateIdeal : Cert.RefAdamGateIdeal.Facts) (hAdamDown : Cert.AdamDown.Facts) (hAdamDownIdeal : Cert.AdamDownIdeal.Facts) (hRefAdamDownIdeal : Cert.RefAdamDownIdeal.Facts) (hMemKvBwd : Cert.MemKvBwd.Facts) (hMemKvBwdIdeal : Cert.MemKvBwdIdeal.Facts) (hRefMemKvBwdIdeal : Cert.RefMemKvBwdIdeal.Facts) (hMemKv : Cert.MemKv.Facts) (hMemKvIdeal : Cert.MemKvIdeal.Facts) (hRefMemKvIdeal : Cert.RefMemKvIdeal.Facts) (hMemAttn : Cert.MemAttn.Facts) (hMemAttnIdeal : Cert.MemAttnIdeal.Facts) (hRefMemAttnIdeal : Cert.RefMemAttnIdeal.Facts) (hRmsFwd : Cert.RmsFwd.Facts) (hRmsFwdIdeal : Cert.RmsFwdIdeal.Facts) (hRefRmsFwdIdeal : Cert.RefRmsFwdIdeal.Facts) (hChipsIn : Cert.ChipsIn.Facts) (hChipsInIdeal : Cert.ChipsInIdeal.Facts) (hRefChipsInIdeal : Cert.RefChipsInIdeal.Facts) (hChipsUq : Cert.ChipsUq.Facts) (hChipsUqIdeal : Cert.ChipsUqIdeal.Facts) (hRefChipsUqIdeal : Cert.RefChipsUqIdeal.Facts) (hChipsUkv : Cert.ChipsUkv.Facts) (hChipsUkvIdeal : Cert.ChipsUkvIdeal.Facts) (hRefChipsUkvIdeal : Cert.RefChipsUkvIdeal.Facts) (hChipsMemKv : Cert.ChipsMemKv.Facts) (hChipsMemKvIdeal : Cert.ChipsMemKvIdeal.Facts) (hRefChipsMemKvIdeal : Cert.RefChipsMemKvIdeal.Facts) (hChipsOut : Cert.ChipsOut.Facts) (hChipsOutIdeal : Cert.ChipsOutIdeal.Facts) (hRefChipsOutIdeal : Cert.RefChipsOutIdeal.Facts) (hChipsGate : Cert.ChipsGate.Facts) (hChipsGateIdeal : Cert.ChipsGateIdeal.Facts) (hRefChipsGateIdeal : Cert.RefChipsGateIdeal.Facts) (hChipsDown : Cert.ChipsDown.Facts) (hChipsDownIdeal : Cert.ChipsDownIdeal.Facts) (hRefChipsDownIdeal : Cert.RefChipsDownIdeal.Facts) (hPre_finite : Cert.Pre_finite.Facts) (hPre_finite_grad : Cert.Pre_finite_grad.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwDown (hDwDown := hDwDown)
    ∧ quiescent_DwDownIdeal (hDwDownIdeal := hDwDownIdeal)
    ∧ quiescent_RefDwDownIdeal (hRefDwDownIdeal := hRefDwDownIdeal)
    ∧ quiescent_BwdAct (hBwdAct := hBwdAct)
    ∧ quiescent_BwdActIdeal (hBwdActIdeal := hBwdActIdeal)
    ∧ quiescent_BwdActIdeal_pre_finite_grad (hBwdActIdeal := hBwdActIdeal) (hPre_finite_grad := hPre_finite_grad)
    ∧ quiescent_RefBwdActIdeal (hRefBwdActIdeal := hRefBwdActIdeal) (hPre_finite_grad := hPre_finite_grad)
    ∧ quiescent_RefBwdActIdeal_pre_none (hRefBwdActIdeal := hRefBwdActIdeal)
    ∧ quiescent_DwGate (hDwGate := hDwGate)
    ∧ quiescent_DwGateIdeal (hDwGateIdeal := hDwGateIdeal)
    ∧ quiescent_RefDwFfIdeal (hRefDwFfIdeal := hRefDwFfIdeal)
    ∧ quiescent_DwUp (hDwUp := hDwUp)
    ∧ quiescent_DwUpIdeal (hDwUpIdeal := hDwUpIdeal)
    ∧ quiescent_Dfn (hDfn := hDfn)
    ∧ quiescent_DfnIdeal (hDfnIdeal := hDfnIdeal)
    ∧ quiescent_RefDfnIdeal (hRefDfnIdeal := hRefDfnIdeal)
    ∧ quiescent_GateUp (hGateUp := hGateUp)
    ∧ quiescent_GateUpIdeal (hGateUpIdeal := hGateUpIdeal)
    ∧ quiescent_RefGateUpIdeal (hRefGateUpIdeal := hRefGateUpIdeal)
    ∧ quiescent_DownProj (hDownProj := hDownProj)
    ∧ quiescent_DownProjIdeal (hDownProjIdeal := hDownProjIdeal)
    ∧ quiescent_RefDownProjIdeal (hRefDownProjIdeal := hRefDownProjIdeal)
    ∧ quiescent_DwOut (hDwOut := hDwOut)
    ∧ quiescent_DwOutIdeal (hDwOutIdeal := hDwOutIdeal)
    ∧ quiescent_RefDwOutIdeal (hRefDwOutIdeal := hRefDwOutIdeal)
    ∧ quiescent_Dy (hDy := hDy)
    ∧ quiescent_DyIdeal (hDyIdeal := hDyIdeal)
    ∧ quiescent_RefDyIdeal (hRefDyIdeal := hRefDyIdeal)
    ∧ quiescent_OutProj (hOutProj := hOutProj)
    ∧ quiescent_OutProjIdeal (hOutProjIdeal := hOutProjIdeal)
    ∧ quiescent_RefOutProjIdeal (hRefOutProjIdeal := hRefOutProjIdeal)
    ∧ quiescent_InProj (hInProj := hInProj)
    ∧ quiescent_InProjIdeal (hInProjIdeal := hInProjIdeal)
    ∧ quiescent_RefInProjIdeal (hRefInProjIdeal := hRefInProjIdeal)
    ∧ quiescent_DwIn (hDwIn := hDwIn)
    ∧ quiescent_DwInIdeal (hDwInIdeal := hDwInIdeal)
    ∧ quiescent_RefDwInIdeal (hRefDwInIdeal := hRefDwInIdeal)
    ∧ quiescent_Dhn (hDhn := hDhn)
    ∧ quiescent_DhnIdeal (hDhnIdeal := hDhnIdeal)
    ∧ quiescent_RefDhnIdeal (hRefDhnIdeal := hRefDhnIdeal)
    ∧ quiescent_RmsBwd (hRmsBwd := hRmsBwd)
    ∧ quiescent_RmsBwdIdeal (hRmsBwdIdeal := hRmsBwdIdeal)
    ∧ quiescent_RefRmsBwdIdeal (hRefRmsBwdIdeal := hRefRmsBwdIdeal)
    ∧ quiescent_AdamIn (hAdamIn := hAdamIn)
    ∧ quiescent_AdamInIdeal (hAdamInIdeal := hAdamInIdeal)
    ∧ quiescent_RefAdamInIdeal (hRefAdamInIdeal := hRefAdamInIdeal)
    ∧ quiescent_AdamUq (hAdamUq := hAdamUq)
    ∧ quiescent_AdamUqIdeal (hAdamUqIdeal := hAdamUqIdeal)
    ∧ quiescent_RefAdamUqIdeal (hRefAdamUqIdeal := hRefAdamUqIdeal)
    ∧ quiescent_AdamUkv (hAdamUkv := hAdamUkv)
    ∧ quiescent_AdamUkvIdeal (hAdamUkvIdeal := hAdamUkvIdeal)
    ∧ quiescent_RefAdamUkvIdeal (hRefAdamUkvIdeal := hRefAdamUkvIdeal)
    ∧ quiescent_AdamMemKv (hAdamMemKv := hAdamMemKv)
    ∧ quiescent_AdamMemKvIdeal (hAdamMemKvIdeal := hAdamMemKvIdeal)
    ∧ quiescent_RefAdamMemKvIdeal (hRefAdamMemKvIdeal := hRefAdamMemKvIdeal)
    ∧ quiescent_AdamOut (hAdamOut := hAdamOut)
    ∧ quiescent_AdamOutIdeal (hAdamOutIdeal := hAdamOutIdeal)
    ∧ quiescent_RefAdamOutIdeal (hRefAdamOutIdeal := hRefAdamOutIdeal)
    ∧ quiescent_AdamGate (hAdamGate := hAdamGate)
    ∧ quiescent_AdamGateIdeal (hAdamGateIdeal := hAdamGateIdeal)
    ∧ quiescent_RefAdamGateIdeal (hRefAdamGateIdeal := hRefAdamGateIdeal)
    ∧ quiescent_AdamDown (hAdamDown := hAdamDown)
    ∧ quiescent_AdamDownIdeal (hAdamDownIdeal := hAdamDownIdeal)
    ∧ quiescent_RefAdamDownIdeal (hRefAdamDownIdeal := hRefAdamDownIdeal)
    ∧ quiescent_MemKvBwd (hMemKvBwd := hMemKvBwd)
    ∧ quiescent_MemKvBwdIdeal (hMemKvBwdIdeal := hMemKvBwdIdeal)
    ∧ quiescent_RefMemKvBwdIdeal (hRefMemKvBwdIdeal := hRefMemKvBwdIdeal)
    ∧ quiescent_MemKv (hMemKv := hMemKv)
    ∧ quiescent_MemKvIdeal (hMemKvIdeal := hMemKvIdeal)
    ∧ quiescent_RefMemKvIdeal (hRefMemKvIdeal := hRefMemKvIdeal)
    ∧ quiescent_MemAttn (hMemAttn := hMemAttn)
    ∧ quiescent_MemAttnIdeal (hMemAttnIdeal := hMemAttnIdeal)
    ∧ quiescent_MemAttnIdeal_pre_finite_fwd (hMemAttnIdeal := hMemAttnIdeal) (hPre_finite_fwd := hPre_finite_fwd)
    ∧ quiescent_RefMemAttnIdeal (hRefMemAttnIdeal := hRefMemAttnIdeal) (hPre_finite_fwd := hPre_finite_fwd)
    ∧ quiescent_RefMemAttnIdeal_pre_none (hRefMemAttnIdeal := hRefMemAttnIdeal)
    ∧ quiescent_RmsFwd (hRmsFwd := hRmsFwd)
    ∧ quiescent_RmsFwdIdeal (hRmsFwdIdeal := hRmsFwdIdeal)
    ∧ quiescent_RefRmsFwdIdeal (hRefRmsFwdIdeal := hRefRmsFwdIdeal)
    ∧ quiescent_ChipsIn (hChipsIn := hChipsIn)
    ∧ quiescent_ChipsInIdeal (hChipsInIdeal := hChipsInIdeal)
    ∧ quiescent_RefChipsInIdeal (hRefChipsInIdeal := hRefChipsInIdeal)
    ∧ quiescent_ChipsUq (hChipsUq := hChipsUq)
    ∧ quiescent_ChipsUqIdeal (hChipsUqIdeal := hChipsUqIdeal)
    ∧ quiescent_RefChipsUqIdeal (hRefChipsUqIdeal := hRefChipsUqIdeal)
    ∧ quiescent_ChipsUkv (hChipsUkv := hChipsUkv)
    ∧ quiescent_ChipsUkvIdeal (hChipsUkvIdeal := hChipsUkvIdeal)
    ∧ quiescent_RefChipsUkvIdeal (hRefChipsUkvIdeal := hRefChipsUkvIdeal)
    ∧ quiescent_ChipsMemKv (hChipsMemKv := hChipsMemKv)
    ∧ quiescent_ChipsMemKvIdeal (hChipsMemKvIdeal := hChipsMemKvIdeal)
    ∧ quiescent_RefChipsMemKvIdeal (hRefChipsMemKvIdeal := hRefChipsMemKvIdeal)
    ∧ quiescent_ChipsOut (hChipsOut := hChipsOut)
    ∧ quiescent_ChipsOutIdeal (hChipsOutIdeal := hChipsOutIdeal)
    ∧ quiescent_RefChipsOutIdeal (hRefChipsOutIdeal := hRefChipsOutIdeal)
    ∧ quiescent_ChipsGate (hChipsGate := hChipsGate)
    ∧ quiescent_ChipsGateIdeal (hChipsGateIdeal := hChipsGateIdeal)
    ∧ quiescent_RefChipsGateIdeal (hRefChipsGateIdeal := hRefChipsGateIdeal)
    ∧ quiescent_ChipsDown (hChipsDown := hChipsDown)
    ∧ quiescent_ChipsDownIdeal (hChipsDownIdeal := hChipsDownIdeal)
    ∧ quiescent_RefChipsDownIdeal (hRefChipsDownIdeal := hRefChipsDownIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwDown_DwDownIdeal
    ∧ algebraic_DwDownIdeal_RefDwDownIdeal (hDwDownIdeal := hDwDownIdeal) (hRefDwDownIdeal := hRefDwDownIdeal)
    ∧ preserves_BwdAct_BwdActIdeal
    ∧ algebraic_BwdActIdeal_RefBwdActIdeal_pre_finite_grad (hBwdActIdeal := hBwdActIdeal) (hRefBwdActIdeal := hRefBwdActIdeal) (hPre_finite_grad := hPre_finite_grad)
    ∧ preserves_DwGate_DwGateIdeal
    ∧ algebraic_DwGateIdeal_RefDwFfIdeal (hDwGateIdeal := hDwGateIdeal) (hRefDwFfIdeal := hRefDwFfIdeal)
    ∧ preserves_DwUp_DwUpIdeal
    ∧ algebraic_DwUpIdeal_RefDwFfIdeal (hDwUpIdeal := hDwUpIdeal) (hRefDwFfIdeal := hRefDwFfIdeal)
    ∧ preserves_Dfn_DfnIdeal
    ∧ algebraic_DfnIdeal_RefDfnIdeal (hDfnIdeal := hDfnIdeal) (hRefDfnIdeal := hRefDfnIdeal)
    ∧ preserves_GateUp_GateUpIdeal
    ∧ algebraic_GateUpIdeal_RefGateUpIdeal (hGateUpIdeal := hGateUpIdeal) (hRefGateUpIdeal := hRefGateUpIdeal)
    ∧ preserves_DownProj_DownProjIdeal
    ∧ algebraic_DownProjIdeal_RefDownProjIdeal (hDownProjIdeal := hDownProjIdeal) (hRefDownProjIdeal := hRefDownProjIdeal)
    ∧ preserves_DwOut_DwOutIdeal
    ∧ algebraic_DwOutIdeal_RefDwOutIdeal (hDwOutIdeal := hDwOutIdeal) (hRefDwOutIdeal := hRefDwOutIdeal)
    ∧ preserves_Dy_DyIdeal
    ∧ algebraic_DyIdeal_RefDyIdeal (hDyIdeal := hDyIdeal) (hRefDyIdeal := hRefDyIdeal)
    ∧ preserves_OutProj_OutProjIdeal
    ∧ algebraic_OutProjIdeal_RefOutProjIdeal (hOutProjIdeal := hOutProjIdeal) (hRefOutProjIdeal := hRefOutProjIdeal)
    ∧ preserves_InProj_InProjIdeal
    ∧ algebraic_InProjIdeal_RefInProjIdeal (hInProjIdeal := hInProjIdeal) (hRefInProjIdeal := hRefInProjIdeal)
    ∧ preserves_DwIn_DwInIdeal
    ∧ algebraic_DwInIdeal_RefDwInIdeal (hDwInIdeal := hDwInIdeal) (hRefDwInIdeal := hRefDwInIdeal)
    ∧ preserves_Dhn_DhnIdeal
    ∧ algebraic_DhnIdeal_RefDhnIdeal (hDhnIdeal := hDhnIdeal) (hRefDhnIdeal := hRefDhnIdeal)
    ∧ preserves_RmsBwd_RmsBwdIdeal
    ∧ algebraic_RmsBwdIdeal_RefRmsBwdIdeal (hRmsBwdIdeal := hRmsBwdIdeal) (hRefRmsBwdIdeal := hRefRmsBwdIdeal)
    ∧ preserves_AdamIn_AdamInIdeal
    ∧ algebraic_AdamInIdeal_RefAdamInIdeal (hAdamInIdeal := hAdamInIdeal) (hRefAdamInIdeal := hRefAdamInIdeal)
    ∧ preserves_AdamUq_AdamUqIdeal
    ∧ algebraic_AdamUqIdeal_RefAdamUqIdeal (hAdamUqIdeal := hAdamUqIdeal) (hRefAdamUqIdeal := hRefAdamUqIdeal)
    ∧ preserves_AdamUkv_AdamUkvIdeal
    ∧ algebraic_AdamUkvIdeal_RefAdamUkvIdeal (hAdamUkvIdeal := hAdamUkvIdeal) (hRefAdamUkvIdeal := hRefAdamUkvIdeal)
    ∧ preserves_AdamMemKv_AdamMemKvIdeal
    ∧ algebraic_AdamMemKvIdeal_RefAdamMemKvIdeal (hAdamMemKvIdeal := hAdamMemKvIdeal) (hRefAdamMemKvIdeal := hRefAdamMemKvIdeal)
    ∧ preserves_AdamOut_AdamOutIdeal
    ∧ algebraic_AdamOutIdeal_RefAdamOutIdeal (hAdamOutIdeal := hAdamOutIdeal) (hRefAdamOutIdeal := hRefAdamOutIdeal)
    ∧ preserves_AdamGate_AdamGateIdeal
    ∧ algebraic_AdamGateIdeal_RefAdamGateIdeal (hAdamGateIdeal := hAdamGateIdeal) (hRefAdamGateIdeal := hRefAdamGateIdeal)
    ∧ preserves_AdamDown_AdamDownIdeal
    ∧ algebraic_AdamDownIdeal_RefAdamDownIdeal (hAdamDownIdeal := hAdamDownIdeal) (hRefAdamDownIdeal := hRefAdamDownIdeal)
    ∧ preserves_MemKvBwd_MemKvBwdIdeal
    ∧ algebraic_MemKvBwdIdeal_RefMemKvBwdIdeal (hMemKvBwdIdeal := hMemKvBwdIdeal) (hRefMemKvBwdIdeal := hRefMemKvBwdIdeal)
    ∧ preserves_MemKv_MemKvIdeal
    ∧ algebraic_MemKvIdeal_RefMemKvIdeal (hMemKvIdeal := hMemKvIdeal) (hRefMemKvIdeal := hRefMemKvIdeal)
    ∧ preserves_MemAttn_MemAttnIdeal
    ∧ algebraic_MemAttnIdeal_RefMemAttnIdeal_pre_finite_fwd (hMemAttnIdeal := hMemAttnIdeal) (hRefMemAttnIdeal := hRefMemAttnIdeal) (hPre_finite_fwd := hPre_finite_fwd)
    ∧ preserves_RmsFwd_RmsFwdIdeal
    ∧ algebraic_RmsFwdIdeal_RefRmsFwdIdeal (hRmsFwdIdeal := hRmsFwdIdeal) (hRefRmsFwdIdeal := hRefRmsFwdIdeal)
    ∧ preserves_ChipsIn_ChipsInIdeal
    ∧ algebraic_ChipsInIdeal_RefChipsInIdeal (hChipsInIdeal := hChipsInIdeal) (hRefChipsInIdeal := hRefChipsInIdeal)
    ∧ preserves_ChipsUq_ChipsUqIdeal
    ∧ algebraic_ChipsUqIdeal_RefChipsUqIdeal (hChipsUqIdeal := hChipsUqIdeal) (hRefChipsUqIdeal := hRefChipsUqIdeal)
    ∧ preserves_ChipsUkv_ChipsUkvIdeal
    ∧ algebraic_ChipsUkvIdeal_RefChipsUkvIdeal (hChipsUkvIdeal := hChipsUkvIdeal) (hRefChipsUkvIdeal := hRefChipsUkvIdeal)
    ∧ preserves_ChipsMemKv_ChipsMemKvIdeal
    ∧ algebraic_ChipsMemKvIdeal_RefChipsMemKvIdeal (hChipsMemKvIdeal := hChipsMemKvIdeal) (hRefChipsMemKvIdeal := hRefChipsMemKvIdeal)
    ∧ preserves_ChipsOut_ChipsOutIdeal
    ∧ algebraic_ChipsOutIdeal_RefChipsOutIdeal (hChipsOutIdeal := hChipsOutIdeal) (hRefChipsOutIdeal := hRefChipsOutIdeal)
    ∧ preserves_ChipsGate_ChipsGateIdeal
    ∧ algebraic_ChipsGateIdeal_RefChipsGateIdeal (hChipsGateIdeal := hChipsGateIdeal) (hRefChipsGateIdeal := hRefChipsGateIdeal)
    ∧ preserves_ChipsDown_ChipsDownIdeal
    ∧ algebraic_ChipsDownIdeal_RefChipsDownIdeal (hChipsDownIdeal := hChipsDownIdeal) (hRefChipsDownIdeal := hRefChipsDownIdeal)
-- ==== Pre_finite.lean ====
abbrev S4096x512 : Shape := ⟨2, ![4096, 512]⟩
abbrev S256x512 : Shape := ⟨2, ![256, 512]⟩
abbrev S4096x2048 : Shape := ⟨2, ![4096, 2048]⟩
abbrev S_ : Shape := ⟨0, ![]⟩

class Facts : Prop where
  slices_S4096x2048_S4096x512_0_1536 : S4096x2048.Slices ![0, 1536] S4096x512
  bitsLt_bf16_f32 : FTy.bits .bf16 < FTy.bits .f32
  bcast_S_S4096x512 : S_.BroadcastsInDim S4096x512 (![] : Fin 0 → Fin S4096x512.rank)
  bcast_S_S256x512 : S_.BroadcastsInDim S256x512 (![] : Fin 0 → Fin S256x512.rank)

variable [Facts]

def fn {F : FTy → Type} [FloatOps F] (main_arg0 : FVec F S4096x512 .bf16) (main_arg1 : FVec F S256x512 .bf16) (main_arg2 : FVec F S256x512 .bf16) (main_arg3 : FVec F S4096x2048 .f32) : IVec S4096x512 1 × IVec S256x512 1 × IVec S256x512 1 × IVec S4096x512 1 :=
  let main_v0 : FVec F S4096x512 .f32 := (extractStridedSlice S4096x512 ![0, 1536] · slices_S4096x2048_S4096x512_0_1536) main_arg3
  let main_v1 : FVec F S4096x512 .f32 := (extf .f32 · bitsLt_bf16_f32) main_arg0
  let main_v2 : FVec F S4096x512 .f32 := Host.absf main_v1
  let main_cst : FVec F S_ .f32 := constant S_ .f32 0x7F800000#32
  let main_v3 : FVec F S4096x512 .f32 := broadcastInDim S4096x512 ![] bcast_S_S4096x512 main_cst
  let main_v4 : IVec S4096x512 1 := cmpf .olt main_v2 main_v3
  let main_v5 : FVec F S256x512 .f32 := (extf .f32 · bitsLt_bf16_f32) main_arg1
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  let main_v9 : FVec F S256x512 .f32 := (extf .f32 · bitsLt_bf16_f32) main_arg2
  let main_v10 : FVec F S256x512 .f32 := Host.absf main_v9
  let main_cst_1 : FVec F S_ .f32 := constant S_ .f32 0x7F800000#32
  let main_v11 : FVec F S256x512 .f32 := broadcastInDim S256x512 ![] bcast_S_S256x512 main_cst_1
  let main_v12 : IVec S256x512 1 := cmpf .olt main_v10 main_v11
  let main_v13 : FVec F S4096x512 .f32 := Host.absf main_v0
  let main_cst_2 : FVec F S_ .f32 := constant S_ .f32 0x7F800000#32
  let main_v14 : FVec F S4096x512 .f32 := broadcastInDim S4096x512 ![] bcast_S_S4096x512 main_cst_2
  let main_v15 : IVec S4096x512 1 := cmpf .olt main_v13 main_v14
  (main_v4, main_v8, main_v12, main_v15)
-- ==== Pre_finite_fwd.lean ====
abbrev S4096x512 : Shape := ⟨2, ![4096, 512]⟩
abbrev S256x512 : Shape := ⟨2, ![256, 512]⟩
abbrev S4096x2048 : Shape := ⟨2, ![4096, 2048]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S256x512 : S_.BroadcastsInDim S256x512 (![] : Fin 0 → Fin S256x512.rank)

variable [Facts]

def fn {F : FTy → Type} [FloatOps F] (main_arg0 : FVec F S4096x512 .bf16) (main_arg1 : FVec F S256x512 .bf16) (main_arg2 : FVec F S256x512 .bf16) (main_arg3 : FVec F S4096x2048 .bf16) : IVec S4096x512 1 × IVec S256x512 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S256x512 .f32 := (extf .f32 · bitsLt_bf16_f32) main_arg1
  let main_v5 : FVec F S256x512 .f32 := Host.absf main_v4
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  (main_v3, main_v7)
-- ==== Pre_finite_grad.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .bf16) (main_arg2 : FVec F S4096x5632 .bf16) (main_arg3 : FVec F S4096x5632 .bf16) : IVec S4096x2048 1 × IVec S5632x2048 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S4096x5632 .f32 := (extf .f32 · bitsLt_bf16_f32) main_arg3
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  (main_v3, main_v7, main_v11)
-- ==== Kernel.lean ====
abbrev S4096x512 : Shape := ⟨2, ![4096, 512]⟩
abbrev S256x512 : Shape := ⟨2, ![256, 512]⟩
abbrev S4096x2048 : Shape := ⟨2, ![4096, 2048]⟩
abbrev S1x4096x4x128 : Shape := ⟨4, ![1, 4096, 4, 128]⟩
abbrev S1x256x4x128 : Shape := ⟨4, ![1, 256, 4, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x4096x512 : Shape := ⟨3, ![1, 4096, 512]⟩
abbrev S1024x512 : Shape := ⟨2, ![1024, 512]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 35
  | .vmem => 12
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x2048, .f32⟩
  | .hbm, ⟨4, _⟩ => ⟨S4096x512, .f32⟩
  | .hbm, ⟨5, _⟩ => ⟨S1x4096x4x128, .f32⟩
  | .hbm, ⟨6, _⟩ => ⟨S256x512, .f32⟩
  | .hbm, ⟨7, _⟩ => ⟨S1x256x4x128, .f32⟩
  | .hbm, ⟨8, _⟩ => ⟨S256x512, .f32⟩
  | .hbm, ⟨9, _⟩ => ⟨S1x256x4x128, .f32⟩
  | .hbm, ⟨10, _⟩ => ⟨S1x4x4096x256, .f32⟩
  | .hbm, ⟨11, _⟩ => ⟨S_, .f32⟩
  | .hbm, ⟨12, _⟩ => ⟨S1x4x4096x256, .f32⟩
  | .hbm, ⟨13, _⟩ => ⟨S1x4x4096x256, .f32⟩
  | .hbm, ⟨14, _⟩ => ⟨S_, .f32⟩
  | .hbm, ⟨15, _⟩ => ⟨S1x4x4096, .f32⟩
  | .hbm, ⟨16, _⟩ => ⟨S_, .f32⟩
  | .hbm, ⟨17, _⟩ => ⟨S1x4x4096, .f32⟩
  | .hbm, ⟨18, _⟩ => ⟨S1x4x4096, .f32⟩
  | .hbm, ⟨19, _⟩ => ⟨S1x4x4096x1, .f32⟩
  | .hbm, ⟨20, _⟩ => ⟨S1x4x4096x256, .f32⟩
  | .hbm, ⟨21, _⟩ => ⟨S1x4x4096x256, .f32⟩
  | .hbm, ⟨22, _⟩ => ⟨S1x4x4096x256, .f32⟩
  | .hbm, ⟨23, _⟩ => ⟨S_, .f32⟩
  | .hbm, ⟨24, _⟩ => ⟨S1x4x4096, .f32⟩
  | .hbm, ⟨25, _⟩ => ⟨S1x4x4096x1, .f32⟩
  | .hbm, ⟨26, _⟩ => ⟨S1x4x4096x256, .f32⟩
  | .hbm, ⟨27, _⟩ => ⟨S1x4x4096x256, .f32⟩
  | .hbm, ⟨28, _⟩ => ⟨S1x4x128x4096, .f32⟩
  | .hbm, ⟨29, _⟩ => ⟨S1x4096x4x128, .f32⟩
  | .hbm, ⟨30, _⟩ => ⟨S1x4096x512, .f32⟩
  | .hbm, ⟨31, _⟩ => ⟨S4096x512, .f32⟩
  | .hbm, ⟨32, _⟩ => ⟨S4096x512, .f32⟩
  | .hbm, ⟨33, _⟩ => ⟨S256x512, .f32⟩
  | .hbm, ⟨34, _⟩ => ⟨S256x512, .f32⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S256x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S256x512, .f32⟩
  | .local _ .vmem, ⟨11, _⟩ => ⟨S256x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x512 : Shape := ⟨2, ![4096, 512]⟩
abbrev S256x512 : Shape := ⟨2, ![256, 512]⟩
abbrev S4096x2048 : Shape := ⟨2, ![4096, 2048]⟩
abbrev S1x4096x4x128 : Shape := ⟨4, ![1, 4096, 4, 128]⟩
abbrev S1x256x4x128 : Shape := ⟨4, ![1, 256, 4, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x4096x512 : Shape := ⟨3, ![1, 4096, 512]⟩
abbrev S1x4x128x256 : Shape := ⟨4, ![1, 4, 128, 256]⟩
abbrev S4x4096 : Shape := ⟨2, ![4, 4096]⟩
abbrev S1x4x256x128 : Shape := ⟨4, ![1, 4, 256, 128]⟩
abbrev S1x4x4096x128 : Shape := ⟨4, ![1, 4, 4096, 128]⟩

abbrev nBuf : Space → Nat
  | .hbm => 88
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x2048, .f32⟩
  | .hbm, ⟨4, _⟩ => ⟨S4096x512, .f32⟩
  | .hbm, ⟨5, _⟩ => ⟨S256x512, .f32⟩
  | .hbm, ⟨6, _⟩ => ⟨S256x512, .f32⟩
  | .hbm, ⟨7, _⟩ => ⟨S1x4096x4x128, .f32⟩
  | .hbm, ⟨8, _⟩ => ⟨S1x256x4x128, .f32⟩
  | .hbm, ⟨9, _⟩ => ⟨S1x256x4x128, .f32⟩
  | .hbm, ⟨10, _⟩ => ⟨S1x4x4096x256, .f32⟩
  | .hbm, ⟨11, _⟩ => ⟨S_, .f32⟩
  | .hbm, ⟨12, _⟩ => ⟨S1x4x4096x256, .f32⟩
  | .hbm, ⟨13, _⟩ => ⟨S1x4x4096x256, .f32⟩
  | .hbm, ⟨14, _⟩ => ⟨S_, .f32⟩
  | .hbm, ⟨15, _⟩ => ⟨S1x4x4096, .f32⟩
  | .hbm, ⟨16, _⟩ => ⟨S1x4x4096x1, .f32⟩
  | .hbm, ⟨17, _⟩ => ⟨S1x4x4096x256, .f32⟩
  | .hbm, ⟨18, _⟩ => ⟨S1x4x4096x256, .i1⟩
  | .hbm, ⟨19, _⟩ => ⟨S1x4x4096x256, .f32⟩
  | .hbm, ⟨20, _⟩ => ⟨S_, .f32⟩
  | .hbm, ⟨21, _⟩ => ⟨S1x4x4096, .f32⟩
  | .hbm, ⟨22, _⟩ => ⟨S_, .f32⟩
  | .hbm, ⟨23, _⟩ => ⟨S1x4x4096, .f32⟩
  | .hbm, ⟨24, _⟩ => ⟨S1x4x4096, .f32⟩
  | .hbm, ⟨25, _⟩ => ⟨S_, .f32⟩
  | .hbm, ⟨26, _⟩ => ⟨S1x4x4096, .f32⟩
  | .hbm, ⟨27, _⟩ => ⟨S1x4x4096, .i1⟩
  | .hbm, ⟨28, _⟩ => ⟨S_, .f32⟩
  | .hbm, ⟨29, _⟩ => ⟨S1x4x4096, .f32⟩
  | .hbm, ⟨30, _⟩ => ⟨S1x4x4096, .i1⟩
  | .hbm, ⟨31, _⟩ => ⟨S_, .f32⟩
  | .hbm, ⟨32, _⟩ => ⟨S1x4x4096, .f32⟩
  | .hbm, ⟨33, _⟩ => ⟨S_, .f32⟩
  | .hbm, ⟨34, _⟩ => ⟨S1x4x4096, .f32⟩
  | .hbm, ⟨35, _⟩ => ⟨S_, .f32⟩
  | .hbm, ⟨36, _⟩ => ⟨S1x4x4096, .f32⟩
  | .hbm, ⟨37, _⟩ => ⟨S1x4x4096, .f32⟩
  | .hbm, ⟨38, _⟩ => ⟨S1x4x4096, .f32⟩
  | .hbm, ⟨39, _⟩ => ⟨S1x4x4096x1, .f32⟩
  | .hbm, ⟨40, _⟩ => ⟨S1x4x4096x256, .f32⟩
  | .hbm, ⟨41, _⟩ => ⟨S1x4x4096x256, .f32⟩
  | .hbm, ⟨42, _⟩ => ⟨S1x4x4096x256, .f32⟩
  | .hbm, ⟨43, _⟩ => ⟨S_, .f32⟩
  | .hbm, ⟨44, _⟩ => ⟨S1x4x4096, .f32⟩
  | .hbm, ⟨45, _⟩ => ⟨S1x4x4096x1, .f32⟩
  | .hbm, ⟨46, _⟩ => ⟨S1x4x4096x256, .f32⟩
  | .hbm, ⟨47, _⟩ => ⟨S1x4x4096x256, .f32⟩
  | .hbm, ⟨48, _⟩ => ⟨S1x4x4096x1, .f32⟩
  | .hbm, ⟨49, _⟩ => ⟨S_, .f32⟩
  | .hbm, ⟨50, _⟩ => ⟨S1x4x4096x1, .f32⟩
  | .hbm, ⟨51, _⟩ => ⟨S1x4x4096x1, .f32⟩
  | .hbm, ⟨52, _⟩ => ⟨S1x4x128x4096, .f32⟩
  | .hbm, ⟨53, _⟩ => ⟨S1x4096x4x128, .f32⟩
  | .hbm, ⟨54, _⟩ => ⟨S1x4096x512, .f32⟩
  | .hbm, ⟨55, _⟩ => ⟨S4096x512, .f32⟩
  | .hbm, ⟨56, _⟩ => ⟨S4096x512, .f32⟩
  | .hbm, ⟨57, _⟩ => ⟨S1x4096x512, .f32⟩
  | .hbm, ⟨58, _⟩ => ⟨S1x4096x4x128, .f32⟩
  | .hbm, ⟨59, _⟩ => ⟨S1x4x128x4096, .f32⟩
  | .hbm, ⟨60, _⟩ => ⟨S1x4x4096x256, .f32⟩
  | .hbm, ⟨61, _⟩ => ⟨S1x4x128x256, .f32⟩
  | .hbm, ⟨62, _⟩ => ⟨S1x256x4x128, .f32⟩
  | .hbm, ⟨63, _⟩ => ⟨S1x4x4096x256, .f32⟩
  | .hbm, ⟨64, _⟩ => ⟨S1x4x4096x256, .f32⟩
  | .hbm, ⟨65, _⟩ => ⟨S1x4x4096x256, .f32⟩
  | .hbm, ⟨66, _⟩ => ⟨S_, .f32⟩
  | .hbm, ⟨67, _⟩ => ⟨S1x4x4096, .f32⟩
  | .hbm, ⟨68, _⟩ => ⟨S1x4x4096x1, .f32⟩
  | .hbm, ⟨69, _⟩ => ⟨S1x4x4096x1, .f32⟩
  | .hbm, ⟨70, _⟩ => ⟨S1x4x4096x256, .f32⟩
  | .hbm, ⟨71, _⟩ => ⟨S1x4x4096x256, .f32⟩
  | .hbm, ⟨72, _⟩ => ⟨S_, .f32⟩
  | .hbm, ⟨73, _⟩ => ⟨S4x4096, .f32⟩
  | .hbm, ⟨74, _⟩ => ⟨S1x4x4096, .f32⟩
  | .hbm, ⟨75, _⟩ => ⟨S1x4x4096x256, .f32⟩
  | .hbm, ⟨76, _⟩ => ⟨S1x4x4096x256, .f32⟩
  | .hbm, ⟨77, _⟩ => ⟨S1x4x4096x256, .f32⟩
  | .hbm, ⟨78, _⟩ => ⟨S_, .f32⟩
  | .hbm, ⟨79, _⟩ => ⟨S1x4x4096x256, .f32⟩
  | .hbm, ⟨80, _⟩ => ⟨S1x4x4096x256, .f32⟩
  | .hbm, ⟨81, _⟩ => ⟨S1x4x256x128, .f32⟩
  | .hbm, ⟨82, _⟩ => ⟨S1x256x4x128, .f32⟩
  | .hbm, ⟨83, _⟩ => ⟨S1x4x4096x128, .f32⟩
  | .hbm, ⟨84, _⟩ => ⟨S1x4096x4x128, .f32⟩
  | .hbm, ⟨85, _⟩ => ⟨S256x512, .f32⟩
  | .hbm, ⟨86, _⟩ => ⟨S256x512, .f32⟩
  | .hbm, ⟨87, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== DwDown.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwDownIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S_, .f32⟩
  | .hbm, ⟨5, _⟩ => ⟨S5632x2048, .f32⟩
  | .hbm, ⟨6, _⟩ => ⟨S4096x2048, .f32⟩
  | .hbm, ⟨7, _⟩ => ⟨S2048x5632, .f32⟩
  | .hbm, ⟨8, _⟩ => ⟨S5632x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BwdAct.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩
abbrev S256x2048 : Shape := ⟨2, ![256, 2048]⟩
abbrev S256x1408 : Shape := ⟨2, ![256, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefBwdActIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x2048, .f32⟩
  | .hbm, ⟨5, _⟩ => ⟨S5632x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .bf16⟩
  | .hbm, ⟨31, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== DwGate.lean ====
abbrev S4096x2048 : Shape := ⟨2, ![4096, 2048]⟩
abbrev S4096x5632 : Shape := ⟨2, ![4096, 5632]⟩
abbrev S4x2048x1408 : Shape := ⟨3, ![4, 2048, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x1408, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .f32⟩
  | .local _ .vmem, ⟨5, _⟩ => ⟨S1x512x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwFfIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x2048, .f32⟩
  | .hbm, ⟨3, _⟩ => ⟨S4096x5632, .f32⟩
  | .hbm, ⟨4, _⟩ => ⟨S_, .f32⟩
  | .hbm, ⟨5, _⟩ => ⟨S2048x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x4x1408, .f32⟩
  | .hbm, ⟨10, _⟩ => ⟨S4x2048x1408, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwUp.lean ====
abbrev S4096x2048 : Shape := ⟨2, ![4096, 2048]⟩
abbrev S4096x5632 : Shape := ⟨2, ![4096, 5632]⟩
abbrev S4x2048x1408 : Shape := ⟨3, ![4, 2048, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x1408, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .f32⟩
  | .local _ .vmem, ⟨5, _⟩ => ⟨S1x512x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dfn.lean ====
abbrev S4096x5632 : Shape := ⟨2, ![4096, 5632]⟩
abbrev S4x2048x1408 : Shape := ⟨3, ![4, 2048, 1408]⟩
abbrev S4096x2048 : Shape := ⟨2, ![4096, 2048]⟩
abbrev S512x5632 : Shape := ⟨2, ![512, 5632]⟩
abbrev S4x512x1408 : Shape := ⟨3, ![4, 512, 1408]⟩
abbrev S512x512 : Shape := ⟨2, ![512, 512]⟩
abbrev S512x1408 : Shape := ⟨2, ![512, 1408]⟩
abbrev S1x512x1408 : Shape := ⟨3, ![1, 512, 1408]⟩

abbrev nBuf : Space → Nat
  | .hbm => 5
  | .vmem => 10
  | .smem => 0
  | _ => 0

abbrev bufTy : (tb : Table) → Fin (tcTables nBuf tb) → BufTy
  | .hbm, ⟨0, _⟩ => ⟨S4096x5632, .bf16⟩
  | .hbm, ⟨1, _⟩ => ⟨S4x2048x1408, .bf16⟩
  | .hbm, ⟨2, _⟩ => ⟨S4096x5632, .bf16⟩
  | .hbm, ⟨3, _⟩ => ⟨S4x2048x1408, .bf16⟩
  | .hbm, ⟨4, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S4x512x1408, .bf16⟩
  | .local _ .vmem, ⟨3, _⟩ => ⟨S4x512x1408, .bf16⟩
  | .local _ .vmem, ⟨4, _⟩ => ⟨S512x5632, .bf16⟩
  | .local _ .vmem, ⟨5, _⟩ => ⟨S512x5632, .bf16⟩
  | .local _ .vmem, ⟨6, _⟩ => ⟨S4x512x1408, .bf16⟩
  | .local _ .vmem, ⟨7, _⟩ => ⟨S4x512x1408, .bf16⟩
  | .local _ .vmem, ⟨8, _⟩ => ⟨S512x512, .f32⟩
  | .local _ .vmem, ⟨9, _⟩ => ⟨S512x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S4x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefDfnIdeal.lean ====
abbrev S4096x5632 : Shape := ⟨2, ![4096, 5632]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S_ : Shape := ⟨0, ![]⟩
abbrev S4096x2048 : Shape := ⟨2, ![4096, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x2048x1408, .bf16⟩
  | .hbm, ⟨2, _⟩ => ⟨S4096x5632, .bf16⟩
  | .hbm, ⟨3, _⟩ => ⟨S4x2048x1408, .bf16⟩
  | .hbm, ⟨4, _⟩ => ⟨S4096x5632, .f32⟩
  | .hbm, ⟨5, _⟩ => ⟨S4x2048x1408, .f32⟩
  | .hbm, ⟨6, _⟩ => ⟨S4096x5632, .f32⟩
  | .hbm, ⟨7, _⟩ => ⟨S4x2048x1408, .f32⟩
  | .hbm, ⟨8, _⟩ => ⟨S2048x4x1408, .f32⟩
  | .hbm, ⟨9, _⟩ => ⟨S2048x5632, .f32⟩
  | .hbm, ⟨10, _⟩ => ⟨S2048x4x1408, .f32⟩
  | .hbm, ⟨11, _⟩ => ⟨S2048x5632, .f32⟩
  | .hbm, ⟨12, _⟩ => ⟨S_, .f32⟩
  | .hbm, ⟨13, _⟩ => ⟨S4096x2048, .f32⟩
  | .hbm, ⟨14, _⟩ => ⟨S4096x5632, .f32⟩
  | .hbm, ⟨15, _⟩ => ⟨S4096x5632, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GateUp.lean ====
abbrev S4096x2048 : Shape := ⟨2, ![4096, 2048]⟩
abbrev S4x2048x1408 : Shape := ⟨3, ![4, 2048, 1408]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefGateUpIdeal.lean ====
abbrev S4096x2048 : Shape := ⟨2, ![4096, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S4096x5632 : Shape := ⟨2, ![4096, 5632]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S4096x2048, .f32⟩
  | .hbm, ⟨4, _⟩ => ⟨S4x2048x1408, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S4096x5632, .f32⟩
  | .hbm, ⟨9, _⟩ => ⟨S2048x4x1408, .f32⟩
  | .hbm, ⟨10, _⟩ => ⟨S2048x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .bf16⟩
  | .hbm, ⟨23, _⟩ => ⟨S4096x5632, .bf16⟩
  | .hbm, ⟨24, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== DownProj.lean ====
abbrev S4096x5632 : Shape := ⟨2, ![4096, 5632]⟩
abbrev S5632x2048 : Shape := ⟨2, ![5632, 2048]⟩
abbrev S4096x2048 : Shape := ⟨2, ![4096, 2048]⟩
abbrev S1x128 : Shape := ⟨2, ![1, 128]⟩
abbrev S512x5632 : Shape := ⟨2, ![512, 5632]⟩
abbrev S5632x1024 : Shape := ⟨2, ![5632, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x128, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let arg1 : BitVec 32 := BitVec.ofNat 32 (i 1).val
  let c0_i32_15 : BitVec 32 := 0#32
  let v22 : BitVec 1 := Scalar.cmpi .eq arg1 c0_i32_15
  let v23 : BitVec 1 := Scalar.andi v21 v22
  let v24 : BitVec 32 := Scalar.extui v23
  let c0_i32_16 : BitVec 32 := 0#32
  let v25 : BitVec 1 := Scalar.cmpi .ne v24 c0_i32_16
  v25

def k0_cond2 (i : grid0.Coords) : BitVec 1 :=
  let arg0 : BitVec 32 := BitVec.ofNat 32 (i 0).val
  let c0_i32 : BitVec 32 := 0#32
  let v21 : BitVec 1 := Scalar.cmpi .eq arg0 c0_i32
  let arg1 : BitVec 32 := BitVec.ofNat 32 (i 1).val
  let c0_i32_15 : BitVec 32 := 0#32
  let v22 : BitVec 1 := Scalar.cmpi .eq arg1 c0_i32_15
  let v23 : BitVec 1 := Scalar.andi v21 v22
  let v_true : BitVec 1 := 1#1
  let v26 : BitVec 1 := Scalar.xori v23 v_true
  let v27 : BitVec 32 := Scalar.extui v26
  let c0_i32_17 : BitVec 32 := 0#32
  let v28 : BitVec 1 := Scalar.cmpi .ne v27 c0_i32_17
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== RefDownProjIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩
abbrev S4096 : Shape := ⟨1, ![4096]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x2048, .f32⟩
  | .hbm, ⟨30, _⟩ => ⟨S4096x2048, .f32⟩
  | .hbm, ⟨31, _⟩ => ⟨S4096x2048, .bf16⟩
  | .hbm, ⟨32, _⟩ => ⟨S1x128, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== DwOut.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwOutIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dy.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDyIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefOutProjIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== InProj.lean ====
abbrev S4096x2048 : Shape := ⟨2, ![4096, 2048]⟩
abbrev S2048x3072 : Shape := ⟨2, ![2048, 3072]⟩
abbrev S4096x3072 : Shape := ⟨2, ![4096, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInProjIdeal.lean ====
abbrev S4096x2048 : Shape := ⟨2, ![4096, 2048]⟩
abbrev S2048x3072 : Shape := ⟨2, ![2048, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x2048, .f32⟩
  | .hbm, ⟨3, _⟩ => ⟨S2048x3072, .f32⟩
  | .hbm, ⟨4, _⟩ => ⟨S4096x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwIn.lean ====
abbrev S4096x2048 : Shape := ⟨2, ![4096, 2048]⟩
abbrev S4096x3072 : Shape := ⟨2, ![4096, 3072]⟩
abbrev S2048x3072 : Shape := ⟨2, ![2048, 3072]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S2048x3072, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwInIdeal.lean ====
abbrev S4096x2048 : Shape := ⟨2, ![4096, 2048]⟩
abbrev S4096x3072 : Shape := ⟨2, ![4096, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S4096x2048, .f32⟩
  | .hbm, ⟨3, _⟩ => ⟨S4096x3072, .f32⟩
  | .hbm, ⟨4, _⟩ => ⟨S_, .f32⟩
  | .hbm, ⟨5, _⟩ => ⟨S2048x3072, .f32⟩
  | .hbm, ⟨6, _⟩ => ⟨S4096x3072, .f32⟩
  | .hbm, ⟨7, _⟩ => ⟨S3072x2048, .f32⟩
  | .hbm, ⟨8, _⟩ => ⟨S2048x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dhn.lean ====
abbrev S4096x3072 : Shape := ⟨2, ![4096, 3072]⟩
abbrev S2048x3072 : Shape := ⟨2, ![2048, 3072]⟩
abbrev S4096x2048 : Shape := ⟨2, ![4096, 2048]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDhnIdeal.lean ====
abbrev S4096x3072 : Shape := ⟨2, ![4096, 3072]⟩
abbrev S2048x3072 : Shape := ⟨2, ![2048, 3072]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x3072, .f32⟩
  | .hbm, ⟨3, _⟩ => ⟨S2048x3072, .f32⟩
  | .hbm, ⟨4, _⟩ => ⟨S_, .f32⟩
  | .hbm, ⟨5, _⟩ => ⟨S4096x2048, .f32⟩
  | .hbm, ⟨6, _⟩ => ⟨S4096x3072, .f32⟩
  | .hbm, ⟨7, _⟩ => ⟨S4096x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RmsBwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefRmsBwdIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== AdamIn.lean ====
abbrev S2 : Shape := ⟨1, ![2]⟩
abbrev S2048x720 : Shape := ⟨2, ![2048, 720]⟩
abbrev S1024x720 : Shape := ⟨2, ![1024, 720]⟩
abbrev S256x720 : Shape := ⟨2, ![256, 720]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S2048x720, .f32⟩
  | .hbm, ⟨1, _⟩ => ⟨S1024x720, .f32⟩
  | .hbm, ⟨2, _⟩ => ⟨S1024x720, .f32⟩
  | .hbm, ⟨3, _⟩ => ⟨S2048x720, .f32⟩
  | .hbm, ⟨4, _⟩ => ⟨S2048x720, .f32⟩
  | .hbm, ⟨5, _⟩ => ⟨S2048x720, .f32⟩
  | .hbm, ⟨6, _⟩ => ⟨S2048x720, .f32⟩
  | .hbm, ⟨7, _⟩ => ⟨S2048x720, .f32⟩
  | .hbm, ⟨8, _⟩ => ⟨S2048x720, .f32⟩
  | .local _ .vmem, ⟨0, _⟩ => ⟨S256x720, .f32⟩
  | .local _ .vmem, ⟨1, _⟩ => ⟨S256x720, .f32⟩
  | .local _ .vmem, ⟨2, _⟩ => ⟨S256x720, .f32⟩
  | .local _ .vmem, ⟨3, _⟩ => ⟨S256x720, .f32⟩
  | .local _ .vmem, ⟨4, _⟩ => ⟨S256x720, .f32⟩
  | .local _ .vmem, ⟨5, _⟩ => ⟨S256x720, .f32⟩
  | .local _ .vmem, ⟨6, _⟩ => ⟨S256x720, .f32⟩
  | .local _ .vmem, ⟨7, _⟩ => ⟨S256x720, .f32⟩
  | .local _ .vmem, ⟨8, _⟩ => ⟨S256x720, .f32⟩
  | .local _ .vmem, ⟨9, _⟩ => ⟨S256x720, .f32⟩
  | .local _ .vmem, ⟨10, _⟩ => ⟨S256x720, .f32⟩
  | .local _ .vmem, ⟨11, _⟩ => ⟨S256x720, .f32⟩
  | .local _ .vmem, ⟨12, _⟩ => ⟨S256x720, .f32⟩
  | .local _ .vmem, ⟨13, _⟩ => ⟨S256x720, .f32⟩
  | .local _ .vmem, ⟨14, _⟩ => ⟨S256x720, .f32⟩
  | .local _ .vmem, ⟨15, _⟩ => ⟨S256x720, .f32⟩
  | .local _ .vmem, ⟨16, _⟩ => ⟨S256x720, .f32⟩
  | .local _ .vmem, ⟨17, _⟩ => ⟨S256x720, .f32⟩
  | .local _ .smem, ⟨0, _⟩ => ⟨S2, .i32⟩
  | _, _ => ⟨S2048x720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1 : Index := 1#32
  let v17 : BitVec 32 := pf.at 0 (Rect.unit (s := S2) ![1] S1.size inb_S2_S1_1) numel1_S1
  let v18 : BitVec 1 := Scalar.cmpi .eq v16 v17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 v28 c0_i32_10
  let c0_i32_11 : BitVec 32 := 0#32
  let c0_i32_12 : BitVec 32 := 0#32
  ![v29.toNat, c0_i32_11.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1 : Index := 1#32
  let v17 : BitVec 32 := pf.at 0 (Rect.unit (s := S2) ![1] S1.size inb_S2_S1_1) numel1_S1
  let v18 : BitVec 1 := Scalar.cmpi .eq v16 v17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 c0_i32_10 v28
  let c0_i32_11 : BitVec 32 := 0#32
  let c0_i32_12 : BitVec 32 := 0#32
  ![v29.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x720 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x720 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x720 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x720 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x720 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x720 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x720 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x720 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x720 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInIdeal.lean ====
abbrev S2 : Shape := ⟨1, ![2]⟩
abbrev S2048x720 : Shape := ⟨2, ![2048, 720]⟩
abbrev S1024x720 : Shape := ⟨2, ![1024, 720]⟩
abbrev S256x720 : Shape := ⟨2, ![256, 720]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S2048x720, .f32⟩
  | .hbm, ⟨1, _⟩ => ⟨S1024x720, .f32⟩
  | .hbm, ⟨2, _⟩ => ⟨S1024x720, .f32⟩
  | .hbm, ⟨3, _⟩ => ⟨S2048x720, .f32⟩
  | .hbm, ⟨4, _⟩ => ⟨S2048x720, .f32⟩
  | .hbm, ⟨5, _⟩ => ⟨S2048x720, .f32⟩
  | .hbm, ⟨6, _⟩ => ⟨S2048x720, .f32⟩
  | .hbm, ⟨7, _⟩ => ⟨S2048x720, .f32⟩
  | .hbm, ⟨8, _⟩ => ⟨S2048x720, .f32⟩
  | .local _ .vmem, ⟨0, _⟩ => ⟨S256x720, .f32⟩
  | .local _ .vmem, ⟨1, _⟩ => ⟨S256x720, .f32⟩
  | .local _ .vmem, ⟨2, _⟩ => ⟨S256x720, .f32⟩
  | .local _ .vmem, ⟨3, _⟩ => ⟨S256x720, .f32⟩
  | .local _ .vmem, ⟨4, _⟩ => ⟨S256x720, .f32⟩
  | .local _ .vmem, ⟨5, _⟩ => ⟨S256x720, .f32⟩
  | .local _ .vmem, ⟨6, _⟩ => ⟨S256x720, .f32⟩
  | .local _ .vmem, ⟨7, _⟩ => ⟨S256x720, .f32⟩
  | .local _ .vmem, ⟨8, _⟩ => ⟨S256x720, .f32⟩
  | .local _ .vmem, ⟨9, _⟩ => ⟨S256x720, .f32⟩
  | .local _ .vmem, ⟨10, _⟩ => ⟨S256x720, .f32⟩
  | .local _ .vmem, ⟨11, _⟩ => ⟨S256x720, .f32⟩
  | .local _ .vmem, ⟨12, _⟩ => ⟨S256x720, .f32⟩
  | .local _ .vmem, ⟨13, _⟩ => ⟨S256x720, .f32⟩
  | .local _ .vmem, ⟨14, _⟩ => ⟨S256x720, .f32⟩
  | .local _ .vmem, ⟨15, _⟩ => ⟨S256x720, .f32⟩
  | .local _ .vmem, ⟨16, _⟩ => ⟨S256x720, .f32⟩
  | .local _ .vmem, ⟨17, _⟩ => ⟨S256x720, .f32⟩
  | .local _ .smem, ⟨0, _⟩ => ⟨S2, .i32⟩
  | _, _ => ⟨S2048x720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1 : Index := 1#32
  let v17 : BitVec 32 := pf.at 0 (Rect.unit (s := S2) ![1] S1.size inb_S2_S1_1) numel1_S1
  let v18 : BitVec 1 := Scalar.cmpi .eq v16 v17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 v28 c0_i32_10
  let c0_i32_11 : BitVec 32 := 0#32
  let c0_i32_12 : BitVec 32 := 0#32
  ![v29.toNat, c0_i32_11.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1 : Index := 1#32
  let v17 : BitVec 32 := pf.at 0 (Rect.unit (s := S2) ![1] S1.size inb_S2_S1_1) numel1_S1
  let v18 : BitVec 1 := Scalar.cmpi .eq v16 v17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 c0_i32_10 v28
  let c0_i32_11 : BitVec 32 := 0#32
  let c0_i32_12 : BitVec 32 := 0#32
  ![v29.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x720 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x720 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x720 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x720 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x720 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x720 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x720 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x720 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x720 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamInIdeal.lean ====
abbrev S2 : Shape := ⟨1, ![2]⟩
abbrev S2048x720 : Shape := ⟨2, ![2048, 720]⟩
abbrev S1024x720 : Shape := ⟨2, ![1024, 720]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2, .i32⟩
  | .hbm, ⟨1, _⟩ => ⟨S2048x720, .f32⟩
  | .hbm, ⟨2, _⟩ => ⟨S1024x720, .f32⟩
  | .hbm, ⟨3, _⟩ => ⟨S1024x720, .f32⟩
  | .hbm, ⟨4, _⟩ => ⟨S2048x720, .f32⟩
  | .hbm, ⟨5, _⟩ => ⟨S2048x720, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1024x720, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S1024x720, .f32⟩
  | .hbm, ⟨16, _⟩ => ⟨S2048x720, .f32⟩
  | .hbm, ⟨17, _⟩ => ⟨S_, .f32⟩
  | .hbm, ⟨18, _⟩ => ⟨S2048x720, .f32⟩
  | .hbm, ⟨19, _⟩ => ⟨S2048x720, .f32⟩
  | .hbm, ⟨20, _⟩ => ⟨S_, .f32⟩
  | .hbm, ⟨21, _⟩ => ⟨S2048x720, .f32⟩
  | .hbm, ⟨22, _⟩ => ⟨S2048x720, .f32⟩
  | .hbm, ⟨23, _⟩ => ⟨S2048x720, .f32⟩
  | .hbm, ⟨24, _⟩ => ⟨S_, .f32⟩
  | .hbm, ⟨25, _⟩ => ⟨S2048x720, .f32⟩
  | .hbm, ⟨26, _⟩ => ⟨S2048x720, .f32⟩
  | .hbm, ⟨27, _⟩ => ⟨S2048x720, .f32⟩
  | .hbm, ⟨28, _⟩ => ⟨S_, .f32⟩
  | .hbm, ⟨29, _⟩ => ⟨S2048x720, .f32⟩
  | .hbm, ⟨30, _⟩ => ⟨S2048x720, .f32⟩
  | .hbm, ⟨31, _⟩ => ⟨S2048x720, .f32⟩
  | .hbm, ⟨32, _⟩ => ⟨S_, .f32⟩
  | .hbm, ⟨33, _⟩ => ⟨S2048x720, .f32⟩
  | .hbm, ⟨34, _⟩ => ⟨S2048x720, .f32⟩
  | .hbm, ⟨35, _⟩ => ⟨S_, .f32⟩
  | .hbm, ⟨36, _⟩ => ⟨S2048x720, .f32⟩
  | .hbm, ⟨37, _⟩ => ⟨S2048x720, .f32⟩
  | .hbm, ⟨38, _⟩ => ⟨S2048x720, .f32⟩
  | .hbm, ⟨39, _⟩ => ⟨S_, .f32⟩
  | .hbm, ⟨40, _⟩ => ⟨S2048x720, .f32⟩
  | .hbm, ⟨41, _⟩ => ⟨S2048x720, .f32⟩
  | .hbm, ⟨42, _⟩ => ⟨S2048x720, .f32⟩
  | .hbm, ⟨43, _⟩ => ⟨S_, .f32⟩
  | .hbm, ⟨44, _⟩ => ⟨S2048x720, .f32⟩
  | .hbm, ⟨45, _⟩ => ⟨S2048x720, .f32⟩
  | .hbm, ⟨46, _⟩ => ⟨S2048x720, .f32⟩
  | .hbm, ⟨47, _⟩ => ⟨S_, .f32⟩
  | .hbm, ⟨48, _⟩ => ⟨S2048x720, .f32⟩
  | .hbm, ⟨49, _⟩ => ⟨S2048x720, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== AdamUq.lean ====
abbrev S2 : Shape := ⟨1, ![2]⟩
abbrev S512x192 : Shape := ⟨2, ![512, 192]⟩
abbrev S256x192 : Shape := ⟨2, ![256, 192]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S512x192, .f32⟩
  | .hbm, ⟨1, _⟩ => ⟨S256x192, .f32⟩
  | .hbm, ⟨2, _⟩ => ⟨S256x192, .f32⟩
  | .hbm, ⟨3, _⟩ => ⟨S512x192, .f32⟩
  | .hbm, ⟨4, _⟩ => ⟨S512x192, .f32⟩
  | .hbm, ⟨5, _⟩ => ⟨S512x192, .f32⟩
  | .hbm, ⟨6, _⟩ => ⟨S512x192, .f32⟩
  | .hbm, ⟨7, _⟩ => ⟨S512x192, .f32⟩
  | .hbm, ⟨8, _⟩ => ⟨S512x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | .local _ .smem, ⟨0, _⟩ => ⟨S2, .i32⟩
  | _, _ => ⟨S512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUqIdeal.lean ====
abbrev S2 : Shape := ⟨1, ![2]⟩
abbrev S512x192 : Shape := ⟨2, ![512, 192]⟩
abbrev S256x192 : Shape := ⟨2, ![256, 192]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S512x192, .f32⟩
  | .hbm, ⟨1, _⟩ => ⟨S256x192, .f32⟩
  | .hbm, ⟨2, _⟩ => ⟨S256x192, .f32⟩
  | .hbm, ⟨3, _⟩ => ⟨S512x192, .f32⟩
  | .hbm, ⟨4, _⟩ => ⟨S512x192, .f32⟩
  | .hbm, ⟨5, _⟩ => ⟨S512x192, .f32⟩
  | .hbm, ⟨6, _⟩ => ⟨S512x192, .f32⟩
  | .hbm, ⟨7, _⟩ => ⟨S512x192, .f32⟩
  | .hbm, ⟨8, _⟩ => ⟨S512x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | .local _ .smem, ⟨0, _⟩ => ⟨S2, .i32⟩
  | _, _ => ⟨S512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamUqIdeal.lean ====
abbrev S2 : Shape := ⟨1, ![2]⟩
abbrev S512x192 : Shape := ⟨2, ![512, 192]⟩
abbrev S256x192 : Shape := ⟨2, ![256, 192]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2, .i32⟩
  | .hbm, ⟨1, _⟩ => ⟨S512x192, .f32⟩
  | .hbm, ⟨2, _⟩ => ⟨S256x192, .f32⟩
  | .hbm, ⟨3, _⟩ => ⟨S256x192, .f32⟩
  | .hbm, ⟨4, _⟩ => ⟨S512x192, .f32⟩
  | .hbm, ⟨5, _⟩ => ⟨S512x192, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S256x192, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S256x192, .f32⟩
  | .hbm, ⟨16, _⟩ => ⟨S512x192, .f32⟩
  | .hbm, ⟨17, _⟩ => ⟨S_, .f32⟩
  | .hbm, ⟨18, _⟩ => ⟨S512x192, .f32⟩
  | .hbm, ⟨19, _⟩ => ⟨S512x192, .f32⟩
  | .hbm, ⟨20, _⟩ => ⟨S_, .f32⟩
  | .hbm, ⟨21, _⟩ => ⟨S512x192, .f32⟩
  | .hbm, ⟨22, _⟩ => ⟨S512x192, .f32⟩
  | .hbm, ⟨23, _⟩ => ⟨S512x192, .f32⟩
  | .hbm, ⟨24, _⟩ => ⟨S_, .f32⟩
  | .hbm, ⟨25, _⟩ => ⟨S512x192, .f32⟩
  | .hbm, ⟨26, _⟩ => ⟨S512x192, .f32⟩
  | .hbm, ⟨27, _⟩ => ⟨S512x192, .f32⟩
  | .hbm, ⟨28, _⟩ => ⟨S_, .f32⟩
  | .hbm, ⟨29, _⟩ => ⟨S512x192, .f32⟩
  | .hbm, ⟨30, _⟩ => ⟨S512x192, .f32⟩
  | .hbm, ⟨31, _⟩ => ⟨S512x192, .f32⟩
  | .hbm, ⟨32, _⟩ => ⟨S_, .f32⟩
  | .hbm, ⟨33, _⟩ => ⟨S512x192, .f32⟩
  | .hbm, ⟨34, _⟩ => ⟨S512x192, .f32⟩
  | .hbm, ⟨35, _⟩ => ⟨S_, .f32⟩
  | .hbm, ⟨36, _⟩ => ⟨S512x192, .f32⟩
  | .hbm, ⟨37, _⟩ => ⟨S512x192, .f32⟩
  | .hbm, ⟨38, _⟩ => ⟨S512x192, .f32⟩
  | .hbm, ⟨39, _⟩ => ⟨S_, .f32⟩
  | .hbm, ⟨40, _⟩ => ⟨S512x192, .f32⟩
  | .hbm, ⟨41, _⟩ => ⟨S512x192, .f32⟩
  | .hbm, ⟨42, _⟩ => ⟨S512x192, .f32⟩
  | .hbm, ⟨43, _⟩ => ⟨S_, .f32⟩
  | .hbm, ⟨44, _⟩ => ⟨S512x192, .f32⟩
  | .hbm, ⟨45, _⟩ => ⟨S512x192, .f32⟩
  | .hbm, ⟨46, _⟩ => ⟨S512x192, .f32⟩
  | .hbm, ⟨47, _⟩ => ⟨S_, .f32⟩
  | .hbm, ⟨48, _⟩ => ⟨S512x192, .f32⟩
  | .hbm, ⟨49, _⟩ => ⟨S512x192, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== AdamUkv.lean ====
abbrev S2 : Shape := ⟨1, ![2]⟩
abbrev S512x256 : Shape := ⟨2, ![512, 256]⟩
abbrev S256x256 : Shape := ⟨2, ![256, 256]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S512x256, .f32⟩
  | .hbm, ⟨1, _⟩ => ⟨S256x256, .f32⟩
  | .hbm, ⟨2, _⟩ => ⟨S256x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .smem, ⟨0, _⟩ => ⟨S2, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUkvIdeal.lean ====
abbrev S2 : Shape := ⟨1, ![2]⟩
abbrev S512x256 : Shape := ⟨2, ![512, 256]⟩
abbrev S256x256 : Shape := ⟨2, ![256, 256]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S512x256, .f32⟩
  | .hbm, ⟨1, _⟩ => ⟨S256x256, .f32⟩
  | .hbm, ⟨2, _⟩ => ⟨S256x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .smem, ⟨0, _⟩ => ⟨S2, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamUkvIdeal.lean ====
abbrev S2 : Shape := ⟨1, ![2]⟩
abbrev S512x256 : Shape := ⟨2, ![512, 256]⟩
abbrev S256x256 : Shape := ⟨2, ![256, 256]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2, .i32⟩
  | .hbm, ⟨1, _⟩ => ⟨S512x256, .f32⟩
  | .hbm, ⟨2, _⟩ => ⟨S256x256, .f32⟩
  | .hbm, ⟨3, _⟩ => ⟨S256x256, .f32⟩
  | .hbm, ⟨4, _⟩ => ⟨S512x256, .f32⟩
  | .hbm, ⟨5, _⟩ => ⟨S512x256, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S256x256, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S256x256, .f32⟩
  | .hbm, ⟨16, _⟩ => ⟨S512x256, .f32⟩
  | .hbm, ⟨17, _⟩ => ⟨S_, .f32⟩
  | .hbm, ⟨18, _⟩ => ⟨S512x256, .f32⟩
  | .hbm, ⟨19, _⟩ => ⟨S512x256, .f32⟩
  | .hbm, ⟨20, _⟩ => ⟨S_, .f32⟩
  | .hbm, ⟨21, _⟩ => ⟨S512x256, .f32⟩
  | .hbm, ⟨22, _⟩ => ⟨S512x256, .f32⟩
  | .hbm, ⟨23, _⟩ => ⟨S512x256, .f32⟩
  | .hbm, ⟨24, _⟩ => ⟨S_, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S_, .f32⟩
  | .hbm, ⟨29, _⟩ => ⟨S512x256, .f32⟩
  | .hbm, ⟨30, _⟩ => ⟨S512x256, .f32⟩
  | .hbm, ⟨31, _⟩ => ⟨S512x256, .f32⟩
  | .hbm, ⟨32, _⟩ => ⟨S_, .f32⟩
  | .hbm, ⟨33, _⟩ => ⟨S512x256, .f32⟩
  | .hbm, ⟨34, _⟩ => ⟨S512x256, .f32⟩
  | .hbm, ⟨35, _⟩ => ⟨S_, .f32⟩
  | .hbm, ⟨36, _⟩ => ⟨S512x256, .f32⟩
  | .hbm, ⟨37, _⟩ => ⟨S512x256, .f32⟩
  | .hbm, ⟨38, _⟩ => ⟨S512x256, .f32⟩
  | .hbm, ⟨39, _⟩ => ⟨S_, .f32⟩
  | .hbm, ⟨40, _⟩ => ⟨S512x256, .f32⟩
  | .hbm, ⟨41, _⟩ => ⟨S512x256, .f32⟩
  | .hbm, ⟨42, _⟩ => ⟨S512x256, .f32⟩
  | .hbm, ⟨43, _⟩ => ⟨S_, .f32⟩
  | .hbm, ⟨44, _⟩ => ⟨S512x256, .f32⟩
  | .hbm, ⟨45, _⟩ => ⟨S512x256, .f32⟩
  | .hbm, ⟨46, _⟩ => ⟨S512x256, .f32⟩
  | .hbm, ⟨47, _⟩ => ⟨S_, .f32⟩
  | .hbm, ⟨48, _⟩ => ⟨S512x256, .f32⟩
  | .hbm, ⟨49, _⟩ => ⟨S512x256, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== AdamMemKv.lean ====
abbrev S2 : Shape := ⟨1, ![2]⟩
abbrev S512x1024 : Shape := ⟨2, ![512, 1024]⟩
abbrev S256x1024 : Shape := ⟨2, ![256, 1024]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S512x1024, .f32⟩
  | .hbm, ⟨1, _⟩ => ⟨S256x1024, .f32⟩
  | .hbm, ⟨2, _⟩ => ⟨S256x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .smem, ⟨0, _⟩ => ⟨S2, .i32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamMemKvIdeal.lean ====
abbrev S2 : Shape := ⟨1, ![2]⟩
abbrev S512x1024 : Shape := ⟨2, ![512, 1024]⟩
abbrev S256x1024 : Shape := ⟨2, ![256, 1024]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S512x1024, .f32⟩
  | .hbm, ⟨1, _⟩ => ⟨S256x1024, .f32⟩
  | .hbm, ⟨2, _⟩ => ⟨S256x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .smem, ⟨0, _⟩ => ⟨S2, .i32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamMemKvIdeal.lean ====
abbrev S2 : Shape := ⟨1, ![2]⟩
abbrev S512x1024 : Shape := ⟨2, ![512, 1024]⟩
abbrev S256x1024 : Shape := ⟨2, ![256, 1024]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2, .i32⟩
  | .hbm, ⟨1, _⟩ => ⟨S512x1024, .f32⟩
  | .hbm, ⟨2, _⟩ => ⟨S256x1024, .f32⟩
  | .hbm, ⟨3, _⟩ => ⟨S256x1024, .f32⟩
  | .hbm, ⟨4, _⟩ => ⟨S512x1024, .f32⟩
  | .hbm, ⟨5, _⟩ => ⟨S512x1024, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S256x1024, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S256x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S_, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S_, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S_, .f32⟩
  | .hbm, ⟨48, _⟩ => ⟨S512x1024, .f32⟩
  | .hbm, ⟨49, _⟩ => ⟨S512x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== AdamOut.lean ====
abbrev S2 : Shape := ⟨1, ![2]⟩
abbrev S512x2048 : Shape := ⟨2, ![512, 2048]⟩
abbrev S256x2048 : Shape := ⟨2, ![256, 2048]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S512x2048, .f32⟩
  | .hbm, ⟨1, _⟩ => ⟨S256x2048, .f32⟩
  | .hbm, ⟨2, _⟩ => ⟨S256x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .smem, ⟨0, _⟩ => ⟨S2, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutIdeal.lean ====
abbrev S2 : Shape := ⟨1, ![2]⟩
abbrev S512x2048 : Shape := ⟨2, ![512, 2048]⟩
abbrev S256x2048 : Shape := ⟨2, ![256, 2048]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S512x2048, .f32⟩
  | .hbm, ⟨1, _⟩ => ⟨S256x2048, .f32⟩
  | .hbm, ⟨2, _⟩ => ⟨S256x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .smem, ⟨0, _⟩ => ⟨S2, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamOutIdeal.lean ====
abbrev S2 : Shape := ⟨1, ![2]⟩
abbrev S512x2048 : Shape := ⟨2, ![512, 2048]⟩
abbrev S256x2048 : Shape := ⟨2, ![256, 2048]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2, .i32⟩
  | .hbm, ⟨1, _⟩ => ⟨S512x2048, .f32⟩
  | .hbm, ⟨2, _⟩ => ⟨S256x2048, .f32⟩
  | .hbm, ⟨3, _⟩ => ⟨S256x2048, .f32⟩
  | .hbm, ⟨4, _⟩ => ⟨S512x2048, .f32⟩
  | .hbm, ⟨5, _⟩ => ⟨S512x2048, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S256x2048, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S256x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S512x2048, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S_, .f32⟩
  | .hbm, ⟨40, _⟩ => ⟨S512x2048, .f32⟩
  | .hbm, ⟨41, _⟩ => ⟨S512x2048, .f32⟩
  | .hbm, ⟨42, _⟩ => ⟨S512x2048, .f32⟩
  | .hbm, ⟨43, _⟩ => ⟨S_, .f32⟩
  | .hbm, ⟨44, _⟩ => ⟨S512x2048, .f32⟩
  | .hbm, ⟨45, _⟩ => ⟨S512x2048, .f32⟩
  | .hbm, ⟨46, _⟩ => ⟨S512x2048, .f32⟩
  | .hbm, ⟨47, _⟩ => ⟨S_, .f32⟩
  | .hbm, ⟨48, _⟩ => ⟨S512x2048, .f32⟩
  | .hbm, ⟨49, _⟩ => ⟨S512x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== AdamGate.lean ====
abbrev S2 : Shape := ⟨1, ![2]⟩
abbrev S2048x1408 : Shape := ⟨2, ![2048, 1408]⟩
abbrev S1024x1408 : Shape := ⟨2, ![1024, 1408]⟩
abbrev S256x1408 : Shape := ⟨2, ![256, 1408]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S2048x1408, .f32⟩
  | .hbm, ⟨1, _⟩ => ⟨S1024x1408, .f32⟩
  | .hbm, ⟨2, _⟩ => ⟨S1024x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .smem, ⟨0, _⟩ => ⟨S2, .i32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1 : Index := 1#32
  let v17 : BitVec 32 := pf.at 0 (Rect.unit (s := S2) ![1] S1.size inb_S2_S1_1) numel1_S1
  let v18 : BitVec 1 := Scalar.cmpi .eq v16 v17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 v28 c0_i32_10
  let c0_i32_11 : BitVec 32 := 0#32
  let c0_i32_12 : BitVec 32 := 0#32
  ![v29.toNat, c0_i32_11.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1 : Index := 1#32
  let v17 : BitVec 32 := pf.at 0 (Rect.unit (s := S2) ![1] S1.size inb_S2_S1_1) numel1_S1
  let v18 : BitVec 1 := Scalar.cmpi .eq v16 v17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 c0_i32_10 v28
  let c0_i32_11 : BitVec 32 := 0#32
  let c0_i32_12 : BitVec 32 := 0#32
  ![v29.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGateIdeal.lean ====
abbrev S2 : Shape := ⟨1, ![2]⟩
abbrev S2048x1408 : Shape := ⟨2, ![2048, 1408]⟩
abbrev S1024x1408 : Shape := ⟨2, ![1024, 1408]⟩
abbrev S256x1408 : Shape := ⟨2, ![256, 1408]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S2048x1408, .f32⟩
  | .hbm, ⟨1, _⟩ => ⟨S1024x1408, .f32⟩
  | .hbm, ⟨2, _⟩ => ⟨S1024x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .smem, ⟨0, _⟩ => ⟨S2, .i32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1 : Index := 1#32
  let v17 : BitVec 32 := pf.at 0 (Rect.unit (s := S2) ![1] S1.size inb_S2_S1_1) numel1_S1
  let v18 : BitVec 1 := Scalar.cmpi .eq v16 v17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 v28 c0_i32_10
  let c0_i32_11 : BitVec 32 := 0#32
  let c0_i32_12 : BitVec 32 := 0#32
  ![v29.toNat, c0_i32_11.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1 : Index := 1#32
  let v17 : BitVec 32 := pf.at 0 (Rect.unit (s := S2) ![1] S1.size inb_S2_S1_1) numel1_S1
  let v18 : BitVec 1 := Scalar.cmpi .eq v16 v17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 c0_i32_10 v28
  let c0_i32_11 : BitVec 32 := 0#32
  let c0_i32_12 : BitVec 32 := 0#32
  ![v29.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamGateIdeal.lean ====
abbrev S2 : Shape := ⟨1, ![2]⟩
abbrev S2048x1408 : Shape := ⟨2, ![2048, 1408]⟩
abbrev S1024x1408 : Shape := ⟨2, ![1024, 1408]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2, .i32⟩
  | .hbm, ⟨1, _⟩ => ⟨S2048x1408, .f32⟩
  | .hbm, ⟨2, _⟩ => ⟨S1024x1408, .f32⟩
  | .hbm, ⟨3, _⟩ => ⟨S1024x1408, .f32⟩
  | .hbm, ⟨4, _⟩ => ⟨S2048x1408, .f32⟩
  | .hbm, ⟨5, _⟩ => ⟨S2048x1408, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1024x1408, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S1024x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | .hbm, ⟨38, _⟩ => ⟨S2048x1408, .f32⟩
  | .hbm, ⟨39, _⟩ => ⟨S_, .f32⟩
  | .hbm, ⟨40, _⟩ => ⟨S2048x1408, .f32⟩
  | .hbm, ⟨41, _⟩ => ⟨S2048x1408, .f32⟩
  | .hbm, ⟨42, _⟩ => ⟨S2048x1408, .f32⟩
  | .hbm, ⟨43, _⟩ => ⟨S_, .f32⟩
  | .hbm, ⟨44, _⟩ => ⟨S2048x1408, .f32⟩
  | .hbm, ⟨45, _⟩ => ⟨S2048x1408, .f32⟩
  | .hbm, ⟨46, _⟩ => ⟨S2048x1408, .f32⟩
  | .hbm, ⟨47, _⟩ => ⟨S_, .f32⟩
  | .hbm, ⟨48, _⟩ => ⟨S2048x1408, .f32⟩
  | .hbm, ⟨49, _⟩ => ⟨S2048x1408, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== AdamDown.lean ====
abbrev S2 : Shape := ⟨1, ![2]⟩
abbrev S1408x2048 : Shape := ⟨2, ![1408, 2048]⟩
abbrev S704x2048 : Shape := ⟨2, ![704, 2048]⟩
abbrev S176x2048 : Shape := ⟨2, ![176, 2048]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1408x2048, .f32⟩
  | .hbm, ⟨1, _⟩ => ⟨S704x2048, .f32⟩
  | .hbm, ⟨2, _⟩ => ⟨S704x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | .local _ .smem, ⟨0, _⟩ => ⟨S2, .i32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1 : Index := 1#32
  let v17 : BitVec 32 := pf.at 0 (Rect.unit (s := S2) ![1] S1.size inb_S2_S1_1) numel1_S1
  let v18 : BitVec 1 := Scalar.cmpi .eq v16 v17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 v28 c0_i32_10
  let c0_i32_11 : BitVec 32 := 0#32
  let c0_i32_12 : BitVec 32 := 0#32
  ![v29.toNat, c0_i32_11.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1 : Index := 1#32
  let v17 : BitVec 32 := pf.at 0 (Rect.unit (s := S2) ![1] S1.size inb_S2_S1_1) numel1_S1
  let v18 : BitVec 1 := Scalar.cmpi .eq v16 v17
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 c0_i32_10 v28
  let c0_i32_11 : BitVec 32 := 0#32
  let c0_i32_12 : BitVec 32 := 0#32
  ![v29.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamDownIdeal.lean ====
abbrev S2 : Shape := ⟨1, ![2]⟩
abbrev S1408x2048 : Shape := ⟨2, ![1408, 2048]⟩
abbrev S704x2048 : Shape := ⟨2, ![704, 2048]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2, .i32⟩
  | .hbm, ⟨1, _⟩ => ⟨S1408x2048, .f32⟩
  | .hbm, ⟨2, _⟩ => ⟨S704x2048, .f32⟩
  | .hbm, ⟨3, _⟩ => ⟨S704x2048, .f32⟩
  | .hbm, ⟨4, _⟩ => ⟨S1408x2048, .f32⟩
  | .hbm, ⟨5, _⟩ => ⟨S1408x2048, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S704x2048, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S704x2048, .f32⟩
  | .hbm, ⟨16, _⟩ => ⟨S1408x2048, .f32⟩
  | .hbm, ⟨17, _⟩ => ⟨S_, .f32⟩
  | .hbm, ⟨18, _⟩ => ⟨S1408x2048, .f32⟩
  | .hbm, ⟨19, _⟩ => ⟨S1408x2048, .f32⟩
  | .hbm, ⟨20, _⟩ => ⟨S_, .f32⟩
  | .hbm, ⟨21, _⟩ => ⟨S1408x2048, .f32⟩
  | .hbm, ⟨22, _⟩ => ⟨S1408x2048, .f32⟩
  | .hbm, ⟨23, _⟩ => ⟨S1408x2048, .f32⟩
  | .hbm, ⟨24, _⟩ => ⟨S_, .f32⟩
  | .hbm, ⟨25, _⟩ => ⟨S1408x2048, .f32⟩
  | .hbm, ⟨26, _⟩ => ⟨S1408x2048, .f32⟩
  | .hbm, ⟨27, _⟩ => ⟨S1408x2048, .f32⟩
  | .hbm, ⟨28, _⟩ => ⟨S_, .f32⟩
  | .hbm, ⟨29, _⟩ => ⟨S1408x2048, .f32⟩
  | .hbm, ⟨30, _⟩ => ⟨S1408x2048, .f32⟩
  | .hbm, ⟨31, _⟩ => ⟨S1408x2048, .f32⟩
  | .hbm, ⟨32, _⟩ => ⟨S_, .f32⟩
  | .hbm, ⟨33, _⟩ => ⟨S1408x2048, .f32⟩
  | .hbm, ⟨34, _⟩ => ⟨S1408x2048, .f32⟩
  | .hbm, ⟨35, _⟩ => ⟨S_, .f32⟩
  | .hbm, ⟨36, _⟩ => ⟨S1408x2048, .f32⟩
  | .hbm, ⟨37, _⟩ => ⟨S1408x2048, .f32⟩
  | .hbm, ⟨38, _⟩ => ⟨S1408x2048, .f32⟩
  | .hbm, ⟨39, _⟩ => ⟨S_, .f32⟩
  | .hbm, ⟨40, _⟩ => ⟨S1408x2048, .f32⟩
  | .hbm, ⟨41, _⟩ => ⟨S1408x2048, .f32⟩
  | .hbm, ⟨42, _⟩ => ⟨S1408x2048, .f32⟩
  | .hbm, ⟨43, _⟩ => ⟨S_, .f32⟩
  | .hbm, ⟨44, _⟩ => ⟨S1408x2048, .f32⟩
  | .hbm, ⟨45, _⟩ => ⟨S1408x2048, .f32⟩
  | .hbm, ⟨46, _⟩ => ⟨S1408x2048, .f32⟩
  | .hbm, ⟨47, _⟩ => ⟨S_, .f32⟩
  | .hbm, ⟨48, _⟩ => ⟨S1408x2048, .f32⟩
  | .hbm, ⟨49, _⟩ => ⟨S1408x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== MemKvBwd.lean ====
abbrev S256x2048 : Shape := ⟨2, ![256, 2048]⟩
abbrev S1x2048 : Shape := ⟨2, ![1, 2048]⟩
abbrev S2048x1024 : Shape := ⟨2, ![2048, 1024]⟩
abbrev S1x128 : Shape := ⟨2, ![1, 128]⟩
abbrev S256x512 : Shape := ⟨2, ![256, 512]⟩
abbrev S_ : Shape := ⟨0, ![]⟩
abbrev S256 : Shape := ⟨1, ![256]⟩
abbrev S256x1 : Shape := ⟨2, ![256, 1]⟩
abbrev S256x1024 : Shape := ⟨2, ![256, 1024]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S256x4 : Shape := ⟨2, ![256, 4]⟩
abbrev S256x4x1 : Shape := ⟨3, ![256, 4, 1]⟩
abbrev S1x1x128 : Shape := ⟨3, ![1, 1, 128]⟩
abbrev S256x128 : Shape := ⟨2, ![256, 128]⟩
abbrev S128 : Shape := ⟨1, ![128]⟩
abbrev S2048 : Shape := ⟨1, ![2048]⟩

abbrev nBuf : Space → Nat
  | .hbm => 50
  | .vmem => 11
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x1024, .bf16⟩
  | .hbm, ⟨3, _⟩ => ⟨S1x128, .f32⟩
  | .hbm, ⟨4, _⟩ => ⟨S256x512, .f32⟩
  | .hbm, ⟨5, _⟩ => ⟨S256x512, .f32⟩
  | .hbm, ⟨6, _⟩ => ⟨S2048x1024, .f32⟩
  | .hbm, ⟨7, _⟩ => ⟨S256x2048, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x1024, .f32⟩
  | .hbm, ⟨23, _⟩ => ⟨S256x2x4x128, .f32⟩
  | .hbm, ⟨24, _⟩ => ⟨S256x1x4x128, .f32⟩
  | .hbm, ⟨25, _⟩ => ⟨S256x4x128, .f32⟩
  | .hbm, ⟨26, _⟩ => ⟨S256x4x128, .f32⟩
  | .hbm, ⟨27, _⟩ => ⟨S_, .f32⟩
  | .hbm, ⟨28, _⟩ => ⟨S256x4, .f32⟩
  | .hbm, ⟨29, _⟩ => ⟨S256x4x1, .f32⟩
  | .hbm, ⟨30, _⟩ => ⟨S_, .f32⟩
  | .hbm, ⟨31, _⟩ => ⟨S256x4x1, .f32⟩
  | .hbm, ⟨32, _⟩ => ⟨S256x4x1, .f32⟩
  | .hbm, ⟨33, _⟩ => ⟨S_, .f32⟩
  | .hbm, ⟨34, _⟩ => ⟨S256x4x1, .f32⟩
  | .hbm, ⟨35, _⟩ => ⟨S256x4x1, .f32⟩
  | .hbm, ⟨36, _⟩ => ⟨S256x4x1, .f32⟩
  | .hbm, ⟨37, _⟩ => ⟨S256x4x128, .f32⟩
  | .hbm, ⟨38, _⟩ => ⟨S256x4x128, .f32⟩
  | .hbm, ⟨39, _⟩ => ⟨S1x1x128, .f32⟩
  | .hbm, ⟨40, _⟩ => ⟨S256x4x128, .f32⟩
  | .hbm, ⟨41, _⟩ => ⟨S256x4x128, .f32⟩
  | .hbm, ⟨42, _⟩ => ⟨S256x512, .f32⟩
  | .hbm, ⟨43, _⟩ => ⟨S256x1x4x128, .f32⟩
  | .hbm, ⟨44, _⟩ => ⟨S256x4x128, .f32⟩
  | .hbm, ⟨45, _⟩ => ⟨S256x512, .f32⟩
  | .hbm, ⟨46, _⟩ => ⟨S256x2048, .bf16⟩
  | .hbm, ⟨47, _⟩ => ⟨S2048x1024, .f32⟩
  | .hbm, ⟨48, _⟩ => ⟨S1x2048, .f32⟩
  | .hbm, ⟨49, _⟩ => ⟨S1x128, .f32⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S1x128, .f32⟩
  | .local _ .vmem, ⟨4, _⟩ => ⟨S256x2048, .bf16⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S2048x1024, .f32⟩
  | .local _ .vmem, ⟨9, _⟩ => ⟨S1x2048, .f32⟩
  | .local _ .vmem, ⟨10, _⟩ => ⟨S1x128, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35_0 : Ref sig .tc := ⟨.hbm, 47, rfl⟩
abbrev main_v35_1 : Ref sig .tc := ⟨.hbm, 48, rfl⟩
abbrev main_v35_2 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== RefMemKvBwdIdeal.lean ====
abbrev S256x2048 : Shape := ⟨2, ![256, 2048]⟩
abbrev S1x2048 : Shape := ⟨2, ![1, 2048]⟩
abbrev S2048x1024 : Shape := ⟨2, ![2048, 1024]⟩
abbrev S1x128 : Shape := ⟨2, ![1, 128]⟩
abbrev S256x512 : Shape := ⟨2, ![256, 512]⟩
abbrev S_ : Shape := ⟨0, ![]⟩
abbrev S256 : Shape := ⟨1, ![256]⟩
abbrev S256x1 : Shape := ⟨2, ![256, 1]⟩
abbrev S256x1024 : Shape := ⟨2, ![256, 1024]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S256x4 : Shape := ⟨2, ![256, 4]⟩
abbrev S256x4x1 : Shape := ⟨3, ![256, 4, 1]⟩
abbrev S1x1x128 : Shape := ⟨3, ![1, 1, 128]⟩
abbrev S128 : Shape := ⟨1, ![128]⟩
abbrev S1024x2048 : Shape := ⟨2, ![1024, 2048]⟩
abbrev S2048 : Shape := ⟨1, ![2048]⟩

abbrev nBuf : Space → Nat
  | .hbm => 93
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x1024, .bf16⟩
  | .hbm, ⟨3, _⟩ => ⟨S1x128, .f32⟩
  | .hbm, ⟨4, _⟩ => ⟨S256x512, .f32⟩
  | .hbm, ⟨5, _⟩ => ⟨S256x512, .f32⟩
  | .hbm, ⟨6, _⟩ => ⟨S2048x1024, .f32⟩
  | .hbm, ⟨7, _⟩ => ⟨S256x2048, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x1024, .f32⟩
  | .hbm, ⟨23, _⟩ => ⟨S256x2x4x128, .f32⟩
  | .hbm, ⟨24, _⟩ => ⟨S256x1x4x128, .f32⟩
  | .hbm, ⟨25, _⟩ => ⟨S256x4x128, .f32⟩
  | .hbm, ⟨26, _⟩ => ⟨S256x4x128, .f32⟩
  | .hbm, ⟨27, _⟩ => ⟨S_, .f32⟩
  | .hbm, ⟨28, _⟩ => ⟨S256x4, .f32⟩
  | .hbm, ⟨29, _⟩ => ⟨S256x4x1, .f32⟩
  | .hbm, ⟨30, _⟩ => ⟨S_, .f32⟩
  | .hbm, ⟨31, _⟩ => ⟨S256x4x1, .f32⟩
  | .hbm, ⟨32, _⟩ => ⟨S256x4x1, .f32⟩
  | .hbm, ⟨33, _⟩ => ⟨S_, .f32⟩
  | .hbm, ⟨34, _⟩ => ⟨S256x4x1, .f32⟩
  | .hbm, ⟨35, _⟩ => ⟨S256x4x1, .f32⟩
  | .hbm, ⟨36, _⟩ => ⟨S256x4x1, .f32⟩
  | .hbm, ⟨37, _⟩ => ⟨S256x4x1, .f32⟩
  | .hbm, ⟨38, _⟩ => ⟨S_, .f32⟩
  | .hbm, ⟨39, _⟩ => ⟨S256x4x1, .f32⟩
  | .hbm, ⟨40, _⟩ => ⟨S256x4x1, .f32⟩
  | .hbm, ⟨41, _⟩ => ⟨S256x4x128, .f32⟩
  | .hbm, ⟨42, _⟩ => ⟨S256x4x128, .f32⟩
  | .hbm, ⟨43, _⟩ => ⟨S1x1x128, .f32⟩
  | .hbm, ⟨44, _⟩ => ⟨S256x4x128, .f32⟩
  | .hbm, ⟨45, _⟩ => ⟨S256x4x128, .f32⟩
  | .hbm, ⟨46, _⟩ => ⟨S256x512, .f32⟩
  | .hbm, ⟨47, _⟩ => ⟨S256x1x4x128, .f32⟩
  | .hbm, ⟨48, _⟩ => ⟨S256x4x128, .f32⟩
  | .hbm, ⟨49, _⟩ => ⟨S256x512, .f32⟩
  | .hbm, ⟨50, _⟩ => ⟨S256x4x128, .f32⟩
  | .hbm, ⟨51, _⟩ => ⟨S256x1x4x128, .f32⟩
  | .hbm, ⟨52, _⟩ => ⟨S_, .f32⟩
  | .hbm, ⟨53, _⟩ => ⟨S256x2x4x128, .f32⟩
  | .hbm, ⟨54, _⟩ => ⟨S256x4x128, .f32⟩
  | .hbm, ⟨55, _⟩ => ⟨S256x4x128, .f32⟩
  | .hbm, ⟨56, _⟩ => ⟨S_, .f32⟩
  | .hbm, ⟨57, _⟩ => ⟨S128, .f32⟩
  | .hbm, ⟨58, _⟩ => ⟨S1x1x128, .f32⟩
  | .hbm, ⟨59, _⟩ => ⟨S256x4x128, .f32⟩
  | .hbm, ⟨60, _⟩ => ⟨S256x4x128, .f32⟩
  | .hbm, ⟨61, _⟩ => ⟨S_, .f32⟩
  | .hbm, ⟨62, _⟩ => ⟨S128, .f32⟩
  | .hbm, ⟨63, _⟩ => ⟨S1x128, .f32⟩
  | .hbm, ⟨64, _⟩ => ⟨S256x4x128, .f32⟩
  | .hbm, ⟨65, _⟩ => ⟨S_, .f32⟩
  | .hbm, ⟨66, _⟩ => ⟨S256x4, .f32⟩
  | .hbm, ⟨67, _⟩ => ⟨S256x4x1, .f32⟩
  | .hbm, ⟨68, _⟩ => ⟨S256x4x128, .f32⟩
  | .hbm, ⟨69, _⟩ => ⟨S256x4x128, .f32⟩
  | .hbm, ⟨70, _⟩ => ⟨S256x4x1, .f32⟩
  | .hbm, ⟨71, _⟩ => ⟨S_, .f32⟩
  | .hbm, ⟨72, _⟩ => ⟨S256x4x1, .f32⟩
  | .hbm, ⟨73, _⟩ => ⟨S256x4x1, .f32⟩
  | .hbm, ⟨74, _⟩ => ⟨S_, .f32⟩
  | .hbm, ⟨75, _⟩ => ⟨S256x4, .f32⟩
  | .hbm, ⟨76, _⟩ => ⟨S256x4x128, .f32⟩
  | .hbm, ⟨77, _⟩ => ⟨S256x4x128, .f32⟩
  | .hbm, ⟨78, _⟩ => ⟨S256x4x128, .f32⟩
  | .hbm, ⟨79, _⟩ => ⟨S256x4x128, .f32⟩
  | .hbm, ⟨80, _⟩ => ⟨S256x4x128, .f32⟩
  | .hbm, ⟨81, _⟩ => ⟨S256x1x4x128, .f32⟩
  | .hbm, ⟨82, _⟩ => ⟨S_, .f32⟩
  | .hbm, ⟨83, _⟩ => ⟨S256x2x4x128, .f32⟩
  | .hbm, ⟨84, _⟩ => ⟨S256x2x4x128, .f32⟩
  | .hbm, ⟨85, _⟩ => ⟨S256x1024, .f32⟩
  | .hbm, ⟨86, _⟩ => ⟨S1024x2048, .f32⟩
  | .hbm, ⟨87, _⟩ => ⟨S2048x1024, .f32⟩
  | .hbm, ⟨88, _⟩ => ⟨S256x2048, .f32⟩
  | .hbm, ⟨89, _⟩ => ⟨S256x2048, .f32⟩
  | .hbm, ⟨90, _⟩ => ⟨S_, .f32⟩
  | .hbm, ⟨91, _⟩ => ⟨S2048, .f32⟩
  | .hbm, ⟨92, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== MemKv.lean ====
abbrev S256x2048 : Shape := ⟨2, ![256, 2048]⟩
abbrev S1x2048 : Shape := ⟨2, ![1, 2048]⟩
abbrev S2048x1024 : Shape := ⟨2, ![2048, 1024]⟩
abbrev S1x128 : Shape := ⟨2, ![1, 128]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 8
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x1024, .bf16⟩
  | .hbm, ⟨3, _⟩ => ⟨S1x128, .f32⟩
  | .hbm, ⟨4, _⟩ => ⟨S256x2048, .bf16⟩
  | .hbm, ⟨5, _⟩ => ⟨S256x1024, .f32⟩
  | .hbm, ⟨6, _⟩ => ⟨S256x512, .bf16⟩
  | .hbm, ⟨7, _⟩ => ⟨S256x512, .bf16⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S1x128, .f32⟩
  | .local _ .vmem, ⟨4, _⟩ => ⟨S256x2048, .bf16⟩
  | .local _ .vmem, ⟨5, _⟩ => ⟨S256x1024, .f32⟩
  | .local _ .vmem, ⟨6, _⟩ => ⟨S256x512, .bf16⟩
  | .local _ .vmem, ⟨7, _⟩ => ⟨S256x512, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== RefMemKvIdeal.lean ====
abbrev S256x2048 : Shape := ⟨2, ![256, 2048]⟩
abbrev S1x2048 : Shape := ⟨2, ![1, 2048]⟩
abbrev S2048x1024 : Shape := ⟨2, ![2048, 1024]⟩
abbrev S1x128 : Shape := ⟨2, ![1, 128]⟩
abbrev S_ : Shape := ⟨0, ![]⟩
abbrev S256 : Shape := ⟨1, ![256]⟩
abbrev S256x1 : Shape := ⟨2, ![256, 1]⟩
abbrev S256x1024 : Shape := ⟨2, ![256, 1024]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S256x4 : Shape := ⟨2, ![256, 4]⟩
abbrev S256x4x1 : Shape := ⟨3, ![256, 4, 1]⟩
abbrev S1x1x128 : Shape := ⟨3, ![1, 1, 128]⟩
abbrev S256x512 : Shape := ⟨2, ![256, 512]⟩

abbrev nBuf : Space → Nat
  | .hbm => 47
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x1024, .bf16⟩
  | .hbm, ⟨3, _⟩ => ⟨S1x128, .f32⟩
  | .hbm, ⟨4, _⟩ => ⟨S2048x1024, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S256x1024, .f32⟩
  | .hbm, ⟨21, _⟩ => ⟨S256x2x4x128, .f32⟩
  | .hbm, ⟨22, _⟩ => ⟨S256x1x4x128, .f32⟩
  | .hbm, ⟨23, _⟩ => ⟨S256x4x128, .f32⟩
  | .hbm, ⟨24, _⟩ => ⟨S256x4x128, .f32⟩
  | .hbm, ⟨25, _⟩ => ⟨S_, .f32⟩
  | .hbm, ⟨26, _⟩ => ⟨S256x4, .f32⟩
  | .hbm, ⟨27, _⟩ => ⟨S256x4x1, .f32⟩
  | .hbm, ⟨28, _⟩ => ⟨S_, .f32⟩
  | .hbm, ⟨29, _⟩ => ⟨S256x4x1, .f32⟩
  | .hbm, ⟨30, _⟩ => ⟨S256x4x1, .f32⟩
  | .hbm, ⟨31, _⟩ => ⟨S_, .f32⟩
  | .hbm, ⟨32, _⟩ => ⟨S256x4x1, .f32⟩
  | .hbm, ⟨33, _⟩ => ⟨S256x4x1, .f32⟩
  | .hbm, ⟨34, _⟩ => ⟨S256x4x1, .f32⟩
  | .hbm, ⟨35, _⟩ => ⟨S256x4x128, .f32⟩
  | .hbm, ⟨36, _⟩ => ⟨S256x4x128, .f32⟩
  | .hbm, ⟨37, _⟩ => ⟨S1x1x128, .f32⟩
  | .hbm, ⟨38, _⟩ => ⟨S256x4x128, .f32⟩
  | .hbm, ⟨39, _⟩ => ⟨S256x4x128, .f32⟩
  | .hbm, ⟨40, _⟩ => ⟨S256x512, .f32⟩
  | .hbm, ⟨41, _⟩ => ⟨S256x1x4x128, .f32⟩
  | .hbm, ⟨42, _⟩ => ⟨S256x4x128, .f32⟩
  | .hbm, ⟨43, _⟩ => ⟨S256x512, .f32⟩
  | .hbm, ⟨44, _⟩ => ⟨S256x2048, .bf16⟩
  | .hbm, ⟨45, _⟩ => ⟨S256x512, .bf16⟩
  | .hbm, ⟨46, _⟩ => ⟨S256x512, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== MemAttn.lean ====
abbrev S4096x512 : Shape := ⟨2, ![4096, 512]⟩
abbrev S256x512 : Shape := ⟨2, ![256, 512]⟩
abbrev S4096x2048 : Shape := ⟨2, ![4096, 2048]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x2048, .bf16⟩
  | .hbm, ⟨4, _⟩ => ⟨S4096x512, .f32⟩
  | .hbm, ⟨5, _⟩ => ⟨S4096x2048, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefMemAttnIdeal.lean ====
abbrev S4096x512 : Shape := ⟨2, ![4096, 512]⟩
abbrev S256x512 : Shape := ⟨2, ![256, 512]⟩
abbrev S4096x2048 : Shape := ⟨2, ![4096, 2048]⟩
abbrev S1x4096x4x128 : Shape := ⟨4, ![1, 4096, 4, 128]⟩
abbrev S1x256x4x128 : Shape := ⟨4, ![1, 256, 4, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x4096x512 : Shape := ⟨3, ![1, 4096, 512]⟩
abbrev S4096x1536 : Shape := ⟨2, ![4096, 1536]⟩

abbrev nBuf : Space → Nat
  | .hbm => 35
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x2048, .bf16⟩
  | .hbm, ⟨4, _⟩ => ⟨S4096x512, .f32⟩
  | .hbm, ⟨5, _⟩ => ⟨S1x4096x4x128, .f32⟩
  | .hbm, ⟨6, _⟩ => ⟨S256x512, .f32⟩
  | .hbm, ⟨7, _⟩ => ⟨S1x256x4x128, .f32⟩
  | .hbm, ⟨8, _⟩ => ⟨S256x512, .f32⟩
  | .hbm, ⟨9, _⟩ => ⟨S1x256x4x128, .f32⟩
  | .hbm, ⟨10, _⟩ => ⟨S1x4x4096x256, .f32⟩
  | .hbm, ⟨11, _⟩ => ⟨S_, .f32⟩
  | .hbm, ⟨12, _⟩ => ⟨S1x4x4096x256, .f32⟩
  | .hbm, ⟨13, _⟩ => ⟨S1x4x4096x256, .f32⟩
  | .hbm, ⟨14, _⟩ => ⟨S_, .f32⟩
  | .hbm, ⟨15, _⟩ => ⟨S1x4x4096, .f32⟩
  | .hbm, ⟨16, _⟩ => ⟨S_, .f32⟩
  | .hbm, ⟨17, _⟩ => ⟨S1x4x4096, .f32⟩
  | .hbm, ⟨18, _⟩ => ⟨S1x4x4096, .f32⟩
  | .hbm, ⟨19, _⟩ => ⟨S1x4x4096x1, .f32⟩
  | .hbm, ⟨20, _⟩ => ⟨S1x4x4096x256, .f32⟩
  | .hbm, ⟨21, _⟩ => ⟨S1x4x4096x256, .f32⟩
  | .hbm, ⟨22, _⟩ => ⟨S1x4x4096x256, .f32⟩
  | .hbm, ⟨23, _⟩ => ⟨S_, .f32⟩
  | .hbm, ⟨24, _⟩ => ⟨S1x4x4096, .f32⟩
  | .hbm, ⟨25, _⟩ => ⟨S1x4x4096x1, .f32⟩
  | .hbm, ⟨26, _⟩ => ⟨S1x4x4096x256, .f32⟩
  | .hbm, ⟨27, _⟩ => ⟨S1x4x4096x256, .f32⟩
  | .hbm, ⟨28, _⟩ => ⟨S1x4x128x4096, .f32⟩
  | .hbm, ⟨29, _⟩ => ⟨S1x4096x4x128, .f32⟩
  | .hbm, ⟨30, _⟩ => ⟨S1x4096x512, .f32⟩
  | .hbm, ⟨31, _⟩ => ⟨S4096x512, .f32⟩
  | .hbm, ⟨32, _⟩ => ⟨S4096x1536, .bf16⟩
  | .hbm, ⟨33, _⟩ => ⟨S4096x512, .bf16⟩
  | .hbm, ⟨34, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== RmsFwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefRmsFwdIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ChipsIn.lean ====
abbrev S1024x720 : Shape := ⟨2, ![1024, 720]⟩
abbrev S3x1024x720 : Shape := ⟨3, ![3, 1024, 720]⟩
abbrev S256x720 : Shape := ⟨2, ![256, 720]⟩
abbrev S3x256x720 : Shape := ⟨3, ![3, 256, 720]⟩
abbrev S1x256x720 : Shape := ⟨3, ![1, 256, 720]⟩

abbrev nBuf : Space → Nat
  | .hbm => 3
  | .vmem => 6
  | .smem => 0
  | _ => 0

abbrev bufTy : (tb : Table) → Fin (tcTables nBuf tb) → BufTy
  | .hbm, ⟨0, _⟩ => ⟨S1024x720, .f32⟩
  | .hbm, ⟨1, _⟩ => ⟨S3x1024x720, .bf16⟩
  | .hbm, ⟨2, _⟩ => ⟨S1024x720, .f32⟩
  | .local _ .vmem, ⟨0, _⟩ => ⟨S256x720, .f32⟩
  | .local _ .vmem, ⟨1, _⟩ => ⟨S256x720, .f32⟩
  | .local _ .vmem, ⟨2, _⟩ => ⟨S3x256x720, .bf16⟩
  | .local _ .vmem, ⟨3, _⟩ => ⟨S3x256x720, .bf16⟩
  | .local _ .vmem, ⟨4, _⟩ => ⟨S256x720, .f32⟩
  | .local _ .vmem, ⟨5, _⟩ => ⟨S256x720, .f32⟩
  | _, _ => ⟨S1024x720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x720 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x720 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x720 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipsInIdeal.lean ====
abbrev S1024x720 : Shape := ⟨2, ![1024, 720]⟩
abbrev S3x1024x720 : Shape := ⟨3, ![3, 1024, 720]⟩
abbrev S256x720 : Shape := ⟨2, ![256, 720]⟩
abbrev S3x256x720 : Shape := ⟨3, ![3, 256, 720]⟩
abbrev S1x256x720 : Shape := ⟨3, ![1, 256, 720]⟩

abbrev nBuf : Space → Nat
  | .hbm => 3
  | .vmem => 6
  | .smem => 0
  | _ => 0

abbrev bufTy : (tb : Table) → Fin (tcTables nBuf tb) → BufTy
  | .hbm, ⟨0, _⟩ => ⟨S1024x720, .f32⟩
  | .hbm, ⟨1, _⟩ => ⟨S3x1024x720, .bf16⟩
  | .hbm, ⟨2, _⟩ => ⟨S1024x720, .f32⟩
  | .local _ .vmem, ⟨0, _⟩ => ⟨S256x720, .f32⟩
  | .local _ .vmem, ⟨1, _⟩ => ⟨S256x720, .f32⟩
  | .local _ .vmem, ⟨2, _⟩ => ⟨S3x256x720, .bf16⟩
  | .local _ .vmem, ⟨3, _⟩ => ⟨S3x256x720, .bf16⟩
  | .local _ .vmem, ⟨4, _⟩ => ⟨S256x720, .f32⟩
  | .local _ .vmem, ⟨5, _⟩ => ⟨S256x720, .f32⟩
  | _, _ => ⟨S1024x720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x720 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x720 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x720 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefChipsInIdeal.lean ====
abbrev S1024x720 : Shape := ⟨2, ![1024, 720]⟩
abbrev S3x1024x720 : Shape := ⟨3, ![3, 1024, 720]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x720, .f32⟩
  | .hbm, ⟨1, _⟩ => ⟨S3x1024x720, .bf16⟩
  | .hbm, ⟨2, _⟩ => ⟨S3x1024x720, .f32⟩
  | .hbm, ⟨3, _⟩ => ⟨S_, .f32⟩
  | .hbm, ⟨4, _⟩ => ⟨S1024x720, .f32⟩
  | .hbm, ⟨5, _⟩ => ⟨S1024x720, .f32⟩
  | _, _ => ⟨S1024x720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipsUq.lean ====
abbrev S256x192 : Shape := ⟨2, ![256, 192]⟩
abbrev S3x256x192 : Shape := ⟨3, ![3, 256, 192]⟩
abbrev S1x256x192 : Shape := ⟨3, ![1, 256, 192]⟩

abbrev nBuf : Space → Nat
  | .hbm => 3
  | .vmem => 3
  | .smem => 0
  | _ => 0

abbrev bufTy : (tb : Table) → Fin (tcTables nBuf tb) → BufTy
  | .hbm, ⟨0, _⟩ => ⟨S256x192, .f32⟩
  | .hbm, ⟨1, _⟩ => ⟨S3x256x192, .bf16⟩
  | .hbm, ⟨2, _⟩ => ⟨S256x192, .f32⟩
  | .local _ .vmem, ⟨0, _⟩ => ⟨S256x192, .f32⟩
  | .local _ .vmem, ⟨1, _⟩ => ⟨S3x256x192, .bf16⟩
  | .local _ .vmem, ⟨2, _⟩ => ⟨S256x192, .f32⟩
  | _, _ => ⟨S256x192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ChipsUqIdeal.lean ====
abbrev S256x192 : Shape := ⟨2, ![256, 192]⟩
abbrev S3x256x192 : Shape := ⟨3, ![3, 256, 192]⟩
abbrev S1x256x192 : Shape := ⟨3, ![1, 256, 192]⟩

abbrev nBuf : Space → Nat
  | .hbm => 3
  | .vmem => 3
  | .smem => 0
  | _ => 0

abbrev bufTy : (tb : Table) → Fin (tcTables nBuf tb) → BufTy
  | .hbm, ⟨0, _⟩ => ⟨S256x192, .f32⟩
  | .hbm, ⟨1, _⟩ => ⟨S3x256x192, .bf16⟩
  | .hbm, ⟨2, _⟩ => ⟨S256x192, .f32⟩
  | .local _ .vmem, ⟨0, _⟩ => ⟨S256x192, .f32⟩
  | .local _ .vmem, ⟨1, _⟩ => ⟨S3x256x192, .bf16⟩
  | .local _ .vmem, ⟨2, _⟩ => ⟨S256x192, .f32⟩
  | _, _ => ⟨S256x192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RefChipsUqIdeal.lean ====
abbrev S256x192 : Shape := ⟨2, ![256, 192]⟩
abbrev S3x256x192 : Shape := ⟨3, ![3, 256, 192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x192, .f32⟩
  | .hbm, ⟨1, _⟩ => ⟨S3x256x192, .bf16⟩
  | .hbm, ⟨2, _⟩ => ⟨S3x256x192, .f32⟩
  | .hbm, ⟨3, _⟩ => ⟨S_, .f32⟩
  | .hbm, ⟨4, _⟩ => ⟨S256x192, .f32⟩
  | .hbm, ⟨5, _⟩ => ⟨S256x192, .f32⟩
  | _, _ => ⟨S256x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipsUkv.lean ====
abbrev S256x256 : Shape := ⟨2, ![256, 256]⟩
abbrev S3x256x256 : Shape := ⟨3, ![3, 256, 256]⟩
abbrev S1x256x256 : Shape := ⟨3, ![1, 256, 256]⟩

abbrev nBuf : Space → Nat
  | .hbm => 3
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S3x256x256, .bf16⟩
  | .hbm, ⟨2, _⟩ => ⟨S256x256, .f32⟩
  | .local _ .vmem, ⟨0, _⟩ => ⟨S256x256, .f32⟩
  | .local _ .vmem, ⟨1, _⟩ => ⟨S3x256x256, .bf16⟩
  | .local _ .vmem, ⟨2, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ChipsUkvIdeal.lean ====
abbrev S256x256 : Shape := ⟨2, ![256, 256]⟩
abbrev S3x256x256 : Shape := ⟨3, ![3, 256, 256]⟩
abbrev S1x256x256 : Shape := ⟨3, ![1, 256, 256]⟩

abbrev nBuf : Space → Nat
  | .hbm => 3
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S3x256x256, .bf16⟩
  | .hbm, ⟨2, _⟩ => ⟨S256x256, .f32⟩
  | .local _ .vmem, ⟨0, _⟩ => ⟨S256x256, .f32⟩
  | .local _ .vmem, ⟨1, _⟩ => ⟨S3x256x256, .bf16⟩
  | .local _ .vmem, ⟨2, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RefChipsUkvIdeal.lean ====
abbrev S256x256 : Shape := ⟨2, ![256, 256]⟩
abbrev S3x256x256 : Shape := ⟨3, ![3, 256, 256]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S3x256x256, .bf16⟩
  | .hbm, ⟨2, _⟩ => ⟨S3x256x256, .f32⟩
  | .hbm, ⟨3, _⟩ => ⟨S_, .f32⟩
  | .hbm, ⟨4, _⟩ => ⟨S256x256, .f32⟩
  | .hbm, ⟨5, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipsMemKv.lean ====
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S3x256x1024, .bf16⟩
  | .hbm, ⟨2, _⟩ => ⟨S256x1024, .f32⟩
  | .local _ .vmem, ⟨0, _⟩ => ⟨S256x1024, .f32⟩
  | .local _ .vmem, ⟨1, _⟩ => ⟨S3x256x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ChipsMemKvIdeal.lean ====
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S3x256x1024, .bf16⟩
  | .hbm, ⟨2, _⟩ => ⟨S256x1024, .f32⟩
  | .local _ .vmem, ⟨0, _⟩ => ⟨S256x1024, .f32⟩
  | .local _ .vmem, ⟨1, _⟩ => ⟨S3x256x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RefChipsMemKvIdeal.lean ====
abbrev S256x1024 : Shape := ⟨2, ![256, 1024]⟩
abbrev S3x256x1024 : Shape := ⟨3, ![3, 256, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S3x256x1024, .bf16⟩
  | .hbm, ⟨2, _⟩ => ⟨S3x256x1024, .f32⟩
  | .hbm, ⟨3, _⟩ => ⟨S_, .f32⟩
  | .hbm, ⟨4, _⟩ => ⟨S256x1024, .f32⟩
  | .hbm, ⟨5, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipsOut.lean ====
abbrev S256x2048 : Shape := ⟨2, ![256, 2048]⟩
abbrev S3x256x2048 : Shape := ⟨3, ![3, 256, 2048]⟩
abbrev S1x256x2048 : Shape := ⟨3, ![1, 256, 2048]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S3x256x2048, .bf16⟩
  | .hbm, ⟨2, _⟩ => ⟨S256x2048, .f32⟩
  | .local _ .vmem, ⟨0, _⟩ => ⟨S256x2048, .f32⟩
  | .local _ .vmem, ⟨1, _⟩ => ⟨S3x256x2048, .bf16⟩
  | .local _ .vmem, ⟨2, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ChipsOutIdeal.lean ====
abbrev S256x2048 : Shape := ⟨2, ![256, 2048]⟩
abbrev S3x256x2048 : Shape := ⟨3, ![3, 256, 2048]⟩
abbrev S1x256x2048 : Shape := ⟨3, ![1, 256, 2048]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S3x256x2048, .bf16⟩
  | .hbm, ⟨2, _⟩ => ⟨S256x2048, .f32⟩
  | .local _ .vmem, ⟨0, _⟩ => ⟨S256x2048, .f32⟩
  | .local _ .vmem, ⟨1, _⟩ => ⟨S3x256x2048, .bf16⟩
  | .local _ .vmem, ⟨2, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RefChipsOutIdeal.lean ====
abbrev S256x2048 : Shape := ⟨2, ![256, 2048]⟩
abbrev S3x256x2048 : Shape := ⟨3, ![3, 256, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S3x256x2048, .bf16⟩
  | .hbm, ⟨2, _⟩ => ⟨S3x256x2048, .f32⟩
  | .hbm, ⟨3, _⟩ => ⟨S_, .f32⟩
  | .hbm, ⟨4, _⟩ => ⟨S256x2048, .f32⟩
  | .hbm, ⟨5, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipsGate.lean ====
abbrev S1024x1408 : Shape := ⟨2, ![1024, 1408]⟩
abbrev S3x1024x1408 : Shape := ⟨3, ![3, 1024, 1408]⟩
abbrev S256x1408 : Shape := ⟨2, ![256, 1408]⟩
abbrev S3x256x1408 : Shape := ⟨3, ![3, 256, 1408]⟩
abbrev S1x256x1408 : Shape := ⟨3, ![1, 256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S1024x1408, .f32⟩
  | .hbm, ⟨1, _⟩ => ⟨S3x1024x1408, .bf16⟩
  | .hbm, ⟨2, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S3x256x1408, .bf16⟩
  | .local _ .vmem, ⟨3, _⟩ => ⟨S3x256x1408, .bf16⟩
  | .local _ .vmem, ⟨4, _⟩ => ⟨S256x1408, .f32⟩
  | .local _ .vmem, ⟨5, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipsGateIdeal.lean ====
abbrev S1024x1408 : Shape := ⟨2, ![1024, 1408]⟩
abbrev S3x1024x1408 : Shape := ⟨3, ![3, 1024, 1408]⟩
abbrev S256x1408 : Shape := ⟨2, ![256, 1408]⟩
abbrev S3x256x1408 : Shape := ⟨3, ![3, 256, 1408]⟩
abbrev S1x256x1408 : Shape := ⟨3, ![1, 256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S1024x1408, .f32⟩
  | .hbm, ⟨1, _⟩ => ⟨S3x1024x1408, .bf16⟩
  | .hbm, ⟨2, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S3x256x1408, .bf16⟩
  | .local _ .vmem, ⟨3, _⟩ => ⟨S3x256x1408, .bf16⟩
  | .local _ .vmem, ⟨4, _⟩ => ⟨S256x1408, .f32⟩
  | .local _ .vmem, ⟨5, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefChipsGateIdeal.lean ====
abbrev S1024x1408 : Shape := ⟨2, ![1024, 1408]⟩
abbrev S3x1024x1408 : Shape := ⟨3, ![3, 1024, 1408]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S3x1024x1408, .bf16⟩
  | .hbm, ⟨2, _⟩ => ⟨S3x1024x1408, .f32⟩
  | .hbm, ⟨3, _⟩ => ⟨S_, .f32⟩
  | .hbm, ⟨4, _⟩ => ⟨S1024x1408, .f32⟩
  | .hbm, ⟨5, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipsDown.lean ====
abbrev S704x2048 : Shape := ⟨2, ![704, 2048]⟩
abbrev S3x704x2048 : Shape := ⟨3, ![3, 704, 2048]⟩
abbrev S176x2048 : Shape := ⟨2, ![176, 2048]⟩
abbrev S3x176x2048 : Shape := ⟨3, ![3, 176, 2048]⟩
abbrev S1x176x2048 : Shape := ⟨3, ![1, 176, 2048]⟩

abbrev nBuf : Space → Nat
  | .hbm => 3
  | .vmem => 6
  | .smem => 0
  | _ => 0

abbrev bufTy : (tb : Table) → Fin (tcTables nBuf tb) → BufTy
  | .hbm, ⟨0, _⟩ => ⟨S704x2048, .f32⟩
  | .hbm, ⟨1, _⟩ => ⟨S3x704x2048, .bf16⟩
  | .hbm, ⟨2, _⟩ => ⟨S704x2048, .f32⟩
  | .local _ .vmem, ⟨0, _⟩ => ⟨S176x2048, .f32⟩
  | .local _ .vmem, ⟨1, _⟩ => ⟨S176x2048, .f32⟩
  | .local _ .vmem, ⟨2, _⟩ => ⟨S3x176x2048, .bf16⟩
  | .local _ .vmem, ⟨3, _⟩ => ⟨S3x176x2048, .bf16⟩
  | .local _ .vmem, ⟨4, _⟩ => ⟨S176x2048, .f32⟩
  | .local _ .vmem, ⟨5, _⟩ => ⟨S176x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefChipsDownIdeal.lean ====
abbrev S704x2048 : Shape := ⟨2, ![704, 2048]⟩
abbrev S3x704x2048 : Shape := ⟨3, ![3, 704, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S3x704x2048, .bf16⟩
  | .hbm, ⟨2, _⟩ => ⟨S3x704x2048, .f32⟩
  | .hbm, ⟨3, _⟩ => ⟨S_, .f32⟩
  | .hbm, ⟨4, _⟩ => ⟨S704x2048, .f32⟩
  | .hbm, ⟨5, _⟩ => ⟨S704x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Chips.lean ====
module

public import Idealize.ShloMosaic.Lib.Pointwise
public import Idealize.ShloMosaic.Lib.Pipeline.ValueKit

@[expose] public section

noncomputable section

/-! Reading one of the three received parts. -/

namespace Cert.Chips

open Idealize.ShloMosaic

/-- A load of the received part `k`. -/
theorem part_ld {n c : Nat} {e : EltTy} (k : Fin 3) (X : Vec Ideal ⟨3, ![3, n, c]⟩ e)
    (inb : ∀ a, (![k.val, 0, 0] : Fin 3 → ℕ) a + (![1, n, c] : Fin 3 → ℕ) a ≤ (⟨3, ![3, n, c]⟩ : Shape).size a) (r : Fin n) (l : Fin c) :
    View.ld X (Rect.unit (s := ⟨3, ![3, n, c]⟩) ![k.val, 0, 0] ![1, n, c] inb) (ix3 (0 : Fin 1) r l) = X (ix3 k r l) :=
  View.ld_unit_apply_of X _ _ inb _ _ fun a => by
    match a with
    | ⟨0, _⟩ => exact (Nat.add_zero _).symm
    | ⟨1, _⟩ => exact (Nat.zero_add _).symm
    | ⟨2, _⟩ => exact (Nat.zero_add _).symm

end Cert.Chips

end
-- ==== Proof.ChipsDown.lean ====
module

public import proofs.«01_k».proof.Proof.Gen.ChipsDownIdeal.Value
public import proofs.«01_k».proof.Proof.Gen.RefChipsDownIdeal.Run
public import proofs.«01_k».proof.Proof.Gen.ChipsDown.Frame
public import proofs.«01_k».proof.Proof.Chips
public import Idealize.ShloMosaic.Lib.Pointwise
public import Idealize.ShloMosaic.Lib.Pipeline.ValueKit

@[expose] public section

set_option maxRecDepth 16384

noncomputable section

/-! The sum of a gradient's parts from the four chips, at w_down's shape. -/

namespace Cert.RefChipsDownIdeal.Value

open Cert.RefChipsDownIdeal Cert.RefChipsDownIdeal.Gen Idealize.ShloMosaic Idealize.SL.Sem

/-- The chip's own part with the sum of the three it received. -/
def res (a : FVec Ideal S704x2048 .f32) (b : FVec Ideal S3x704x2048 .bf16) : FVec Ideal S704x2048 .f32 :=
  addf a (Host.reduceAdd (extf .f32 b bitsLt_bf16_f32) (constant S_ .f32 0x00000000#32) reducesTo_S3x704x2048_S704x2048_d0 h_S_)

theorem res_at (a : FVec Ideal S704x2048 .f32) (b : FVec Ideal S3x704x2048 .bf16) (r : Fin 704) (l : Fin 2048) :
    res a b (ix2 r l) = a (ix2 r l) + b (ix3 0 r l) + b (ix3 1 r l) + b (ix3 2 r l) := by
  have h : res a b (ix2 r l) = a (ix2 r l) + ∑ k : Fin 3, b (ix3 k r l) := by pointwise [res]
  rw [h, Fin.sum_univ_three, ← add_assoc, ← add_assoc]

end Cert.RefChipsDownIdeal.Value

namespace Cert.ChipsDownIdeal.Value

open Cert.ChipsDownIdeal Cert.ChipsDownIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![t.val, 0] ∧ win0_1.index t = ![0, t.val, 0] ∧ win0_2.index t = ![t.val, 0] :=
  (by decide +kernel : ∀ t : Fin grid0.N, _)

theorem pay1_at (a : FVec Ideal S176x2048 .f32) (b0 b1 b2 : FVec Ideal S1x176x2048 .bf16) (r : Fin 176) (l : Fin 2048) :
    k0_pay1 (F := Ideal) a b0 b1 b2 (ix2 r l) = a (ix2 r l) + b0 (ix3 0 r l) + b1 (ix3 0 r l) + b2 (ix3 0 r l) := by
  pointwise [k0_pay1]

theorem blk0 (c : Dev nD) (t : Fin cfg0.N) (r : Fin 176) (l : Fin 2048) (R : Fin 704) (hR : R.val = t.val * 176 + r.val) :
    (show FVec Ideal S176x2048 .f32 from iblk m c 0 t) (ix2 r l)
      = (m ((c : Thread nD τ).loc main_arg0) : FVec Ideal S704x2048 .f32) (ix2 R l) := by
  blk_point [iblk, V, idx t]

theorem blk1 (c : Dev nD) (t : Fin cfg0.N) (k : Fin 3) (r : Fin 176) (l : Fin 2048) (R : Fin 704) (hR : R.val = t.val * 176 + r.val) :
    (show FVec Ideal S3x176x2048 .bf16 from iblk m c 1 t) (ix3 k r l)
      = (m ((c : Thread nD τ).loc main_arg1) : FVec Ideal S3x704x2048 .bf16) (ix3 k R l) := by
  blk_point [iblk, V, idx t]

/-- The sums at the end are the reference's. -/
theorem final (c : Dev nD) : (dats m 0 c).arrAt 2 cfg0.N
    = Cert.RefChipsDownIdeal.Value.res (m ((c : Thread nD τ).loc main_arg0)) (m ((c : Thread nD τ).loc main_arg1)) := by
  refine (dats m 0 c).arrAt_eq_of_covers 2 _ (by decide +kernel) fun t hf y => ?_
  have ht : t.val < 4 := t.isLt
  obtain ⟨r, l, rfl⟩ : ∃ (r : Fin 176) (l : Fin 2048), y = ix2 r l := ⟨y 0, y 1, (ix2_eta y).symm⟩
  blk_simp
  rw [after0_2]; frame_out
  have key (k : Fin 3) : (show FVec Ideal S3x176x2048 .bf16 from iblk m c 1 t) (ix3 k r l)
      = (m ((c : Thread nD τ).loc main_arg1) : FVec Ideal S3x704x2048 .bf16) (ix3 k ⟨t.val * 176 + r.val, by omega⟩ l) :=
    blk1 m c t k r l _ rfl
  refine (pay1_at _ _ _ _ r l).trans ?_
  refine (congrArg₂ (fun x y : EReal => x + y) (congrArg₂ (fun x y : EReal => x + y) (congrArg₂ (fun x y : EReal => x + y)
    (blk0 m c t r l ⟨t.val * 176 + r.val, by omega⟩ rfl)
    ((Cert.Chips.part_ld 0 (iblk m c 1 t : Vec Ideal S3x176x2048 .bf16) _ r l).trans (key 0))) ((Cert.Chips.part_ld 1 (iblk m c 1 t : Vec Ideal S3x176x2048 .bf16) _ r l).trans (key 1))) ((Cert.Chips.part_ld 2 (iblk m c 1 t : Vec Ideal S3x176x2048 .bf16) _ r l).trans (key 2))).trans ?_
  refine (Cert.RefChipsDownIdeal.Value.res_at _ _ _ l).symm.trans ?_
  congr 1
  blk_ext [idx t]

end Cert.ChipsDownIdeal.Value

end
-- ==== Proof.ChipsGate.lean ====
module

public import proofs.«01_k».proof.Proof.Gen.ChipsGateIdeal.Value
public import proofs.«01_k».proof.Proof.Gen.RefChipsGateIdeal.Run
public import proofs.«01_k».proof.Proof.Gen.ChipsGate.Frame
public import proofs.«01_k».proof.Proof.Chips
public import Idealize.ShloMosaic.Lib.Pointwise
public import Idealize.ShloMosaic.Lib.Pipeline.ValueKit

@[expose] public section

set_option maxRecDepth 16384

noncomputable section

/-! The sum of a gradient's parts from the four chips, at w_gate's and w_up's shape. -/

namespace Cert.RefChipsGateIdeal.Value

open Cert.RefChipsGateIdeal Cert.RefChipsGateIdeal.Gen Idealize.ShloMosaic Idealize.SL.Sem

/-- The chip's own part with the sum of the three it received. -/
def res (a : FVec Ideal S1024x1408 .f32) (b : FVec Ideal S3x1024x1408 .bf16) : FVec Ideal S1024x1408 .f32 :=
  addf a (Host.reduceAdd (extf .f32 b bitsLt_bf16_f32) (constant S_ .f32 0x00000000#32) reducesTo_S3x1024x1408_S1024x1408_d0 h_S_)

theorem res_at (a : FVec Ideal S1024x1408 .f32) (b : FVec Ideal S3x1024x1408 .bf16) (r : Fin 1024) (l : Fin 1408) :
    res a b (ix2 r l) = a (ix2 r l) + b (ix3 0 r l) + b (ix3 1 r l) + b (ix3 2 r l) := by
  have h : res a b (ix2 r l) = a (ix2 r l) + ∑ k : Fin 3, b (ix3 k r l) := by pointwise [res]
  rw [h, Fin.sum_univ_three, ← add_assoc, ← add_assoc]

end Cert.RefChipsGateIdeal.Value

namespace Cert.ChipsGateIdeal.Value

open Cert.ChipsGateIdeal Cert.ChipsGateIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![t.val, 0] ∧ win0_1.index t = ![0, t.val, 0] ∧ win0_2.index t = ![t.val, 0] :=
  (by decide +kernel : ∀ t : Fin grid0.N, _)

theorem pay1_at (a : FVec Ideal S256x1408 .f32) (b0 b1 b2 : FVec Ideal S1x256x1408 .bf16) (r : Fin 256) (l : Fin 1408) :
    k0_pay1 (F := Ideal) a b0 b1 b2 (ix2 r l) = a (ix2 r l) + b0 (ix3 0 r l) + b1 (ix3 0 r l) + b2 (ix3 0 r l) := by
  pointwise [k0_pay1]

theorem blk0 (c : Dev nD) (t : Fin cfg0.N) (r : Fin 256) (l : Fin 1408) (R : Fin 1024) (hR : R.val = t.val * 256 + r.val) :
    (show FVec Ideal S256x1408 .f32 from iblk m c 0 t) (ix2 r l)
      = (m ((c : Thread nD τ).loc main_arg0) : FVec Ideal S1024x1408 .f32) (ix2 R l) := by
  blk_point [iblk, V, idx t]

theorem blk1 (c : Dev nD) (t : Fin cfg0.N) (k : Fin 3) (r : Fin 256) (l : Fin 1408) (R : Fin 1024) (hR : R.val = t.val * 256 + r.val) :
    (show FVec Ideal S3x256x1408 .bf16 from iblk m c 1 t) (ix3 k r l)
      = (m ((c : Thread nD τ).loc main_arg1) : FVec Ideal S3x1024x1408 .bf16) (ix3 k R l) := by
  blk_point [iblk, V, idx t]

/-- The sums at the end are the reference's. -/
theorem final (c : Dev nD) : (dats m 0 c).arrAt 2 cfg0.N
    = Cert.RefChipsGateIdeal.Value.res (m ((c : Thread nD τ).loc main_arg0)) (m ((c : Thread nD τ).loc main_arg1)) := by
  refine (dats m 0 c).arrAt_eq_of_covers 2 _ (by decide +kernel) fun t hf y => ?_
  have ht : t.val < 4 := t.isLt
  obtain ⟨r, l, rfl⟩ : ∃ (r : Fin 256) (l : Fin 1408), y = ix2 r l := ⟨y 0, y 1, (ix2_eta y).symm⟩
  blk_simp
  rw [after0_2]; frame_out
  have key (k : Fin 3) : (show FVec Ideal S3x256x1408 .bf16 from iblk m c 1 t) (ix3 k r l)
      = (m ((c : Thread nD τ).loc main_arg1) : FVec Ideal S3x1024x1408 .bf16) (ix3 k ⟨t.val * 256 + r.val, by omega⟩ l) :=
    blk1 m c t k r l _ rfl
  refine (pay1_at _ _ _ _ r l).trans ?_
  refine (congrArg₂ (fun x y : EReal => x + y) (congrArg₂ (fun x y : EReal => x + y) (congrArg₂ (fun x y : EReal => x + y)
    (blk0 m c t r l ⟨t.val * 256 + r.val, by omega⟩ rfl)
    ((Cert.Chips.part_ld 0 (iblk m c 1 t : Vec Ideal S3x256x1408 .bf16) _ r l).trans (key 0))) ((Cert.Chips.part_ld 1 (iblk m c 1 t : Vec Ideal S3x256x1408 .bf16) _ r l).trans (key 1))) ((Cert.Chips.part_ld 2 (iblk m c 1 t : Vec Ideal S3x256x1408 .bf16) _ r l).trans (key 2))).trans ?_
  refine (Cert.RefChipsGateIdeal.Value.res_at _ _ _ l).symm.trans ?_
  congr 1
  blk_ext [idx t]

end Cert.ChipsGateIdeal.Value

end
-- ==== Proof.ChipsOut.lean ====
module

public import proofs.«01_k».proof.Proof.Gen.ChipsOutIdeal.Value
public import proofs.«01_k».proof.Proof.Gen.RefChipsOutIdeal.Run
public import proofs.«01_k».proof.Proof.Gen.ChipsOut.Frame
public import proofs.«01_k».proof.Proof.Chips
public import Idealize.ShloMosaic.Lib.Pointwise
public import Idealize.ShloMosaic.Lib.Pipeline.ValueKit

@[expose] public section

set_option maxRecDepth 16384

noncomputable section

/-! The sum of a gradient's parts from the four chips, at w_out's shape. -/

namespace Cert.RefChipsOutIdeal.Value

open Cert.RefChipsOutIdeal Cert.RefChipsOutIdeal.Gen Idealize.ShloMosaic Idealize.SL.Sem

/-- The chip's own part with the sum of the three it received. -/
def res (a : FVec Ideal S256x2048 .f32) (b : FVec Ideal S3x256x2048 .bf16) : FVec Ideal S256x2048 .f32 :=
  addf a (Host.reduceAdd (extf .f32 b bitsLt_bf16_f32) (constant S_ .f32 0x00000000#32) reducesTo_S3x256x2048_S256x2048_d0 h_S_)

theorem res_at (a : FVec Ideal S256x2048 .f32) (b : FVec Ideal S3x256x2048 .bf16) (r : Fin 256) (l : Fin 2048) :
    res a b (ix2 r l) = a (ix2 r l) + b (ix3 0 r l) + b (ix3 1 r l) + b (ix3 2 r l) := by
  have h : res a b (ix2 r l) = a (ix2 r l) + ∑ k : Fin 3, b (ix3 k r l) := by pointwise [res]
  rw [h, Fin.sum_univ_three, ← add_assoc, ← add_assoc]

end Cert.RefChipsOutIdeal.Value

namespace Cert.ChipsOutIdeal.Value

open Cert.ChipsOutIdeal Cert.ChipsOutIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![t.val, 0] ∧ win0_1.index t = ![0, t.val, 0] ∧ win0_2.index t = ![t.val, 0] :=
  (by decide +kernel : ∀ t : Fin grid0.N, _)

theorem pay1_at (a : FVec Ideal S256x2048 .f32) (b0 b1 b2 : FVec Ideal S1x256x2048 .bf16) (r : Fin 256) (l : Fin 2048) :
    k0_pay1 (F := Ideal) a b0 b1 b2 (ix2 r l) = a (ix2 r l) + b0 (ix3 0 r l) + b1 (ix3 0 r l) + b2 (ix3 0 r l) := by
  pointwise [k0_pay1]

theorem blk0 (c : Dev nD) (t : Fin cfg0.N) (r : Fin 256) (l : Fin 2048) (R : Fin 256) (hR : R.val = t.val * 256 + r.val) :
    (show FVec Ideal S256x2048 .f32 from iblk m c 0 t) (ix2 r l)
      = (m ((c : Thread nD τ).loc main_arg0) : FVec Ideal S256x2048 .f32) (ix2 R l) := by
  blk_point [iblk, V, idx t]

theorem blk1 (c : Dev nD) (t : Fin cfg0.N) (k : Fin 3) (r : Fin 256) (l : Fin 2048) (R : Fin 256) (hR : R.val = t.val * 256 + r.val) :
    (show FVec Ideal S3x256x2048 .bf16 from iblk m c 1 t) (ix3 k r l)
      = (m ((c : Thread nD τ).loc main_arg1) : FVec Ideal S3x256x2048 .bf16) (ix3 k R l) := by
  blk_point [iblk, V, idx t]

/-- The sums at the end are the reference's. -/
theorem final (c : Dev nD) : (dats m 0 c).arrAt 2 cfg0.N
    = Cert.RefChipsOutIdeal.Value.res (m ((c : Thread nD τ).loc main_arg0)) (m ((c : Thread nD τ).loc main_arg1)) := by
  refine (dats m 0 c).arrAt_eq_of_covers 2 _ (by decide +kernel) fun t hf y => ?_
  have ht : t.val < 1 := t.isLt
  obtain ⟨r, l, rfl⟩ : ∃ (r : Fin 256) (l : Fin 2048), y = ix2 r l := ⟨y 0, y 1, (ix2_eta y).symm⟩
  blk_simp
  rw [after0_2]; frame_out
  have key (k : Fin 3) : (show FVec Ideal S3x256x2048 .bf16 from iblk m c 1 t) (ix3 k r l)
      = (m ((c : Thread nD τ).loc main_arg1) : FVec Ideal S3x256x2048 .bf16) (ix3 k ⟨t.val * 256 + r.val, by omega⟩ l) :=
    blk1 m c t k r l _ rfl
  refine (pay1_at _ _ _ _ r l).trans ?_
  refine (congrArg₂ (fun x y : EReal => x + y) (congrArg₂ (fun x y : EReal => x + y) (congrArg₂ (fun x y : EReal => x + y)
    (blk0 m c t r l ⟨t.val * 256 + r.val, by omega⟩ rfl)
    ((Cert.Chips.part_ld 0 (iblk m c 1 t : Vec Ideal S3x256x2048 .bf16) _ r l).trans (key 0))) ((Cert.Chips.part_ld 1 (iblk m c 1 t : Vec Ideal S3x256x2048 .bf16) _ r l).trans (key 1))) ((Cert.Chips.part_ld 2 (iblk m c 1 t : Vec Ideal S3x256x2048 .bf16) _ r l).trans (key 2))).trans ?_
  refine (Cert.RefChipsOutIdeal.Value.res_at _ _ _ l).symm.trans ?_
  congr 1
  blk_ext [idx t]

end Cert.ChipsOutIdeal.Value

end
-- ==== Proof.ChipsMemKv.lean ====
module

public import proofs.«01_k».proof.Proof.Gen.ChipsMemKvIdeal.Value
public import proofs.«01_k».proof.Proof.Gen.RefChipsMemKvIdeal.Run
public import proofs.«01_k».proof.Proof.Gen.ChipsMemKv.Frame
public import proofs.«01_k».proof.Proof.Chips
public import Idealize.ShloMosaic.Lib.Pointwise
public import Idealize.ShloMosaic.Lib.Pipeline.ValueKit

@[expose] public section

set_option maxRecDepth 16384

noncomputable section

/-! The sum of a gradient's parts from the four chips, at w_mem_kv's shape. -/

namespace Cert.RefChipsMemKvIdeal.Value

open Cert.RefChipsMemKvIdeal Cert.RefChipsMemKvIdeal.Gen Idealize.ShloMosaic Idealize.SL.Sem

/-- The chip's own part with the sum of the three it received. -/
def res (a : FVec Ideal S256x1024 .f32) (b : FVec Ideal S3x256x1024 .bf16) : FVec Ideal S256x1024 .f32 :=
  addf a (Host.reduceAdd (extf .f32 b bitsLt_bf16_f32) (constant S_ .f32 0x00000000#32) reducesTo_S3x256x1024_S256x1024_d0 h_S_)

theorem res_at (a : FVec Ideal S256x1024 .f32) (b : FVec Ideal S3x256x1024 .bf16) (r : Fin 256) (l : Fin 1024) :
    res a b (ix2 r l) = a (ix2 r l) + b (ix3 0 r l) + b (ix3 1 r l) + b (ix3 2 r l) := by
  have h : res a b (ix2 r l) = a (ix2 r l) + ∑ k : Fin 3, b (ix3 k r l) := by pointwise [res]
  rw [h, Fin.sum_univ_three, ← add_assoc, ← add_assoc]

end Cert.RefChipsMemKvIdeal.Value

namespace Cert.ChipsMemKvIdeal.Value

open Cert.ChipsMemKvIdeal Cert.ChipsMemKvIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![t.val, 0] ∧ win0_1.index t = ![0, t.val, 0] ∧ win0_2.index t = ![t.val, 0] :=
  (by decide +kernel : ∀ t : Fin grid0.N, _)

theorem pay1_at (a : FVec Ideal S256x1024 .f32) (b0 b1 b2 : FVec Ideal S1x256x1024 .bf16) (r : Fin 256) (l : Fin 1024) :
    k0_pay1 (F := Ideal) a b0 b1 b2 (ix2 r l) = a (ix2 r l) + b0 (ix3 0 r l) + b1 (ix3 0 r l) + b2 (ix3 0 r l) := by
  pointwise [k0_pay1]

theorem blk0 (c : Dev nD) (t : Fin cfg0.N) (r : Fin 256) (l : Fin 1024) (R : Fin 256) (hR : R.val = t.val * 256 + r.val) :
    (show FVec Ideal S256x1024 .f32 from iblk m c 0 t) (ix2 r l)
      = (m ((c : Thread nD τ).loc main_arg0) : FVec Ideal S256x1024 .f32) (ix2 R l) := by
  blk_point [iblk, V, idx t]

theorem blk1 (c : Dev nD) (t : Fin cfg0.N) (k : Fin 3) (r : Fin 256) (l : Fin 1024) (R : Fin 256) (hR : R.val = t.val * 256 + r.val) :
    (show FVec Ideal S3x256x1024 .bf16 from iblk m c 1 t) (ix3 k r l)
      = (m ((c : Thread nD τ).loc main_arg1) : FVec Ideal S3x256x1024 .bf16) (ix3 k R l) := by
  blk_point [iblk, V, idx t]

/-- The sums at the end are the reference's. -/
theorem final (c : Dev nD) : (dats m 0 c).arrAt 2 cfg0.N
    = Cert.RefChipsMemKvIdeal.Value.res (m ((c : Thread nD τ).loc main_arg0)) (m ((c : Thread nD τ).loc main_arg1)) := by
  refine (dats m 0 c).arrAt_eq_of_covers 2 _ (by decide +kernel) fun t hf y => ?_
  have ht : t.val < 1 := t.isLt
  obtain ⟨r, l, rfl⟩ : ∃ (r : Fin 256) (l : Fin 1024), y = ix2 r l := ⟨y 0, y 1, (ix2_eta y).symm⟩
  blk_simp
  rw [after0_2]; frame_out
  have key (k : Fin 3) : (show FVec Ideal S3x256x1024 .bf16 from iblk m c 1 t) (ix3 k r l)
      = (m ((c : Thread nD τ).loc main_arg1) : FVec Ideal S3x256x1024 .bf16) (ix3 k ⟨t.val * 256 + r.val, by omega⟩ l) :=
    blk1 m c t k r l _ rfl
  refine (pay1_at _ _ _ _ r l).trans ?_
  refine (congrArg₂ (fun x y : EReal => x + y) (congrArg₂ (fun x y : EReal => x + y) (congrArg₂ (fun x y : EReal => x + y)
    (blk0 m c t r l ⟨t.val * 256 + r.val, by omega⟩ rfl)
    ((Cert.Chips.part_ld 0 (iblk m c 1 t : Vec Ideal S3x256x1024 .bf16) _ r l).trans (key 0))) ((Cert.Chips.part_ld 1 (iblk m c 1 t : Vec Ideal S3x256x1024 .bf16) _ r l).trans (key 1))) ((Cert.Chips.part_ld 2 (iblk m c 1 t : Vec Ideal S3x256x1024 .bf16) _ r l).trans (key 2))).trans ?_
  refine (Cert.RefChipsMemKvIdeal.Value.res_at _ _ _ l).symm.trans ?_
  congr 1
  blk_ext [idx t]

end Cert.ChipsMemKvIdeal.Value

end
-- ==== Proof.ChipsUkv.lean ====
module

public import proofs.«01_k».proof.Proof.Gen.ChipsUkvIdeal.Value
public import proofs.«01_k».proof.Proof.Gen.RefChipsUkvIdeal.Run
public import proofs.«01_k».proof.Proof.Gen.ChipsUkv.Frame
public import proofs.«01_k».proof.Proof.Chips
public import Idealize.ShloMosaic.Lib.Pointwise
public import Idealize.ShloMosaic.Lib.Pipeline.ValueKit

@[expose] public section

set_option maxRecDepth 16384

noncomputable section

/-! The sum of a gradient's parts from the four chips, at w_ukv's shape. -/

namespace Cert.RefChipsUkvIdeal.Value

open Cert.RefChipsUkvIdeal Cert.RefChipsUkvIdeal.Gen Idealize.ShloMosaic Idealize.SL.Sem

/-- The chip's own part with the sum of the three it received. -/
def res (a : FVec Ideal S256x256 .f32) (b : FVec Ideal S3x256x256 .bf16) : FVec Ideal S256x256 .f32 :=
  addf a (Host.reduceAdd (extf .f32 b bitsLt_bf16_f32) (constant S_ .f32 0x00000000#32) reducesTo_S3x256x256_S256x256_d0 h_S_)

theorem res_at (a : FVec Ideal S256x256 .f32) (b : FVec Ideal S3x256x256 .bf16) (r : Fin 256) (l : Fin 256) :
    res a b (ix2 r l) = a (ix2 r l) + b (ix3 0 r l) + b (ix3 1 r l) + b (ix3 2 r l) := by
  have h : res a b (ix2 r l) = a (ix2 r l) + ∑ k : Fin 3, b (ix3 k r l) := by pointwise [res]
  rw [h, Fin.sum_univ_three, ← add_assoc, ← add_assoc]

end Cert.RefChipsUkvIdeal.Value

namespace Cert.ChipsUkvIdeal.Value

open Cert.ChipsUkvIdeal Cert.ChipsUkvIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![t.val, 0] ∧ win0_1.index t = ![0, t.val, 0] ∧ win0_2.index t = ![t.val, 0] :=
  (by decide +kernel : ∀ t : Fin grid0.N, _)

theorem pay1_at (a : FVec Ideal S256x256 .f32) (b0 b1 b2 : FVec Ideal S1x256x256 .bf16) (r : Fin 256) (l : Fin 256) :
    k0_pay1 (F := Ideal) a b0 b1 b2 (ix2 r l) = a (ix2 r l) + b0 (ix3 0 r l) + b1 (ix3 0 r l) + b2 (ix3 0 r l) := by
  pointwise [k0_pay1]

theorem blk0 (c : Dev nD) (t : Fin cfg0.N) (r : Fin 256) (l : Fin 256) (R : Fin 256) (hR : R.val = t.val * 256 + r.val) :
    (show FVec Ideal S256x256 .f32 from iblk m c 0 t) (ix2 r l)
      = (m ((c : Thread nD τ).loc main_arg0) : FVec Ideal S256x256 .f32) (ix2 R l) := by
  blk_point [iblk, V, idx t]

theorem blk1 (c : Dev nD) (t : Fin cfg0.N) (k : Fin 3) (r : Fin 256) (l : Fin 256) (R : Fin 256) (hR : R.val = t.val * 256 + r.val) :
    (show FVec Ideal S3x256x256 .bf16 from iblk m c 1 t) (ix3 k r l)
      = (m ((c : Thread nD τ).loc main_arg1) : FVec Ideal S3x256x256 .bf16) (ix3 k R l) := by
  blk_point [iblk, V, idx t]

/-- The sums at the end are the reference's. -/
theorem final (c : Dev nD) : (dats m 0 c).arrAt 2 cfg0.N
    = Cert.RefChipsUkvIdeal.Value.res (m ((c : Thread nD τ).loc main_arg0)) (m ((c : Thread nD τ).loc main_arg1)) := by
  refine (dats m 0 c).arrAt_eq_of_covers 2 _ (by decide +kernel) fun t hf y => ?_
  have ht : t.val < 1 := t.isLt
  obtain ⟨r, l, rfl⟩ : ∃ (r : Fin 256) (l : Fin 256), y = ix2 r l := ⟨y 0, y 1, (ix2_eta y).symm⟩
  blk_simp
  rw [after0_2]; frame_out
  have key (k : Fin 3) : (show FVec Ideal S3x256x256 .bf16 from iblk m c 1 t) (ix3 k r l)
      = (m ((c : Thread nD τ).loc main_arg1) : FVec Ideal S3x256x256 .bf16) (ix3 k ⟨t.val * 256 + r.val, by omega⟩ l) :=
    blk1 m c t k r l _ rfl
  refine (pay1_at _ _ _ _ r l).trans ?_
  refine (congrArg₂ (fun x y : EReal => x + y) (congrArg₂ (fun x y : EReal => x + y) (congrArg₂ (fun x y : EReal => x + y)
    (blk0 m c t r l ⟨t.val * 256 + r.val, by omega⟩ rfl)
    ((Cert.Chips.part_ld 0 (iblk m c 1 t : Vec Ideal S3x256x256 .bf16) _ r l).trans (key 0))) ((Cert.Chips.part_ld 1 (iblk m c 1 t : Vec Ideal S3x256x256 .bf16) _ r l).trans (key 1))) ((Cert.Chips.part_ld 2 (iblk m c 1 t : Vec Ideal S3x256x256 .bf16) _ r l).trans (key 2))).trans ?_
  refine (Cert.RefChipsUkvIdeal.Value.res_at _ _ _ l).symm.trans ?_
  congr 1
  blk_ext [idx t]

end Cert.ChipsUkvIdeal.Value

end
-- ==== Proof.ChipsUq.lean ====
module

public import proofs.«01_k».proof.Proof.Gen.ChipsUqIdeal.Value
public import proofs.«01_k».proof.Proof.Gen.RefChipsUqIdeal.Run
public import proofs.«01_k».proof.Proof.Gen.ChipsUq.Frame
public import proofs.«01_k».proof.Proof.Chips
public import Idealize.ShloMosaic.Lib.Pointwise
public import Idealize.ShloMosaic.Lib.Pipeline.ValueKit

@[expose] public section

set_option maxRecDepth 16384

noncomputable section

/-! The sum of a gradient's parts from the four chips, at w_uq's shape. -/

namespace Cert.RefChipsUqIdeal.Value

open Cert.RefChipsUqIdeal Cert.RefChipsUqIdeal.Gen Idealize.ShloMosaic Idealize.SL.Sem

/-- The chip's own part with the sum of the three it received. -/
def res (a : FVec Ideal S256x192 .f32) (b : FVec Ideal S3x256x192 .bf16) : FVec Ideal S256x192 .f32 :=
  addf a (Host.reduceAdd (extf .f32 b bitsLt_bf16_f32) (constant S_ .f32 0x00000000#32) reducesTo_S3x256x192_S256x192_d0 h_S_)

theorem res_at (a : FVec Ideal S256x192 .f32) (b : FVec Ideal S3x256x192 .bf16) (r : Fin 256) (l : Fin 192) :
    res a b (ix2 r l) = a (ix2 r l) + b (ix3 0 r l) + b (ix3 1 r l) + b (ix3 2 r l) := by
  have h : res a b (ix2 r l) = a (ix2 r l) + ∑ k : Fin 3, b (ix3 k r l) := by pointwise [res]
  rw [h, Fin.sum_univ_three, ← add_assoc, ← add_assoc]

end Cert.RefChipsUqIdeal.Value

namespace Cert.ChipsUqIdeal.Value

open Cert.ChipsUqIdeal Cert.ChipsUqIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![t.val, 0] ∧ win0_1.index t = ![0, t.val, 0] ∧ win0_2.index t = ![t.val, 0] :=
  (by decide +kernel : ∀ t : Fin grid0.N, _)

theorem pay1_at (a : FVec Ideal S256x192 .f32) (b0 b1 b2 : FVec Ideal S1x256x192 .bf16) (r : Fin 256) (l : Fin 192) :
    k0_pay1 (F := Ideal) a b0 b1 b2 (ix2 r l) = a (ix2 r l) + b0 (ix3 0 r l) + b1 (ix3 0 r l) + b2 (ix3 0 r l) := by
  pointwise [k0_pay1]

theorem blk0 (c : Dev nD) (t : Fin cfg0.N) (r : Fin 256) (l : Fin 192) (R : Fin 256) (hR : R.val = t.val * 256 + r.val) :
    (show FVec Ideal S256x192 .f32 from iblk m c 0 t) (ix2 r l)
      = (m ((c : Thread nD τ).loc main_arg0) : FVec Ideal S256x192 .f32) (ix2 R l) := by
  blk_point [iblk, V, idx t]

theorem blk1 (c : Dev nD) (t : Fin cfg0.N) (k : Fin 3) (r : Fin 256) (l : Fin 192) (R : Fin 256) (hR : R.val = t.val * 256 + r.val) :
    (show FVec Ideal S3x256x192 .bf16 from iblk m c 1 t) (ix3 k r l)
      = (m ((c : Thread nD τ).loc main_arg1) : FVec Ideal S3x256x192 .bf16) (ix3 k R l) := by
  blk_point [iblk, V, idx t]

/-- The sums at the end are the reference's. -/
theorem final (c : Dev nD) : (dats m 0 c).arrAt 2 cfg0.N
    = Cert.RefChipsUqIdeal.Value.res (m ((c : Thread nD τ).loc main_arg0)) (m ((c : Thread nD τ).loc main_arg1)) := by
  refine (dats m 0 c).arrAt_eq_of_covers 2 _ (by decide +kernel) fun t hf y => ?_
  have ht : t.val < 1 := t.isLt
  obtain ⟨r, l, rfl⟩ : ∃ (r : Fin 256) (l : Fin 192), y = ix2 r l := ⟨y 0, y 1, (ix2_eta y).symm⟩
  blk_simp
  rw [after0_2]; frame_out
  have key (k : Fin 3) : (show FVec Ideal S3x256x192 .bf16 from iblk m c 1 t) (ix3 k r l)
      = (m ((c : Thread nD τ).loc main_arg1) : FVec Ideal S3x256x192 .bf16) (ix3 k ⟨t.val * 256 + r.val, by omega⟩ l) :=
    blk1 m c t k r l _ rfl
  refine (pay1_at _ _ _ _ r l).trans ?_
  refine (congrArg₂ (fun x y : EReal => x + y) (congrArg₂ (fun x y : EReal => x + y) (congrArg₂ (fun x y : EReal => x + y)
    (blk0 m c t r l ⟨t.val * 256 + r.val, by omega⟩ rfl)
    ((Cert.Chips.part_ld 0 (iblk m c 1 t : Vec Ideal S3x256x192 .bf16) _ r l).trans (key 0))) ((Cert.Chips.part_ld 1 (iblk m c 1 t : Vec Ideal S3x256x192 .bf16) _ r l).trans (key 1))) ((Cert.Chips.part_ld 2 (iblk m c 1 t : Vec Ideal S3x256x192 .bf16) _ r l).trans (key 2))).trans ?_
  refine (Cert.RefChipsUqIdeal.Value.res_at _ _ _ l).symm.trans ?_
  congr 1
  blk_ext [idx t]

end Cert.ChipsUqIdeal.Value

end
-- ==== Proof.ChipsIn.lean ====
module

public import proofs.«01_k».proof.Proof.Gen.ChipsInIdeal.Value
public import proofs.«01_k».proof.Proof.Gen.RefChipsInIdeal.Run
public import proofs.«01_k».proof.Proof.Gen.ChipsIn.Frame
public import proofs.«01_k».proof.Proof.Chips
public import Idealize.ShloMosaic.Lib.Pointwise
public import Idealize.ShloMosaic.Lib.Pipeline.ValueKit

@[expose] public section

set_option maxRecDepth 16384

noncomputable section

/-! The sum of a gradient's parts from the four chips, at w_in's shape. -/

namespace Cert.RefChipsInIdeal.Value

open Cert.RefChipsInIdeal Cert.RefChipsInIdeal.Gen Idealize.ShloMosaic Idealize.SL.Sem

/-- The chip's own part with the sum of the three it received. -/
def res (a : FVec Ideal S1024x720 .f32) (b : FVec Ideal S3x1024x720 .bf16) : FVec Ideal S1024x720 .f32 :=
  addf a (Host.reduceAdd (extf .f32 b bitsLt_bf16_f32) (constant S_ .f32 0x00000000#32) reducesTo_S3x1024x720_S1024x720_d0 h_S_)

theorem res_at (a : FVec Ideal S1024x720 .f32) (b : FVec Ideal S3x1024x720 .bf16) (r : Fin 1024) (l : Fin 720) :
    res a b (ix2 r l) = a (ix2 r l) + b (ix3 0 r l) + b (ix3 1 r l) + b (ix3 2 r l) := by
  have h : res a b (ix2 r l) = a (ix2 r l) + ∑ k : Fin 3, b (ix3 k r l) := by pointwise [res]
  rw [h, Fin.sum_univ_three, ← add_assoc, ← add_assoc]

end Cert.RefChipsInIdeal.Value

namespace Cert.ChipsInIdeal.Value

open Cert.ChipsInIdeal Cert.ChipsInIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![t.val, 0] ∧ win0_1.index t = ![0, t.val, 0] ∧ win0_2.index t = ![t.val, 0] :=
  (by decide +kernel : ∀ t : Fin grid0.N, _)

theorem pay1_at (a : FVec Ideal S256x720 .f32) (b0 b1 b2 : FVec Ideal S1x256x720 .bf16) (r : Fin 256) (l : Fin 720) :
    k0_pay1 (F := Ideal) a b0 b1 b2 (ix2 r l) = a (ix2 r l) + b0 (ix3 0 r l) + b1 (ix3 0 r l) + b2 (ix3 0 r l) := by
  pointwise [k0_pay1]

theorem blk0 (c : Dev nD) (t : Fin cfg0.N) (r : Fin 256) (l : Fin 720) (R : Fin 1024) (hR : R.val = t.val * 256 + r.val) :
    (show FVec Ideal S256x720 .f32 from iblk m c 0 t) (ix2 r l)
      = (m ((c : Thread nD τ).loc main_arg0) : FVec Ideal S1024x720 .f32) (ix2 R l) := by
  blk_point [iblk, V, idx t]

theorem blk1 (c : Dev nD) (t : Fin cfg0.N) (k : Fin 3) (r : Fin 256) (l : Fin 720) (R : Fin 1024) (hR : R.val = t.val * 256 + r.val) :
    (show FVec Ideal S3x256x720 .bf16 from iblk m c 1 t) (ix3 k r l)
      = (m ((c : Thread nD τ).loc main_arg1) : FVec Ideal S3x1024x720 .bf16) (ix3 k R l) := by
  blk_point [iblk, V, idx t]

/-- The sums at the end are the reference's. -/
theorem final (c : Dev nD) : (dats m 0 c).arrAt 2 cfg0.N
    = Cert.RefChipsInIdeal.Value.res (m ((c : Thread nD τ).loc main_arg0)) (m ((c : Thread nD τ).loc main_arg1)) := by
  refine (dats m 0 c).arrAt_eq_of_covers 2 _ (by decide +kernel) fun t hf y => ?_
  have ht : t.val < 4 := t.isLt
  obtain ⟨r, l, rfl⟩ : ∃ (r : Fin 256) (l : Fin 720), y = ix2 r l := ⟨y 0, y 1, (ix2_eta y).symm⟩
  blk_simp
  rw [after0_2]; frame_out
  have key (k : Fin 3) : (show FVec Ideal S3x256x720 .bf16 from iblk m c 1 t) (ix3 k r l)
      = (m ((c : Thread nD τ).loc main_arg1) : FVec Ideal S3x1024x720 .bf16) (ix3 k ⟨t.val * 256 + r.val, by omega⟩ l) :=
    blk1 m c t k r l _ rfl
  refine (pay1_at _ _ _ _ r l).trans ?_
  refine (congrArg₂ (fun x y : EReal => x + y) (congrArg₂ (fun x y : EReal => x + y) (congrArg₂ (fun x y : EReal => x + y)
    (blk0 m c t r l ⟨t.val * 256 + r.val, by omega⟩ rfl)
    ((Cert.Chips.part_ld 0 (iblk m c 1 t : Vec Ideal S3x256x720 .bf16) _ r l).trans (key 0))) ((Cert.Chips.part_ld 1 (iblk m c 1 t : Vec Ideal S3x256x720 .bf16) _ r l).trans (key 1))) ((Cert.Chips.part_ld 2 (iblk m c 1 t : Vec Ideal S3x256x720 .bf16) _ r l).trans (key 2))).trans ?_
  refine (Cert.RefChipsInIdeal.Value.res_at _ _ _ l).symm.trans ?_
  congr 1
  blk_ext [idx t]

end Cert.ChipsInIdeal.Value

end
-- ==== Proof.OutProj.lean ====
module

public import proofs.«01_k».proof.Proof.Gen.OutProjIdeal.Value
public import proofs.«01_k».proof.Proof.Gen.RefOutProjIdeal.Run
public import proofs.«01_k».proof.Proof.Gen.OutProj.Frame
public import Idealize.ShloMosaic.Lib.Pointwise
public import Idealize.ShloMosaic.Lib.Pipeline.ValueKit

@[expose] public section

set_option maxRecDepth 16384

noncomputable section

/-! The output projection with the residual added, and the norm of what it gives. -/

namespace Cert.OutTerms

open Idealize.ShloMosaic

/-- A row of numbers divided by its root mean square, scaled by a gain. -/
def normed (w : Fin 2048 → EReal) (g : EReal) (l : Fin 2048) : EReal :=
  w l * Ideal.rsqrt (Ideal.div (∑ k : Fin 2048, w k * w k) (Ideal.ofBits .f32 0x45000000#32) + Ideal.ofBits .f32 0x358637BD#32) * g

end Cert.OutTerms

namespace Cert.RefOutProjIdeal.Value

open Cert.RefOutProjIdeal Cert.RefOutProjIdeal.Gen Idealize.ShloMosaic Idealize.SL.Sem

/-- The residual with the projection added. -/
def hid (a : FVec Ideal S4096x2048 .bf16) (b : FVec Ideal S2048x2048 .bf16) (x : FVec Ideal S4096x2048 .f32) : FVec Ideal S4096x2048 .f32 :=
  addf x (Host.dotGeneral dot_S4096x2048_S2048x2048_S4096x2048_1_0_0_1_n_n none (extf .f32 a bitsLt_bf16_f32) (extf .f32 b bitsLt_bf16_f32))

/-- The norm of rows. -/
def norm (h : FVec Ideal S4096x2048 .f32) (g : FVec Ideal S1x2048 .f32) : FVec Ideal S4096x2048 .bf16 :=
  truncf .bf16 (mulf (mulf h (broadcastInDim S4096x2048 ![0, 1] bcast_S4096x1_S4096x2048_0_1 (Host.rsqrt (addf (Host.divf (broadcastInDim S4096x1 ![0] bcast_S4096_S4096x1_0 (Host.reduceAdd (mulf h h) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 g)) bitsLt_bf16_f32

/-- The normed rows of the sum. -/
def res (a : FVec Ideal S4096x2048 .bf16) (b : FVec Ideal S2048x2048 .bf16) (x : FVec Ideal S4096x2048 .f32) (g : FVec Ideal S1x2048 .f32) : FVec Ideal S4096x2048 .bf16 :=
  norm (hid a b x) g

theorem hid_at (a : FVec Ideal S4096x2048 .bf16) (b : FVec Ideal S2048x2048 .bf16) (x : FVec Ideal S4096x2048 .f32) (r : Fin 4096) (l : Fin 2048) :
    hid a b x (ix2 r l) = x (ix2 r l) + ∑ k : Fin 2048, a (ix2 r k) * b (ix2 k l) := by
  pointwise [hid]

theorem norm_at (h : FVec Ideal S4096x2048 .f32) (g : FVec Ideal S1x2048 .f32) (r : Fin 4096) (l : Fin 2048) :
    norm h g (ix2 r l) = Cert.OutTerms.normed (fun l => h (ix2 r l)) (g (ix2 0 l)) l := by
  pointwise [norm, Cert.OutTerms.normed]

end Cert.RefOutProjIdeal.Value

namespace Cert.OutProjIdeal.Value

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- A row of a block with the residual added. -/
def row (v0 : FVec Ideal S512x2048 .bf16) (v1 : FVec Ideal S2048x2048 .bf16) (v3 : FVec Ideal S512x2048 .f32) (r : Fin 512) (l : Fin 2048) : EReal :=
  v3 (ix2 r l) + ∑ k : Fin 2048, v0 (ix2 r k) * v1 (ix2 k l)

theorem pay1_at (v0 : FVec Ideal S512x2048 .bf16) (v1 : FVec Ideal S2048x2048 .bf16) (v3 : FVec Ideal S512x2048 .f32) (r : Fin 512) (l : Fin 2048) :
    k0_pay1 (F := Ideal) v0 v1 v3 (ix2 r l) = row v0 v1 v3 r l := by
  have h : k0_pay1 (F := Ideal) v0 v1 v3 (ix2 r l) = (∑ k : Fin 2048, v0 (ix2 r k) * v1 (ix2 k l)) + v3 (ix2 r l) := by pointwise [k0_pay1]
  exact h.trans (add_comm _ _)

/-- The norm within a block. -/
theorem pay2_of (v0 : FVec Ideal S512x2048 .bf16) (v1 : FVec Ideal S2048x2048 .bf16) (v3 : FVec Ideal S512x2048 .f32) (v16 : FVec Ideal S1x2048 .f32) (r : Fin 512) (l : Fin 2048) :
    k0_pay2 (F := Ideal) v0 v1 v3 v16 (ix2 r l) = Cert.OutTerms.normed (fun l => k0_pay1 (F := Ideal) v0 v1 v3 (ix2 r l)) (v16 (ix2 0 l)) l := by
  unfold k0_pay2
  generalize k0_pay1 (F := Ideal) v0 v1 v3 = h
  pointwise [Cert.OutTerms.normed]

theorem pay2_at (v0 : FVec Ideal S512x2048 .bf16) (v1 : FVec Ideal S2048x2048 .bf16) (v3 : FVec Ideal S512x2048 .f32) (v16 : FVec Ideal S1x2048 .f32) (r : Fin 512) (l : Fin 2048) :
    k0_pay2 (F := Ideal) v0 v1 v3 v16 (ix2 r l) = Cert.OutTerms.normed (fun l => row v0 v1 v3 r l) (v16 (ix2 0 l)) l := by
  rw [pay2_of]
  congr 1
  funext l
  exact pay1_at v0 v1 v3 r l

theorem blk0 (c : Dev nD) (t : Fin cfg0.N) (r : Fin 512) (k : Fin 2048) (R : Fin 4096) (hR : R.val = t.val * 512 + r.val) :
    (show FVec Ideal S512x2048 .bf16 from iblk m c 0 t) (ix2 r k)
      = (m ((c : Thread nD τ).loc main_arg0) : FVec Ideal S4096x2048 .bf16) (ix2 R k) := by
  blk_point [iblk, V, idx t]

theorem blk1 (c : Dev nD) (t : Fin cfg0.N) (k l : Fin 2048) :
    (show FVec Ideal S2048x2048 .bf16 from iblk m c 1 t) (ix2 k l)
      = (m ((c : Thread nD τ).loc main_arg1) : FVec Ideal S2048x2048 .bf16) (ix2 k l) := by
  blk_point [iblk, V, idx t]

theorem blk2 (c : Dev nD) (t : Fin cfg0.N) (r : Fin 512) (k : Fin 2048) (R : Fin 4096) (hR : R.val = t.val * 512 + r.val) :
    (show FVec Ideal S512x2048 .f32 from iblk m c 2 t) (ix2 r k)
      = (m ((c : Thread nD τ).loc main_arg2) : FVec Ideal S4096x2048 .f32) (ix2 R k) := by
  blk_point [iblk, V, idx t]

theorem blk3 (c : Dev nD) (t : Fin cfg0.N) (l : Fin 2048) :
    (show FVec Ideal S1x2048 .f32 from iblk m c 3 t) (ix2 0 l)
      = (m ((c : Thread nD τ).loc main_arg3) : FVec Ideal S1x2048 .f32) (ix2 0 l) := by
  blk_point [iblk, V, idx t]

/-- A row of a block is that row of the reference's sum. -/
theorem row_eq (c : Dev nD) (t : Fin cfg0.N) (r : Fin 512) (l : Fin 2048) (R : Fin 4096) (hR : R.val = t.val * 512 + r.val) :
    row (iblk m c 0 t) (iblk m c 1 t) (iblk m c 2 t) r l
      = Cert.RefOutProjIdeal.Value.hid (m ((c : Thread nD τ).loc main_arg0)) (m ((c : Thread nD τ).loc main_arg1)) (m ((c : Thread nD τ).loc main_arg2)) (ix2 R l) := by
  rw [Cert.RefOutProjIdeal.Value.hid_at]
  exact congrArg₂ (fun x y : EReal => x + y) (blk2 m c t r l R hR)
    (Finset.sum_congr rfl fun k _ => congrArg₂ (fun x y : EReal => x * y) (blk0 m c t r k R hR) (blk1 m c t k l))

/-- The sums at the end are the reference's. -/
theorem final_hid (c : Dev nD) : (dats m 0 c).arrAt 4 cfg0.N
    = Cert.RefOutProjIdeal.Value.hid (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht : t.val < 8 := t.isLt
  obtain ⟨r, l, rfl⟩ : ∃ (r : Fin 512) (l : Fin 2048), y = ix2 r l := ⟨y 0, y 1, (ix2_eta y).symm⟩
  have key := (pay1_at (iblk m c 0 t) (iblk m c 1 t) (iblk m c 2 t) r l).trans (row_eq m c t r l ⟨t.val * 512 + r.val, by omega⟩ rfl)
  blk_simp
  rw [after0_4]; frame_out
  refine key.trans ?_
  congr 1
  blk_ext [idx t]

/-- The normed rows at the end are the reference's. -/
theorem final (c : Dev nD) : (dats m 0 c).arrAt 5 cfg0.N
    = Cert.RefOutProjIdeal.Value.res (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val < 8 := t.isLt
  obtain ⟨r, l, rfl⟩ : ∃ (r : Fin 512) (l : Fin 2048), y = ix2 r l := ⟨y 0, y 1, (ix2_eta y).symm⟩
  have key : k0_pay2 (F := Ideal) (iblk m c 0 t) (iblk m c 1 t) (iblk m c 2 t) (iblk m c 3 t) (ix2 r l)
      = Cert.RefOutProjIdeal.Value.res (m ((c : Thread nD τ).loc main_arg0)) (m ((c : Thread nD τ).loc main_arg1)) (m ((c : Thread nD τ).loc main_arg2)) (m ((c : Thread nD τ).loc main_arg3))
        (ix2 ⟨t.val * 512 + r.val, by omega⟩ l) := by
    rw [pay2_at, Cert.RefOutProjIdeal.Value.res, Cert.RefOutProjIdeal.Value.norm_at]
    exact congrArg₂ (fun w g => Cert.OutTerms.normed w g l) (funext fun l => row_eq m c t r l _ rfl) (blk3 m c t l)
  blk_simp
  rw [after0_5]; frame_out
  refine key.trans ?_
  congr 1
  blk_ext [idx t]

end Cert.OutProjIdeal.Value

end
-- ==== Proof.RmsFwd.lean ====
module

public import proofs.«01_k».proof.Proof.Gen.RmsFwdIdeal.Value
public import proofs.«01_k».proof.Proof.Gen.RefRmsFwdIdeal.Run
public import proofs.«01_k».proof.Proof.Gen.RmsFwd.Frame
public import proofs.«01_k».proof.Proof.OutProj
public import Idealize.ShloMosaic.Lib.Pointwise
public import Idealize.ShloMosaic.Lib.Pipeline.ValueKit

@[expose] public section

set_option maxRecDepth 16384

noncomputable section

/-! The norm of rows, forward. -/

namespace Cert.RefRmsFwdIdeal.Value

open Cert.RefRmsFwdIdeal Cert.RefRmsFwdIdeal.Gen Idealize.ShloMosaic Idealize.SL.Sem

/-- The norm of rows. -/
def res (x : FVec Ideal S4096x2048 .f32) (g : FVec Ideal S1x2048 .f32) : FVec Ideal S4096x2048 .bf16 :=
  truncf .bf16 (mulf (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 g)) bitsLt_bf16_f32

theorem res_at (x : FVec Ideal S4096x2048 .f32) (g : FVec Ideal S1x2048 .f32) (r : Fin 4096) (l : Fin 2048) :
    res x g (ix2 r l) = Cert.OutTerms.normed (fun l => x (ix2 r l)) (g (ix2 0 l)) l := by
  pointwise [res, Cert.OutTerms.normed]

end Cert.RefRmsFwdIdeal.Value

namespace Cert.RmsFwdIdeal.Value

open Cert.RmsFwdIdeal Cert.RmsFwdIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![t.val, 0] ∧ win0_1.index t = ![0, 0] ∧ win0_2.index t = ![t.val, 0] :=
  (by decide +kernel : ∀ t : Fin grid0.N, _)

theorem pay1_at (x : FVec Ideal S512x2048 .f32) (g : FVec Ideal S1x2048 .f32) (r : Fin 512) (l : Fin 2048) :
    k0_pay1 (F := Ideal) x g (ix2 r l) = Cert.OutTerms.normed (fun l => x (ix2 r l)) (g (ix2 0 l)) l := by
  pointwise [k0_pay1, Cert.OutTerms.normed]

theorem blk0 (c : Dev nD) (t : Fin cfg0.N) (r : Fin 512) (k : Fin 2048) (R : Fin 4096) (hR : R.val = t.val * 512 + r.val) :
    (show FVec Ideal S512x2048 .f32 from iblk m c 0 t) (ix2 r k)
      = (m ((c : Thread nD τ).loc main_arg0) : FVec Ideal S4096x2048 .f32) (ix2 R k) := by
  blk_point [iblk, V, idx t]

theorem blk1 (c : Dev nD) (t : Fin cfg0.N) (l : Fin 2048) :
    (show FVec Ideal S1x2048 .f32 from iblk m c 1 t) (ix2 0 l)
      = (m ((c : Thread nD τ).loc main_arg1) : FVec Ideal S1x2048 .f32) (ix2 0 l) := by
  blk_point [iblk, V, idx t]

/-- The normed rows at the end are the reference's. -/
theorem final (c : Dev nD) : (dats m 0 c).arrAt 2 cfg0.N
    = Cert.RefRmsFwdIdeal.Value.res (m ((c : Thread nD τ).loc main_arg0)) (m ((c : Thread nD τ).loc main_arg1)) := by
  refine (dats m 0 c).arrAt_eq_of_covers 2 _ (by decide +kernel) fun t hf y => ?_
  have ht : t.val < 8 := t.isLt
  obtain ⟨r, l, rfl⟩ : ∃ (r : Fin 512) (l : Fin 2048), y = ix2 r l := ⟨y 0, y 1, (ix2_eta y).symm⟩
  have key : k0_pay1 (F := Ideal) (iblk m c 0 t) (iblk m c 1 t) (ix2 r l)
      = Cert.RefRmsFwdIdeal.Value.res (m ((c : Thread nD τ).loc main_arg0)) (m ((c : Thread nD τ).loc main_arg1))
        (ix2 ⟨t.val * 512 + r.val, by omega⟩ l) := by
    rw [pay1_at, Cert.RefRmsFwdIdeal.Value.res_at]
    exact congrArg₂ (fun w g => Cert.OutTerms.normed w g l) (funext fun l => blk0 m c t r l _ rfl) (blk1 m c t l)
  blk_simp
  rw [after0_2]; frame_out
  refine key.trans ?_
  congr 1
  blk_ext [idx t]

end Cert.RmsFwdIdeal.Value

end
-- ==== Proof.Reals.lean ====
module

public import proofs.«01_k».proof.Pre_finite
public import Idealize.ShloMosaic.Lib.Pointwise

@[expose] public section

set_option maxRecDepth 16384

noncomputable section

/-! The precondition, read: every entry the programs read is a number. -/

namespace Cert.Pre_finite

open Idealize.ShloMosaic

instance facts : Facts where
  slices_S4096x2048_S4096x512_0_1536 := by decide
  bitsLt_bf16_f32 := by decide
  bcast_S_S4096x512 := by decide
  bcast_S_S256x512 := by decide

/-- A value whose magnitude is below infinity is a number. -/
theorem real_of_lt (x : EReal) (h : Ideal.cmp .olt (max x (-x)) (Ideal.ofBits .f32 0x7F800000#32) = 1#1) :
    ((x.toReal : ℝ) : EReal) = x := by
  have hi : Ideal.ofBits .f32 0x7F800000#32 = (⊤ : EReal) := by simp [Ideal.ofBits, Ideal.ieee]
  rw [hi] at h
  have hlt : max x (-x) < ⊤ := by
    by_contra hn
    simp [Ideal.cmp, hn] at h
  refine EReal.coe_toReal (fun e => ?_) fun e => ?_ <;> subst e <;> simp at hlt

variable (Q : FVec Ideal S4096x512 .bf16) (K V : FVec Ideal S256x512 .bf16) (D : FVec Ideal S4096x2048 .f32)

theorem real0 (h : (fn Q K V D).1 = fun _ => 1#1) (r : Fin 4096) (l : Fin 512) :
    (((Q (ix2 r l) : EReal).toReal : ℝ) : EReal) = Q (ix2 r l) :=
  real_of_lt _ (congrFun h (ix2 r l))

theorem real1 (h : (fn Q K V D).2.1 = fun _ => 1#1) (r : Fin 256) (l : Fin 512) :
    (((K (ix2 r l) : EReal).toReal : ℝ) : EReal) = K (ix2 r l) :=
  real_of_lt _ (congrFun h (ix2 r l))

theorem real2 (h : (fn Q K V D).2.2.1 = fun _ => 1#1) (r : Fin 256) (l : Fin 512) :
    (((V (ix2 r l) : EReal).toReal : ℝ) : EReal) = V (ix2 r l) :=
  real_of_lt _ (congrFun h (ix2 r l))

theorem real3 (h : (fn Q K V D).2.2.2 = fun _ => 1#1) (r : Fin 4096) (l : Fin 512) :
    (((D (ix2 r ⟨1536 + l.val, by omega⟩) : EReal).toReal : ℝ) : EReal) = D (ix2 r ⟨1536 + l.val, by omega⟩) := by
  have e := congrFun h (ix2 r l)
  refine real_of_lt _ (Eq.trans ?_ e)
  pointwise [fn]
  rfl

end Cert.Pre_finite

end
-- ==== Proof.Rows.lean ====
module

public import Idealize.ShloMosaic.Lib.Pointwise

@[expose] public section

set_option maxRecDepth 16384

noncomputable section

/-! What one row of one head is: its scores against the memory, their exponentials, the weights, and the
gradient of the scores as the kernel forms it and as the chain rule writes it. -/

namespace Cert.Rows

open Idealize.ShloMosaic

/-- The scale of the scores, as both programs write it. -/
def sc : EReal := Ideal.ofBits .f32 0x3DB504F3#32

/-- The value a row's maximum starts from. -/
def low : EReal := Ideal.ofBits .f32 0xFF800000#32

/-- The number one, as both programs write it. -/
def one : EReal := Ideal.ofBits .f32 0x3F800000#32

variable {n d : Nat}

/-- A row's scaled scores. -/
def score (q : Fin d → EReal) (k : Fin n → Fin d → EReal) (j : Fin n) : EReal := (∑ x, q x * k j x) * sc

/-- A row's largest score. -/
def top (z : Fin n → EReal) : EReal := Finset.univ.fold max low z

/-- A row's exponentials. -/
def expo (z : Fin n → EReal) (j : Fin n) : EReal := Ideal.exp (z j - top z)

/-- The weights as the kernel forms them: by the reciprocal of the row's sum. -/
def weight (z : Fin n → EReal) (j : Fin n) : EReal := expo z j * Ideal.div one (∑ i, expo z i)

/-- A row of weights' gradient: the output's gradient against the values. -/
def dweight (dy : Fin d → EReal) (v : Fin n → Fin d → EReal) (j : Fin n) : EReal := ∑ x, dy x * v j x

/-- The scores' gradient as the kernel forms it, from the saved output's row. -/
def dscore (z : Fin n → EReal) (v : Fin n → Fin d → EReal) (y dy : Fin d → EReal) (j : Fin n) : EReal :=
  weight z j * (dweight dy v j - ∑ x, dy x * y x) * sc

/-- The scores' gradient as the chain rule through the quotient writes it. -/
def dscoreRef (e g : Fin n → EReal) (j : Fin n) : EReal :=
  (Ideal.div (g j) (∑ i, e i) + -(∑ i, g i * Ideal.div one ((∑ l, e l) * (∑ l, e l)) * e i)) * e j * sc

/-- The output's row: the values weighted by the quotients. -/
def outRow (e : Fin n → EReal) (v : Fin n → Fin d → EReal) (x : Fin d) : EReal :=
  ∑ j, Ideal.div (e j) (∑ i, e i) * v j x

/-- A largest along the last of four axes is the fold of `max` along it. -/
theorem reduceMax_last {n0 n1 n2 n3 : Nat} {u : Shape}
    (h : (⟨4, ![n0, n1, n2, n3]⟩ : Shape).ReducesTo [3] ⟨3, ![n0, n1, n2]⟩) (hu : 0 < u.numel)
    (Z : FVec Ideal ⟨4, ![n0, n1, n2, n3]⟩ .f32) (c : FVec Ideal u .f32) (a : Fin n0) (b : Fin n1) (r : Fin n2) :
    Host.reduce FloatOps.maximumf Z c h hu (ix3 a b r)
      = Finset.univ.fold max (c (Shape.Idx.first hu)) fun k : Fin n3 => Z (ix4 a b r k) :=
  (Host.reduce_eq_fold _ Z c h hu _).trans (h.fold_fiber_r4_a3 _ _ _ Z)

/-- A row's maximum as the reference writes it, taken once more with the value it starts from. -/
theorem reduceMax_again {n0 n1 n2 n3 : Nat} {u : Shape}
    (h : (⟨4, ![n0, n1, n2, n3]⟩ : Shape).ReducesTo [3] ⟨3, ![n0, n1, n2]⟩) (hu : 0 < u.numel)
    (f : Fin u.rank → Fin 3) (b : u.BroadcastsInDim ⟨3, ![n0, n1, n2]⟩ f)
    (Z : FVec Ideal ⟨4, ![n0, n1, n2, n3]⟩ .f32) (a : Fin n0) (l : Fin n1) (r : Fin n2) :
    maximumf (broadcastInDim ⟨3, ![n0, n1, n2]⟩ f b (constant u .f32 0xFF800000#32))
      (Host.reduce FloatOps.maximumf Z (constant u .f32 0xFF800000#32) h hu) (ix3 a l r)
      = max low (top fun j => Z (ix4 a l r j)) := by
  have e := reduceMax_last h hu Z (constant u .f32 0xFF800000#32) a l r
  show max _ _ = _
  rw [e]
  rfl

/-- A sum over a leading and a trailing axis of size one is the entry it consists of. -/
theorem reduceAdd_units {n1 n2 : Nat} (h : (⟨4, ![1, n1, n2, 1]⟩ : Shape).ReducesTo [0, 3] ⟨2, ![n1, n2]⟩)
    (x : (⟨4, ![1, n1, n2, 1]⟩ : Shape).Idx → EReal) (c : EReal) (a : Fin n1) (r : Fin n2) :
    Ideal.hostReduceAdd h x c (ix2 a r) = c + x (ix4 0 a r 0) := by
  unfold Ideal.hostReduceAdd
  congr 1
  rw [Finset.sum_eq_single (ix4 0 a r 0)]
  · intro i hi hne
    rw [Finset.mem_filter] at hi
    refine absurd ?_ hne
    funext d
    apply Fin.ext
    match d with
    | ⟨0, _⟩ => exact Nat.lt_one_iff.mp (i 0).isLt
    | ⟨1, _⟩ => exact congrArg Fin.val (congrFun hi.2 0)
    | ⟨2, _⟩ => exact congrArg Fin.val (congrFun hi.2 1)
    | ⟨3, _⟩ => exact Nat.lt_one_iff.mp (i 3).isLt
  · intro hn
    refine absurd (Finset.mem_filter.mpr ⟨Finset.mem_univ _, ?_⟩) hn
    funext d
    apply Fin.ext
    match d with
    | ⟨0, _⟩ => rfl
    | ⟨1, _⟩ => rfl

end Cert.Rows

end
-- ==== Proof.Tiles.lean ====
module

public import proofs.«01_k».proof.Proof.Rows
public import proofs.«01_k».proof.Proof.Gen.KernelIdeal.Value
public import Idealize.ShloMosaic.Lib.Pipeline.ValueKit

@[expose] public section

set_option maxRecDepth 16384

noncomputable section

/-! What one head's columns of a block become, whichever head it is. -/

namespace Cert.KernelIdeal.Value

open Cert.KernelIdeal Cert.KernelIdeal.Gen Idealize.ShloMosaic Idealize.ShloMosaic.TcCoe Idealize.SL.Sem
open Idealize.ShloMosaic.Pipeline (Dat)

variable (q : Vec Ideal S1024x128 .bf16) (k v : Vec Ideal S256x128 .bf16) (y dy : Vec Ideal S1024x128 .f32)
  (P : Vec Ideal S256x128 .f32)

/-- One head's weights. -/
def pTile : FVec Ideal S1024x256 .bf16 := k0_pay16 (k0_pay7 q k)

/-- One head's score gradient. -/
def sTile : FVec Ideal S1024x256 .bf16 := k0_pay17 (k0_pay7 q k) (k0_pay11 dy v) dy y

theorem pTile1 : k0_pay20 (k0_pay18 (k0_pay8 q k)) = pTile q k := rfl
theorem pTile2 : k0_pay23 (k0_pay9 q k) = pTile q k := rfl
theorem pTile3 : k0_pay27 (k0_pay10 q k) = pTile q k := rfl
theorem sTile1 : k0_pay21 (k0_pay12 (k0_pay4 dy) v) (k0_pay18 (k0_pay8 q k)) dy y = sTile q k v y dy := rfl
theorem sTile2 : k0_pay25 (k0_pay24 (k0_pay9 q k) (k0_pay13 (k0_pay5 dy) v) dy y) (FloatOps.ofBits FTy.f32 0x3DB504F3#32)
    = sTile q k v y dy := rfl
theorem sTile3 : k0_pay28 (k0_pay10 q k) (k0_pay14 (k0_pay6 dy) v) dy y = sTile q k v y dy := rfl

/-- The unscaled scores. -/
theorem raw_at (r : Fin 1024) (j : Fin 256) : k0_pay7 q k (ix2 r j) = ∑ x : Fin 128, q (ix2 r x) * k (ix2 j x) := by
  pointwise [k0_pay7]

/-- The weights' gradient. -/
theorem dw_at (r : Fin 1024) (j : Fin 256) : k0_pay11 dy v (ix2 r j)
    = Rows.dweight (fun x => dy (ix2 r x)) (fun j x => v (ix2 j x)) j := by
  pointwise [k0_pay11, k0_pay3, Rows.dweight]

/-- The weights, from the unscaled scores. -/
theorem soft_at (Z : FVec Ideal S1024x256 .f32) (r : Fin 1024) (j : Fin 256) : k0_pay15 Z (ix2 r j)
    = Rows.weight (fun j => Z (ix2 r j) * Rows.sc) j := by
  pointwise [k0_pay15, Rows.weight, Rows.expo, Rows.top, Rows.low, Rows.one, Rows.sc]

/-- One head's weights, read at a row. -/
theorem pTile_at (r : Fin 1024) (j : Fin 256) : pTile q k (ix2 r j)
    = Rows.weight (Rows.score (fun x => q (ix2 r x)) fun j x => k (ix2 j x)) j := by
  have h : pTile q k (ix2 r j) = k0_pay15 (k0_pay7 q k) (ix2 r j) := by pointwise [pTile, k0_pay16]
  rw [h, soft_at]
  simp only [raw_at]
  rfl

/-- One head's score gradient, read at a row. -/
theorem sTile_at (r : Fin 1024) (j : Fin 256) : sTile q k v y dy (ix2 r j)
    = Rows.dscore (Rows.score (fun x => q (ix2 r x)) fun j x => k (ix2 j x)) (fun j x => v (ix2 j x))
        (fun x => y (ix2 r x)) (fun x => dy (ix2 r x)) j := by
  have h : sTile q k v y dy (ix2 r j) = k0_pay15 (k0_pay7 q k) (ix2 r j)
      * (k0_pay11 dy v (ix2 r j) - ∑ x : Fin 128, dy (ix2 r x) * y (ix2 r x)) * Rows.sc := by
    pointwise [sTile, k0_pay17, Rows.sc]
  rw [h, soft_at, dw_at]
  simp only [raw_at]
  rfl

variable (S : FVec Ideal S1024x256 .bf16)

/-- One head's columns of the queries' gradient. -/
theorem dq_at (i : S1024x128.Idx) : k0_pay30 S k i = ∑ j : Fin 256, S (ix2 (i 0) j) * k (ix2 j (i 1)) := by
  pointwise [k0_pay30]

/-- One head's columns of the keys' gradient: what was there and this block's part. -/
theorem dk_at (i : S256x128.Idx) : k0_pay31 S P q i = P i + ∑ r : Fin 1024, S (ix2 r (i 0)) * q (ix2 r (i 1)) := by
  pointwise [k0_pay31]

/-- One head's columns of the values' gradient: what was there and this block's part. -/
theorem dv_at (i : S256x128.Idx) : k0_pay29 (k0_pay3 dy) S P i = P i + ∑ r : Fin 1024, S (ix2 r (i 0)) * dy (ix2 r (i 1)) := by
  pointwise [k0_pay29, k0_pay3]

end Cert.KernelIdeal.Value

end
-- ==== Proof.Block.lean ====
module

public import proofs.«01_k».proof.Proof.Tiles
public import Idealize.ShloMosaic.Lib.Pipeline.ReadBack

@[expose] public section

set_option maxRecDepth 16384

noncomputable section

/-! What one block of rows gives: its block of the queries' gradient, and its part of the keys' and values' gradients. -/

namespace Cert.KernelIdeal.Value

open Cert.KernelIdeal Cert.KernelIdeal.Gen Idealize.ShloMosaic Idealize.ShloMosaic.TcCoe Idealize.SL.Sem
open Idealize.ShloMosaic.Pipeline (Dat)

/-- Column `x` of the head that column `l` lies in. -/
def col (l : Fin 512) (x : Fin 128) : Fin 512 := ⟨l.val / 128 * 128 + x.val, by omega⟩

section
variable {n : Nat} (Q : (⟨2, ![n, 512]⟩ : Shape).Idx → EReal) (K V : (⟨2, ![256, 512]⟩ : Shape).Idx → EReal) (Y D : (⟨2, ![n, 512]⟩ : Shape).Idx → EReal)

/-- Row `r`'s scores in the head of column `l`. -/
def zOf (r : Fin n) (l : Fin 512) : Fin 256 → EReal :=
  Rows.score (fun x : Fin 128 => Q (ix2 r (col l x))) fun j x => K (ix2 j (col l x))

/-- Row `r`'s weights in the head of column `l`. -/
def pOf (r : Fin n) (l : Fin 512) : Fin 256 → EReal := Rows.weight (zOf Q K r l)

/-- Row `r`'s gradient of the scores in the head of column `l`. -/
def sOf (r : Fin n) (l : Fin 512) : Fin 256 → EReal :=
  Rows.dscore (zOf Q K r l) (fun j (x : Fin 128) => V (ix2 j (col l x))) (fun x => Y (ix2 r (col l x))) fun x => D (ix2 r (col l x))

/-- The queries' gradient of the rows. -/
def dqOf (i : (⟨2, ![n, 512]⟩ : Shape).Idx) : EReal := ∑ j : Fin 256, sOf Q K V Y D (i 0) (i 1) j * K (ix2 j (i 1))

/-- The rows' part of the keys' gradient. -/
def dkOf (i : (⟨2, ![256, 512]⟩ : Shape).Idx) : EReal := ∑ r : Fin n, sOf Q K V Y D r (i 1) (i 0) * Q (ix2 r (i 1))

/-- The rows' part of the values' gradient. -/
def dvOf (i : (⟨2, ![256, 512]⟩ : Shape).Idx) : EReal := ∑ r : Fin n, pOf Q K r (i 1) (i 0) * D (ix2 r (i 1))
end

/-- `B` is the 128 columns of `X` from column `o` on. -/
def IsCols {n : Nat} (o : Nat) (B : (⟨2, ![n, 128]⟩ : Shape).Idx → EReal) (X : (⟨2, ![n, 512]⟩ : Shape).Idx → EReal) : Prop :=
  ∀ (r : Fin n) (x : Fin 128) (l : Fin 512), l.val = o + x.val → B (ix2 r x) = X (ix2 r l)

variable {q : Vec Ideal S1024x128 .bf16} {k v : Vec Ideal S256x128 .bf16} {y dy : Vec Ideal S1024x128 .f32}
  {P : Vec Ideal S256x128 .f32}
  {X0 : Vec Ideal S1024x512 .bf16} {X1 X2 : Vec Ideal S256x512 .bf16} {X3 X4 : Vec Ideal S1024x512 .f32} {A : Vec Ideal S256x512 .f32} {o : Nat}

/-- Reading a block of columns at the head of a column inside it. -/
theorem IsCols.col {n : Nat} {B : (⟨2, ![n, 128]⟩ : Shape).Idx → EReal} {X : (⟨2, ![n, 512]⟩ : Shape).Idx → EReal} (h : IsCols o B X)
    (l : Fin 512) (hl : l.val / 128 * 128 = o) (r : Fin n) (x : Fin 128) : B (ix2 r x) = X (ix2 r (Value.col l x)) :=
  h r x _ (by show _ / 128 * 128 + _ = _; rw [hl])

theorem pTile_col (hq : IsCols o q X0) (hk : IsCols o k X1) (l : Fin 512) (hl : l.val / 128 * 128 = o) (r : Fin 1024) (j : Fin 256) :
    pTile q k (ix2 r j) = pOf X0 X1 r l j := by
  rw [pTile_at]
  simp only [hq.col l hl, hk.col l hl]
  rfl

theorem sTile_col (hq : IsCols o q X0) (hk : IsCols o k X1) (hv : IsCols o v X2) (hy : IsCols o y X3) (hd : IsCols o dy X4)
    (l : Fin 512) (hl : l.val / 128 * 128 = o) (r : Fin 1024) (j : Fin 256) :
    sTile q k v y dy (ix2 r j) = sOf X0 X1 X2 X3 X4 r l j := by
  rw [sTile_at]
  simp only [hq.col l hl, hk.col l hl, hv.col l hl, hy.col l hl, hd.col l hl]
  rfl

/-- An index of a matrix is a row and a column. -/
theorem ex2 {a b : Nat} (x : (⟨2, ![a, b]⟩ : Shape).Idx) : ∃ (r : Fin a) (l : Fin b), x = ix2 r l :=
  ⟨x 0, x 1, funext fun d => by match d with | ⟨0, _⟩ => rfl | ⟨1, _⟩ => rfl⟩

/-- A head's columns of the queries' gradient are those columns of the block's. -/
theorem dq_piece (hq : IsCols o q X0) (hk : IsCols o k X1) (hv : IsCols o v X2) (hy : IsCols o y X3) (hd : IsCols o dy X4)
    (ho : o % 128 = 0) (i : S1024x512.Idx) (x : S1024x128.Idx) (h0 : (i 0 : ℕ) = x 0) (h1 : (i 1 : ℕ) = o + x 1) :
    k0_pay30 (sTile q k v y dy) k x = dqOf X0 X1 X2 X3 X4 i := by
  obtain ⟨r, b, rfl⟩ := ex2 x
  obtain ⟨r', l, rfl⟩ := ex2 i
  obtain rfl : r' = r := Fin.ext h0
  have hl : l.val = o + b.val := h1
  rw [dq_at]
  refine Finset.sum_congr rfl fun j _ => ?_
  exact congrArg₂ (· * ·) (sTile_col hq hk hv hy hd l (by omega) r' j) (hk j b l hl)

/-- A head's columns of the keys' gradient: what was there, and those columns of the block's part. -/
theorem dk_piece (hq : IsCols o q X0) (hk : IsCols o k X1) (hv : IsCols o v X2) (hy : IsCols o y X3) (hd : IsCols o dy X4) (hP : IsCols o P A)
    (ho : o % 128 = 0) (i : S256x512.Idx) (x : S256x128.Idx) (h0 : (i 0 : ℕ) = x 0) (h1 : (i 1 : ℕ) = o + x 1) :
    k0_pay31 (sTile q k v y dy) P q x = A i + dkOf X0 X1 X2 X3 X4 i := by
  obtain ⟨r, b, rfl⟩ := ex2 x
  obtain ⟨r', l, rfl⟩ := ex2 i
  obtain rfl : r' = r := Fin.ext h0
  have hl : l.val = o + b.val := h1
  rw [dk_at]
  refine congrArg₂ (· + ·) (hP r' b l hl) (Finset.sum_congr rfl fun j _ => ?_)
  exact congrArg₂ (· * ·) (sTile_col hq hk hv hy hd l (by omega) j r') (hq j b l hl)

/-- A head's columns of the values' gradient: what was there, and those columns of the block's part. -/
theorem dv_piece (hq : IsCols o q X0) (hk : IsCols o k X1) (hd : IsCols o dy X4) (hP : IsCols o P A)
    (ho : o % 128 = 0) (i : S256x512.Idx) (x : S256x128.Idx) (h0 : (i 0 : ℕ) = x 0) (h1 : (i 1 : ℕ) = o + x 1) :
    k0_pay29 (k0_pay3 dy) (pTile q k) P x = A i + dvOf X0 X1 X4 i := by
  obtain ⟨r, b, rfl⟩ := ex2 x
  obtain ⟨r', l, rfl⟩ := ex2 i
  obtain rfl : r' = r := Fin.ext h0
  have hl : l.val = o + b.val := h1
  rw [dv_at]
  refine congrArg₂ (· + ·) (hP r' b l hl) (Finset.sum_congr rfl fun j _ => ?_)
  exact congrArg₂ (· * ·) (pTile_col hq hk l (by omega) j r') (hd j b l hl)

/-- A load of the 128 columns from column `o` on. -/
theorem cols_ld {n : Nat} {e : EltTy} (o : Nat) (X : Vec Ideal ⟨2, ![n, 512]⟩ e)
    (inb : ∀ a, (![0, o] : Fin 2 → ℕ) a + (![n, 128] : Fin 2 → ℕ) a ≤ (⟨2, ![n, 512]⟩ : Shape).size a) (r : Fin n) (x : Fin 128)
    (l : Fin 512) (hl : l.val = o + x.val) : View.ld X (Rect.unit (s := ⟨2, ![n, 512]⟩) ![0, o] ![n, 128] inb) (ix2 r x) = X (ix2 r l) :=
  View.ld_unit_apply_of X _ _ inb _ _ fun a => by
    match a with
    | ⟨0, _⟩ => exact (Nat.zero_add _).symm
    | ⟨1, _⟩ => exact hl

/-- The fills are zero. -/
theorem zero1 (i : S256x512.Idx) : k0_pay1 (F := Ideal) i = 0 := by pointwise [k0_pay1]
/-- The fills are zero. -/
theorem zero2 (i : S256x512.Idx) : k0_pay2 (F := Ideal) i = 0 := by pointwise [k0_pay2]

variable (m : (ℓ : Loc nD τ sig) → Buf (Elt Ideal) ℓ)

/-- What a point leaves of the queries' gradient. -/
theorem dq_A (c : Dev nD) (t : Fin cfg0.N) (h : t.val % 4 = 0) (i : S1024x512.Idx) : (outsAt0 m c t.val t.isLt).1 i
    = dqOf (iblk m c 0 t) (iblk m c 1 t) (iblk m c 2 t) (iblk m c 3 t) (iblk m c 4 t) i := by
  rw [outsAt0_A m c t h]
  frame_out
  refine View.canon_append_of_piecesOf (s := S1024x512) (Val := Elt Ideal) (e := .f32) (fun i => dqOf (iblk m c 0 t) (iblk m c 1 t) (iblk m c 2 t) (iblk m c 3 t) (iblk m c 4 t) i) [] [_, _, _, _]
    ⟨fun x => ?_, fun x => ?_, fun x => ?_, fun x => ?_, trivial⟩ i (View.cover_of_tiledL (s := S1024x512) _ S1024x128.size (by sl_kernel_rfl) i)
  · exact dq_piece (o := 384) (cols_ld 384 _ _) (cols_ld 384 _ _) (cols_ld 384 _ _) (cols_ld 384 _ _) (cols_ld 384 _ _) (by decide) _ x (by simp) (by simp)
  · exact dq_piece (o := 256) (cols_ld 256 _ _) (cols_ld 256 _ _) (cols_ld 256 _ _) (cols_ld 256 _ _) (cols_ld 256 _ _) (by decide) _ x (by simp) (by simp)
  · exact dq_piece (o := 128) (cols_ld 128 _ _) (cols_ld 128 _ _) (cols_ld 128 _ _) (cols_ld 128 _ _) (cols_ld 128 _ _) (by decide) _ x (by simp) (by simp)
  · exact dq_piece (o := 0) (cols_ld 0 _ _) (cols_ld 0 _ _) (cols_ld 0 _ _) (cols_ld 0 _ _) (cols_ld 0 _ _) (by decide) _ x (by simp) (by simp)

/-- What a point leaves of the queries' gradient. -/
theorem dq_B (c : Dev nD) (t : Fin cfg0.N) (h : ¬t.val % 4 = 0) (i : S1024x512.Idx) : (outsAt0 m c t.val t.isLt).1 i
    = dqOf (iblk m c 0 t) (iblk m c 1 t) (iblk m c 2 t) (iblk m c 3 t) (iblk m c 4 t) i := by
  rw [outsAt0_B m c t h]
  frame_out
  refine View.canon_append_of_piecesOf (s := S1024x512) (Val := Elt Ideal) (e := .f32) (fun i => dqOf (iblk m c 0 t) (iblk m c 1 t) (iblk m c 2 t) (iblk m c 3 t) (iblk m c 4 t) i) [] [_, _, _, _]
    ⟨fun x => ?_, fun x => ?_, fun x => ?_, fun x => ?_, trivial⟩ i (View.cover_of_tiledL (s := S1024x512) _ S1024x128.size (by sl_kernel_rfl) i)
  · exact dq_piece (o := 384) (cols_ld 384 _ _) (cols_ld 384 _ _) (cols_ld 384 _ _) (cols_ld 384 _ _) (cols_ld 384 _ _) (by decide) _ x (by simp) (by simp)
  · exact dq_piece (o := 256) (cols_ld 256 _ _) (cols_ld 256 _ _) (cols_ld 256 _ _) (cols_ld 256 _ _) (cols_ld 256 _ _) (by decide) _ x (by simp) (by simp)
  · exact dq_piece (o := 128) (cols_ld 128 _ _) (cols_ld 128 _ _) (cols_ld 128 _ _) (cols_ld 128 _ _) (cols_ld 128 _ _) (by decide) _ x (by simp) (by simp)
  · exact dq_piece (o := 0) (cols_ld 0 _ _) (cols_ld 0 _ _) (cols_ld 0 _ _) (cols_ld 0 _ _) (cols_ld 0 _ _) (by decide) _ x (by simp) (by simp)

/-- What the first point leaves of the keys' gradient. -/
theorem dk_A (c : Dev nD) (t : Fin cfg0.N) (h : t.val % 4 = 0) (i : S256x512.Idx) : (outsAt0 m c t.val t.isLt).2.1 i
    = k0_pay1 (F := Ideal) i + dkOf (iblk m c 0 t) (iblk m c 1 t) (iblk m c 2 t) (iblk m c 3 t) (iblk m c 4 t) i := by
  rw [outsAt0_A m c t h]
  frame_open
  simp (disch := decide) only [↓ View.readCov_skip, ↓ View.readCov_cons_toLoadRect, ↓ View.readCov_fill]
  frame_out
  refine View.canon_append_of_piecesOf (s := S256x512) (Val := Elt Ideal) (e := .f32) (fun i => k0_pay1 (F := Ideal) i + dkOf (iblk m c 0 t) (iblk m c 1 t) (iblk m c 2 t) (iblk m c 3 t) (iblk m c 4 t) i) [_] [_, _, _, _]
    ⟨fun x => ?_, fun x => ?_, fun x => ?_, fun x => ?_, trivial⟩ i (View.cover_of_tiledL (s := S256x512) _ S256x128.size (by sl_kernel_rfl) i)
  · exact dk_piece (o := 384) (cols_ld 384 _ _) (cols_ld 384 _ _) (cols_ld 384 _ _) (cols_ld 384 _ _) (cols_ld 384 _ _) (cols_ld 384 _ _) (by decide) _ x (by simp) (by simp)
  · exact dk_piece (o := 256) (cols_ld 256 _ _) (cols_ld 256 _ _) (cols_ld 256 _ _) (cols_ld 256 _ _) (cols_ld 256 _ _) (cols_ld 256 _ _) (by decide) _ x (by simp) (by simp)
  · exact dk_piece (o := 128) (cols_ld 128 _ _) (cols_ld 128 _ _) (cols_ld 128 _ _) (cols_ld 128 _ _) (cols_ld 128 _ _) (cols_ld 128 _ _) (by decide) _ x (by simp) (by simp)
  · exact dk_piece (o := 0) (cols_ld 0 _ _) (cols_ld 0 _ _) (cols_ld 0 _ _) (cols_ld 0 _ _) (cols_ld 0 _ _) (cols_ld 0 _ _) (by decide) _ x (by simp) (by simp)

/-- What a later point leaves of the keys' gradient. -/
theorem dk_B (c : Dev nD) (t : Fin cfg0.N) (h : ¬t.val % 4 = 0) (i : S256x512.Idx) : (outsAt0 m c t.val t.isLt).2.1 i
    = (outsAt0 m c (t.val - 1) (Nat.lt_of_le_of_lt (Nat.sub_le _ _) t.isLt)).2.1 i + dkOf (iblk m c 0 t) (iblk m c 1 t) (iblk m c 2 t) (iblk m c 3 t) (iblk m c 4 t) i := by
  rw [outsAt0_B m c t h]
  frame_out
  refine View.canon_append_of_piecesOf (s := S256x512) (Val := Elt Ideal) (e := .f32) (fun i => (outsAt0 m c (t.val - 1) (Nat.lt_of_le_of_lt (Nat.sub_le _ _) t.isLt)).2.1 i + dkOf (iblk m c 0 t) (iblk m c 1 t) (iblk m c 2 t) (iblk m c 3 t) (iblk m c 4 t) i) [] [_, _, _, _]
    ⟨fun x => ?_, fun x => ?_, fun x => ?_, fun x => ?_, trivial⟩ i (View.cover_of_tiledL (s := S256x512) _ S256x128.size (by sl_kernel_rfl) i)
  · exact dk_piece (o := 384) (cols_ld 384 _ _) (cols_ld 384 _ _) (cols_ld 384 _ _) (cols_ld 384 _ _) (cols_ld 384 _ _) (cols_ld 384 _ _) (by decide) _ x (by simp) (by simp)
  · exact dk_piece (o := 256) (cols_ld 256 _ _) (cols_ld 256 _ _) (cols_ld 256 _ _) (cols_ld 256 _ _) (cols_ld 256 _ _) (cols_ld 256 _ _) (by decide) _ x (by simp) (by simp)
  · exact dk_piece (o := 128) (cols_ld 128 _ _) (cols_ld 128 _ _) (cols_ld 128 _ _) (cols_ld 128 _ _) (cols_ld 128 _ _) (cols_ld 128 _ _) (by decide) _ x (by simp) (by simp)
  · exact dk_piece (o := 0) (cols_ld 0 _ _) (cols_ld 0 _ _) (cols_ld 0 _ _) (cols_ld 0 _ _) (cols_ld 0 _ _) (cols_ld 0 _ _) (by decide) _ x (by simp) (by simp)

/-- What the first point leaves of the values' gradient. -/
theorem dv_A (c : Dev nD) (t : Fin cfg0.N) (h : t.val % 4 = 0) (i : S256x512.Idx) : (outsAt0 m c t.val t.isLt).2.2 i
    = k0_pay2 (F := Ideal) i + dvOf (iblk m c 0 t) (iblk m c 1 t) (iblk m c 4 t) i := by
  rw [outsAt0_A m c t h]
  frame_open
  simp (disch := decide) only [↓ View.readCov_skip, ↓ View.readCov_cons_toLoadRect, ↓ View.readCov_fill]
  frame_out
  refine View.canon_append_of_piecesOf (s := S256x512) (Val := Elt Ideal) (e := .f32) (fun i => k0_pay2 (F := Ideal) i + dvOf (iblk m c 0 t) (iblk m c 1 t) (iblk m c 4 t) i) [_] [_, _, _, _]
    ⟨fun x => ?_, fun x => ?_, fun x => ?_, fun x => ?_, trivial⟩ i (View.cover_of_tiledL (s := S256x512) _ S256x128.size (by sl_kernel_rfl) i)
  · exact dv_piece (o := 384) (cols_ld 384 _ _) (cols_ld 384 _ _) (cols_ld 384 _ _) (cols_ld 384 _ _) (by decide) _ x (by simp) (by simp)
  · exact dv_piece (o := 256) (cols_ld 256 _ _) (cols_ld 256 _ _) (cols_ld 256 _ _) (cols_ld 256 _ _) (by decide) _ x (by simp) (by simp)
  · exact dv_piece (o := 128) (cols_ld 128 _ _) (cols_ld 128 _ _) (cols_ld 128 _ _) (cols_ld 128 _ _) (by decide) _ x (by simp) (by simp)
  · exact dv_piece (o := 0) (cols_ld 0 _ _) (cols_ld 0 _ _) (cols_ld 0 _ _) (cols_ld 0 _ _) (by decide) _ x (by simp) (by simp)

/-- What a later point leaves of the values' gradient. -/
theorem dv_B (c : Dev nD) (t : Fin cfg0.N) (h : ¬t.val % 4 = 0) (i : S256x512.Idx) : (outsAt0 m c t.val t.isLt).2.2 i
    = (outsAt0 m c (t.val - 1) (Nat.lt_of_le_of_lt (Nat.sub_le _ _) t.isLt)).2.2 i + dvOf (iblk m c 0 t) (iblk m c 1 t) (iblk m c 4 t) i := by
  rw [outsAt0_B m c t h]
  frame_out
  refine View.canon_append_of_piecesOf (s := S256x512) (Val := Elt Ideal) (e := .f32) (fun i => (outsAt0 m c (t.val - 1) (Nat.lt_of_le_of_lt (Nat.sub_le _ _) t.isLt)).2.2 i + dvOf (iblk m c 0 t) (iblk m c 1 t) (iblk m c 4 t) i) [] [_, _, _, _]
    ⟨fun x => ?_, fun x => ?_, fun x => ?_, fun x => ?_, trivial⟩ i (View.cover_of_tiledL (s := S256x512) _ S256x128.size (by sl_kernel_rfl) i)
  · exact dv_piece (o := 384) (cols_ld 384 _ _) (cols_ld 384 _ _) (cols_ld 384 _ _) (cols_ld 384 _ _) (by decide) _ x (by simp) (by simp)
  · exact dv_piece (o := 256) (cols_ld 256 _ _) (cols_ld 256 _ _) (cols_ld 256 _ _) (cols_ld 256 _ _) (by decide) _ x (by simp) (by simp)
  · exact dv_piece (o := 128) (cols_ld 128 _ _) (cols_ld 128 _ _) (cols_ld 128 _ _) (cols_ld 128 _ _) (by decide) _ x (by simp) (by simp)
  · exact dv_piece (o := 0) (cols_ld 0 _ _) (cols_ld 0 _ _) (cols_ld 0 _ _) (cols_ld 0 _ _) (by decide) _ x (by simp) (by simp)

end Cert.KernelIdeal.Value

end
-- ==== Proof.Final.lean ====
module

public import proofs.«01_k».proof.Proof.Block

@[expose] public section

set_option maxRecDepth 16384

noncomputable section

/-! What the three result arrays hold after the last block, over the whole arrays. -/

namespace Cert.KernelIdeal.Value

open Cert.KernelIdeal Cert.KernelIdeal.Gen Idealize.ShloMosaic Idealize.ShloMosaic.TcCoe Idealize.SL.Sem
open Idealize.ShloMosaic.Pipeline (Dat)

section
variable {n n' : Nat} {Q Y D : (⟨2, ![n, 512]⟩ : Shape).Idx → EReal} {Q' Y' D' : (⟨2, ![n', 512]⟩ : Shape).Idx → EReal}
  {K V K' V' : (⟨2, ![256, 512]⟩ : Shape).Idx → EReal} {r : Fin n} {r' : Fin n'}

/-- The scores of a row depend on that row alone. -/
theorem zOf_row (hQ : ∀ l, Q (ix2 r l) = Q' (ix2 r' l)) (hK : K = K') (l : Fin 512) : zOf Q K r l = zOf Q' K' r' l := by
  subst hK
  simp only [zOf, hQ]

/-- The weights of a row depend on that row alone. -/
theorem pOf_row (hQ : ∀ l, Q (ix2 r l) = Q' (ix2 r' l)) (hK : K = K') (l : Fin 512) : pOf Q K r l = pOf Q' K' r' l := by
  simp only [pOf, zOf_row hQ hK]

/-- The gradient of a row's scores depends on that row alone. -/
theorem sOf_row (hQ : ∀ l, Q (ix2 r l) = Q' (ix2 r' l)) (hK : K = K') (hV : V = V') (hY : ∀ l, Y (ix2 r l) = Y' (ix2 r' l))
    (hD : ∀ l, D (ix2 r l) = D' (ix2 r' l)) (l : Fin 512) : sOf Q K V Y D r l = sOf Q' K' V' Y' D' r' l := by
  subst hV
  simp only [sOf, zOf_row hQ hK, hY, hD]
end

/-- The last 512 columns of the output's gradient. -/
def memCols (D : (⟨2, ![4096, 2048]⟩ : Shape).Idx → EReal) : (⟨2, ![4096, 512]⟩ : Shape).Idx → EReal :=
  fun i => D (ix2 (i 0) ⟨1536 + (i 1).val, by have := (i 1).isLt; show _ < 2048; change (i 1).val < 512 at this; omega⟩)

variable (m : (ℓ : Loc nD τ sig) → Buf (Elt Ideal) ℓ)

/-- Which block of each array a point stages. -/
theorem idx : ∀ t : Fin cfg0.N, win0_0.index t = ![t.val, 0] ∧ win0_1.index t = ![0, 0] ∧ win0_2.index t = ![0, 0]
    ∧ win0_3.index t = ![t.val, 0] ∧ win0_4.index t = ![t.val, 3] ∧ win0_5.index t = ![t.val, 0] ∧ win0_6.index t = ![0, 0]
    ∧ win0_7.index t = ![0, 0] :=
  (by decide +kernel : ∀ t : Fin grid0.N, _)

/-- The arrays the blocks are cut from. -/
def arrQ (c : Dev nD) : (⟨2, ![4096, 512]⟩ : Shape).Idx → EReal := m ((c : Thread nD τ).loc main_arg0)
def arrK (c : Dev nD) : (⟨2, ![256, 512]⟩ : Shape).Idx → EReal := m ((c : Thread nD τ).loc main_arg1)
def arrV (c : Dev nD) : (⟨2, ![256, 512]⟩ : Shape).Idx → EReal := m ((c : Thread nD τ).loc main_arg2)
def arrY (c : Dev nD) : (⟨2, ![4096, 512]⟩ : Shape).Idx → EReal := V m c main_v23
def arrD (c : Dev nD) : (⟨2, ![4096, 512]⟩ : Shape).Idx → EReal := memCols (m ((c : Thread nD τ).loc main_arg3))

theorem blk0 (c : Dev nD) (t : Fin cfg0.N) (r : Fin 1024) (R : Fin 4096) (hR : R.val = t.val * 1024 + r.val) (l : Fin 512) :
    (show FVec Ideal S1024x512 .bf16 from iblk m c 0 t) (ix2 r l) = arrQ m c (ix2 R l) := by
  unfold arrQ; blk_point [iblk, V, idx t]

theorem blk1 (c : Dev nD) (t : Fin cfg0.N) : (show FVec Ideal S256x512 .bf16 from iblk m c 1 t) = arrK m c := by
  funext i; obtain ⟨r, l, rfl⟩ := ex2 i
  unfold arrK; blk_point [iblk, V, idx t]

theorem blk2 (c : Dev nD) (t : Fin cfg0.N) : (show FVec Ideal S256x512 .bf16 from iblk m c 2 t) = arrV m c := by
  funext i; obtain ⟨r, l, rfl⟩ := ex2 i
  unfold arrV; blk_point [iblk, V, idx t]

theorem blk3 (c : Dev nD) (t : Fin cfg0.N) (r : Fin 1024) (R : Fin 4096) (hR : R.val = t.val * 1024 + r.val) (l : Fin 512) :
    (show FVec Ideal S1024x512 .f32 from iblk m c 3 t) (ix2 r l) = arrY m c (ix2 R l) := by
  unfold arrY; blk_point [iblk, idx t]

theorem blk4 (c : Dev nD) (t : Fin cfg0.N) (r : Fin 1024) (R : Fin 4096) (hR : R.val = t.val * 1024 + r.val) (l : Fin 512) :
    (show FVec Ideal S1024x512 .f32 from iblk m c 4 t) (ix2 r l) = arrD m c (ix2 R l) := by
  unfold arrD memCols; blk_point [iblk, V, idx t]

/-- A point's block of the queries' gradient is that block of the whole. -/
theorem dq_block (c : Dev nD) (t : Fin cfg0.N) (r : Fin 1024) (R : Fin 4096) (hR : R.val = t.val * 1024 + r.val) (l : Fin 512) :
    dqOf (iblk m c 0 t) (iblk m c 1 t) (iblk m c 2 t) (iblk m c 3 t) (iblk m c 4 t) (ix2 r l)
      = dqOf (arrQ m c) (arrK m c) (arrV m c) (arrY m c) (arrD m c) (ix2 R l) :=
  Finset.sum_congr rfl fun j _ => congrArg₂ (· * ·)
    (congrFun (sOf_row (blk0 m c t r R hR) (blk1 m c t) (blk2 m c t) (blk3 m c t r R hR) (blk4 m c t r R hR) l) j)
    (congrFun (blk1 m c t) (ix2 j l))

/-- One row's term of the keys' gradient. -/
theorem dk_term (c : Dev nD) (t : Fin cfg0.N) (r : Fin 1024) (R : Fin 4096) (hR : R.val = t.val * 1024 + r.val) (j : Fin 256)
    (l : Fin 512) :
    sOf (iblk m c 0 t) (iblk m c 1 t) (iblk m c 2 t) (iblk m c 3 t) (iblk m c 4 t) r l j
        * (show FVec Ideal S1024x512 .bf16 from iblk m c 0 t) (ix2 r l)
      = sOf (arrQ m c) (arrK m c) (arrV m c) (arrY m c) (arrD m c) R l j * arrQ m c (ix2 R l) :=
  congrArg₂ (· * ·)
    (congrFun (sOf_row (blk0 m c t r R hR) (blk1 m c t) (blk2 m c t) (blk3 m c t r R hR) (blk4 m c t r R hR) l) j)
    (blk0 m c t r R hR l)

/-- One row's term of the values' gradient. -/
theorem dv_term (c : Dev nD) (t : Fin cfg0.N) (r : Fin 1024) (R : Fin 4096) (hR : R.val = t.val * 1024 + r.val) (j : Fin 256)
    (l : Fin 512) :
    pOf (iblk m c 0 t) (iblk m c 1 t) r l j * (show FVec Ideal S1024x512 .f32 from iblk m c 4 t) (ix2 r l)
      = pOf (arrQ m c) (arrK m c) R l j * arrD m c (ix2 R l) :=
  congrArg₂ (· * ·) (congrFun (pOf_row (blk0 m c t r R hR) (blk1 m c t) l) j) (blk4 m c t r R hR l)

/-- The four blocks of rows make up all the rows. -/
theorem rows_all (g : Fin 4 → Fin 1024 → EReal) (f : Fin 4096 → EReal)
    (h : ∀ (t : Fin 4) (r : Fin 1024) (R : Fin 4096), R.val = t.val * 1024 + r.val → g t r = f R) :
    ∑ t, ∑ r, g t r = ∑ R, f R := by
  rw [← Fintype.sum_prod_type', ← (finProdFinEquiv (m := 4) (n := 1024)).sum_comp f]
  refine Finset.sum_congr rfl fun x _ => h x.1 x.2 _ ?_
  show x.2.val + 1024 * x.1.val = _
  omega

/-- The array of the queries' gradient at the end. -/
theorem final5 (c : Dev nD) :
    (dats m 0 c).arrAt 5 cfg0.N = dqOf (arrQ m c) (arrK m c) (arrV m c) (arrY m c) (arrD m c) := by
  refine (dats m 0 c).arrAt_eq_of_covers 5 _ (by decide +kernel) fun t hf y => ?_
  have hd : (outsAt0 m c t.val t.isLt).1 y
      = dqOf (iblk m c 0 t) (iblk m c 1 t) (iblk m c 2 t) (iblk m c 3 t) (iblk m c 4 t) y := by
    by_cases h : t.val % 4 = 0
    · exact dq_A m c t h y
    · exact dq_B m c t h y
  obtain ⟨r, l, rfl⟩ := ex2 y
  blk_simp
  rw [after0_5, hd]
  have ht : t.val < 4 := t.isLt
  rw [dq_block m c t r ⟨t.val * 1024 + r.val, by omega⟩ rfl l]
  congr 1
  blk_ext [idx t]

/-- The array of the keys' gradient at the end. -/
theorem final6 (c : Dev nD) :
    (dats m 0 c).arrAt 6 cfg0.N = dkOf (arrQ m c) (arrK m c) (arrV m c) (arrY m c) (arrD m c) := by
  refine (dats m 0 c).arrAt_eq_of_after_last 6 t0_3 (by decide +kernel) _ fun j => ?_
  obtain ⟨r, l, rfl⟩ := ex2 j
  blk_simp
  rw [after0_6, Pipeline.eq_sum_fin_of_reset_step_apply_last (fun n h => (outsAt0 m c n h).2.1) 4 (fun _ => 0)
    (fun p j => dkOf (iblk m c 0 p) (iblk m c 1 p) (iblk m c 2 p) (iblk m c 3 p) (iblk m c 4 p) j)
    (fun t h j => by rw [dk_A m c t h, zero1])
    (fun t h j => by rw [dk_B m c t h]) (le_of_eq N_0) t0_3 rfl (ix2 r l), zero_add]
  refine Eq.trans ?_ (rows_all (fun t x => sOf (iblk m c 0 ⟨t.val, t.isLt⟩) (iblk m c 1 ⟨t.val, t.isLt⟩) (iblk m c 2 ⟨t.val, t.isLt⟩)
        (iblk m c 3 ⟨t.val, t.isLt⟩) (iblk m c 4 ⟨t.val, t.isLt⟩) x l r
      * (show FVec Ideal S1024x512 .bf16 from iblk m c 0 ⟨t.val, t.isLt⟩) (ix2 x l))
    (fun R => sOf (arrQ m c) (arrK m c) (arrV m c) (arrY m c) (arrD m c) R l r * arrQ m c (ix2 R l))
    fun t x R hR => dk_term m c ⟨t.val, t.isLt⟩ x R hR r l)
  rfl

/-- The array of the values' gradient at the end. -/
theorem final7 (c : Dev nD) : (dats m 0 c).arrAt 7 cfg0.N = dvOf (arrQ m c) (arrK m c) (arrD m c) := by
  refine (dats m 0 c).arrAt_eq_of_after_last 7 t0_3 (by decide +kernel) _ fun j => ?_
  obtain ⟨r, l, rfl⟩ := ex2 j
  blk_simp
  rw [after0_7, Pipeline.eq_sum_fin_of_reset_step_apply_last (fun n h => (outsAt0 m c n h).2.2) 4 (fun _ => 0)
    (fun p j => dvOf (iblk m c 0 p) (iblk m c 1 p) (iblk m c 4 p) j)
    (fun t h j => by rw [dv_A m c t h, zero2])
    (fun t h j => by rw [dv_B m c t h]) (le_of_eq N_0) t0_3 rfl (ix2 r l), zero_add]
  refine Eq.trans ?_ (rows_all (fun t x => pOf (iblk m c 0 ⟨t.val, t.isLt⟩) (iblk m c 1 ⟨t.val, t.isLt⟩) x l r
      * (show FVec Ideal S1024x512 .f32 from iblk m c 4 ⟨t.val, t.isLt⟩) (ix2 x l))
    (fun R => pOf (arrQ m c) (arrK m c) R l r * arrD m c (ix2 R l))
    fun t x R hR => dv_term m c ⟨t.val, t.isLt⟩ x R hR r l)
  rfl

end Cert.KernelIdeal.Value

end
-- ==== Proof.RefTerms.lean ====
module

public import proofs.«01_k».proof.Proof.Gen.ReferenceIdeal.Run
public import proofs.«01_k».proof.Proof.Rows

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-! ## The reference's arrays, named -/

/-- A query array by heads. -/
def byHeadQ (Q : FVec Ideal S4096x512 .bf16) : FVec Ideal S1x4096x4x128 .f32 :=
  shapeCast _ (extf .f32 Q bitsLt_bf16_f32) shapeCasts_S4096x512_S1x4096x4x128

/-- A key or value array by heads. -/
def byHeadM (K : FVec Ideal S256x512 .bf16) : FVec Ideal S1x256x4x128 .f32 :=
  shapeCast _ (extf .f32 K bitsLt_bf16_f32) shapeCasts_S256x512_S1x256x4x128

/-- The scaled scores. -/
def scores (Q : FVec Ideal S4096x512 .bf16) (K : FVec Ideal S256x512 .bf16) : FVec Ideal S1x4x4096x256 .f32 :=
  mulf (Host.dotGeneral dot_S1x4096x4x128_S1x256x4x128_S1x4x4096x256_3_3_1_1_02_02 none (byHeadQ Q) (byHeadM K))
    (broadcastInDim S1x4x4096x256 ![] bcast_S_S1x4x4096x256 (constant S_ .f32 0x3DB504F3#32))

/-- The largest score of each row. -/
def rowMax (Z : FVec Ideal S1x4x4096x256 .f32) : FVec Ideal S1x4x4096 .f32 :=
  maximumf (broadcastInDim S1x4x4096 ![] bcast_S_S1x4x4096 (constant S_ .f32 0xFF800000#32))
    (Host.reduce FloatOps.maximumf Z (constant S_ .f32 0xFF800000#32) reducesTo_S1x4x4096x256_S1x4x4096_d3 h_S_)

/-- The exponentials of the scores less their row's largest. -/
def expo (Z : FVec Ideal S1x4x4096x256 .f32) : FVec Ideal S1x4x4096x256 .f32 :=
  Host.exp (subf Z (broadcastInDim S1x4x4096x256 ![0, 1, 2, 3] bcast_S1x4x4096x1_S1x4x4096x256_0_1_2_3
    (broadcastInDim S1x4x4096x1 ![0, 1, 2] bcast_S1x4x4096_S1x4x4096x1_0_1_2 (rowMax Z))))

/-- Each row's sum of exponentials. -/
def rowSum (E : FVec Ideal S1x4x4096x256 .f32) : FVec Ideal S1x4x4096x1 .f32 :=
  broadcastInDim S1x4x4096x1 ![0, 1, 2] bcast_S1x4x4096_S1x4x4096x1_0_1_2
    (Host.reduceAdd E (constant S_ .f32 0x00000000#32) reducesTo_S1x4x4096x256_S1x4x4096_d3 h_S_)

/-- An array of one entry per row, repeated along the memory. -/
def alongM (S : FVec Ideal S1x4x4096x1 .f32) : FVec Ideal S1x4x4096x256 .f32 :=
  broadcastInDim S1x4x4096x256 ![0, 1, 2, 3] bcast_S1x4x4096x1_S1x4x4096x256_0_1_2_3 S

/-- The output's gradient by heads, rows last. -/
def cotan (D : FVec Ideal S4096x2048 .f32) : FVec Ideal S1x4x128x4096 .f32 :=
  transpose S1x4x128x4096 [0, 2, 3, 1] (shapeCast _ (broadcastInDim S1x4096x512 ![1, 2] bcast_S4096x512_S1x4096x512_1_2 (extractStridedSlice S4096x512 ![0, 1536] D slices_S4096x2048_S4096x512_0_1536)) shapeCasts_S1x4096x512_S1x4096x4x128) transposes_S1x4096x4x128_S1x4x128x4096_0_2_3_1

/-- The gradient of the weights: the output's gradient against the values. -/
def dweights (V : FVec Ideal S256x512 .bf16) (D : FVec Ideal S4096x2048 .f32) : FVec Ideal S1x4x4096x256 .f32 :=
  Host.dotGeneral dot_S1x4x128x4096_S1x256x4x128_S1x4x4096x256_2_3_3_1_01_02 none (cotan D) (byHeadM V)

/-- What the softmax's denominator sends back to each row: the sum over the row, its sign changed. -/
def dsum (P : FVec Ideal S1x4x4096x256 .f32) (E : FVec Ideal S1x4x4096x256 .f32) : FVec Ideal S1x4x4096x256 .f32 :=
  broadcastInDim S1x4x4096x256 ![0, 1, 2] bcast_S1x4x4096_S1x4x4096x256_0_1_2 (broadcastInDim S1x4x4096 ![1, 2] bcast_S4x4096_S1x4x4096_1_2 (Host.reduceAdd (Host.negf (shapeCast _ (Host.reduceAdd (mulf (mulf P (alongM (Host.divf (broadcastInDim S1x4x4096x1 ![] bcast_S_S1x4x4096x1 (constant S_ .f32 0x3F800000#32)) (mulf (rowSum E) (rowSum E))))) E) (constant S_ .f32 0x00000000#32) reducesTo_S1x4x4096x256_S1x4x4096_d3 h_S_) shapeCasts_S1x4x4096_S1x4x4096x1)) (constant S_ .f32 0x00000000#32) reducesTo_S1x4x4096x1_S4x4096_d0_3 h_S_))

/-- The gradient of the unscaled scores. -/
def dscores (P : FVec Ideal S1x4x4096x256 .f32) (E : FVec Ideal S1x4x4096x256 .f32) : FVec Ideal S1x4x4096x256 .f32 :=
  mulf (mulf (addf (Host.divf P (alongM (rowSum E))) (dsum P E)) E)
    (broadcastInDim S1x4x4096x256 ![] bcast_S_S1x4x4096x256 (constant S_ .f32 0x3DB504F3#32))

/-- The queries' gradient from that of the scores. -/
def dQ (S : FVec Ideal S1x4x4096x256 .f32) (K : FVec Ideal S256x512 .bf16) : FVec Ideal S4096x512 .f32 :=
  shapeCast _ (transpose S1x4096x4x128 [0, 2, 1, 3] (Host.dotGeneral dot_S1x4x4096x256_S1x256x4x128_S1x4x4096x128_3_1_2_3_01_02 none S (byHeadM K)) transposes_S1x4x4096x128_S1x4096x4x128_0_2_1_3) shapeCasts_S1x4096x4x128_S4096x512

/-- The keys' gradient from that of the scores. -/
def dK (S : FVec Ideal S1x4x4096x256 .f32) (Q : FVec Ideal S4096x512 .bf16) : FVec Ideal S256x512 .f32 :=
  shapeCast _ (transpose S1x256x4x128 [0, 2, 1, 3] (Host.dotGeneral dot_S1x4x4096x256_S1x4096x4x128_S1x4x256x128_2_1_3_3_01_02 none S (byHeadQ Q)) transposes_S1x4x256x128_S1x256x4x128_0_2_1_3) shapeCasts_S1x256x4x128_S256x512

/-- The values' gradient from the exponentials. -/
def dV (E : FVec Ideal S1x4x4096x256 .f32) (D : FVec Ideal S4096x2048 .f32) : FVec Ideal S256x512 .f32 :=
  shapeCast _ (transpose S1x256x4x128 [0, 3, 1, 2] (Host.dotGeneral dot_S1x4x128x4096_S1x4x4096x256_S1x4x128x256_3_2_2_3_01_01 none (cotan D) (Host.divf E (alongM (rowSum E)))) transposes_S1x4x128x256_S1x256x4x128_0_3_1_2) shapeCasts_S1x256x4x128_S256x512

variable (m : (ℓ : Loc nD τ sig) → Buf (Elt Ideal) ℓ)

/-- The first result is the queries' gradient. -/
theorem out0_eq (c : Dev nD) : res_main_v69 m c = dQ (dscores (dweights (m ((c.tc : Thread nD τ).loc main_arg2)) (m ((c.tc : Thread nD τ).loc main_arg3))) (expo (scores (m ((c.tc : Thread nD τ).loc main_arg0)) (m ((c.tc : Thread nD τ).loc main_arg1))))) (m ((c.tc : Thread nD τ).loc main_arg1)) := rfl

/-- The second result is the keys' gradient. -/
theorem out1_eq (c : Dev nD) : res_main_v68 m c = dK (dscores (dweights (m ((c.tc : Thread nD τ).loc main_arg2)) (m ((c.tc : Thread nD τ).loc main_arg3))) (expo (scores (m ((c.tc : Thread nD τ).loc main_arg0)) (m ((c.tc : Thread nD τ).loc main_arg1))))) (m ((c.tc : Thread nD τ).loc main_arg0)) := rfl

/-! ## Read at an index -/

variable (Q : FVec Ideal S4096x512 .bf16) (K V : FVec Ideal S256x512 .bf16) (D : FVec Ideal S4096x2048 .f32)
  (Z P E : FVec Ideal S1x4x4096x256 .f32)

/-- The scores: a row of queries against a row of keys, scaled. -/
theorem scores_at (h : Fin 4) (r : Fin 4096) (k : Fin 256) : scores Q K (ix4 0 h r k)
    = (∑ x : Fin 128, Q (ix2 r ⟨h.val * 128 + x.val, by omega⟩) * K (ix2 k ⟨h.val * 128 + x.val, by omega⟩))
      * Ideal.ofBits .f32 0x3DB504F3#32 := by
  pointwise [scores, byHeadQ, byHeadM]

/-- The exponentials, of the score less the row's largest. -/
theorem expo_at (h : Fin 4) (r : Fin 4096) (k : Fin 256) : expo Z (ix4 0 h r k)
    = Ideal.exp (Z (ix4 0 h r k) - rowMax Z (ix3 0 h r)) := by
  pointwise [expo]

/-- The weights' gradient. -/
theorem dweights_at (h : Fin 4) (r : Fin 4096) (k : Fin 256) : dweights V D (ix4 0 h r k)
    = ∑ x : Fin 128, D (ix2 r ⟨1536 + (h.val * 128 + x.val), by omega⟩) * V (ix2 k ⟨h.val * 128 + x.val, by omega⟩) := by
  pointwise [dweights, cotan, byHeadM]

/-- A row's sum of exponentials. -/
theorem rowSum_at (h : Fin 4) (r : Fin 4096) : rowSum E (ix4 0 h r 0) = ∑ x : Fin 256, E (ix4 0 h r x) := by
  pointwise [rowSum]

/-- A row's largest score. -/
theorem rowMax_at (h : Fin 4) (r : Fin 4096) : rowMax Z (ix3 0 h r) = max Rows.low (Rows.top fun j => Z (ix4 0 h r j)) := by
  unfold rowMax
  exact Rows.reduceMax_again reducesTo_S1x4x4096x256_S1x4x4096_d3 h_S_ _ bcast_S_S1x4x4096 Z 0 h r

/-- What the softmax's denominator sends back to a row. -/
theorem dsum_at (h : Fin 4) (r : Fin 4096) (k : Fin 256) : dsum P E (ix4 0 h r k)
    = -(∑ j : Fin 256, P (ix4 0 h r j) * Ideal.div Rows.one (rowSum E (ix4 0 h r 0) * rowSum E (ix4 0 h r 0)) * E (ix4 0 h r j)) := by
  pointwise [dsum, alongM, Rows.one]
  rw [Rows.reduceAdd_units]
  pointwise

/-- The scores' gradient, row by row. -/
theorem dscores_at (h : Fin 4) (r : Fin 4096) (k : Fin 256) : dscores P E (ix4 0 h r k)
    = Rows.dscoreRef (fun j => E (ix4 0 h r j)) (fun j => P (ix4 0 h r j)) k := by
  have e : dscores P E (ix4 0 h r k) = (Ideal.div (P (ix4 0 h r k)) (rowSum E (ix4 0 h r 0)) + dsum P E (ix4 0 h r k))
      * E (ix4 0 h r k) * Rows.sc := by
    pointwise [dscores, alongM, Rows.sc]
  rw [e, dsum_at, rowSum_at]
  rfl

/-- The queries' gradient. -/
theorem dQ_at (r : Fin 4096) (l : Fin 512) : dQ P K (ix2 r l)
    = ∑ x : Fin 256, P (ix4 0 ⟨l.val / 128, by omega⟩ r x) * K (ix2 x l) := by
  pointwise [dQ, byHeadM]

/-- The keys' gradient. -/
theorem dK_at (r : Fin 256) (l : Fin 512) : dK P Q (ix2 r l)
    = ∑ x : Fin 4096, P (ix4 0 ⟨l.val / 128, by omega⟩ x r) * Q (ix2 x l) := by
  pointwise [dK, byHeadQ]

/-- The values' gradient. -/
theorem dV_at (r : Fin 256) (l : Fin 512) : dV E D (ix2 r l)
    = ∑ x : Fin 4096, D (ix2 x ⟨1536 + l.val, by omega⟩)
      * Ideal.div (E (ix4 0 ⟨l.val / 128, by omega⟩ x r)) (∑ y : Fin 256, E (ix4 0 ⟨l.val / 128, by omega⟩ x y)) := by
  pointwise [dV, cotan, rowSum, alongM]

end Cert.ReferenceIdeal.Value

end
-- ==== Proof.Saved.lean ====
module

public import proofs.«01_k».proof.Proof.Final
public import proofs.«01_k».proof.Proof.RefTerms

@[expose] public section

set_option maxRecDepth 16384

noncomputable section

/-! The saved output the kernel is handed: the forward lines, computed on the host. -/

namespace Cert.KernelIdeal.Value

open Cert.KernelIdeal Cert.KernelIdeal.Gen Idealize.ShloMosaic Idealize.ShloMosaic.TcCoe Idealize.SL.Sem
open Idealize.ShloMosaic.Pipeline (Dat)

/-- The forward's output from its exponentials and values. -/
def outY (E : FVec Ideal S1x4x4096x256 .f32) (W : FVec Ideal S256x512 .bf16) : FVec Ideal S4096x512 .f32 :=
  shapeCast _ (shapeCast _ (transpose S1x4096x4x128 [0, 3, 1, 2] (Host.dotGeneral dot_S1x256x4x128_S1x4x4096x256_S1x4x128x4096_1_3_3_2_02_01 none
    (Cert.ReferenceIdeal.Value.byHeadM W)
    (Host.divf E (Cert.ReferenceIdeal.Value.alongM (Cert.ReferenceIdeal.Value.rowSum E))))
    transposes_S1x4x128x4096_S1x4096x4x128_0_3_1_2) shapeCasts_S1x4096x4x128_S1x4096x512) shapeCasts_S1x4096x512_S4096x512

/-- The output's entry: the values weighted by the row's quotients. -/
theorem outY_at (E : FVec Ideal S1x4x4096x256 .f32) (W : FVec Ideal S256x512 .bf16) (r : Fin 4096) (l : Fin 512) :
    outY E W (ix2 r l) = ∑ j : Fin 256, W (ix2 j l)
      * Ideal.div (E (ix4 0 ⟨l.val / 128, by omega⟩ r j)) (∑ y : Fin 256, E (ix4 0 ⟨l.val / 128, by omega⟩ r y)) := by
  pointwise [outY, Cert.ReferenceIdeal.Value.byHeadM, Cert.ReferenceIdeal.Value.alongM, Cert.ReferenceIdeal.Value.rowSum]

variable (m : (ℓ : Loc nD τ sig) → Buf (Elt Ideal) ℓ)

/-- The array handed to the kernel is the forward's output. -/
theorem arrY_eq (c : Dev nD) : arrY m c
    = outY (Cert.ReferenceIdeal.Value.expo (Cert.ReferenceIdeal.Value.scores (arrQ m c) (arrK m c))) (arrV m c) := by
  unfold arrY
  entry_read
  rfl

end Cert.KernelIdeal.Value

end
-- ==== Proof.Algebra.lean ====
module

public import proofs.«01_k».proof.Proof.Rows
public import Idealize.ShloMosaic.Lib.IdealHost
public import Mathlib.Tactic.FieldSimp
public import Mathlib.Tactic.Ring

@[expose] public section

noncomputable section

/-! The kernel's row and the chain rule's row are one, when every entry is a number. -/

namespace Cert.Rows

open Idealize.ShloMosaic

/-- The scale is a number. -/
theorem sc_real : ∃ s : ℝ, sc = (s : EReal) := by
  unfold sc Ideal.ofBits Ideal.ieee
  dsimp only
  rw [if_neg (by decide), if_neg (by decide)]
  exact ⟨_, rfl⟩

/-- The maximum starts below every value. -/
theorem low_eq : low = ⊥ := by simp [low, Ideal.ofBits, Ideal.ieee]

/-- The word for one is one. -/
theorem one_eq : one = ((1 : ℝ) : EReal) := by
  simp [one]

/-- A sum of numbers is a number. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

variable {n d : Nat}

/-- The largest of a row of numbers is a number. -/
theorem top_real [NeZero n] (z : Fin n → ℝ) : ∃ M : ℝ, top (fun j => (z j : EReal)) = (M : EReal) := by
  obtain ⟨i, _, hi⟩ := Finset.exists_mem_eq_sup (Finset.univ : Finset (Fin n)) ⟨0, Finset.mem_univ _⟩ fun j => (z j : EReal)
  exact ⟨z i, by rw [← hi, top, low_eq]; rfl⟩

/-- A row's exponentials are positive numbers. -/
theorem expo_real [NeZero n] (z : Fin n → ℝ) :
    ∃ e : Fin n → ℝ, (∀ j, 0 < e j) ∧ expo (fun j => (z j : EReal)) = fun j => (e j : EReal) := by
  obtain ⟨M, hM⟩ := top_real z
  refine ⟨fun j => Real.exp (z j - M), fun j => Real.exp_pos _, funext fun j => ?_⟩
  rw [expo, hM, ← EReal.coe_sub, Ideal.exp_coe]

/-- The scores of rows of numbers are numbers. -/
theorem score_real (q : Fin d → ℝ) (k : Fin n → Fin d → ℝ) :
    ∃ z : Fin n → ℝ, score (fun x => (q x : EReal)) (fun j x => (k j x : EReal)) = fun j => (z j : EReal) := by
  obtain ⟨s, hs⟩ := sc_real
  refine ⟨fun j => (∑ x, q x * k j x) * s, funext fun j => ?_⟩
  simp only [score, hs, ← EReal.coe_mul, coe_sum]

/-- A positive row's sum is positive. -/
theorem sum_pos' [NeZero n] (e : Fin n → ℝ) (he : ∀ j, 0 < e j) : 0 < ∑ j, e j :=
  Finset.sum_pos (fun j _ => he j) ⟨0, Finset.mem_univ _⟩

/-- The kernel's weights are the quotients. -/
theorem weight_eq [NeZero n] (z : Fin n → ℝ) (j : Fin n) : weight (fun j => (z j : EReal)) j
    = Ideal.div (expo (fun j => (z j : EReal)) j) (∑ i, expo (fun j => (z j : EReal)) i) := by
  obtain ⟨e, he, hz⟩ := expo_real z
  have hS := (sum_pos' e he).ne'
  simp only [weight, hz, coe_sum, one_eq]
  rw [Ideal.div_coe hS, Ideal.div_coe hS, ← EReal.coe_mul, one_mul]

/-- The kernel's gradient of the scores is the chain rule's. -/
theorem dscore_eq [NeZero n] (z : Fin n → ℝ) (v : Fin n → Fin d → ℝ) (dy : Fin d → ℝ) (j : Fin n) :
    dscore (fun j => (z j : EReal)) (fun j x => (v j x : EReal))
        (outRow (expo fun j => (z j : EReal)) fun j x => (v j x : EReal)) (fun x => (dy x : EReal)) j
      = dscoreRef (expo fun j => (z j : EReal)) (dweight (fun x => (dy x : EReal)) fun j x => (v j x : EReal)) j := by
  obtain ⟨e, he, hz⟩ := expo_real z
  obtain ⟨s, hs⟩ := sc_real
  have hS := (sum_pos' e he).ne'
  have hw : ∀ j, dweight (fun x => (dy x : EReal)) (fun j x => (v j x : EReal)) j = ((∑ x, dy x * v j x : ℝ) : EReal) :=
    fun j => by simp only [dweight, ← EReal.coe_mul, coe_sum]
  simp only [dscore, dscoreRef, weight_eq, outRow, hz, hs, hw, one_eq, coe_sum, ← EReal.coe_mul, Ideal.div_coe hS,
    Ideal.div_coe (mul_ne_zero hS hS)]
  simp only [← EReal.coe_mul, coe_sum, ← EReal.coe_sub, ← EReal.coe_neg, ← EReal.coe_add]
  congr 1
  generalize (∑ l, e l) = S at hS
  have hd : ∑ x, dy x * ∑ i, e i * (1 / S) * v i x = (1 / S) * ∑ i, e i * ∑ x, dy x * v i x := by
    simp only [Finset.mul_sum]
    rw [Finset.sum_comm]
    exact Finset.sum_congr rfl fun i _ => Finset.sum_congr rfl fun x _ => by ring
  have hr : ∑ i, (∑ x, dy x * v i x) * (1 * (1 / (S * S))) * e i = (1 / (S * S)) * ∑ i, e i * ∑ x, dy x * v i x := by
    rw [Finset.mul_sum]
    exact Finset.sum_congr rfl fun i _ => by ring
  rw [hd, hr]
  field_simp
  ring

end Cert.Rows

end
-- ==== Proof.Equation.lean ====
module

public import proofs.«01_k».proof.Proof.Saved
public import proofs.«01_k».proof.Proof.Algebra

@[expose] public section

set_option maxRecDepth 16384

noncomputable section

/-! The equation: on numbers, the kernel's three gradients are the reference's. -/

namespace Cert.Equation

open Idealize.ShloMosaic Cert.KernelIdeal.Value

variable {Q : (⟨2, ![4096, 512]⟩ : Shape).Idx → EReal} {K V : (⟨2, ![256, 512]⟩ : Shape).Idx → EReal}
  {D : (⟨2, ![4096, 2048]⟩ : Shape).Idx → EReal}

/-- The entries are numbers. -/
def Real2 {a b : Nat} (X : (⟨2, ![a, b]⟩ : Shape).Idx → EReal) : Prop :=
  ∀ (r : Fin a) (l : Fin b), (((X (ix2 r l)).toReal : ℝ) : EReal) = X (ix2 r l)

/-- A row's scores are numbers. -/
theorem zOf_real (hQ : Real2 Q) (hK : Real2 K) (r : Fin 4096) (l : Fin 512) :
    ∃ z : Fin 256 → ℝ, zOf Q K r l = fun j => (z j : EReal) := by
  obtain ⟨z, hz⟩ := Rows.score_real (fun x : Fin 128 => (Q (ix2 r (col l x))).toReal) fun (j : Fin 256) x => (K (ix2 j (col l x))).toReal
  refine ⟨z, ?_⟩
  simp only [hQ r _, hK _ _] at hz
  exact hz

/-- The reference's exponentials are the row's. -/
theorem expo_row (r : Fin 4096) (l : Fin 512) (j : Fin 256) :
    Cert.ReferenceIdeal.Value.expo (Cert.ReferenceIdeal.Value.scores Q K) (ix4 0 ⟨l.val / 128, by omega⟩ r j)
      = Rows.expo (zOf Q K r l) j := by
  have hz : ∀ j, Cert.ReferenceIdeal.Value.scores Q K (ix4 0 ⟨l.val / 128, by omega⟩ r j) = zOf Q K r l j :=
    fun j => Cert.ReferenceIdeal.Value.scores_at Q K _ r j
  rw [Cert.ReferenceIdeal.Value.expo_at, Cert.ReferenceIdeal.Value.rowMax_at, Rows.low_eq, max_eq_right bot_le]
  simp only [hz]
  rfl

/-- The saved output's row in a head. -/
theorem saved_row (r : Fin 4096) (l : Fin 512) (x : Fin 128) :
    outY (Cert.ReferenceIdeal.Value.expo (Cert.ReferenceIdeal.Value.scores Q K)) V (ix2 r (col l x))
      = Rows.outRow (Rows.expo (zOf Q K r l)) (fun j x => V (ix2 j (col l x))) x := by
  have hh : (⟨(col l x).val / 128, by have := (col l x).isLt; omega⟩ : Fin 4) = ⟨l.val / 128, by omega⟩ :=
    Fin.ext (by show (l.val / 128 * 128 + x.val) / 128 = l.val / 128; have := x.isLt; omega)
  rw [outY_at, hh]
  simp only [expo_row]
  exact Finset.sum_congr rfl fun j _ => mul_comm _ _

/-- The kernel's gradient of the scores is the reference's. -/
theorem scores_grad (hQ : Real2 Q) (hK : Real2 K) (hV : Real2 V) (hD : Real2 (memCols D)) (r : Fin 4096) (l : Fin 512) (j : Fin 256) :
    sOf Q K V (outY (Cert.ReferenceIdeal.Value.expo (Cert.ReferenceIdeal.Value.scores Q K)) V) (memCols D) r l j
      = Cert.ReferenceIdeal.Value.dscores (Cert.ReferenceIdeal.Value.dweights V D)
          (Cert.ReferenceIdeal.Value.expo (Cert.ReferenceIdeal.Value.scores Q K)) (ix4 0 ⟨l.val / 128, by omega⟩ r j) := by
  obtain ⟨z, hz⟩ := zOf_real hQ hK r l
  rw [Cert.ReferenceIdeal.Value.dscores_at]
  have hg : (fun j => Cert.ReferenceIdeal.Value.dweights V D (ix4 0 ⟨l.val / 128, by omega⟩ r j))
      = Rows.dweight (fun x : Fin 128 => memCols D (ix2 r (col l x))) fun j x => V (ix2 j (col l x)) :=
    funext fun j => Cert.ReferenceIdeal.Value.dweights_at V D _ r j
  have he : (fun j => Cert.ReferenceIdeal.Value.expo (Cert.ReferenceIdeal.Value.scores Q K) (ix4 0 ⟨l.val / 128, by omega⟩ r j))
      = Rows.expo (zOf Q K r l) := funext fun j => expo_row r l j
  have hs : (fun x => outY (Cert.ReferenceIdeal.Value.expo (Cert.ReferenceIdeal.Value.scores Q K)) V (ix2 r (col l x)))
      = Rows.outRow (Rows.expo (zOf Q K r l)) (fun j x => V (ix2 j (col l x))) := funext fun x => saved_row r l x
  have key := Rows.dscore_eq z (fun j (x : Fin 128) => (V (ix2 j (col l x))).toReal) (fun x => (memCols D (ix2 r (col l x))).toReal) j
  simp only [hV _ _, hD r _] at key
  rw [← hz] at key
  rw [hg, he, ← key, sOf, hs]

/-- The queries' gradient. -/
theorem dq_eq (hQ : Real2 Q) (hK : Real2 K) (hV : Real2 V) (hD : Real2 (memCols D)) :
    dqOf Q K V (outY (Cert.ReferenceIdeal.Value.expo (Cert.ReferenceIdeal.Value.scores Q K)) V) (memCols D)
      = Cert.ReferenceIdeal.Value.dQ (Cert.ReferenceIdeal.Value.dscores (Cert.ReferenceIdeal.Value.dweights V D)
          (Cert.ReferenceIdeal.Value.expo (Cert.ReferenceIdeal.Value.scores Q K))) K := by
  funext i
  obtain ⟨r, l, rfl⟩ := ex2 i
  rw [Cert.ReferenceIdeal.Value.dQ_at]
  exact Finset.sum_congr rfl fun j _ => congrArg (· * K (ix2 j l)) (scores_grad hQ hK hV hD r l j)

/-- The keys' gradient. -/
theorem dk_eq (hQ : Real2 Q) (hK : Real2 K) (hV : Real2 V) (hD : Real2 (memCols D)) :
    dkOf Q K V (outY (Cert.ReferenceIdeal.Value.expo (Cert.ReferenceIdeal.Value.scores Q K)) V) (memCols D)
      = Cert.ReferenceIdeal.Value.dK (Cert.ReferenceIdeal.Value.dscores (Cert.ReferenceIdeal.Value.dweights V D)
          (Cert.ReferenceIdeal.Value.expo (Cert.ReferenceIdeal.Value.scores Q K))) Q := by
  funext i
  obtain ⟨j, l, rfl⟩ := ex2 i
  rw [Cert.ReferenceIdeal.Value.dK_at]
  exact Finset.sum_congr rfl fun r _ => congrArg (· * Q (ix2 r l)) (scores_grad hQ hK hV hD r l j)

/-- The values' gradient. -/
theorem dv_eq (hQ : Real2 Q) (hK : Real2 K) :
    dvOf Q K (memCols D) = Cert.ReferenceIdeal.Value.dV (Cert.ReferenceIdeal.Value.expo (Cert.ReferenceIdeal.Value.scores Q K)) D := by
  funext i
  obtain ⟨j, l, rfl⟩ := ex2 i
  rw [Cert.ReferenceIdeal.Value.dV_at]
  refine Finset.sum_congr rfl fun r _ => ?_
  obtain ⟨z, hz⟩ := zOf_real hQ hK r l
  simp only [expo_row]
  show pOf Q K r l j * _ = _
  rw [pOf, hz, Rows.weight_eq, mul_comm]
  rfl

end Cert.Equation

end
-- ==== Proof.MemAttn.lean ====
module

public import proofs.«01_k».proof.Proof.Gen.MemAttnIdeal.Value
public import proofs.«01_k».proof.Proof.Gen.RefMemAttnIdeal.Run
public import proofs.«01_k».proof.Proof.Gen.MemAttn.Frame
public import proofs.«01_k».proof.Pre_finite_fwd
public import proofs.«01_k».proof.Proof.Reals
public import proofs.«01_k».proof.Proof.Equation
public import Idealize.ShloMosaic.Lib.Pointwise
public import Idealize.ShloMosaic.Lib.Pipeline.ValueKit
public import Idealize.ShloMosaic.Lib.Pipeline.ReadBack

@[expose] public section

set_option maxRecDepth 16384

noncomputable section

/-! The memory's attention, forward. -/

namespace Cert.Pre_finite_fwd

open Idealize.ShloMosaic

instance facts : Facts where
  bitsLt_bf16_f32 := by decide
  bcast_S_S4096x512 := by decide
  bcast_S_S256x512 := by decide

variable (Q : FVec Ideal S4096x512 .bf16) (K V : FVec Ideal S256x512 .bf16) (Y : FVec Ideal S4096x2048 .bf16)

/-- The queries are numbers. -/
theorem real0 (h : (fn Q K V Y).1 = fun _ => 1#1) : Cert.Equation.Real2 (a := 4096) (b := 512) Q := fun r l =>
  Cert.Pre_finite.real_of_lt _ (congrFun h (ix2 r l))

/-- The keys are numbers. -/
theorem real1 (h : (fn Q K V Y).2 = fun _ => 1#1) : Cert.Equation.Real2 (a := 256) (b := 512) K := fun r l =>
  Cert.Pre_finite.real_of_lt _ (congrFun h (ix2 r l))

end Cert.Pre_finite_fwd

namespace Cert.RefMemAttnIdeal.Value

open Cert.RefMemAttnIdeal Cert.RefMemAttnIdeal.Gen Idealize.ShloMosaic Idealize.SL.Sem

/-- The attention's output. -/
def o (Q : FVec Ideal S4096x512 .bf16) (K W : FVec Ideal S256x512 .bf16) : FVec Ideal S4096x512 .f32 :=
  Cert.KernelIdeal.Value.outY (Cert.ReferenceIdeal.Value.expo (Cert.ReferenceIdeal.Value.scores Q K)) W

/-- An output put beside the first 1536 columns of the array it is written into. -/
def beside (O : FVec Ideal S4096x512 .f32) (Y : FVec Ideal S4096x2048 .bf16) : FVec Ideal S4096x2048 .bf16 :=
  concatenate S4096x2048 1 [⟨S4096x1536, (extractStridedSlice S4096x1536 ![0, 0] Y slices_S4096x2048_S4096x1536_0_0)⟩, ⟨S4096x512, (truncf .bf16 O bitsLt_bf16_f32)⟩] concatenates_S4096x1536_S4096x512_S4096x2048_d1

/-- The second result. -/
def yb (Q : FVec Ideal S4096x512 .bf16) (K W : FVec Ideal S256x512 .bf16) (Y : FVec Ideal S4096x2048 .bf16) :
    FVec Ideal S4096x2048 .bf16 := beside (o Q K W) Y

theorem beside_old (O : FVec Ideal S4096x512 .f32) (Y : FVec Ideal S4096x2048 .bf16) (r : Fin 4096) (l : Fin 2048) (h : l.val < 1536) :
    beside O Y (ix2 r l) = Y (ix2 r l) := by
  pointwise [beside]
  rw [dif_pos h]

theorem beside_new (O : FVec Ideal S4096x512 .f32) (Y : FVec Ideal S4096x2048 .bf16) (r : Fin 4096) (l : Fin 512) :
    beside O Y (ix2 r ⟨1536 + l.val, by omega⟩) = O (ix2 r l) := by
  pointwise [beside]

end Cert.RefMemAttnIdeal.Value

namespace Cert.MemAttnIdeal.Value

open Cert.MemAttnIdeal Cert.MemAttnIdeal.Gen Idealize.ShloMosaic Idealize.ShloMosaic.TcCoe Idealize.SL.Sem
open Idealize.ShloMosaic.Pipeline (Dat)
open Cert.KernelIdeal.Value (zOf pOf IsCols ex2 cols_ld zOf_row pOf_row col)

section
variable {n : Nat} (Q : (⟨2, ![n, 512]⟩ : Shape).Idx → EReal) (K W : (⟨2, ![256, 512]⟩ : Shape).Idx → EReal)

/-- The output of the rows: the values under the row's weights. -/
def oOf (i : (⟨2, ![n, 512]⟩ : Shape).Idx) : EReal := ∑ j : Fin 256, pOf Q K (i 0) (i 1) j * W (ix2 j (i 1))
end

variable (q : Vec Ideal S512x128 .bf16) (k v : Vec Ideal S256x128 .bf16)

/-- One head's columns of a block's output. -/
def oTile : FVec Ideal S512x128 .f32 := k0_pay14 (k0_pay9 q k) v

theorem oTile1 : k0_pay1 (k0_pay11 (k0_pay10 q k)) v = oTile q k v := rfl
theorem oTile2 : k0_pay3 (k0_pay12 (k0_pay7 q k)) v = oTile q k v := rfl
theorem oTile3 : k0_pay5 (k0_pay13 (k0_pay8 q k)) v = oTile q k v := rfl
theorem bTile0 : k0_pay15 (k0_pay9 q k) v = oTile q k v := rfl
theorem bTile1 : k0_pay2 (k0_pay11 (k0_pay10 q k)) v = oTile q k v := rfl
theorem bTile2 : k0_pay4 (k0_pay12 (k0_pay7 q k)) v = oTile q k v := rfl
theorem bTile3 : k0_pay6 (k0_pay13 (k0_pay8 q k)) v = oTile q k v := rfl

/-- The unscaled scores. -/
theorem raw_at (r : Fin 512) (j : Fin 256) : k0_pay7 q k (ix2 r j) = ∑ x : Fin 128, q (ix2 r x) * k (ix2 j x) := by
  pointwise [k0_pay7]

/-- The weights, from the unscaled scores. -/
theorem soft_at (Z : FVec Ideal S512x256 .f32) (r : Fin 512) (j : Fin 256) : k0_pay12 Z (ix2 r j)
    = Rows.weight (fun j => Z (ix2 r j) * Rows.sc) j := by
  pointwise [k0_pay12, Rows.weight, Rows.expo, Rows.top, Rows.low, Rows.one, Rows.sc]

/-- One head's output, from its weights. -/
theorem mix_at (P : FVec Ideal S512x256 .bf16) (r : Fin 512) (b : Fin 128) : k0_pay14 P v (ix2 r b)
    = ∑ j : Fin 256, P (ix2 r j) * v (ix2 j b) := by
  pointwise [k0_pay14]

theorem weight_at (r : Fin 512) (j : Fin 256) : k0_pay12 (k0_pay7 q k) (ix2 r j)
    = Rows.weight (Rows.score (fun x => q (ix2 r x)) fun j x => k (ix2 j x)) j := by
  rw [soft_at]
  simp only [raw_at]
  rfl

/-- One head's output, read at an entry. -/
theorem oTile_at (r : Fin 512) (b : Fin 128) : oTile q k v (ix2 r b)
    = ∑ j : Fin 256, Rows.weight (Rows.score (fun x => q (ix2 r x)) fun j x => k (ix2 j x)) j * v (ix2 j b) := by
  rw [show oTile q k v = k0_pay14 (k0_pay12 (k0_pay7 q k)) v from rfl, mix_at]
  simp only [weight_at]

variable {q k v}
variable {X0 : Vec Ideal S512x512 .bf16} {X1 X2 : Vec Ideal S256x512 .bf16} {o : Nat}

/-- A head's columns of the output are those columns of the block's. -/
theorem o_piece (hq : IsCols o q X0) (hk : IsCols o k X1) (hv : IsCols o v X2)
    (ho : o % 128 = 0) (i : S512x512.Idx) (x : S512x128.Idx) (h0 : (i 0 : ℕ) = x 0) (h1 : (i 1 : ℕ) = o + x 1) :
    oTile q k v x = oOf X0 X1 X2 i := by
  obtain ⟨r, b, rfl⟩ := ex2 x
  obtain ⟨r', l, rfl⟩ := ex2 i
  obtain rfl : r' = r := Fin.ext h0
  have hl : l.val = o + b.val := h1
  have hd : l.val / 128 * 128 = o := by omega
  rw [oTile_at]
  refine Finset.sum_congr rfl fun j _ => ?_
  refine congrArg₂ (· * ·) ?_ (hv j b l hl)
  simp only [hq.col l hd, hk.col l hd]
  rfl

variable (m : (ℓ : Loc nD τ sig) → Buf (Elt Ideal) ℓ)

/-- What a point leaves of the output. -/
theorem out3 (c : Dev nD) (t : Fin cfg0.N) (i : S512x512.Idx) :
    (outsAt0 m c t).1 i = oOf (iblk m c 0 t) (iblk m c 1 t) (iblk m c 2 t) i := by
  unfold outsAt0
  frame_out
  refine View.canon_append_of_piecesOf (s := S512x512) (Val := Elt Ideal) (e := .f32) (fun i => oOf (iblk m c 0 t) (iblk m c 1 t) (iblk m c 2 t) i) [] [_, _, _, _]
    ⟨fun x => ?_, fun x => ?_, fun x => ?_, fun x => ?_, trivial⟩ i (View.cover_of_tiledL (s := S512x512) _ S512x128.size (by sl_kernel_rfl) i)
  · exact o_piece (o := 384) (cols_ld 384 _ _) (cols_ld 384 _ _) (cols_ld 384 _ _) (by decide) _ x (by simp) (by simp)
  · exact o_piece (o := 256) (cols_ld 256 _ _) (cols_ld 256 _ _) (cols_ld 256 _ _) (by decide) _ x (by simp) (by simp)
  · exact o_piece (o := 128) (cols_ld 128 _ _) (cols_ld 128 _ _) (cols_ld 128 _ _) (by decide) _ x (by simp) (by simp)
  · exact o_piece (o := 0) (cols_ld 0 _ _) (cols_ld 0 _ _) (cols_ld 0 _ _) (by decide) _ x (by simp) (by simp)

/-- What a point leaves of the output's rounding. -/
theorem out4 (c : Dev nD) (t : Fin cfg0.N) (i : S512x512.Idx) :
    (outsAt0 m c t).2 i = oOf (iblk m c 0 t) (iblk m c 1 t) (iblk m c 2 t) i := by
  unfold outsAt0
  frame_out
  refine View.canon_append_of_piecesOf (s := S512x512) (Val := Elt Ideal) (e := .bf16) (fun i => oOf (iblk m c 0 t) (iblk m c 1 t) (iblk m c 2 t) i) [] [_, _, _, _]
    ⟨fun x => ?_, fun x => ?_, fun x => ?_, fun x => ?_, trivial⟩ i (View.cover_of_tiledL (s := S512x512) _ S512x128.size (by sl_kernel_rfl) i)
  · exact o_piece (o := 384) (cols_ld 384 _ _) (cols_ld 384 _ _) (cols_ld 384 _ _) (by decide) _ x (by simp) (by simp)
  · exact o_piece (o := 256) (cols_ld 256 _ _) (cols_ld 256 _ _) (cols_ld 256 _ _) (by decide) _ x (by simp) (by simp)
  · exact o_piece (o := 128) (cols_ld 128 _ _) (cols_ld 128 _ _) (cols_ld 128 _ _) (by decide) _ x (by simp) (by simp)
  · exact o_piece (o := 0) (cols_ld 0 _ _) (cols_ld 0 _ _) (cols_ld 0 _ _) (by decide) _ x (by simp) (by simp)

/-- Which block of each array a point stages. -/
theorem idx : ∀ t : Fin cfg0.N, win0_0.index t = ![t.val, 0] ∧ win0_1.index t = ![0, 0] ∧ win0_2.index t = ![0, 0]
    ∧ win0_3.index t = ![t.val, 0] ∧ win0_4.index t = ![t.val, 3] :=
  (by decide +kernel : ∀ t : Fin grid0.N, _)

/-- The arrays the blocks are cut from. -/
def arrQ (c : Dev nD) : (⟨2, ![4096, 512]⟩ : Shape).Idx → EReal := m ((c : Thread nD τ).loc main_arg0)
def arrK (c : Dev nD) : (⟨2, ![256, 512]⟩ : Shape).Idx → EReal := m ((c : Thread nD τ).loc main_arg1)
def arrW (c : Dev nD) : (⟨2, ![256, 512]⟩ : Shape).Idx → EReal := m ((c : Thread nD τ).loc main_arg2)

theorem blk0 (c : Dev nD) (t : Fin cfg0.N) (r : Fin 512) (R : Fin 4096) (hR : R.val = t.val * 512 + r.val) (l : Fin 512) :
    (show FVec Ideal S512x512 .bf16 from iblk m c 0 t) (ix2 r l) = arrQ m c (ix2 R l) := by
  unfold arrQ; blk_point [iblk, V, idx t]

theorem blk1 (c : Dev nD) (t : Fin cfg0.N) : (show FVec Ideal S256x512 .bf16 from iblk m c 1 t) = arrK m c := by
  funext i; obtain ⟨r, l, rfl⟩ := ex2 i
  unfold arrK; blk_point [iblk, V, idx t]

theorem blk2 (c : Dev nD) (t : Fin cfg0.N) : (show FVec Ideal S256x512 .bf16 from iblk m c 2 t) = arrW m c := by
  funext i; obtain ⟨r, l, rfl⟩ := ex2 i
  unfold arrW; blk_point [iblk, V, idx t]

/-- A point's block of the output is that block of the whole. -/
theorem o_block (c : Dev nD) (t : Fin cfg0.N) (r : Fin 512) (R : Fin 4096) (hR : R.val = t.val * 512 + r.val) (l : Fin 512) :
    oOf (iblk m c 0 t) (iblk m c 1 t) (iblk m c 2 t) (ix2 r l) = oOf (arrQ m c) (arrK m c) (arrW m c) (ix2 R l) :=
  Finset.sum_congr rfl fun j _ => congrArg₂ (· * ·)
    (congrFun (pOf_row (blk0 m c t r R hR) (blk1 m c t) l) j) (congrFun (blk2 m c t) (ix2 j l))

variable {m}

/-- On numbers, the rows' output is the reference's. -/
theorem oOf_eq {Q : (⟨2, ![4096, 512]⟩ : Shape).Idx → EReal} {K W : (⟨2, ![256, 512]⟩ : Shape).Idx → EReal}
    (hQ : Cert.Equation.Real2 Q) (hK : Cert.Equation.Real2 K) : oOf Q K W = Cert.RefMemAttnIdeal.Value.o Q K W := by
  funext i
  obtain ⟨r, l, rfl⟩ := ex2 i
  unfold Cert.RefMemAttnIdeal.Value.o
  rw [Cert.KernelIdeal.Value.outY_at]
  refine Finset.sum_congr rfl fun j _ => ?_
  obtain ⟨z, hz⟩ := Cert.Equation.zOf_real hQ hK r l
  simp only [Cert.Equation.expo_row]
  show pOf Q K r l j * _ = _
  rw [pOf, hz, Rows.weight_eq, mul_comm]
  rfl

variable (m)

/-- The output at the end is the reference's. -/
theorem end_o (c : Dev nD) (hQ : Cert.Equation.Real2 (arrQ m c)) (hK : Cert.Equation.Real2 (arrK m c)) : (dats m 0 c).arrAt 3 cfg0.N
    = Cert.RefMemAttnIdeal.Value.o (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 8 := t.isLt
  obtain ⟨r, l, rfl⟩ : ∃ (r : Fin 512) (l : Fin 512), y = ix2 r l := ⟨y 0, y 1, (ix2_eta y).symm⟩
  have key := (out3 m c t (ix2 r l)).trans ((o_block m c t r ⟨t.val * 512 + r.val, by omega⟩ rfl l).trans (congrFun (oOf_eq (W := arrW m c) hQ hK) _))
  blk_simp
  rw [after0_3]
  refine key.trans ?_
  refine congrArg (Cert.RefMemAttnIdeal.Value.o (arrQ m c) (arrK m c) (arrW m c)) ?_
  blk_ext [idx t]

/-- Where a point's block of the second result lies. -/
theorem place (t : Fin cfg0.N) (ht : t.val < 8) (a b : Fin 512) :
    ((cfg0.win 4).blk t).view.emb (ix2 a b) = (ix2 ⟨t.val * 512 + a.val, by omega⟩ ⟨1536 + b.val, by omega⟩ : S4096x2048.Idx) := by
  blk_ext [idx t]

/-- The columns before the last 512 lie in no point's block. -/
theorem outside (t : Fin cfg0.N) (r : Fin 4096) (l : Fin 2048) (h : l.val < 1536) :
    (ix2 r l : S4096x2048.Idx) ∉ ((cfg0.win 4).blk t).view.set := by
  intro hm
  obtain ⟨y, -, hy⟩ := Finset.mem_map.mp hm
  obtain ⟨a, b, rfl⟩ : ∃ (a : Fin 512) (b : Fin 512), y = ix2 a b := ⟨y 0, y 1, (ix2_eta y).symm⟩
  have e : 1536 + b.val = l.val := congrArg (fun i : S4096x2048.Idx => (i 1).val) ((place t t.isLt a b).symm.trans hy)
  omega

/-- The second result at the end, in a point's block. -/
theorem in_block (c : Dev nD) (hQ : Cert.Equation.Real2 (arrQ m c)) (hK : Cert.Equation.Real2 (arrK m c)) (t : Fin cfg0.N) (ht : t.val < 8)
    (a b : Fin 512) :
    (show S4096x2048.Idx → EReal from (dats m 0 c).arrAt 4 cfg0.N) (ix2 ⟨t.val * 512 + a.val, by omega⟩ ⟨1536 + b.val, by omega⟩)
      = Cert.RefMemAttnIdeal.Value.o (arrQ m c) (arrK m c) (arrW m c) (ix2 ⟨t.val * 512 + a.val, by omega⟩ b) := by
  have key := (out4 m c t (ix2 a b)).trans ((o_block m c t a ⟨t.val * 512 + a.val, by omega⟩ rfl b).trans (congrFun (oOf_eq (W := arrW m c) hQ hK) _))
  have hb := congrFun (blocks4 m c t ((by decide +kernel : ∀ t : Fin cfg0.N, (cfg0.win 4).flush t = true) t)) (ix2 a b)
  rw [flushed4] at hb
  rw [← place t ht a b]
  refine (Eq.trans hb ?_).trans key
  rfl

/-- The second result's last 512 columns at the end. -/
theorem last_cols (c : Dev nD) (hQ : Cert.Equation.Real2 (arrQ m c)) (hK : Cert.Equation.Real2 (arrK m c)) (r : Fin 4096) (l : Fin 512) :
    (show S4096x2048.Idx → EReal from (dats m 0 c).arrAt 4 cfg0.N) (ix2 r ⟨1536 + l.val, by omega⟩)
      = Cert.RefMemAttnIdeal.Value.o (arrQ m c) (arrK m c) (arrW m c) (ix2 r l) := by
  have hlt : r.val / 512 < 8 := by have := r.isLt; omega
  have hR : (⟨r.val / 512 * 512 + r.val % 512, by omega⟩ : Fin 4096) = r := Fin.ext (by show r.val / 512 * 512 + r.val % 512 = r.val; omega)
  have key := in_block m c hQ hK (⟨r.val / 512, hlt⟩ : Fin grid0.N) hlt ⟨r.val % 512, by omega⟩ l
  rw [← hR]
  exact key

/-- The second result's other columns at the end. -/
theorem first_cols (c : Dev nD) (r : Fin 4096) (l : Fin 2048) (h : l.val < 1536) :
    (show S4096x2048.Idx → EReal from (dats m 0 c).arrAt 4 cfg0.N) (ix2 r l) = m ((c : Thread nD τ).loc main_arg3) (ix2 r l) := by
  refine (entry4 m c (ix2 r l) fun t _ => outside t r l h).trans ?_
  show V m c main_v0_1 (ix2 r l) = _
  rfl

/-- The second result at the end is the reference's. -/
theorem end_yb (c : Dev nD) (hQ : Cert.Equation.Real2 (arrQ m c)) (hK : Cert.Equation.Real2 (arrK m c)) : (dats m 0 c).arrAt 4 cfg0.N
    = Cert.RefMemAttnIdeal.Value.yb (m ((c : Thread nD τ).loc main_arg0)) (m ((c : Thread nD τ).loc main_arg1)) (m ((c : Thread nD τ).loc main_arg2)) (m ((c : Thread nD τ).loc main_arg3)) := by
  funext i
  obtain ⟨r, l, rfl⟩ : ∃ (r : Fin 4096) (l : Fin 2048), i = ix2 r l := ⟨i 0, i 1, (ix2_eta i).symm⟩
  unfold Cert.RefMemAttnIdeal.Value.yb
  by_cases h : l.val < 1536
  · exact (first_cols m c r l h).trans (Cert.RefMemAttnIdeal.Value.beside_old _ _ r l h).symm
  · obtain ⟨b, hb⟩ : ∃ b : Fin 512, l = ⟨1536 + b.val, by omega⟩ := ⟨⟨l.val - 1536, by omega⟩, Fin.ext (by show l.val = 1536 + (l.val - 1536); omega)⟩
    rw [hb]
    exact (last_cols m c hQ hK r b).trans (Cert.RefMemAttnIdeal.Value.beside_new _ _ r b).symm

end Cert.MemAttnIdeal.Value

end
-- ==== Proof.MemTerms.lean ====
module

public import proofs.«01_k».proof.Proof.OutProj

@[expose] public section

set_option maxRecDepth 16384

noncomputable section

/-! The memory's heads: the norm of 128 columns. -/

namespace Cert.MemTerms

open Idealize.ShloMosaic Idealize.SL.Sem

/-- One over the root of the mean square of 128 entries. -/
def scale (w : Fin 128 → EReal) : EReal :=
  Ideal.rsqrt (Ideal.div (∑ x : Fin 128, w x * w x) (Ideal.ofBits .f32 0x43000000#32) + Ideal.ofBits .f32 0x358637BD#32)

/-- An entry of a head, normed and weighted. -/
def normed (w : Fin 128 → EReal) (g : EReal) (l : Fin 128) : EReal := w l * scale w * g

end Cert.MemTerms

end
-- ==== Proof.MemKv.lean ====
module

public import proofs.«01_k».proof.Proof.Gen.MemKvIdeal.Value
public import proofs.«01_k».proof.Proof.Gen.RefMemKvIdeal.Run
public import proofs.«01_k».proof.Proof.Gen.MemKv.Frame
public import proofs.«01_k».proof.Proof.MemTerms
public import Idealize.ShloMosaic.Lib.Pointwise
public import Idealize.ShloMosaic.Lib.Pipeline.ValueKit
public import Idealize.ShloMosaic.Lib.Pipeline.ReadBack

@[expose] public section

set_option maxRecDepth 16384

noncomputable section

/-! The memory's keys and values, forward. -/

namespace Cert.RefMemKvIdeal.Value

open Cert.RefMemKvIdeal Cert.RefMemKvIdeal.Gen Idealize.ShloMosaic Idealize.SL.Sem

/-- The memory's rows, normed. -/
def rows (x : FVec Ideal S256x2048 .f32) (g : FVec Ideal S1x2048 .f32) : FVec Ideal S256x2048 .f32 :=
  mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 g)

/-- The first result: the normed rows, rounded. -/
def mn (x : FVec Ideal S256x2048 .f32) (g : FVec Ideal S1x2048 .f32) : FVec Ideal S256x2048 .bf16 :=
  truncf .bf16 (rows x g) bitsLt_bf16_f32

/-- The second result: the normed rows projected. -/
def kv (x : FVec Ideal S256x2048 .f32) (g : FVec Ideal S1x2048 .f32) (w : FVec Ideal S2048x1024 .bf16) : FVec Ideal S256x1024 .f32 :=
  Host.dotGeneral dot_S256x2048_S2048x1024_S256x1024_1_0_0_1_n_n none (rows x g) (extf .f32 w bitsLt_bf16_f32)

/-- The keys' half of a projection, by heads. -/
def heads (K : FVec Ideal S256x1024 .f32) : FVec Ideal S256x4x128 .f32 :=
  shapeCast _ (extractStridedSlice S256x1x4x128 ![0, 0, 0, 0] (shapeCast _ K shapeCasts_S256x1024_S256x2x4x128) slices_S256x2x4x128_S256x1x4x128_0_0_0_0) shapeCasts_S256x1x4x128_S256x4x128

/-- The heads normed. -/
def headNorm (H : FVec Ideal S256x4x128 .f32) (g : FVec Ideal S1x128 .f32) : FVec Ideal S256x4x128 .f32 :=
  mulf (mulf H (broadcastInDim S256x4x128 ![0, 1, 2] bcast_S256x4x1_S256x4x128_0_1_2 (Host.rsqrt (addf (Host.divf (broadcastInDim S256x4x1 ![0, 1] bcast_S256x4_S256x4x1_0_1 (Host.reduceAdd (mulf H H) (constant S_ .f32 0x00000000#32) reducesTo_S256x4x128_S256x4_d2 h_S_)) (broadcastInDim S256x4x1 ![] bcast_S_S256x4x1 (constant S_ .f32 0x43000000#32))) (broadcastInDim S256x4x1 ![] bcast_S_S256x4x1 (constant S_ .f32 0x358637BD#32)))))) (broadcastInDim S256x4x128 ![0, 1, 2] bcast_S1x1x128_S256x4x128_0_1_2 (broadcastInDim S1x1x128 ![1, 2] bcast_S1x128_S1x1x128_1_2 g))

/-- The normed keys of a projection. -/
def keysOf (K : FVec Ideal S256x1024 .f32) (g : FVec Ideal S1x128 .f32) : FVec Ideal S256x512 .bf16 :=
  truncf .bf16 (shapeCast _ (headNorm (heads K) g) shapeCasts_S256x4x128_S256x512) bitsLt_bf16_f32

/-- The values of a projection. -/
def valsOf (K : FVec Ideal S256x1024 .f32) : FVec Ideal S256x512 .bf16 :=
  truncf .bf16 (shapeCast _ (shapeCast _ (extractStridedSlice S256x1x4x128 ![0, 1, 0, 0] (shapeCast _ K shapeCasts_S256x1024_S256x2x4x128) slices_S256x2x4x128_S256x1x4x128_0_1_0_0) shapeCasts_S256x1x4x128_S256x4x128) shapeCasts_S256x4x128_S256x512) bitsLt_bf16_f32

/-- The third result: the keys. -/
def kn (x : FVec Ideal S256x2048 .f32) (g : FVec Ideal S1x2048 .f32) (w : FVec Ideal S2048x1024 .bf16) (gk : FVec Ideal S1x128 .f32) :
    FVec Ideal S256x512 .bf16 := keysOf (kv x g w) gk

/-- The fourth result: the values. -/
def vn (x : FVec Ideal S256x2048 .f32) (g : FVec Ideal S1x2048 .f32) (w : FVec Ideal S2048x1024 .bf16) :
    FVec Ideal S256x512 .bf16 := valsOf (kv x g w)

theorem rows_at (x : FVec Ideal S256x2048 .f32) (g : FVec Ideal S1x2048 .f32) (r : Fin 256) (l : Fin 2048) :
    rows x g (ix2 r l) = Cert.OutTerms.normed (fun l => x (ix2 r l)) (g (ix2 0 l)) l := by
  pointwise [rows, Cert.OutTerms.normed]

theorem mn_at (x : FVec Ideal S256x2048 .f32) (g : FVec Ideal S1x2048 .f32) (r : Fin 256) (l : Fin 2048) :
    mn x g (ix2 r l) = rows x g (ix2 r l) := by
  pointwise [mn]

theorem kv_at (x : FVec Ideal S256x2048 .f32) (g : FVec Ideal S1x2048 .f32) (w : FVec Ideal S2048x1024 .bf16) (r : Fin 256) (l : Fin 1024) :
    kv x g w (ix2 r l) = ∑ k : Fin 2048, rows x g (ix2 r k) * w (ix2 k l) := by
  unfold kv; generalize rows x g = M; pointwise []

/-- Head `h` holds columns `128 h …` of the projection. -/
theorem heads_at (K : FVec Ideal S256x1024 .f32) (r : Fin 256) (h : Fin 4) (b : Fin 128) :
    heads K (ix3 r h b) = K (ix2 r ⟨h.val * 128 + b.val, by omega⟩) := by
  pointwise [heads]

theorem headNorm_at (H : FVec Ideal S256x4x128 .f32) (g : FVec Ideal S1x128 .f32) (r : Fin 256) (h : Fin 4) (b : Fin 128) :
    headNorm H g (ix3 r h b) = Cert.MemTerms.normed (fun x => H (ix3 r h x)) (g (ix2 0 b)) b := by
  pointwise [headNorm, Cert.MemTerms.normed, Cert.MemTerms.scale]

theorem keysOf_at (K : FVec Ideal S256x1024 .f32) (g : FVec Ideal S1x128 .f32) (r : Fin 256) (h : Fin 4) (b : Fin 128) :
    keysOf K g (ix2 r ⟨h.val * 128 + b.val, by omega⟩) = headNorm (heads K) g (ix3 r h b) := by
  unfold keysOf; generalize headNorm (heads K) g = N; pointwise []

theorem valsOf_at (K : FVec Ideal S256x1024 .f32) (r : Fin 256) (l : Fin 512) :
    valsOf K (ix2 r l) = K (ix2 r ⟨512 + l.val, by omega⟩) := by
  pointwise [valsOf]
  exact congrArg (fun z => K (ix2 r z)) (Fin.ext (by show 512 + l.val / 128 * 128 + l.val % 128 = 512 + l.val; omega))

end Cert.RefMemKvIdeal.Value

namespace Cert.MemKvIdeal.Value

open Cert.MemKvIdeal Cert.MemKvIdeal.Gen Idealize.ShloMosaic Idealize.ShloMosaic.TcCoe Idealize.SL.Sem
open Idealize.ShloMosaic.Pipeline (Dat)

variable (m : (ℓ : Loc nD τ sig) → Buf (Elt Ideal) ℓ)
variable (x : FVec Ideal S256x2048 .f32) (g : FVec Ideal S1x2048 .f32) (w : FVec Ideal S2048x1024 .bf16)
  (gk : FVec Ideal S1x128 .f32)

theorem pay3_eq : k0_pay3 (F := Ideal) x g = Cert.RefMemKvIdeal.Value.mn x g := by
  funext i
  obtain ⟨r, l, rfl⟩ : ∃ (r : Fin 256) (l : Fin 2048), i = ix2 r l := ⟨i 0, i 1, (ix2_eta i).symm⟩
  rw [Cert.RefMemKvIdeal.Value.mn_at, Cert.RefMemKvIdeal.Value.rows_at]
  pointwise [k0_pay3, Cert.OutTerms.normed]

theorem pay4_eq : k0_pay4 (F := Ideal) x g w = Cert.RefMemKvIdeal.Value.kv x g w := by
  funext i
  obtain ⟨r, l, rfl⟩ : ∃ (r : Fin 256) (l : Fin 1024), i = ix2 r l := ⟨i 0, i 1, (ix2_eta i).symm⟩
  rw [Cert.RefMemKvIdeal.Value.kv_at]
  have key : k0_pay4 (F := Ideal) x g w (ix2 r l) = ∑ k : Fin 2048, k0_pay3 (F := Ideal) x g (ix2 r k) * w (ix2 k l) := by
    unfold k0_pay4; generalize k0_pay3 (F := Ideal) x g = M; pointwise []
  rw [key, pay3_eq]
  have each : ∀ k : Fin 2048, (Cert.RefMemKvIdeal.Value.mn x g (ix2 r k) * w (ix2 k l) : EReal)
      = Cert.RefMemKvIdeal.Value.rows x g (ix2 r k) * w (ix2 k l) :=
    fun k => congrArg (fun (z : EReal) => z * (w (ix2 k l) : EReal)) (Cert.RefMemKvIdeal.Value.mn_at x g r k)
  exact Finset.sum_congr rfl fun k _ => each k

theorem pay12_eq (x : Vec Ideal S256x2048 .f32) (g : Vec Ideal S1x2048 .f32) (w : Vec Ideal S2048x1024 .bf16) (gk : Vec Ideal S1x128 .f32) :
    k0_pay12 (F := Ideal) x g w gk = Cert.RefMemKvIdeal.Value.kv x g w := by
  unfold k0_pay12
  rw [View.ld_unit_zero (S := S256x2048) hz0 _ x, View.ld_unit_zero (S := S1x2048) hz1 _ g,
    View.ld_unit_zero (S := S2048x1024) hz2 _ w]
  exact pay4_eq x g w

/-- The first head's keys. -/
theorem head0_at (r : Fin 256) (b : Fin 128) : k0_pay5 (F := Ideal) x g w gk (ix2 r b)
    = Cert.MemTerms.normed (fun z => k0_pay4 (F := Ideal) x g w (ix2 r ⟨z.val, by omega⟩)) (gk (ix2 0 b)) b := by
  unfold k0_pay5; generalize k0_pay4 (F := Ideal) x g w = K
  pointwise [Cert.MemTerms.normed, Cert.MemTerms.scale]

/-- The second head's keys. -/
theorem head1_at (r : Fin 256) (b : Fin 128) : k0_pay7 (F := Ideal) (k0_pay6 x g w) gk (ix2 r b)
    = Cert.MemTerms.normed (fun z => k0_pay4 (F := Ideal) x g w (ix2 r ⟨128 + z.val, by omega⟩)) (gk (ix2 0 b)) b := by
  unfold k0_pay6; generalize k0_pay4 (F := Ideal) x g w = K
  pointwise [k0_pay7, Cert.MemTerms.normed, Cert.MemTerms.scale]

/-- The third head's keys. -/
theorem head2_at (K : FVec Ideal S256x1024 .f32) (r : Fin 256) (b : Fin 128) : k0_pay8 (F := Ideal) K gk (ix2 r b)
    = Cert.MemTerms.normed (fun z => K (ix2 r ⟨256 + z.val, by omega⟩)) (gk (ix2 0 b)) b := by
  pointwise [k0_pay8, Cert.MemTerms.normed, Cert.MemTerms.scale]

/-- The fourth head's keys. -/
theorem head3_at (K : FVec Ideal S256x1024 .f32) (r : Fin 256) (b : Fin 128) :
    k0_pay1 (F := Ideal) (k0_pay9 K) gk (k0_pay10 K) (k0_pay11 (F := Ideal)) (ix2 r b)
    = Cert.MemTerms.normed (fun z => K (ix2 r ⟨384 + z.val, by omega⟩)) (gk (ix2 0 b)) b := by
  pointwise [k0_pay1, k0_pay9, k0_pay10, k0_pay11, Cert.MemTerms.normed, Cert.MemTerms.scale]

/-- Head `h` of the reference's keys, where the column is the head's. -/
theorem keys_piece (K : FVec Ideal S256x1024 .f32) (h : Fin 4) (o : ℕ) (ho : o = h.val * 128) (P : FVec Ideal S256x128 .bf16)
    (hP : ∀ (r : Fin 256) (b : Fin 128), P (ix2 r b)
      = Cert.MemTerms.normed (fun z => K (ix2 r ⟨o + z.val, by omega⟩)) (gk (ix2 0 b)) b)
    (i : S256x512.Idx) (y : S256x128.Idx) (h0 : (i 0 : ℕ) = y 0) (h1 : (i 1 : ℕ) = o + y 1) :
    Cert.RefMemKvIdeal.Value.keysOf K gk i = P y := by
  subst ho
  obtain ⟨r, b, rfl⟩ : ∃ (r : Fin 256) (b : Fin 128), y = ix2 r b := ⟨y 0, y 1, (ix2_eta y).symm⟩
  have hi : i = ix2 r ⟨h.val * 128 + b.val, by omega⟩ := by
    rw [← ix2_eta i]; exact congrArg₂ ix2 (Fin.ext h0) (Fin.ext h1)
  rw [hi, hP, Cert.RefMemKvIdeal.Value.keysOf_at, Cert.RefMemKvIdeal.Value.headNorm_at]
  exact congrArg (fun f => Cert.MemTerms.normed f (gk (ix2 0 b)) b)
    (funext fun z => Cert.RefMemKvIdeal.Value.heads_at K r h z)

theorem G6_eq : G6 (F := Ideal) x g w gk = Cert.RefMemKvIdeal.Value.kn x g w gk := by
  unfold G6 Cert.RefMemKvIdeal.Value.kn
  rw [pay12_eq, ← pay4_eq]
  funext i
  refine View.canon_append_of_piecesOf (s := S256x512) (Val := Elt Ideal) (e := .bf16)
    (fun i => Cert.RefMemKvIdeal.Value.keysOf (k0_pay4 (F := Ideal) x g w) gk i) [] [_, _, _, _]
    ⟨fun y => ?_, fun y => ?_, fun y => ?_, fun y => ?_, trivial⟩ i
    (View.cover_of_tiledL (s := S256x512) _ S256x128.size (by sl_kernel_rfl) i)
  · exact (keys_piece gk _ 3 384 rfl _ (head3_at gk _) _ y (by simp) (by simp)).symm
  · exact (keys_piece gk _ 2 256 rfl _ (head2_at gk _) _ y (by simp) (by simp)).symm
  · exact (keys_piece gk _ 1 128 rfl _ (head1_at x g w gk) _ y (by simp) (by simp)).symm
  · exact (keys_piece gk _ 0 0 rfl _ (fun r b => (head0_at x g w gk r b).trans
      (congrArg (fun f => Cert.MemTerms.normed f (gk (ix2 0 b)) b) (funext fun z =>
        congrArg (fun q => k0_pay4 (F := Ideal) x g w (ix2 r q)) (Fin.ext (Nat.zero_add _).symm)))) _ y (by simp) (by simp)).symm

theorem G7_eq : G7 (F := Ideal) x g w gk = Cert.RefMemKvIdeal.Value.vn x g w := by
  unfold G7 Cert.RefMemKvIdeal.Value.vn
  rw [pay12_eq]
  generalize Cert.RefMemKvIdeal.Value.kv x g w = K
  funext i
  obtain ⟨r, l, rfl⟩ : ∃ (r : Fin 256) (l : Fin 512), i = ix2 r l := ⟨i 0, i 1, (ix2_eta i).symm⟩
  rw [Cert.RefMemKvIdeal.Value.valsOf_at]
  pointwise [k0_pay2]

/-- The normed rows are the reference's. -/
theorem end_mn (c : Dev nD) : (dats m 0 c).arrAt 4 cfg0.N
    = Cert.RefMemKvIdeal.Value.mn (m ((c : Thread nD τ).loc main_arg0)) (m ((c : Thread nD τ).loc main_arg1)) :=
  (final4 m c).trans (pay3_eq _ _)

/-- The projection is the reference's. -/
theorem end_kv (c : Dev nD) : (dats m 0 c).arrAt 5 cfg0.N
    = Cert.RefMemKvIdeal.Value.kv (m ((c : Thread nD τ).loc main_arg0)) (m ((c : Thread nD τ).loc main_arg1)) (m ((c : Thread nD τ).loc main_arg2)) :=
  (final5 m c).trans (pay4_eq _ _ _)

/-- The keys are the reference's. -/
theorem end_kn (c : Dev nD) : (dats m 0 c).arrAt 6 cfg0.N
    = Cert.RefMemKvIdeal.Value.kn (m ((c : Thread nD τ).loc main_arg0)) (m ((c : Thread nD τ).loc main_arg1)) (m ((c : Thread nD τ).loc main_arg2)) (m ((c : Thread nD τ).loc main_arg3)) :=
  (final6 m c).trans (G6_eq _ _ _ _)

/-- The values are the reference's. -/
theorem end_vn (c : Dev nD) : (dats m 0 c).arrAt 7 cfg0.N
    = Cert.RefMemKvIdeal.Value.vn (m ((c : Thread nD τ).loc main_arg0)) (m ((c : Thread nD τ).loc main_arg1)) (m ((c : Thread nD τ).loc main_arg2)) :=
  (final7 m c).trans (G7_eq _ _ _ _)

end Cert.MemKvIdeal.Value

end
-- ==== Proof.Shards.lean ====
module

public import Idealize.ShloMosaic.Lib.Pointwise
public import Mathlib.Algebra.BigOperators.Fin
public import Mathlib.Data.EReal.Operations

@[expose] public section

noncomputable section

/-! Sums over columns stored in parts. -/

namespace Cert.Shards

open Idealize.ShloMosaic

/-- The sums over the parts make up the sum over all the columns. -/
theorem all_parts {a b n : Nat} (h : a * b = n) (f : Fin n → EReal) :
    ∑ p : Fin a, ∑ l : Fin b, f ⟨p.val * b + l.val, by
      have := p.isLt; have := l.isLt; subst h; calc p.val * b + l.val < p.val * b + b := by omega
        _ = (p.val + 1) * b := by ring
        _ ≤ a * b := Nat.mul_le_mul_right _ (by omega)⟩ = ∑ k, f k := by
  subst h
  rw [← Fintype.sum_prod_type', ← (finProdFinEquiv (m := a) (n := b)).sum_comp f]
  refine Finset.sum_congr rfl fun x _ => congrArg f (Fin.ext ?_)
  show x.1.val * b + x.2.val = x.2.val + b * x.1.val
  rw [Nat.mul_comm, Nat.add_comm]

end Cert.Shards

end
-- ==== Proof.DownProj.lean ====
module

public import proofs.«01_k».proof.Proof.Gen.DownProjIdeal.Value
public import proofs.«01_k».proof.Proof.Gen.RefDownProjIdeal.Run
public import proofs.«01_k».proof.Proof.Gen.DownProj.Frame
public import proofs.«01_k».proof.Proof.Shards
public import Idealize.ShloMosaic.Lib.Pointwise
public import Idealize.ShloMosaic.Lib.Pipeline.ValueKit
public import Idealize.ShloMosaic.Lib.Pipeline.ReadBack

@[expose] public section

set_option maxRecDepth 16384

noncomputable section

/-! The last projection with the loss: the gradient of the loss at the projection's result, and the loss itself. -/

namespace Cert.LossTerms

open Idealize.ShloMosaic

theorem half_eq : Ideal.ofBits .f32 0x3F000000#32 = ((1 / 2 : ℝ) : EReal) := by
  unfold Ideal.ofBits Ideal.ieee
  dsimp only
  rw [if_neg (by decide), if_neg (by decide), if_neg (by decide)]
  congr 1
  norm_num [Nat.shiftRight_eq_div_pow]
theorem one_eq : Ideal.ofBits .f32 0x3F800000#32 = ((1 : ℝ) : EReal) := by
  unfold Ideal.ofBits Ideal.ieee
  dsimp only
  rw [if_neg (by decide), if_neg (by decide), if_neg (by decide)]
  congr 1
  norm_num [Nat.shiftRight_eq_div_pow]
theorem two_eq : Ideal.ofBits .f32 0x40000000#32 = ((2 : ℝ) : EReal) := by
  unfold Ideal.ofBits Ideal.ieee
  dsimp only
  rw [if_neg (by decide), if_neg (by decide), if_neg (by decide)]
  congr 1
  norm_num [Nat.shiftRight_eq_div_pow]
theorem width_eq : Ideal.ofBits .f32 0x45000000#32 = ((2048 : ℝ) : EReal) := by
  unfold Ideal.ofBits Ideal.ieee
  dsimp only
  rw [if_neg (by decide), if_neg (by decide), if_neg (by decide)]
  congr 1
  norm_num [Nat.shiftRight_eq_div_pow]
theorem slope_eq : Ideal.ofBits .f32 0x3A000000#32 = ((1 / 2048 : ℝ) : EReal) := by
  unfold Ideal.ofBits Ideal.ieee
  dsimp only
  rw [if_neg (by decide), if_neg (by decide), if_neg (by decide)]
  congr 1
  norm_num [Nat.shiftRight_eq_div_pow]
theorem weight_eq : Ideal.ofBits .f32 0x39800000#32 = ((1 / 4096 : ℝ) : EReal) := by
  unfold Ideal.ofBits Ideal.ieee
  dsimp only
  rw [if_neg (by decide), if_neg (by decide), if_neg (by decide)]
  congr 1
  norm_num [Nat.shiftRight_eq_div_pow]

/-- The reference's slope of the loss is the kernel's. -/
theorem slope_two (e : EReal) :
    Ideal.div (Ideal.ofBits .f32 0x3F000000#32 * Ideal.ofBits .f32 0x3F800000#32) (Ideal.ofBits .f32 0x45000000#32)
      * (Ideal.ofBits .f32 0x40000000#32 * e) = e * Ideal.ofBits .f32 0x3A000000#32 := by
  rw [half_eq, one_eq, two_eq, width_eq, slope_eq, Ideal.div_coe (by norm_num), ← mul_assoc, mul_comm e]
  congr 1
  rw [← EReal.coe_mul, ← EReal.coe_mul, ← EReal.coe_mul]
  norm_num

/-- A factor that is a number at least zero goes through a sum. -/
theorem mul_sum_real {ι : Type} (s : Finset ι) (f : ι → EReal) {c : ℝ} (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- Half the sum of the rows' means is the weighted sum of all the entries. -/
theorem mean_eq (f : Fin 4096 → EReal) :
    Ideal.ofBits .f32 0x3F000000#32 * ∑ R, Ideal.div (f R) (Ideal.ofBits .f32 0x45000000#32)
      = Ideal.ofBits .f32 0x39800000#32 * ∑ R, f R := by
  rw [half_eq, width_eq, weight_eq, mul_sum_real _ _ (by norm_num), mul_sum_real _ _ (by norm_num)]
  refine Finset.sum_congr rfl fun R _ => ?_
  rw [Ideal.div_coe (by norm_num), mul_comm (f R), ← mul_assoc, ← EReal.coe_mul]
  norm_num

/-- The sixteen blocks make up the whole array. -/
theorem blocks_all (E : Fin 4096 → Fin 2048 → EReal) (g : Fin 16 → Fin 512 → Fin 1024 → EReal)
    (h : ∀ (t : Fin 16) (r : Fin 512) (l : Fin 1024) (R : Fin 4096) (L : Fin 2048), R.val = t.val / 2 * 512 + r.val →
      L.val = t.val % 2 * 1024 + l.val → g t r l = E R L) :
    ∑ t, ∑ r, ∑ l, g t r l = ∑ R, ∑ L, E R L := by
  rw [← Cert.Shards.all_parts (a := 8) (b := 2) (by decide) (fun t => ∑ r, ∑ l, g t r l),
    ← Cert.Shards.all_parts (a := 8) (b := 512) (by decide) (fun R => ∑ L, E R L)]
  refine Finset.sum_congr rfl fun i _ => ?_
  rw [Finset.sum_comm]
  refine Finset.sum_congr rfl fun r _ => ?_
  rw [← Cert.Shards.all_parts (a := 2) (b := 1024) (n := 2048) (by decide)]
  refine Finset.sum_congr rfl fun j _ => Finset.sum_congr rfl fun l _ => h _ _ _ _ _ ?_ ?_
  · have := j.isLt; dsimp only; omega
  · have := j.isLt; dsimp only; omega

end Cert.LossTerms

namespace Cert.RefDownProjIdeal.Value

open Cert.RefDownProjIdeal Cert.RefDownProjIdeal.Gen Idealize.ShloMosaic Idealize.SL.Sem

/-- How far the result is from its target. -/
def err (a : FVec Ideal S4096x5632 .bf16) (b : FVec Ideal S5632x2048 .bf16) (x y : FVec Ideal S4096x2048 .f32) : FVec Ideal S4096x2048 .f32 :=
  subf (addf x (Host.dotGeneral dot_S4096x5632_S5632x2048_S4096x2048_1_0_0_1_n_n none (extf .f32 a bitsLt_bf16_f32) (extf .f32 b bitsLt_bf16_f32))) y

/-- The gradient of the loss from the error. -/
def grad (e : FVec Ideal S4096x2048 .f32) : FVec Ideal S4096x2048 .f32 :=
  mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) e)

/-- The loss from the error. -/
def total (e : FVec Ideal S4096x2048 .f32) : FVec Ideal S1x128 .f32 :=
  broadcastInDim S1x128 ![] bcast_S_S1x128 (mulf (constant S_ .f32 0x3F000000#32) (Host.reduceAdd (Host.divf (Host.reduceAdd (mulf e e) (constant S_ .f32 0x00000000#32) reducesTo_S4096x2048_S4096_d1 h_S_) (broadcastInDim S4096 ![] bcast_S_S4096 (constant S_ .f32 0x45000000#32))) (constant S_ .f32 0x00000000#32) reducesTo_S4096_S_d0 h_S_))

/-- The gradient. -/
def dout (a : FVec Ideal S4096x5632 .bf16) (b : FVec Ideal S5632x2048 .bf16) (x y : FVec Ideal S4096x2048 .f32) : FVec Ideal S4096x2048 .f32 := grad (err a b x y)

/-- The gradient in the narrow format. -/
def doutb (a : FVec Ideal S4096x5632 .bf16) (b : FVec Ideal S5632x2048 .bf16) (x y : FVec Ideal S4096x2048 .f32) : FVec Ideal S4096x2048 .bf16 :=
  truncf .bf16 (dout a b x y) bitsLt_bf16_f32

/-- The loss. -/
def loss (a : FVec Ideal S4096x5632 .bf16) (b : FVec Ideal S5632x2048 .bf16) (x y : FVec Ideal S4096x2048 .f32) : FVec Ideal S1x128 .f32 := total (err a b x y)

theorem err_at (a : FVec Ideal S4096x5632 .bf16) (b : FVec Ideal S5632x2048 .bf16) (x y : FVec Ideal S4096x2048 .f32) (r : Fin 4096) (l : Fin 2048) :
    err a b x y (ix2 r l) = x (ix2 r l) + (∑ k : Fin 5632, a (ix2 r k) * b (ix2 k l)) - y (ix2 r l) := by
  pointwise [err]

theorem grad_at (e : FVec Ideal S4096x2048 .f32) (r : Fin 4096) (l : Fin 2048) :
    grad e (ix2 r l) = e (ix2 r l) * Ideal.ofBits .f32 0x3A000000#32 := by
  refine Eq.trans ?_ (Cert.LossTerms.slope_two (e (ix2 r l)))
  pointwise [grad]

theorem doutb_at (a : FVec Ideal S4096x5632 .bf16) (b : FVec Ideal S5632x2048 .bf16) (x y : FVec Ideal S4096x2048 .f32) (r : Fin 4096) (l : Fin 2048) :
    doutb a b x y (ix2 r l) = err a b x y (ix2 r l) * Ideal.ofBits .f32 0x3A000000#32 := by
  refine Eq.trans ?_ (grad_at _ r l)
  pointwise [doutb, dout]

theorem total_at (e : FVec Ideal S4096x2048 .f32) (l : Fin 128) :
    total e (ix2 0 l) = Ideal.ofBits .f32 0x39800000#32 * ∑ R : Fin 4096, ∑ L : Fin 2048, e (ix2 R L) * e (ix2 R L) := by
  refine Eq.trans ?_ (Cert.LossTerms.mean_eq fun R => ∑ L : Fin 2048, e (ix2 R L) * e (ix2 R L))
  pointwise [total]

end Cert.RefDownProjIdeal.Value

namespace Cert.DownProjIdeal.Value

open Cert.DownProjIdeal Cert.DownProjIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![t.val / 2, 0] ∧ win0_1.index t = ![0, t.val % 2] ∧ win0_2.index t = ![t.val / 2, t.val % 2]
    ∧ win0_3.index t = ![t.val / 2, t.val % 2] ∧ win0_4.index t = ![t.val / 2, t.val % 2] ∧ win0_5.index t = ![t.val / 2, t.val % 2]
    ∧ win0_6.index t = ![0, 0] :=
  (by decide +kernel : ∀ t : Fin grid0.N, _)

/-- The error within a block. -/
def err (v0 : FVec Ideal S512x5632 .bf16) (v1 : FVec Ideal S5632x1024 .bf16) (v3 v5 : FVec Ideal S512x1024 .f32) (r : Fin 512) (l : Fin 1024) : EReal :=
  v3 (ix2 r l) + (∑ k : Fin 5632, v0 (ix2 r k) * v1 (ix2 k l)) - v5 (ix2 r l)

theorem pay1_at (v0 : FVec Ideal S512x5632 .bf16) (v1 : FVec Ideal S5632x1024 .bf16) (v3 v5 : FVec Ideal S512x1024 .f32) (r : Fin 512) (l : Fin 1024) :
    k0_pay1 (F := Ideal) v0 v1 v3 v5 (ix2 r l) = err v0 v1 v3 v5 r l := by
  have h : k0_pay1 (F := Ideal) v0 v1 v3 v5 (ix2 r l) = (∑ k : Fin 5632, v0 (ix2 r k) * v1 (ix2 k l)) + v3 (ix2 r l) - v5 (ix2 r l) := by pointwise [k0_pay1]
  exact h.trans (congrArg (fun x : EReal => x - v5 (ix2 r l)) (add_comm _ _))

theorem pay2_at (v0 : FVec Ideal S512x5632 .bf16) (v1 : FVec Ideal S5632x1024 .bf16) (v3 v5 : FVec Ideal S512x1024 .f32) (r : Fin 512) (l : Fin 1024) :
    k0_pay2 (F := Ideal) v0 v1 v3 v5 (ix2 r l) = err v0 v1 v3 v5 r l * Ideal.ofBits .f32 0x3A000000#32 := by
  rw [← pay1_at]
  unfold k0_pay2
  generalize k0_pay1 (F := Ideal) v0 v1 v3 v5 = h
  pointwise []

theorem pay3_at (v0 : FVec Ideal S512x5632 .bf16) (v1 : FVec Ideal S5632x1024 .bf16) (v3 v5 : FVec Ideal S512x1024 .f32) (r : Fin 512) (l : Fin 1024) :
    k0_pay3 (F := Ideal) v0 v1 v3 v5 (ix2 r l) = err v0 v1 v3 v5 r l * Ideal.ofBits .f32 0x3A000000#32 := by
  rw [← pay2_at]
  unfold k0_pay3
  generalize k0_pay2 (F := Ideal) v0 v1 v3 v5 = h
  pointwise []

/-- A block's part of the loss. -/
def part (v0 : FVec Ideal S512x5632 .bf16) (v1 : FVec Ideal S5632x1024 .bf16) (v3 v5 : FVec Ideal S512x1024 .f32) : EReal :=
  Ideal.ofBits .f32 0x39800000#32 * ∑ r : Fin 512, ∑ l : Fin 1024, err v0 v1 v3 v5 r l * err v0 v1 v3 v5 r l

theorem pay4_at (v0 : FVec Ideal S512x5632 .bf16) (v1 : FVec Ideal S5632x1024 .bf16) (v3 v5 : FVec Ideal S512x1024 .f32) (l : Fin 128) :
    k0_pay4 (F := Ideal) v0 v1 v3 v5 (ix2 0 l) = part v0 v1 v3 v5 := by
  unfold part
  simp only [← pay1_at]
  unfold k0_pay4
  generalize k0_pay1 (F := Ideal) v0 v1 v3 v5 = h
  pointwise []

theorem pay5_at (v0 : FVec Ideal S512x5632 .bf16) (v1 : FVec Ideal S5632x1024 .bf16) (v3 v5 : FVec Ideal S512x1024 .f32) (w : FVec Ideal S1x128 .f32) (l : Fin 128) :
    k0_pay5 (F := Ideal) v0 v1 v3 v5 w (ix2 0 l) = w (ix2 0 l) + part v0 v1 v3 v5 := by
  rw [← pay4_at v0 v1 v3 v5 l]
  unfold k0_pay5
  generalize k0_pay4 (F := Ideal) v0 v1 v3 v5 = h
  pointwise []

theorem blk0 (c : Dev nD) (t : Fin cfg0.N) (r : Fin 512) (k : Fin 5632) (R : Fin 4096) (hR : R.val = t.val / 2 * 512 + r.val) :
    (show FVec Ideal S512x5632 .bf16 from iblk m c 0 t) (ix2 r k)
      = (m ((c : Thread nD τ).loc main_arg0) : FVec Ideal S4096x5632 .bf16) (ix2 R k) := by
  blk_point [iblk, V, idx t]

theorem blk1 (c : Dev nD) (t : Fin cfg0.N) (k : Fin 5632) (l : Fin 1024) (L : Fin 2048) (hL : L.val = t.val % 2 * 1024 + l.val) :
    (show FVec Ideal S5632x1024 .bf16 from iblk m c 1 t) (ix2 k l)
      = (m ((c : Thread nD τ).loc main_arg1) : FVec Ideal S5632x2048 .bf16) (ix2 k L) := by
  blk_point [iblk, V, idx t]

theorem blk2 (c : Dev nD) (t : Fin cfg0.N) (r : Fin 512) (l : Fin 1024) (R : Fin 4096) (hR : R.val = t.val / 2 * 512 + r.val)
    (L : Fin 2048) (hL : L.val = t.val % 2 * 1024 + l.val) :
    (show FVec Ideal S512x1024 .f32 from iblk m c 2 t) (ix2 r l)
      = (m ((c : Thread nD τ).loc main_arg2) : FVec Ideal S4096x2048 .f32) (ix2 R L) := by
  blk_point [iblk, V, idx t]

theorem blk3 (c : Dev nD) (t : Fin cfg0.N) (r : Fin 512) (l : Fin 1024) (R : Fin 4096) (hR : R.val = t.val / 2 * 512 + r.val)
    (L : Fin 2048) (hL : L.val = t.val % 2 * 1024 + l.val) :
    (show FVec Ideal S512x1024 .f32 from iblk m c 3 t) (ix2 r l)
      = (m ((c : Thread nD τ).loc main_arg3) : FVec Ideal S4096x2048 .f32) (ix2 R L) := by
  blk_point [iblk, V, idx t]

/-- The reference's error, of the arrays. -/
abbrev errA (c : Dev nD) : FVec Ideal S4096x2048 .f32 :=
  Cert.RefDownProjIdeal.Value.err (m ((c : Thread nD τ).loc main_arg0)) (m ((c : Thread nD τ).loc main_arg1)) (m ((c : Thread nD τ).loc main_arg2)) (m ((c : Thread nD τ).loc main_arg3))

/-- A block's error is the reference's. -/
theorem err_eq (c : Dev nD) (t : Fin cfg0.N) (r : Fin 512) (l : Fin 1024) (R : Fin 4096) (L : Fin 2048) (hR : R.val = t.val / 2 * 512 + r.val)
    (hL : L.val = t.val % 2 * 1024 + l.val) :
    err (iblk m c 0 t) (iblk m c 1 t) (iblk m c 2 t) (iblk m c 3 t) r l = errA m c (ix2 R L) := by
  rw [errA, Cert.RefDownProjIdeal.Value.err_at]
  exact congrArg₂ (fun x y : EReal => x - y) (congrArg₂ (fun x y : EReal => x + y) (blk2 m c t r l R hR L hL)
    (Finset.sum_congr rfl fun k _ => congrArg₂ (fun x y : EReal => x * y) (blk0 m c t r k R hR) (blk1 m c t k l L hL)))
    (blk3 m c t r l R hR L hL)

/-- What a point leaves in the gradient's block. -/
theorem out4 (c : Dev nD) (t : Fin cfg0.N) (r : Fin 512) (l : Fin 1024) : (outsAt0 m c t.val t.isLt).1 (ix2 r l)
    = err (iblk m c 0 t) (iblk m c 1 t) (iblk m c 2 t) (iblk m c 3 t) r l * Ideal.ofBits .f32 0x3A000000#32 := by
  by_cases h : t.val % 16 = 0
  · rw [outsAt0_A m c t h (by have : t.val < 16 := t.isLt; omega)]
    frame_out
    exact pay2_at _ _ _ _ r l
  · rw [outsAt0_B m c t h (by omega)]
    frame_out
    exact pay2_at _ _ _ _ r l

theorem out5 (c : Dev nD) (t : Fin cfg0.N) (r : Fin 512) (l : Fin 1024) : (outsAt0 m c t.val t.isLt).2.1 (ix2 r l)
    = err (iblk m c 0 t) (iblk m c 1 t) (iblk m c 2 t) (iblk m c 3 t) r l * Ideal.ofBits .f32 0x3A000000#32 := by
  by_cases h : t.val % 16 = 0
  · rw [outsAt0_A m c t h (by have : t.val < 16 := t.isLt; omega)]
    frame_out
    exact pay3_at _ _ _ _ r l
  · rw [outsAt0_B m c t h (by omega)]
    frame_out
    exact pay3_at _ _ _ _ r l

theorem loss_A (c : Dev nD) (t : Fin cfg0.N) (h : t.val % 16 = 0) (l : Fin 128) : (outsAt0 m c t.val t.isLt).2.2 (ix2 0 l)
    = part (iblk m c 0 t) (iblk m c 1 t) (iblk m c 2 t) (iblk m c 3 t) := by
  rw [outsAt0_A m c t h (by have : t.val < 16 := t.isLt; omega)]
  frame_out
  exact pay4_at _ _ _ _ l

theorem loss_B (c : Dev nD) (t : Fin cfg0.N) (h : ¬t.val % 16 = 0) (l : Fin 128) : (outsAt0 m c t.val t.isLt).2.2 (ix2 0 l)
    = (outsAt0 m c (t.val - 1) (Nat.lt_of_le_of_lt (Nat.sub_le _ _) t.isLt)).2.2 (ix2 0 l)
      + part (iblk m c 0 t) (iblk m c 1 t) (iblk m c 2 t) (iblk m c 3 t) := by
  rw [outsAt0_B m c t h (by omega)]
  frame_out
  exact pay5_at _ _ _ _ _ l

/-- The gradient at the end is the reference's. -/
theorem final_dout (c : Dev nD) : (dats m 0 c).arrAt 4 cfg0.N
    = Cert.RefDownProjIdeal.Value.dout (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 16 := t.isLt
  obtain ⟨r, l, rfl⟩ : ∃ (r : Fin 512) (l : Fin 1024), y = ix2 r l := ⟨y 0, y 1, (ix2_eta y).symm⟩
  have key := (out4 m c t r l).trans ((congrArg (fun x : EReal => x * Ideal.ofBits .f32 0x3A000000#32)
    (err_eq m c t r l ⟨t.val / 2 * 512 + r.val, by omega⟩ ⟨t.val % 2 * 1024 + l.val, by omega⟩ rfl rfl)).trans
      (Cert.RefDownProjIdeal.Value.grad_at (errA m c) _ _).symm)
  blk_simp
  rw [after0_4]
  refine key.trans ?_
  unfold Cert.RefDownProjIdeal.Value.dout
  congr 1
  blk_ext [idx t]

/-- The narrow gradient at the end is the reference's. -/
theorem final_doutb (c : Dev nD) : (dats m 0 c).arrAt 5 cfg0.N
    = Cert.RefDownProjIdeal.Value.doutb (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val < 16 := t.isLt
  obtain ⟨r, l, rfl⟩ : ∃ (r : Fin 512) (l : Fin 1024), y = ix2 r l := ⟨y 0, y 1, (ix2_eta y).symm⟩
  have key := (out5 m c t r l).trans ((congrArg (fun x : EReal => x * Ideal.ofBits .f32 0x3A000000#32)
    (err_eq m c t r l ⟨t.val / 2 * 512 + r.val, by omega⟩ ⟨t.val % 2 * 1024 + l.val, by omega⟩ rfl rfl)).trans
      (Cert.RefDownProjIdeal.Value.doutb_at _ _ _ _ _ _).symm)
  blk_simp
  rw [after0_5]
  refine key.trans ?_
  congr 1
  blk_ext [idx t]

/-- The loss at the end is the reference's. -/
theorem final (c : Dev nD) : (dats m 0 c).arrAt 6 cfg0.N
    = Cert.RefDownProjIdeal.Value.loss (m ((c : Thread nD τ).loc main_arg0)) (m ((c : Thread nD τ).loc main_arg1)) (m ((c : Thread nD τ).loc main_arg2)) (m ((c : Thread nD τ).loc main_arg3)) := by
  refine (dats m 0 c).arrAt_eq_of_after_last 6 t0_15 (by decide +kernel) _ fun j => ?_
  obtain ⟨l, rfl⟩ : ∃ (l : Fin 128), j = ix2 (0 : Fin 1) l := ⟨j 1, by
    have h0 : j 0 = (0 : Fin 1) := Fin.eq_zero _
    rw [← h0]; exact (ix2_eta j).symm⟩
  blk_simp
  rw [after0_6, Pipeline.eq_sum_fin_of_reset_step_apply_last (fun n h (l : Fin 128) => (outsAt0 m c n h).2.2 (ix2 0 l)) 16 (fun _ => 0)
    (fun p _ => part (iblk m c 0 p) (iblk m c 1 p) (iblk m c 2 p) (iblk m c 3 p))
    (fun t h l => by rw [loss_A m c t h, zero_add])
    (fun t h l => loss_B m c t h l) (le_of_eq N_0) t0_15 rfl l, zero_add]
  refine Eq.trans ?_ (Cert.RefDownProjIdeal.Value.total_at (errA m c) l).symm
  unfold part
  rw [Cert.LossTerms.weight_eq, ← Cert.LossTerms.mul_sum_real _ _ (by norm_num)]
  refine congrArg (fun x : EReal => ((1 / 4096 : ℝ) : EReal) * x) ?_
  exact Cert.LossTerms.blocks_all (fun R L => errA m c (ix2 R L) * errA m c (ix2 R L)) _ fun t r l R L hR hL => by
    have e := err_eq m c t r l R L hR hL
    exact congrArg₂ (fun x y : EReal => x * y) e e

end Cert.DownProjIdeal.Value

end
-- ==== Proof.RmsBwd.lean ====
module

public import proofs.«01_k».proof.Proof.Gen.RmsBwdIdeal.Value
public import proofs.«01_k».proof.Proof.Gen.RefRmsBwdIdeal.Run
public import proofs.«01_k».proof.Proof.Gen.RmsBwd.Frame
public import proofs.«01_k».proof.Proof.Algebra
public import proofs.«01_k».proof.Proof.Shards
public import proofs.«01_k».proof.Proof.DownProj
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of a norm of rows: of the rows, and of the gain. -/

namespace Cert.NormTerms

open Idealize.ShloMosaic

/-- The reciprocal of a row's root mean square. -/
def scale (x : Fin 2048 → EReal) : EReal :=
  Ideal.rsqrt (Ideal.div (∑ k : Fin 2048, x k * x k) (Ideal.ofBits .f32 0x45000000#32) + Ideal.ofBits .f32 0x358637BD#32)

/-- The mean square of a row, and a little. -/
def square (x : Fin 2048 → EReal) : EReal :=
  Ideal.div (∑ k : Fin 2048, x k * x k) (Ideal.ofBits .f32 0x45000000#32) + Ideal.ofBits .f32 0x358637BD#32

/-- A row's gradient as the kernel computes it. -/
def back (d x g : Fin 2048 → EReal) (l : Fin 2048) : EReal :=
  scale x * (d l * g l - x l * scale x * Ideal.div (∑ k : Fin 2048, d k * g k * (x k * scale x)) (Ideal.ofBits .f32 0x45000000#32))

/-- The reference's derivative of the mean. -/
def slope (d x g : Fin 2048 → EReal) : EReal :=
  Ideal.div ((∑ k : Fin 2048, x k * (d k * g k)) * (Ideal.ofBits .f32 0xBF000000#32 * Ideal.div (scale x) (square x))) (Ideal.ofBits .f32 0x45000000#32)

/-- A row's gradient as the reference computes it. -/
def backRef (d x g : Fin 2048 → EReal) (l : Fin 2048) : EReal :=
  d l * g l * scale x + x l * slope d x g + slope d x g * x l

theorem little : ∃ ε : ℝ, 0 < ε ∧ Ideal.ofBits .f32 0x358637BD#32 = (ε : EReal) := by
  unfold Ideal.ofBits Ideal.ieee
  dsimp only
  rw [if_neg (by decide), if_neg (by decide), if_neg (by decide)]
  exact ⟨_, by positivity, rfl⟩

theorem neg_half : Ideal.ofBits .f32 0xBF000000#32 = ((-(1 / 2) : ℝ) : EReal) := by
  unfold Ideal.ofBits Ideal.ieee
  dsimp only
  rw [if_neg (by decide), if_neg (by decide), if_pos (by decide)]
  congr 1
  norm_num [Nat.shiftRight_eq_div_pow]

/-- Twice a value, as a sum. -/
theorem two_copies (a : EReal) : a + a = ((2 : ℝ) : EReal) * a := by
  have h := EReal.right_distrib_of_nonneg (a := (1 : EReal)) (b := 1) (c := a) zero_le_one zero_le_one
  rw [one_mul] at h
  rw [← h]
  congr 1
  rw [show (2 : ℝ) = 1 + 1 by norm_num, EReal.coe_add]
  rfl

/-- A row that is not of numbers has an infinite mean square. -/
theorem square_top (x : Fin 2048 → EReal) (k : Fin 2048) (h : x k = ⊤ ∨ x k = ⊥) : square x = ⊤ := by
  obtain ⟨ε, hε, he⟩ := little
  have hk : x k * x k = ⊤ := by rcases h with h | h <;> rw [h] <;> rfl
  have hn : ∀ j, 0 ≤ x j * x j := fun j => by
    rcases le_total 0 (x j) with hj | hj
    · exact mul_nonneg hj hj
    · have := mul_nonneg (EReal.neg_nonneg.mpr hj) (EReal.neg_nonneg.mpr hj)
      rwa [neg_mul_neg] at this
  have hs : ∑ j, x j * x j = ⊤ := by
    refine top_le_iff.mp ?_
    rw [← hk]
    exact Finset.single_le_sum (f := fun j => x j * x j) (fun j _ => hn j) (Finset.mem_univ k)
  rw [square, hs, Cert.LossTerms.width_eq, he, Ideal.div_coe (by norm_num), EReal.top_mul_coe_of_pos (by norm_num), EReal.top_add_coe]

/-- The kernel's gradient of a row is the reference's, whatever the row, its gradient and the gain. -/
theorem back_eq (d x g : Fin 2048 → EReal) (l : Fin 2048) : back d x g l = backRef d x g l := by
  have hsc : scale x = Ideal.rsqrt (square x) := rfl
  by_cases hx : ∃ k, x k = ⊤ ∨ x k = ⊥
  · obtain ⟨k, hk⟩ := hx
    have hV := square_top x k hk
    have hs : scale x = 0 := by rw [hsc, hV]; rfl
    have hd : Ideal.div (0 : EReal) ⊤ = 0 := by simp [Ideal.div]
    rw [back, backRef, slope, hs, hV, hd, zero_mul, mul_zero, mul_zero, mul_zero, Cert.LossTerms.width_eq, Ideal.div_coe (by norm_num)]
    simp
  · push Not at hx
    obtain ⟨y, rfl⟩ : ∃ y : Fin 2048 → ℝ, x = fun k => (y k : EReal) :=
      ⟨fun k => (x k).toReal, funext fun k => (EReal.coe_toReal (hx k).1 (hx k).2).symm⟩
    obtain ⟨ε, hε, he⟩ := little
    have hV : square (fun k => (y k : EReal)) = (((∑ k, y k * y k) * (1 / 2048) + ε : ℝ) : EReal) := by
      rw [square, Cert.LossTerms.width_eq, he, Ideal.div_coe (by norm_num)]
      simp only [← EReal.coe_mul, Cert.Rows.coe_sum, ← EReal.coe_add]
    have hp : 0 < (∑ k, y k * y k) * (1 / 2048) + ε := by
      have : 0 ≤ ∑ k, y k * y k := Finset.sum_nonneg fun k _ => mul_self_nonneg _
      positivity
    generalize (∑ k, y k * y k) * (1 / 2048) + ε = V at hV hp
    have hs : scale (fun k => (y k : EReal)) = (((Real.sqrt V)⁻¹ : ℝ) : EReal) := by
      rw [hsc, hV, Ideal.rsqrt_coe, if_neg (not_lt.mpr hp.le), if_neg hp.ne']
    have h2 : (Real.sqrt V)⁻¹ * (Real.sqrt V)⁻¹ = 1 / V := by
      rw [← mul_inv, Real.mul_self_sqrt hp.le, one_div]
    have h0 : 0 ≤ (Real.sqrt V)⁻¹ := by positivity
    rw [back, backRef, slope, hs, hV, Cert.LossTerms.width_eq, neg_half, Ideal.div_coe hp.ne']
    generalize (Real.sqrt V)⁻¹ = s at h2 h0
    have e1 : ∑ k, d k * g k * ((y k : EReal) * (s : EReal)) = (s : EReal) * ∑ k, (y k : EReal) * (d k * g k) := by
      rw [Cert.LossTerms.mul_sum_real _ _ h0]
      exact Finset.sum_congr rfl fun k _ => by rw [mul_comm (d k * g k), mul_comm (y k : EReal), mul_assoc]
    rw [e1]
    generalize ∑ k, (y k : EReal) * (d k * g k) = S
    rw [Ideal.div_coe (show (2048 : ℝ) ≠ 0 by norm_num), Ideal.div_coe (show (2048 : ℝ) ≠ 0 by norm_num), sub_eq_add_neg,
      EReal.left_distrib_of_nonneg_of_ne_top (by exact_mod_cast h0) (EReal.coe_ne_top s), add_assoc]
    have eT : S * (((-(1 / 2) : ℝ) : EReal) * ((s : EReal) * ((1 / V : ℝ) : EReal))) * ((1 / 2048 : ℝ) : EReal)
        = ((-(1 / 2) * (s * (1 / V)) * (1 / 2048) : ℝ) : EReal) * S := by
      simp only [EReal.coe_mul]
      ac_rfl
    rw [eT, mul_comm _ (y l : EReal), two_copies, mul_comm (s : EReal) (d l * g l)]
    refine congrArg (fun z : EReal => d l * g l * (s : EReal) + z) ?_
    have eL : (s : EReal) * -((y l : EReal) * (s : EReal) * ((s : EReal) * S * ((1 / 2048 : ℝ) : EReal)))
        = ((-(s * (y l * s) * (s * (1 / 2048))) : ℝ) : EReal) * S := by
      rw [EReal.coe_neg, mul_neg, neg_mul]
      simp only [EReal.coe_mul]
      refine congrArg (fun z : EReal => -z) ?_
      ac_rfl
    have eR (a : ℝ) : ((2 : ℝ) : EReal) * ((y l : EReal) * ((a : EReal) * S)) = ((2 * y l * a : ℝ) : EReal) * S := by
      simp only [EReal.coe_mul]
      ac_rfl
    rw [eL, eR, ← h2]
    refine congrArg (fun z : ℝ => (z : EReal) * S) ?_
    ring

end Cert.NormTerms

namespace Cert.RefRmsBwdIdeal.Value

open Cert.RefRmsBwdIdeal Cert.RefRmsBwdIdeal.Gen Idealize.ShloMosaic Idealize.SL.Sem

/-- The rows' mean squares, and a little. -/
def sq (x : FVec Ideal S4096x2048 .f32) : FVec Ideal S4096x1 .f32 :=
  addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))

/-- The result's gradient, scaled by the gain. -/
def dyg (d : FVec Ideal S4096x2048 .f32) (g : FVec Ideal S1x2048 .f32) : FVec Ideal S4096x2048 .f32 :=
  mulf d (broadcastInDim S4096x2048 ![0, 1] bcast_S1x2048_S4096x2048_0_1 g)

/-- The derivative of the rows' means. -/
def mean (e x : FVec Ideal S4096x2048 .f32) : FVec Ideal S4096 .f32 :=
  Host.reduceAdd (Host.divf (mulf (shapeCast S4096x1 (Host.reduceAdd (mulf x e) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (sq x)) (sq x)))) (broadcastInDim S4096x1 ![] bcast_S_S4096x1 (constant S_ .f32 0x45000000#32))) (constant S_ .f32 0x00000000#32) reducesTo_S4096x1_S4096_d1 h_S_

/-- The rows' gradient, added to what comes past the norm. -/
def dx (d x : FVec Ideal S4096x2048 .f32) (g : FVec Ideal S1x2048 .f32) (res : FVec Ideal S4096x2048 .f32) : FVec Ideal S4096x2048 .f32 :=
  addf res (addf (addf (mulf (dyg d g) (broadcastInDim S4096x2048 ![0, 1] bcast_S4096x1_S4096x2048_0_1 (Host.rsqrt (sq x))))
    (mulf x (broadcastInDim S4096x2048 ![0] bcast_S4096_S4096x2048_0 (mean (dyg d g) x))))
    (mulf (broadcastInDim S4096x2048 ![0] bcast_S4096_S4096x2048_0 (mean (dyg d g) x)) x))

/-- The same in the narrow format. -/
def dxb (d x : FVec Ideal S4096x2048 .f32) (g : FVec Ideal S1x2048 .f32) (res : FVec Ideal S4096x2048 .f32) : FVec Ideal S4096x2048 .bf16 :=
  truncf .bf16 (dx d x g res) bitsLt_bf16_f32

/-- The gain's gradient. -/
def dg (d x : FVec Ideal S4096x2048 .f32) : FVec Ideal S1x2048 .f32 :=
  shapeCast S1x2048 (Host.reduceAdd (mulf (mulf x (broadcastInDim S4096x2048 ![0, 1] bcast_S4096x1_S4096x2048_0_1 (Host.rsqrt (sq x)))) d) (constant S_ .f32 0x00000000#32) reducesTo_S4096x2048_S2048_d0 h_S_) shapeCasts_S2048_S1x2048

/-- A row of an array. -/
abbrev rowOf (x : FVec Ideal S4096x2048 .f32) (r : Fin 4096) (l : Fin 2048) : EReal := x (ix2 r l)

theorem sq_at (x : FVec Ideal S4096x2048 .f32) (r : Fin 4096) : sq x (ix2 r 0) = Cert.NormTerms.square (rowOf x r) := by
  pointwise [sq, Cert.NormTerms.square]

theorem dyg_at (d : FVec Ideal S4096x2048 .f32) (g : FVec Ideal S1x2048 .f32) (r : Fin 4096) (l : Fin 2048) :
    dyg d g (ix2 r l) = d (ix2 r l) * g (ix2 0 l) := by
  pointwise [dyg]

theorem mean_of (e x : FVec Ideal S4096x2048 .f32) (r : Fin 4096) :
    mean e x (ix1 r) = Ideal.div ((∑ k : Fin 2048, x (ix2 r k) * e (ix2 r k)) * (Ideal.ofBits .f32 0xBF000000#32
      * Ideal.div (Ideal.rsqrt (sq x (ix2 r 0))) (sq x (ix2 r 0)))) (Ideal.ofBits .f32 0x45000000#32) := by
  unfold mean
  generalize sq x = w
  pointwise []
  exact Fin.sum_univ_one _

theorem mean_at (d x : FVec Ideal S4096x2048 .f32) (g : FVec Ideal S1x2048 .f32) (r : Fin 4096) :
    mean (dyg d g) x (ix1 r) = Cert.NormTerms.slope (rowOf d r) (rowOf x r) (fun l => g (ix2 0 l)) := by
  rw [mean_of, sq_at]
  simp only [dyg_at]
  rfl

theorem dx_at (d x : FVec Ideal S4096x2048 .f32) (g : FVec Ideal S1x2048 .f32) (res : FVec Ideal S4096x2048 .f32) (r : Fin 4096) (l : Fin 2048) :
    dx d x g res (ix2 r l) = res (ix2 r l) + Cert.NormTerms.backRef (rowOf d r) (rowOf x r) (fun l => g (ix2 0 l)) l := by
  have h : dx d x g res (ix2 r l) = res (ix2 r l) + (dyg d g (ix2 r l) * Ideal.rsqrt (sq x (ix2 r 0)) + x (ix2 r l) * mean (dyg d g) x (ix1 r)
      + mean (dyg d g) x (ix1 r) * x (ix2 r l)) := by
    unfold dx
    generalize mean (dyg d g) x = u
    generalize dyg d g = e
    generalize sq x = w
    pointwise []
  rw [h, mean_at, sq_at, dyg_at]
  rfl

theorem dg_at (d x : FVec Ideal S4096x2048 .f32) (l : Fin 2048) :
    dg d x (ix2 0 l) = ∑ r : Fin 4096, d (ix2 r l) * (x (ix2 r l) * Cert.NormTerms.scale (rowOf x r)) := by
  have h : dg d x (ix2 0 l) = ∑ r : Fin 4096, x (ix2 r l) * Ideal.rsqrt (sq x (ix2 r 0)) * d (ix2 r l) := by
    unfold dg
    generalize sq x = w
    pointwise []
  rw [h]
  refine Finset.sum_congr rfl fun r _ => ?_
  rw [sq_at, mul_comm]
  rfl

end Cert.RefRmsBwdIdeal.Value

namespace Cert.RmsBwdIdeal.Value

open Cert.RmsBwdIdeal Cert.RmsBwdIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

/-- A row of a block. -/
abbrev rowOf (x : FVec Ideal S512x2048 .f32) (r : Fin 512) (l : Fin 2048) : EReal := x (ix2 r l)

theorem pay2_at (x : FVec Ideal S512x2048 .f32) (r : Fin 512) : k0_pay2 (F := Ideal) x (ix2 r 0) = Cert.NormTerms.scale (rowOf x r) := by
  pointwise [k0_pay2, Cert.NormTerms.scale]

theorem pay3_at (x : FVec Ideal S512x2048 .f32) (r : Fin 512) (l : Fin 2048) :
    k0_pay3 (F := Ideal) x (ix2 r l) = x (ix2 r l) * Cert.NormTerms.scale (rowOf x r) := by
  rw [← pay2_at]
  unfold k0_pay3
  generalize k0_pay2 (F := Ideal) x = w
  pointwise []

theorem pay4_at (x d : FVec Ideal S512x2048 .f32) (g : FVec Ideal S1x2048 .f32) (res : FVec Ideal S512x2048 .f32) (r : Fin 512) (l : Fin 2048) :
    k0_pay4 (F := Ideal) x d g res (ix2 r l) = res (ix2 r l) + Cert.NormTerms.back (rowOf d r) (rowOf x r) (fun l => g (ix2 0 l)) l := by
  unfold Cert.NormTerms.back
  have h : k0_pay4 (F := Ideal) x d g res (ix2 r l) = res (ix2 r l) + k0_pay2 (F := Ideal) x (ix2 r 0)
      * (d (ix2 r l) * g (ix2 0 l) - k0_pay3 (F := Ideal) x (ix2 r l) * Ideal.div (∑ k : Fin 2048, d (ix2 r k) * g (ix2 0 k) * k0_pay3 (F := Ideal) x (ix2 r k)) (Ideal.ofBits .f32 0x45000000#32)) := by
    unfold k0_pay4
    generalize k0_pay3 (F := Ideal) x = u
    generalize k0_pay2 (F := Ideal) x = w
    pointwise []
  rw [h, pay2_at]
  simp only [pay3_at]

theorem pay5_at (x d : FVec Ideal S512x2048 .f32) (g : FVec Ideal S1x2048 .f32) (res : FVec Ideal S512x2048 .f32) (r : Fin 512) (l : Fin 2048) :
    k0_pay5 (F := Ideal) x d g res (ix2 r l) = res (ix2 r l) + Cert.NormTerms.back (rowOf d r) (rowOf x r) (fun l => g (ix2 0 l)) l := by
  rw [← pay4_at]
  unfold k0_pay5
  generalize k0_pay4 (F := Ideal) x d g res = w
  pointwise []

/-- A block's part of the gain's gradient. -/
def part (x d : FVec Ideal S512x2048 .f32) (l : Fin 2048) : EReal :=
  ∑ r : Fin 512, d (ix2 r l) * (x (ix2 r l) * Cert.NormTerms.scale (rowOf x r))

theorem pay6_at (x d : FVec Ideal S512x2048 .f32) (l : Fin 2048) : k0_pay6 (F := Ideal) x d (ix2 0 l) = part x d l := by
  unfold part
  simp only [← pay3_at]
  unfold k0_pay6
  generalize k0_pay3 (F := Ideal) x = w
  pointwise []

theorem pay1_at (v w : FVec Ideal S1x2048 .f32) (l : Fin 2048) : k0_pay1 (F := Ideal) v w (ix2 0 l) = w (ix2 0 l) + v (ix2 0 l) := by
  pointwise [k0_pay1]

theorem blk0 (c : Dev nD) (t : Fin cfg0.N) (r : Fin 512) (l : Fin 2048) (R : Fin 4096) (hR : R.val = t.val * 512 + r.val) :
    (show FVec Ideal S512x2048 .f32 from iblk m c 0 t) (ix2 r l)
      = (m ((c : Thread nD τ).loc main_arg0) : FVec Ideal S4096x2048 .f32) (ix2 R l) := by
  blk_point [iblk, V, idx t]

theorem blk1 (c : Dev nD) (t : Fin cfg0.N) (r : Fin 512) (l : Fin 2048) (R : Fin 4096) (hR : R.val = t.val * 512 + r.val) :
    (show FVec Ideal S512x2048 .f32 from iblk m c 1 t) (ix2 r l)
      = (m ((c : Thread nD τ).loc main_arg1) : FVec Ideal S4096x2048 .f32) (ix2 R l) := by
  blk_point [iblk, V, idx t]

theorem blk2 (c : Dev nD) (t : Fin cfg0.N) (l : Fin 2048) :
    (show FVec Ideal S1x2048 .f32 from iblk m c 2 t) (ix2 0 l)
      = (m ((c : Thread nD τ).loc main_arg2) : FVec Ideal S1x2048 .f32) (ix2 0 l) := by
  blk_point [iblk, V, idx t]

theorem blk3 (c : Dev nD) (t : Fin cfg0.N) (r : Fin 512) (l : Fin 2048) (R : Fin 4096) (hR : R.val = t.val * 512 + r.val) :
    (show FVec Ideal S512x2048 .f32 from iblk m c 3 t) (ix2 r l)
      = (m ((c : Thread nD τ).loc main_arg3) : FVec Ideal S4096x2048 .f32) (ix2 R l) := by
  blk_point [iblk, V, idx t]

/-- The arrays. -/
abbrev arrD (c : Dev nD) : FVec Ideal S4096x2048 .f32 := m ((c : Thread nD τ).loc main_arg0)
abbrev arrX (c : Dev nD) : FVec Ideal S4096x2048 .f32 := m ((c : Thread nD τ).loc main_arg1)
abbrev arrG (c : Dev nD) : FVec Ideal S1x2048 .f32 := m ((c : Thread nD τ).loc main_arg2)
abbrev arrR (c : Dev nD) : FVec Ideal S4096x2048 .f32 := m ((c : Thread nD τ).loc main_arg3)

/-- What a point leaves in the rows' gradient. -/
def goal (c : Dev nD) (R : Fin 4096) (l : Fin 2048) : EReal :=
  arrR m c (ix2 R l) + Cert.NormTerms.back (fun k => arrD m c (ix2 R k)) (fun k => arrX m c (ix2 R k)) (fun k => arrG m c (ix2 0 k)) l

theorem blk_goal (c : Dev nD) (t : Fin cfg0.N) (r : Fin 512) (l : Fin 2048) (R : Fin 4096) (hR : R.val = t.val * 512 + r.val) :
    (show FVec Ideal S512x2048 .f32 from iblk m c 3 t) (ix2 r l)
      + Cert.NormTerms.back (rowOf (iblk m c 0 t) r) (rowOf (iblk m c 1 t) r) (fun l => (show FVec Ideal S1x2048 .f32 from iblk m c 2 t) (ix2 0 l)) l
      = goal m c R l := by
  have e0 : rowOf (iblk m c 0 t) r = fun k => arrD m c (ix2 R k) := funext fun k => blk0 m c t r k R hR
  have e1 : rowOf (iblk m c 1 t) r = fun k => arrX m c (ix2 R k) := funext fun k => blk1 m c t r k R hR
  have e2 : (fun l => (show FVec Ideal S1x2048 .f32 from iblk m c 2 t) (ix2 0 l)) = fun k => arrG m c (ix2 0 k) := funext fun k => blk2 m c t k
  rw [e0, e1, e2, blk3 m c t r l R hR]
  rfl

theorem out4 (c : Dev nD) (t : Fin cfg0.N) (r : Fin 512) (l : Fin 2048) (R : Fin 4096) (hR : R.val = t.val * 512 + r.val) :
    (outsAt0 m c t.val t.isLt).1 (ix2 r l) = goal m c R l := by
  rw [← blk_goal m c t r l R hR]
  by_cases h : t.val % 8 = 0
  · rw [outsAt0_A m c t h (by have : t.val < 8 := t.isLt; omega)]
    frame_out
    exact pay4_at _ _ _ _ r l
  · rw [outsAt0_B m c t h (by omega)]
    frame_out
    exact pay4_at _ _ _ _ r l

theorem out5 (c : Dev nD) (t : Fin cfg0.N) (r : Fin 512) (l : Fin 2048) (R : Fin 4096) (hR : R.val = t.val * 512 + r.val) :
    (outsAt0 m c t.val t.isLt).2.1 (ix2 r l) = goal m c R l := by
  rw [← blk_goal m c t r l R hR]
  by_cases h : t.val % 8 = 0
  · rw [outsAt0_A m c t h (by have : t.val < 8 := t.isLt; omega)]
    frame_out
    exact pay5_at _ _ _ _ r l
  · rw [outsAt0_B m c t h (by omega)]
    frame_out
    exact pay5_at _ _ _ _ r l

theorem dg_A (c : Dev nD) (t : Fin cfg0.N) (h : t.val % 8 = 0) (l : Fin 2048) : (outsAt0 m c t.val t.isLt).2.2 (ix2 0 l)
    = part (iblk m c 1 t) (iblk m c 0 t) l := by
  rw [outsAt0_A m c t h (by have : t.val < 8 := t.isLt; omega)]
  frame_out
  exact pay6_at _ _ l

theorem dg_B (c : Dev nD) (t : Fin cfg0.N) (h : ¬t.val % 8 = 0) (l : Fin 2048) : (outsAt0 m c t.val t.isLt).2.2 (ix2 0 l)
    = (outsAt0 m c (t.val - 1) (Nat.lt_of_le_of_lt (Nat.sub_le _ _) t.isLt)).2.2 (ix2 0 l) + part (iblk m c 1 t) (iblk m c 0 t) l := by
  rw [outsAt0_B m c t h (by omega)]
  frame_out
  exact (pay1_at _ _ l).trans (congrArg (fun x : EReal => _ + x) (pay6_at _ _ l))

/-- The rows' gradient at the end is the reference's. -/
theorem final_dx (c : Dev nD) : (dats m 0 c).arrAt 4 cfg0.N
    = Cert.RefRmsBwdIdeal.Value.dx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 8 := t.isLt
  obtain ⟨r, l, rfl⟩ : ∃ (r : Fin 512) (l : Fin 2048), y = ix2 r l := ⟨y 0, y 1, (ix2_eta y).symm⟩
  have key := (out4 m c t r l ⟨t.val * 512 + r.val, by omega⟩ rfl).trans ((congrArg (fun x : EReal => arrR m c (ix2 _ l) + x)
    (Cert.NormTerms.back_eq _ _ _ l)).trans
      (Cert.RefRmsBwdIdeal.Value.dx_at (arrD m c) (arrX m c) (arrG m c) (arrR m c) _ l).symm)
  blk_simp
  rw [after0_4]
  refine key.trans ?_
  congr 1
  blk_ext [idx t]

/-- The narrow gradient at the end is the reference's. -/
theorem final_dxb (c : Dev nD) : (dats m 0 c).arrAt 5 cfg0.N
    = Cert.RefRmsBwdIdeal.Value.dxb (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val < 8 := t.isLt
  obtain ⟨r, l, rfl⟩ : ∃ (r : Fin 512) (l : Fin 2048), y = ix2 r l := ⟨y 0, y 1, (ix2_eta y).symm⟩
  have key := (out5 m c t r l ⟨t.val * 512 + r.val, by omega⟩ rfl).trans ((congrArg (fun x : EReal => arrR m c (ix2 _ l) + x)
    (Cert.NormTerms.back_eq _ _ _ l)).trans
      (Cert.RefRmsBwdIdeal.Value.dx_at (arrD m c) (arrX m c) (arrG m c) (arrR m c) _ l).symm)
  blk_simp
  rw [after0_5]
  refine key.trans ?_
  refine congrArg (Cert.RefRmsBwdIdeal.Value.dx (arrD m c) (arrX m c) (arrG m c) (arrR m c)) ?_
  blk_ext [idx t]

/-- The gain's gradient at the end is the reference's. -/
theorem final (c : Dev nD) : (dats m 0 c).arrAt 6 cfg0.N
    = Cert.RefRmsBwdIdeal.Value.dg (m ((c : Thread nD τ).loc main_arg0)) (m ((c : Thread nD τ).loc main_arg1)) := by
  refine (dats m 0 c).arrAt_eq_of_after_last 6 t0_7 (by decide +kernel) _ fun j => ?_
  obtain ⟨l, rfl⟩ : ∃ (l : Fin 2048), j = ix2 (0 : Fin 1) l := ⟨j 1, by
    have h0 : j 0 = (0 : Fin 1) := Fin.eq_zero _
    rw [← h0]; exact (ix2_eta j).symm⟩
  have key : ∑ p : Fin cfg0.N, part (iblk m c 1 p) (iblk m c 0 p) l = Cert.RefRmsBwdIdeal.Value.dg (arrD m c) (arrX m c) (ix2 0 l) := by
    rw [Cert.RefRmsBwdIdeal.Value.dg_at, ← Cert.Shards.all_parts (a := 8) (b := 512) (n := 4096) (by decide)]
    refine Finset.sum_congr rfl fun t _ => Finset.sum_congr rfl fun r _ => ?_
    have e1 : rowOf (iblk m c 1 t) r = fun k => arrX m c (ix2 ⟨t.val * 512 + r.val, by have : t.val < 8 := t.isLt; omega⟩ k) :=
      funext fun k => blk1 m c t r k _ rfl
    rw [e1]
    exact congrArg₂ (fun x y : EReal => x * y) (blk0 m c t r l _ rfl) (congrArg (fun x : EReal => x * _) (blk1 m c t r l _ rfl))
  blk_simp
  rw [after0_6, Pipeline.eq_sum_fin_of_reset_step_apply_last (fun n h (l : Fin 2048) => (outsAt0 m c n h).2.2 (ix2 0 l)) 8 (fun _ => 0)
    (fun p l => part (iblk m c 1 p) (iblk m c 0 p) l)
    (fun t h l => by rw [dg_A m c t h, zero_add])
    (fun t h l => dg_B m c t h l) (le_of_eq N_0) t0_7 rfl l, zero_add]
  exact key

end Cert.RmsBwdIdeal.Value

end
-- ==== Proof.MemBack.lean ====
module

public import proofs.«01_k».proof.Proof.RmsBwd
public import proofs.«01_k».proof.Proof.MemTerms

@[expose] public section

set_option maxRecDepth 16384

noncomputable section

/-! The memory's heads: the gradient of the norm of 128 columns. -/

namespace Cert.MemTerms

open Idealize.ShloMosaic Idealize.SL.Sem

/-- The mean square of 128 entries, and a little. -/
def square (w : Fin 128 → EReal) : EReal :=
  Ideal.div (∑ x : Fin 128, w x * w x) (Ideal.ofBits .f32 0x43000000#32) + Ideal.ofBits .f32 0x358637BD#32

theorem width_eq : Ideal.ofBits .f32 0x43000000#32 = ((128 : ℝ) : EReal) := by
  unfold Ideal.ofBits Ideal.ieee
  dsimp only
  rw [if_neg (by decide), if_neg (by decide), if_neg (by decide)]
  congr 1
  norm_num [Nat.shiftRight_eq_div_pow]

/-- A head's gradient as the kernel computes it. -/
def back (d x g : Fin 128 → EReal) (l : Fin 128) : EReal :=
  scale x * (d l * g l - x l * scale x * Ideal.div (∑ k : Fin 128, d k * g k * (x k * scale x)) (Ideal.ofBits .f32 0x43000000#32))

/-- The reference's derivative of the mean. -/
def slope (d x g : Fin 128 → EReal) : EReal :=
  Ideal.div ((∑ k : Fin 128, x k * (d k * g k)) * (Ideal.ofBits .f32 0xBF000000#32 * Ideal.div (scale x) (square x))) (Ideal.ofBits .f32 0x43000000#32)

/-- A head's gradient as the reference computes it. -/
def backRef (d x g : Fin 128 → EReal) (l : Fin 128) : EReal :=
  d l * g l * scale x + x l * slope d x g + slope d x g * x l

/-- A head that is not of numbers has an infinite mean square. -/
theorem square_top (x : Fin 128 → EReal) (k : Fin 128) (h : x k = ⊤ ∨ x k = ⊥) : square x = ⊤ := by
  obtain ⟨ε, hε, he⟩ := Cert.NormTerms.little
  have hk : x k * x k = ⊤ := by rcases h with h | h <;> rw [h] <;> rfl
  have hn : ∀ j, 0 ≤ x j * x j := fun j => by
    rcases le_total 0 (x j) with hj | hj
    · exact mul_nonneg hj hj
    · have := mul_nonneg (EReal.neg_nonneg.mpr hj) (EReal.neg_nonneg.mpr hj)
      rwa [neg_mul_neg] at this
  have hs : ∑ j, x j * x j = ⊤ := by
    refine top_le_iff.mp ?_
    rw [← hk]
    exact Finset.single_le_sum (f := fun j => x j * x j) (fun j _ => hn j) (Finset.mem_univ k)
  rw [square, hs, width_eq, he, Ideal.div_coe (by norm_num), EReal.top_mul_coe_of_pos (by norm_num), EReal.top_add_coe]

/-- The kernel's gradient of a head is the reference's, whatever the head, its gradient and the gain. -/
theorem back_eq (d x g : Fin 128 → EReal) (l : Fin 128) : back d x g l = backRef d x g l := by
  have hsc : scale x = Ideal.rsqrt (square x) := rfl
  by_cases hx : ∃ k, x k = ⊤ ∨ x k = ⊥
  · obtain ⟨k, hk⟩ := hx
    have hV := square_top x k hk
    have hs : scale x = 0 := by rw [hsc, hV]; rfl
    have hd : Ideal.div (0 : EReal) ⊤ = 0 := by simp [Ideal.div]
    rw [back, backRef, slope, hs, hV, hd, zero_mul, mul_zero, mul_zero, mul_zero, width_eq, Ideal.div_coe (by norm_num)]
    simp
  · push Not at hx
    obtain ⟨y, rfl⟩ : ∃ y : Fin 128 → ℝ, x = fun k => (y k : EReal) :=
      ⟨fun k => (x k).toReal, funext fun k => (EReal.coe_toReal (hx k).1 (hx k).2).symm⟩
    obtain ⟨ε, hε, he⟩ := Cert.NormTerms.little
    have hV : square (fun k => (y k : EReal)) = (((∑ k, y k * y k) * (1 / 128) + ε : ℝ) : EReal) := by
      rw [square, width_eq, he, Ideal.div_coe (by norm_num)]
      simp only [← EReal.coe_mul, Cert.Rows.coe_sum, ← EReal.coe_add]
    have hp : 0 < (∑ k, y k * y k) * (1 / 128) + ε := by
      have : 0 ≤ ∑ k, y k * y k := Finset.sum_nonneg fun k _ => mul_self_nonneg _
      positivity
    generalize (∑ k, y k * y k) * (1 / 128) + ε = V at hV hp
    have hs : scale (fun k => (y k : EReal)) = (((Real.sqrt V)⁻¹ : ℝ) : EReal) := by
      rw [hsc, hV, Ideal.rsqrt_coe, if_neg (not_lt.mpr hp.le), if_neg hp.ne']
    have h2 : (Real.sqrt V)⁻¹ * (Real.sqrt V)⁻¹ = 1 / V := by
      rw [← mul_inv, Real.mul_self_sqrt hp.le, one_div]
    have h0 : 0 ≤ (Real.sqrt V)⁻¹ := by positivity
    rw [back, backRef, slope, hs, hV, width_eq, Cert.NormTerms.neg_half, Ideal.div_coe hp.ne']
    generalize (Real.sqrt V)⁻¹ = s at h2 h0
    have e1 : ∑ k, d k * g k * ((y k : EReal) * (s : EReal)) = (s : EReal) * ∑ k, (y k : EReal) * (d k * g k) := by
      rw [Cert.LossTerms.mul_sum_real _ _ h0]
      exact Finset.sum_congr rfl fun k _ => by rw [mul_comm (d k * g k), mul_comm (y k : EReal), mul_assoc]
    rw [e1]
    generalize ∑ k, (y k : EReal) * (d k * g k) = S
    rw [Ideal.div_coe (show (128 : ℝ) ≠ 0 by norm_num), Ideal.div_coe (show (128 : ℝ) ≠ 0 by norm_num), sub_eq_add_neg,
      EReal.left_distrib_of_nonneg_of_ne_top (by exact_mod_cast h0) (EReal.coe_ne_top s), add_assoc]
    have eT : S * (((-(1 / 2) : ℝ) : EReal) * ((s : EReal) * ((1 / V : ℝ) : EReal))) * ((1 / 128 : ℝ) : EReal)
        = ((-(1 / 2) * (s * (1 / V)) * (1 / 128) : ℝ) : EReal) * S := by
      simp only [EReal.coe_mul]
      ac_rfl
    rw [eT, mul_comm _ (y l : EReal), Cert.NormTerms.two_copies, mul_comm (s : EReal) (d l * g l)]
    refine congrArg (fun z : EReal => d l * g l * (s : EReal) + z) ?_
    have eL : (s : EReal) * -((y l : EReal) * (s : EReal) * ((s : EReal) * S * ((1 / 128 : ℝ) : EReal)))
        = ((-(s * (y l * s) * (s * (1 / 128))) : ℝ) : EReal) * S := by
      rw [EReal.coe_neg, mul_neg, neg_mul]
      simp only [EReal.coe_mul]
      refine congrArg (fun z : EReal => -z) ?_
      ac_rfl
    have eR (a : ℝ) : ((2 : ℝ) : EReal) * ((y l : EReal) * ((a : EReal) * S)) = ((2 * y l * a : ℝ) : EReal) * S := by
      simp only [EReal.coe_mul]
      ac_rfl
    rw [eL, eR, ← h2]
    refine congrArg (fun z : ℝ => (z : EReal) * S) ?_
    ring

end Cert.MemTerms

end
-- ==== Proof.MemKvBwd.lean ====
module

public import proofs.«01_k».proof.Proof.Gen.MemKvBwdIdeal.Value
public import proofs.«01_k».proof.Proof.Gen.RefMemKvBwdIdeal.Run
public import proofs.«01_k».proof.Proof.Gen.MemKvBwd.Frame
public import proofs.«01_k».proof.Proof.MemKv
public import proofs.«01_k».proof.Proof.MemBack
public import Idealize.ShloMosaic.Lib.Pointwise
public import Idealize.ShloMosaic.Lib.Pipeline.ValueKit

@[expose] public section

set_option maxRecDepth 16384

noncomputable section

/-! The memory's keys and values, backward. -/

namespace Cert.RefMemKvBwdIdeal.Value

open Cert.RefMemKvBwdIdeal Cert.RefMemKvBwdIdeal.Gen Idealize.ShloMosaic Idealize.SL.Sem
open Cert.RefMemKvIdeal.Value (rows kv heads)

/-- The heads' mean squares, and a little. -/
def sq (H : FVec Ideal S256x4x128 .f32) : FVec Ideal S256x4x1 .f32 :=
  addf (Host.divf (broadcastInDim S256x4x1 ![0, 1] bcast_S256x4_S256x4x1_0_1 (Host.reduceAdd (mulf H H) (constant S_ .f32 0x00000000#32) reducesTo_S256x4x128_S256x4_d2 h_S_)) (broadcastInDim S256x4x1 ![] bcast_S_S256x4x1 (constant S_ .f32 0x43000000#32))) (broadcastInDim S256x4x1 ![] bcast_S_S256x4x1 (constant S_ .f32 0x358637BD#32))

/-- The heads, normed. -/
def xhat (H : FVec Ideal S256x4x128 .f32) : FVec Ideal S256x4x128 .f32 :=
  mulf H (broadcastInDim S256x4x128 ![0, 1, 2] bcast_S256x4x1_S256x4x128_0_1_2 (Host.rsqrt (sq H)))

/-- The keys' gradient by heads. -/
def byHead (d : FVec Ideal S256x512 .f32) : FVec Ideal S256x4x128 .f32 :=
  shapeCast _ d shapeCasts_S256x512_S256x4x128

/-- The keys' gradient, scaled by the gain. -/
def dyg (d : FVec Ideal S256x512 .f32) (gk : FVec Ideal S1x128 .f32) : FVec Ideal S256x4x128 .f32 :=
  mulf (byHead d) (broadcastInDim S256x4x128 ![0, 1, 2] bcast_S1x1x128_S256x4x128_0_1_2 (broadcastInDim S1x1x128 ![1, 2] bcast_S1x128_S1x1x128_1_2 gk))

/-- The derivative of the heads' means. -/
def mean (H e : FVec Ideal S256x4x128 .f32) : FVec Ideal S256x4 .f32 :=
  Host.reduceAdd (Host.divf (mulf (shapeCast _ (Host.reduceAdd (mulf H e) (constant S_ .f32 0x00000000#32) reducesTo_S256x4x128_S256x4_d2 h_S_) shapeCasts_S256x4_S256x4x1) (mulf (broadcastInDim S256x4x1 ![] bcast_S_S256x4x1 (constant S_ .f32 0xBF000000#32)) (Host.divf (Host.rsqrt (sq H)) (sq H)))) (broadcastInDim S256x4x1 ![] bcast_S_S256x4x1 (constant S_ .f32 0x43000000#32))) (constant S_ .f32 0x00000000#32) reducesTo_S256x4x1_S256x4_d2 h_S_

/-- The heads' gradient. -/
def dH (H e : FVec Ideal S256x4x128 .f32) : FVec Ideal S256x4x128 .f32 :=
  addf (addf (mulf e (broadcastInDim S256x4x128 ![0, 1, 2] bcast_S256x4x1_S256x4x128_0_1_2 (Host.rsqrt (sq H))))
    (mulf H (broadcastInDim S256x4x128 ![0, 1] bcast_S256x4_S256x4x128_0_1 (mean H e))))
    (mulf (broadcastInDim S256x4x128 ![0, 1] bcast_S256x4_S256x4x128_0_1 (mean H e)) H)

/-- The projection's gradient: the heads' beside the values'. -/
def beside (E : FVec Ideal S256x4x128 .f32) (v : FVec Ideal S256x512 .f32) : FVec Ideal S256x1024 .f32 :=
  shapeCast _ (addf (pad S256x2x4x128 ![0, 1, 0, 0] ![0, 0, 0, 0] ![0, 0, 0, 0] (broadcastInDim S256x1x4x128 ![0, 2, 3] bcast_S256x4x128_S256x1x4x128_0_2_3 (byHead v)) (constant S_ .f32 0x00000000#32) pads_S256x1x4x128_S256x2x4x128_000_100_000_000 h_S_)
    (pad S256x2x4x128 ![0, 0, 0, 0] ![0, 1, 0, 0] ![0, 0, 0, 0] (broadcastInDim S256x1x4x128 ![0, 2, 3] bcast_S256x4x128_S256x1x4x128_0_2_3 E) (constant S_ .f32 0x00000000#32) pads_S256x1x4x128_S256x2x4x128_000_010_000_000 h_S_)) shapeCasts_S256x2x4x128_S256x1024

/-- The projection's gradient from the projection and the gradients of keys and values. -/
def dkv (K : FVec Ideal S256x1024 .f32) (gk : FVec Ideal S1x128 .f32) (dk dv : FVec Ideal S256x512 .f32) : FVec Ideal S256x1024 .f32 :=
  beside (dH (heads K) (dyg dk gk)) dv

/-- The weight's gradient from the projection's and the rows. -/
def dwOf (D : FVec Ideal S256x1024 .f32) (M : FVec Ideal S256x2048 .f32) : FVec Ideal S2048x1024 .f32 :=
  transpose S2048x1024 [1, 0] (Host.dotGeneral dot_S256x1024_S256x2048_S1024x2048_0_0_1_1_n_n none D M) transposes_S1024x2048_S2048x1024_1_0

/-- The memory, scaled row by row. -/
def scaled (x : FVec Ideal S256x2048 .f32) : FVec Ideal S256x2048 .f32 :=
  mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))

/-- The rows' gain's gradient from the projection's. -/
def dgOf (D : FVec Ideal S256x1024 .f32) (x : FVec Ideal S256x2048 .f32) (w : FVec Ideal S2048x1024 .bf16) : FVec Ideal S1x2048 .f32 :=
  shapeCast _ (Host.reduceAdd (mulf (scaled x) (Host.dotGeneral dot_S256x1024_S2048x1024_S256x2048_1_1_0_0_n_n none D (extf .f32 w bitsLt_bf16_f32))) (constant S_ .f32 0x00000000#32) reducesTo_S256x2048_S2048_d0 h_S_) shapeCasts_S2048_S1x2048

/-- The heads' gain's gradient. -/
def dgkOf (H E : FVec Ideal S256x4x128 .f32) : FVec Ideal S1x128 .f32 :=
  broadcastInDim S1x128 ![1] bcast_S128_S1x128_1 (Host.reduceAdd (shapeCast _ (Host.reduceAdd (mulf (xhat H) E) (constant S_ .f32 0x00000000#32) reducesTo_S256x4x128_S128_d0_1 h_S_) shapeCasts_S128_S1x1x128) (constant S_ .f32 0x00000000#32) reducesTo_S1x1x128_S128_d0_1 h_S_)

/-- The first result. -/
def dw (x : FVec Ideal S256x2048 .f32) (g : FVec Ideal S1x2048 .f32) (w : FVec Ideal S2048x1024 .bf16) (gk : FVec Ideal S1x128 .f32)
    (dk dv : FVec Ideal S256x512 .f32) : FVec Ideal S2048x1024 .f32 := dwOf (dkv (kv x g w) gk dk dv) (rows x g)

/-- The second result. -/
def dg (x : FVec Ideal S256x2048 .f32) (g : FVec Ideal S1x2048 .f32) (w : FVec Ideal S2048x1024 .bf16) (gk : FVec Ideal S1x128 .f32)
    (dk dv : FVec Ideal S256x512 .f32) : FVec Ideal S1x2048 .f32 := dgOf (dkv (kv x g w) gk dk dv) x w

/-- The third result. -/
def dgk (x : FVec Ideal S256x2048 .f32) (g : FVec Ideal S1x2048 .f32) (w : FVec Ideal S2048x1024 .bf16)
    (dk : FVec Ideal S256x512 .f32) : FVec Ideal S1x128 .f32 := dgkOf (heads (kv x g w)) (byHead dk)

variable (H e E : FVec Ideal S256x4x128 .f32) (v : FVec Ideal S256x512 .f32) (gk : FVec Ideal S1x128 .f32)

theorem sq_at (r : Fin 256) (h : Fin 4) : sq H (ix3 r h 0) = Cert.MemTerms.square (fun z => H (ix3 r h z)) := by
  pointwise [sq, Cert.MemTerms.square]

theorem xhat_at (r : Fin 256) (h : Fin 4) (b : Fin 128) :
    xhat H (ix3 r h b) = H (ix3 r h b) * Cert.MemTerms.scale (fun z => H (ix3 r h z)) := by
  pointwise [xhat, sq, Cert.MemTerms.scale]

theorem byHead_at (r : Fin 256) (h : Fin 4) (b : Fin 128) : byHead v (ix3 r h b) = v (ix2 r ⟨h.val * 128 + b.val, by omega⟩) := by
  pointwise [byHead]

theorem dyg_at (r : Fin 256) (h : Fin 4) (b : Fin 128) : dyg v gk (ix3 r h b) = byHead v (ix3 r h b) * gk (ix2 0 b) := by
  unfold dyg; generalize byHead v = B; pointwise []

theorem mean_at (r : Fin 256) (h : Fin 4) : mean H e (ix2 r h)
    = Ideal.div ((∑ z : Fin 128, H (ix3 r h z) * e (ix3 r h z)) * (Ideal.ofBits .f32 0xBF000000#32 * Ideal.div (Ideal.rsqrt (sq H (ix3 r h 0))) (sq H (ix3 r h 0))))
      (Ideal.ofBits .f32 0x43000000#32) := by
  unfold mean; generalize sq H = S; pointwise []
  exact Fin.sum_univ_one _

theorem dH_at (r : Fin 256) (h : Fin 4) (b : Fin 128) : dH H e (ix3 r h b)
    = e (ix3 r h b) * Ideal.rsqrt (sq H (ix3 r h 0)) + H (ix3 r h b) * mean H e (ix2 r h) + mean H e (ix2 r h) * H (ix3 r h b) := by
  unfold dH; generalize mean H e = M; generalize sq H = S; pointwise []

/-- An entry of the heads' gradient, where the result's gradient is a product. -/
theorem dH_is (d g : Fin 128 → EReal) (r : Fin 256) (h : Fin 4) (he : ∀ z, e (ix3 r h z) = d z * g z) (b : Fin 128) :
    dH H e (ix3 r h b) = Cert.MemTerms.backRef d (fun z => H (ix3 r h z)) g b := by
  rw [dH_at, mean_at, sq_at]
  simp only [he]
  rfl

/-- The left half is the heads'. -/
theorem beside_left (r : Fin 256) (h : Fin 4) (b : Fin 128) :
    beside E v (ix2 r ⟨h.val * 128 + b.val, by omega⟩) = E (ix3 r h b) := by
  unfold beside; generalize byHead v = B
  pointwise []
  rw [dif_neg (show ¬ (1 ≤ (h.val * 128 + b.val) / 512 ∧ (h.val * 128 + b.val) / 512 - 1 < 1) by omega),
    dif_pos (show (h.val * 128 + b.val) / 512 < 1 by omega), zero_add]

/-- The right half is the values'. -/
theorem beside_right (r : Fin 256) (h : Fin 4) (b : Fin 128) :
    beside E v (ix2 r ⟨512 + (h.val * 128 + b.val), by omega⟩) = byHead v (ix3 r h b) := by
  unfold beside; generalize byHead v = B
  pointwise []
  rw [dif_pos (show 1 ≤ (512 + (h.val * 128 + b.val)) / 512 ∧ (512 + (h.val * 128 + b.val)) / 512 - 1 < 1 by omega),
    dif_neg (show ¬ (512 + (h.val * 128 + b.val)) / 512 < 1 by omega), add_zero]

theorem dwOf_at (D : FVec Ideal S256x1024 .f32) (M : FVec Ideal S256x2048 .f32) (a : Fin 2048) (l : Fin 1024) :
    dwOf D M (ix2 a l) = ∑ r : Fin 256, D (ix2 r l) * M (ix2 r a) := by
  pointwise [dwOf]

theorem scaled_at (x : FVec Ideal S256x2048 .f32) (r : Fin 256) (l : Fin 2048) :
    scaled x (ix2 r l) = x (ix2 r l) * Cert.NormTerms.scale (fun z => x (ix2 r z)) := by
  pointwise [scaled, Cert.NormTerms.scale]

theorem dgOf_at (D : FVec Ideal S256x1024 .f32) (x : FVec Ideal S256x2048 .f32) (w : FVec Ideal S2048x1024 .bf16) (l : Fin 2048) :
    dgOf D x w (ix2 0 l) = ∑ r : Fin 256, scaled x (ix2 r l) * ∑ k : Fin 1024, D (ix2 r k) * w (ix2 l k) := by
  unfold dgOf; generalize scaled x = X; pointwise []

/-- A sum over the two leading axes is a double sum. -/
theorem sum_leading {n0 n1 n2 : Nat} (h : (⟨3, ![n0, n1, n2]⟩ : Shape).ReducesTo [0, 1] ⟨1, ![n2]⟩)
    (x : (⟨3, ![n0, n1, n2]⟩ : Shape).Idx → EReal) (c : EReal) (b : Fin n2) :
    Ideal.hostReduceAdd h x c (ix1 b) = c + ∑ r : Fin n0, ∑ g : Fin n1, x (ix3 r g b) := by
  unfold Ideal.hostReduceAdd
  congr 1
  rw [← Fintype.sum_prod_type' (f := fun r g => x (ix3 r g b))]
  symm
  refine Finset.sum_nbij' (fun p => ix3 p.1 p.2 b) (fun i => (i 0, i 1)) (fun p _ => ?_) (fun i _ => Finset.mem_univ _) (fun p _ => rfl)
    (fun i hi => ?_) (fun p _ => rfl)
  · refine Finset.mem_filter.mpr ⟨Finset.mem_univ _, ?_⟩
    funext d
    apply Fin.ext
    match d with
    | ⟨0, _⟩ => rfl
  · rw [Finset.mem_filter] at hi
    funext d
    apply Fin.ext
    match d with
    | ⟨0, _⟩ => rfl
    | ⟨1, _⟩ => rfl
    | ⟨2, _⟩ => exact (congrArg Fin.val (congrFun hi.2 0)).symm

theorem dgkOf_at (b : Fin 128) : dgkOf H E (ix2 0 b) = ∑ r : Fin 256, ∑ h : Fin 4, xhat H (ix3 r h b) * E (ix3 r h b) := by
  unfold dgkOf; generalize xhat H = X
  have e : Host.reduceAdd (mulf X E) (constant S_ .f32 0x00000000#32) reducesTo_S256x4x128_S128_d0_1 h_S_ (ix1 b)
      = ∑ r : Fin 256, ∑ h : Fin 4, X (ix3 r h b) * E (ix3 r h b) := by
    refine (sum_leading reducesTo_S256x4x128_S128_d0_1 (mulf X E) _ b).trans ?_
    pointwise []
  rw [← e]
  generalize Host.reduceAdd (mulf X E) (constant S_ .f32 0x00000000#32) reducesTo_S256x4x128_S128_d0_1 h_S_ = V
  have k : shapeCast S1x1x128 V shapeCasts_S128_S1x1x128 (ix3 0 0 b) = V (ix1 b) := by pointwise []
  pointwise []
  refine (sum_leading reducesTo_S1x1x128_S128_d0_1 (shapeCast S1x1x128 V shapeCasts_S128_S1x1x128) _ b).trans ?_
  rw [zero_add, Fin.sum_univ_one, Fin.sum_univ_one, k]

end Cert.RefMemKvBwdIdeal.Value

namespace Cert.MemKvBwdIdeal.Value

open Cert.MemKvBwdIdeal Cert.MemKvBwdIdeal.Gen Idealize.ShloMosaic Idealize.ShloMosaic.TcCoe Idealize.SL.Sem
open Idealize.ShloMosaic.Pipeline (Dat)

/-! ## One head -/

variable (a d : Vec Ideal S256x128 .f32) (gk : Vec Ideal S1x128 .f32)

/-- A head's gradient at a row. -/
abbrev backAt (r : Fin 256) (b : Fin 128) : EReal :=
  Cert.MemTerms.back (fun z => d (ix2 r z)) (fun z => a (ix2 r z)) (fun z => gk (ix2 0 z)) b

/-- The third head's gradient. -/
def third : FVec Ideal S256x128 .f32 :=
  mulf (broadcastTo S256x128 (k0_pay15 (F := Ideal) a) broadcasts_S256x1_S256x128) (subf (k0_pay17 d gk) (k0_pay18 a d gk))

/-- The fourth head's gradient. -/
def fourth : FVec Ideal S256x128 .f32 :=
  mulf (broadcastTo S256x128 (k0_pay20 (F := Ideal) a) broadcasts_S256x1_S256x128)
    (subf (mulf d (broadcastTo S256x128 gk broadcasts_S1x128_S256x128)) (mulf (k0_pay21 a) (broadcastTo S256x128
      (divf (shapeCast S256x1 (multiReduction .add [1] S256 (mulf (mulf d (broadcastTo S256x128 gk broadcasts_S1x128_S256x128)) (k0_pay21 a)) 0x00000000#32 reduces_S256x128_S256 (.inl rfl) rfl) shapeCasts_S256_S256x1)
        (broadcast S256x1 (Scalar.ofBits .f32 0x43000000#32))) broadcasts_S256x1_S256x128)))

theorem first_at (r : Fin 256) (b : Fin 128) : k0_pay6 (F := Ideal) a d gk (ix2 r b) = backAt a d gk r b := by
  pointwise [k0_pay6, k0_pay5, k0_pay4, k0_pay3, backAt, Cert.MemTerms.back, Cert.MemTerms.scale]

theorem second_at (r : Fin 256) (b : Fin 128) :
    k0_pay12 (F := Ideal) (k0_pay8 a) (k0_pay9 a) (k0_pay10 a) d gk (ix2 r b) = backAt a d gk r b := by
  pointwise [k0_pay12, k0_pay11, k0_pay10, k0_pay9, k0_pay8, backAt, Cert.MemTerms.back, Cert.MemTerms.scale]

theorem third_at (r : Fin 256) (b : Fin 128) : third a d gk (ix2 r b) = backAt a d gk r b := by
  pointwise [third, k0_pay18, k0_pay17, k0_pay16, k0_pay15, k0_pay14, backAt, Cert.MemTerms.back, Cert.MemTerms.scale]

theorem fourth_at (r : Fin 256) (b : Fin 128) : fourth a d gk (ix2 r b) = backAt a d gk r b := by
  pointwise [fourth, k0_pay21, k0_pay20, k0_pay19, backAt, Cert.MemTerms.back, Cert.MemTerms.scale]

/-! ## The heads beside the values -/

/-- Four heads beside the values. -/
def joined (A B C D : FVec Ideal S256x128 .f32) (E : FVec Ideal S256x512 .f32) : FVec Ideal S256x1024 .bf16 :=
  truncf .bf16 (concatenate S256x1024 1 [⟨S256x128, A⟩, ⟨S256x128, B⟩, ⟨S256x128, C⟩, ⟨S256x128, D⟩, ⟨S256x512, E⟩]
    concatenates_S256x128_S256x128_S256x128_S256x128_S256x512_S256x1024_d1) bitsLt_bf16_f32

theorem joined_at (A B C D : FVec Ideal S256x128 .f32) (E : FVec Ideal S256x512 .f32) (r : Fin 256) (b : Fin 128) :
    joined A B C D E (ix2 r ⟨b.val, by omega⟩) = A (ix2 r b) ∧ joined A B C D E (ix2 r ⟨128 + b.val, by omega⟩) = B (ix2 r b) := by
  refine ⟨?_, ?_⟩ <;> pointwise [joined]

theorem joined_third (A B C D : FVec Ideal S256x128 .f32) (E : FVec Ideal S256x512 .f32) (r : Fin 256) (b : Fin 128) :
    joined A B C D E (ix2 r ⟨256 + b.val, by omega⟩) = C (ix2 r b) := by
  pointwise [joined]
  rw [dif_neg (show ¬ 256 + b.val < 128 by omega), dif_neg (show ¬ 256 + b.val - 128 < 128 by omega), dif_pos (show 256 + b.val - 128 - 128 < 128 by omega)]
  exact congrArg (fun z => C (ix2 r z)) (Fin.ext (by show 256 + b.val - 128 - 128 = b.val; omega))

theorem joined_fourth (A B C D : FVec Ideal S256x128 .f32) (E : FVec Ideal S256x512 .f32) (r : Fin 256) (b : Fin 128) :
    joined A B C D E (ix2 r ⟨384 + b.val, by omega⟩) = D (ix2 r b) := by
  pointwise [joined]
  rw [dif_neg (show ¬ 384 + b.val < 128 by omega), dif_neg (show ¬ 384 + b.val - 128 < 128 by omega),
    dif_neg (show ¬ 384 + b.val - 128 - 128 < 128 by omega), dif_pos (show 384 + b.val - 128 - 128 - 128 < 128 by omega)]
  exact congrArg (fun z => D (ix2 r z)) (Fin.ext (by show 384 + b.val - 128 - 128 - 128 = b.val; omega))

theorem joined_right (A B C D : FVec Ideal S256x128 .f32) (E : FVec Ideal S256x512 .f32) (r : Fin 256) (l : Fin 512) :
    joined A B C D E (ix2 r ⟨512 + l.val, by omega⟩) = E (ix2 r l) := by
  pointwise [joined]
  rw [dif_neg (show ¬ 512 + l.val < 128 by omega), dif_neg (show ¬ 512 + l.val - 128 < 128 by omega),
    dif_neg (show ¬ 512 + l.val - 128 - 128 < 128 by omega), dif_neg (show ¬ 512 + l.val - 128 - 128 - 128 < 128 by omega)]
  exact congrArg (fun z => E (ix2 r z)) (Fin.ext (by show 512 + l.val - 128 - 128 - 128 - 128 = l.val; omega))

/-! ## The pieces against the reference -/

/-- A tile of 128 columns of a wide array. -/
theorem cols_at {n w : Nat} {e : EltTy} (o : Nat) (X : Vec Ideal ⟨2, ![n, w]⟩ e)
    (inb : ∀ a, (![0, o] : Fin 2 → ℕ) a + (![n, 128] : Fin 2 → ℕ) a ≤ (⟨2, ![n, w]⟩ : Shape).size a) (r : Fin n) (x : Fin 128)
    (l : Fin w) (hl : l.val = o + x.val) : View.ld X (Rect.unit (s := ⟨2, ![n, w]⟩) ![0, o] ![n, 128] inb) (ix2 r x) = X (ix2 r l) :=
  View.ld_unit_apply_of X _ _ inb _ _ fun a => by
    match a with
    | ⟨0, _⟩ => exact (Nat.zero_add _).symm
    | ⟨1, _⟩ => exact hl

variable (K : FVec Ideal S256x1024 .f32) (dk dv : FVec Ideal S256x512 .f32)

/-- A head's gradient is the reference's at the head's columns. -/
theorem head_eq (h : Fin 4) (ha : ∀ r z, a (ix2 r z) = K (ix2 r ⟨h.val * 128 + z.val, by omega⟩))
    (hd : ∀ r z, d (ix2 r z) = dk (ix2 r ⟨h.val * 128 + z.val, by omega⟩)) (r : Fin 256) (b : Fin 128) :
    backAt a d gk r b = Cert.RefMemKvBwdIdeal.Value.dkv K gk dk dv (ix2 r ⟨h.val * 128 + b.val, by omega⟩) := by
  rw [Cert.RefMemKvBwdIdeal.Value.dkv, Cert.RefMemKvBwdIdeal.Value.beside_left,
    Cert.RefMemKvBwdIdeal.Value.dH_is _ _ (fun z => dk (ix2 r ⟨h.val * 128 + z.val, by omega⟩)) (fun z => gk (ix2 0 z)) r h
      (fun z => by rw [Cert.RefMemKvBwdIdeal.Value.dyg_at, Cert.RefMemKvBwdIdeal.Value.byHead_at]) b, ← Cert.MemTerms.back_eq]
  unfold backAt
  have e1 : (fun z => a (ix2 r z)) = fun z => Cert.RefMemKvIdeal.Value.heads K (ix3 r h z) :=
    funext fun z => (ha r z).trans (Cert.RefMemKvIdeal.Value.heads_at K r h z).symm
  have e2 : (fun z => d (ix2 r z)) = fun z => dk (ix2 r ⟨h.val * 128 + z.val, by omega⟩) := funext fun z => hd r z
  rw [e1, e2]

/-- A column of the left half lies in a head. -/
theorem left_col (P : Fin 1024 → Prop) (h0 : ∀ b : Fin 128, P ⟨b.val, by omega⟩) (h1 : ∀ b : Fin 128, P ⟨128 + b.val, by omega⟩)
    (h2 : ∀ b : Fin 128, P ⟨256 + b.val, by omega⟩) (h3 : ∀ b : Fin 128, P ⟨384 + b.val, by omega⟩)
    (h4 : ∀ b : Fin 512, P ⟨512 + b.val, by omega⟩) (l : Fin 1024) : P l := by
  by_cases c0 : l.val < 128
  · exact h0 ⟨l.val, c0⟩
  by_cases c1 : l.val < 256
  · have := h1 ⟨l.val - 128, by omega⟩
    rwa [show (⟨128 + (l.val - 128), by omega⟩ : Fin 1024) = l from Fin.ext (by show 128 + (l.val - 128) = l.val; omega)] at this
  by_cases c2 : l.val < 384
  · have := h2 ⟨l.val - 256, by omega⟩
    rwa [show (⟨256 + (l.val - 256), by omega⟩ : Fin 1024) = l from Fin.ext (by show 256 + (l.val - 256) = l.val; omega)] at this
  by_cases c3 : l.val < 512
  · have := h3 ⟨l.val - 384, by omega⟩
    rwa [show (⟨384 + (l.val - 384), by omega⟩ : Fin 1024) = l from Fin.ext (by show 384 + (l.val - 384) = l.val; omega)] at this
  have := h4 ⟨l.val - 512, by omega⟩
  rwa [show (⟨512 + (l.val - 512), by omega⟩ : Fin 1024) = l from Fin.ext (by show 512 + (l.val - 512) = l.val; omega)] at this

/-- The right half of the reference's is the values' gradient. -/
theorem right_eq (r : Fin 256) (l : Fin 512) :
    Cert.RefMemKvBwdIdeal.Value.dkv K gk dk dv (ix2 r ⟨512 + l.val, by omega⟩) = dv (ix2 r l) := by
  have key := Cert.RefMemKvBwdIdeal.Value.beside_right (Cert.RefMemKvBwdIdeal.Value.dH (Cert.RefMemKvIdeal.Value.heads K) (Cert.RefMemKvBwdIdeal.Value.dyg dk gk)) dv
    r ⟨l.val / 128, by omega⟩ ⟨l.val % 128, by omega⟩
  rw [Cert.RefMemKvBwdIdeal.Value.byHead_at] at key
  have e : l.val / 128 * 128 + l.val % 128 = l.val := by omega
  rw [show (⟨512 + (l.val / 128 * 128 + l.val % 128), by omega⟩ : Fin 1024) = ⟨512 + l.val, by omega⟩ from Fin.ext (by show 512 + (l.val / 128 * 128 + l.val % 128) = 512 + l.val; omega)] at key
  rw [show (⟨l.val / 128 * 128 + l.val % 128, by omega⟩ : Fin 512) = l from Fin.ext e] at key
  exact key

variable (x0 : Vec Ideal S256x2048 .f32) (x1 : Vec Ideal S1x2048 .f32) (x2 : Vec Ideal S2048x1024 .bf16) (x3 : Vec Ideal S1x128 .f32)
  (x4 : Vec Ideal S256x2048 .bf16) (x5 : Vec Ideal S256x1024 .f32) (x6 : Vec Ideal S256x512 .f32) (x7 : Vec Ideal S256x512 .f32)

theorem zeros : (![0, 0] : Fin 2 → Nat) = fun _ => 0 := funext fun a => by fin_cases a <;> rfl

/-- The projection's gradient as the kernel joins it. -/
theorem pay27_at (r : Fin 256) (l : Fin 1024) : k0_pay27 x0 x1 x2 x3 x4 x5 x6 x7 (ix2 r l)
    = Cert.RefMemKvBwdIdeal.Value.dkv x5 x3 x6 x7 (ix2 r l) := by
  have e : k0_pay27 x0 x1 x2 x3 x4 x5 x6 x7
      = joined (k0_pay6 (F := Ideal) (View.ld x5 r0_0) (View.ld x6 r0_1) x3)
        (k0_pay12 (F := Ideal) (k0_pay8 (View.ld x5 r0_3)) (k0_pay9 (View.ld x5 r0_3)) (k0_pay10 (View.ld x5 r0_3)) (View.ld x6 r0_4) x3)
        (third (View.ld x5 r0_5) (View.ld x6 r0_6) x3) (fourth (View.ld x5 r0_7) (View.ld x6 r0_8) x3) x7 := by
    unfold k0_pay27 k0_pay26 k0_pay25
    rw [View.ld_unit_zero (S := S1x128) zeros _ x3, View.ld_unit_zero (S := S256x512) zeros _ x7]
    rfl
  rw [e]
  refine left_col (fun l => joined _ _ _ _ _ (ix2 r l) = Cert.RefMemKvBwdIdeal.Value.dkv x5 x3 x6 x7 (ix2 r l)) (fun b => ?_) (fun b => ?_) (fun b => ?_) (fun b => ?_) (fun b => ?_) l
  · refine (joined_at _ _ _ _ _ r b).1.trans ((first_at _ _ _ r b).trans ((head_eq _ _ x3 x5 x6 x7 0 (fun r z => cols_at 0 _ _ r z _ (by simp)) (fun r z => cols_at 0 _ _ r z _ (by simp)) r b).trans ?_))
    exact congrArg (fun z => Cert.RefMemKvBwdIdeal.Value.dkv x5 x3 x6 x7 (ix2 r z)) (Fin.ext (Nat.zero_add _))
  · exact (joined_at _ _ _ _ _ r b).2.trans ((second_at _ _ _ r b).trans (head_eq _ _ x3 x5 x6 x7 1 (fun r z => cols_at 128 _ _ r z _ rfl) (fun r z => cols_at 128 _ _ r z _ rfl) r b))
  · exact (joined_third _ _ _ _ _ r b).trans ((third_at _ _ _ r b).trans (head_eq _ _ x3 x5 x6 x7 2 (fun r z => cols_at 256 _ _ r z _ rfl) (fun r z => cols_at 256 _ _ r z _ rfl) r b))
  · exact (joined_fourth _ _ _ _ _ r b).trans ((fourth_at _ _ _ r b).trans (head_eq _ _ x3 x5 x6 x7 3 (fun r z => cols_at 384 _ _ r z _ rfl) (fun r z => cols_at 384 _ _ r z _ rfl) r b))
  · exact (joined_right _ _ _ _ _ r b).trans (right_eq x3 x5 x6 x7 r b).symm

theorem pay1_at (D : FVec Ideal S256x1024 .bf16) (M : FVec Ideal S256x2048 .bf16) (i : Fin 2048) (l : Fin 1024) :
    k0_pay1 (F := Ideal) D (k0_pay24 M) (constant S2048x1024 .f32 0x00000000#32) (ix2 i l) = ∑ r : Fin 256, M (ix2 r i) * D (ix2 r l) := by
  pointwise [k0_pay1, k0_pay24]

theorem pay2_at (D : FVec Ideal S256x1024 .bf16) (w : FVec Ideal S2048x1024 .bf16) (x : FVec Ideal S256x2048 .f32) (l : Fin 2048) :
    k0_pay2 (F := Ideal) D w x (ix2 0 l)
      = ∑ r : Fin 256, (∑ k : Fin 1024, D (ix2 r k) * w (ix2 l k)) * (x (ix2 r l) * Cert.NormTerms.scale (fun z => x (ix2 r z))) := by
  pointwise [k0_pay2, Cert.NormTerms.scale]

/-- A head's part of the gain's gradient. -/
def gainPart (a d : FVec Ideal S256x128 .f32) (b : Fin 128) : EReal :=
  ∑ r : Fin 256, d (ix2 r b) * (a (ix2 r b) * Cert.MemTerms.scale (fun z => a (ix2 r z)))

theorem pay22_at (a0 d0 a1 d1 a2 d2 a3 d3 : Vec Ideal S256x128 .f32) (b : Fin 128) :
    k0_pay22 (F := Ideal) (k0_pay13 (k0_pay7 a0 d0) (k0_pay8 a1) (k0_pay10 a1) d1) (k0_pay16 a2) d2 a3 d3 (ix2 0 b)
      = gainPart a0 d0 b + gainPart a1 d1 b + gainPart a2 d2 b + gainPart a3 d3 b := by
  pointwise [k0_pay22, k0_pay21, k0_pay20, k0_pay19, k0_pay16, k0_pay15, k0_pay14, k0_pay13, k0_pay11, k0_pay10, k0_pay9, k0_pay8, k0_pay7, k0_pay5, k0_pay4, k0_pay3, gainPart, Cert.MemTerms.scale]

/-- A head's part is the reference's. -/
theorem gain_eq (h : Fin 4) (ha : ∀ r z, a (ix2 r z) = K (ix2 r ⟨h.val * 128 + z.val, by omega⟩))
    (hd : ∀ r z, d (ix2 r z) = dk (ix2 r ⟨h.val * 128 + z.val, by omega⟩)) (b : Fin 128) :
    gainPart a d b = ∑ r : Fin 256, Cert.RefMemKvBwdIdeal.Value.xhat (Cert.RefMemKvIdeal.Value.heads K) (ix3 r h b) * Cert.RefMemKvBwdIdeal.Value.byHead dk (ix3 r h b) := by
  refine Finset.sum_congr rfl fun r _ => ?_
  have e1 : (fun z => a (ix2 r z)) = fun z => Cert.RefMemKvIdeal.Value.heads K (ix3 r h z) :=
    funext fun z => (ha r z).trans (Cert.RefMemKvIdeal.Value.heads_at K r h z).symm
  rw [Cert.RefMemKvBwdIdeal.Value.xhat_at, Cert.RefMemKvBwdIdeal.Value.byHead_at, e1, hd, mul_comm, congrFun e1 b]

theorem out8_eq (M : FVec Ideal S256x2048 .f32) (hM : ∀ r i, x4 (ix2 r i) = M (ix2 r i)) :
    out0_8 x0 x1 x2 x3 x4 x5 x6 x7 = Cert.RefMemKvBwdIdeal.Value.dwOf (Cert.RefMemKvBwdIdeal.Value.dkv x5 x3 x6 x7) M := by
  unfold out0_8
  rw [View.canon_unit_zero zeros, View.ld_unit_zero (S := S256x2048) zeros _ x4]
  funext i
  obtain ⟨u, l, rfl⟩ : ∃ (u : Fin 2048) (l : Fin 1024), i = ix2 u l := ⟨i 0, i 1, (ix2_eta i).symm⟩
  rw [pay1_at, Cert.RefMemKvBwdIdeal.Value.dwOf_at]
  exact Finset.sum_congr rfl fun r _ => (congrArg₂ (fun p q : EReal => p * q) (hM r u) (pay27_at x0 x1 x2 x3 x4 x5 x6 x7 r l)).trans (mul_comm _ _)

theorem out9_eq : out0_9 x0 x1 x2 x3 x4 x5 x6 x7 = Cert.RefMemKvBwdIdeal.Value.dgOf (Cert.RefMemKvBwdIdeal.Value.dkv x5 x3 x6 x7) x0 x2 := by
  unfold out0_9
  rw [View.canon_unit_zero zeros, View.ld_unit_zero (S := S256x2048) zeros _ x0, View.ld_unit_zero (S := S2048x1024) zeros _ x2]
  funext i
  obtain ⟨u, l, rfl⟩ : ∃ (u : Fin 1) (l : Fin 2048), i = ix2 u l := ⟨i 0, i 1, (ix2_eta i).symm⟩
  obtain rfl : u = 0 := Subsingleton.elim _ _
  rw [pay2_at, Cert.RefMemKvBwdIdeal.Value.dgOf_at]
  refine Finset.sum_congr rfl fun r _ => ?_
  rw [Cert.RefMemKvBwdIdeal.Value.scaled_at]
  exact (mul_comm _ _).trans (congrArg (fun z : EReal => _ * z) (Finset.sum_congr rfl fun k _ =>
    congrArg (fun z : EReal => z * (x2 (ix2 l k) : EReal)) (pay27_at x0 x1 x2 x3 x4 x5 x6 x7 r k)))

theorem out10_eq : out0_10 x0 x1 x2 x3 x4 x5 x6 x7
    = Cert.RefMemKvBwdIdeal.Value.dgkOf (Cert.RefMemKvIdeal.Value.heads x5) (Cert.RefMemKvBwdIdeal.Value.byHead x6) := by
  unfold out0_10 k0_pay26 k0_pay25
  rw [View.canon_unit_zero zeros]
  funext i
  obtain ⟨u, b, rfl⟩ : ∃ (u : Fin 1) (b : Fin 128), i = ix2 u b := ⟨i 0, i 1, (ix2_eta i).symm⟩
  obtain rfl : u = 0 := Subsingleton.elim _ _
  rw [pay22_at, Cert.RefMemKvBwdIdeal.Value.dgkOf_at, Finset.sum_comm, Fin.sum_univ_four]
  rw [gain_eq _ _ x5 x6 0 (fun r z => cols_at 0 _ _ r z _ (by simp)) (fun r z => cols_at 0 _ _ r z _ (by simp)),
    gain_eq _ _ x5 x6 1 (fun r z => cols_at 128 _ _ r z _ rfl) (fun r z => cols_at 128 _ _ r z _ rfl),
    gain_eq _ _ x5 x6 2 (fun r z => cols_at 256 _ _ r z _ rfl) (fun r z => cols_at 256 _ _ r z _ rfl),
    gain_eq _ _ x5 x6 3 (fun r z => cols_at 384 _ _ r z _ rfl) (fun r z => cols_at 384 _ _ r z _ rfl)]

/-! ## The run -/

variable (m : (ℓ : Loc nD τ sig) → Buf (Elt Ideal) ℓ)

/-- Every array is staged whole. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] :=
  (by decide +kernel : ∀ t : Fin grid0.N, _)

/-- The arrays. -/
abbrev arr0 (c : Dev nD) : FVec Ideal S256x2048 .f32 := m ((c : Thread nD τ).loc main_arg0)
abbrev arr1 (c : Dev nD) : FVec Ideal S1x2048 .f32 := m ((c : Thread nD τ).loc main_arg1)
abbrev arr2 (c : Dev nD) : FVec Ideal S2048x1024 .bf16 := m ((c : Thread nD τ).loc main_arg2)
abbrev arr3 (c : Dev nD) : FVec Ideal S1x128 .f32 := m ((c : Thread nD τ).loc main_arg3)
def arr4 (c : Dev nD) : FVec Ideal S256x2048 .bf16 := V m c main_v34
def arr5 (c : Dev nD) : FVec Ideal S256x1024 .f32 := V m c main_v13
abbrev arr6 (c : Dev nD) : FVec Ideal S256x512 .f32 := m ((c : Thread nD τ).loc main_arg4)
abbrev arr7 (c : Dev nD) : FVec Ideal S256x512 .f32 := m ((c : Thread nD τ).loc main_arg5)

theorem blk0 (c : Dev nD) (t : Fin cfg0.N) : (iblk m c 0 t : FVec Ideal S256x2048 .f32) = arr0 m c := by
  refine funext fun i => ?_
  obtain ⟨r, l, rfl⟩ : ∃ (r : Fin 256) (l : Fin 2048), i = ix2 r l := ⟨i 0, i 1, (ix2_eta i).symm⟩
  blk_point [iblk, V, idx t]

theorem blk2 (c : Dev nD) (t : Fin cfg0.N) : (iblk m c 2 t : FVec Ideal S2048x1024 .bf16) = arr2 m c := by
  refine funext fun i => ?_
  obtain ⟨r, l, rfl⟩ : ∃ (r : Fin 2048) (l : Fin 1024), i = ix2 r l := ⟨i 0, i 1, (ix2_eta i).symm⟩
  blk_point [iblk, V, idx t]

theorem blk3 (c : Dev nD) (t : Fin cfg0.N) : (iblk m c 3 t : FVec Ideal S1x128 .f32) = arr3 m c := by
  refine funext fun i => ?_
  obtain ⟨r, l, rfl⟩ : ∃ (r : Fin 1) (l : Fin 128), i = ix2 r l := ⟨i 0, i 1, (ix2_eta i).symm⟩
  blk_point [iblk, V, idx t]

theorem blk4 (c : Dev nD) (t : Fin cfg0.N) : (iblk m c 4 t : FVec Ideal S256x2048 .bf16) = arr4 m c := by
  refine funext fun i => ?_
  obtain ⟨r, l, rfl⟩ : ∃ (r : Fin 256) (l : Fin 2048), i = ix2 r l := ⟨i 0, i 1, (ix2_eta i).symm⟩
  unfold arr4; blk_point [iblk, idx t]

theorem blk5 (c : Dev nD) (t : Fin cfg0.N) : (iblk m c 5 t : FVec Ideal S256x1024 .f32) = arr5 m c := by
  refine funext fun i => ?_
  obtain ⟨r, l, rfl⟩ : ∃ (r : Fin 256) (l : Fin 1024), i = ix2 r l := ⟨i 0, i 1, (ix2_eta i).symm⟩
  unfold arr5; blk_point [iblk, idx t]

theorem blk6 (c : Dev nD) (t : Fin cfg0.N) : (iblk m c 6 t : FVec Ideal S256x512 .f32) = arr6 m c := by
  refine funext fun i => ?_
  obtain ⟨r, l, rfl⟩ : ∃ (r : Fin 256) (l : Fin 512), i = ix2 r l := ⟨i 0, i 1, (ix2_eta i).symm⟩
  blk_point [iblk, V, idx t]

theorem blk7 (c : Dev nD) (t : Fin cfg0.N) : (iblk m c 7 t : FVec Ideal S256x512 .f32) = arr7 m c := by
  refine funext fun i => ?_
  obtain ⟨r, l, rfl⟩ : ∃ (r : Fin 256) (l : Fin 512), i = ix2 r l := ⟨i 0, i 1, (ix2_eta i).symm⟩
  blk_point [iblk, V, idx t]

/-- The normed rows handed to the kernel are the forward's. -/
theorem arr4_eq (c : Dev nD) (r : Fin 256) (l : Fin 2048) : arr4 m c (ix2 r l) = Cert.RefMemKvIdeal.Value.rows (arr0 m c) (arr1 m c) (ix2 r l) := by
  have e : arr4 m c = truncf .bf16 (Cert.RefMemKvIdeal.Value.rows (arr0 m c) (arr1 m c)) bitsLt_bf16_f32 := by
    unfold arr4
    entry_read
    rfl
  rw [e]
  generalize Cert.RefMemKvIdeal.Value.rows (arr0 m c) (arr1 m c) = M
  pointwise []

/-- The projection handed to the kernel is the forward's. -/
theorem arr5_eq (c : Dev nD) : arr5 m c = Cert.RefMemKvIdeal.Value.kv (arr0 m c) (arr1 m c) (arr2 m c) := by
  unfold arr5
  entry_read
  rfl

/-- The weight's gradient is the reference's. -/
theorem end_dw (c : Dev nD) : (dats m 0 c).arrAt 8 cfg0.N
    = Cert.RefMemKvBwdIdeal.Value.dw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  have key := congrFun ((out8_eq (iblk m c 0 t) (iblk m c 1 t) (iblk m c 2 t) (iblk m c 3 t) (iblk m c 4 t) (iblk m c 5 t) (iblk m c 6 t) (iblk m c 7 t)
    (Cert.RefMemKvIdeal.Value.rows (arr0 m c) (arr1 m c)) (fun r i => (congrFun (blk4 m c t) _).trans (arr4_eq m c r i))).trans
    (congrArg (fun D => Cert.RefMemKvBwdIdeal.Value.dwOf D _) (congr (congr (congr (congrArg Cert.RefMemKvBwdIdeal.Value.dkv ((blk5 m c t).trans (arr5_eq m c))) (blk3 m c t)) (blk6 m c t)) (blk7 m c t)))) y
  blk_simp
  rw [after0_8]
  refine key.trans ?_
  refine congrArg (Cert.RefMemKvBwdIdeal.Value.dw (arr0 m c) (arr1 m c) (arr2 m c) (arr3 m c) (arr6 m c) (arr7 m c)) ?_
  blk_ext [idx t]

/-- The rows' gain's gradient is the reference's. -/
theorem end_dg (c : Dev nD) : (dats m 0 c).arrAt 9 cfg0.N
    = Cert.RefMemKvBwdIdeal.Value.dg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  have key := congrFun ((out9_eq (iblk m c 0 t) (iblk m c 1 t) (iblk m c 2 t) (iblk m c 3 t) (iblk m c 4 t) (iblk m c 5 t) (iblk m c 6 t) (iblk m c 7 t)).trans
    (congr (congr (congrArg Cert.RefMemKvBwdIdeal.Value.dgOf (congr (congr (congr (congrArg Cert.RefMemKvBwdIdeal.Value.dkv ((blk5 m c t).trans (arr5_eq m c))) (blk3 m c t)) (blk6 m c t)) (blk7 m c t))) (blk0 m c t)) (blk2 m c t))) y
  blk_simp
  rw [after0_9]
  refine key.trans ?_
  refine congrArg (Cert.RefMemKvBwdIdeal.Value.dg (arr0 m c) (arr1 m c) (arr2 m c) (arr3 m c) (arr6 m c) (arr7 m c)) ?_
  blk_ext [idx t]

/-- The heads' gain's gradient is the reference's. -/
theorem end_dgk (c : Dev nD) : (dats m 0 c).arrAt 10 cfg0.N
    = Cert.RefMemKvBwdIdeal.Value.dgk (m ((c : Thread nD τ).loc main_arg0)) (m ((c : Thread nD τ).loc main_arg1)) (m ((c : Thread nD τ).loc main_arg2)) (m ((c : Thread nD τ).loc main_arg4)) := by
  refine (dats m 0 c).arrAt_eq_of_covers 10 _ (by decide +kernel) fun t hf y => ?_
  have key := congrFun ((out10_eq (iblk m c 0 t) (iblk m c 1 t) (iblk m c 2 t) (iblk m c 3 t) (iblk m c 4 t) (iblk m c 5 t) (iblk m c 6 t) (iblk m c 7 t)).trans
    (congr (congrArg Cert.RefMemKvBwdIdeal.Value.dgkOf (congrArg Cert.RefMemKvIdeal.Value.heads ((blk5 m c t).trans (arr5_eq m c)))) (congrArg Cert.RefMemKvBwdIdeal.Value.byHead (blk6 m c t)))) y
  blk_simp
  rw [after0_10]
  refine key.trans ?_
  refine congrArg (Cert.RefMemKvBwdIdeal.Value.dgk (arr0 m c) (arr1 m c) (arr2 m c) (arr6 m c)) ?_
  blk_ext [idx t]

end Cert.MemKvBwdIdeal.Value

end
-- ==== Proof.DwDown.lean ====
module

public import proofs.«01_k».proof.Proof.Gen.DwDownIdeal.Value
public import proofs.«01_k».proof.Proof.Gen.RefDwDownIdeal.Run
public import proofs.«01_k».proof.Proof.Gen.DwDown.Frame
public import Idealize.ShloMosaic.Lib.Pointwise
public import Idealize.ShloMosaic.Lib.Pipeline.ValueKit

@[expose] public section

set_option maxRecDepth 16384

noncomputable section

/-! The gradient of the down projection's weight: each block is that block of the reference's product. -/

namespace Cert.RefDwDownIdeal.Value

open Cert.RefDwDownIdeal Cert.RefDwDownIdeal.Gen Idealize.ShloMosaic Idealize.SL.Sem

/-- The reference's gradient: the gradient of a product by its right factor. -/
def dw (a : FVec Ideal S4096x5632 .bf16) (d : FVec Ideal S4096x2048 .bf16) : FVec Ideal S5632x2048 .f32 :=
  transpose S5632x2048 [1, 0] (Host.dotGeneral dot_S4096x2048_S4096x5632_S2048x5632_0_0_1_1_n_n none
    (extf .f32 d bitsLt_bf16_f32) (extf .f32 a bitsLt_bf16_f32)) transposes_S2048x5632_S5632x2048_1_0

/-- An entry: a sum over the rows. -/
theorem dw_at (a : FVec Ideal S4096x5632 .bf16) (d : FVec Ideal S4096x2048 .bf16) (r : Fin 5632) (l : Fin 2048) :
    dw a d (ix2 r l) = ∑ k : Fin 4096, a (ix2 k r) * d (ix2 k l) := by
  have h : dw a d (ix2 r l) = ∑ k : Fin 4096, d (ix2 k l) * a (ix2 k r) := by pointwise [dw]
  exact h.trans (Finset.sum_congr rfl fun k _ => mul_comm _ _)

end Cert.RefDwDownIdeal.Value

namespace Cert.DwDownIdeal.Value

open Cert.DwDownIdeal Cert.DwDownIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- An entry of a block's product. -/
theorem pay_at (v0 : FVec Ideal S4096x512 .bf16) (v1 : FVec Ideal S4096x1024 .bf16) (r : Fin 512) (l : Fin 1024) :
    k0_pay1 (F := Ideal) v0 v1 (ix2 r l) = ∑ k : Fin 4096, v0 (ix2 k r) * v1 (ix2 k l) := by
  pointwise [k0_pay1]

/-- A point's block of the activations. -/
theorem blk0 (c : Dev nD) (t : Fin cfg0.N) (k : Fin 4096) (r : Fin 512) (R : Fin 5632) (hR : R.val = t.val / 2 * 512 + r.val) :
    (show FVec Ideal S4096x512 .bf16 from iblk m c 0 t) (ix2 k r)
      = (m ((c : Thread nD τ).loc main_arg0) : FVec Ideal S4096x5632 .bf16) (ix2 k R) := by
  blk_point [iblk, V, idx t]

/-- A point's block of the output's gradient. -/
theorem blk1 (c : Dev nD) (t : Fin cfg0.N) (k : Fin 4096) (l : Fin 1024) (L : Fin 2048) (hL : L.val = t.val % 2 * 1024 + l.val) :
    (show FVec Ideal S4096x1024 .bf16 from iblk m c 1 t) (ix2 k l)
      = (m ((c : Thread nD τ).loc main_arg1) : FVec Ideal S4096x2048 .bf16) (ix2 k L) := by
  blk_point [iblk, V, idx t]

/-- The array at the end is the reference's gradient. -/
theorem final (c : Dev nD) : (dats m 0 c).arrAt 2 cfg0.N
    = Cert.RefDwDownIdeal.Value.dw (m ((c : Thread nD τ).loc main_arg0)) (m ((c : Thread nD τ).loc main_arg1)) := by
  refine (dats m 0 c).arrAt_eq_of_covers 2 _ (by decide +kernel) fun t hf y => ?_
  have ht : t.val < 22 := t.isLt
  obtain ⟨r, l, rfl⟩ : ∃ (r : Fin 512) (l : Fin 1024), y = ix2 r l := ⟨y 0, y 1, (ix2_eta y).symm⟩
  have key : k0_pay1 (iblk m c 0 t) (iblk m c 1 t) (ix2 r l)
      = Cert.RefDwDownIdeal.Value.dw (m ((c : Thread nD τ).loc main_arg0)) (m ((c : Thread nD τ).loc main_arg1))
        (ix2 ⟨t.val / 2 * 512 + r.val, by omega⟩ ⟨t.val % 2 * 1024 + l.val, by omega⟩) := by
    rw [Cert.RefDwDownIdeal.Value.dw_at, pay_at]
    exact Finset.sum_congr rfl fun k _ => congrArg₂ (· * ·) (blk0 m c t k r _ rfl) (blk1 m c t k l _ rfl)
  blk_simp
  rw [after0_2]; frame_out
  refine key.trans ?_
  congr 1
  blk_ext [idx t]

end Cert.DwDownIdeal.Value

end
-- ==== Proof.Logistic.lean ====
module

public import Idealize.ShloMosaic.Lib.Pointwise
public import Mathlib.Tactic.Ring

@[expose] public section

noncomputable section

/-! The gradient of the gated activation, on numbers. -/

namespace Cert.Logistic

open Idealize.ShloMosaic

/-- The logistic function. -/
def sg (g : EReal) : EReal := Ideal.div 1 (1 + Ideal.exp (-g))

/-- The kernel's gradient of the gate, from the product's gradient and the other factor. -/
def dgate (d g u : EReal) : EReal := d * u * (sg g * (1 + g * (1 - sg g)))

/-- The reference's gradient of the gate: the chain rule's two terms. -/
def dgateRef (d g u : EReal) : EReal := d * u * sg g + g * (d * u) * (sg g * (1 - sg g))

/-- The logistic of a number is a number. -/
theorem sg_coe (x : ℝ) : ∃ s : ℝ, sg (x : EReal) = (s : EReal) := by
  refine ⟨1 * (1 / (1 + Real.exp (-x))), ?_⟩
  have h : (1 : ℝ) + Real.exp (-x) ≠ 0 := by positivity
  rw [sg, ← EReal.coe_neg, Ideal.exp_coe, ← EReal.coe_one, ← EReal.coe_add, Ideal.div_coe h, ← EReal.coe_mul]

/-- The logistic at infinity. -/
theorem sg_top : sg ⊤ = 1 := by
  have h : Ideal.exp (-⊤) = 0 := rfl
  rw [sg, h]
  simp [Ideal.div]

/-- The logistic at minus infinity. -/
theorem sg_bot : sg ⊥ = 0 := by
  have h : Ideal.exp (-⊥) = ⊤ := rfl
  have h' : (1 : EReal) + ⊤ = ⊤ := EReal.coe_add_top 1
  rw [sg, h, h']
  simp [Ideal.div]

/-- The two gradients are equal where the product of the two factors is a number. -/
theorem dgate_eq (d g u : EReal) (e : ℝ) (he : d * u = (e : EReal)) : dgate d g u = dgateRef d g u := by
  rw [dgate, dgateRef, he]
  induction g with
  | bot => rw [sg_bot]; simp
  | top =>
    have h : (1 : EReal) - 1 = 0 := EReal.sub_self (EReal.coe_ne_top 1) (EReal.coe_ne_bot 1)
    rw [sg_top, h]
    simp
  | coe x =>
    obtain ⟨s, hs⟩ := sg_coe x
    rw [hs, ← EReal.coe_one, ← EReal.coe_sub, ← EReal.coe_mul, ← EReal.coe_add, ← EReal.coe_mul, ← EReal.coe_mul, ← EReal.coe_mul,
      ← EReal.coe_mul, ← EReal.coe_mul, ← EReal.coe_mul, ← EReal.coe_add]
    congr 1
    ring

end Cert.Logistic

end
-- ==== Proof.BwdTerms.lean ====
module

public import proofs.«01_k».proof.Proof.Gen.RefBwdActIdeal.Run
public import proofs.«01_k».proof.Pre_finite_grad
public import proofs.«01_k».proof.Proof.Reals
public import proofs.«01_k».proof.Proof.Logistic
public import proofs.«01_k».proof.Proof.Algebra
public import Idealize.ShloMosaic.Lib.Pointwise

@[expose] public section

set_option maxRecDepth 16384

noncomputable section

/-! The reference's gradients of the gate and of the other factor, entry by entry. -/

namespace Cert.RefBwdActIdeal.Value

open Cert.RefBwdActIdeal Cert.RefBwdActIdeal.Gen Idealize.ShloMosaic Idealize.SL.Sem

/-- The gradient of the activation. -/
def dact (d : FVec Ideal S4096x2048 .bf16) (w : FVec Ideal S5632x2048 .bf16) : FVec Ideal S4096x5632 .f32 :=
  Host.dotGeneral dot_S4096x2048_S5632x2048_S4096x5632_1_1_0_0_n_n none (extf .f32 d bitsLt_bf16_f32) (extf .f32 w bitsLt_bf16_f32)

/-- The gate's logistic. -/
def logistic (g : FVec Ideal S4096x5632 .bf16) : FVec Ideal S4096x5632 .f32 :=
  Host.divf (broadcastInDim S4096x5632 ![] bcast_S_S4096x5632 (constant S_ .f32 0x3F800000#32))
    (addf (broadcastInDim S4096x5632 ![] bcast_S_S4096x5632 (constant S_ .f32 0x3F800000#32))
      (Host.exp (Host.negf (extf .f32 g bitsLt_bf16_f32))))

/-- The gradient of the gate, as stored. -/
def dgate (d : FVec Ideal S4096x2048 .bf16) (w : FVec Ideal S5632x2048 .bf16) (g u : FVec Ideal S4096x5632 .bf16) :
    FVec Ideal S4096x5632 .bf16 :=
  truncf .bf16 (addf (mulf (mulf (dact d w) (extf .f32 u bitsLt_bf16_f32)) (logistic g))
    (mulf (mulf (extf .f32 g bitsLt_bf16_f32) (mulf (dact d w) (extf .f32 u bitsLt_bf16_f32)))
      (mulf (logistic g) (subf (broadcastInDim S4096x5632 ![] bcast_S_S4096x5632 (constant S_ .f32 0x3F800000#32)) (logistic g)))))
    bitsLt_bf16_f32

/-- The gradient of the other factor, as stored. -/
def dup (d : FVec Ideal S4096x2048 .bf16) (w : FVec Ideal S5632x2048 .bf16) (g : FVec Ideal S4096x5632 .bf16) :
    FVec Ideal S4096x5632 .bf16 :=
  truncf .bf16 (mulf (mulf (extf .f32 g bitsLt_bf16_f32) (logistic g)) (dact d w)) bitsLt_bf16_f32

variable (d : FVec Ideal S4096x2048 .bf16) (w : FVec Ideal S5632x2048 .bf16) (g u : FVec Ideal S4096x5632 .bf16)

/-- An entry of the activation's gradient: a sum over the row. -/
theorem dact_at (r : Fin 4096) (l : Fin 5632) : dact d w (ix2 r l) = ∑ k : Fin 2048, d (ix2 r k) * w (ix2 l k) := by
  pointwise [dact]

theorem logistic_at (r : Fin 4096) (l : Fin 5632) : logistic g (ix2 r l) = Cert.Logistic.sg (g (ix2 r l)) := by
  pointwise [logistic, Cert.Logistic.sg]

theorem dgate_at (r : Fin 4096) (l : Fin 5632) : dgate d w g u (ix2 r l)
    = Cert.Logistic.dgateRef (dact d w (ix2 r l)) (g (ix2 r l)) (u (ix2 r l)) := by
  rw [Cert.Logistic.dgateRef, ← logistic_at]
  pointwise [dgate]

theorem dup_at (r : Fin 4096) (l : Fin 5632) : dup d w g (ix2 r l)
    = g (ix2 r l) * Cert.Logistic.sg (g (ix2 r l)) * dact d w (ix2 r l) := by
  rw [← logistic_at]
  pointwise [dup]

end Cert.RefBwdActIdeal.Value

/-! The precondition, read. -/

namespace Cert.Pre_finite_grad

open Idealize.ShloMosaic

instance facts : Facts where
  bitsLt_bf16_f32 := by decide
  bcast_S_S4096x2048 := by decide
  bcast_S_S5632x2048 := by decide
  bcast_S_S4096x5632 := by decide

variable (d : FVec Ideal S4096x2048 .bf16) (w : FVec Ideal S5632x2048 .bf16) (g u : FVec Ideal S4096x5632 .bf16)

theorem real0 (h : (fn d w g u).1 = fun _ => 1#1) (r : Fin 4096) (l : Fin 2048) :
    (((d (ix2 r l) : EReal).toReal : ℝ) : EReal) = d (ix2 r l) :=
  Pre_finite.real_of_lt _ (congrFun h (ix2 r l))

theorem real1 (h : (fn d w g u).2.1 = fun _ => 1#1) (r : Fin 5632) (l : Fin 2048) :
    (((w (ix2 r l) : EReal).toReal : ℝ) : EReal) = w (ix2 r l) :=
  Pre_finite.real_of_lt _ (congrFun h (ix2 r l))

theorem real3 (h : (fn d w g u).2.2 = fun _ => 1#1) (r : Fin 4096) (l : Fin 5632) :
    (((u (ix2 r l) : EReal).toReal : ℝ) : EReal) = u (ix2 r l) :=
  Pre_finite.real_of_lt _ (congrFun h (ix2 r l))

/-- The product of the activation's gradient and the other factor is a number. -/
theorem real (h0 : (fn d w g u).1 = fun _ => 1#1) (h1 : (fn d w g u).2.1 = fun _ => 1#1) (h3 : (fn d w g u).2.2 = fun _ => 1#1)
    (r : Fin 4096) (l : Fin 5632) :
    ∃ e : ℝ, Cert.RefBwdActIdeal.Value.dact d w (ix2 r l) * u (ix2 r l) = (e : EReal) := by
  rw [Cert.RefBwdActIdeal.Value.dact_at, ← real3 d w g u h3 r l]
  refine ⟨(∑ k : Fin 2048, (d (ix2 r k) : EReal).toReal * (w (ix2 l k) : EReal).toReal) * (u (ix2 r l) : EReal).toReal, ?_⟩
  rw [EReal.coe_mul]
  refine congrArg (· * _) ?_
  rw [← Cert.Rows.coe_sum]
  refine Finset.sum_congr rfl fun k _ => ?_
  rw [EReal.coe_mul, real0 d w g u h0, real1 d w g u h1]

end Cert.Pre_finite_grad

end
-- ==== Proof.BwdAct.lean ====
module

public import proofs.«01_k».proof.Proof.Gen.BwdActIdeal.Value
public import proofs.«01_k».proof.Proof.Gen.BwdAct.Frame
public import proofs.«01_k».proof.Proof.BwdTerms
public import Idealize.ShloMosaic.Lib.Pipeline.ValueKit
public import Idealize.ShloMosaic.Lib.Pipeline.ReadBack

@[expose] public section

set_option maxRecDepth 16384

noncomputable section

/-! The gradients of the gate and of the other factor: each block is that block of the reference's arrays. -/

namespace Cert.BwdActIdeal.Value

open Cert.BwdActIdeal Cert.BwdActIdeal.Gen Idealize.ShloMosaic Idealize.ShloMosaic.TcCoe Idealize.SL.Sem
open Idealize.ShloMosaic.Pipeline (Dat)

variable (x : FVec Ideal S256x2048 .bf16) (w : FVec Ideal S1408x2048 .bf16) (g u : FVec Ideal S256x1408 .bf16) (r : Fin 256) (l : Fin 1408)

/-- The activation's gradient, in a quarter of a block. -/
def dact (x : FVec Ideal S256x2048 .bf16) (w : FVec Ideal S1408x2048 .bf16) (r : Fin 256) (l : Fin 1408) : EReal :=
  ∑ k : Fin 2048, x (ix2 r k) * w (ix2 l k)

theorem neg_zero_sub (a : EReal) : 0 - a = -a := zero_sub a

/-- The four quarters' gradients of the gate. -/
theorem gate0_at : k0_pay10 (F := Ideal) (k0_pay6 g) (k0_pay7 g) (k0_pay9 x w u) (ix2 r l)
    = Cert.Logistic.dgate (dact x w r l) (g (ix2 r l)) (u (ix2 r l)) := by
  rw [Cert.Logistic.dgate, Cert.Logistic.sg, ← neg_zero_sub]
  pointwise [k0_pay10, k0_pay6, k0_pay7, k0_pay9, k0_pay2, dact]

theorem gate1_at : k0_pay14 (F := Ideal) (k0_pay3 x w) g u (ix2 r l)
    = Cert.Logistic.dgate (dact x w r l) (g (ix2 r l)) (u (ix2 r l)) := by
  rw [Cert.Logistic.dgate, Cert.Logistic.sg, ← neg_zero_sub]
  pointwise [k0_pay14, k0_pay11, k0_pay12, k0_pay3, dact]

theorem gate2_at : k0_pay19 (F := Ideal) (k0_pay4 x w) (k0_pay15 g) k0_pay16 u (ix2 r l)
    = Cert.Logistic.dgate (dact x w r l) (g (ix2 r l)) (u (ix2 r l)) := by
  rw [Cert.Logistic.dgate, Cert.Logistic.sg, ← neg_zero_sub]
  pointwise [k0_pay19, k0_pay15, k0_pay16, k0_pay17, k0_pay4, dact]

theorem gate3_at : k0_pay1 (F := Ideal) (k0_pay20 g) (k0_pay21 g) (k0_pay23 (k0_pay5 x w) u) (ix2 r l)
    = Cert.Logistic.dgate (dact x w r l) (g (ix2 r l)) (u (ix2 r l)) := by
  rw [Cert.Logistic.dgate, Cert.Logistic.sg, ← neg_zero_sub]
  pointwise [k0_pay1, k0_pay20, k0_pay21, k0_pay23, k0_pay5, dact]

/-- The four quarters' gradients of the other factor. -/
theorem up0_at : k0_pay8 (F := Ideal) x w g (ix2 r l) = dact x w r l * (g (ix2 r l) * Cert.Logistic.sg (g (ix2 r l))) := by
  rw [Cert.Logistic.sg, ← neg_zero_sub]
  pointwise [k0_pay8, k0_pay6, k0_pay7, k0_pay2, dact]

theorem up1_at : k0_pay13 (F := Ideal) (k0_pay3 x w) g (ix2 r l) = dact x w r l * (g (ix2 r l) * Cert.Logistic.sg (g (ix2 r l))) := by
  rw [Cert.Logistic.sg, ← neg_zero_sub]
  pointwise [k0_pay13, k0_pay11, k0_pay12, k0_pay3, dact]

theorem up2_at : k0_pay18 (F := Ideal) (k0_pay4 x w) (k0_pay15 g) k0_pay16 (ix2 r l)
    = dact x w r l * (g (ix2 r l) * Cert.Logistic.sg (g (ix2 r l))) := by
  rw [Cert.Logistic.sg, ← neg_zero_sub]
  pointwise [k0_pay18, k0_pay15, k0_pay16, k0_pay17, k0_pay4, dact]

theorem up3_at : k0_pay22 (F := Ideal) (k0_pay5 x w) g (ix2 r l) = dact x w r l * (g (ix2 r l) * Cert.Logistic.sg (g (ix2 r l))) := by
  rw [Cert.Logistic.sg, ← neg_zero_sub]
  pointwise [k0_pay22, k0_pay20, k0_pay21, k0_pay5, dact]

/-- The block's gradients, over the whole block. -/
def dactB (X : FVec Ideal S1024x2048 .bf16) (w : FVec Ideal S1408x2048 .bf16) (r : Fin 1024) (l : Fin 1408) : EReal :=
  ∑ k : Fin 2048, X (ix2 r k) * w (ix2 l k)

def gateB (X : FVec Ideal S1024x2048 .bf16) (w : FVec Ideal S1408x2048 .bf16) (G U : FVec Ideal S1024x1408 .bf16) :
    FVec Ideal S1024x1408 .bf16 := fun i => Cert.Logistic.dgate (dactB X w (i 0) (i 1)) (G i) (U i)

def upB (X : FVec Ideal S1024x2048 .bf16) (w : FVec Ideal S1408x2048 .bf16) (G : FVec Ideal S1024x1408 .bf16) :
    FVec Ideal S1024x1408 .bf16 := fun i => dactB X w (i 0) (i 1) * (G i * Cert.Logistic.sg (G i))

/-- A vector holds the rows from `o` on. -/
def IsRows {n : Nat} (o : Nat) (a : (⟨2, ![256, n]⟩ : Shape).Idx → EReal) (X : (⟨2, ![1024, n]⟩ : Shape).Idx → EReal) : Prop :=
  ∀ (r : Fin 256) (R : Fin 1024) (l : Fin n), R.val = o + r.val → a (ix2 r l) = X (ix2 R l)

/-- A load of 256 rows. -/
theorem rows_ld {n : Nat} (o : Nat) (X : Vec Ideal ⟨2, ![1024, n]⟩ .bf16)
    (inb : ∀ a, (![o, 0] : Fin 2 → ℕ) a + (![256, n] : Fin 2 → ℕ) a ≤ (⟨2, ![1024, n]⟩ : Shape).size a) :
    IsRows o (View.ld X (Rect.unit (s := ⟨2, ![1024, n]⟩) ![o, 0] ![256, n] inb)) X := fun r R l h =>
  View.ld_unit_apply_of X _ _ inb _ _ fun a => by
    match a with
    | ⟨0, _⟩ => exact h
    | ⟨1, _⟩ => exact (Nat.zero_add _).symm

/-- A load of the whole matrix. -/
theorem whole_ld (W : Vec Ideal S1408x2048 .bf16) : View.ld W r0_1 = W :=
  View.ld_unit_lit _ W (fun a => by match a with | ⟨0, _⟩ => rfl | ⟨1, _⟩ => rfl)

variable {x w g u} {o : Nat} {X : FVec Ideal S1024x2048 .bf16} {G U : FVec Ideal S1024x1408 .bf16}

theorem gate_piece (hx : IsRows o x X) (hg : IsRows o g G) (hu : IsRows o u U) (p : FVec Ideal S256x1408 .bf16)
    (hp : ∀ r l, p (ix2 r l) = Cert.Logistic.dgate (dact x w r l) (g (ix2 r l)) (u (ix2 r l)))
    (i : S1024x1408.Idx) (y : S256x1408.Idx) (h0 : (i 0 : ℕ) = o + y 0) (h1 : (i 1 : ℕ) = y 1) : p y = gateB X w G U i := by
  obtain ⟨r, l, rfl⟩ : ∃ (r : Fin 256) (l : Fin 1408), y = ix2 r l := ⟨y 0, y 1, eq_ix2 y⟩
  obtain ⟨R, L, rfl⟩ : ∃ (R : Fin 1024) (L : Fin 1408), i = ix2 R L := ⟨i 0, i 1, eq_ix2 i⟩
  obtain rfl : L = l := Fin.ext h1
  have h : R.val = o + r.val := h0
  rw [hp, gateB, dact, hg r R L h, hu r R L h]
  simp only [fun k => hx r R k h]
  rfl

theorem up_piece (hx : IsRows o x X) (hg : IsRows o g G) (p : FVec Ideal S256x1408 .bf16)
    (hp : ∀ r l, p (ix2 r l) = dact x w r l * (g (ix2 r l) * Cert.Logistic.sg (g (ix2 r l))))
    (i : S1024x1408.Idx) (y : S256x1408.Idx) (h0 : (i 0 : ℕ) = o + y 0) (h1 : (i 1 : ℕ) = y 1) : p y = upB X w G i := by
  obtain ⟨r, l, rfl⟩ : ∃ (r : Fin 256) (l : Fin 1408), y = ix2 r l := ⟨y 0, y 1, eq_ix2 y⟩
  obtain ⟨R, L, rfl⟩ : ∃ (R : Fin 1024) (L : Fin 1408), i = ix2 R L := ⟨i 0, i 1, eq_ix2 i⟩
  obtain rfl : L = l := Fin.ext h1
  have h : R.val = o + r.val := h0
  rw [hp, upB, dact, hg r R L h]
  simp only [fun k => hx r R k h]
  rfl

/-! The pieces as the body stores them. -/

variable (X : Vec Ideal S1024x2048 .bf16) (W : Vec Ideal S1408x2048 .bf16) (G U : Vec Ideal S1024x1408 .bf16) (y : S256x1408.Idx)

theorem gate0_ld : k0_pay10 (F := Ideal) (k0_pay6 (View.ld G r0_5)) (k0_pay7 (View.ld G r0_5)) (k0_pay9 (View.ld X r0_0) (View.ld W r0_1) (View.ld U r0_5)) y = gateB X W G U (r0_5.emb y) := by
  rw [whole_ld]
  exact gate_piece (o := 0) (x := View.ld X r0_0) (g := View.ld G r0_5) (u := View.ld U r0_5) (rows_ld 0 X _) (rows_ld 0 G _) (rows_ld 0 U _) _
    (fun r l => gate0_at _ W _ _ r l) _ y (by simp) (by simp)

theorem up0_ld : k0_pay8 (F := Ideal) (View.ld X r0_0) (View.ld W r0_1) (View.ld G r0_5) y = upB X W G (r0_5.emb y) := by
  rw [whole_ld]
  exact up_piece (o := 0) (x := View.ld X r0_0) (g := View.ld G r0_5) (rows_ld 0 X _) (rows_ld 0 G _) _
    (fun r l => up0_at _ W _ r l) _ y (by simp) (by simp)

theorem gate1_ld : k0_pay14 (F := Ideal) (k0_pay24 X W G U) (View.ld G r0_6) (View.ld U r0_6) y = gateB X W G U (r0_6.emb y) := by
  unfold k0_pay24
  rw [whole_ld]
  exact gate_piece (o := 256) (x := View.ld X r0_2) (g := View.ld G r0_6) (u := View.ld U r0_6) (rows_ld 256 X _) (rows_ld 256 G _) (rows_ld 256 U _) _
    (fun r l => gate1_at _ W _ _ r l) _ y (by simp) (by simp)

theorem up1_ld : k0_pay13 (F := Ideal) (k0_pay24 X W G U) (View.ld G r0_6) y = upB X W G (r0_6.emb y) := by
  unfold k0_pay24
  rw [whole_ld]
  exact up_piece (o := 256) (x := View.ld X r0_2) (g := View.ld G r0_6) (rows_ld 256 X _) (rows_ld 256 G _) _
    (fun r l => up1_at _ W _ r l) _ y (by simp) (by simp)

theorem gate2_ld : k0_pay19 (F := Ideal) (k0_pay25 X W G U) (k0_pay27 X W G U) (k0_pay28 X W G U) (View.ld U r0_7) y = gateB X W G U (r0_7.emb y) := by
  unfold k0_pay25 k0_pay27 k0_pay28
  rw [whole_ld]
  exact gate_piece (o := 512) (x := View.ld X r0_3) (g := View.ld G r0_7) (u := View.ld U r0_7) (rows_ld 512 X _) (rows_ld 512 G _) (rows_ld 512 U _) _
    (fun r l => gate2_at _ W _ _ r l) _ y (by simp) (by simp)

theorem up2_ld : k0_pay18 (F := Ideal) (k0_pay25 X W G U) (k0_pay27 X W G U) (k0_pay28 X W G U) y = upB X W G (r0_7.emb y) := by
  unfold k0_pay25 k0_pay27 k0_pay28
  rw [whole_ld]
  exact up_piece (o := 512) (x := View.ld X r0_3) (g := View.ld G r0_7) (rows_ld 512 X _) (rows_ld 512 G _) _
    (fun r l => up2_at _ W _ r l) _ y (by simp) (by simp)

theorem gate3_ld : k0_pay1 (F := Ideal) (k0_pay20 (View.ld G r0_8)) (k0_pay21 (View.ld G r0_8)) (k0_pay23 (k0_pay26 X W G U) (View.ld U r0_8)) y = gateB X W G U (r0_8.emb y) := by
  unfold k0_pay26
  rw [whole_ld]
  exact gate_piece (o := 768) (x := View.ld X r0_4) (g := View.ld G r0_8) (u := View.ld U r0_8) (rows_ld 768 X _) (rows_ld 768 G _) (rows_ld 768 U _) _
    (fun r l => gate3_at _ W _ _ r l) _ y (by simp) (by simp)

theorem up3_ld : k0_pay22 (F := Ideal) (k0_pay26 X W G U) (View.ld G r0_8) y = upB X W G (r0_8.emb y) := by
  unfold k0_pay26
  rw [whole_ld]
  exact up_piece (o := 768) (x := View.ld X r0_4) (g := View.ld G r0_8) (rows_ld 768 X _) (rows_ld 768 G _) _
    (fun r l => up3_at _ W _ r l) _ y (by simp) (by simp)

/-- What the body leaves of the two gradients. -/
theorem gate_out (i : S1024x1408.Idx) : out0_4 (F := Ideal) X W G U i = gateB X W G U i := by
  unfold out0_4
  exact View.canon_append_of_piecesOf (s := S1024x1408) (Val := Elt Ideal) (e := .bf16) (fun i => gateB X W G U i) [] [_, _, _, _]
    ⟨fun y => gate3_ld X W G U y, fun y => gate2_ld X W G U y, fun y => gate1_ld X W G U y, fun y => gate0_ld X W G U y, trivial⟩ i
    (View.cover_of_tiledL (s := S1024x1408) _ S256x1408.size (by sl_kernel_rfl) i)

theorem up_out (i : S1024x1408.Idx) : out0_5 (F := Ideal) X W G U i = upB X W G i := by
  unfold out0_5
  exact View.canon_append_of_piecesOf (s := S1024x1408) (Val := Elt Ideal) (e := .bf16) (fun i => upB X W G i) [] [_, _, _, _]
    ⟨fun y => up3_ld X W G U y, fun y => up2_ld X W G U y, fun y => up1_ld X W G U y, fun y => up0_ld X W G y, trivial⟩ i
    (View.cover_of_tiledL (s := S1024x1408) _ S256x1408.size (by sl_kernel_rfl) i)

variable (m : (ℓ : Loc nD τ sig) → Buf (Elt Ideal) ℓ)

/-- Which block of each array a point stages. -/
theorem idx : ∀ t : Fin cfg0.N, win0_0.index t = ![t.val % 4, 0] ∧ win0_1.index t = ![t.val / 4, 0]
    ∧ win0_2.index t = ![t.val % 4, t.val / 4] ∧ win0_3.index t = ![t.val % 4, t.val / 4]
    ∧ win0_4.index t = ![t.val % 4, t.val / 4] ∧ win0_5.index t = ![t.val % 4, t.val / 4] :=
  (by decide +kernel : ∀ t : Fin grid0.N, _)

theorem blk0 (c : Dev nD) (t : Fin cfg0.N) (r : Fin 1024) (k : Fin 2048) (R : Fin 4096) (hR : R.val = t.val % 4 * 1024 + r.val) :
    (show FVec Ideal S1024x2048 .bf16 from iblk m c 0 t) (ix2 r k)
      = (m ((c : Thread nD τ).loc main_arg0) : FVec Ideal S4096x2048 .bf16) (ix2 R k) := by
  blk_point [iblk, V, idx t]

theorem blk1 (c : Dev nD) (t : Fin cfg0.N) (l : Fin 1408) (k : Fin 2048) (L : Fin 5632) (hL : L.val = t.val / 4 * 1408 + l.val) :
    (show FVec Ideal S1408x2048 .bf16 from iblk m c 1 t) (ix2 l k)
      = (m ((c : Thread nD τ).loc main_arg1) : FVec Ideal S5632x2048 .bf16) (ix2 L k) := by
  blk_point [iblk, V, idx t]

theorem blk2 (c : Dev nD) (t : Fin cfg0.N) (r : Fin 1024) (l : Fin 1408) (R : Fin 4096) (hR : R.val = t.val % 4 * 1024 + r.val)
    (L : Fin 5632) (hL : L.val = t.val / 4 * 1408 + l.val) : (show FVec Ideal S1024x1408 .bf16 from iblk m c 2 t) (ix2 r l)
      = (m ((c : Thread nD τ).loc main_arg2) : FVec Ideal S4096x5632 .bf16) (ix2 R L) := by
  blk_point [iblk, V, idx t]

theorem blk3 (c : Dev nD) (t : Fin cfg0.N) (r : Fin 1024) (l : Fin 1408) (R : Fin 4096) (hR : R.val = t.val % 4 * 1024 + r.val)
    (L : Fin 5632) (hL : L.val = t.val / 4 * 1408 + l.val) : (show FVec Ideal S1024x1408 .bf16 from iblk m c 3 t) (ix2 r l)
      = (m ((c : Thread nD τ).loc main_arg3) : FVec Ideal S4096x5632 .bf16) (ix2 R L) := by
  blk_point [iblk, V, idx t]

theorem dact_block (c : Dev nD) (t : Fin cfg0.N) (r : Fin 1024) (l : Fin 1408) (R : Fin 4096) (hR : R.val = t.val % 4 * 1024 + r.val)
    (L : Fin 5632) (hL : L.val = t.val / 4 * 1408 + l.val) : dactB (iblk m c 0 t) (iblk m c 1 t) r l
      = Cert.RefBwdActIdeal.Value.dact (m ((c : Thread nD τ).loc main_arg0)) (m ((c : Thread nD τ).loc main_arg1)) (ix2 R L) := by
  rw [Cert.RefBwdActIdeal.Value.dact_at]
  exact Finset.sum_congr rfl fun k _ => congrArg₂ (fun a b : EReal => a * b) (blk0 m c t r k R hR) (blk1 m c t l k L hL)

/-- What a point leaves of the two gradients. -/
theorem gate_after (c : Dev nD) (t : Fin cfg0.N) (i : S1024x1408.Idx) : (dats m 0 c).after 4 t i
    = gateB (iblk m c 0 t) (iblk m c 1 t) (iblk m c 2 t) (iblk m c 3 t) i := by
  rw [after0_4]
  exact gate_out _ _ _ _ i

theorem up_after (c : Dev nD) (t : Fin cfg0.N) (i : S1024x1408.Idx) : (dats m 0 c).after 5 t i
    = upB (iblk m c 0 t) (iblk m c 1 t) (iblk m c 2 t) i := by
  rw [after0_5]
  exact up_out _ _ _ _ i

/-- The gate's gradient at the end is the reference's, where the product's gradient is a number. -/
theorem final4 (c : Dev nD) (hreal : ∀ (r : Fin 4096) (l : Fin 5632), ∃ e : ℝ, Cert.RefBwdActIdeal.Value.dact
      (m ((c : Thread nD τ).loc main_arg0)) (m ((c : Thread nD τ).loc main_arg1)) (ix2 r l)
        * (m ((c : Thread nD τ).loc main_arg3) : FVec Ideal S4096x5632 .bf16) (ix2 r l) = (e : EReal)) :
    (dats m 0 c).arrAt 4 cfg0.N = Cert.RefBwdActIdeal.Value.dgate (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  have ht : t.val < 16 := t.isLt
  obtain ⟨r, l, rfl⟩ : ∃ (r : Fin 1024) (l : Fin 1408), y = ix2 r l := ⟨y 0, y 1, eq_ix2 y⟩
  have key := Cert.RefBwdActIdeal.Value.dgate_at (m ((c : Thread nD τ).loc main_arg0)) (m ((c : Thread nD τ).loc main_arg1))
    (m ((c : Thread nD τ).loc main_arg2)) (m ((c : Thread nD τ).loc main_arg3))
    ⟨t.val % 4 * 1024 + r.val, by omega⟩ ⟨t.val / 4 * 1408 + l.val, by omega⟩
  obtain ⟨e, he⟩ := hreal ⟨t.val % 4 * 1024 + r.val, by omega⟩ ⟨t.val / 4 * 1408 + l.val, by omega⟩
  rw [← Cert.Logistic.dgate_eq _ _ _ e he, ← dact_block m c t r l _ rfl _ rfl, ← blk2 m c t r l _ rfl _ rfl,
    ← blk3 m c t r l _ rfl _ rfl] at key
  blk_simp
  refine (gate_after m c t (ix2 r l)).trans (key.symm.trans ?_)
  congr 1
  blk_ext [idx t]

/-- The other factor's gradient at the end is the reference's. -/
theorem final5 (c : Dev nD) : (dats m 0 c).arrAt 5 cfg0.N = Cert.RefBwdActIdeal.Value.dup (m ((c : Thread nD τ).loc main_arg0))
    (m ((c : Thread nD τ).loc main_arg1)) (m ((c : Thread nD τ).loc main_arg2)) := by
  refine (dats m 0 c).arrAt_eq_of_covers 5 _ (by decide +kernel) fun t hf y => ?_
  have ht : t.val < 16 := t.isLt
  obtain ⟨r, l, rfl⟩ : ∃ (r : Fin 1024) (l : Fin 1408), y = ix2 r l := ⟨y 0, y 1, eq_ix2 y⟩
  have key := Cert.RefBwdActIdeal.Value.dup_at (m ((c : Thread nD τ).loc main_arg0)) (m ((c : Thread nD τ).loc main_arg1))
    (m ((c : Thread nD τ).loc main_arg2)) ⟨t.val % 4 * 1024 + r.val, by omega⟩ ⟨t.val / 4 * 1408 + l.val, by omega⟩
  rw [mul_comm _ (Cert.RefBwdActIdeal.Value.dact _ _ _), ← dact_block m c t r l _ rfl _ rfl, ← blk2 m c t r l _ rfl _ rfl] at key
  blk_simp
  refine (up_after m c t (ix2 r l)).trans (key.symm.trans ?_)
  congr 1
  blk_ext [idx t]

end Cert.BwdActIdeal.Value

end
-- ==== Proof.FfTerms.lean ====
module

public import proofs.«01_k».proof.Proof.Gen.RefDwFfIdeal.Run
public import Idealize.ShloMosaic.Lib.Pointwise

@[expose] public section

set_option maxRecDepth 16384

noncomputable section

/-! The reference's gradient of a feed-forward weight whose columns are stored in four parts. -/

namespace Cert.RefDwFfIdeal.Value

open Cert.RefDwFfIdeal Cert.RefDwFfIdeal.Gen Idealize.ShloMosaic Idealize.SL.Sem

/-- The reference's gradient: the gradient of a product by its right factor, its columns in four parts. -/
def dw (a : FVec Ideal S4096x2048 .bf16) (d : FVec Ideal S4096x5632 .bf16) : FVec Ideal S4x2048x1408 .f32 :=
  transpose S4x2048x1408 [1, 0, 2] (shapeCast _ (transpose S2048x5632 [1, 0]
    (Host.dotGeneral dot_S4096x5632_S4096x2048_S5632x2048_0_0_1_1_n_n none
      (extf .f32 d bitsLt_bf16_f32) (extf .f32 a bitsLt_bf16_f32)) transposes_S5632x2048_S2048x5632_1_0)
    shapeCasts_S2048x5632_S2048x4x1408) transposes_S2048x4x1408_S4x2048x1408_1_0_2

/-- An entry: a sum over the rows. -/
theorem dw_at (a : FVec Ideal S4096x2048 .bf16) (d : FVec Ideal S4096x5632 .bf16) (p : Fin 4) (r : Fin 2048) (l : Fin 1408) :
    dw a d (ix3 p r l) = ∑ k : Fin 4096, a (ix2 k r) * d (ix2 k ⟨p.val * 1408 + l.val, by omega⟩) := by
  have h : dw a d (ix3 p r l) = ∑ k : Fin 4096, d (ix2 k ⟨p.val * 1408 + l.val, by omega⟩) * a (ix2 k r) := by pointwise [dw]
  exact h.trans (Finset.sum_congr rfl fun k _ => mul_comm _ _)

end Cert.RefDwFfIdeal.Value

end
-- ==== Proof.DwGate.lean ====
module

public import proofs.«01_k».proof.Proof.Gen.DwGateIdeal.Value
public import proofs.«01_k».proof.Proof.FfTerms
public import proofs.«01_k».proof.Proof.Gen.DwGate.Frame
public import Idealize.ShloMosaic.Lib.Pointwise
public import Idealize.ShloMosaic.Lib.Pipeline.ValueKit

@[expose] public section

set_option maxRecDepth 16384

noncomputable section

/-! The gradient of the gate projection's weight: each block is that block of the reference's product. -/

namespace Cert.DwGateIdeal.Value

open Cert.DwGateIdeal Cert.DwGateIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![0, t.val / 4] ∧ win0_1.index t = ![0, t.val % 4]
    ∧ win0_2.index t = ![t.val % 4, t.val / 4, 0] :=
  (by decide +kernel : ∀ t : Fin grid0.N, _)

/-- An entry of a block's product. -/
theorem pay_at (v0 : FVec Ideal S4096x512 .bf16) (v1 : FVec Ideal S4096x1408 .bf16) (p : Fin 1) (r : Fin 512) (l : Fin 1408) :
    k0_pay1 (F := Ideal) v0 v1 (ix3 p r l) = ∑ k : Fin 4096, v0 (ix2 k r) * v1 (ix2 k l) := by
  pointwise [k0_pay1]

/-- A point's block of the normalised rows. -/
theorem blk0 (c : Dev nD) (t : Fin cfg0.N) (k : Fin 4096) (r : Fin 512) (R : Fin 2048) (hR : R.val = t.val / 4 * 512 + r.val) :
    (show FVec Ideal S4096x512 .bf16 from iblk m c 0 t) (ix2 k r)
      = (m ((c : Thread nD τ).loc main_arg0) : FVec Ideal S4096x2048 .bf16) (ix2 k R) := by
  blk_point [iblk, V, idx t]

/-- A point's block of the output's gradient. -/
theorem blk1 (c : Dev nD) (t : Fin cfg0.N) (k : Fin 4096) (l : Fin 1408) (L : Fin 5632) (hL : L.val = t.val % 4 * 1408 + l.val) :
    (show FVec Ideal S4096x1408 .bf16 from iblk m c 1 t) (ix2 k l)
      = (m ((c : Thread nD τ).loc main_arg1) : FVec Ideal S4096x5632 .bf16) (ix2 k L) := by
  blk_point [iblk, V, idx t]

/-- The array at the end is the reference's gradient. -/
theorem final (c : Dev nD) : (dats m 0 c).arrAt 2 cfg0.N
    = Cert.RefDwFfIdeal.Value.dw (m ((c : Thread nD τ).loc main_arg0)) (m ((c : Thread nD τ).loc main_arg1)) := by
  refine (dats m 0 c).arrAt_eq_of_covers 2 _ (by decide +kernel) fun t hf y => ?_
  have ht : t.val < 16 := t.isLt
  obtain ⟨p, r, l, rfl⟩ : ∃ (p : Fin 1) (r : Fin 512) (l : Fin 1408), y = ix3 p r l := ⟨y 0, y 1, y 2, eq_ix3 y⟩
  have key : k0_pay1 (iblk m c 0 t) (iblk m c 1 t) (ix3 p r l)
      = Cert.RefDwFfIdeal.Value.dw (m ((c : Thread nD τ).loc main_arg0)) (m ((c : Thread nD τ).loc main_arg1))
        (ix3 ⟨t.val % 4, by omega⟩ ⟨t.val / 4 * 512 + r.val, by omega⟩ l) := by
    rw [Cert.RefDwFfIdeal.Value.dw_at, pay_at]
    exact Finset.sum_congr rfl fun k _ => congrArg₂ (· * ·) (blk0 m c t k r _ rfl) (blk1 m c t k l _ rfl)
  blk_simp
  rw [after0_2]; frame_out
  refine key.trans ?_
  congr 1
  blk_ext [idx t]

end Cert.DwGateIdeal.Value

end
-- ==== Proof.DwUp.lean ====
module

public import proofs.«01_k».proof.Proof.Gen.DwUpIdeal.Value
public import proofs.«01_k».proof.Proof.FfTerms
public import proofs.«01_k».proof.Proof.Gen.DwUp.Frame
public import Idealize.ShloMosaic.Lib.Pointwise
public import Idealize.ShloMosaic.Lib.Pipeline.ValueKit

@[expose] public section

set_option maxRecDepth 16384

noncomputable section

/-! The gradient of the up projection's weight: each block is that block of the reference's product. -/

namespace Cert.DwUpIdeal.Value

open Cert.DwUpIdeal Cert.DwUpIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![0, t.val / 4] ∧ win0_1.index t = ![0, t.val % 4]
    ∧ win0_2.index t = ![t.val % 4, t.val / 4, 0] :=
  (by decide +kernel : ∀ t : Fin grid0.N, _)

/-- An entry of a block's product. -/
theorem pay_at (v0 : FVec Ideal S4096x512 .bf16) (v1 : FVec Ideal S4096x1408 .bf16) (p : Fin 1) (r : Fin 512) (l : Fin 1408) :
    k0_pay1 (F := Ideal) v0 v1 (ix3 p r l) = ∑ k : Fin 4096, v0 (ix2 k r) * v1 (ix2 k l) := by
  pointwise [k0_pay1]

/-- A point's block of the normalised rows. -/
theorem blk0 (c : Dev nD) (t : Fin cfg0.N) (k : Fin 4096) (r : Fin 512) (R : Fin 2048) (hR : R.val = t.val / 4 * 512 + r.val) :
    (show FVec Ideal S4096x512 .bf16 from iblk m c 0 t) (ix2 k r)
      = (m ((c : Thread nD τ).loc main_arg0) : FVec Ideal S4096x2048 .bf16) (ix2 k R) := by
  blk_point [iblk, V, idx t]

/-- A point's block of the output's gradient. -/
theorem blk1 (c : Dev nD) (t : Fin cfg0.N) (k : Fin 4096) (l : Fin 1408) (L : Fin 5632) (hL : L.val = t.val % 4 * 1408 + l.val) :
    (show FVec Ideal S4096x1408 .bf16 from iblk m c 1 t) (ix2 k l)
      = (m ((c : Thread nD τ).loc main_arg1) : FVec Ideal S4096x5632 .bf16) (ix2 k L) := by
  blk_point [iblk, V, idx t]

/-- The array at the end is the reference's gradient. -/
theorem final (c : Dev nD) : (dats m 0 c).arrAt 2 cfg0.N
    = Cert.RefDwFfIdeal.Value.dw (m ((c : Thread nD τ).loc main_arg0)) (m ((c : Thread nD τ).loc main_arg1)) := by
  refine (dats m 0 c).arrAt_eq_of_covers 2 _ (by decide +kernel) fun t hf y => ?_
  have ht : t.val < 16 := t.isLt
  obtain ⟨p, r, l, rfl⟩ : ∃ (p : Fin 1) (r : Fin 512) (l : Fin 1408), y = ix3 p r l := ⟨y 0, y 1, y 2, eq_ix3 y⟩
  have key : k0_pay1 (iblk m c 0 t) (iblk m c 1 t) (ix3 p r l)
      = Cert.RefDwFfIdeal.Value.dw (m ((c : Thread nD τ).loc main_arg0)) (m ((c : Thread nD τ).loc main_arg1))
        (ix3 ⟨t.val % 4, by omega⟩ ⟨t.val / 4 * 512 + r.val, by omega⟩ l) := by
    rw [Cert.RefDwFfIdeal.Value.dw_at, pay_at]
    exact Finset.sum_congr rfl fun k _ => congrArg₂ (· * ·) (blk0 m c t k r _ rfl) (blk1 m c t k l _ rfl)
  blk_simp
  rw [after0_2]; frame_out
  refine key.trans ?_
  congr 1
  blk_ext [idx t]

end Cert.DwUpIdeal.Value

end
-- ==== Proof.Dfn.lean ====
module

public import proofs.«01_k».proof.Proof.Gen.DfnIdeal.Value
public import proofs.«01_k».proof.Proof.Gen.RefDfnIdeal.Run
public import proofs.«01_k».proof.Proof.Gen.Dfn.Frame
public import proofs.«01_k».proof.Proof.Shards
public import Idealize.ShloMosaic.Lib.Pointwise
public import Idealize.ShloMosaic.Lib.Pipeline.ValueKit

@[expose] public section

set_option maxRecDepth 16384

noncomputable section

/-! The gradient of the feed-forward's input: two products by weights whose columns are stored in four parts, added. -/

namespace Cert.RefDfnIdeal.Value

open Cert.RefDfnIdeal Cert.RefDfnIdeal.Gen Idealize.ShloMosaic Idealize.SL.Sem

/-- The product of a gradient with the transposed weight. -/
def back (d : FVec Ideal S4096x5632 .bf16) (w : FVec Ideal S4x2048x1408 .bf16) : FVec Ideal S4096x2048 .f32 :=
  Host.dotGeneral dot_S4096x5632_S2048x5632_S4096x2048_1_1_0_0_n_n none (extf .f32 d bitsLt_bf16_f32)
    (shapeCast _ (transpose S2048x4x1408 [1, 0, 2] (extf .f32 w bitsLt_bf16_f32) transposes_S4x2048x1408_S2048x4x1408_1_0_2)
      shapeCasts_S2048x4x1408_S2048x5632)

/-- The reference's gradient. -/
def dfn (d : FVec Ideal S4096x5632 .bf16) (w : FVec Ideal S4x2048x1408 .bf16) (d' : FVec Ideal S4096x5632 .bf16)
    (w' : FVec Ideal S4x2048x1408 .bf16) : FVec Ideal S4096x2048 .f32 := addf (back d' w') (back d w)

/-- An entry of a product: the sum over the parts of the columns. -/
theorem back_at (d : FVec Ideal S4096x5632 .bf16) (w : FVec Ideal S4x2048x1408 .bf16) (r : Fin 4096) (l : Fin 2048) :
    back d w (ix2 r l) = ∑ p : Fin 4, ∑ k : Fin 1408, d (ix2 r ⟨p.val * 1408 + k.val, by omega⟩) * w (ix3 p l k) := by
  have h : back d w (ix2 r l) = ∑ k : Fin 5632, d (ix2 r k) * w (ix3 ⟨k.val / 1408, by omega⟩ l ⟨k.val % 1408, by omega⟩) := by
    pointwise [back]
  rw [h, ← Cert.Shards.all_parts (a := 4) (b := 1408) rfl]
  refine Finset.sum_congr rfl fun p _ => Finset.sum_congr rfl fun k _ => ?_
  congr 2
  exact congrArg₂ (fun a b => ix3 a l b) (Fin.ext (by show (p.val * 1408 + k.val) / 1408 = p.val; omega))
    (Fin.ext (by show (p.val * 1408 + k.val) % 1408 = k.val; omega))

/-- An entry of the gradient. -/
theorem dfn_at (d : FVec Ideal S4096x5632 .bf16) (w : FVec Ideal S4x2048x1408 .bf16) (d' : FVec Ideal S4096x5632 .bf16)
    (w' : FVec Ideal S4x2048x1408 .bf16) (r : Fin 4096) (l : Fin 2048) :
    dfn d w d' w' (ix2 r l) = back d w (ix2 r l) + back d' w' (ix2 r l) := add_comm _ _

end Cert.RefDfnIdeal.Value

namespace Cert.DfnIdeal.Value

open Cert.DfnIdeal Cert.DfnIdeal.Gen Idealize.ShloMosaic Idealize.ShloMosaic.TcCoe Idealize.SL.Sem
open Idealize.ShloMosaic.Pipeline (Dat)

/-- One part's product at an entry. -/
def part (a : FVec Ideal S512x1408 .bf16) (w : FVec Ideal S1x512x1408 .bf16) (r l : Fin 512) : EReal :=
  ∑ k : Fin 1408, a (ix2 r k) * w (ix3 0 l k)

/-- An entry of what a block stores. -/
theorem pay_at (a0 a1 a2 a3 b0 b1 b2 b3 : FVec Ideal S512x1408 .bf16) (w0 w1 w2 w3 u0 u1 u2 u3 : FVec Ideal S1x512x1408 .bf16) (r l : Fin 512) :
    k0_pay1 (F := Ideal) (k0_pay2 (F := Ideal) a0 w0 a1 w1 a2 w2 a3 w3) (k0_pay3 (F := Ideal) b0 u0) (Scalar.ofBits .f32 0x00000000#32)
      b1 u1 b2 u2 b3 u3 (ix2 r l)
    = (part a0 w0 r l + part a1 w1 r l + part a2 w2 r l + part a3 w3 r l)
      + (part b0 u0 r l + part b1 u1 r l + part b2 u2 r l + part b3 u3 r l) := by
  pointwise [k0_pay1, k0_pay2, k0_pay3, part]

variable (m : (ℓ : Loc nD τ sig) → Buf (Elt Ideal) ℓ)

/-- Which block of each array a point stages. -/
theorem idx : ∀ t : Fin cfg0.N, win0_0.index t = ![t.val / 4, 0] ∧ win0_1.index t = ![0, t.val % 4, 0]
    ∧ win0_2.index t = ![t.val / 4, 0] ∧ win0_3.index t = ![0, t.val % 4, 0] ∧ win0_4.index t = ![t.val / 4, t.val % 4] :=
  (by decide +kernel : ∀ t : Fin grid0.N, _)

/-- A vector holds the columns of one part. -/
def IsCols (P : Fin 4) (X : FVec Ideal S512x5632 .bf16) (a : FVec Ideal S512x1408 .bf16) : Prop :=
  ∀ (r : Fin 512) (k : Fin 1408), a (ix2 r k) = X (ix2 r ⟨P.val * 1408 + k.val, by omega⟩)

/-- A vector holds one part of the weight. -/
def IsPart (P : Fin 4) (W : FVec Ideal S4x512x1408 .bf16) (w : FVec Ideal S1x512x1408 .bf16) : Prop :=
  ∀ (l : Fin 512) (k : Fin 1408), w (ix3 0 l k) = W (ix3 P l k)

/-- The parts' products together. -/
theorem parts_at {X : FVec Ideal S512x5632 .bf16} {W : FVec Ideal S4x512x1408 .bf16} {a0 a1 a2 a3 : FVec Ideal S512x1408 .bf16}
    {w0 w1 w2 w3 : FVec Ideal S1x512x1408 .bf16} (h0 : IsCols 0 X a0) (h1 : IsCols 1 X a1) (h2 : IsCols 2 X a2) (h3 : IsCols 3 X a3)
    (g0 : IsPart 0 W w0) (g1 : IsPart 1 W w1) (g2 : IsPart 2 W w2) (g3 : IsPart 3 W w3) (r l : Fin 512) :
    part a0 w0 r l + part a1 w1 r l + part a2 w2 r l + part a3 w3 r l
      = ∑ p : Fin 4, ∑ k : Fin 1408, X (ix2 r ⟨p.val * 1408 + k.val, by omega⟩) * W (ix3 p l k) := by
  simp only [part, h0 r, h1 r, h2 r, h3 r, g0 l, g1 l, g2 l, g3 l, Fin.sum_univ_four]

/-- A load of one part's columns. -/
theorem cols_ld (P : Fin 4) (X : FVec Ideal S512x5632 .bf16) (o : Nat) (ho : o = P.val * 1408)
    (inb : ∀ a, (![0, o] : Fin 2 → ℕ) a + (![512, 1408] : Fin 2 → ℕ) a ≤ S512x5632.size a) :
    IsCols P X (View.ld (Val := Elt Ideal) (e' := .bf16) X (Rect.unit (s := S512x5632) ![0, o] ![512, 1408] inb)) :=
  fun r k => View.ld_unit_apply_of (S := S512x5632) (Val := Elt Ideal) (e := .bf16) X ![0, o] ![512, 1408] inb _ _ fun a => by
    match a with
    | ⟨0, _⟩ => exact (Nat.zero_add _).symm
    | ⟨1, _⟩ => exact congrArg (· + k.val) ho.symm

/-- A load of one part of the weight. -/
theorem part_ld (P : Fin 4) (W : FVec Ideal S4x512x1408 .bf16) (o : Nat) (ho : o = P.val)
    (inb : ∀ a, (![o, 0, 0] : Fin 3 → ℕ) a + (![1, 512, 1408] : Fin 3 → ℕ) a ≤ S4x512x1408.size a) :
    IsPart P W (View.ld (Val := Elt Ideal) (e' := .bf16) W (Rect.unit (s := S4x512x1408) ![o, 0, 0] ![1, 512, 1408] inb)) :=
  fun l k => View.ld_unit_apply_of (S := S4x512x1408) (Val := Elt Ideal) (e := .bf16) W ![o, 0, 0] ![1, 512, 1408] inb _ _ fun a => by
    match a with
    | ⟨0, _⟩ => exact ho.symm
    | ⟨1, _⟩ => exact (Nat.zero_add _).symm
    | ⟨2, _⟩ => exact (Nat.zero_add _).symm

theorem blk0 (c : Dev nD) (t : Fin cfg0.N) (r : Fin 512) (k : Fin 5632) (R : Fin 4096) (hR : R.val = t.val / 4 * 512 + r.val) :
    (show FVec Ideal S512x5632 .bf16 from iblk m c 0 t) (ix2 r k)
      = (m ((c : Thread nD τ).loc main_arg0) : FVec Ideal S4096x5632 .bf16) (ix2 R k) := by
  blk_point [iblk, V, idx t]

theorem blk1 (c : Dev nD) (t : Fin cfg0.N) (p : Fin 4) (l : Fin 512) (k : Fin 1408) (L : Fin 2048) (hL : L.val = t.val % 4 * 512 + l.val) :
    (show FVec Ideal S4x512x1408 .bf16 from iblk m c 1 t) (ix3 p l k)
      = (m ((c : Thread nD τ).loc main_arg1) : FVec Ideal S4x2048x1408 .bf16) (ix3 p L k) := by
  blk_point [iblk, V, idx t]

theorem blk2 (c : Dev nD) (t : Fin cfg0.N) (r : Fin 512) (k : Fin 5632) (R : Fin 4096) (hR : R.val = t.val / 4 * 512 + r.val) :
    (show FVec Ideal S512x5632 .bf16 from iblk m c 2 t) (ix2 r k)
      = (m ((c : Thread nD τ).loc main_arg2) : FVec Ideal S4096x5632 .bf16) (ix2 R k) := by
  blk_point [iblk, V, idx t]

theorem blk3 (c : Dev nD) (t : Fin cfg0.N) (p : Fin 4) (l : Fin 512) (k : Fin 1408) (L : Fin 2048) (hL : L.val = t.val % 4 * 512 + l.val) :
    (show FVec Ideal S4x512x1408 .bf16 from iblk m c 3 t) (ix3 p l k)
      = (m ((c : Thread nD τ).loc main_arg3) : FVec Ideal S4x2048x1408 .bf16) (ix3 p L k) := by
  blk_point [iblk, V, idx t]

/-- The array at the end is the reference's gradient. -/
theorem final (c : Dev nD) : (dats m 0 c).arrAt 4 cfg0.N
    = Cert.RefDfnIdeal.Value.dfn (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  have ht : t.val < 32 := t.isLt
  obtain ⟨r, l, rfl⟩ : ∃ (r l : Fin 512), y = ix2 r l := ⟨y 0, y 1, eq_ix2 y⟩
  have key := Cert.RefDfnIdeal.Value.dfn_at (m ((c : Thread nD τ).loc main_arg0)) (m ((c : Thread nD τ).loc main_arg1))
      (m ((c : Thread nD τ).loc main_arg2)) (m ((c : Thread nD τ).loc main_arg3))
      ⟨t.val / 4 * 512 + r.val, by omega⟩ ⟨t.val % 4 * 512 + l.val, by omega⟩
  rw [Cert.RefDfnIdeal.Value.back_at, Cert.RefDfnIdeal.Value.back_at] at key
  blk_simp
  rw [after0_4]; frame_out
  refine (pay_at _ _ _ _ _ _ _ _ _ _ _ _ _ _ _ _ r l).trans ?_
  refine (congrArg₂ (· + ·)
    (parts_at (cols_ld 0 _ _ rfl _) (cols_ld 1 _ _ rfl _) (cols_ld 2 _ _ rfl _) (cols_ld 3 _ _ rfl _)
      (part_ld 0 _ _ rfl _) (part_ld 1 _ _ rfl _) (part_ld 2 _ _ rfl _) (part_ld 3 _ _ rfl _) r l)
    (parts_at (cols_ld 0 _ _ rfl _) (cols_ld 1 _ _ rfl _) (cols_ld 2 _ _ rfl _) (cols_ld 3 _ _ rfl _)
      (part_ld 0 _ _ rfl _) (part_ld 1 _ _ rfl _) (part_ld 2 _ _ rfl _) (part_ld 3 _ _ rfl _) r l)).trans ?_
  refine (congrArg₂ (· + ·)
    (Finset.sum_congr rfl fun p _ => Finset.sum_congr rfl fun k _ =>
      congrArg₂ (fun x y : EReal => x * y) (blk0 m c t r _ ⟨t.val / 4 * 512 + r.val, by omega⟩ rfl) (blk1 m c t p l k ⟨t.val % 4 * 512 + l.val, by omega⟩ rfl))
    (Finset.sum_congr rfl fun p _ => Finset.sum_congr rfl fun k _ =>
      congrArg₂ (fun x y : EReal => x * y) (blk2 m c t r _ ⟨t.val / 4 * 512 + r.val, by omega⟩ rfl) (blk3 m c t p l k ⟨t.val % 4 * 512 + l.val, by omega⟩ rfl))).trans ?_
  refine key.symm.trans ?_
  congr 1
  blk_ext [idx t]

end Cert.DfnIdeal.Value

end
-- ==== Proof.GateUp.lean ====
module

public import proofs.«01_k».proof.Proof.Gen.GateUpIdeal.Value
public import proofs.«01_k».proof.Proof.Gen.RefGateUpIdeal.Run
public import proofs.«01_k».proof.Proof.Gen.GateUp.Frame
public import Idealize.ShloMosaic.Lib.Pointwise
public import Idealize.ShloMosaic.Lib.Pipeline.ValueKit

@[expose] public section

set_option maxRecDepth 16384

noncomputable section

/-! The gate and up projections and the activation: each block is that block of the reference's arrays. -/

namespace Cert.RefGateUpIdeal.Value

open Cert.RefGateUpIdeal Cert.RefGateUpIdeal.Gen Idealize.ShloMosaic Idealize.SL.Sem

/-- The product with a weight whose columns are stored in four parts. -/
def proj (a : FVec Ideal S4096x2048 .bf16) (w : FVec Ideal S4x2048x1408 .bf16) : FVec Ideal S4096x5632 .f32 :=
  Host.dotGeneral dot_S4096x2048_S2048x5632_S4096x5632_1_0_0_1_n_n none (extf .f32 a bitsLt_bf16_f32)
    (shapeCast _ (transpose S2048x4x1408 [1, 0, 2] (extf .f32 w bitsLt_bf16_f32) transposes_S4x2048x1408_S2048x4x1408_1_0_2)
      shapeCasts_S2048x4x1408_S2048x5632)

/-- The product as stored. -/
def projB (a : FVec Ideal S4096x2048 .bf16) (w : FVec Ideal S4x2048x1408 .bf16) : FVec Ideal S4096x5632 .bf16 :=
  truncf .bf16 (proj a w) bitsLt_bf16_f32

/-- The activation as stored: the gate by its logistic, by the other product. -/
def act (a : FVec Ideal S4096x2048 .bf16) (w u : FVec Ideal S4x2048x1408 .bf16) : FVec Ideal S4096x5632 .bf16 :=
  truncf .bf16 (mulf (mulf (proj a w) (Host.divf (broadcastInDim S4096x5632 ![] bcast_S_S4096x5632 (constant S_ .f32 0x3F800000#32))
    (addf (broadcastInDim S4096x5632 ![] bcast_S_S4096x5632 (constant S_ .f32 0x3F800000#32)) (Host.exp (Host.negf (proj a w))))))
    (proj a u)) bitsLt_bf16_f32

/-- An entry of the product: a sum over the row. -/
theorem proj_at (a : FVec Ideal S4096x2048 .bf16) (w : FVec Ideal S4x2048x1408 .bf16) (r : Fin 4096) (p : Fin 4) (l : Fin 1408) :
    proj a w (ix2 r ⟨p.val * 1408 + l.val, by omega⟩) = ∑ k : Fin 2048, a (ix2 r k) * w (ix3 p k l) := by
  pointwise [proj]

/-- An entry of the activation. -/
theorem act_at (a : FVec Ideal S4096x2048 .bf16) (w u : FVec Ideal S4x2048x1408 .bf16) (r : Fin 4096) (l : Fin 5632) :
    act a w u (ix2 r l) = proj a w (ix2 r l) * Ideal.div (Ideal.ofBits .f32 0x3F800000#32)
      (Ideal.ofBits .f32 0x3F800000#32 + Ideal.exp (- proj a w (ix2 r l))) * proj a u (ix2 r l) := by
  pointwise [act]

end Cert.RefGateUpIdeal.Value

namespace Cert.GateUpIdeal.Value

open Cert.GateUpIdeal Cert.GateUpIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![t.val % 8, 0] ∧ win0_1.index t = ![t.val / 8, 0, 0]
    ∧ win0_2.index t = ![t.val / 8, 0, 0] ∧ win0_3.index t = ![t.val % 8, t.val / 8] ∧ win0_4.index t = ![t.val % 8, t.val / 8]
    ∧ win0_5.index t = ![t.val % 8, t.val / 8] :=
  (by decide +kernel : ∀ t : Fin grid0.N, _)

/-- An entry of a block's product with the gate's weight. -/
theorem gate_at (v0 : FVec Ideal S512x2048 .bf16) (v1 : FVec Ideal S1x2048x1408 .bf16) (r : Fin 512) (l : Fin 1408) :
    k0_pay1 (F := Ideal) v0 v1 (ix2 r l) = ∑ k : Fin 2048, v0 (ix2 r k) * v1 (ix3 0 k l) := by
  pointwise [k0_pay1]

/-- An entry of a block's product with the other weight. -/
theorem up_at (v0 : FVec Ideal S512x2048 .bf16) (v1 : FVec Ideal S1x2048x1408 .bf16) (r : Fin 512) (l : Fin 1408) :
    k0_pay2 (F := Ideal) v0 v1 (ix2 r l) = ∑ k : Fin 2048, v0 (ix2 r k) * v1 (ix3 0 k l) := by
  pointwise [k0_pay2]

/-- The products as stored. -/
theorem gateB_at (v0 : FVec Ideal S512x2048 .bf16) (v1 : FVec Ideal S1x2048x1408 .bf16) (r : Fin 512) (l : Fin 1408) :
    k0_pay3 (F := Ideal) v0 v1 (ix2 r l) = k0_pay1 (F := Ideal) v0 v1 (ix2 r l) := by
  pointwise [k0_pay3]

theorem upB_at (v0 : FVec Ideal S512x2048 .bf16) (v1 : FVec Ideal S1x2048x1408 .bf16) (r : Fin 512) (l : Fin 1408) :
    k0_pay4 (F := Ideal) v0 v1 (ix2 r l) = k0_pay2 (F := Ideal) v0 v1 (ix2 r l) := by
  pointwise [k0_pay4]

/-- The activation of a block. -/
theorem act_at (v0 : FVec Ideal S512x2048 .bf16) (v1 v4 : FVec Ideal S1x2048x1408 .bf16) (r : Fin 512) (l : Fin 1408) :
    k0_pay5 (F := Ideal) v0 v1 v4 (ix2 r l) = k0_pay1 (F := Ideal) v0 v1 (ix2 r l) * Ideal.div (Ideal.ofBits .f32 0x3F800000#32)
      (Ideal.ofBits .f32 0x3F800000#32 + Ideal.exp (- k0_pay1 (F := Ideal) v0 v1 (ix2 r l))) * k0_pay2 (F := Ideal) v0 v4 (ix2 r l) := by
  have h : (0 : EReal) - k0_pay1 (F := Ideal) v0 v1 (ix2 r l) = - k0_pay1 (F := Ideal) v0 v1 (ix2 r l) := zero_sub _
  rw [← h]
  pointwise [k0_pay5]

/-- A point's block of rows. -/
theorem blk0 (c : Dev nD) (t : Fin cfg0.N) (r : Fin 512) (k : Fin 2048) (R : Fin 4096) (hR : R.val = t.val % 8 * 512 + r.val) :
    (show FVec Ideal S512x2048 .bf16 from iblk m c 0 t) (ix2 r k)
      = (m ((c : Thread nD τ).loc main_arg0) : FVec Ideal S4096x2048 .bf16) (ix2 R k) := by
  blk_point [iblk, V, idx t]

/-- A point's part of the gate's weight. -/
theorem blk1 (c : Dev nD) (t : Fin cfg0.N) (k : Fin 2048) (l : Fin 1408) (p : Fin 4) (hp : p.val = t.val / 8) :
    (show FVec Ideal S1x2048x1408 .bf16 from iblk m c 1 t) (ix3 0 k l)
      = (m ((c : Thread nD τ).loc main_arg1) : FVec Ideal S4x2048x1408 .bf16) (ix3 p k l) := by
  blk_point [iblk, V, idx t]

/-- A point's part of the other weight. -/
theorem blk2 (c : Dev nD) (t : Fin cfg0.N) (k : Fin 2048) (l : Fin 1408) (p : Fin 4) (hp : p.val = t.val / 8) :
    (show FVec Ideal S1x2048x1408 .bf16 from iblk m c 2 t) (ix3 0 k l)
      = (m ((c : Thread nD τ).loc main_arg2) : FVec Ideal S4x2048x1408 .bf16) (ix3 p k l) := by
  blk_point [iblk, V, idx t]

theorem gate_block (c : Dev nD) (t : Fin cfg0.N) (r : Fin 512) (l : Fin 1408) (R : Fin 4096) (hR : R.val = t.val % 8 * 512 + r.val)
    (p : Fin 4) (hp : p.val = t.val / 8) : k0_pay1 (iblk m c 0 t) (iblk m c 1 t) (ix2 r l)
      = Cert.RefGateUpIdeal.Value.proj (m ((c : Thread nD τ).loc main_arg0)) (m ((c : Thread nD τ).loc main_arg1))
        (ix2 R ⟨p.val * 1408 + l.val, by omega⟩) := by
  rw [Cert.RefGateUpIdeal.Value.proj_at, gate_at]
  exact Finset.sum_congr rfl fun k _ => congrArg₂ (· * ·) (blk0 m c t r k R hR) (blk1 m c t k l p hp)

theorem up_block (c : Dev nD) (t : Fin cfg0.N) (r : Fin 512) (l : Fin 1408) (R : Fin 4096) (hR : R.val = t.val % 8 * 512 + r.val)
    (p : Fin 4) (hp : p.val = t.val / 8) : k0_pay2 (iblk m c 0 t) (iblk m c 2 t) (ix2 r l)
      = Cert.RefGateUpIdeal.Value.proj (m ((c : Thread nD τ).loc main_arg0)) (m ((c : Thread nD τ).loc main_arg2))
        (ix2 R ⟨p.val * 1408 + l.val, by omega⟩) := by
  rw [Cert.RefGateUpIdeal.Value.proj_at, up_at]
  exact Finset.sum_congr rfl fun k _ => congrArg₂ (· * ·) (blk0 m c t r k R hR) (blk2 m c t k l p hp)

/-- The gate at the end. -/
theorem final3 (c : Dev nD) : (dats m 0 c).arrAt 3 cfg0.N
    = Cert.RefGateUpIdeal.Value.projB (m ((c : Thread nD τ).loc main_arg0)) (m ((c : Thread nD τ).loc main_arg1)) := by
  refine (dats m 0 c).arrAt_eq_of_covers 3 _ (by decide +kernel) fun t hf y => ?_
  have ht : t.val < 32 := t.isLt
  obtain ⟨r, l, rfl⟩ : ∃ (r : Fin 512) (l : Fin 1408), y = ix2 r l := ⟨y 0, y 1, eq_ix2 y⟩
  have key := (gateB_at (iblk m c 0 t) (iblk m c 1 t) r l).trans
    (gate_block m c t r l ⟨t.val % 8 * 512 + r.val, by omega⟩ rfl ⟨t.val / 8, by omega⟩ rfl)
  blk_simp
  rw [after0_3]; frame_out
  refine key.trans ?_
  show Cert.RefGateUpIdeal.Value.proj _ _ _ = Cert.RefGateUpIdeal.Value.proj _ _ _
  congr 1
  blk_ext [idx t]

/-- The other product at the end. -/
theorem final4 (c : Dev nD) : (dats m 0 c).arrAt 4 cfg0.N
    = Cert.RefGateUpIdeal.Value.projB (m ((c : Thread nD τ).loc main_arg0)) (m ((c : Thread nD τ).loc main_arg2)) := by
  refine (dats m 0 c).arrAt_eq_of_covers 4 _ (by decide +kernel) fun t hf y => ?_
  have ht : t.val < 32 := t.isLt
  obtain ⟨r, l, rfl⟩ : ∃ (r : Fin 512) (l : Fin 1408), y = ix2 r l := ⟨y 0, y 1, eq_ix2 y⟩
  have key := (upB_at (iblk m c 0 t) (iblk m c 2 t) r l).trans
    (up_block m c t r l ⟨t.val % 8 * 512 + r.val, by omega⟩ rfl ⟨t.val / 8, by omega⟩ rfl)
  blk_simp
  rw [after0_4]; frame_out
  refine key.trans ?_
  show Cert.RefGateUpIdeal.Value.proj _ _ _ = Cert.RefGateUpIdeal.Value.proj _ _ _
  congr 1
  blk_ext [idx t]

/-- The activation at the end. -/
theorem final5 (c : Dev nD) : (dats m 0 c).arrAt 5 cfg0.N
    = Cert.RefGateUpIdeal.Value.act (m ((c : Thread nD τ).loc main_arg0)) (m ((c : Thread nD τ).loc main_arg1))
      (m ((c : Thread nD τ).loc main_arg2)) := by
  refine (dats m 0 c).arrAt_eq_of_covers 5 _ (by decide +kernel) fun t hf y => ?_
  have ht : t.val < 32 := t.isLt
  obtain ⟨r, l, rfl⟩ : ∃ (r : Fin 512) (l : Fin 1408), y = ix2 r l := ⟨y 0, y 1, eq_ix2 y⟩
  have key := act_at (iblk m c 0 t) (iblk m c 1 t) (iblk m c 2 t) r l
  rw [gate_block m c t r l ⟨t.val % 8 * 512 + r.val, by omega⟩ rfl ⟨t.val / 8, by omega⟩ rfl,
    up_block m c t r l ⟨t.val % 8 * 512 + r.val, by omega⟩ rfl ⟨t.val / 8, by omega⟩ rfl,
    ← Cert.RefGateUpIdeal.Value.act_at] at key
  blk_simp
  rw [after0_5]; frame_out
  refine key.trans ?_
  congr 1
  blk_ext [idx t]

end Cert.GateUpIdeal.Value

end
-- ==== Proof.DwOut.lean ====
module

public import proofs.«01_k».proof.Proof.Gen.DwOutIdeal.Value
public import proofs.«01_k».proof.Proof.Gen.RefDwOutIdeal.Run
public import proofs.«01_k».proof.Proof.Gen.DwOut.Frame
public import Idealize.ShloMosaic.Lib.Pointwise
public import Idealize.ShloMosaic.Lib.Pipeline.ValueKit

@[expose] public section

set_option maxRecDepth 16384

noncomputable section

/-! The gradient of the output projection's weight: each block is that block of the reference's product. -/

namespace Cert.RefDwOutIdeal.Value

open Cert.RefDwOutIdeal Cert.RefDwOutIdeal.Gen Idealize.ShloMosaic Idealize.SL.Sem

/-- The reference's product. -/
def res (a : FVec Ideal S4096x2048 .bf16) (b : FVec Ideal S4096x2048 .bf16) : FVec Ideal S2048x2048 .f32 :=
  transpose S2048x2048 [1, 0] (Host.dotGeneral dot_S4096x2048_S4096x2048_S2048x2048_0_0_1_1_n_n none
    (extf .f32 b bitsLt_bf16_f32) (extf .f32 a bitsLt_bf16_f32)) transposes_S2048x2048_S2048x2048_1_0

/-- An entry. -/
theorem res_at (a : FVec Ideal S4096x2048 .bf16) (b : FVec Ideal S4096x2048 .bf16) (r : Fin 2048) (l : Fin 2048) :
    res a b (ix2 r l) = ∑ k : Fin 4096, a (ix2 k r) * b (ix2 k l) := by
  have h : res a b (ix2 r l) = ∑ k : Fin 4096, b (ix2 k l) * a (ix2 k r) := by pointwise [res]
  exact h.trans (Finset.sum_congr rfl fun k _ => mul_comm _ _)

end Cert.RefDwOutIdeal.Value

namespace Cert.DwOutIdeal.Value

open Cert.DwOutIdeal Cert.DwOutIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- An entry of a block's product. -/
theorem pay_at (v0 : FVec Ideal S4096x512 .bf16) (v1 : FVec Ideal S4096x1024 .bf16) (r : Fin 512) (l : Fin 1024) :
    k0_pay1 (F := Ideal) v0 v1 (ix2 r l) = ∑ k : Fin 4096, v0 (ix2 k r) * v1 (ix2 k l) := by
  pointwise [k0_pay1]

/-- A point's block of the left factor. -/
theorem blk0 (c : Dev nD) (t : Fin cfg0.N) (k : Fin 4096) (r : Fin 512) (R : Fin 2048) (hR : R.val = t.val / 2 * 512 + r.val) :
    (show FVec Ideal S4096x512 .bf16 from iblk m c 0 t) (ix2 k r)
      = (m ((c : Thread nD τ).loc main_arg0) : FVec Ideal S4096x2048 .bf16) (ix2 k R) := by
  blk_point [iblk, V, idx t]

/-- A point's block of the right factor. -/
theorem blk1 (c : Dev nD) (t : Fin cfg0.N) (k : Fin 4096) (l : Fin 1024) (L : Fin 2048) (hL : L.val = t.val % 2 * 1024 + l.val) :
    (show FVec Ideal S4096x1024 .bf16 from iblk m c 1 t) (ix2 k l)
      = (m ((c : Thread nD τ).loc main_arg1) : FVec Ideal S4096x2048 .bf16) (ix2 k L) := by
  blk_point [iblk, V, idx t]

/-- The array at the end is the reference's product. -/
theorem final (c : Dev nD) : (dats m 0 c).arrAt 2 cfg0.N
    = Cert.RefDwOutIdeal.Value.res (m ((c : Thread nD τ).loc main_arg0)) (m ((c : Thread nD τ).loc main_arg1)) := by
  refine (dats m 0 c).arrAt_eq_of_covers 2 _ (by decide +kernel) fun t hf y => ?_
  have ht : t.val < 8 := t.isLt
  obtain ⟨r, l, rfl⟩ : ∃ (r : Fin 512) (l : Fin 1024), y = ix2 r l := ⟨y 0, y 1, (ix2_eta y).symm⟩
  have key : k0_pay1 (iblk m c 0 t) (iblk m c 1 t) (ix2 r l)
      = Cert.RefDwOutIdeal.Value.res (m ((c : Thread nD τ).loc main_arg0)) (m ((c : Thread nD τ).loc main_arg1))
        (ix2 ⟨t.val / 2 * 512 + r.val, by omega⟩ ⟨t.val % 2 * 1024 + l.val, by omega⟩) := by
    rw [Cert.RefDwOutIdeal.Value.res_at, pay_at]
    exact Finset.sum_congr rfl fun k _ => congrArg₂ (fun x y : EReal => x * y) (blk0 m c t k r _ rfl) (blk1 m c t k l _ rfl)
  blk_simp
  rw [after0_2]; frame_out
  refine key.trans ?_
  congr 1
  blk_ext [idx t]

end Cert.DwOutIdeal.Value

end
-- ==== Proof.Dy.lean ====
module

public import proofs.«01_k».proof.Proof.Gen.DyIdeal.Value
public import proofs.«01_k».proof.Proof.Gen.RefDyIdeal.Run
public import proofs.«01_k».proof.Proof.Gen.Dy.Frame
public import Idealize.ShloMosaic.Lib.Pointwise
public import Idealize.ShloMosaic.Lib.Pipeline.ValueKit

@[expose] public section

set_option maxRecDepth 16384

noncomputable section

/-! The gradient of the attention's output: each block is that block of the reference's product. -/

namespace Cert.RefDyIdeal.Value

open Cert.RefDyIdeal Cert.RefDyIdeal.Gen Idealize.ShloMosaic Idealize.SL.Sem

/-- The reference's product. -/
def res (a : FVec Ideal S4096x2048 .bf16) (b : FVec Ideal S2048x2048 .bf16) : FVec Ideal S4096x2048 .f32 :=
  Host.dotGeneral dot_S4096x2048_S2048x2048_S4096x2048_1_1_0_0_n_n none (extf .f32 a bitsLt_bf16_f32) (extf .f32 b bitsLt_bf16_f32)

/-- An entry. -/
theorem res_at (a : FVec Ideal S4096x2048 .bf16) (b : FVec Ideal S2048x2048 .bf16) (r : Fin 4096) (l : Fin 2048) :
    res a b (ix2 r l) = ∑ k : Fin 2048, a (ix2 r k) * b (ix2 l k) := by
  pointwise [res]

end Cert.RefDyIdeal.Value

namespace Cert.DyIdeal.Value

open Cert.DyIdeal Cert.DyIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- An entry of a block's product. -/
theorem pay_at (v0 : FVec Ideal S1024x2048 .bf16) (v1 : FVec Ideal S1024x2048 .bf16) (r : Fin 1024) (l : Fin 1024) :
    k0_pay1 (F := Ideal) v0 v1 (ix2 r l) = ∑ k : Fin 2048, v0 (ix2 r k) * v1 (ix2 l k) := by
  pointwise [k0_pay1]

/-- A point's block of the left factor. -/
theorem blk0 (c : Dev nD) (t : Fin cfg0.N) (k : Fin 2048) (r : Fin 1024) (R : Fin 4096) (hR : R.val = t.val / 2 * 1024 + r.val) :
    (show FVec Ideal S1024x2048 .bf16 from iblk m c 0 t) (ix2 r k)
      = (m ((c : Thread nD τ).loc main_arg0) : FVec Ideal S4096x2048 .bf16) (ix2 R k) := by
  blk_point [iblk, V, idx t]

/-- A point's block of the right factor. -/
theorem blk1 (c : Dev nD) (t : Fin cfg0.N) (k : Fin 2048) (l : Fin 1024) (L : Fin 2048) (hL : L.val = t.val % 2 * 1024 + l.val) :
    (show FVec Ideal S1024x2048 .bf16 from iblk m c 1 t) (ix2 l k)
      = (m ((c : Thread nD τ).loc main_arg1) : FVec Ideal S2048x2048 .bf16) (ix2 L k) := by
  blk_point [iblk, V, idx t]

/-- The array at the end is the reference's product. -/
theorem final (c : Dev nD) : (dats m 0 c).arrAt 2 cfg0.N
    = Cert.RefDyIdeal.Value.res (m ((c : Thread nD τ).loc main_arg0)) (m ((c : Thread nD τ).loc main_arg1)) := by
  refine (dats m 0 c).arrAt_eq_of_covers 2 _ (by decide +kernel) fun t hf y => ?_
  have ht : t.val < 8 := t.isLt
  obtain ⟨r, l, rfl⟩ : ∃ (r : Fin 1024) (l : Fin 1024), y = ix2 r l := ⟨y 0, y 1, (ix2_eta y).symm⟩
  have key : k0_pay1 (iblk m c 0 t) (iblk m c 1 t) (ix2 r l)
      = Cert.RefDyIdeal.Value.res (m ((c : Thread nD τ).loc main_arg0)) (m ((c : Thread nD τ).loc main_arg1))
        (ix2 ⟨t.val / 2 * 1024 + r.val, by omega⟩ ⟨t.val % 2 * 1024 + l.val, by omega⟩) := by
    rw [Cert.RefDyIdeal.Value.res_at, pay_at]
    exact Finset.sum_congr rfl fun k _ => congrArg₂ (fun x y : EReal => x * y) (blk0 m c t k r _ rfl) (blk1 m c t k l _ rfl)
  blk_simp
  rw [after0_2]; frame_out
  refine key.trans ?_
  congr 1
  blk_ext [idx t]

end Cert.DyIdeal.Value

end
-- ==== Proof.InProj.lean ====
module

public import proofs.«01_k».proof.Proof.Gen.InProjIdeal.Value
public import proofs.«01_k».proof.Proof.Gen.RefInProjIdeal.Run
public import proofs.«01_k».proof.Proof.Gen.InProj.Frame
public import Idealize.ShloMosaic.Lib.Pointwise
public import Idealize.ShloMosaic.Lib.Pipeline.ValueKit

@[expose] public section

set_option maxRecDepth 16384

noncomputable section

/-! The input projection: each block is that block of the reference's product. -/

namespace Cert.RefInProjIdeal.Value

open Cert.RefInProjIdeal Cert.RefInProjIdeal.Gen Idealize.ShloMosaic Idealize.SL.Sem

/-- The reference's product. -/
def res (a : FVec Ideal S4096x2048 .bf16) (b : FVec Ideal S2048x3072 .bf16) : FVec Ideal S4096x3072 .f32 :=
  Host.dotGeneral dot_S4096x2048_S2048x3072_S4096x3072_1_0_0_1_n_n none (extf .f32 a bitsLt_bf16_f32) (extf .f32 b bitsLt_bf16_f32)

/-- An entry. -/
theorem res_at (a : FVec Ideal S4096x2048 .bf16) (b : FVec Ideal S2048x3072 .bf16) (r : Fin 4096) (l : Fin 3072) :
    res a b (ix2 r l) = ∑ k : Fin 2048, a (ix2 r k) * b (ix2 k l) := by
  pointwise [res]

end Cert.RefInProjIdeal.Value

namespace Cert.InProjIdeal.Value

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![t.val / 3, 0] ∧ win0_1.index t = ![0, t.val % 3]
    ∧ win0_2.index t = ![t.val / 3, t.val % 3] :=
  (by decide +kernel : ∀ t : Fin grid0.N, _)

/-- An entry of a block's product. -/
theorem pay_at (v0 : FVec Ideal S1024x2048 .bf16) (v1 : FVec Ideal S2048x1024 .bf16) (r : Fin 1024) (l : Fin 1024) :
    k0_pay1 (F := Ideal) v0 v1 (ix2 r l) = ∑ k : Fin 2048, v0 (ix2 r k) * v1 (ix2 k l) := by
  pointwise [k0_pay1]

/-- A point's block of the left factor. -/
theorem blk0 (c : Dev nD) (t : Fin cfg0.N) (k : Fin 2048) (r : Fin 1024) (R : Fin 4096) (hR : R.val = t.val / 3 * 1024 + r.val) :
    (show FVec Ideal S1024x2048 .bf16 from iblk m c 0 t) (ix2 r k)
      = (m ((c : Thread nD τ).loc main_arg0) : FVec Ideal S4096x2048 .bf16) (ix2 R k) := by
  blk_point [iblk, V, idx t]

/-- A point's block of the right factor. -/
theorem blk1 (c : Dev nD) (t : Fin cfg0.N) (k : Fin 2048) (l : Fin 1024) (L : Fin 3072) (hL : L.val = t.val % 3 * 1024 + l.val) :
    (show FVec Ideal S2048x1024 .bf16 from iblk m c 1 t) (ix2 k l)
      = (m ((c : Thread nD τ).loc main_arg1) : FVec Ideal S2048x3072 .bf16) (ix2 k L) := by
  blk_point [iblk, V, idx t]

/-- The array at the end is the reference's product. -/
theorem final (c : Dev nD) : (dats m 0 c).arrAt 2 cfg0.N
    = Cert.RefInProjIdeal.Value.res (m ((c : Thread nD τ).loc main_arg0)) (m ((c : Thread nD τ).loc main_arg1)) := by
  refine (dats m 0 c).arrAt_eq_of_covers 2 _ (by decide +kernel) fun t hf y => ?_
  have ht : t.val < 12 := t.isLt
  obtain ⟨r, l, rfl⟩ : ∃ (r : Fin 1024) (l : Fin 1024), y = ix2 r l := ⟨y 0, y 1, (ix2_eta y).symm⟩
  have key : k0_pay1 (iblk m c 0 t) (iblk m c 1 t) (ix2 r l)
      = Cert.RefInProjIdeal.Value.res (m ((c : Thread nD τ).loc main_arg0)) (m ((c : Thread nD τ).loc main_arg1))
        (ix2 ⟨t.val / 3 * 1024 + r.val, by omega⟩ ⟨t.val % 3 * 1024 + l.val, by omega⟩) := by
    rw [Cert.RefInProjIdeal.Value.res_at, pay_at]
    exact Finset.sum_congr rfl fun k _ => congrArg₂ (fun x y : EReal => x * y) (blk0 m c t k r _ rfl) (blk1 m c t k l _ rfl)
  blk_simp
  rw [after0_2]; frame_out
  refine key.trans ?_
  congr 1
  blk_ext [idx t]

end Cert.InProjIdeal.Value

end
-- ==== Proof.DwIn.lean ====
module

public import proofs.«01_k».proof.Proof.Gen.DwInIdeal.Value
public import proofs.«01_k».proof.Proof.Gen.RefDwInIdeal.Run
public import proofs.«01_k».proof.Proof.Gen.DwIn.Frame
public import Idealize.ShloMosaic.Lib.Pointwise
public import Idealize.ShloMosaic.Lib.Pipeline.ValueKit

@[expose] public section

set_option maxRecDepth 16384

noncomputable section

/-! The gradient of the input projection's weight: each block is that block of the reference's product. -/

namespace Cert.RefDwInIdeal.Value

open Cert.RefDwInIdeal Cert.RefDwInIdeal.Gen Idealize.ShloMosaic Idealize.SL.Sem

/-- The reference's product. -/
def res (a : FVec Ideal S4096x2048 .bf16) (b : FVec Ideal S4096x3072 .bf16) : FVec Ideal S2048x3072 .f32 :=
  transpose S2048x3072 [1, 0] (Host.dotGeneral dot_S4096x3072_S4096x2048_S3072x2048_0_0_1_1_n_n none
    (extf .f32 b bitsLt_bf16_f32) (extf .f32 a bitsLt_bf16_f32)) transposes_S3072x2048_S2048x3072_1_0

/-- An entry. -/
theorem res_at (a : FVec Ideal S4096x2048 .bf16) (b : FVec Ideal S4096x3072 .bf16) (r : Fin 2048) (l : Fin 3072) :
    res a b (ix2 r l) = ∑ k : Fin 4096, a (ix2 k r) * b (ix2 k l) := by
  have h : res a b (ix2 r l) = ∑ k : Fin 4096, b (ix2 k l) * a (ix2 k r) := by pointwise [res]
  exact h.trans (Finset.sum_congr rfl fun k _ => mul_comm _ _)

end Cert.RefDwInIdeal.Value

namespace Cert.DwInIdeal.Value

open Cert.DwInIdeal Cert.DwInIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![0, t.val / 3] ∧ win0_1.index t = ![0, t.val % 3]
    ∧ win0_2.index t = ![t.val / 3, t.val % 3] :=
  (by decide +kernel : ∀ t : Fin grid0.N, _)

/-- An entry of a block's product. -/
theorem pay_at (v0 : FVec Ideal S4096x512 .bf16) (v1 : FVec Ideal S4096x1024 .bf16) (r : Fin 512) (l : Fin 1024) :
    k0_pay1 (F := Ideal) v0 v1 (ix2 r l) = ∑ k : Fin 4096, v0 (ix2 k r) * v1 (ix2 k l) := by
  pointwise [k0_pay1]

/-- A point's block of the left factor. -/
theorem blk0 (c : Dev nD) (t : Fin cfg0.N) (k : Fin 4096) (r : Fin 512) (R : Fin 2048) (hR : R.val = t.val / 3 * 512 + r.val) :
    (show FVec Ideal S4096x512 .bf16 from iblk m c 0 t) (ix2 k r)
      = (m ((c : Thread nD τ).loc main_arg0) : FVec Ideal S4096x2048 .bf16) (ix2 k R) := by
  blk_point [iblk, V, idx t]

/-- A point's block of the right factor. -/
theorem blk1 (c : Dev nD) (t : Fin cfg0.N) (k : Fin 4096) (l : Fin 1024) (L : Fin 3072) (hL : L.val = t.val % 3 * 1024 + l.val) :
    (show FVec Ideal S4096x1024 .bf16 from iblk m c 1 t) (ix2 k l)
      = (m ((c : Thread nD τ).loc main_arg1) : FVec Ideal S4096x3072 .bf16) (ix2 k L) := by
  blk_point [iblk, V, idx t]

/-- The array at the end is the reference's product. -/
theorem final (c : Dev nD) : (dats m 0 c).arrAt 2 cfg0.N
    = Cert.RefDwInIdeal.Value.res (m ((c : Thread nD τ).loc main_arg0)) (m ((c : Thread nD τ).loc main_arg1)) := by
  refine (dats m 0 c).arrAt_eq_of_covers 2 _ (by decide +kernel) fun t hf y => ?_
  have ht : t.val < 12 := t.isLt
  obtain ⟨r, l, rfl⟩ : ∃ (r : Fin 512) (l : Fin 1024), y = ix2 r l := ⟨y 0, y 1, (ix2_eta y).symm⟩
  have key : k0_pay1 (iblk m c 0 t) (iblk m c 1 t) (ix2 r l)
      = Cert.RefDwInIdeal.Value.res (m ((c : Thread nD τ).loc main_arg0)) (m ((c : Thread nD τ).loc main_arg1))
        (ix2 ⟨t.val / 3 * 512 + r.val, by omega⟩ ⟨t.val % 3 * 1024 + l.val, by omega⟩) := by
    rw [Cert.RefDwInIdeal.Value.res_at, pay_at]
    exact Finset.sum_congr rfl fun k _ => congrArg₂ (fun x y : EReal => x * y) (blk0 m c t k r _ rfl) (blk1 m c t k l _ rfl)
  blk_simp
  rw [after0_2]; frame_out
  refine key.trans ?_
  congr 1
  blk_ext [idx t]

end Cert.DwInIdeal.Value

end
-- ==== Proof.Dhn.lean ====
module

public import proofs.«01_k».proof.Proof.Gen.DhnIdeal.Value
public import proofs.«01_k».proof.Proof.Gen.RefDhnIdeal.Run
public import proofs.«01_k».proof.Proof.Gen.Dhn.Frame
public import Idealize.ShloMosaic.Lib.Pointwise
public import Idealize.ShloMosaic.Lib.Pipeline.ValueKit
public import Idealize.ShloMosaic.Lib.Pipeline.ReadBack
public import proofs.«01_k».proof.Proof.Shards

@[expose] public section

set_option maxRecDepth 16384

noncomputable section

/-! The gradient of the normed input: each block is that block of the reference's product. -/

namespace Cert.RefDhnIdeal.Value

open Cert.RefDhnIdeal Cert.RefDhnIdeal.Gen Idealize.ShloMosaic Idealize.SL.Sem

/-- The reference's product. -/
def res (a : FVec Ideal S4096x3072 .bf16) (b : FVec Ideal S2048x3072 .bf16) : FVec Ideal S4096x2048 .f32 :=
  Host.dotGeneral dot_S4096x3072_S2048x3072_S4096x2048_1_1_0_0_n_n none (extf .f32 a bitsLt_bf16_f32) (extf .f32 b bitsLt_bf16_f32)

/-- An entry. -/
theorem res_at (a : FVec Ideal S4096x3072 .bf16) (b : FVec Ideal S2048x3072 .bf16) (r : Fin 4096) (l : Fin 2048) :
    res a b (ix2 r l) = ∑ k : Fin 3072, a (ix2 r k) * b (ix2 l k) := by
  pointwise [res]

end Cert.RefDhnIdeal.Value

namespace Cert.DhnIdeal.Value

open Cert.DhnIdeal Cert.DhnIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a point stages. -/
theorem idx : ∀ t : Fin cfg0.N, win0_0.index t = ![t.val / 4, t.val % 2] ∧ win0_1.index t = ![t.val / 2 % 2, t.val % 2]
    ∧ win0_2.index t = ![t.val / 4, t.val / 2 % 2] :=
  (by decide +kernel : ∀ t : Fin grid0.N, _)

/-- The product of two blocks. -/
def part (v0 v1 : FVec Ideal S1024x1536 .bf16) (r l : Fin 1024) : EReal := ∑ k : Fin 1536, v0 (ix2 r k) * v1 (ix2 l k)

theorem first_at (v0 v1 : FVec Ideal S1024x1536 .bf16) (r l : Fin 1024) :
    k0_pay2 (F := Ideal) v0 v1 (ix2 r l) = part v0 v1 r l := by
  pointwise [k0_pay2, k0_pay1, part]

theorem next_at (v0 v1 : FVec Ideal S1024x1536 .bf16) (acc : FVec Ideal S1024x1024 .f32) (r l : Fin 1024) :
    k0_pay3 (F := Ideal) v0 v1 acc (ix2 r l) = acc (ix2 r l) + part v0 v1 r l := by
  pointwise [k0_pay3, k0_pay1, part]

/-- A point's block of the left factor. -/
theorem blk0 (c : Dev nD) (t : Fin cfg0.N) (k : Fin 1536) (r : Fin 1024) (R : Fin 4096) (hR : R.val = t.val / 4 * 1024 + r.val)
    (K : Fin 3072) (hK : K.val = t.val % 2 * 1536 + k.val) :
    (show FVec Ideal S1024x1536 .bf16 from iblk m c 0 t) (ix2 r k)
      = (m ((c : Thread nD τ).loc main_arg0) : FVec Ideal S4096x3072 .bf16) (ix2 R K) := by
  blk_point [iblk, V, idx t]

/-- A point's block of the right factor. -/
theorem blk1 (c : Dev nD) (t : Fin cfg0.N) (k : Fin 1536) (l : Fin 1024) (L : Fin 2048) (hL : L.val = t.val / 2 % 2 * 1024 + l.val)
    (K : Fin 3072) (hK : K.val = t.val % 2 * 1536 + k.val) :
    (show FVec Ideal S1024x1536 .bf16 from iblk m c 1 t) (ix2 l k)
      = (m ((c : Thread nD τ).loc main_arg1) : FVec Ideal S2048x3072 .bf16) (ix2 L K) := by
  blk_point [iblk, V, idx t]

/-- What an even point leaves in the accumulator. -/
theorem first (c : Dev nD) (t : Fin cfg0.N) (h : t.val % 2 = 0) (r l : Fin 1024) :
    (outsAt0 m c t.val t.isLt).2 (ix2 r l) = part (iblk m c 0 t) (iblk m c 1 t) r l := by
  rw [outsAt0_A m c t h (by omega) (by omega)]
  frame_out
  exact first_at _ _ r l

/-- What an odd point leaves in the result. -/
theorem next (c : Dev nD) (t : Fin cfg0.N) (h : t.val % 2 = 1) (r l : Fin 1024) :
    (outsAt0 m c t.val t.isLt).1 (ix2 r l)
      = (outsAt0 m c (t.val - 1) (Nat.lt_of_le_of_lt (Nat.sub_le _ _) t.isLt)).2 (ix2 r l) + part (iblk m c 0 t) (iblk m c 1 t) r l := by
  rw [outsAt0_B m c t (by omega) h h]
  frame_open
  simp (disch := decide) only [↓ View.readCov_skip, ↓ View.readCov_cons_toLoadRect, ↓ View.readCov_fill]
  frame_out
  rw [read_unread_whole]
  exact next_at _ _ _ r l

/-- The array at the end is the reference's product. -/
theorem final (c : Dev nD) : (dats m 0 c).arrAt 2 cfg0.N
    = Cert.RefDhnIdeal.Value.res (m ((c : Thread nD τ).loc main_arg0)) (m ((c : Thread nD τ).loc main_arg1)) := by
  refine (dats m 0 c).arrAt_eq_of_covers 2 _ (by decide +kernel) fun t hf y => ?_
  have ht : t.val < 16 := t.isLt
  have hodd : t.val % 2 = 1 := (by decide +kernel : ∀ t : Fin grid0.N, win0_2.flush t = true → t.val % 2 = 1) t hf
  obtain ⟨r, l, rfl⟩ : ∃ (r : Fin 1024) (l : Fin 1024), y = ix2 r l := ⟨y 0, y 1, (ix2_eta y).symm⟩
  have hp : t.val - 1 < cfg0.N := Nat.lt_of_le_of_lt (Nat.sub_le _ _) t.isLt
  have key : (outsAt0 m c t.val t.isLt).1 (ix2 r l)
      = Cert.RefDhnIdeal.Value.res (m ((c : Thread nD τ).loc main_arg0)) (m ((c : Thread nD τ).loc main_arg1))
        (ix2 ⟨t.val / 4 * 1024 + r.val, by omega⟩ ⟨t.val / 2 % 2 * 1024 + l.val, by omega⟩) := by
    rw [next m c t hodd, Cert.RefDhnIdeal.Value.res_at, ← Cert.Shards.all_parts (a := 2) (b := 1536) (by decide), Fin.sum_univ_two]
    refine congrArg₂ (fun x y : EReal => x + y) ?_ ?_
    · rw [first m c ⟨t.val - 1, hp⟩ (by dsimp only; omega)]
      exact Finset.sum_congr rfl fun k _ => congrArg₂ (fun x y : EReal => x * y)
        (blk0 m c ⟨t.val - 1, hp⟩ k r _ (by dsimp only; omega) _ (by dsimp only [Fin.val_zero]; omega))
        (blk1 m c ⟨t.val - 1, hp⟩ k l _ (by dsimp only; omega) _ (by dsimp only [Fin.val_zero]; omega))
    · exact Finset.sum_congr rfl fun k _ => congrArg₂ (fun x y : EReal => x * y)
        (blk0 m c t k r _ rfl _ (by dsimp only [Fin.val_one]; omega)) (blk1 m c t k l _ rfl _ (by dsimp only [Fin.val_one]; omega))
  blk_simp
  rw [after0_2]
  refine key.trans ?_
  congr 1
  blk_ext [idx t]

end Cert.DhnIdeal.Value

end
-- ==== Proof.Adam.lean ====
module

public import proofs.«01_k».proof.Proof.Algebra
public import Idealize.ShloMosaic.Lib.Pointwise
public import Idealize.ShloMosaic.Lib.Pipeline.ValueKit

@[expose] public section

set_option maxRecDepth 16384

noncomputable section

/-! One step of the optimiser, on one entry. -/

namespace Cert.AdamTerms

open Idealize.ShloMosaic

/-- The first moment after the step. -/
def first (g m : EReal) : EReal := Ideal.ofBits .f32 0x3F666666#32 * m + Ideal.ofBits .f32 0x3DCCCCCD#32 * g

/-- The second moment after the step. -/
def second (g v : EReal) : EReal := Ideal.ofBits .f32 0x3F7FBE77#32 * v + Ideal.ofBits .f32 0x3A83126F#32 * (g * g)

/-- The change of the weight, from the new moments. -/
def change (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

/-- An entry of the half `b` of the gradient: this device's where the half is its own, else its partner's. -/
def pick {α : Type} (word : BitVec 32) (b : ℕ) (mine theirs : α) : α := if word = BitVec.ofNat 32 b then mine else theirs

/-- Choosing by a comparison for equality. -/
theorem sel_eq {α : Type} {n : ℕ} (a b : BitVec n) (x y : α) : Scalar.select (IntOp.cmpi .eq a b) x y = if a = b then x else y := by
  by_cases h : a = b
  · subst h; simp [Scalar.select, IntOp.cmpi]
  · have e : (a == b) = false := beq_eq_false_iff_ne.2 h
    simp [Scalar.select, IntOp.cmpi, h, e]

/-- The quotient rounded down, as integer operations. -/
def quo (a d : BitVec 32) : BitVec 32 :=
  let q := Scalar.divsi a d
  let sa := Scalar.subi (Scalar.extui (Scalar.cmpi .sgt a 0#32) : BitVec 32) (Scalar.extui (Scalar.cmpi .slt a 0#32))
  let sd := Scalar.subi (Scalar.extui (Scalar.cmpi .sgt d 0#32) : BitVec 32) (Scalar.extui (Scalar.cmpi .slt d 0#32))
  Scalar.select (Scalar.andi (Scalar.cmpi .ne sa sd) (Scalar.cmpi .ne (Scalar.remsi a d) 0#32)) (Scalar.subi q 1#32) q

/-- The remainder of that quotient, as integer operations. -/
def rem (a d : BitVec 32) : BitVec 32 :=
  let e := Scalar.select (Scalar.cmpi .eq d 0#32) 1#32 d
  let r := Scalar.remsi a e
  Scalar.select (Scalar.andi (Scalar.xori (Scalar.cmpi .slt r 0#32) (Scalar.cmpi .slt e 0#32)) (Scalar.cmpi .ne r 0#32)) (Scalar.addi r e) r

theorem quo4 : ∀ i : Fin 8, quo (BitVec.ofNat 32 i.val) 4#32 = BitVec.ofNat 32 (i.val / 4) := by decide +kernel

theorem rem4 : ∀ i : Fin 8, rem (BitVec.ofNat 32 i.val) 4#32 = BitVec.ofNat 32 (i.val % 4) := by decide +kernel

theorem quo1 : ∀ i : Fin 2, quo (BitVec.ofNat 32 i.val) 1#32 = BitVec.ofNat 32 (i.val / 1) := by decide +kernel

/-- The block an index map names where it names the tile only if the half is the one asked for. -/
theorem tile4 (i : Fin 8) (word : BitVec 32) :
    (Scalar.select (IntOp.cmpi .eq (quo (BitVec.ofNat 32 i.val) 4#32) word) (rem (BitVec.ofNat 32 i.val) 4#32) 0#32 : BitVec 32).toNat
      = if word = BitVec.ofNat 32 (i.val / 4) then i.val % 4 else 0 := by
  rw [sel_eq, quo4, rem4]
  by_cases h : word = BitVec.ofNat 32 (i.val / 4)
  · rw [if_pos h.symm, if_pos h, BitVec.toNat_ofNat]
    exact Nat.mod_eq_of_lt (by omega)
  · rw [if_neg (fun e => h e.symm), if_neg h]
    rfl

theorem tile4' (i : Fin 8) (word : BitVec 32) :
    (Scalar.select (IntOp.cmpi .eq (quo (BitVec.ofNat 32 i.val) 4#32) word) 0#32 (rem (BitVec.ofNat 32 i.val) 4#32) : BitVec 32).toNat
      = if word = BitVec.ofNat 32 (i.val / 4) then 0 else i.val % 4 := by
  rw [sel_eq, quo4, rem4]
  by_cases h : word = BitVec.ofNat 32 (i.val / 4)
  · rw [if_pos h.symm, if_pos h]
    rfl
  · rw [if_neg (fun e => h e.symm), if_neg h, BitVec.toNat_ofNat]
    exact Nat.mod_eq_of_lt (by omega)

theorem room {p : Prop} [Decidable p] (k s : ℕ) : ((if p then k % 4 else 0) + 1) * s ≤ 4 * s := by
  refine Nat.mul_le_mul_right s ?_
  split <;> omega

theorem room' {p : Prop} [Decidable p] (k s : ℕ) : ((if p then 0 else k % 4) + 1) * s ≤ 4 * s := by
  refine Nat.mul_le_mul_right s ?_
  split <;> omega

theorem congr5 {α β : Type} (f : α → α → α → α → α → β) {a b c d e a' b' c' d' e' : α} (ha : a = a') (hb : b = b') (hc : c = c') (hd : d = d') (he : e = e') :
    f a b c d e = f a' b' c' d' e' := by
  subst ha hb hc hd he
  rfl

end Cert.AdamTerms

end
-- ==== Proof.AdamIn.lean ====
module

public import proofs.«01_k».proof.Proof.Gen.RefAdamInIdeal.Run
public import proofs.«01_k».proof.Proof.Gen.AdamIn.Frame
public import proofs.«01_k».proof.Proof.Gen.AdamInIdeal.Frame
public import proofs.«01_k».proof.Proof.Adam
public import Idealize.ShloMosaic.Lib.Pointwise
public import Idealize.ShloMosaic.Lib.Pipeline.ValueKit
public import Idealize.ShloMosaic.Lib.Pipeline.Value

@[expose] public section

set_option maxRecDepth 16384

noncomputable section

/-! The optimiser's step. -/

namespace Cert.RefAdamInIdeal.Value

open Cert.RefAdamInIdeal Cert.RefAdamInIdeal.Gen Idealize.ShloMosaic Idealize.SL.Sem

/-- The word that says which half is this device's. -/
def word (t : IVec S2 32) : IVec S_ 32 := shapeCast _ (extractStridedSlice S1 ![1] t slices_S2_S1_1) shapeCasts_S1_S_

/-- Half `b` of the gradient. -/
def half (b : BitVec 32) (t : IVec S2 32) (mine theirs : FVec Ideal S1024x720 .f32) : FVec Ideal S1024x720 .f32 :=
  select (broadcastInDim S1024x720 ![] bcast_S_S1024x720 (cmpi .eq (word t) (constantI S_ 32 b))) mine theirs

/-- The gradient. -/
def grad (t : IVec S2 32) (mine theirs : FVec Ideal S1024x720 .f32) : FVec Ideal S2048x720 .f32 :=
  concatenate S2048x720 0 [⟨S1024x720, half 0#32 t mine theirs⟩, ⟨S1024x720, half 1#32 t mine theirs⟩] concatenates_S1024x720_S1024x720_S2048x720_d0

/-- The first moment. -/
def mom (t : IVec S2 32) (mine theirs : FVec Ideal S1024x720 .f32) (m : FVec Ideal S2048x720 .f32) : FVec Ideal S2048x720 .f32 :=
  addf (mulf (broadcastInDim S2048x720 ![] bcast_S_S2048x720 (constant S_ .f32 0x3F666666#32)) m) (mulf (broadcastInDim S2048x720 ![] bcast_S_S2048x720 (constant S_ .f32 0x3DCCCCCD#32)) (grad t mine theirs))

/-- The second moment. -/
def sec (t : IVec S2 32) (mine theirs : FVec Ideal S1024x720 .f32) (v : FVec Ideal S2048x720 .f32) : FVec Ideal S2048x720 .f32 :=
  addf (mulf (broadcastInDim S2048x720 ![] bcast_S_S2048x720 (constant S_ .f32 0x3F7FBE77#32)) v) (mulf (broadcastInDim S2048x720 ![] bcast_S_S2048x720 (constant S_ .f32 0x3A83126F#32)) (mulf (grad t mine theirs) (grad t mine theirs)))

/-- The change of the weight. -/
def delta (t : IVec S2 32) (w : FVec Ideal S2048x720 .f32) (mine theirs : FVec Ideal S1024x720 .f32) (m v : FVec Ideal S2048x720 .f32) : FVec Ideal S2048x720 .f32 :=
  mulf (broadcastInDim S2048x720 ![] bcast_S_S2048x720 (constant S_ .f32 0xBA83126F#32)) (addf (Host.divf (Host.divf (mom t mine theirs m) (broadcastInDim S2048x720 ![] bcast_S_S2048x720 (constant S_ .f32 0x3F26BD02#32)))
    (addf (Host.sqrt (Host.divf (sec t mine theirs v) (broadcastInDim S2048x720 ![] bcast_S_S2048x720 (constant S_ .f32 0x3C231ACC#32)))) (broadcastInDim S2048x720 ![] bcast_S_S2048x720 (constant S_ .f32 0x322BCC77#32))))
    (mulf (broadcastInDim S2048x720 ![] bcast_S_S2048x720 (constant S_ .f32 0x3C23D70A#32)) w))

theorem mom_at (t : IVec S2 32) (mine theirs : FVec Ideal S1024x720 .f32) (m : FVec Ideal S2048x720 .f32) (r : Fin 2048) (l : Fin 720) :
    mom t mine theirs m (ix2 r l) = Cert.AdamTerms.first (grad t mine theirs (ix2 r l)) (m (ix2 r l)) := by
  unfold mom Cert.AdamTerms.first
  generalize grad t mine theirs = g
  pointwise []

theorem sec_at (t : IVec S2 32) (mine theirs : FVec Ideal S1024x720 .f32) (v : FVec Ideal S2048x720 .f32) (r : Fin 2048) (l : Fin 720) :
    sec t mine theirs v (ix2 r l) = Cert.AdamTerms.second (grad t mine theirs (ix2 r l)) (v (ix2 r l)) := by
  unfold sec Cert.AdamTerms.second
  generalize grad t mine theirs = g
  pointwise []

theorem delta_at (t : IVec S2 32) (w : FVec Ideal S2048x720 .f32) (mine theirs : FVec Ideal S1024x720 .f32) (m v : FVec Ideal S2048x720 .f32) (r : Fin 2048) (l : Fin 720) :
    delta t w mine theirs m v (ix2 r l) = Cert.AdamTerms.change (w (ix2 r l)) (mom t mine theirs m (ix2 r l)) (sec t mine theirs v (ix2 r l)) := by
  unfold delta Cert.AdamTerms.change
  generalize mom t mine theirs m = a
  generalize sec t mine theirs v = b
  pointwise []

theorem half_at (b : ℕ) (t : IVec S2 32) (mine theirs : FVec Ideal S1024x720 .f32) (r : Fin 1024) (l : Fin 720) :
    half (BitVec.ofNat 32 b) t mine theirs (ix2 r l) = Cert.AdamTerms.pick (t (ix1 1)) b (mine (ix2 r l)) (theirs (ix2 r l)) := by
  unfold Cert.AdamTerms.pick
  generalize BitVec.ofNat 32 b = k
  pointwise [half, word]
  exact Cert.AdamTerms.sel_eq _ _ _ _

theorem grad_at (t : IVec S2 32) (mine theirs : FVec Ideal S1024x720 .f32) (b : ℕ) (hb : b < 2) (r : Fin 1024) (l : Fin 720) (R : Fin 2048) (hR : R.val = b * 1024 + r.val) :
    grad t mine theirs (ix2 R l) = Cert.AdamTerms.pick (t (ix1 1)) b (mine (ix2 r l)) (theirs (ix2 r l)) := by
  have e0 := half_at 0 t mine theirs
  have e1 := half_at 1 t mine theirs
  unfold grad
  generalize half 0#32 t mine theirs = x at e0
  generalize half 1#32 t mine theirs = y at e1
  pointwise []
  have hr := r.isLt
  by_cases h : R.val < 1024
  · have hb0 : b = 0 := by omega
    subst hb0
    rw [dif_pos h, e0]
    have e : (⟨R.val, h⟩ : Fin 1024) = r := Fin.ext (by simp only; omega)
    rw [e]
  · have hb1 : b = 1 := by omega
    subst hb1
    rw [dif_neg h, e1]
    have e : (⟨R.val - 1024, by omega⟩ : Fin 1024) = r := Fin.ext (by simp only; omega)
    rw [e]

end Cert.RefAdamInIdeal.Value

namespace Cert.AdamIn.Value

open Cert.AdamIn Cert.AdamIn.Gen Idealize.ShloMosaic Idealize.ShloMosaic.TcCoe Idealize.SL.Sem

variable {F : FTy → Type} [FloatOps F]
variable (m : (ℓ : Loc nD τ sig) → Buf (Elt F) ℓ)

/-- The table's word. -/
def tword (pf : pre0.Contents (Elt F)) : BitVec 32 := pf.at 0 (Rect.unit (s := S2) ![1] S1.size inb_S2_S1_1) numel1_S1

theorem map1 (pf : pre0.Contents (Elt F)) (i : grid0.Coords) : cc0_transform_1 inb_S2_S1_1 numel1_S1 pf i
    = ![if tword pf = BitVec.ofNat 32 ((i 0).val / 4) then (i 0).val % 4 else 0, 0] := by
  rw [← Cert.AdamTerms.tile4 (i 0) (tword pf)]
  rfl

theorem map2 (pf : pre0.Contents (Elt F)) (i : grid0.Coords) : cc0_transform_2 inb_S2_S1_1 numel1_S1 pf i
    = ![if tword pf = BitVec.ofNat 32 ((i 0).val / 4) then 0 else (i 0).val % 4, 0] := by
  rw [← Cert.AdamTerms.tile4' (i 0) (tword pf)]
  rfl

/-- Whatever the table holds, every block named lies in its array. -/
theorem admissible : Ok m := by
  refine ⟨fun i => ⟨?_, .inl rfl⟩, fun i => ⟨?_, .inl rfl⟩⟩
  · rw [map1]
    intro a
    fin_cases a
    · exact Cert.AdamTerms.room _ 256
    · exact le_refl 720
  · rw [map2]
    intro a
    fin_cases a
    · exact Cert.AdamTerms.room' _ 256
    · exact le_refl 720

end Cert.AdamIn.Value

namespace Cert.AdamInIdeal.Value

open Cert.AdamInIdeal Cert.AdamInIdeal.Gen Idealize.ShloMosaic Idealize.ShloMosaic.TcCoe Idealize.SL.Sem
open Idealize.ShloMosaic.Pipeline (Dat)

section any

variable {F : FTy → Type} [FloatOps F]
variable (m : (ℓ : Loc nD τ sig) → Buf (Elt F) ℓ)

/-- The table's word. -/
def tword (pf : pre0.Contents (Elt F)) : BitVec 32 := pf.at 0 (Rect.unit (s := S2) ![1] S1.size inb_S2_S1_1) numel1_S1

theorem map1 (pf : pre0.Contents (Elt F)) (i : grid0.Coords) : cc0_transform_1 inb_S2_S1_1 numel1_S1 pf i
    = ![if tword pf = BitVec.ofNat 32 ((i 0).val / 4) then (i 0).val % 4 else 0, 0] := by
  rw [← Cert.AdamTerms.tile4 (i 0) (tword pf)]
  rfl

theorem map2 (pf : pre0.Contents (Elt F)) (i : grid0.Coords) : cc0_transform_2 inb_S2_S1_1 numel1_S1 pf i
    = ![if tword pf = BitVec.ofNat 32 ((i 0).val / 4) then 0 else (i 0).val % 4, 0] := by
  rw [← Cert.AdamTerms.tile4' (i 0) (tword pf)]
  rfl

/-- Whatever the table holds, every block named lies in its array. -/
theorem admissible : Ok m := by
  refine ⟨fun i => ⟨?_, .inl rfl⟩, fun i => ⟨?_, .inl rfl⟩⟩
  · rw [map1]
    intro a
    fin_cases a
    · exact Cert.AdamTerms.room _ 256
    · exact le_refl 720
  · rw [map2]
    intro a
    fin_cases a
    · exact Cert.AdamTerms.room' _ 256
    · exact le_refl 720

end any

variable (m : (ℓ : Loc nD τ sig) → Buf (Elt Ideal) ℓ) (ρ : Dev nD → PrngReg)

/-- The program's run: the four results, and the arguments unchanged. -/
theorem run_blocks : θ_run defs (onTc (τ := τ) (main (F := Ideal))) ⟨m, fun _ => 0, ρ⟩ fun r => ∀ c : Dev nD,
      r.2.mem ((c : Thread nD τ).loc main_v0_0) = (dats m (admissible m) 0 c).arrAt 5 (cfgM m (admissible m)).N
      ∧ r.2.mem ((c : Thread nD τ).loc main_v0_1) = (dats m (admissible m) 0 c).arrAt 6 (cfgM m (admissible m)).N
      ∧ r.2.mem ((c : Thread nD τ).loc main_v0_2) = (dats m (admissible m) 0 c).arrAt 7 (cfgM m (admissible m)).N
      ∧ r.2.mem ((c : Thread nD τ).loc main_v0_3) = (dats m (admissible m) 0 c).arrAt 8 (cfgM m (admissible m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 5, (h c).1 6, (h c).1 7, (h c).1 8,
      ((h c).2 main_arg0 (by decide : main_arg0 ∈ Pipeline.restRefs sig spec0)).trans (V_main_arg0 m c),
      ((h c).1 0).trans (((dats m (admissible m) 0 c).arrAt_in 0 rfl _).trans ((A_eq m (admissible m) c 0).trans (V_main_arg1 m c))),
      ((h c).1 1).trans (((dats m (admissible m) 0 c).arrAt_in 1 rfl _).trans ((A_eq m (admissible m) c 1).trans (V_main_arg2 m c))),
      ((h c).1 2).trans (((dats m (admissible m) 0 c).arrAt_in 2 rfl _).trans ((A_eq m (admissible m) c 2).trans (V_main_arg3 m c))),
      ((h c).1 3).trans (((dats m (admissible m) 0 c).arrAt_in 3 rfl _).trans ((A_eq m (admissible m) c 3).trans (V_main_arg4 m c))),
      ((h c).1 4).trans (((dats m (admissible m) 0 c).arrAt_in 4 rfl _).trans ((A_eq m (admissible m) c 4).trans (V_main_arg5 m c)))⟩)
    (run_main m ρ (admissible m))

theorem pay3_at (i : grid0.Coords) (w : BitVec 32) (x y : FVec Ideal S256x720 .f32) (r : Fin 256) (l : Fin 720) :
    k0_pay3 (F := Ideal) i w x y (ix2 r l) = Cert.AdamTerms.pick w ((i 0).val / 4) (x (ix2 r l)) (y (ix2 r l)) := by
  have e : k0_pay3 (F := Ideal) i w x y = Scalar.select (IntOp.cmpi .eq (Cert.AdamTerms.quo (BitVec.ofNat 32 (i 0).val) 4#32) w) x y := rfl
  rw [e, Cert.AdamTerms.sel_eq, Cert.AdamTerms.quo4 (i 0)]
  unfold Cert.AdamTerms.pick
  by_cases h : w = BitVec.ofNat 32 ((i 0).val / 4)
  · rw [if_pos h.symm, if_pos h]
  · rw [if_neg (fun e => h e.symm), if_neg h]

theorem pay4_at (i : grid0.Coords) (w : BitVec 32) (x y z : FVec Ideal S256x720 .f32) (r : Fin 256) (l : Fin 720) :
    k0_pay4 (F := Ideal) i w x y z (ix2 r l) = Cert.AdamTerms.first (k0_pay3 (F := Ideal) i w x y (ix2 r l)) (z (ix2 r l)) := by
  unfold k0_pay4 Cert.AdamTerms.first
  generalize k0_pay3 (F := Ideal) i w x y = g
  pointwise []

theorem sec_at (i : grid0.Coords) (w : BitVec 32) (x y z : FVec Ideal S256x720 .f32) (r : Fin 256) (l : Fin 720) :
    k0_pay1 (F := Ideal) (k0_pay5 (F := Ideal) z) (k0_pay6 (F := Ideal) i w x y) (Scalar.ofBits .f32 0x3A83126F#32) (ix2 r l)
      = Cert.AdamTerms.second (k0_pay3 (F := Ideal) i w x y (ix2 r l)) (z (ix2 r l)) := by
  unfold k0_pay1 k0_pay5 k0_pay6 Cert.AdamTerms.second
  generalize k0_pay3 (F := Ideal) i w x y = g
  pointwise []

theorem pay2_at (w a b c : FVec Ideal S256x720 .f32) (s : EReal) (r : Fin 256) (l : Fin 720) :
    k0_pay2 (F := Ideal) w a b c s (ix2 r l) = Cert.AdamTerms.change (w (ix2 r l)) (a (ix2 r l)) (k0_pay1 (F := Ideal) b c s (ix2 r l)) := by
  unfold k0_pay2 Cert.AdamTerms.change
  generalize k0_pay1 (F := Ideal) b c s = v
  pointwise []

/-- The table's word is the second of the first argument. -/
theorem tword_eq (c : Dev nD) : tword (tbl m) = (m ((c : Thread nD τ).loc main_arg0) : IVec S2 32) (ix1 1) := by
  obtain rfl : c = (0 : Fin 1) := Fin.eq_zero _
  show m _ _ = m _ _
  refine congrArg (m _) ?_
  funext a
  fin_cases a
  rfl

/-- The windows' places. -/
theorem idx (t : Fin (cfgM m (admissible m)).N) : (pcfg0.win (adm m (admissible m)) 0).index t = ![t.val, 0]
    ∧ (pcfg0.win (adm m (admissible m)) 3).index t = ![t.val, 0]
    ∧ (pcfg0.win (adm m (admissible m)) 4).index t = ![t.val, 0]
    ∧ (pcfg0.win (adm m (admissible m)) 5).index t = ![t.val, 0]
    ∧ (pcfg0.win (adm m (admissible m)) 6).index t = ![t.val, 0]
    ∧ (pcfg0.win (adm m (admissible m)) 7).index t = ![t.val, 0]
    ∧ (pcfg0.win (adm m (admissible m)) 8).index t = ![t.val, 0] :=
  (by decide +kernel : ∀ t : Fin grid0.N, cc0_transform_0 (grid0.coords t) = ![t.val, 0]
    ∧ cc0_transform_3 (grid0.coords t) = ![t.val, 0]
    ∧ cc0_transform_4 (grid0.coords t) = ![t.val, 0]
    ∧ cc0_transform_5 (grid0.coords t) = ![t.val, 0]
    ∧ cc0_transform_6 (grid0.coords t) = ![t.val, 0]
    ∧ cc0_transform_7 (grid0.coords t) = ![t.val, 0]
    ∧ cc0_transform_8 (grid0.coords t) = ![t.val, 0]) t

theorem coord (t : Fin (cfgM m (admissible m)).N) : (grid0.coords t 0).val = t.val :=
  (by decide +kernel : ∀ t : Fin grid0.N, (grid0.coords t 0).val = t.val) t

theorem idx1 (t : Fin (cfgM m (admissible m)).N) : (pcfg0.win (adm m (admissible m)) 1).index t
    = ![if tword (tbl m) = BitVec.ofNat 32 (t.val / 4) then t.val % 4 else 0, 0] := by
  have e := map1 (tbl m) (grid0.coords t)
  rw [coord m t] at e
  exact e

theorem idx2 (t : Fin (cfgM m (admissible m)).N) : (pcfg0.win (adm m (admissible m)) 2).index t
    = ![if tword (tbl m) = BitVec.ofNat 32 (t.val / 4) then 0 else t.val % 4, 0] := by
  have e := map2 (tbl m) (grid0.coords t)
  rw [coord m t] at e
  exact e

/-- The blocks a point reads. -/
def block0 (c : Dev nD) (t : Fin (cfgM m (admissible m)).N) : FVec Ideal S256x720 .f32 := iblk m (admissible m) c 0 t
def block1 (c : Dev nD) (t : Fin (cfgM m (admissible m)).N) : FVec Ideal S256x720 .f32 := iblk m (admissible m) c 1 t
def block2 (c : Dev nD) (t : Fin (cfgM m (admissible m)).N) : FVec Ideal S256x720 .f32 := iblk m (admissible m) c 2 t
def block3 (c : Dev nD) (t : Fin (cfgM m (admissible m)).N) : FVec Ideal S256x720 .f32 := iblk m (admissible m) c 3 t
def block4 (c : Dev nD) (t : Fin (cfgM m (admissible m)).N) : FVec Ideal S256x720 .f32 := iblk m (admissible m) c 4 t

theorem blk0 (c : Dev nD) (t : Fin (cfgM m (admissible m)).N) (r : Fin 256) (l : Fin 720) (R : Fin 2048) (hR : R.val = t.val * 256 + r.val) :
    block0 m c t (ix2 r l) = (m ((c : Thread nD τ).loc main_arg1) : FVec Ideal S2048x720 .f32) (ix2 R l) := by
  have e : (pcfg0.win (adm m (admissible m)) 0).index t = ![t.val, 0] := (idx m t).1
  unfold block0
  blk_point [iblk, V]
  · exact (congrArg (fun x : ℕ => x * 256 + r.val) (congrFun e 0)).trans hR.symm
  · exact (congrArg (fun x : ℕ => x * 720 + l.val) (congrFun e 1)).trans (by simp)

theorem blk3 (c : Dev nD) (t : Fin (cfgM m (admissible m)).N) (r : Fin 256) (l : Fin 720) (R : Fin 2048) (hR : R.val = t.val * 256 + r.val) :
    block3 m c t (ix2 r l) = (m ((c : Thread nD τ).loc main_arg4) : FVec Ideal S2048x720 .f32) (ix2 R l) := by
  have e : (pcfg0.win (adm m (admissible m)) 3).index t = ![t.val, 0] := (idx m t).2.1
  unfold block3
  blk_point [iblk, V]
  · exact (congrArg (fun x : ℕ => x * 256 + r.val) (congrFun e 0)).trans hR.symm
  · exact (congrArg (fun x : ℕ => x * 720 + l.val) (congrFun e 1)).trans (by simp)

theorem blk4 (c : Dev nD) (t : Fin (cfgM m (admissible m)).N) (r : Fin 256) (l : Fin 720) (R : Fin 2048) (hR : R.val = t.val * 256 + r.val) :
    block4 m c t (ix2 r l) = (m ((c : Thread nD τ).loc main_arg5) : FVec Ideal S2048x720 .f32) (ix2 R l) := by
  have e : (pcfg0.win (adm m (admissible m)) 4).index t = ![t.val, 0] := (idx m t).2.2.1
  unfold block4
  blk_point [iblk, V]
  · exact (congrArg (fun x : ℕ => x * 256 + r.val) (congrFun e 0)).trans hR.symm
  · exact (congrArg (fun x : ℕ => x * 720 + l.val) (congrFun e 1)).trans (by simp)

/-- Where the half is this device's, its block is the tile's rows of it. -/
theorem blk1 (c : Dev nD) (t : Fin (cfgM m (admissible m)).N) (h : tword (tbl m) = BitVec.ofNat 32 (t.val / 4)) (r : Fin 256) (l : Fin 720) (R : Fin 1024) (hR : R.val = t.val % 4 * 256 + r.val) :
    block1 m c t (ix2 r l) = (m ((c : Thread nD τ).loc main_arg2) : FVec Ideal S1024x720 .f32) (ix2 R l) := by
  have e : (pcfg0.win (adm m (admissible m)) 1).index t = ![t.val % 4, 0] := (idx1 m t).trans (by rw [if_pos h])
  unfold block1
  blk_point [iblk, V]
  · exact (congrArg (fun x : ℕ => x * 256 + r.val) (congrFun e 0)).trans hR.symm
  · exact (congrArg (fun x : ℕ => x * 720 + l.val) (congrFun e 1)).trans (by simp)

/-- Where the half is the partner's, its block is the tile's rows of it. -/
theorem blk2 (c : Dev nD) (t : Fin (cfgM m (admissible m)).N) (h : ¬tword (tbl m) = BitVec.ofNat 32 (t.val / 4)) (r : Fin 256) (l : Fin 720) (R : Fin 1024) (hR : R.val = t.val % 4 * 256 + r.val) :
    block2 m c t (ix2 r l) = (m ((c : Thread nD τ).loc main_arg3) : FVec Ideal S1024x720 .f32) (ix2 R l) := by
  have e : (pcfg0.win (adm m (admissible m)) 2).index t = ![t.val % 4, 0] := (idx2 m t).trans (by rw [if_neg h])
  unfold block2
  blk_point [iblk, V]
  · exact (congrArg (fun x : ℕ => x * 256 + r.val) (congrFun e 0)).trans hR.symm
  · exact (congrArg (fun x : ℕ => x * 720 + l.val) (congrFun e 1)).trans (by simp)

/-- The gradient's block at a point. -/
def gradOf (c : Dev nD) (t : Fin (cfgM m (admissible m)).N) : FVec Ideal S256x720 .f32 :=
  k0_pay3 (F := Ideal) (grid0.coords t) (tword (tbl m)) (block1 m c t) (block2 m c t)

/-- The first moment's. -/
def momOf (c : Dev nD) (t : Fin (cfgM m (admissible m)).N) : FVec Ideal S256x720 .f32 :=
  k0_pay4 (F := Ideal) (grid0.coords t) (tword (tbl m)) (block1 m c t) (block2 m c t) (block3 m c t)

/-- The second moment's. -/
def secOf (c : Dev nD) (t : Fin (cfgM m (admissible m)).N) : FVec Ideal S256x720 .f32 :=
  k0_pay1 (F := Ideal) (k0_pay5 (F := Ideal) (block4 m c t)) (k0_pay6 (F := Ideal) (grid0.coords t) (tword (tbl m)) (block1 m c t) (block2 m c t))
    (Scalar.ofBits .f32 0x3A83126F#32)

/-- The change's. -/
def changeOf (c : Dev nD) (t : Fin (cfgM m (admissible m)).N) : FVec Ideal S256x720 .f32 :=
  k0_pay2 (F := Ideal) (block0 m c t) (momOf m c t) (k0_pay5 (F := Ideal) (block4 m c t))
    (k0_pay6 (F := Ideal) (grid0.coords t) (tword (tbl m)) (block1 m c t) (block2 m c t)) (Scalar.ofBits .f32 0x3A83126F#32)

theorem gradOf_at (c : Dev nD) (t : Fin (cfgM m (admissible m)).N) (r : Fin 256) (l : Fin 720) (R : Fin 2048) (hR : R.val = t.val * 256 + r.val) :
    gradOf m c t (ix2 r l)
      = Cert.RefAdamInIdeal.Value.grad (m ((c : Thread nD τ).loc main_arg0)) (m ((c : Thread nD τ).loc main_arg2)) (m ((c : Thread nD τ).loc main_arg3)) (ix2 R l) := by
  have ht : t.val < 8 := t.isLt
  have hr := r.isLt
  unfold gradOf
  rw [pay3_at, coord m t, Cert.RefAdamInIdeal.Value.grad_at _ _ _ (t.val / 4) (by omega) ⟨t.val % 4 * 256 + r.val, by omega⟩ l R (by simp only; omega),
    ← tword_eq m c]
  unfold Cert.AdamTerms.pick
  by_cases h : tword (tbl m) = BitVec.ofNat 32 (t.val / 4)
  · rw [if_pos h, if_pos h]
    exact blk1 m c t h r l _ rfl
  · rw [if_neg h, if_neg h]
    exact blk2 m c t h r l _ rfl

theorem momOf_at (c : Dev nD) (t : Fin (cfgM m (admissible m)).N) (r : Fin 256) (l : Fin 720) (R : Fin 2048) (hR : R.val = t.val * 256 + r.val) :
    momOf m c t (ix2 r l) = Cert.RefAdamInIdeal.Value.mom (m ((c : Thread nD τ).loc main_arg0)) (m ((c : Thread nD τ).loc main_arg2)) (m ((c : Thread nD τ).loc main_arg3)) (m ((c : Thread nD τ).loc main_arg4)) (ix2 R l) := by
  rw [Cert.RefAdamInIdeal.Value.mom_at, ← gradOf_at m c t r l R hR]
  unfold momOf
  rw [pay4_at, blk3 m c t r l R hR]
  rfl

theorem secOf_at (c : Dev nD) (t : Fin (cfgM m (admissible m)).N) (r : Fin 256) (l : Fin 720) (R : Fin 2048) (hR : R.val = t.val * 256 + r.val) :
    secOf m c t (ix2 r l) = Cert.RefAdamInIdeal.Value.sec (m ((c : Thread nD τ).loc main_arg0)) (m ((c : Thread nD τ).loc main_arg2)) (m ((c : Thread nD τ).loc main_arg3)) (m ((c : Thread nD τ).loc main_arg5)) (ix2 R l) := by
  rw [Cert.RefAdamInIdeal.Value.sec_at, ← gradOf_at m c t r l R hR]
  unfold secOf
  rw [sec_at, blk4 m c t r l R hR]
  rfl

theorem changeOf_at (c : Dev nD) (t : Fin (cfgM m (admissible m)).N) (r : Fin 256) (l : Fin 720) (R : Fin 2048) (hR : R.val = t.val * 256 + r.val) :
    changeOf m c t (ix2 r l) = Cert.RefAdamInIdeal.Value.delta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R l) := by
  rw [Cert.RefAdamInIdeal.Value.delta_at, ← momOf_at m c t r l R hR, ← secOf_at m c t r l R hR, ← blk0 m c t r l R hR]
  unfold changeOf
  rw [pay2_at]
  rfl

theorem outs_5 (c : Dev nD) (t : Fin (cfgM m (admissible m)).N) : (outsAt0 m (admissible m) c t).1 = gradOf m c t := by
  unfold outsAt0
  frame_out
  exact Cert.AdamTerms.congr5 (fun _ x y _ _ => k0_pay3 (F := Ideal) (grid0.coords t) (tword (tbl m)) x y) (rfl : block0 m c t = _)
    ((hs0_1 m (admissible m) t).read_unread _) ((hs0_2 m (admissible m) t).read_unread _) (rfl : block0 m c t = _) (rfl : block0 m c t = _)

theorem outs_6 (c : Dev nD) (t : Fin (cfgM m (admissible m)).N) : (outsAt0 m (admissible m) c t).2.1 = changeOf m c t := by
  unfold outsAt0
  frame_out
  exact Cert.AdamTerms.congr5 (fun w x y a b => k0_pay2 (F := Ideal) w (k0_pay4 (F := Ideal) (grid0.coords t) (tword (tbl m)) x y a) (k0_pay5 (F := Ideal) b)
    (k0_pay6 (F := Ideal) (grid0.coords t) (tword (tbl m)) x y) (Scalar.ofBits .f32 0x3A83126F#32)) ((hs0_0 m (admissible m) t).read_unread _)
    ((hs0_1 m (admissible m) t).read_unread _) ((hs0_2 m (admissible m) t).read_unread _) ((hs0_3 m (admissible m) t).read_unread _) ((hs0_4 m (admissible m) t).read_unread _)

theorem outs_7 (c : Dev nD) (t : Fin (cfgM m (admissible m)).N) : (outsAt0 m (admissible m) c t).2.2.1 = momOf m c t := by
  unfold outsAt0
  frame_out
  exact Cert.AdamTerms.congr5 (fun _ x y a _ => k0_pay4 (F := Ideal) (grid0.coords t) (tword (tbl m)) x y a) (rfl : block0 m c t = _)
    ((hs0_1 m (admissible m) t).read_unread _) ((hs0_2 m (admissible m) t).read_unread _) ((hs0_3 m (admissible m) t).read_unread _) (rfl : block0 m c t = _)

theorem outs_8 (c : Dev nD) (t : Fin (cfgM m (admissible m)).N) : (outsAt0 m (admissible m) c t).2.2.2 = secOf m c t := by
  unfold outsAt0
  frame_out
  exact Cert.AdamTerms.congr5 (fun _ x y _ b => k0_pay1 (F := Ideal) (k0_pay5 (F := Ideal) b)
    (k0_pay6 (F := Ideal) (grid0.coords t) (tword (tbl m)) x y) (Scalar.ofBits .f32 0x3A83126F#32)) (rfl : block0 m c t = _)
    ((hs0_1 m (admissible m) t).read_unread _) ((hs0_2 m (admissible m) t).read_unread _) (rfl : block0 m c t = _) ((hs0_4 m (admissible m) t).read_unread _)

theorem tileIdx (y : S256x720.Idx) : ∃ (r : Fin 256) (l : Fin 720), y = ix2 r l := ⟨y 0, y 1, (ix2_eta y).symm⟩

theorem arrIdx (y : S2048x720.Idx) : ∃ (r : Fin 2048) (l : Fin 720), y = ix2 r l := ⟨y 0, y 1, (ix2_eta y).symm⟩

/-- The gradient at the end is the reference's. -/
theorem final_grad (c : Dev nD) : (dats m (admissible m) 0 c).arrAt 5 (cfgM m (admissible m)).N
    = Cert.RefAdamInIdeal.Value.grad (m ((c : Thread nD τ).loc main_arg0)) (m ((c : Thread nD τ).loc main_arg2)) (m ((c : Thread nD τ).loc main_arg3)) := by
  have place : ∀ (t : Fin (cfgM m (admissible m)).N) (r : Fin 256) (l : Fin 720) (R : Fin 2048), R.val = t.val * 256 + r.val →
      (((cfgM m (admissible m)).win 5).blk t).view.emb (ix2 r l) = (ix2 R l : S2048x720.Idx) := by
    intro t r l R hR
    have e : (pcfg0.win (adm m (admissible m)) 5).index t = ![t.val, 0] := (idx m t).2.2.2.1
    blk_ext []
    · exact (congrArg (fun x : ℕ => x * 256 + r.val) (congrFun e 0)).trans hR.symm
    · exact (congrArg (fun x : ℕ => x * 720 + l.val) (congrFun e 1)).trans (by simp)
  refine (dats m (admissible m) 0 c).arrAt_eq_of_emb 5 _ (fun t hf y => ?_) fun i => ?_
  · have ht : t.val < 8 := t.isLt
    obtain ⟨r, l, rfl⟩ := tileIdx y
    have key := gradOf_at m c t r l ⟨t.val * 256 + r.val, by omega⟩ rfl
    rw [place t r l ⟨t.val * 256 + r.val, by omega⟩ rfl, after0_5, outs_5]
    exact key
  · obtain ⟨R, l, rfl⟩ := arrIdx i
    have hR := R.isLt
    refine ⟨(⟨R.val / 256, by omega⟩ : Fin 8), flush0_5 _ _, ?_⟩
    have e := place (⟨R.val / 256, by omega⟩ : Fin 8) ⟨R.val % 256, by omega⟩ l R (by simp only; omega)
    rw [← e]
    exact View.emb_mem_set _ _

/-- The weight's change at the end is the reference's. -/
theorem final_delta (c : Dev nD) : (dats m (admissible m) 0 c).arrAt 6 (cfgM m (admissible m)).N
    = Cert.RefAdamInIdeal.Value.delta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have place : ∀ (t : Fin (cfgM m (admissible m)).N) (r : Fin 256) (l : Fin 720) (R : Fin 2048), R.val = t.val * 256 + r.val →
      (((cfgM m (admissible m)).win 6).blk t).view.emb (ix2 r l) = (ix2 R l : S2048x720.Idx) := by
    intro t r l R hR
    have e : (pcfg0.win (adm m (admissible m)) 6).index t = ![t.val, 0] := (idx m t).2.2.2.2.1
    blk_ext []
    · exact (congrArg (fun x : ℕ => x * 256 + r.val) (congrFun e 0)).trans hR.symm
    · exact (congrArg (fun x : ℕ => x * 720 + l.val) (congrFun e 1)).trans (by simp)
  refine (dats m (admissible m) 0 c).arrAt_eq_of_emb 6 _ (fun t hf y => ?_) fun i => ?_
  · have ht : t.val < 8 := t.isLt
    obtain ⟨r, l, rfl⟩ := tileIdx y
    have key := changeOf_at m c t r l ⟨t.val * 256 + r.val, by omega⟩ rfl
    rw [place t r l ⟨t.val * 256 + r.val, by omega⟩ rfl, after0_6, outs_6]
    exact key
  · obtain ⟨R, l, rfl⟩ := arrIdx i
    have hR := R.isLt
    refine ⟨(⟨R.val / 256, by omega⟩ : Fin 8), flush0_6 _ _, ?_⟩
    have e := place (⟨R.val / 256, by omega⟩ : Fin 8) ⟨R.val % 256, by omega⟩ l R (by simp only; omega)
    rw [← e]
    exact View.emb_mem_set _ _

/-- The first moment at the end is the reference's. -/
theorem final_mom (c : Dev nD) : (dats m (admissible m) 0 c).arrAt 7 (cfgM m (admissible m)).N
    = Cert.RefAdamInIdeal.Value.mom (m ((c : Thread nD τ).loc main_arg0)) (m ((c : Thread nD τ).loc main_arg2)) (m ((c : Thread nD τ).loc main_arg3)) (m ((c : Thread nD τ).loc main_arg4)) := by
  have place : ∀ (t : Fin (cfgM m (admissible m)).N) (r : Fin 256) (l : Fin 720) (R : Fin 2048), R.val = t.val * 256 + r.val →
      (((cfgM m (admissible m)).win 7).blk t).view.emb (ix2 r l) = (ix2 R l : S2048x720.Idx) := by
    intro t r l R hR
    have e : (pcfg0.win (adm m (admissible m)) 7).index t = ![t.val, 0] := (idx m t).2.2.2.2.2.1
    blk_ext []
    · exact (congrArg (fun x : ℕ => x * 256 + r.val) (congrFun e 0)).trans hR.symm
    · exact (congrArg (fun x : ℕ => x * 720 + l.val) (congrFun e 1)).trans (by simp)
  refine (dats m (admissible m) 0 c).arrAt_eq_of_emb 7 _ (fun t hf y => ?_) fun i => ?_
  · have ht : t.val < 8 := t.isLt
    obtain ⟨r, l, rfl⟩ := tileIdx y
    have key := momOf_at m c t r l ⟨t.val * 256 + r.val, by omega⟩ rfl
    rw [place t r l ⟨t.val * 256 + r.val, by omega⟩ rfl, after0_7, outs_7]
    exact key
  · obtain ⟨R, l, rfl⟩ := arrIdx i
    have hR := R.isLt
    refine ⟨(⟨R.val / 256, by omega⟩ : Fin 8), flush0_7 _ _, ?_⟩
    have e := place (⟨R.val / 256, by omega⟩ : Fin 8) ⟨R.val % 256, by omega⟩ l R (by simp only; omega)
    rw [← e]
    exact View.emb_mem_set _ _

/-- The second moment at the end is the reference's. -/
theorem final_sec (c : Dev nD) : (dats m (admissible m) 0 c).arrAt 8 (cfgM m (admissible m)).N
    = Cert.RefAdamInIdeal.Value.sec (m ((c : Thread nD τ).loc main_arg0)) (m ((c : Thread nD τ).loc main_arg2)) (m ((c : Thread nD τ).loc main_arg3)) (m ((c : Thread nD τ).loc main_arg5)) := by
  have place : ∀ (t : Fin (cfgM m (admissible m)).N) (r : Fin 256) (l : Fin 720) (R : Fin 2048), R.val = t.val * 256 + r.val →
      (((cfgM m (admissible m)).win 8).blk t).view.emb (ix2 r l) = (ix2 R l : S2048x720.Idx) := by
    intro t r l R hR
    have e : (pcfg0.win (adm m (admissible m)) 8).index t = ![t.val, 0] := (idx m t).2.2.2.2.2.2
    blk_ext []
    · exact (congrArg (fun x : ℕ => x * 256 + r.val) (congrFun e 0)).trans hR.symm
    · exact (congrArg (fun x : ℕ => x * 720 + l.val) (congrFun e 1)).trans (by simp)
  refine (dats m (admissible m) 0 c).arrAt_eq_of_emb 8 _ (fun t hf y => ?_) fun i => ?_
  · have ht : t.val < 8 := t.isLt
    obtain ⟨r, l, rfl⟩ := tileIdx y
    have key := secOf_at m c t r l ⟨t.val * 256 + r.val, by omega⟩ rfl
    rw [place t r l ⟨t.val * 256 + r.val, by omega⟩ rfl, after0_8, outs_8]
    exact key
  · obtain ⟨R, l, rfl⟩ := arrIdx i
    have hR := R.isLt
    refine ⟨(⟨R.val / 256, by omega⟩ : Fin 8), flush0_8 _ _, ?_⟩
    have e := place (⟨R.val / 256, by omega⟩ : Fin 8) ⟨R.val % 256, by omega⟩ l R (by simp only; omega)
    rw [← e]
    exact View.emb_mem_set _ _

end Cert.AdamInIdeal.Value

end
-- ==== Proof.AdamUq.lean ====
module

public import proofs.«01_k».proof.Proof.Gen.RefAdamUqIdeal.Run
public import proofs.«01_k».proof.Proof.Gen.AdamUq.Frame
public import proofs.«01_k».proof.Proof.Gen.AdamUqIdeal.Frame
public import proofs.«01_k».proof.Proof.Adam
public import Idealize.ShloMosaic.Lib.Pointwise
public import Idealize.ShloMosaic.Lib.Pipeline.ValueKit
public import Idealize.ShloMosaic.Lib.Pipeline.Value

@[expose] public section

set_option maxRecDepth 16384

noncomputable section

/-! The optimiser's step. -/

namespace Cert.RefAdamUqIdeal.Value

open Cert.RefAdamUqIdeal Cert.RefAdamUqIdeal.Gen Idealize.ShloMosaic Idealize.SL.Sem

/-- The word that says which half is this device's. -/
def word (t : IVec S2 32) : IVec S_ 32 := shapeCast _ (extractStridedSlice S1 ![1] t slices_S2_S1_1) shapeCasts_S1_S_

/-- Half `b` of the gradient. -/
def half (b : BitVec 32) (t : IVec S2 32) (mine theirs : FVec Ideal S256x192 .f32) : FVec Ideal S256x192 .f32 :=
  select (broadcastInDim S256x192 ![] bcast_S_S256x192 (cmpi .eq (word t) (constantI S_ 32 b))) mine theirs

/-- The gradient. -/
def grad (t : IVec S2 32) (mine theirs : FVec Ideal S256x192 .f32) : FVec Ideal S512x192 .f32 :=
  concatenate S512x192 0 [⟨S256x192, half 0#32 t mine theirs⟩, ⟨S256x192, half 1#32 t mine theirs⟩] concatenates_S256x192_S256x192_S512x192_d0

/-- The first moment. -/
def mom (t : IVec S2 32) (mine theirs : FVec Ideal S256x192 .f32) (m : FVec Ideal S512x192 .f32) : FVec Ideal S512x192 .f32 :=
  addf (mulf (broadcastInDim S512x192 ![] bcast_S_S512x192 (constant S_ .f32 0x3F666666#32)) m) (mulf (broadcastInDim S512x192 ![] bcast_S_S512x192 (constant S_ .f32 0x3DCCCCCD#32)) (grad t mine theirs))

/-- The second moment. -/
def sec (t : IVec S2 32) (mine theirs : FVec Ideal S256x192 .f32) (v : FVec Ideal S512x192 .f32) : FVec Ideal S512x192 .f32 :=
  addf (mulf (broadcastInDim S512x192 ![] bcast_S_S512x192 (constant S_ .f32 0x3F7FBE77#32)) v) (mulf (broadcastInDim S512x192 ![] bcast_S_S512x192 (constant S_ .f32 0x3A83126F#32)) (mulf (grad t mine theirs) (grad t mine theirs)))

/-- The change of the weight. -/
def delta (t : IVec S2 32) (w : FVec Ideal S512x192 .f32) (mine theirs : FVec Ideal S256x192 .f32) (m v : FVec Ideal S512x192 .f32) : FVec Ideal S512x192 .f32 :=
  mulf (broadcastInDim S512x192 ![] bcast_S_S512x192 (constant S_ .f32 0xBA83126F#32)) (addf (Host.divf (Host.divf (mom t mine theirs m) (broadcastInDim S512x192 ![] bcast_S_S512x192 (constant S_ .f32 0x3F26BD02#32)))
    (addf (Host.sqrt (Host.divf (sec t mine theirs v) (broadcastInDim S512x192 ![] bcast_S_S512x192 (constant S_ .f32 0x3C231ACC#32)))) (broadcastInDim S512x192 ![] bcast_S_S512x192 (constant S_ .f32 0x322BCC77#32))))
    (mulf (broadcastInDim S512x192 ![] bcast_S_S512x192 (constant S_ .f32 0x3C23D70A#32)) w))

theorem mom_at (t : IVec S2 32) (mine theirs : FVec Ideal S256x192 .f32) (m : FVec Ideal S512x192 .f32) (r : Fin 512) (l : Fin 192) :
    mom t mine theirs m (ix2 r l) = Cert.AdamTerms.first (grad t mine theirs (ix2 r l)) (m (ix2 r l)) := by
  unfold mom Cert.AdamTerms.first
  generalize grad t mine theirs = g
  pointwise []

theorem sec_at (t : IVec S2 32) (mine theirs : FVec Ideal S256x192 .f32) (v : FVec Ideal S512x192 .f32) (r : Fin 512) (l : Fin 192) :
    sec t mine theirs v (ix2 r l) = Cert.AdamTerms.second (grad t mine theirs (ix2 r l)) (v (ix2 r l)) := by
  unfold sec Cert.AdamTerms.second
  generalize grad t mine theirs = g
  pointwise []

theorem delta_at (t : IVec S2 32) (w : FVec Ideal S512x192 .f32) (mine theirs : FVec Ideal S256x192 .f32) (m v : FVec Ideal S512x192 .f32) (r : Fin 512) (l : Fin 192) :
    delta t w mine theirs m v (ix2 r l) = Cert.AdamTerms.change (w (ix2 r l)) (mom t mine theirs m (ix2 r l)) (sec t mine theirs v (ix2 r l)) := by
  unfold delta Cert.AdamTerms.change
  generalize mom t mine theirs m = a
  generalize sec t mine theirs v = b
  pointwise []

theorem half_at (b : ℕ) (t : IVec S2 32) (mine theirs : FVec Ideal S256x192 .f32) (r : Fin 256) (l : Fin 192) :
    half (BitVec.ofNat 32 b) t mine theirs (ix2 r l) = Cert.AdamTerms.pick (t (ix1 1)) b (mine (ix2 r l)) (theirs (ix2 r l)) := by
  unfold Cert.AdamTerms.pick
  generalize BitVec.ofNat 32 b = k
  pointwise [half, word]
  exact Cert.AdamTerms.sel_eq _ _ _ _

theorem grad_at (t : IVec S2 32) (mine theirs : FVec Ideal S256x192 .f32) (b : ℕ) (hb : b < 2) (r : Fin 256) (l : Fin 192) (R : Fin 512) (hR : R.val = b * 256 + r.val) :
    grad t mine theirs (ix2 R l) = Cert.AdamTerms.pick (t (ix1 1)) b (mine (ix2 r l)) (theirs (ix2 r l)) := by
  have e0 := half_at 0 t mine theirs
  have e1 := half_at 1 t mine theirs
  unfold grad
  generalize half 0#32 t mine theirs = x at e0
  generalize half 1#32 t mine theirs = y at e1
  pointwise []
  have hr := r.isLt
  by_cases h : R.val < 256
  · have hb0 : b = 0 := by omega
    subst hb0
    rw [dif_pos h, e0]
    have e : (⟨R.val, h⟩ : Fin 256) = r := Fin.ext (by simp only; omega)
    rw [e]
  · have hb1 : b = 1 := by omega
    subst hb1
    rw [dif_neg h, e1]
    have e : (⟨R.val - 256, by omega⟩ : Fin 256) = r := Fin.ext (by simp only; omega)
    rw [e]

end Cert.RefAdamUqIdeal.Value

namespace Cert.AdamUq.Value

open Cert.AdamUq Cert.AdamUq.Gen Idealize.ShloMosaic Idealize.ShloMosaic.TcCoe Idealize.SL.Sem

variable {F : FTy → Type} [FloatOps F]
variable (m : (ℓ : Loc nD τ sig) → Buf (Elt F) ℓ)

/-- No index map reads the table. -/
theorem admissible : Ok m := trivial

end Cert.AdamUq.Value

namespace Cert.AdamUqIdeal.Value

open Cert.AdamUqIdeal Cert.AdamUqIdeal.Gen Idealize.ShloMosaic Idealize.ShloMosaic.TcCoe Idealize.SL.Sem
open Idealize.ShloMosaic.Pipeline (Dat)

section any

variable {F : FTy → Type} [FloatOps F]
variable (m : (ℓ : Loc nD τ sig) → Buf (Elt F) ℓ)

/-- The table's word. -/
def tword (pf : pre0.Contents (Elt F)) : BitVec 32 := pf.at 0 (Rect.unit (s := S2) ![1] S1.size inb_S2_S1_1) numel1_S1

/-- No index map reads the table. -/
theorem admissible : Ok m := trivial

end any

variable (m : (ℓ : Loc nD τ sig) → Buf (Elt Ideal) ℓ) (ρ : Dev nD → PrngReg)

/-- The program's run: the four results, and the arguments unchanged. -/
theorem run_blocks : θ_run defs (onTc (τ := τ) (main (F := Ideal))) ⟨m, fun _ => 0, ρ⟩ fun r => ∀ c : Dev nD,
      r.2.mem ((c : Thread nD τ).loc main_v0_0) = (dats m (admissible m) 0 c).arrAt 5 (cfgM m (admissible m)).N
      ∧ r.2.mem ((c : Thread nD τ).loc main_v0_1) = (dats m (admissible m) 0 c).arrAt 6 (cfgM m (admissible m)).N
      ∧ r.2.mem ((c : Thread nD τ).loc main_v0_2) = (dats m (admissible m) 0 c).arrAt 7 (cfgM m (admissible m)).N
      ∧ r.2.mem ((c : Thread nD τ).loc main_v0_3) = (dats m (admissible m) 0 c).arrAt 8 (cfgM m (admissible m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 5, (h c).1 6, (h c).1 7, (h c).1 8,
      ((h c).2 main_arg0 (by decide : main_arg0 ∈ Pipeline.restRefs sig spec0)).trans (V_main_arg0 m c),
      ((h c).1 0).trans (((dats m (admissible m) 0 c).arrAt_in 0 rfl _).trans ((A_eq m (admissible m) c 0).trans (V_main_arg1 m c))),
      ((h c).1 1).trans (((dats m (admissible m) 0 c).arrAt_in 1 rfl _).trans ((A_eq m (admissible m) c 1).trans (V_main_arg2 m c))),
      ((h c).1 2).trans (((dats m (admissible m) 0 c).arrAt_in 2 rfl _).trans ((A_eq m (admissible m) c 2).trans (V_main_arg3 m c))),
      ((h c).1 3).trans (((dats m (admissible m) 0 c).arrAt_in 3 rfl _).trans ((A_eq m (admissible m) c 3).trans (V_main_arg4 m c))),
      ((h c).1 4).trans (((dats m (admissible m) 0 c).arrAt_in 4 rfl _).trans ((A_eq m (admissible m) c 4).trans (V_main_arg5 m c)))⟩)
    (run_main m ρ (admissible m))

theorem pay3_at (i : grid0.Coords) (w : BitVec 32) (x y : FVec Ideal S256x192 .f32) (r : Fin 256) (l : Fin 192) :
    k0_pay3 (F := Ideal) i w x y (ix2 r l) = Cert.AdamTerms.pick w ((i 0).val / 1) (x (ix2 r l)) (y (ix2 r l)) := by
  have e : k0_pay3 (F := Ideal) i w x y = Scalar.select (IntOp.cmpi .eq (Cert.AdamTerms.quo (BitVec.ofNat 32 (i 0).val) 1#32) w) x y := rfl
  rw [e, Cert.AdamTerms.sel_eq, Cert.AdamTerms.quo1 (i 0)]
  unfold Cert.AdamTerms.pick
  by_cases h : w = BitVec.ofNat 32 ((i 0).val / 1)
  · rw [if_pos h.symm, if_pos h]
  · rw [if_neg (fun e => h e.symm), if_neg h]

theorem pay4_at (i : grid0.Coords) (w : BitVec 32) (x y z : FVec Ideal S256x192 .f32) (r : Fin 256) (l : Fin 192) :
    k0_pay4 (F := Ideal) i w x y z (ix2 r l) = Cert.AdamTerms.first (k0_pay3 (F := Ideal) i w x y (ix2 r l)) (z (ix2 r l)) := by
  unfold k0_pay4 Cert.AdamTerms.first
  generalize k0_pay3 (F := Ideal) i w x y = g
  pointwise []

theorem sec_at (i : grid0.Coords) (w : BitVec 32) (x y z : FVec Ideal S256x192 .f32) (r : Fin 256) (l : Fin 192) :
    k0_pay1 (F := Ideal) (k0_pay5 (F := Ideal) z) (k0_pay6 (F := Ideal) i w x y) (Scalar.ofBits .f32 0x3A83126F#32) (ix2 r l)
      = Cert.AdamTerms.second (k0_pay3 (F := Ideal) i w x y (ix2 r l)) (z (ix2 r l)) := by
  unfold k0_pay1 k0_pay5 k0_pay6 Cert.AdamTerms.second
  generalize k0_pay3 (F := Ideal) i w x y = g
  pointwise []

theorem pay2_at (w a b c : FVec Ideal S256x192 .f32) (s : EReal) (r : Fin 256) (l : Fin 192) :
    k0_pay2 (F := Ideal) w a b c s (ix2 r l) = Cert.AdamTerms.change (w (ix2 r l)) (a (ix2 r l)) (k0_pay1 (F := Ideal) b c s (ix2 r l)) := by
  unfold k0_pay2 Cert.AdamTerms.change
  generalize k0_pay1 (F := Ideal) b c s = v
  pointwise []

/-- The table's word is the second of the first argument. -/
theorem tword_eq (c : Dev nD) : tword (tbl m) = (m ((c : Thread nD τ).loc main_arg0) : IVec S2 32) (ix1 1) := by
  obtain rfl : c = (0 : Fin 1) := Fin.eq_zero _
  show m _ _ = m _ _
  refine congrArg (m _) ?_
  funext a
  fin_cases a
  rfl

/-- The windows' places. -/
theorem idx (t : Fin (cfgM m (admissible m)).N) : (pcfg0.win (adm m (admissible m)) 0).index t = ![t.val, 0]
    ∧ (pcfg0.win (adm m (admissible m)) 1).index t = ![0, 0]
    ∧ (pcfg0.win (adm m (admissible m)) 2).index t = ![0, 0]
    ∧ (pcfg0.win (adm m (admissible m)) 3).index t = ![t.val, 0]
    ∧ (pcfg0.win (adm m (admissible m)) 4).index t = ![t.val, 0]
    ∧ (pcfg0.win (adm m (admissible m)) 5).index t = ![t.val, 0]
    ∧ (pcfg0.win (adm m (admissible m)) 6).index t = ![t.val, 0]
    ∧ (pcfg0.win (adm m (admissible m)) 7).index t = ![t.val, 0]
    ∧ (pcfg0.win (adm m (admissible m)) 8).index t = ![t.val, 0] :=
  (by decide +kernel : ∀ t : Fin grid0.N, cc0_transform_0 (grid0.coords t) = ![t.val, 0]
    ∧ cc0_transform_1 (grid0.coords t) = ![0, 0]
    ∧ cc0_transform_2 (grid0.coords t) = ![0, 0]
    ∧ cc0_transform_3 (grid0.coords t) = ![t.val, 0]
    ∧ cc0_transform_4 (grid0.coords t) = ![t.val, 0]
    ∧ cc0_transform_5 (grid0.coords t) = ![t.val, 0]
    ∧ cc0_transform_6 (grid0.coords t) = ![t.val, 0]
    ∧ cc0_transform_7 (grid0.coords t) = ![t.val, 0]
    ∧ cc0_transform_8 (grid0.coords t) = ![t.val, 0]) t

theorem coord (t : Fin (cfgM m (admissible m)).N) : (grid0.coords t 0).val = t.val :=
  (by decide +kernel : ∀ t : Fin grid0.N, (grid0.coords t 0).val = t.val) t

/-- The blocks a point reads. -/
def block0 (c : Dev nD) (t : Fin (cfgM m (admissible m)).N) : FVec Ideal S256x192 .f32 := iblk m (admissible m) c 0 t
def block1 (c : Dev nD) (t : Fin (cfgM m (admissible m)).N) : FVec Ideal S256x192 .f32 := iblk m (admissible m) c 1 t
def block2 (c : Dev nD) (t : Fin (cfgM m (admissible m)).N) : FVec Ideal S256x192 .f32 := iblk m (admissible m) c 2 t
def block3 (c : Dev nD) (t : Fin (cfgM m (admissible m)).N) : FVec Ideal S256x192 .f32 := iblk m (admissible m) c 3 t
def block4 (c : Dev nD) (t : Fin (cfgM m (admissible m)).N) : FVec Ideal S256x192 .f32 := iblk m (admissible m) c 4 t

theorem blk0 (c : Dev nD) (t : Fin (cfgM m (admissible m)).N) (r : Fin 256) (l : Fin 192) (R : Fin 512) (hR : R.val = t.val * 256 + r.val) :
    block0 m c t (ix2 r l) = (m ((c : Thread nD τ).loc main_arg1) : FVec Ideal S512x192 .f32) (ix2 R l) := by
  have e : (pcfg0.win (adm m (admissible m)) 0).index t = ![t.val, 0] := (idx m t).1
  unfold block0
  blk_point [iblk, V]
  · exact (congrArg (fun x : ℕ => x * 256 + r.val) (congrFun e 0)).trans hR.symm
  · exact (congrArg (fun x : ℕ => x * 192 + l.val) (congrFun e 1)).trans (by simp)

theorem blk3 (c : Dev nD) (t : Fin (cfgM m (admissible m)).N) (r : Fin 256) (l : Fin 192) (R : Fin 512) (hR : R.val = t.val * 256 + r.val) :
    block3 m c t (ix2 r l) = (m ((c : Thread nD τ).loc main_arg4) : FVec Ideal S512x192 .f32) (ix2 R l) := by
  have e : (pcfg0.win (adm m (admissible m)) 3).index t = ![t.val, 0] := (idx m t).2.2.2.1
  unfold block3
  blk_point [iblk, V]
  · exact (congrArg (fun x : ℕ => x * 256 + r.val) (congrFun e 0)).trans hR.symm
  · exact (congrArg (fun x : ℕ => x * 192 + l.val) (congrFun e 1)).trans (by simp)

theorem blk4 (c : Dev nD) (t : Fin (cfgM m (admissible m)).N) (r : Fin 256) (l : Fin 192) (R : Fin 512) (hR : R.val = t.val * 256 + r.val) :
    block4 m c t (ix2 r l) = (m ((c : Thread nD τ).loc main_arg5) : FVec Ideal S512x192 .f32) (ix2 R l) := by
  have e : (pcfg0.win (adm m (admissible m)) 4).index t = ![t.val, 0] := (idx m t).2.2.2.2.1
  unfold block4
  blk_point [iblk, V]
  · exact (congrArg (fun x : ℕ => x * 256 + r.val) (congrFun e 0)).trans hR.symm
  · exact (congrArg (fun x : ℕ => x * 192 + l.val) (congrFun e 1)).trans (by simp)

/-- This device's half is one tile. -/
theorem blk1 (c : Dev nD) (t : Fin (cfgM m (admissible m)).N) (r : Fin 256) (l : Fin 192) (R : Fin 256) (hR : R.val = 0 * 256 + r.val) :
    block1 m c t (ix2 r l) = (m ((c : Thread nD τ).loc main_arg2) : FVec Ideal S256x192 .f32) (ix2 R l) := by
  have e : (pcfg0.win (adm m (admissible m)) 1).index t = ![0, 0] := (idx m t).2.1
  unfold block1
  blk_point [iblk, V]
  · exact (congrArg (fun x : ℕ => x * 256 + r.val) (congrFun e 0)).trans hR.symm
  · exact (congrArg (fun x : ℕ => x * 192 + l.val) (congrFun e 1)).trans (by simp)

/-- So is the partner's. -/
theorem blk2 (c : Dev nD) (t : Fin (cfgM m (admissible m)).N) (r : Fin 256) (l : Fin 192) (R : Fin 256) (hR : R.val = 0 * 256 + r.val) :
    block2 m c t (ix2 r l) = (m ((c : Thread nD τ).loc main_arg3) : FVec Ideal S256x192 .f32) (ix2 R l) := by
  have e : (pcfg0.win (adm m (admissible m)) 2).index t = ![0, 0] := (idx m t).2.2.1
  unfold block2
  blk_point [iblk, V]
  · exact (congrArg (fun x : ℕ => x * 256 + r.val) (congrFun e 0)).trans hR.symm
  · exact (congrArg (fun x : ℕ => x * 192 + l.val) (congrFun e 1)).trans (by simp)

/-- The gradient's block at a point. -/
def gradOf (c : Dev nD) (t : Fin (cfgM m (admissible m)).N) : FVec Ideal S256x192 .f32 :=
  k0_pay3 (F := Ideal) (grid0.coords t) (tword (tbl m)) (block1 m c t) (block2 m c t)

/-- The first moment's. -/
def momOf (c : Dev nD) (t : Fin (cfgM m (admissible m)).N) : FVec Ideal S256x192 .f32 :=
  k0_pay4 (F := Ideal) (grid0.coords t) (tword (tbl m)) (block1 m c t) (block2 m c t) (block3 m c t)

/-- The second moment's. -/
def secOf (c : Dev nD) (t : Fin (cfgM m (admissible m)).N) : FVec Ideal S256x192 .f32 :=
  k0_pay1 (F := Ideal) (k0_pay5 (F := Ideal) (block4 m c t)) (k0_pay6 (F := Ideal) (grid0.coords t) (tword (tbl m)) (block1 m c t) (block2 m c t))
    (Scalar.ofBits .f32 0x3A83126F#32)

/-- The change's. -/
def changeOf (c : Dev nD) (t : Fin (cfgM m (admissible m)).N) : FVec Ideal S256x192 .f32 :=
  k0_pay2 (F := Ideal) (block0 m c t) (momOf m c t) (k0_pay5 (F := Ideal) (block4 m c t))
    (k0_pay6 (F := Ideal) (grid0.coords t) (tword (tbl m)) (block1 m c t) (block2 m c t)) (Scalar.ofBits .f32 0x3A83126F#32)

theorem gradOf_at (c : Dev nD) (t : Fin (cfgM m (admissible m)).N) (r : Fin 256) (l : Fin 192) (R : Fin 512) (hR : R.val = t.val * 256 + r.val) :
    gradOf m c t (ix2 r l)
      = Cert.RefAdamUqIdeal.Value.grad (m ((c : Thread nD τ).loc main_arg0)) (m ((c : Thread nD τ).loc main_arg2)) (m ((c : Thread nD τ).loc main_arg3)) (ix2 R l) := by
  have ht : t.val < 2 := t.isLt
  have hr := r.isLt
  unfold gradOf
  rw [pay3_at, coord m t, Cert.RefAdamUqIdeal.Value.grad_at _ _ _ (t.val / 1) (by omega) ⟨0 * 256 + r.val, by omega⟩ l R (by simp only; omega),
    ← tword_eq m c]
  unfold Cert.AdamTerms.pick
  by_cases h : tword (tbl m) = BitVec.ofNat 32 (t.val / 1)
  · rw [if_pos h, if_pos h]
    exact blk1 m c t r l _ rfl
  · rw [if_neg h, if_neg h]
    exact blk2 m c t r l _ rfl

theorem momOf_at (c : Dev nD) (t : Fin (cfgM m (admissible m)).N) (r : Fin 256) (l : Fin 192) (R : Fin 512) (hR : R.val = t.val * 256 + r.val) :
    momOf m c t (ix2 r l) = Cert.RefAdamUqIdeal.Value.mom (m ((c : Thread nD τ).loc main_arg0)) (m ((c : Thread nD τ).loc main_arg2)) (m ((c : Thread nD τ).loc main_arg3)) (m ((c : Thread nD τ).loc main_arg4)) (ix2 R l) := by
  rw [Cert.RefAdamUqIdeal.Value.mom_at, ← gradOf_at m c t r l R hR]
  unfold momOf
  rw [pay4_at, blk3 m c t r l R hR]
  rfl

theorem secOf_at (c : Dev nD) (t : Fin (cfgM m (admissible m)).N) (r : Fin 256) (l : Fin 192) (R : Fin 512) (hR : R.val = t.val * 256 + r.val) :
    secOf m c t (ix2 r l) = Cert.RefAdamUqIdeal.Value.sec (m ((c : Thread nD τ).loc main_arg0)) (m ((c : Thread nD τ).loc main_arg2)) (m ((c : Thread nD τ).loc main_arg3)) (m ((c : Thread nD τ).loc main_arg5)) (ix2 R l) := by
  rw [Cert.RefAdamUqIdeal.Value.sec_at, ← gradOf_at m c t r l R hR]
  unfold secOf
  rw [sec_at, blk4 m c t r l R hR]
  rfl

theorem changeOf_at (c : Dev nD) (t : Fin (cfgM m (admissible m)).N) (r : Fin 256) (l : Fin 192) (R : Fin 512) (hR : R.val = t.val * 256 + r.val) :
    changeOf m c t (ix2 r l) = Cert.RefAdamUqIdeal.Value.delta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R l) := by
  rw [Cert.RefAdamUqIdeal.Value.delta_at, ← momOf_at m c t r l R hR, ← secOf_at m c t r l R hR, ← blk0 m c t r l R hR]
  unfold changeOf
  rw [pay2_at]
  rfl

theorem outs_5 (c : Dev nD) (t : Fin (cfgM m (admissible m)).N) : (outsAt0 m (admissible m) c t).1 = gradOf m c t := by
  unfold outsAt0
  frame_out
  exact Cert.AdamTerms.congr5 (fun _ x y _ _ => k0_pay3 (F := Ideal) (grid0.coords t) (tword (tbl m)) x y) (rfl : block0 m c t = _)
    ((hs0_1 m (admissible m) t).read_unread _) ((hs0_2 m (admissible m) t).read_unread _) (rfl : block0 m c t = _) (rfl : block0 m c t = _)

theorem outs_6 (c : Dev nD) (t : Fin (cfgM m (admissible m)).N) : (outsAt0 m (admissible m) c t).2.1 = changeOf m c t := by
  unfold outsAt0
  frame_out
  exact Cert.AdamTerms.congr5 (fun w x y a b => k0_pay2 (F := Ideal) w (k0_pay4 (F := Ideal) (grid0.coords t) (tword (tbl m)) x y a) (k0_pay5 (F := Ideal) b)
    (k0_pay6 (F := Ideal) (grid0.coords t) (tword (tbl m)) x y) (Scalar.ofBits .f32 0x3A83126F#32)) ((hs0_0 m (admissible m) t).read_unread _)
    ((hs0_1 m (admissible m) t).read_unread _) ((hs0_2 m (admissible m) t).read_unread _) ((hs0_3 m (admissible m) t).read_unread _) ((hs0_4 m (admissible m) t).read_unread _)

theorem outs_7 (c : Dev nD) (t : Fin (cfgM m (admissible m)).N) : (outsAt0 m (admissible m) c t).2.2.1 = momOf m c t := by
  unfold outsAt0
  frame_out
  exact Cert.AdamTerms.congr5 (fun _ x y a _ => k0_pay4 (F := Ideal) (grid0.coords t) (tword (tbl m)) x y a) (rfl : block0 m c t = _)
    ((hs0_1 m (admissible m) t).read_unread _) ((hs0_2 m (admissible m) t).read_unread _) ((hs0_3 m (admissible m) t).read_unread _) (rfl : block0 m c t = _)

theorem outs_8 (c : Dev nD) (t : Fin (cfgM m (admissible m)).N) : (outsAt0 m (admissible m) c t).2.2.2 = secOf m c t := by
  unfold outsAt0
  frame_out
  exact Cert.AdamTerms.congr5 (fun _ x y _ b => k0_pay1 (F := Ideal) (k0_pay5 (F := Ideal) b)
    (k0_pay6 (F := Ideal) (grid0.coords t) (tword (tbl m)) x y) (Scalar.ofBits .f32 0x3A83126F#32)) (rfl : block0 m c t = _)
    ((hs0_1 m (admissible m) t).read_unread _) ((hs0_2 m (admissible m) t).read_unread _) (rfl : block0 m c t = _) ((hs0_4 m (admissible m) t).read_unread _)

theorem tileIdx (y : S256x192.Idx) : ∃ (r : Fin 256) (l : Fin 192), y = ix2 r l := ⟨y 0, y 1, (ix2_eta y).symm⟩

theorem arrIdx (y : S512x192.Idx) : ∃ (r : Fin 512) (l : Fin 192), y = ix2 r l := ⟨y 0, y 1, (ix2_eta y).symm⟩

/-- The gradient at the end is the reference's. -/
theorem final_grad (c : Dev nD) : (dats m (admissible m) 0 c).arrAt 5 (cfgM m (admissible m)).N
    = Cert.RefAdamUqIdeal.Value.grad (m ((c : Thread nD τ).loc main_arg0)) (m ((c : Thread nD τ).loc main_arg2)) (m ((c : Thread nD τ).loc main_arg3)) := by
  have place : ∀ (t : Fin (cfgM m (admissible m)).N) (r : Fin 256) (l : Fin 192) (R : Fin 512), R.val = t.val * 256 + r.val →
      (((cfgM m (admissible m)).win 5).blk t).view.emb (ix2 r l) = (ix2 R l : S512x192.Idx) := by
    intro t r l R hR
    have e : (pcfg0.win (adm m (admissible m)) 5).index t = ![t.val, 0] := (idx m t).2.2.2.2.2.1
    blk_ext []
    · exact (congrArg (fun x : ℕ => x * 256 + r.val) (congrFun e 0)).trans hR.symm
    · exact (congrArg (fun x : ℕ => x * 192 + l.val) (congrFun e 1)).trans (by simp)
  refine (dats m (admissible m) 0 c).arrAt_eq_of_emb 5 _ (fun t hf y => ?_) fun i => ?_
  · have ht : t.val < 2 := t.isLt
    obtain ⟨r, l, rfl⟩ := tileIdx y
    have key := gradOf_at m c t r l ⟨t.val * 256 + r.val, by omega⟩ rfl
    rw [place t r l ⟨t.val * 256 + r.val, by omega⟩ rfl, after0_5, outs_5]
    exact key
  · obtain ⟨R, l, rfl⟩ := arrIdx i
    have hR := R.isLt
    refine ⟨(⟨R.val / 256, by omega⟩ : Fin 2), flush0_5 _ _, ?_⟩
    have e := place (⟨R.val / 256, by omega⟩ : Fin 2) ⟨R.val % 256, by omega⟩ l R (by simp only; omega)
    rw [← e]
    exact View.emb_mem_set _ _

/-- The weight's change at the end is the reference's. -/
theorem final_delta (c : Dev nD) : (dats m (admissible m) 0 c).arrAt 6 (cfgM m (admissible m)).N
    = Cert.RefAdamUqIdeal.Value.delta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have place : ∀ (t : Fin (cfgM m (admissible m)).N) (r : Fin 256) (l : Fin 192) (R : Fin 512), R.val = t.val * 256 + r.val →
      (((cfgM m (admissible m)).win 6).blk t).view.emb (ix2 r l) = (ix2 R l : S512x192.Idx) := by
    intro t r l R hR
    have e : (pcfg0.win (adm m (admissible m)) 6).index t = ![t.val, 0] := (idx m t).2.2.2.2.2.2.1
    blk_ext []
    · exact (congrArg (fun x : ℕ => x * 256 + r.val) (congrFun e 0)).trans hR.symm
    · exact (congrArg (fun x : ℕ => x * 192 + l.val) (congrFun e 1)).trans (by simp)
  refine (dats m (admissible m) 0 c).arrAt_eq_of_emb 6 _ (fun t hf y => ?_) fun i => ?_
  · have ht : t.val < 2 := t.isLt
    obtain ⟨r, l, rfl⟩ := tileIdx y
    have key := changeOf_at m c t r l ⟨t.val * 256 + r.val, by omega⟩ rfl
    rw [place t r l ⟨t.val * 256 + r.val, by omega⟩ rfl, after0_6, outs_6]
    exact key
  · obtain ⟨R, l, rfl⟩ := arrIdx i
    have hR := R.isLt
    refine ⟨(⟨R.val / 256, by omega⟩ : Fin 2), flush0_6 _ _, ?_⟩
    have e := place (⟨R.val / 256, by omega⟩ : Fin 2) ⟨R.val % 256, by omega⟩ l R (by simp only; omega)
    rw [← e]
    exact View.emb_mem_set _ _

/-- The first moment at the end is the reference's. -/
theorem final_mom (c : Dev nD) : (dats m (admissible m) 0 c).arrAt 7 (cfgM m (admissible m)).N
    = Cert.RefAdamUqIdeal.Value.mom (m ((c : Thread nD τ).loc main_arg0)) (m ((c : Thread nD τ).loc main_arg2)) (m ((c : Thread nD τ).loc main_arg3)) (m ((c : Thread nD τ).loc main_arg4)) := by
  have place : ∀ (t : Fin (cfgM m (admissible m)).N) (r : Fin 256) (l : Fin 192) (R : Fin 512), R.val = t.val * 256 + r.val →
      (((cfgM m (admissible m)).win 7).blk t).view.emb (ix2 r l) = (ix2 R l : S512x192.Idx) := by
    intro t r l R hR
    have e : (pcfg0.win (adm m (admissible m)) 7).index t = ![t.val, 0] := (idx m t).2.2.2.2.2.2.2.1
    blk_ext []
    · exact (congrArg (fun x : ℕ => x * 256 + r.val) (congrFun e 0)).trans hR.symm
    · exact (congrArg (fun x : ℕ => x * 192 + l.val) (congrFun e 1)).trans (by simp)
  refine (dats m (admissible m) 0 c).arrAt_eq_of_emb 7 _ (fun t hf y => ?_) fun i => ?_
  · have ht : t.val < 2 := t.isLt
    obtain ⟨r, l, rfl⟩ := tileIdx y
    have key := momOf_at m c t r l ⟨t.val * 256 + r.val, by omega⟩ rfl
    rw [place t r l ⟨t.val * 256 + r.val, by omega⟩ rfl, after0_7, outs_7]
    exact key
  · obtain ⟨R, l, rfl⟩ := arrIdx i
    have hR := R.isLt
    refine ⟨(⟨R.val / 256, by omega⟩ : Fin 2), flush0_7 _ _, ?_⟩
    have e := place (⟨R.val / 256, by omega⟩ : Fin 2) ⟨R.val % 256, by omega⟩ l R (by simp only; omega)
    rw [← e]
    exact View.emb_mem_set _ _

/-- The second moment at the end is the reference's. -/
theorem final_sec (c : Dev nD) : (dats m (admissible m) 0 c).arrAt 8 (cfgM m (admissible m)).N
    = Cert.RefAdamUqIdeal.Value.sec (m ((c : Thread nD τ).loc main_arg0)) (m ((c : Thread nD τ).loc main_arg2)) (m ((c : Thread nD τ).loc main_arg3)) (m ((c : Thread nD τ).loc main_arg5)) := by
  have place : ∀ (t : Fin (cfgM m (admissible m)).N) (r : Fin 256) (l : Fin 192) (R : Fin 512), R.val = t.val * 256 + r.val →
      (((cfgM m (admissible m)).win 8).blk t).view.emb (ix2 r l) = (ix2 R l : S512x192.Idx) := by
    intro t r l R hR
    have e : (pcfg0.win (adm m (admissible m)) 8).index t = ![t.val, 0] := (idx m t).2.2.2.2.2.2.2.2
    blk_ext []
    · exact (congrArg (fun x : ℕ => x * 256 + r.val) (congrFun e 0)).trans hR.symm
    · exact (congrArg (fun x : ℕ => x * 192 + l.val) (congrFun e 1)).trans (by simp)
  refine (dats m (admissible m) 0 c).arrAt_eq_of_emb 8 _ (fun t hf y => ?_) fun i => ?_
  · have ht : t.val < 2 := t.isLt
    obtain ⟨r, l, rfl⟩ := tileIdx y
    have key := secOf_at m c t r l ⟨t.val * 256 + r.val, by omega⟩ rfl
    rw [place t r l ⟨t.val * 256 + r.val, by omega⟩ rfl, after0_8, outs_8]
    exact key
  · obtain ⟨R, l, rfl⟩ := arrIdx i
    have hR := R.isLt
    refine ⟨(⟨R.val / 256, by omega⟩ : Fin 2), flush0_8 _ _, ?_⟩
    have e := place (⟨R.val / 256, by omega⟩ : Fin 2) ⟨R.val % 256, by omega⟩ l R (by simp only; omega)
    rw [← e]
    exact View.emb_mem_set _ _

end Cert.AdamUqIdeal.Value

end
-- ==== Proof.AdamUkv.lean ====
module

public import proofs.«01_k».proof.Proof.Gen.RefAdamUkvIdeal.Run
public import proofs.«01_k».proof.Proof.Gen.AdamUkv.Frame
public import proofs.«01_k».proof.Proof.Gen.AdamUkvIdeal.Frame
public import proofs.«01_k».proof.Proof.Adam
public import Idealize.ShloMosaic.Lib.Pointwise
public import Idealize.ShloMosaic.Lib.Pipeline.ValueKit
public import Idealize.ShloMosaic.Lib.Pipeline.Value

@[expose] public section

set_option maxRecDepth 16384

noncomputable section

/-! The optimiser's step. -/

namespace Cert.RefAdamUkvIdeal.Value

open Cert.RefAdamUkvIdeal Cert.RefAdamUkvIdeal.Gen Idealize.ShloMosaic Idealize.SL.Sem

/-- The word that says which half is this device's. -/
def word (t : IVec S2 32) : IVec S_ 32 := shapeCast _ (extractStridedSlice S1 ![1] t slices_S2_S1_1) shapeCasts_S1_S_

/-- Half `b` of the gradient. -/
def half (b : BitVec 32) (t : IVec S2 32) (mine theirs : FVec Ideal S256x256 .f32) : FVec Ideal S256x256 .f32 :=
  select (broadcastInDim S256x256 ![] bcast_S_S256x256 (cmpi .eq (word t) (constantI S_ 32 b))) mine theirs

/-- The gradient. -/
def grad (t : IVec S2 32) (mine theirs : FVec Ideal S256x256 .f32) : FVec Ideal S512x256 .f32 :=
  concatenate S512x256 0 [⟨S256x256, half 0#32 t mine theirs⟩, ⟨S256x256, half 1#32 t mine theirs⟩] concatenates_S256x256_S256x256_S512x256_d0

/-- The first moment. -/
def mom (t : IVec S2 32) (mine theirs : FVec Ideal S256x256 .f32) (m : FVec Ideal S512x256 .f32) : FVec Ideal S512x256 .f32 :=
  addf (mulf (broadcastInDim S512x256 ![] bcast_S_S512x256 (constant S_ .f32 0x3F666666#32)) m) (mulf (broadcastInDim S512x256 ![] bcast_S_S512x256 (constant S_ .f32 0x3DCCCCCD#32)) (grad t mine theirs))

/-- The second moment. -/
def sec (t : IVec S2 32) (mine theirs : FVec Ideal S256x256 .f32) (v : FVec Ideal S512x256 .f32) : FVec Ideal S512x256 .f32 :=
  addf (mulf (broadcastInDim S512x256 ![] bcast_S_S512x256 (constant S_ .f32 0x3F7FBE77#32)) v) (mulf (broadcastInDim S512x256 ![] bcast_S_S512x256 (constant S_ .f32 0x3A83126F#32)) (mulf (grad t mine theirs) (grad t mine theirs)))

/-- The change of the weight. -/
def delta (t : IVec S2 32) (w : FVec Ideal S512x256 .f32) (mine theirs : FVec Ideal S256x256 .f32) (m v : FVec Ideal S512x256 .f32) : FVec Ideal S512x256 .f32 :=
  mulf (broadcastInDim S512x256 ![] bcast_S_S512x256 (constant S_ .f32 0xBA83126F#32)) (addf (Host.divf (Host.divf (mom t mine theirs m) (broadcastInDim S512x256 ![] bcast_S_S512x256 (constant S_ .f32 0x3F26BD02#32)))
    (addf (Host.sqrt (Host.divf (sec t mine theirs v) (broadcastInDim S512x256 ![] bcast_S_S512x256 (constant S_ .f32 0x3C231ACC#32)))) (broadcastInDim S512x256 ![] bcast_S_S512x256 (constant S_ .f32 0x322BCC77#32))))
    (mulf (broadcastInDim S512x256 ![] bcast_S_S512x256 (constant S_ .f32 0x3C23D70A#32)) w))

theorem mom_at (t : IVec S2 32) (mine theirs : FVec Ideal S256x256 .f32) (m : FVec Ideal S512x256 .f32) (r : Fin 512) (l : Fin 256) :
    mom t mine theirs m (ix2 r l) = Cert.AdamTerms.first (grad t mine theirs (ix2 r l)) (m (ix2 r l)) := by
  unfold mom Cert.AdamTerms.first
  generalize grad t mine theirs = g
  pointwise []

theorem sec_at (t : IVec S2 32) (mine theirs : FVec Ideal S256x256 .f32) (v : FVec Ideal S512x256 .f32) (r : Fin 512) (l : Fin 256) :
    sec t mine theirs v (ix2 r l) = Cert.AdamTerms.second (grad t mine theirs (ix2 r l)) (v (ix2 r l)) := by
  unfold sec Cert.AdamTerms.second
  generalize grad t mine theirs = g
  pointwise []

theorem delta_at (t : IVec S2 32) (w : FVec Ideal S512x256 .f32) (mine theirs : FVec Ideal S256x256 .f32) (m v : FVec Ideal S512x256 .f32) (r : Fin 512) (l : Fin 256) :
    delta t w mine theirs m v (ix2 r l) = Cert.AdamTerms.change (w (ix2 r l)) (mom t mine theirs m (ix2 r l)) (sec t mine theirs v (ix2 r l)) := by
  unfold delta Cert.AdamTerms.change
  generalize mom t mine theirs m = a
  generalize sec t mine theirs v = b
  pointwise []

theorem half_at (b : ℕ) (t : IVec S2 32) (mine theirs : FVec Ideal S256x256 .f32) (r : Fin 256) (l : Fin 256) :
    half (BitVec.ofNat 32 b) t mine theirs (ix2 r l) = Cert.AdamTerms.pick (t (ix1 1)) b (mine (ix2 r l)) (theirs (ix2 r l)) := by
  unfold Cert.AdamTerms.pick
  generalize BitVec.ofNat 32 b = k
  pointwise [half, word]
  exact Cert.AdamTerms.sel_eq _ _ _ _

theorem grad_at (t : IVec S2 32) (mine theirs : FVec Ideal S256x256 .f32) (b : ℕ) (hb : b < 2) (r : Fin 256) (l : Fin 256) (R : Fin 512) (hR : R.val = b * 256 + r.val) :
    grad t mine theirs (ix2 R l) = Cert.AdamTerms.pick (t (ix1 1)) b (mine (ix2 r l)) (theirs (ix2 r l)) := by
  have e0 := half_at 0 t mine theirs
  have e1 := half_at 1 t mine theirs
  unfold grad
  generalize half 0#32 t mine theirs = x at e0
  generalize half 1#32 t mine theirs = y at e1
  pointwise []
  have hr := r.isLt
  by_cases h : R.val < 256
  · have hb0 : b = 0 := by omega
    subst hb0
    rw [dif_pos h, e0]
    have e : (⟨R.val, h⟩ : Fin 256) = r := Fin.ext (by simp only; omega)
    rw [e]
  · have hb1 : b = 1 := by omega
    subst hb1
    rw [dif_neg h, e1]
    have e : (⟨R.val - 256, by omega⟩ : Fin 256) = r := Fin.ext (by simp only; omega)
    rw [e]

end Cert.RefAdamUkvIdeal.Value

namespace Cert.AdamUkv.Value

open Cert.AdamUkv Cert.AdamUkv.Gen Idealize.ShloMosaic Idealize.ShloMosaic.TcCoe Idealize.SL.Sem

variable {F : FTy → Type} [FloatOps F]
variable (m : (ℓ : Loc nD τ sig) → Buf (Elt F) ℓ)

/-- No index map reads the table. -/
theorem admissible : Ok m := trivial

end Cert.AdamUkv.Value

namespace Cert.AdamUkvIdeal.Value

open Cert.AdamUkvIdeal Cert.AdamUkvIdeal.Gen Idealize.ShloMosaic Idealize.ShloMosaic.TcCoe Idealize.SL.Sem
open Idealize.ShloMosaic.Pipeline (Dat)

section any

variable {F : FTy → Type} [FloatOps F]
variable (m : (ℓ : Loc nD τ sig) → Buf (Elt F) ℓ)

/-- The table's word. -/
def tword (pf : pre0.Contents (Elt F)) : BitVec 32 := pf.at 0 (Rect.unit (s := S2) ![1] S1.size inb_S2_S1_1) numel1_S1

/-- No index map reads the table. -/
theorem admissible : Ok m := trivial

end any

variable (m : (ℓ : Loc nD τ sig) → Buf (Elt Ideal) ℓ) (ρ : Dev nD → PrngReg)

/-- The program's run: the four results, and the arguments unchanged. -/
theorem run_blocks : θ_run defs (onTc (τ := τ) (main (F := Ideal))) ⟨m, fun _ => 0, ρ⟩ fun r => ∀ c : Dev nD,
      r.2.mem ((c : Thread nD τ).loc main_v0_0) = (dats m (admissible m) 0 c).arrAt 5 (cfgM m (admissible m)).N
      ∧ r.2.mem ((c : Thread nD τ).loc main_v0_1) = (dats m (admissible m) 0 c).arrAt 6 (cfgM m (admissible m)).N
      ∧ r.2.mem ((c : Thread nD τ).loc main_v0_2) = (dats m (admissible m) 0 c).arrAt 7 (cfgM m (admissible m)).N
      ∧ r.2.mem ((c : Thread nD τ).loc main_v0_3) = (dats m (admissible m) 0 c).arrAt 8 (cfgM m (admissible m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 5, (h c).1 6, (h c).1 7, (h c).1 8,
      ((h c).2 main_arg0 (by decide : main_arg0 ∈ Pipeline.restRefs sig spec0)).trans (V_main_arg0 m c),
      ((h c).1 0).trans (((dats m (admissible m) 0 c).arrAt_in 0 rfl _).trans ((A_eq m (admissible m) c 0).trans (V_main_arg1 m c))),
      ((h c).1 1).trans (((dats m (admissible m) 0 c).arrAt_in 1 rfl _).trans ((A_eq m (admissible m) c 1).trans (V_main_arg2 m c))),
      ((h c).1 2).trans (((dats m (admissible m) 0 c).arrAt_in 2 rfl _).trans ((A_eq m (admissible m) c 2).trans (V_main_arg3 m c))),
      ((h c).1 3).trans (((dats m (admissible m) 0 c).arrAt_in 3 rfl _).trans ((A_eq m (admissible m) c 3).trans (V_main_arg4 m c))),
      ((h c).1 4).trans (((dats m (admissible m) 0 c).arrAt_in 4 rfl _).trans ((A_eq m (admissible m) c 4).trans (V_main_arg5 m c)))⟩)
    (run_main m ρ (admissible m))

theorem pay3_at (i : grid0.Coords) (w : BitVec 32) (x y : FVec Ideal S256x256 .f32) (r : Fin 256) (l : Fin 256) :
    k0_pay3 (F := Ideal) i w x y (ix2 r l) = Cert.AdamTerms.pick w ((i 0).val / 1) (x (ix2 r l)) (y (ix2 r l)) := by
  have e : k0_pay3 (F := Ideal) i w x y = Scalar.select (IntOp.cmpi .eq (Cert.AdamTerms.quo (BitVec.ofNat 32 (i 0).val) 1#32) w) x y := rfl
  rw [e, Cert.AdamTerms.sel_eq, Cert.AdamTerms.quo1 (i 0)]
  unfold Cert.AdamTerms.pick
  by_cases h : w = BitVec.ofNat 32 ((i 0).val / 1)
  · rw [if_pos h.symm, if_pos h]
  · rw [if_neg (fun e => h e.symm), if_neg h]

theorem pay4_at (i : grid0.Coords) (w : BitVec 32) (x y z : FVec Ideal S256x256 .f32) (r : Fin 256) (l : Fin 256) :
    k0_pay4 (F := Ideal) i w x y z (ix2 r l) = Cert.AdamTerms.first (k0_pay3 (F := Ideal) i w x y (ix2 r l)) (z (ix2 r l)) := by
  unfold k0_pay4 Cert.AdamTerms.first
  generalize k0_pay3 (F := Ideal) i w x y = g
  pointwise []

theorem sec_at (i : grid0.Coords) (w : BitVec 32) (x y z : FVec Ideal S256x256 .f32) (r : Fin 256) (l : Fin 256) :
    k0_pay1 (F := Ideal) (k0_pay5 (F := Ideal) z) (k0_pay6 (F := Ideal) i w x y) (Scalar.ofBits .f32 0x3A83126F#32) (ix2 r l)
      = Cert.AdamTerms.second (k0_pay3 (F := Ideal) i w x y (ix2 r l)) (z (ix2 r l)) := by
  unfold k0_pay1 k0_pay5 k0_pay6 Cert.AdamTerms.second
  generalize k0_pay3 (F := Ideal) i w x y = g
  pointwise []

theorem pay2_at (w a b c : FVec Ideal S256x256 .f32) (s : EReal) (r : Fin 256) (l : Fin 256) :
    k0_pay2 (F := Ideal) w a b c s (ix2 r l) = Cert.AdamTerms.change (w (ix2 r l)) (a (ix2 r l)) (k0_pay1 (F := Ideal) b c s (ix2 r l)) := by
  unfold k0_pay2 Cert.AdamTerms.change
  generalize k0_pay1 (F := Ideal) b c s = v
  pointwise []

/-- The table's word is the second of the first argument. -/
theorem tword_eq (c : Dev nD) : tword (tbl m) = (m ((c : Thread nD τ).loc main_arg0) : IVec S2 32) (ix1 1) := by
  obtain rfl : c = (0 : Fin 1) := Fin.eq_zero _
  show m _ _ = m _ _
  refine congrArg (m _) ?_
  funext a
  fin_cases a
  rfl

/-- The windows' places. -/
theorem idx (t : Fin (cfgM m (admissible m)).N) : (pcfg0.win (adm m (admissible m)) 0).index t = ![t.val, 0]
    ∧ (pcfg0.win (adm m (admissible m)) 1).index t = ![0, 0]
    ∧ (pcfg0.win (adm m (admissible m)) 2).index t = ![0, 0]
    ∧ (pcfg0.win (adm m (admissible m)) 3).index t = ![t.val, 0]
    ∧ (pcfg0.win (adm m (admissible m)) 4).index t = ![t.val, 0]
    ∧ (pcfg0.win (adm m (admissible m)) 5).index t = ![t.val, 0]
    ∧ (pcfg0.win (adm m (admissible m)) 6).index t = ![t.val, 0]
    ∧ (pcfg0.win (adm m (admissible m)) 7).index t = ![t.val, 0]
    ∧ (pcfg0.win (adm m (admissible m)) 8).index t = ![t.val, 0] :=
  (by decide +kernel : ∀ t : Fin grid0.N, cc0_transform_0 (grid0.coords t) = ![t.val, 0]
    ∧ cc0_transform_1 (grid0.coords t) = ![0, 0]
    ∧ cc0_transform_2 (grid0.coords t) = ![0, 0]
    ∧ cc0_transform_3 (grid0.coords t) = ![t.val, 0]
    ∧ cc0_transform_4 (grid0.coords t) = ![t.val, 0]
    ∧ cc0_transform_5 (grid0.coords t) = ![t.val, 0]
    ∧ cc0_transform_6 (grid0.coords t) = ![t.val, 0]
    ∧ cc0_transform_7 (grid0.coords t) = ![t.val, 0]
    ∧ cc0_transform_8 (grid0.coords t) = ![t.val, 0]) t

theorem coord (t : Fin (cfgM m (admissible m)).N) : (grid0.coords t 0).val = t.val :=
  (by decide +kernel : ∀ t : Fin grid0.N, (grid0.coords t 0).val = t.val) t

/-- The blocks a point reads. -/
def block0 (c : Dev nD) (t : Fin (cfgM m (admissible m)).N) : FVec Ideal S256x256 .f32 := iblk m (admissible m) c 0 t
def block1 (c : Dev nD) (t : Fin (cfgM m (admissible m)).N) : FVec Ideal S256x256 .f32 := iblk m (admissible m) c 1 t
def block2 (c : Dev nD) (t : Fin (cfgM m (admissible m)).N) : FVec Ideal S256x256 .f32 := iblk m (admissible m) c 2 t
def block3 (c : Dev nD) (t : Fin (cfgM m (admissible m)).N) : FVec Ideal S256x256 .f32 := iblk m (admissible m) c 3 t
def block4 (c : Dev nD) (t : Fin (cfgM m (admissible m)).N) : FVec Ideal S256x256 .f32 := iblk m (admissible m) c 4 t

theorem blk0 (c : Dev nD) (t : Fin (cfgM m (admissible m)).N) (r : Fin 256) (l : Fin 256) (R : Fin 512) (hR : R.val = t.val * 256 + r.val) :
    block0 m c t (ix2 r l) = (m ((c : Thread nD τ).loc main_arg1) : FVec Ideal S512x256 .f32) (ix2 R l) := by
  have e : (pcfg0.win (adm m (admissible m)) 0).index t = ![t.val, 0] := (idx m t).1
  unfold block0
  blk_point [iblk, V]
  · exact (congrArg (fun x : ℕ => x * 256 + r.val) (congrFun e 0)).trans hR.symm
  · exact (congrArg (fun x : ℕ => x * 256 + l.val) (congrFun e 1)).trans (by simp)

theorem blk3 (c : Dev nD) (t : Fin (cfgM m (admissible m)).N) (r : Fin 256) (l : Fin 256) (R : Fin 512) (hR : R.val = t.val * 256 + r.val) :
    block3 m c t (ix2 r l) = (m ((c : Thread nD τ).loc main_arg4) : FVec Ideal S512x256 .f32) (ix2 R l) := by
  have e : (pcfg0.win (adm m (admissible m)) 3).index t = ![t.val, 0] := (idx m t).2.2.2.1
  unfold block3
  blk_point [iblk, V]
  · exact (congrArg (fun x : ℕ => x * 256 + r.val) (congrFun e 0)).trans hR.symm
  · exact (congrArg (fun x : ℕ => x * 256 + l.val) (congrFun e 1)).trans (by simp)

theorem blk4 (c : Dev nD) (t : Fin (cfgM m (admissible m)).N) (r : Fin 256) (l : Fin 256) (R : Fin 512) (hR : R.val = t.val * 256 + r.val) :
    block4 m c t (ix2 r l) = (m ((c : Thread nD τ).loc main_arg5) : FVec Ideal S512x256 .f32) (ix2 R l) := by
  have e : (pcfg0.win (adm m (admissible m)) 4).index t = ![t.val, 0] := (idx m t).2.2.2.2.1
  unfold block4
  blk_point [iblk, V]
  · exact (congrArg (fun x : ℕ => x * 256 + r.val) (congrFun e 0)).trans hR.symm
  · exact (congrArg (fun x : ℕ => x * 256 + l.val) (congrFun e 1)).trans (by simp)

/-- This device's half is one tile. -/
theorem blk1 (c : Dev nD) (t : Fin (cfgM m (admissible m)).N) (r : Fin 256) (l : Fin 256) (R : Fin 256) (hR : R.val = 0 * 256 + r.val) :
    block1 m c t (ix2 r l) = (m ((c : Thread nD τ).loc main_arg2) : FVec Ideal S256x256 .f32) (ix2 R l) := by
  have e : (pcfg0.win (adm m (admissible m)) 1).index t = ![0, 0] := (idx m t).2.1
  unfold block1
  blk_point [iblk, V]
  · exact (congrArg (fun x : ℕ => x * 256 + r.val) (congrFun e 0)).trans hR.symm
  · exact (congrArg (fun x : ℕ => x * 256 + l.val) (congrFun e 1)).trans (by simp)

/-- So is the partner's. -/
theorem blk2 (c : Dev nD) (t : Fin (cfgM m (admissible m)).N) (r : Fin 256) (l : Fin 256) (R : Fin 256) (hR : R.val = 0 * 256 + r.val) :
    block2 m c t (ix2 r l) = (m ((c : Thread nD τ).loc main_arg3) : FVec Ideal S256x256 .f32) (ix2 R l) := by
  have e : (pcfg0.win (adm m (admissible m)) 2).index t = ![0, 0] := (idx m t).2.2.1
  unfold block2
  blk_point [iblk, V]
  · exact (congrArg (fun x : ℕ => x * 256 + r.val) (congrFun e 0)).trans hR.symm
  · exact (congrArg (fun x : ℕ => x * 256 + l.val) (congrFun e 1)).trans (by simp)

/-- The gradient's block at a point. -/
def gradOf (c : Dev nD) (t : Fin (cfgM m (admissible m)).N) : FVec Ideal S256x256 .f32 :=
  k0_pay3 (F := Ideal) (grid0.coords t) (tword (tbl m)) (block1 m c t) (block2 m c t)

/-- The first moment's. -/
def momOf (c : Dev nD) (t : Fin (cfgM m (admissible m)).N) : FVec Ideal S256x256 .f32 :=
  k0_pay4 (F := Ideal) (grid0.coords t) (tword (tbl m)) (block1 m c t) (block2 m c t) (block3 m c t)

/-- The second moment's. -/
def secOf (c : Dev nD) (t : Fin (cfgM m (admissible m)).N) : FVec Ideal S256x256 .f32 :=
  k0_pay1 (F := Ideal) (k0_pay5 (F := Ideal) (block4 m c t)) (k0_pay6 (F := Ideal) (grid0.coords t) (tword (tbl m)) (block1 m c t) (block2 m c t))
    (Scalar.ofBits .f32 0x3A83126F#32)

/-- The change's. -/
def changeOf (c : Dev nD) (t : Fin (cfgM m (admissible m)).N) : FVec Ideal S256x256 .f32 :=
  k0_pay2 (F := Ideal) (block0 m c t) (momOf m c t) (k0_pay5 (F := Ideal) (block4 m c t))
    (k0_pay6 (F := Ideal) (grid0.coords t) (tword (tbl m)) (block1 m c t) (block2 m c t)) (Scalar.ofBits .f32 0x3A83126F#32)

theorem gradOf_at (c : Dev nD) (t : Fin (cfgM m (admissible m)).N) (r : Fin 256) (l : Fin 256) (R : Fin 512) (hR : R.val = t.val * 256 + r.val) :
    gradOf m c t (ix2 r l)
      = Cert.RefAdamUkvIdeal.Value.grad (m ((c : Thread nD τ).loc main_arg0)) (m ((c : Thread nD τ).loc main_arg2)) (m ((c : Thread nD τ).loc main_arg3)) (ix2 R l) := by
  have ht : t.val < 2 := t.isLt
  have hr := r.isLt
  unfold gradOf
  rw [pay3_at, coord m t, Cert.RefAdamUkvIdeal.Value.grad_at _ _ _ (t.val / 1) (by omega) ⟨0 * 256 + r.val, by omega⟩ l R (by simp only; omega),
    ← tword_eq m c]
  unfold Cert.AdamTerms.pick
  by_cases h : tword (tbl m) = BitVec.ofNat 32 (t.val / 1)
  · rw [if_pos h, if_pos h]
    exact blk1 m c t r l _ rfl
  · rw [if_neg h, if_neg h]
    exact blk2 m c t r l _ rfl

theorem momOf_at (c : Dev nD) (t : Fin (cfgM m (admissible m)).N) (r : Fin 256) (l : Fin 256) (R : Fin 512) (hR : R.val = t.val * 256 + r.val) :
    momOf m c t (ix2 r l) = Cert.RefAdamUkvIdeal.Value.mom (m ((c : Thread nD τ).loc main_arg0)) (m ((c : Thread nD τ).loc main_arg2)) (m ((c : Thread nD τ).loc main_arg3)) (m ((c : Thread nD τ).loc main_arg4)) (ix2 R l) := by
  rw [Cert.RefAdamUkvIdeal.Value.mom_at, ← gradOf_at m c t r l R hR]
  unfold momOf
  rw [pay4_at, blk3 m c t r l R hR]
  rfl

theorem secOf_at (c : Dev nD) (t : Fin (cfgM m (admissible m)).N) (r : Fin 256) (l : Fin 256) (R : Fin 512) (hR : R.val = t.val * 256 + r.val) :
    secOf m c t (ix2 r l) = Cert.RefAdamUkvIdeal.Value.sec (m ((c : Thread nD τ).loc main_arg0)) (m ((c : Thread nD τ).loc main_arg2)) (m ((c : Thread nD τ).loc main_arg3)) (m ((c : Thread nD τ).loc main_arg5)) (ix2 R l) := by
  rw [Cert.RefAdamUkvIdeal.Value.sec_at, ← gradOf_at m c t r l R hR]
  unfold secOf
  rw [sec_at, blk4 m c t r l R hR]
  rfl

theorem changeOf_at (c : Dev nD) (t : Fin (cfgM m (admissible m)).N) (r : Fin 256) (l : Fin 256) (R : Fin 512) (hR : R.val = t.val * 256 + r.val) :
    changeOf m c t (ix2 r l) = Cert.RefAdamUkvIdeal.Value.delta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R l) := by
  rw [Cert.RefAdamUkvIdeal.Value.delta_at, ← momOf_at m c t r l R hR, ← secOf_at m c t r l R hR, ← blk0 m c t r l R hR]
  unfold changeOf
  rw [pay2_at]
  rfl

theorem outs_5 (c : Dev nD) (t : Fin (cfgM m (admissible m)).N) : (outsAt0 m (admissible m) c t).1 = gradOf m c t := by
  unfold outsAt0
  frame_out
  exact Cert.AdamTerms.congr5 (fun _ x y _ _ => k0_pay3 (F := Ideal) (grid0.coords t) (tword (tbl m)) x y) (rfl : block0 m c t = _)
    ((hs0_1 m (admissible m) t).read_unread _) ((hs0_2 m (admissible m) t).read_unread _) (rfl : block0 m c t = _) (rfl : block0 m c t = _)

theorem outs_6 (c : Dev nD) (t : Fin (cfgM m (admissible m)).N) : (outsAt0 m (admissible m) c t).2.1 = changeOf m c t := by
  unfold outsAt0
  frame_out
  exact Cert.AdamTerms.congr5 (fun w x y a b => k0_pay2 (F := Ideal) w (k0_pay4 (F := Ideal) (grid0.coords t) (tword (tbl m)) x y a) (k0_pay5 (F := Ideal) b)
    (k0_pay6 (F := Ideal) (grid0.coords t) (tword (tbl m)) x y) (Scalar.ofBits .f32 0x3A83126F#32)) ((hs0_0 m (admissible m) t).read_unread _)
    ((hs0_1 m (admissible m) t).read_unread _) ((hs0_2 m (admissible m) t).read_unread _) ((hs0_3 m (admissible m) t).read_unread _) ((hs0_4 m (admissible m) t).read_unread _)

theorem outs_7 (c : Dev nD) (t : Fin (cfgM m (admissible m)).N) : (outsAt0 m (admissible m) c t).2.2.1 = momOf m c t := by
  unfold outsAt0
  frame_out
  exact Cert.AdamTerms.congr5 (fun _ x y a _ => k0_pay4 (F := Ideal) (grid0.coords t) (tword (tbl m)) x y a) (rfl : block0 m c t = _)
    ((hs0_1 m (admissible m) t).read_unread _) ((hs0_2 m (admissible m) t).read_unread _) ((hs0_3 m (admissible m) t).read_unread _) (rfl : block0 m c t = _)

theorem outs_8 (c : Dev nD) (t : Fin (cfgM m (admissible m)).N) : (outsAt0 m (admissible m) c t).2.2.2 = secOf m c t := by
  unfold outsAt0
  frame_out
  exact Cert.AdamTerms.congr5 (fun _ x y _ b => k0_pay1 (F := Ideal) (k0_pay5 (F := Ideal) b)
    (k0_pay6 (F := Ideal) (grid0.coords t) (tword (tbl m)) x y) (Scalar.ofBits .f32 0x3A83126F#32)) (rfl : block0 m c t = _)
    ((hs0_1 m (admissible m) t).read_unread _) ((hs0_2 m (admissible m) t).read_unread _) (rfl : block0 m c t = _) ((hs0_4 m (admissible m) t).read_unread _)

theorem tileIdx (y : S256x256.Idx) : ∃ (r : Fin 256) (l : Fin 256), y = ix2 r l := ⟨y 0, y 1, (ix2_eta y).symm⟩

theorem arrIdx (y : S512x256.Idx) : ∃ (r : Fin 512) (l : Fin 256), y = ix2 r l := ⟨y 0, y 1, (ix2_eta y).symm⟩

/-- The gradient at the end is the reference's. -/
theorem final_grad (c : Dev nD) : (dats m (admissible m) 0 c).arrAt 5 (cfgM m (admissible m)).N
    = Cert.RefAdamUkvIdeal.Value.grad (m ((c : Thread nD τ).loc main_arg0)) (m ((c : Thread nD τ).loc main_arg2)) (m ((c : Thread nD τ).loc main_arg3)) := by
  have place : ∀ (t : Fin (cfgM m (admissible m)).N) (r : Fin 256) (l : Fin 256) (R : Fin 512), R.val = t.val * 256 + r.val →
      (((cfgM m (admissible m)).win 5).blk t).view.emb (ix2 r l) = (ix2 R l : S512x256.Idx) := by
    intro t r l R hR
    have e : (pcfg0.win (adm m (admissible m)) 5).index t = ![t.val, 0] := (idx m t).2.2.2.2.2.1
    blk_ext []
    · exact (congrArg (fun x : ℕ => x * 256 + r.val) (congrFun e 0)).trans hR.symm
    · exact (congrArg (fun x : ℕ => x * 256 + l.val) (congrFun e 1)).trans (by simp)
  refine (dats m (admissible m) 0 c).arrAt_eq_of_emb 5 _ (fun t hf y => ?_) fun i => ?_
  · have ht : t.val < 2 := t.isLt
    obtain ⟨r, l, rfl⟩ := tileIdx y
    have key := gradOf_at m c t r l ⟨t.val * 256 + r.val, by omega⟩ rfl
    rw [place t r l ⟨t.val * 256 + r.val, by omega⟩ rfl, after0_5, outs_5]
    exact key
  · obtain ⟨R, l, rfl⟩ := arrIdx i
    have hR := R.isLt
    refine ⟨(⟨R.val / 256, by omega⟩ : Fin 2), flush0_5 _ _, ?_⟩
    have e := place (⟨R.val / 256, by omega⟩ : Fin 2) ⟨R.val % 256, by omega⟩ l R (by simp only; omega)
    rw [← e]
    exact View.emb_mem_set _ _

/-- The weight's change at the end is the reference's. -/
theorem final_delta (c : Dev nD) : (dats m (admissible m) 0 c).arrAt 6 (cfgM m (admissible m)).N
    = Cert.RefAdamUkvIdeal.Value.delta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have place : ∀ (t : Fin (cfgM m (admissible m)).N) (r : Fin 256) (l : Fin 256) (R : Fin 512), R.val = t.val * 256 + r.val →
      (((cfgM m (admissible m)).win 6).blk t).view.emb (ix2 r l) = (ix2 R l : S512x256.Idx) := by
    intro t r l R hR
    have e : (pcfg0.win (adm m (admissible m)) 6).index t = ![t.val, 0] := (idx m t).2.2.2.2.2.2.1
    blk_ext []
    · exact (congrArg (fun x : ℕ => x * 256 + r.val) (congrFun e 0)).trans hR.symm
    · exact (congrArg (fun x : ℕ => x * 256 + l.val) (congrFun e 1)).trans (by simp)
  refine (dats m (admissible m) 0 c).arrAt_eq_of_emb 6 _ (fun t hf y => ?_) fun i => ?_
  · have ht : t.val < 2 := t.isLt
    obtain ⟨r, l, rfl⟩ := tileIdx y
    have key := changeOf_at m c t r l ⟨t.val * 256 + r.val, by omega⟩ rfl
    rw [place t r l ⟨t.val * 256 + r.val, by omega⟩ rfl, after0_6, outs_6]
    exact key
  · obtain ⟨R, l, rfl⟩ := arrIdx i
    have hR := R.isLt
    refine ⟨(⟨R.val / 256, by omega⟩ : Fin 2), flush0_6 _ _, ?_⟩
    have e := place (⟨R.val / 256, by omega⟩ : Fin 2) ⟨R.val % 256, by omega⟩ l R (by simp only; omega)
    rw [← e]
    exact View.emb_mem_set _ _

/-- The first moment at the end is the reference's. -/
theorem final_mom (c : Dev nD) : (dats m (admissible m) 0 c).arrAt 7 (cfgM m (admissible m)).N
    = Cert.RefAdamUkvIdeal.Value.mom (m ((c : Thread nD τ).loc main_arg0)) (m ((c : Thread nD τ).loc main_arg2)) (m ((c : Thread nD τ).loc main_arg3)) (m ((c : Thread nD τ).loc main_arg4)) := by
  have place : ∀ (t : Fin (cfgM m (admissible m)).N) (r : Fin 256) (l : Fin 256) (R : Fin 512), R.val = t.val * 256 + r.val →
      (((cfgM m (admissible m)).win 7).blk t).view.emb (ix2 r l) = (ix2 R l : S512x256.Idx) := by
    intro t r l R hR
    have e : (pcfg0.win (adm m (admissible m)) 7).index t = ![t.val, 0] := (idx m t).2.2.2.2.2.2.2.1
    blk_ext []
    · exact (congrArg (fun x : ℕ => x * 256 + r.val) (congrFun e 0)).trans hR.symm
    · exact (congrArg (fun x : ℕ => x * 256 + l.val) (congrFun e 1)).trans (by simp)
  refine (dats m (admissible m) 0 c).arrAt_eq_of_emb 7 _ (fun t hf y => ?_) fun i => ?_
  · have ht : t.val < 2 := t.isLt
    obtain ⟨r, l, rfl⟩ := tileIdx y
    have key := momOf_at m c t r l ⟨t.val * 256 + r.val, by omega⟩ rfl
    rw [place t r l ⟨t.val * 256 + r.val, by omega⟩ rfl, after0_7, outs_7]
    exact key
  · obtain ⟨R, l, rfl⟩ := arrIdx i
    have hR := R.isLt
    refine ⟨(⟨R.val / 256, by omega⟩ : Fin 2), flush0_7 _ _, ?_⟩
    have e := place (⟨R.val / 256, by omega⟩ : Fin 2) ⟨R.val % 256, by omega⟩ l R (by simp only; omega)
    rw [← e]
    exact View.emb_mem_set _ _

/-- The second moment at the end is the reference's. -/
theorem final_sec (c : Dev nD) : (dats m (admissible m) 0 c).arrAt 8 (cfgM m (admissible m)).N
    = Cert.RefAdamUkvIdeal.Value.sec (m ((c : Thread nD τ).loc main_arg0)) (m ((c : Thread nD τ).loc main_arg2)) (m ((c : Thread nD τ).loc main_arg3)) (m ((c : Thread nD τ).loc main_arg5)) := by
  have place : ∀ (t : Fin (cfgM m (admissible m)).N) (r : Fin 256) (l : Fin 256) (R : Fin 512), R.val = t.val * 256 + r.val →
      (((cfgM m (admissible m)).win 8).blk t).view.emb (ix2 r l) = (ix2 R l : S512x256.Idx) := by
    intro t r l R hR
    have e : (pcfg0.win (adm m (admissible m)) 8).index t = ![t.val, 0] := (idx m t).2.2.2.2.2.2.2.2
    blk_ext []
    · exact (congrArg (fun x : ℕ => x * 256 + r.val) (congrFun e 0)).trans hR.symm
    · exact (congrArg (fun x : ℕ => x * 256 + l.val) (congrFun e 1)).trans (by simp)
  refine (dats m (admissible m) 0 c).arrAt_eq_of_emb 8 _ (fun t hf y => ?_) fun i => ?_
  · have ht : t.val < 2 := t.isLt
    obtain ⟨r, l, rfl⟩ := tileIdx y
    have key := secOf_at m c t r l ⟨t.val * 256 + r.val, by omega⟩ rfl
    rw [place t r l ⟨t.val * 256 + r.val, by omega⟩ rfl, after0_8, outs_8]
    exact key
  · obtain ⟨R, l, rfl⟩ := arrIdx i
    have hR := R.isLt
    refine ⟨(⟨R.val / 256, by omega⟩ : Fin 2), flush0_8 _ _, ?_⟩
    have e := place (⟨R.val / 256, by omega⟩ : Fin 2) ⟨R.val % 256, by omega⟩ l R (by simp only; omega)
    rw [← e]
    exact View.emb_mem_set _ _

end Cert.AdamUkvIdeal.Value

end
-- ==== Proof.AdamMemKv.lean ====
module

public import proofs.«01_k».proof.Proof.Gen.RefAdamMemKvIdeal.Run
public import proofs.«01_k».proof.Proof.Gen.AdamMemKv.Frame
public import proofs.«01_k».proof.Proof.Gen.AdamMemKvIdeal.Frame
public import proofs.«01_k».proof.Proof.Adam
public import Idealize.ShloMosaic.Lib.Pointwise
public import Idealize.ShloMosaic.Lib.Pipeline.ValueKit
public import Idealize.ShloMosaic.Lib.Pipeline.Value

@[expose] public section

set_option maxRecDepth 16384

noncomputable section

/-! The optimiser's step. -/

namespace Cert.RefAdamMemKvIdeal.Value

open Cert.RefAdamMemKvIdeal Cert.RefAdamMemKvIdeal.Gen Idealize.ShloMosaic Idealize.SL.Sem

/-- The word that says which half is this device's. -/
def word (t : IVec S2 32) : IVec S_ 32 := shapeCast _ (extractStridedSlice S1 ![1] t slices_S2_S1_1) shapeCasts_S1_S_

/-- Half `b` of the gradient. -/
def half (b : BitVec 32) (t : IVec S2 32) (mine theirs : FVec Ideal S256x1024 .f32) : FVec Ideal S256x1024 .f32 :=
  select (broadcastInDim S256x1024 ![] bcast_S_S256x1024 (cmpi .eq (word t) (constantI S_ 32 b))) mine theirs

/-- The gradient. -/
def grad (t : IVec S2 32) (mine theirs : FVec Ideal S256x1024 .f32) : FVec Ideal S512x1024 .f32 :=
  concatenate S512x1024 0 [⟨S256x1024, half 0#32 t mine theirs⟩, ⟨S256x1024, half 1#32 t mine theirs⟩] concatenates_S256x1024_S256x1024_S512x1024_d0

/-- The first moment. -/
def mom (t : IVec S2 32) (mine theirs : FVec Ideal S256x1024 .f32) (m : FVec Ideal S512x1024 .f32) : FVec Ideal S512x1024 .f32 :=
  addf (mulf (broadcastInDim S512x1024 ![] bcast_S_S512x1024 (constant S_ .f32 0x3F666666#32)) m) (mulf (broadcastInDim S512x1024 ![] bcast_S_S512x1024 (constant S_ .f32 0x3DCCCCCD#32)) (grad t mine theirs))

/-- The second moment. -/
def sec (t : IVec S2 32) (mine theirs : FVec Ideal S256x1024 .f32) (v : FVec Ideal S512x1024 .f32) : FVec Ideal S512x1024 .f32 :=
  addf (mulf (broadcastInDim S512x1024 ![] bcast_S_S512x1024 (constant S_ .f32 0x3F7FBE77#32)) v) (mulf (broadcastInDim S512x1024 ![] bcast_S_S512x1024 (constant S_ .f32 0x3A83126F#32)) (mulf (grad t mine theirs) (grad t mine theirs)))

/-- The change of the weight. -/
def delta (t : IVec S2 32) (w : FVec Ideal S512x1024 .f32) (mine theirs : FVec Ideal S256x1024 .f32) (m v : FVec Ideal S512x1024 .f32) : FVec Ideal S512x1024 .f32 :=
  mulf (broadcastInDim S512x1024 ![] bcast_S_S512x1024 (constant S_ .f32 0xBA83126F#32)) (addf (Host.divf (Host.divf (mom t mine theirs m) (broadcastInDim S512x1024 ![] bcast_S_S512x1024 (constant S_ .f32 0x3F26BD02#32)))
    (addf (Host.sqrt (Host.divf (sec t mine theirs v) (broadcastInDim S512x1024 ![] bcast_S_S512x1024 (constant S_ .f32 0x3C231ACC#32)))) (broadcastInDim S512x1024 ![] bcast_S_S512x1024 (constant S_ .f32 0x322BCC77#32))))
    (mulf (broadcastInDim S512x1024 ![] bcast_S_S512x1024 (constant S_ .f32 0x3C23D70A#32)) w))

theorem mom_at (t : IVec S2 32) (mine theirs : FVec Ideal S256x1024 .f32) (m : FVec Ideal S512x1024 .f32) (r : Fin 512) (l : Fin 1024) :
    mom t mine theirs m (ix2 r l) = Cert.AdamTerms.first (grad t mine theirs (ix2 r l)) (m (ix2 r l)) := by
  unfold mom Cert.AdamTerms.first
  generalize grad t mine theirs = g
  pointwise []

theorem sec_at (t : IVec S2 32) (mine theirs : FVec Ideal S256x1024 .f32) (v : FVec Ideal S512x1024 .f32) (r : Fin 512) (l : Fin 1024) :
    sec t mine theirs v (ix2 r l) = Cert.AdamTerms.second (grad t mine theirs (ix2 r l)) (v (ix2 r l)) := by
  unfold sec Cert.AdamTerms.second
  generalize grad t mine theirs = g
  pointwise []

theorem delta_at (t : IVec S2 32) (w : FVec Ideal S512x1024 .f32) (mine theirs : FVec Ideal S256x1024 .f32) (m v : FVec Ideal S512x1024 .f32) (r : Fin 512) (l : Fin 1024) :
    delta t w mine theirs m v (ix2 r l) = Cert.AdamTerms.change (w (ix2 r l)) (mom t mine theirs m (ix2 r l)) (sec t mine theirs v (ix2 r l)) := by
  unfold delta Cert.AdamTerms.change
  generalize mom t mine theirs m = a
  generalize sec t mine theirs v = b
  pointwise []

theorem half_at (b : ℕ) (t : IVec S2 32) (mine theirs : FVec Ideal S256x1024 .f32) (r : Fin 256) (l : Fin 1024) :
    half (BitVec.ofNat 32 b) t mine theirs (ix2 r l) = Cert.AdamTerms.pick (t (ix1 1)) b (mine (ix2 r l)) (theirs (ix2 r l)) := by
  unfold Cert.AdamTerms.pick
  generalize BitVec.ofNat 32 b = k
  pointwise [half, word]
  exact Cert.AdamTerms.sel_eq _ _ _ _

theorem grad_at (t : IVec S2 32) (mine theirs : FVec Ideal S256x1024 .f32) (b : ℕ) (hb : b < 2) (r : Fin 256) (l : Fin 1024) (R : Fin 512) (hR : R.val = b * 256 + r.val) :
    grad t mine theirs (ix2 R l) = Cert.AdamTerms.pick (t (ix1 1)) b (mine (ix2 r l)) (theirs (ix2 r l)) := by
  have e0 := half_at 0 t mine theirs
  have e1 := half_at 1 t mine theirs
  unfold grad
  generalize half 0#32 t mine theirs = x at e0
  generalize half 1#32 t mine theirs = y at e1
  pointwise []
  have hr := r.isLt
  by_cases h : R.val < 256
  · have hb0 : b = 0 := by omega
    subst hb0
    rw [dif_pos h, e0]
    have e : (⟨R.val, h⟩ : Fin 256) = r := Fin.ext (by simp only; omega)
    rw [e]
  · have hb1 : b = 1 := by omega
    subst hb1
    rw [dif_neg h, e1]
    have e : (⟨R.val - 256, by omega⟩ : Fin 256) = r := Fin.ext (by simp only; omega)
    rw [e]

end Cert.RefAdamMemKvIdeal.Value

namespace Cert.AdamMemKv.Value

open Cert.AdamMemKv Cert.AdamMemKv.Gen Idealize.ShloMosaic Idealize.ShloMosaic.TcCoe Idealize.SL.Sem

variable {F : FTy → Type} [FloatOps F]
variable (m : (ℓ : Loc nD τ sig) → Buf (Elt F) ℓ)

/-- No index map reads the table. -/
theorem admissible : Ok m := trivial

end Cert.AdamMemKv.Value

namespace Cert.AdamMemKvIdeal.Value

open Cert.AdamMemKvIdeal Cert.AdamMemKvIdeal.Gen Idealize.ShloMosaic Idealize.ShloMosaic.TcCoe Idealize.SL.Sem
open Idealize.ShloMosaic.Pipeline (Dat)

section any

variable {F : FTy → Type} [FloatOps F]
variable (m : (ℓ : Loc nD τ sig) → Buf (Elt F) ℓ)

/-- The table's word. -/
def tword (pf : pre0.Contents (Elt F)) : BitVec 32 := pf.at 0 (Rect.unit (s := S2) ![1] S1.size inb_S2_S1_1) numel1_S1

/-- No index map reads the table. -/
theorem admissible : Ok m := trivial

end any

variable (m : (ℓ : Loc nD τ sig) → Buf (Elt Ideal) ℓ) (ρ : Dev nD → PrngReg)

/-- The program's run: the four results, and the arguments unchanged. -/
theorem run_blocks : θ_run defs (onTc (τ := τ) (main (F := Ideal))) ⟨m, fun _ => 0, ρ⟩ fun r => ∀ c : Dev nD,
      r.2.mem ((c : Thread nD τ).loc main_v0_0) = (dats m (admissible m) 0 c).arrAt 5 (cfgM m (admissible m)).N
      ∧ r.2.mem ((c : Thread nD τ).loc main_v0_1) = (dats m (admissible m) 0 c).arrAt 6 (cfgM m (admissible m)).N
      ∧ r.2.mem ((c : Thread nD τ).loc main_v0_2) = (dats m (admissible m) 0 c).arrAt 7 (cfgM m (admissible m)).N
      ∧ r.2.mem ((c : Thread nD τ).loc main_v0_3) = (dats m (admissible m) 0 c).arrAt 8 (cfgM m (admissible m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 5, (h c).1 6, (h c).1 7, (h c).1 8,
      ((h c).2 main_arg0 (by decide : main_arg0 ∈ Pipeline.restRefs sig spec0)).trans (V_main_arg0 m c),
      ((h c).1 0).trans (((dats m (admissible m) 0 c).arrAt_in 0 rfl _).trans ((A_eq m (admissible m) c 0).trans (V_main_arg1 m c))),
      ((h c).1 1).trans (((dats m (admissible m) 0 c).arrAt_in 1 rfl _).trans ((A_eq m (admissible m) c 1).trans (V_main_arg2 m c))),
      ((h c).1 2).trans (((dats m (admissible m) 0 c).arrAt_in 2 rfl _).trans ((A_eq m (admissible m) c 2).trans (V_main_arg3 m c))),
      ((h c).1 3).trans (((dats m (admissible m) 0 c).arrAt_in 3 rfl _).trans ((A_eq m (admissible m) c 3).trans (V_main_arg4 m c))),
      ((h c).1 4).trans (((dats m (admissible m) 0 c).arrAt_in 4 rfl _).trans ((A_eq m (admissible m) c 4).trans (V_main_arg5 m c)))⟩)
    (run_main m ρ (admissible m))

theorem pay3_at (i : grid0.Coords) (w : BitVec 32) (x y : FVec Ideal S256x1024 .f32) (r : Fin 256) (l : Fin 1024) :
    k0_pay3 (F := Ideal) i w x y (ix2 r l) = Cert.AdamTerms.pick w ((i 0).val / 1) (x (ix2 r l)) (y (ix2 r l)) := by
  have e : k0_pay3 (F := Ideal) i w x y = Scalar.select (IntOp.cmpi .eq (Cert.AdamTerms.quo (BitVec.ofNat 32 (i 0).val) 1#32) w) x y := rfl
  rw [e, Cert.AdamTerms.sel_eq, Cert.AdamTerms.quo1 (i 0)]
  unfold Cert.AdamTerms.pick
  by_cases h : w = BitVec.ofNat 32 ((i 0).val / 1)
  · rw [if_pos h.symm, if_pos h]
  · rw [if_neg (fun e => h e.symm), if_neg h]

theorem pay4_at (i : grid0.Coords) (w : BitVec 32) (x y z : FVec Ideal S256x1024 .f32) (r : Fin 256) (l : Fin 1024) :
    k0_pay4 (F := Ideal) i w x y z (ix2 r l) = Cert.AdamTerms.first (k0_pay3 (F := Ideal) i w x y (ix2 r l)) (z (ix2 r l)) := by
  unfold k0_pay4 Cert.AdamTerms.first
  generalize k0_pay3 (F := Ideal) i w x y = g
  pointwise []

theorem sec_at (i : grid0.Coords) (w : BitVec 32) (x y z : FVec Ideal S256x1024 .f32) (r : Fin 256) (l : Fin 1024) :
    k0_pay1 (F := Ideal) (k0_pay5 (F := Ideal) z) (k0_pay6 (F := Ideal) i w x y) (Scalar.ofBits .f32 0x3A83126F#32) (ix2 r l)
      = Cert.AdamTerms.second (k0_pay3 (F := Ideal) i w x y (ix2 r l)) (z (ix2 r l)) := by
  unfold k0_pay1 k0_pay5 k0_pay6 Cert.AdamTerms.second
  generalize k0_pay3 (F := Ideal) i w x y = g
  pointwise []

theorem pay2_at (w a b c : FVec Ideal S256x1024 .f32) (s : EReal) (r : Fin 256) (l : Fin 1024) :
    k0_pay2 (F := Ideal) w a b c s (ix2 r l) = Cert.AdamTerms.change (w (ix2 r l)) (a (ix2 r l)) (k0_pay1 (F := Ideal) b c s (ix2 r l)) := by
  unfold k0_pay2 Cert.AdamTerms.change
  generalize k0_pay1 (F := Ideal) b c s = v
  pointwise []

/-- The table's word is the second of the first argument. -/
theorem tword_eq (c : Dev nD) : tword (tbl m) = (m ((c : Thread nD τ).loc main_arg0) : IVec S2 32) (ix1 1) := by
  obtain rfl : c = (0 : Fin 1) := Fin.eq_zero _
  show m _ _ = m _ _
  refine congrArg (m _) ?_
  funext a
  fin_cases a
  rfl

/-- The windows' places. -/
theorem idx (t : Fin (cfgM m (admissible m)).N) : (pcfg0.win (adm m (admissible m)) 0).index t = ![t.val, 0]
    ∧ (pcfg0.win (adm m (admissible m)) 1).index t = ![0, 0]
    ∧ (pcfg0.win (adm m (admissible m)) 2).index t = ![0, 0]
    ∧ (pcfg0.win (adm m (admissible m)) 3).index t = ![t.val, 0]
    ∧ (pcfg0.win (adm m (admissible m)) 4).index t = ![t.val, 0]
    ∧ (pcfg0.win (adm m (admissible m)) 5).index t = ![t.val, 0]
    ∧ (pcfg0.win (adm m (admissible m)) 6).index t = ![t.val, 0]
    ∧ (pcfg0.win (adm m (admissible m)) 7).index t = ![t.val, 0]
    ∧ (pcfg0.win (adm m (admissible m)) 8).index t = ![t.val, 0] :=
  (by decide +kernel : ∀ t : Fin grid0.N, cc0_transform_0 (grid0.coords t) = ![t.val, 0]
    ∧ cc0_transform_1 (grid0.coords t) = ![0, 0]
    ∧ cc0_transform_2 (grid0.coords t) = ![0, 0]
    ∧ cc0_transform_3 (grid0.coords t) = ![t.val, 0]
    ∧ cc0_transform_4 (grid0.coords t) = ![t.val, 0]
    ∧ cc0_transform_5 (grid0.coords t) = ![t.val, 0]
    ∧ cc0_transform_6 (grid0.coords t) = ![t.val, 0]
    ∧ cc0_transform_7 (grid0.coords t) = ![t.val, 0]
    ∧ cc0_transform_8 (grid0.coords t) = ![t.val, 0]) t

theorem coord (t : Fin (cfgM m (admissible m)).N) : (grid0.coords t 0).val = t.val :=
  (by decide +kernel : ∀ t : Fin grid0.N, (grid0.coords t 0).val = t.val) t

/-- The blocks a point reads. -/
def block0 (c : Dev nD) (t : Fin (cfgM m (admissible m)).N) : FVec Ideal S256x1024 .f32 := iblk m (admissible m) c 0 t
def block1 (c : Dev nD) (t : Fin (cfgM m (admissible m)).N) : FVec Ideal S256x1024 .f32 := iblk m (admissible m) c 1 t
def block2 (c : Dev nD) (t : Fin (cfgM m (admissible m)).N) : FVec Ideal S256x1024 .f32 := iblk m (admissible m) c 2 t
def block3 (c : Dev nD) (t : Fin (cfgM m (admissible m)).N) : FVec Ideal S256x1024 .f32 := iblk m (admissible m) c 3 t
def block4 (c : Dev nD) (t : Fin (cfgM m (admissible m)).N) : FVec Ideal S256x1024 .f32 := iblk m (admissible m) c 4 t

theorem blk0 (c : Dev nD) (t : Fin (cfgM m (admissible m)).N) (r : Fin 256) (l : Fin 1024) (R : Fin 512) (hR : R.val = t.val * 256 + r.val) :
    block0 m c t (ix2 r l) = (m ((c : Thread nD τ).loc main_arg1) : FVec Ideal S512x1024 .f32) (ix2 R l) := by
  have e : (pcfg0.win (adm m (admissible m)) 0).index t = ![t.val, 0] := (idx m t).1
  unfold block0
  blk_point [iblk, V]
  · exact (congrArg (fun x : ℕ => x * 256 + r.val) (congrFun e 0)).trans hR.symm
  · exact (congrArg (fun x : ℕ => x * 1024 + l.val) (congrFun e 1)).trans (by simp)

theorem blk3 (c : Dev nD) (t : Fin (cfgM m (admissible m)).N) (r : Fin 256) (l : Fin 1024) (R : Fin 512) (hR : R.val = t.val * 256 + r.val) :
    block3 m c t (ix2 r l) = (m ((c : Thread nD τ).loc main_arg4) : FVec Ideal S512x1024 .f32) (ix2 R l) := by
  have e : (pcfg0.win (adm m (admissible m)) 3).index t = ![t.val, 0] := (idx m t).2.2.2.1
  unfold block3
  blk_point [iblk, V]
  · exact (congrArg (fun x : ℕ => x * 256 + r.val) (congrFun e 0)).trans hR.symm
  · exact (congrArg (fun x : ℕ => x * 1024 + l.val) (congrFun e 1)).trans (by simp)

theorem blk4 (c : Dev nD) (t : Fin (cfgM m (admissible m)).N) (r : Fin 256) (l : Fin 1024) (R : Fin 512) (hR : R.val = t.val * 256 + r.val) :
    block4 m c t (ix2 r l) = (m ((c : Thread nD τ).loc main_arg5) : FVec Ideal S512x1024 .f32) (ix2 R l) := by
  have e : (pcfg0.win (adm m (admissible m)) 4).index t = ![t.val, 0] := (idx m t).2.2.2.2.1
  unfold block4
  blk_point [iblk, V]
  · exact (congrArg (fun x : ℕ => x * 256 + r.val) (congrFun e 0)).trans hR.symm
  · exact (congrArg (fun x : ℕ => x * 1024 + l.val) (congrFun e 1)).trans (by simp)

/-- This device's half is one tile. -/
theorem blk1 (c : Dev nD) (t : Fin (cfgM m (admissible m)).N) (r : Fin 256) (l : Fin 1024) (R : Fin 256) (hR : R.val = 0 * 256 + r.val) :
    block1 m c t (ix2 r l) = (m ((c : Thread nD τ).loc main_arg2) : FVec Ideal S256x1024 .f32) (ix2 R l) := by
  have e : (pcfg0.win (adm m (admissible m)) 1).index t = ![0, 0] := (idx m t).2.1
  unfold block1
  blk_point [iblk, V]
  · exact (congrArg (fun x : ℕ => x * 256 + r.val) (congrFun e 0)).trans hR.symm
  · exact (congrArg (fun x : ℕ => x * 1024 + l.val) (congrFun e 1)).trans (by simp)

/-- So is the partner's. -/
theorem blk2 (c : Dev nD) (t : Fin (cfgM m (admissible m)).N) (r : Fin 256) (l : Fin 1024) (R : Fin 256) (hR : R.val = 0 * 256 + r.val) :
    block2 m c t (ix2 r l) = (m ((c : Thread nD τ).loc main_arg3) : FVec Ideal S256x1024 .f32) (ix2 R l) := by
  have e : (pcfg0.win (adm m (admissible m)) 2).index t = ![0, 0] := (idx m t).2.2.1
  unfold block2
  blk_point [iblk, V]
  · exact (congrArg (fun x : ℕ => x * 256 + r.val) (congrFun e 0)).trans hR.symm
  · exact (congrArg (fun x : ℕ => x * 1024 + l.val) (congrFun e 1)).trans (by simp)

/-- The gradient's block at a point. -/
def gradOf (c : Dev nD) (t : Fin (cfgM m (admissible m)).N) : FVec Ideal S256x1024 .f32 :=
  k0_pay3 (F := Ideal) (grid0.coords t) (tword (tbl m)) (block1 m c t) (block2 m c t)

/-- The first moment's. -/
def momOf (c : Dev nD) (t : Fin (cfgM m (admissible m)).N) : FVec Ideal S256x1024 .f32 :=
  k0_pay4 (F := Ideal) (grid0.coords t) (tword (tbl m)) (block1 m c t) (block2 m c t) (block3 m c t)

/-- The second moment's. -/
def secOf (c : Dev nD) (t : Fin (cfgM m (admissible m)).N) : FVec Ideal S256x1024 .f32 :=
  k0_pay1 (F := Ideal) (k0_pay5 (F := Ideal) (block4 m c t)) (k0_pay6 (F := Ideal) (grid0.coords t) (tword (tbl m)) (block1 m c t) (block2 m c t))
    (Scalar.ofBits .f32 0x3A83126F#32)

/-- The change's. -/
def changeOf (c : Dev nD) (t : Fin (cfgM m (admissible m)).N) : FVec Ideal S256x1024 .f32 :=
  k0_pay2 (F := Ideal) (block0 m c t) (momOf m c t) (k0_pay5 (F := Ideal) (block4 m c t))
    (k0_pay6 (F := Ideal) (grid0.coords t) (tword (tbl m)) (block1 m c t) (block2 m c t)) (Scalar.ofBits .f32 0x3A83126F#32)

theorem gradOf_at (c : Dev nD) (t : Fin (cfgM m (admissible m)).N) (r : Fin 256) (l : Fin 1024) (R : Fin 512) (hR : R.val = t.val * 256 + r.val) :
    gradOf m c t (ix2 r l)
      = Cert.RefAdamMemKvIdeal.Value.grad (m ((c : Thread nD τ).loc main_arg0)) (m ((c : Thread nD τ).loc main_arg2)) (m ((c : Thread nD τ).loc main_arg3)) (ix2 R l) := by
  have ht : t.val < 2 := t.isLt
  have hr := r.isLt
  unfold gradOf
  rw [pay3_at, coord m t, Cert.RefAdamMemKvIdeal.Value.grad_at _ _ _ (t.val / 1) (by omega) ⟨0 * 256 + r.val, by omega⟩ l R (by simp only; omega),
    ← tword_eq m c]
  unfold Cert.AdamTerms.pick
  by_cases h : tword (tbl m) = BitVec.ofNat 32 (t.val / 1)
  · rw [if_pos h, if_pos h]
    exact blk1 m c t r l _ rfl
  · rw [if_neg h, if_neg h]
    exact blk2 m c t r l _ rfl

theorem momOf_at (c : Dev nD) (t : Fin (cfgM m (admissible m)).N) (r : Fin 256) (l : Fin 1024) (R : Fin 512) (hR : R.val = t.val * 256 + r.val) :
    momOf m c t (ix2 r l) = Cert.RefAdamMemKvIdeal.Value.mom (m ((c : Thread nD τ).loc main_arg0)) (m ((c : Thread nD τ).loc main_arg2)) (m ((c : Thread nD τ).loc main_arg3)) (m ((c : Thread nD τ).loc main_arg4)) (ix2 R l) := by
  rw [Cert.RefAdamMemKvIdeal.Value.mom_at, ← gradOf_at m c t r l R hR]
  unfold momOf
  rw [pay4_at, blk3 m c t r l R hR]
  rfl

theorem secOf_at (c : Dev nD) (t : Fin (cfgM m (admissible m)).N) (r : Fin 256) (l : Fin 1024) (R : Fin 512) (hR : R.val = t.val * 256 + r.val) :
    secOf m c t (ix2 r l) = Cert.RefAdamMemKvIdeal.Value.sec (m ((c : Thread nD τ).loc main_arg0)) (m ((c : Thread nD τ).loc main_arg2)) (m ((c : Thread nD τ).loc main_arg3)) (m ((c : Thread nD τ).loc main_arg5)) (ix2 R l) := by
  rw [Cert.RefAdamMemKvIdeal.Value.sec_at, ← gradOf_at m c t r l R hR]
  unfold secOf
  rw [sec_at, blk4 m c t r l R hR]
  rfl

theorem changeOf_at (c : Dev nD) (t : Fin (cfgM m (admissible m)).N) (r : Fin 256) (l : Fin 1024) (R : Fin 512) (hR : R.val = t.val * 256 + r.val) :
    changeOf m c t (ix2 r l) = Cert.RefAdamMemKvIdeal.Value.delta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R l) := by
  rw [Cert.RefAdamMemKvIdeal.Value.delta_at, ← momOf_at m c t r l R hR, ← secOf_at m c t r l R hR, ← blk0 m c t r l R hR]
  unfold changeOf
  rw [pay2_at]
  rfl

theorem outs_5 (c : Dev nD) (t : Fin (cfgM m (admissible m)).N) : (outsAt0 m (admissible m) c t).1 = gradOf m c t := by
  unfold outsAt0
  frame_out
  exact Cert.AdamTerms.congr5 (fun _ x y _ _ => k0_pay3 (F := Ideal) (grid0.coords t) (tword (tbl m)) x y) (rfl : block0 m c t = _)
    ((hs0_1 m (admissible m) t).read_unread _) ((hs0_2 m (admissible m) t).read_unread _) (rfl : block0 m c t = _) (rfl : block0 m c t = _)

theorem outs_6 (c : Dev nD) (t : Fin (cfgM m (admissible m)).N) : (outsAt0 m (admissible m) c t).2.1 = changeOf m c t := by
  unfold outsAt0
  frame_out
  exact Cert.AdamTerms.congr5 (fun w x y a b => k0_pay2 (F := Ideal) w (k0_pay4 (F := Ideal) (grid0.coords t) (tword (tbl m)) x y a) (k0_pay5 (F := Ideal) b)
    (k0_pay6 (F := Ideal) (grid0.coords t) (tword (tbl m)) x y) (Scalar.ofBits .f32 0x3A83126F#32)) ((hs0_0 m (admissible m) t).read_unread _)
    ((hs0_1 m (admissible m) t).read_unread _) ((hs0_2 m (admissible m) t).read_unread _) ((hs0_3 m (admissible m) t).read_unread _) ((hs0_4 m (admissible m) t).read_unread _)

theorem outs_7 (c : Dev nD) (t : Fin (cfgM m (admissible m)).N) : (outsAt0 m (admissible m) c t).2.2.1 = momOf m c t := by
  unfold outsAt0
  frame_out
  exact Cert.AdamTerms.congr5 (fun _ x y a _ => k0_pay4 (F := Ideal) (grid0.coords t) (tword (tbl m)) x y a) (rfl : block0 m c t = _)
    ((hs0_1 m (admissible m) t).read_unread _) ((hs0_2 m (admissible m) t).read_unread _) ((hs0_3 m (admissible m) t).read_unread _) (rfl : block0 m c t = _)

theorem outs_8 (c : Dev nD) (t : Fin (cfgM m (admissible m)).N) : (outsAt0 m (admissible m) c t).2.2.2 = secOf m c t := by
  unfold outsAt0
  frame_out
  exact Cert.AdamTerms.congr5 (fun _ x y _ b => k0_pay1 (F := Ideal) (k0_pay5 (F := Ideal) b)
    (k0_pay6 (F := Ideal) (grid0.coords t) (tword (tbl m)) x y) (Scalar.ofBits .f32 0x3A83126F#32)) (rfl : block0 m c t = _)
    ((hs0_1 m (admissible m) t).read_unread _) ((hs0_2 m (admissible m) t).read_unread _) (rfl : block0 m c t = _) ((hs0_4 m (admissible m) t).read_unread _)

theorem tileIdx (y : S256x1024.Idx) : ∃ (r : Fin 256) (l : Fin 1024), y = ix2 r l := ⟨y 0, y 1, (ix2_eta y).symm⟩

theorem arrIdx (y : S512x1024.Idx) : ∃ (r : Fin 512) (l : Fin 1024), y = ix2 r l := ⟨y 0, y 1, (ix2_eta y).symm⟩

/-- The gradient at the end is the reference's. -/
theorem final_grad (c : Dev nD) : (dats m (admissible m) 0 c).arrAt 5 (cfgM m (admissible m)).N
    = Cert.RefAdamMemKvIdeal.Value.grad (m ((c : Thread nD τ).loc main_arg0)) (m ((c : Thread nD τ).loc main_arg2)) (m ((c : Thread nD τ).loc main_arg3)) := by
  have place : ∀ (t : Fin (cfgM m (admissible m)).N) (r : Fin 256) (l : Fin 1024) (R : Fin 512), R.val = t.val * 256 + r.val →
      (((cfgM m (admissible m)).win 5).blk t).view.emb (ix2 r l) = (ix2 R l : S512x1024.Idx) := by
    intro t r l R hR
    have e : (pcfg0.win (adm m (admissible m)) 5).index t = ![t.val, 0] := (idx m t).2.2.2.2.2.1
    blk_ext []
    · exact (congrArg (fun x : ℕ => x * 256 + r.val) (congrFun e 0)).trans hR.symm
    · exact (congrArg (fun x : ℕ => x * 1024 + l.val) (congrFun e 1)).trans (by simp)
  refine (dats m (admissible m) 0 c).arrAt_eq_of_emb 5 _ (fun t hf y => ?_) fun i => ?_
  · have ht : t.val < 2 := t.isLt
    obtain ⟨r, l, rfl⟩ := tileIdx y
    have key := gradOf_at m c t r l ⟨t.val * 256 + r.val, by omega⟩ rfl
    rw [place t r l ⟨t.val * 256 + r.val, by omega⟩ rfl, after0_5, outs_5]
    exact key
  · obtain ⟨R, l, rfl⟩ := arrIdx i
    have hR := R.isLt
    refine ⟨(⟨R.val / 256, by omega⟩ : Fin 2), flush0_5 _ _, ?_⟩
    have e := place (⟨R.val / 256, by omega⟩ : Fin 2) ⟨R.val % 256, by omega⟩ l R (by simp only; omega)
    rw [← e]
    exact View.emb_mem_set _ _

/-- The weight's change at the end is the reference's. -/
theorem final_delta (c : Dev nD) : (dats m (admissible m) 0 c).arrAt 6 (cfgM m (admissible m)).N
    = Cert.RefAdamMemKvIdeal.Value.delta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have place : ∀ (t : Fin (cfgM m (admissible m)).N) (r : Fin 256) (l : Fin 1024) (R : Fin 512), R.val = t.val * 256 + r.val →
      (((cfgM m (admissible m)).win 6).blk t).view.emb (ix2 r l) = (ix2 R l : S512x1024.Idx) := by
    intro t r l R hR
    have e : (pcfg0.win (adm m (admissible m)) 6).index t = ![t.val, 0] := (idx m t).2.2.2.2.2.2.1
    blk_ext []
    · exact (congrArg (fun x : ℕ => x * 256 + r.val) (congrFun e 0)).trans hR.symm
    · exact (congrArg (fun x : ℕ => x * 1024 + l.val) (congrFun e 1)).trans (by simp)
  refine (dats m (admissible m) 0 c).arrAt_eq_of_emb 6 _ (fun t hf y => ?_) fun i => ?_
  · have ht : t.val < 2 := t.isLt
    obtain ⟨r, l, rfl⟩ := tileIdx y
    have key := changeOf_at m c t r l ⟨t.val * 256 + r.val, by omega⟩ rfl
    rw [place t r l ⟨t.val * 256 + r.val, by omega⟩ rfl, after0_6, outs_6]
    exact key
  · obtain ⟨R, l, rfl⟩ := arrIdx i
    have hR := R.isLt
    refine ⟨(⟨R.val / 256, by omega⟩ : Fin 2), flush0_6 _ _, ?_⟩
    have e := place (⟨R.val / 256, by omega⟩ : Fin 2) ⟨R.val % 256, by omega⟩ l R (by simp only; omega)
    rw [← e]
    exact View.emb_mem_set _ _

/-- The first moment at the end is the reference's. -/
theorem final_mom (c : Dev nD) : (dats m (admissible m) 0 c).arrAt 7 (cfgM m (admissible m)).N
    = Cert.RefAdamMemKvIdeal.Value.mom (m ((c : Thread nD τ).loc main_arg0)) (m ((c : Thread nD τ).loc main_arg2)) (m ((c : Thread nD τ).loc main_arg3)) (m ((c : Thread nD τ).loc main_arg4)) := by
  have place : ∀ (t : Fin (cfgM m (admissible m)).N) (r : Fin 256) (l : Fin 1024) (R : Fin 512), R.val = t.val * 256 + r.val →
      (((cfgM m (admissible m)).win 7).blk t).view.emb (ix2 r l) = (ix2 R l : S512x1024.Idx) := by
    intro t r l R hR
    have e : (pcfg0.win (adm m (admissible m)) 7).index t = ![t.val, 0] := (idx m t).2.2.2.2.2.2.2.1
    blk_ext []
    · exact (congrArg (fun x : ℕ => x * 256 + r.val) (congrFun e 0)).trans hR.symm
    · exact (congrArg (fun x : ℕ => x * 1024 + l.val) (congrFun e 1)).trans (by simp)
  refine (dats m (admissible m) 0 c).arrAt_eq_of_emb 7 _ (fun t hf y => ?_) fun i => ?_
  · have ht : t.val < 2 := t.isLt
    obtain ⟨r, l, rfl⟩ := tileIdx y
    have key := momOf_at m c t r l ⟨t.val * 256 + r.val, by omega⟩ rfl
    rw [place t r l ⟨t.val * 256 + r.val, by omega⟩ rfl, after0_7, outs_7]
    exact key
  · obtain ⟨R, l, rfl⟩ := arrIdx i
    have hR := R.isLt
    refine ⟨(⟨R.val / 256, by omega⟩ : Fin 2), flush0_7 _ _, ?_⟩
    have e := place (⟨R.val / 256, by omega⟩ : Fin 2) ⟨R.val % 256, by omega⟩ l R (by simp only; omega)
    rw [← e]
    exact View.emb_mem_set _ _

/-- The second moment at the end is the reference's. -/
theorem final_sec (c : Dev nD) : (dats m (admissible m) 0 c).arrAt 8 (cfgM m (admissible m)).N
    = Cert.RefAdamMemKvIdeal.Value.sec (m ((c : Thread nD τ).loc main_arg0)) (m ((c : Thread nD τ).loc main_arg2)) (m ((c : Thread nD τ).loc main_arg3)) (m ((c : Thread nD τ).loc main_arg5)) := by
  have place : ∀ (t : Fin (cfgM m (admissible m)).N) (r : Fin 256) (l : Fin 1024) (R : Fin 512), R.val = t.val * 256 + r.val →
      (((cfgM m (admissible m)).win 8).blk t).view.emb (ix2 r l) = (ix2 R l : S512x1024.Idx) := by
    intro t r l R hR
    have e : (pcfg0.win (adm m (admissible m)) 8).index t = ![t.val, 0] := (idx m t).2.2.2.2.2.2.2.2
    blk_ext []
    · exact (congrArg (fun x : ℕ => x * 256 + r.val) (congrFun e 0)).trans hR.symm
    · exact (congrArg (fun x : ℕ => x * 1024 + l.val) (congrFun e 1)).trans (by simp)
  refine (dats m (admissible m) 0 c).arrAt_eq_of_emb 8 _ (fun t hf y => ?_) fun i => ?_
  · have ht : t.val < 2 := t.isLt
    obtain ⟨r, l, rfl⟩ := tileIdx y
    have key := secOf_at m c t r l ⟨t.val * 256 + r.val, by omega⟩ rfl
    rw [place t r l ⟨t.val * 256 + r.val, by omega⟩ rfl, after0_8, outs_8]
    exact key
  · obtain ⟨R, l, rfl⟩ := arrIdx i
    have hR := R.isLt
    refine ⟨(⟨R.val / 256, by omega⟩ : Fin 2), flush0_8 _ _, ?_⟩
    have e := place (⟨R.val / 256, by omega⟩ : Fin 2) ⟨R.val % 256, by omega⟩ l R (by simp only; omega)
    rw [← e]
    exact View.emb_mem_set _ _

end Cert.AdamMemKvIdeal.Value

end
-- ==== Proof.AdamOut.lean ====
module

public import proofs.«01_k».proof.Proof.Gen.RefAdamOutIdeal.Run
public import proofs.«01_k».proof.Proof.Gen.AdamOut.Frame
public import proofs.«01_k».proof.Proof.Gen.AdamOutIdeal.Frame
public import proofs.«01_k».proof.Proof.Adam
public import Idealize.ShloMosaic.Lib.Pointwise
public import Idealize.ShloMosaic.Lib.Pipeline.ValueKit
public import Idealize.ShloMosaic.Lib.Pipeline.Value

@[expose] public section

set_option maxRecDepth 16384

noncomputable section

/-! The optimiser's step. -/

namespace Cert.RefAdamOutIdeal.Value

open Cert.RefAdamOutIdeal Cert.RefAdamOutIdeal.Gen Idealize.ShloMosaic Idealize.SL.Sem

/-- The word that says which half is this device's. -/
def word (t : IVec S2 32) : IVec S_ 32 := shapeCast _ (extractStridedSlice S1 ![1] t slices_S2_S1_1) shapeCasts_S1_S_

/-- Half `b` of the gradient. -/
def half (b : BitVec 32) (t : IVec S2 32) (mine theirs : FVec Ideal S256x2048 .f32) : FVec Ideal S256x2048 .f32 :=
  select (broadcastInDim S256x2048 ![] bcast_S_S256x2048 (cmpi .eq (word t) (constantI S_ 32 b))) mine theirs

/-- The gradient. -/
def grad (t : IVec S2 32) (mine theirs : FVec Ideal S256x2048 .f32) : FVec Ideal S512x2048 .f32 :=
  concatenate S512x2048 0 [⟨S256x2048, half 0#32 t mine theirs⟩, ⟨S256x2048, half 1#32 t mine theirs⟩] concatenates_S256x2048_S256x2048_S512x2048_d0

/-- The first moment. -/
def mom (t : IVec S2 32) (mine theirs : FVec Ideal S256x2048 .f32) (m : FVec Ideal S512x2048 .f32) : FVec Ideal S512x2048 .f32 :=
  addf (mulf (broadcastInDim S512x2048 ![] bcast_S_S512x2048 (constant S_ .f32 0x3F666666#32)) m) (mulf (broadcastInDim S512x2048 ![] bcast_S_S512x2048 (constant S_ .f32 0x3DCCCCCD#32)) (grad t mine theirs))

/-- The second moment. -/
def sec (t : IVec S2 32) (mine theirs : FVec Ideal S256x2048 .f32) (v : FVec Ideal S512x2048 .f32) : FVec Ideal S512x2048 .f32 :=
  addf (mulf (broadcastInDim S512x2048 ![] bcast_S_S512x2048 (constant S_ .f32 0x3F7FBE77#32)) v) (mulf (broadcastInDim S512x2048 ![] bcast_S_S512x2048 (constant S_ .f32 0x3A83126F#32)) (mulf (grad t mine theirs) (grad t mine theirs)))

/-- The change of the weight. -/
def delta (t : IVec S2 32) (w : FVec Ideal S512x2048 .f32) (mine theirs : FVec Ideal S256x2048 .f32) (m v : FVec Ideal S512x2048 .f32) : FVec Ideal S512x2048 .f32 :=
  mulf (broadcastInDim S512x2048 ![] bcast_S_S512x2048 (constant S_ .f32 0xBA83126F#32)) (addf (Host.divf (Host.divf (mom t mine theirs m) (broadcastInDim S512x2048 ![] bcast_S_S512x2048 (constant S_ .f32 0x3F26BD02#32)))
    (addf (Host.sqrt (Host.divf (sec t mine theirs v) (broadcastInDim S512x2048 ![] bcast_S_S512x2048 (constant S_ .f32 0x3C231ACC#32)))) (broadcastInDim S512x2048 ![] bcast_S_S512x2048 (constant S_ .f32 0x322BCC77#32))))
    (mulf (broadcastInDim S512x2048 ![] bcast_S_S512x2048 (constant S_ .f32 0x3C23D70A#32)) w))

theorem mom_at (t : IVec S2 32) (mine theirs : FVec Ideal S256x2048 .f32) (m : FVec Ideal S512x2048 .f32) (r : Fin 512) (l : Fin 2048) :
    mom t mine theirs m (ix2 r l) = Cert.AdamTerms.first (grad t mine theirs (ix2 r l)) (m (ix2 r l)) := by
  unfold mom Cert.AdamTerms.first
  generalize grad t mine theirs = g
  pointwise []

theorem sec_at (t : IVec S2 32) (mine theirs : FVec Ideal S256x2048 .f32) (v : FVec Ideal S512x2048 .f32) (r : Fin 512) (l : Fin 2048) :
    sec t mine theirs v (ix2 r l) = Cert.AdamTerms.second (grad t mine theirs (ix2 r l)) (v (ix2 r l)) := by
  unfold sec Cert.AdamTerms.second
  generalize grad t mine theirs = g
  pointwise []

theorem delta_at (t : IVec S2 32) (w : FVec Ideal S512x2048 .f32) (mine theirs : FVec Ideal S256x2048 .f32) (m v : FVec Ideal S512x2048 .f32) (r : Fin 512) (l : Fin 2048) :
    delta t w mine theirs m v (ix2 r l) = Cert.AdamTerms.change (w (ix2 r l)) (mom t mine theirs m (ix2 r l)) (sec t mine theirs v (ix2 r l)) := by
  unfold delta Cert.AdamTerms.change
  generalize mom t mine theirs m = a
  generalize sec t mine theirs v = b
  pointwise []

theorem half_at (b : ℕ) (t : IVec S2 32) (mine theirs : FVec Ideal S256x2048 .f32) (r : Fin 256) (l : Fin 2048) :
    half (BitVec.ofNat 32 b) t mine theirs (ix2 r l) = Cert.AdamTerms.pick (t (ix1 1)) b (mine (ix2 r l)) (theirs (ix2 r l)) := by
  unfold Cert.AdamTerms.pick
  generalize BitVec.ofNat 32 b = k
  pointwise [half, word]
  exact Cert.AdamTerms.sel_eq _ _ _ _

theorem grad_at (t : IVec S2 32) (mine theirs : FVec Ideal S256x2048 .f32) (b : ℕ) (hb : b < 2) (r : Fin 256) (l : Fin 2048) (R : Fin 512) (hR : R.val = b * 256 + r.val) :
    grad t mine theirs (ix2 R l) = Cert.AdamTerms.pick (t (ix1 1)) b (mine (ix2 r l)) (theirs (ix2 r l)) := by
  have e0 := half_at 0 t mine theirs
  have e1 := half_at 1 t mine theirs
  unfold grad
  generalize half 0#32 t mine theirs = x at e0
  generalize half 1#32 t mine theirs = y at e1
  pointwise []
  have hr := r.isLt
  by_cases h : R.val < 256
  · have hb0 : b = 0 := by omega
    subst hb0
    rw [dif_pos h, e0]
    have e : (⟨R.val, h⟩ : Fin 256) = r := Fin.ext (by simp only; omega)
    rw [e]
  · have hb1 : b = 1 := by omega
    subst hb1
    rw [dif_neg h, e1]
    have e : (⟨R.val - 256, by omega⟩ : Fin 256) = r := Fin.ext (by simp only; omega)
    rw [e]

end Cert.RefAdamOutIdeal.Value

namespace Cert.AdamOut.Value

open Cert.AdamOut Cert.AdamOut.Gen Idealize.ShloMosaic Idealize.ShloMosaic.TcCoe Idealize.SL.Sem

variable {F : FTy → Type} [FloatOps F]
variable (m : (ℓ : Loc nD τ sig) → Buf (Elt F) ℓ)

/-- No index map reads the table. -/
theorem admissible : Ok m := trivial

end Cert.AdamOut.Value

namespace Cert.AdamOutIdeal.Value

open Cert.AdamOutIdeal Cert.AdamOutIdeal.Gen Idealize.ShloMosaic Idealize.ShloMosaic.TcCoe Idealize.SL.Sem
open Idealize.ShloMosaic.Pipeline (Dat)

section any

variable {F : FTy → Type} [FloatOps F]
variable (m : (ℓ : Loc nD τ sig) → Buf (Elt F) ℓ)

/-- The table's word. -/
def tword (pf : pre0.Contents (Elt F)) : BitVec 32 := pf.at 0 (Rect.unit (s := S2) ![1] S1.size inb_S2_S1_1) numel1_S1

/-- No index map reads the table. -/
theorem admissible : Ok m := trivial

end any

variable (m : (ℓ : Loc nD τ sig) → Buf (Elt Ideal) ℓ) (ρ : Dev nD → PrngReg)

/-- The program's run: the four results, and the arguments unchanged. -/
theorem run_blocks : θ_run defs (onTc (τ := τ) (main (F := Ideal))) ⟨m, fun _ => 0, ρ⟩ fun r => ∀ c : Dev nD,
      r.2.mem ((c : Thread nD τ).loc main_v0_0) = (dats m (admissible m) 0 c).arrAt 5 (cfgM m (admissible m)).N
      ∧ r.2.mem ((c : Thread nD τ).loc main_v0_1) = (dats m (admissible m) 0 c).arrAt 6 (cfgM m (admissible m)).N
      ∧ r.2.mem ((c : Thread nD τ).loc main_v0_2) = (dats m (admissible m) 0 c).arrAt 7 (cfgM m (admissible m)).N
      ∧ r.2.mem ((c : Thread nD τ).loc main_v0_3) = (dats m (admissible m) 0 c).arrAt 8 (cfgM m (admissible m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 5, (h c).1 6, (h c).1 7, (h c).1 8,
      ((h c).2 main_arg0 (by decide : main_arg0 ∈ Pipeline.restRefs sig spec0)).trans (V_main_arg0 m c),
      ((h c).1 0).trans (((dats m (admissible m) 0 c).arrAt_in 0 rfl _).trans ((A_eq m (admissible m) c 0).trans (V_main_arg1 m c))),
      ((h c).1 1).trans (((dats m (admissible m) 0 c).arrAt_in 1 rfl _).trans ((A_eq m (admissible m) c 1).trans (V_main_arg2 m c))),
      ((h c).1 2).trans (((dats m (admissible m) 0 c).arrAt_in 2 rfl _).trans ((A_eq m (admissible m) c 2).trans (V_main_arg3 m c))),
      ((h c).1 3).trans (((dats m (admissible m) 0 c).arrAt_in 3 rfl _).trans ((A_eq m (admissible m) c 3).trans (V_main_arg4 m c))),
      ((h c).1 4).trans (((dats m (admissible m) 0 c).arrAt_in 4 rfl _).trans ((A_eq m (admissible m) c 4).trans (V_main_arg5 m c)))⟩)
    (run_main m ρ (admissible m))

theorem pay3_at (i : grid0.Coords) (w : BitVec 32) (x y : FVec Ideal S256x2048 .f32) (r : Fin 256) (l : Fin 2048) :
    k0_pay3 (F := Ideal) i w x y (ix2 r l) = Cert.AdamTerms.pick w ((i 0).val / 1) (x (ix2 r l)) (y (ix2 r l)) := by
  have e : k0_pay3 (F := Ideal) i w x y = Scalar.select (IntOp.cmpi .eq (Cert.AdamTerms.quo (BitVec.ofNat 32 (i 0).val) 1#32) w) x y := rfl
  rw [e, Cert.AdamTerms.sel_eq, Cert.AdamTerms.quo1 (i 0)]
  unfold Cert.AdamTerms.pick
  by_cases h : w = BitVec.ofNat 32 ((i 0).val / 1)
  · rw [if_pos h.symm, if_pos h]
  · rw [if_neg (fun e => h e.symm), if_neg h]

theorem pay4_at (i : grid0.Coords) (w : BitVec 32) (x y z : FVec Ideal S256x2048 .f32) (r : Fin 256) (l : Fin 2048) :
    k0_pay4 (F := Ideal) i w x y z (ix2 r l) = Cert.AdamTerms.first (k0_pay3 (F := Ideal) i w x y (ix2 r l)) (z (ix2 r l)) := by
  unfold k0_pay4 Cert.AdamTerms.first
  generalize k0_pay3 (F := Ideal) i w x y = g
  pointwise []

theorem sec_at (i : grid0.Coords) (w : BitVec 32) (x y z : FVec Ideal S256x2048 .f32) (r : Fin 256) (l : Fin 2048) :
    k0_pay1 (F := Ideal) (k0_pay5 (F := Ideal) z) (k0_pay6 (F := Ideal) i w x y) (Scalar.ofBits .f32 0x3A83126F#32) (ix2 r l)
      = Cert.AdamTerms.second (k0_pay3 (F := Ideal) i w x y (ix2 r l)) (z (ix2 r l)) := by
  unfold k0_pay1 k0_pay5 k0_pay6 Cert.AdamTerms.second
  generalize k0_pay3 (F := Ideal) i w x y = g
  pointwise []

theorem pay2_at (w a b c : FVec Ideal S256x2048 .f32) (s : EReal) (r : Fin 256) (l : Fin 2048) :
    k0_pay2 (F := Ideal) w a b c s (ix2 r l) = Cert.AdamTerms.change (w (ix2 r l)) (a (ix2 r l)) (k0_pay1 (F := Ideal) b c s (ix2 r l)) := by
  unfold k0_pay2 Cert.AdamTerms.change
  generalize k0_pay1 (F := Ideal) b c s = v
  pointwise []

/-- The table's word is the second of the first argument. -/
theorem tword_eq (c : Dev nD) : tword (tbl m) = (m ((c : Thread nD τ).loc main_arg0) : IVec S2 32) (ix1 1) := by
  obtain rfl : c = (0 : Fin 1) := Fin.eq_zero _
  show m _ _ = m _ _
  refine congrArg (m _) ?_
  funext a
  fin_cases a
  rfl

/-- The windows' places. -/
theorem idx (t : Fin (cfgM m (admissible m)).N) : (pcfg0.win (adm m (admissible m)) 0).index t = ![t.val, 0]
    ∧ (pcfg0.win (adm m (admissible m)) 1).index t = ![0, 0]
    ∧ (pcfg0.win (adm m (admissible m)) 2).index t = ![0, 0]
    ∧ (pcfg0.win (adm m (admissible m)) 3).index t = ![t.val, 0]
    ∧ (pcfg0.win (adm m (admissible m)) 4).index t = ![t.val, 0]
    ∧ (pcfg0.win (adm m (admissible m)) 5).index t = ![t.val, 0]
    ∧ (pcfg0.win (adm m (admissible m)) 6).index t = ![t.val, 0]
    ∧ (pcfg0.win (adm m (admissible m)) 7).index t = ![t.val, 0]
    ∧ (pcfg0.win (adm m (admissible m)) 8).index t = ![t.val, 0] :=
  (by decide +kernel : ∀ t : Fin grid0.N, cc0_transform_0 (grid0.coords t) = ![t.val, 0]
    ∧ cc0_transform_1 (grid0.coords t) = ![0, 0]
    ∧ cc0_transform_2 (grid0.coords t) = ![0, 0]
    ∧ cc0_transform_3 (grid0.coords t) = ![t.val, 0]
    ∧ cc0_transform_4 (grid0.coords t) = ![t.val, 0]
    ∧ cc0_transform_5 (grid0.coords t) = ![t.val, 0]
    ∧ cc0_transform_6 (grid0.coords t) = ![t.val, 0]
    ∧ cc0_transform_7 (grid0.coords t) = ![t.val, 0]
    ∧ cc0_transform_8 (grid0.coords t) = ![t.val, 0]) t

theorem coord (t : Fin (cfgM m (admissible m)).N) : (grid0.coords t 0).val = t.val :=
  (by decide +kernel : ∀ t : Fin grid0.N, (grid0.coords t 0).val = t.val) t

/-- The blocks a point reads. -/
def block0 (c : Dev nD) (t : Fin (cfgM m (admissible m)).N) : FVec Ideal S256x2048 .f32 := iblk m (admissible m) c 0 t
def block1 (c : Dev nD) (t : Fin (cfgM m (admissible m)).N) : FVec Ideal S256x2048 .f32 := iblk m (admissible m) c 1 t
def block2 (c : Dev nD) (t : Fin (cfgM m (admissible m)).N) : FVec Ideal S256x2048 .f32 := iblk m (admissible m) c 2 t
def block3 (c : Dev nD) (t : Fin (cfgM m (admissible m)).N) : FVec Ideal S256x2048 .f32 := iblk m (admissible m) c 3 t
def block4 (c : Dev nD) (t : Fin (cfgM m (admissible m)).N) : FVec Ideal S256x2048 .f32 := iblk m (admissible m) c 4 t

theorem blk0 (c : Dev nD) (t : Fin (cfgM m (admissible m)).N) (r : Fin 256) (l : Fin 2048) (R : Fin 512) (hR : R.val = t.val * 256 + r.val) :
    block0 m c t (ix2 r l) = (m ((c : Thread nD τ).loc main_arg1) : FVec Ideal S512x2048 .f32) (ix2 R l) := by
  have e : (pcfg0.win (adm m (admissible m)) 0).index t = ![t.val, 0] := (idx m t).1
  unfold block0
  blk_point [iblk, V]
  · exact (congrArg (fun x : ℕ => x * 256 + r.val) (congrFun e 0)).trans hR.symm
  · exact (congrArg (fun x : ℕ => x * 2048 + l.val) (congrFun e 1)).trans (by simp)

theorem blk3 (c : Dev nD) (t : Fin (cfgM m (admissible m)).N) (r : Fin 256) (l : Fin 2048) (R : Fin 512) (hR : R.val = t.val * 256 + r.val) :
    block3 m c t (ix2 r l) = (m ((c : Thread nD τ).loc main_arg4) : FVec Ideal S512x2048 .f32) (ix2 R l) := by
  have e : (pcfg0.win (adm m (admissible m)) 3).index t = ![t.val, 0] := (idx m t).2.2.2.1
  unfold block3
  blk_point [iblk, V]
  · exact (congrArg (fun x : ℕ => x * 256 + r.val) (congrFun e 0)).trans hR.symm
  · exact (congrArg (fun x : ℕ => x * 2048 + l.val) (congrFun e 1)).trans (by simp)

theorem blk4 (c : Dev nD) (t : Fin (cfgM m (admissible m)).N) (r : Fin 256) (l : Fin 2048) (R : Fin 512) (hR : R.val = t.val * 256 + r.val) :
    block4 m c t (ix2 r l) = (m ((c : Thread nD τ).loc main_arg5) : FVec Ideal S512x2048 .f32) (ix2 R l) := by
  have e : (pcfg0.win (adm m (admissible m)) 4).index t = ![t.val, 0] := (idx m t).2.2.2.2.1
  unfold block4
  blk_point [iblk, V]
  · exact (congrArg (fun x : ℕ => x * 256 + r.val) (congrFun e 0)).trans hR.symm
  · exact (congrArg (fun x : ℕ => x * 2048 + l.val) (congrFun e 1)).trans (by simp)

/-- This device's half is one tile. -/
theorem blk1 (c : Dev nD) (t : Fin (cfgM m (admissible m)).N) (r : Fin 256) (l : Fin 2048) (R : Fin 256) (hR : R.val = 0 * 256 + r.val) :
    block1 m c t (ix2 r l) = (m ((c : Thread nD τ).loc main_arg2) : FVec Ideal S256x2048 .f32) (ix2 R l) := by
  have e : (pcfg0.win (adm m (admissible m)) 1).index t = ![0, 0] := (idx m t).2.1
  unfold block1
  blk_point [iblk, V]
  · exact (congrArg (fun x : ℕ => x * 256 + r.val) (congrFun e 0)).trans hR.symm
  · exact (congrArg (fun x : ℕ => x * 2048 + l.val) (congrFun e 1)).trans (by simp)

/-- So is the partner's. -/
theorem blk2 (c : Dev nD) (t : Fin (cfgM m (admissible m)).N) (r : Fin 256) (l : Fin 2048) (R : Fin 256) (hR : R.val = 0 * 256 + r.val) :
    block2 m c t (ix2 r l) = (m ((c : Thread nD τ).loc main_arg3) : FVec Ideal S256x2048 .f32) (ix2 R l) := by
  have e : (pcfg0.win (adm m (admissible m)) 2).index t = ![0, 0] := (idx m t).2.2.1
  unfold block2
  blk_point [iblk, V]
  · exact (congrArg (fun x : ℕ => x * 256 + r.val) (congrFun e 0)).trans hR.symm
  · exact (congrArg (fun x : ℕ => x * 2048 + l.val) (congrFun e 1)).trans (by simp)

/-- The gradient's block at a point. -/
def gradOf (c : Dev nD) (t : Fin (cfgM m (admissible m)).N) : FVec Ideal S256x2048 .f32 :=
  k0_pay3 (F := Ideal) (grid0.coords t) (tword (tbl m)) (block1 m c t) (block2 m c t)

/-- The first moment's. -/
def momOf (c : Dev nD) (t : Fin (cfgM m (admissible m)).N) : FVec Ideal S256x2048 .f32 :=
  k0_pay4 (F := Ideal) (grid0.coords t) (tword (tbl m)) (block1 m c t) (block2 m c t) (block3 m c t)

/-- The second moment's. -/
def secOf (c : Dev nD) (t : Fin (cfgM m (admissible m)).N) : FVec Ideal S256x2048 .f32 :=
  k0_pay1 (F := Ideal) (k0_pay5 (F := Ideal) (block4 m c t)) (k0_pay6 (F := Ideal) (grid0.coords t) (tword (tbl m)) (block1 m c t) (block2 m c t))
    (Scalar.ofBits .f32 0x3A83126F#32)

/-- The change's. -/
def changeOf (c : Dev nD) (t : Fin (cfgM m (admissible m)).N) : FVec Ideal S256x2048 .f32 :=
  k0_pay2 (F := Ideal) (block0 m c t) (momOf m c t) (k0_pay5 (F := Ideal) (block4 m c t))
    (k0_pay6 (F := Ideal) (grid0.coords t) (tword (tbl m)) (block1 m c t) (block2 m c t)) (Scalar.ofBits .f32 0x3A83126F#32)

theorem gradOf_at (c : Dev nD) (t : Fin (cfgM m (admissible m)).N) (r : Fin 256) (l : Fin 2048) (R : Fin 512) (hR : R.val = t.val * 256 + r.val) :
    gradOf m c t (ix2 r l)
      = Cert.RefAdamOutIdeal.Value.grad (m ((c : Thread nD τ).loc main_arg0)) (m ((c : Thread nD τ).loc main_arg2)) (m ((c : Thread nD τ).loc main_arg3)) (ix2 R l) := by
  have ht : t.val < 2 := t.isLt
  have hr := r.isLt
  unfold gradOf
  rw [pay3_at, coord m t, Cert.RefAdamOutIdeal.Value.grad_at _ _ _ (t.val / 1) (by omega) ⟨0 * 256 + r.val, by omega⟩ l R (by simp only; omega),
    ← tword_eq m c]
  unfold Cert.AdamTerms.pick
  by_cases h : tword (tbl m) = BitVec.ofNat 32 (t.val / 1)
  · rw [if_pos h, if_pos h]
    exact blk1 m c t r l _ rfl
  · rw [if_neg h, if_neg h]
    exact blk2 m c t r l _ rfl

theorem momOf_at (c : Dev nD) (t : Fin (cfgM m (admissible m)).N) (r : Fin 256) (l : Fin 2048) (R : Fin 512) (hR : R.val = t.val * 256 + r.val) :
    momOf m c t (ix2 r l) = Cert.RefAdamOutIdeal.Value.mom (m ((c : Thread nD τ).loc main_arg0)) (m ((c : Thread nD τ).loc main_arg2)) (m ((c : Thread nD τ).loc main_arg3)) (m ((c : Thread nD τ).loc main_arg4)) (ix2 R l) := by
  rw [Cert.RefAdamOutIdeal.Value.mom_at, ← gradOf_at m c t r l R hR]
  unfold momOf
  rw [pay4_at, blk3 m c t r l R hR]
  rfl

theorem secOf_at (c : Dev nD) (t : Fin (cfgM m (admissible m)).N) (r : Fin 256) (l : Fin 2048) (R : Fin 512) (hR : R.val = t.val * 256 + r.val) :
    secOf m c t (ix2 r l) = Cert.RefAdamOutIdeal.Value.sec (m ((c : Thread nD τ).loc main_arg0)) (m ((c : Thread nD τ).loc main_arg2)) (m ((c : Thread nD τ).loc main_arg3)) (m ((c : Thread nD τ).loc main_arg5)) (ix2 R l) := by
  rw [Cert.RefAdamOutIdeal.Value.sec_at, ← gradOf_at m c t r l R hR]
  unfold secOf
  rw [sec_at, blk4 m c t r l R hR]
  rfl

theorem changeOf_at (c : Dev nD) (t : Fin (cfgM m (admissible m)).N) (r : Fin 256) (l : Fin 2048) (R : Fin 512) (hR : R.val = t.val * 256 + r.val) :
    changeOf m c t (ix2 r l) = Cert.RefAdamOutIdeal.Value.delta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R l) := by
  rw [Cert.RefAdamOutIdeal.Value.delta_at, ← momOf_at m c t r l R hR, ← secOf_at m c t r l R hR, ← blk0 m c t r l R hR]
  unfold changeOf
  rw [pay2_at]
  rfl

theorem outs_5 (c : Dev nD) (t : Fin (cfgM m (admissible m)).N) : (outsAt0 m (admissible m) c t).1 = gradOf m c t := by
  unfold outsAt0
  frame_out
  exact Cert.AdamTerms.congr5 (fun _ x y _ _ => k0_pay3 (F := Ideal) (grid0.coords t) (tword (tbl m)) x y) (rfl : block0 m c t = _)
    ((hs0_1 m (admissible m) t).read_unread _) ((hs0_2 m (admissible m) t).read_unread _) (rfl : block0 m c t = _) (rfl : block0 m c t = _)

theorem outs_6 (c : Dev nD) (t : Fin (cfgM m (admissible m)).N) : (outsAt0 m (admissible m) c t).2.1 = changeOf m c t := by
  unfold outsAt0
  frame_out
  exact Cert.AdamTerms.congr5 (fun w x y a b => k0_pay2 (F := Ideal) w (k0_pay4 (F := Ideal) (grid0.coords t) (tword (tbl m)) x y a) (k0_pay5 (F := Ideal) b)
    (k0_pay6 (F := Ideal) (grid0.coords t) (tword (tbl m)) x y) (Scalar.ofBits .f32 0x3A83126F#32)) ((hs0_0 m (admissible m) t).read_unread _)
    ((hs0_1 m (admissible m) t).read_unread _) ((hs0_2 m (admissible m) t).read_unread _) ((hs0_3 m (admissible m) t).read_unread _) ((hs0_4 m (admissible m) t).read_unread _)

theorem outs_7 (c : Dev nD) (t : Fin (cfgM m (admissible m)).N) : (outsAt0 m (admissible m) c t).2.2.1 = momOf m c t := by
  unfold outsAt0
  frame_out
  exact Cert.AdamTerms.congr5 (fun _ x y a _ => k0_pay4 (F := Ideal) (grid0.coords t) (tword (tbl m)) x y a) (rfl : block0 m c t = _)
    ((hs0_1 m (admissible m) t).read_unread _) ((hs0_2 m (admissible m) t).read_unread _) ((hs0_3 m (admissible m) t).read_unread _) (rfl : block0 m c t = _)

theorem outs_8 (c : Dev nD) (t : Fin (cfgM m (admissible m)).N) : (outsAt0 m (admissible m) c t).2.2.2 = secOf m c t := by
  unfold outsAt0
  frame_out
  exact Cert.AdamTerms.congr5 (fun _ x y _ b => k0_pay1 (F := Ideal) (k0_pay5 (F := Ideal) b)
    (k0_pay6 (F := Ideal) (grid0.coords t) (tword (tbl m)) x y) (Scalar.ofBits .f32 0x3A83126F#32)) (rfl : block0 m c t = _)
    ((hs0_1 m (admissible m) t).read_unread _) ((hs0_2 m (admissible m) t).read_unread _) (rfl : block0 m c t = _) ((hs0_4 m (admissible m) t).read_unread _)

theorem tileIdx (y : S256x2048.Idx) : ∃ (r : Fin 256) (l : Fin 2048), y = ix2 r l := ⟨y 0, y 1, (ix2_eta y).symm⟩

theorem arrIdx (y : S512x2048.Idx) : ∃ (r : Fin 512) (l : Fin 2048), y = ix2 r l := ⟨y 0, y 1, (ix2_eta y).symm⟩

/-- The gradient at the end is the reference's. -/
theorem final_grad (c : Dev nD) : (dats m (admissible m) 0 c).arrAt 5 (cfgM m (admissible m)).N
    = Cert.RefAdamOutIdeal.Value.grad (m ((c : Thread nD τ).loc main_arg0)) (m ((c : Thread nD τ).loc main_arg2)) (m ((c : Thread nD τ).loc main_arg3)) := by
  have place : ∀ (t : Fin (cfgM m (admissible m)).N) (r : Fin 256) (l : Fin 2048) (R : Fin 512), R.val = t.val * 256 + r.val →
      (((cfgM m (admissible m)).win 5).blk t).view.emb (ix2 r l) = (ix2 R l : S512x2048.Idx) := by
    intro t r l R hR
    have e : (pcfg0.win (adm m (admissible m)) 5).index t = ![t.val, 0] := (idx m t).2.2.2.2.2.1
    blk_ext []
    · exact (congrArg (fun x : ℕ => x * 256 + r.val) (congrFun e 0)).trans hR.symm
    · exact (congrArg (fun x : ℕ => x * 2048 + l.val) (congrFun e 1)).trans (by simp)
  refine (dats m (admissible m) 0 c).arrAt_eq_of_emb 5 _ (fun t hf y => ?_) fun i => ?_
  · have ht : t.val < 2 := t.isLt
    obtain ⟨r, l, rfl⟩ := tileIdx y
    have key := gradOf_at m c t r l ⟨t.val * 256 + r.val, by omega⟩ rfl
    rw [place t r l ⟨t.val * 256 + r.val, by omega⟩ rfl, after0_5, outs_5]
    exact key
  · obtain ⟨R, l, rfl⟩ := arrIdx i
    have hR := R.isLt
    refine ⟨(⟨R.val / 256, by omega⟩ : Fin 2), flush0_5 _ _, ?_⟩
    have e := place (⟨R.val / 256, by omega⟩ : Fin 2) ⟨R.val % 256, by omega⟩ l R (by simp only; omega)
    rw [← e]
    exact View.emb_mem_set _ _

/-- The weight's change at the end is the reference's. -/
theorem final_delta (c : Dev nD) : (dats m (admissible m) 0 c).arrAt 6 (cfgM m (admissible m)).N
    = Cert.RefAdamOutIdeal.Value.delta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have place : ∀ (t : Fin (cfgM m (admissible m)).N) (r : Fin 256) (l : Fin 2048) (R : Fin 512), R.val = t.val * 256 + r.val →
      (((cfgM m (admissible m)).win 6).blk t).view.emb (ix2 r l) = (ix2 R l : S512x2048.Idx) := by
    intro t r l R hR
    have e : (pcfg0.win (adm m (admissible m)) 6).index t = ![t.val, 0] := (idx m t).2.2.2.2.2.2.1
    blk_ext []
    · exact (congrArg (fun x : ℕ => x * 256 + r.val) (congrFun e 0)).trans hR.symm
    · exact (congrArg (fun x : ℕ => x * 2048 + l.val) (congrFun e 1)).trans (by simp)
  refine (dats m (admissible m) 0 c).arrAt_eq_of_emb 6 _ (fun t hf y => ?_) fun i => ?_
  · have ht : t.val < 2 := t.isLt
    obtain ⟨r, l, rfl⟩ := tileIdx y
    have key := changeOf_at m c t r l ⟨t.val * 256 + r.val, by omega⟩ rfl
    rw [place t r l ⟨t.val * 256 + r.val, by omega⟩ rfl, after0_6, outs_6]
    exact key
  · obtain ⟨R, l, rfl⟩ := arrIdx i
    have hR := R.isLt
    refine ⟨(⟨R.val / 256, by omega⟩ : Fin 2), flush0_6 _ _, ?_⟩
    have e := place (⟨R.val / 256, by omega⟩ : Fin 2) ⟨R.val % 256, by omega⟩ l R (by simp only; omega)
    rw [← e]
    exact View.emb_mem_set _ _

/-- The first moment at the end is the reference's. -/
theorem final_mom (c : Dev nD) : (dats m (admissible m) 0 c).arrAt 7 (cfgM m (admissible m)).N
    = Cert.RefAdamOutIdeal.Value.mom (m ((c : Thread nD τ).loc main_arg0)) (m ((c : Thread nD τ).loc main_arg2)) (m ((c : Thread nD τ).loc main_arg3)) (m ((c : Thread nD τ).loc main_arg4)) := by
  have place : ∀ (t : Fin (cfgM m (admissible m)).N) (r : Fin 256) (l : Fin 2048) (R : Fin 512), R.val = t.val * 256 + r.val →
      (((cfgM m (admissible m)).win 7).blk t).view.emb (ix2 r l) = (ix2 R l : S512x2048.Idx) := by
    intro t r l R hR
    have e : (pcfg0.win (adm m (admissible m)) 7).index t = ![t.val, 0] := (idx m t).2.2.2.2.2.2.2.1
    blk_ext []
    · exact (congrArg (fun x : ℕ => x * 256 + r.val) (congrFun e 0)).trans hR.symm
    · exact (congrArg (fun x : ℕ => x * 2048 + l.val) (congrFun e 1)).trans (by simp)
  refine (dats m (admissible m) 0 c).arrAt_eq_of_emb 7 _ (fun t hf y => ?_) fun i => ?_
  · have ht : t.val < 2 := t.isLt
    obtain ⟨r, l, rfl⟩ := tileIdx y
    have key := momOf_at m c t r l ⟨t.val * 256 + r.val, by omega⟩ rfl
    rw [place t r l ⟨t.val * 256 + r.val, by omega⟩ rfl, after0_7, outs_7]
    exact key
  · obtain ⟨R, l, rfl⟩ := arrIdx i
    have hR := R.isLt
    refine ⟨(⟨R.val / 256, by omega⟩ : Fin 2), flush0_7 _ _, ?_⟩
    have e := place (⟨R.val / 256, by omega⟩ : Fin 2) ⟨R.val % 256, by omega⟩ l R (by simp only; omega)
    rw [← e]
    exact View.emb_mem_set _ _

/-- The second moment at the end is the reference's. -/
theorem final_sec (c : Dev nD) : (dats m (admissible m) 0 c).arrAt 8 (cfgM m (admissible m)).N
    = Cert.RefAdamOutIdeal.Value.sec (m ((c : Thread nD τ).loc main_arg0)) (m ((c : Thread nD τ).loc main_arg2)) (m ((c : Thread nD τ).loc main_arg3)) (m ((c : Thread nD τ).loc main_arg5)) := by
  have place : ∀ (t : Fin (cfgM m (admissible m)).N) (r : Fin 256) (l : Fin 2048) (R : Fin 512), R.val = t.val * 256 + r.val →
      (((cfgM m (admissible m)).win 8).blk t).view.emb (ix2 r l) = (ix2 R l : S512x2048.Idx) := by
    intro t r l R hR
    have e : (pcfg0.win (adm m (admissible m)) 8).index t = ![t.val, 0] := (idx m t).2.2.2.2.2.2.2.2
    blk_ext []
    · exact (congrArg (fun x : ℕ => x * 256 + r.val) (congrFun e 0)).trans hR.symm
    · exact (congrArg (fun x : ℕ => x * 2048 + l.val) (congrFun e 1)).trans (by simp)
  refine (dats m (admissible m) 0 c).arrAt_eq_of_emb 8 _ (fun t hf y => ?_) fun i => ?_
  · have ht : t.val < 2 := t.isLt
    obtain ⟨r, l, rfl⟩ := tileIdx y
    have key := secOf_at m c t r l ⟨t.val * 256 + r.val, by omega⟩ rfl
    rw [place t r l ⟨t.val * 256 + r.val, by omega⟩ rfl, after0_8, outs_8]
    exact key
  · obtain ⟨R, l, rfl⟩ := arrIdx i
    have hR := R.isLt
    refine ⟨(⟨R.val / 256, by omega⟩ : Fin 2), flush0_8 _ _, ?_⟩
    have e := place (⟨R.val / 256, by omega⟩ : Fin 2) ⟨R.val % 256, by omega⟩ l R (by simp only; omega)
    rw [← e]
    exact View.emb_mem_set _ _

end Cert.AdamOutIdeal.Value

end
-- ==== Proof.AdamGate.lean ====
module

public import proofs.«01_k».proof.Proof.Gen.RefAdamGateIdeal.Run
public import proofs.«01_k».proof.Proof.Gen.AdamGate.Frame
public import proofs.«01_k».proof.Proof.Gen.AdamGateIdeal.Frame
public import proofs.«01_k».proof.Proof.Adam
public import Idealize.ShloMosaic.Lib.Pointwise
public import Idealize.ShloMosaic.Lib.Pipeline.ValueKit
public import Idealize.ShloMosaic.Lib.Pipeline.Value

@[expose] public section

set_option maxRecDepth 16384

noncomputable section

/-! The optimiser's step. -/

namespace Cert.RefAdamGateIdeal.Value

open Cert.RefAdamGateIdeal Cert.RefAdamGateIdeal.Gen Idealize.ShloMosaic Idealize.SL.Sem

/-- The word that says which half is this device's. -/
def word (t : IVec S2 32) : IVec S_ 32 := shapeCast _ (extractStridedSlice S1 ![1] t slices_S2_S1_1) shapeCasts_S1_S_

/-- Half `b` of the gradient. -/
def half (b : BitVec 32) (t : IVec S2 32) (mine theirs : FVec Ideal S1024x1408 .f32) : FVec Ideal S1024x1408 .f32 :=
  select (broadcastInDim S1024x1408 ![] bcast_S_S1024x1408 (cmpi .eq (word t) (constantI S_ 32 b))) mine theirs

/-- The gradient. -/
def grad (t : IVec S2 32) (mine theirs : FVec Ideal S1024x1408 .f32) : FVec Ideal S2048x1408 .f32 :=
  concatenate S2048x1408 0 [⟨S1024x1408, half 0#32 t mine theirs⟩, ⟨S1024x1408, half 1#32 t mine theirs⟩] concatenates_S1024x1408_S1024x1408_S2048x1408_d0

/-- The first moment. -/
def mom (t : IVec S2 32) (mine theirs : FVec Ideal S1024x1408 .f32) (m : FVec Ideal S2048x1408 .f32) : FVec Ideal S2048x1408 .f32 :=
  addf (mulf (broadcastInDim S2048x1408 ![] bcast_S_S2048x1408 (constant S_ .f32 0x3F666666#32)) m) (mulf (broadcastInDim S2048x1408 ![] bcast_S_S2048x1408 (constant S_ .f32 0x3DCCCCCD#32)) (grad t mine theirs))

/-- The second moment. -/
def sec (t : IVec S2 32) (mine theirs : FVec Ideal S1024x1408 .f32) (v : FVec Ideal S2048x1408 .f32) : FVec Ideal S2048x1408 .f32 :=
  addf (mulf (broadcastInDim S2048x1408 ![] bcast_S_S2048x1408 (constant S_ .f32 0x3F7FBE77#32)) v) (mulf (broadcastInDim S2048x1408 ![] bcast_S_S2048x1408 (constant S_ .f32 0x3A83126F#32)) (mulf (grad t mine theirs) (grad t mine theirs)))

/-- The change of the weight. -/
def delta (t : IVec S2 32) (w : FVec Ideal S2048x1408 .f32) (mine theirs : FVec Ideal S1024x1408 .f32) (m v : FVec Ideal S2048x1408 .f32) : FVec Ideal S2048x1408 .f32 :=
  mulf (broadcastInDim S2048x1408 ![] bcast_S_S2048x1408 (constant S_ .f32 0xBA83126F#32)) (addf (Host.divf (Host.divf (mom t mine theirs m) (broadcastInDim S2048x1408 ![] bcast_S_S2048x1408 (constant S_ .f32 0x3F26BD02#32)))
    (addf (Host.sqrt (Host.divf (sec t mine theirs v) (broadcastInDim S2048x1408 ![] bcast_S_S2048x1408 (constant S_ .f32 0x3C231ACC#32)))) (broadcastInDim S2048x1408 ![] bcast_S_S2048x1408 (constant S_ .f32 0x322BCC77#32))))
    (mulf (broadcastInDim S2048x1408 ![] bcast_S_S2048x1408 (constant S_ .f32 0x3C23D70A#32)) w))

theorem mom_at (t : IVec S2 32) (mine theirs : FVec Ideal S1024x1408 .f32) (m : FVec Ideal S2048x1408 .f32) (r : Fin 2048) (l : Fin 1408) :
    mom t mine theirs m (ix2 r l) = Cert.AdamTerms.first (grad t mine theirs (ix2 r l)) (m (ix2 r l)) := by
  unfold mom Cert.AdamTerms.first
  generalize grad t mine theirs = g
  pointwise []

theorem sec_at (t : IVec S2 32) (mine theirs : FVec Ideal S1024x1408 .f32) (v : FVec Ideal S2048x1408 .f32) (r : Fin 2048) (l : Fin 1408) :
    sec t mine theirs v (ix2 r l) = Cert.AdamTerms.second (grad t mine theirs (ix2 r l)) (v (ix2 r l)) := by
  unfold sec Cert.AdamTerms.second
  generalize grad t mine theirs = g
  pointwise []

theorem delta_at (t : IVec S2 32) (w : FVec Ideal S2048x1408 .f32) (mine theirs : FVec Ideal S1024x1408 .f32) (m v : FVec Ideal S2048x1408 .f32) (r : Fin 2048) (l : Fin 1408) :
    delta t w mine theirs m v (ix2 r l) = Cert.AdamTerms.change (w (ix2 r l)) (mom t mine theirs m (ix2 r l)) (sec t mine theirs v (ix2 r l)) := by
  unfold delta Cert.AdamTerms.change
  generalize mom t mine theirs m = a
  generalize sec t mine theirs v = b
  pointwise []

theorem half_at (b : ℕ) (t : IVec S2 32) (mine theirs : FVec Ideal S1024x1408 .f32) (r : Fin 1024) (l : Fin 1408) :
    half (BitVec.ofNat 32 b) t mine theirs (ix2 r l) = Cert.AdamTerms.pick (t (ix1 1)) b (mine (ix2 r l)) (theirs (ix2 r l)) := by
  unfold Cert.AdamTerms.pick
  generalize BitVec.ofNat 32 b = k
  pointwise [half, word]
  exact Cert.AdamTerms.sel_eq _ _ _ _

theorem grad_at (t : IVec S2 32) (mine theirs : FVec Ideal S1024x1408 .f32) (b : ℕ) (hb : b < 2) (r : Fin 1024) (l : Fin 1408) (R : Fin 2048) (hR : R.val = b * 1024 + r.val) :
    grad t mine theirs (ix2 R l) = Cert.AdamTerms.pick (t (ix1 1)) b (mine (ix2 r l)) (theirs (ix2 r l)) := by
  have e0 := half_at 0 t mine theirs
  have e1 := half_at 1 t mine theirs
  unfold grad
  generalize half 0#32 t mine theirs = x at e0
  generalize half 1#32 t mine theirs = y at e1
  pointwise []
  have hr := r.isLt
  by_cases h : R.val < 1024
  · have hb0 : b = 0 := by omega
    subst hb0
    rw [dif_pos h, e0]
    have e : (⟨R.val, h⟩ : Fin 1024) = r := Fin.ext (by simp only; omega)
    rw [e]
  · have hb1 : b = 1 := by omega
    subst hb1
    rw [dif_neg h, e1]
    have e : (⟨R.val - 1024, by omega⟩ : Fin 1024) = r := Fin.ext (by simp only; omega)
    rw [e]

end Cert.RefAdamGateIdeal.Value

namespace Cert.AdamGate.Value

open Cert.AdamGate Cert.AdamGate.Gen Idealize.ShloMosaic Idealize.ShloMosaic.TcCoe Idealize.SL.Sem

variable {F : FTy → Type} [FloatOps F]
variable (m : (ℓ : Loc nD τ sig) → Buf (Elt F) ℓ)

/-- The table's word. -/
def tword (pf : pre0.Contents (Elt F)) : BitVec 32 := pf.at 0 (Rect.unit (s := S2) ![1] S1.size inb_S2_S1_1) numel1_S1

theorem map1 (pf : pre0.Contents (Elt F)) (i : grid0.Coords) : cc0_transform_1 inb_S2_S1_1 numel1_S1 pf i
    = ![if tword pf = BitVec.ofNat 32 ((i 0).val / 4) then (i 0).val % 4 else 0, 0] := by
  rw [← Cert.AdamTerms.tile4 (i 0) (tword pf)]
  rfl

theorem map2 (pf : pre0.Contents (Elt F)) (i : grid0.Coords) : cc0_transform_2 inb_S2_S1_1 numel1_S1 pf i
    = ![if tword pf = BitVec.ofNat 32 ((i 0).val / 4) then 0 else (i 0).val % 4, 0] := by
  rw [← Cert.AdamTerms.tile4' (i 0) (tword pf)]
  rfl

/-- Whatever the table holds, every block named lies in its array. -/
theorem admissible : Ok m := by
  refine ⟨fun i => ⟨?_, .inl rfl⟩, fun i => ⟨?_, .inl rfl⟩⟩
  · rw [map1]
    intro a
    fin_cases a
    · exact Cert.AdamTerms.room _ 256
    · exact le_refl 1408
  · rw [map2]
    intro a
    fin_cases a
    · exact Cert.AdamTerms.room' _ 256
    · exact le_refl 1408

end Cert.AdamGate.Value

namespace Cert.AdamGateIdeal.Value

open Cert.AdamGateIdeal Cert.AdamGateIdeal.Gen Idealize.ShloMosaic Idealize.ShloMosaic.TcCoe Idealize.SL.Sem
open Idealize.ShloMosaic.Pipeline (Dat)

section any

variable {F : FTy → Type} [FloatOps F]
variable (m : (ℓ : Loc nD τ sig) → Buf (Elt F) ℓ)

/-- The table's word. -/
def tword (pf : pre0.Contents (Elt F)) : BitVec 32 := pf.at 0 (Rect.unit (s := S2) ![1] S1.size inb_S2_S1_1) numel1_S1

theorem map1 (pf : pre0.Contents (Elt F)) (i : grid0.Coords) : cc0_transform_1 inb_S2_S1_1 numel1_S1 pf i
    = ![if tword pf = BitVec.ofNat 32 ((i 0).val / 4) then (i 0).val % 4 else 0, 0] := by
  rw [← Cert.AdamTerms.tile4 (i 0) (tword pf)]
  rfl

theorem map2 (pf : pre0.Contents (Elt F)) (i : grid0.Coords) : cc0_transform_2 inb_S2_S1_1 numel1_S1 pf i
    = ![if tword pf = BitVec.ofNat 32 ((i 0).val / 4) then 0 else (i 0).val % 4, 0] := by
  rw [← Cert.AdamTerms.tile4' (i 0) (tword pf)]
  rfl

/-- Whatever the table holds, every block named lies in its array. -/
theorem admissible : Ok m := by
  refine ⟨fun i => ⟨?_, .inl rfl⟩, fun i => ⟨?_, .inl rfl⟩⟩
  · rw [map1]
    intro a
    fin_cases a
    · exact Cert.AdamTerms.room _ 256
    · exact le_refl 1408
  · rw [map2]
    intro a
    fin_cases a
    · exact Cert.AdamTerms.room' _ 256
    · exact le_refl 1408

end any

variable (m : (ℓ : Loc nD τ sig) → Buf (Elt Ideal) ℓ) (ρ : Dev nD → PrngReg)

/-- The program's run: the four results, and the arguments unchanged. -/
theorem run_blocks : θ_run defs (onTc (τ := τ) (main (F := Ideal))) ⟨m, fun _ => 0, ρ⟩ fun r => ∀ c : Dev nD,
      r.2.mem ((c : Thread nD τ).loc main_v0_0) = (dats m (admissible m) 0 c).arrAt 5 (cfgM m (admissible m)).N
      ∧ r.2.mem ((c : Thread nD τ).loc main_v0_1) = (dats m (admissible m) 0 c).arrAt 6 (cfgM m (admissible m)).N
      ∧ r.2.mem ((c : Thread nD τ).loc main_v0_2) = (dats m (admissible m) 0 c).arrAt 7 (cfgM m (admissible m)).N
      ∧ r.2.mem ((c : Thread nD τ).loc main_v0_3) = (dats m (admissible m) 0 c).arrAt 8 (cfgM m (admissible m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 5, (h c).1 6, (h c).1 7, (h c).1 8,
      ((h c).2 main_arg0 (by decide : main_arg0 ∈ Pipeline.restRefs sig spec0)).trans (V_main_arg0 m c),
      ((h c).1 0).trans (((dats m (admissible m) 0 c).arrAt_in 0 rfl _).trans ((A_eq m (admissible m) c 0).trans (V_main_arg1 m c))),
      ((h c).1 1).trans (((dats m (admissible m) 0 c).arrAt_in 1 rfl _).trans ((A_eq m (admissible m) c 1).trans (V_main_arg2 m c))),
      ((h c).1 2).trans (((dats m (admissible m) 0 c).arrAt_in 2 rfl _).trans ((A_eq m (admissible m) c 2).trans (V_main_arg3 m c))),
      ((h c).1 3).trans (((dats m (admissible m) 0 c).arrAt_in 3 rfl _).trans ((A_eq m (admissible m) c 3).trans (V_main_arg4 m c))),
      ((h c).1 4).trans (((dats m (admissible m) 0 c).arrAt_in 4 rfl _).trans ((A_eq m (admissible m) c 4).trans (V_main_arg5 m c)))⟩)
    (run_main m ρ (admissible m))

theorem pay3_at (i : grid0.Coords) (w : BitVec 32) (x y : FVec Ideal S256x1408 .f32) (r : Fin 256) (l : Fin 1408) :
    k0_pay3 (F := Ideal) i w x y (ix2 r l) = Cert.AdamTerms.pick w ((i 0).val / 4) (x (ix2 r l)) (y (ix2 r l)) := by
  have e : k0_pay3 (F := Ideal) i w x y = Scalar.select (IntOp.cmpi .eq (Cert.AdamTerms.quo (BitVec.ofNat 32 (i 0).val) 4#32) w) x y := rfl
  rw [e, Cert.AdamTerms.sel_eq, Cert.AdamTerms.quo4 (i 0)]
  unfold Cert.AdamTerms.pick
  by_cases h : w = BitVec.ofNat 32 ((i 0).val / 4)
  · rw [if_pos h.symm, if_pos h]
  · rw [if_neg (fun e => h e.symm), if_neg h]

theorem pay4_at (i : grid0.Coords) (w : BitVec 32) (x y z : FVec Ideal S256x1408 .f32) (r : Fin 256) (l : Fin 1408) :
    k0_pay4 (F := Ideal) i w x y z (ix2 r l) = Cert.AdamTerms.first (k0_pay3 (F := Ideal) i w x y (ix2 r l)) (z (ix2 r l)) := by
  unfold k0_pay4 Cert.AdamTerms.first
  generalize k0_pay3 (F := Ideal) i w x y = g
  pointwise []

theorem sec_at (i : grid0.Coords) (w : BitVec 32) (x y z : FVec Ideal S256x1408 .f32) (r : Fin 256) (l : Fin 1408) :
    k0_pay1 (F := Ideal) (k0_pay5 (F := Ideal) z) (k0_pay6 (F := Ideal) i w x y) (Scalar.ofBits .f32 0x3A83126F#32) (ix2 r l)
      = Cert.AdamTerms.second (k0_pay3 (F := Ideal) i w x y (ix2 r l)) (z (ix2 r l)) := by
  unfold k0_pay1 k0_pay5 k0_pay6 Cert.AdamTerms.second
  generalize k0_pay3 (F := Ideal) i w x y = g
  pointwise []

theorem pay2_at (w a b c : FVec Ideal S256x1408 .f32) (s : EReal) (r : Fin 256) (l : Fin 1408) :
    k0_pay2 (F := Ideal) w a b c s (ix2 r l) = Cert.AdamTerms.change (w (ix2 r l)) (a (ix2 r l)) (k0_pay1 (F := Ideal) b c s (ix2 r l)) := by
  unfold k0_pay2 Cert.AdamTerms.change
  generalize k0_pay1 (F := Ideal) b c s = v
  pointwise []

/-- The table's word is the second of the first argument. -/
theorem tword_eq (c : Dev nD) : tword (tbl m) = (m ((c : Thread nD τ).loc main_arg0) : IVec S2 32) (ix1 1) := by
  obtain rfl : c = (0 : Fin 1) := Fin.eq_zero _
  show m _ _ = m _ _
  refine congrArg (m _) ?_
  funext a
  fin_cases a
  rfl

/-- The windows' places. -/
theorem idx (t : Fin (cfgM m (admissible m)).N) : (pcfg0.win (adm m (admissible m)) 0).index t = ![t.val, 0]
    ∧ (pcfg0.win (adm m (admissible m)) 3).index t = ![t.val, 0]
    ∧ (pcfg0.win (adm m (admissible m)) 4).index t = ![t.val, 0]
    ∧ (pcfg0.win (adm m (admissible m)) 5).index t = ![t.val, 0]
    ∧ (pcfg0.win (adm m (admissible m)) 6).index t = ![t.val, 0]
    ∧ (pcfg0.win (adm m (admissible m)) 7).index t = ![t.val, 0]
    ∧ (pcfg0.win (adm m (admissible m)) 8).index t = ![t.val, 0] :=
  (by decide +kernel : ∀ t : Fin grid0.N, cc0_transform_0 (grid0.coords t) = ![t.val, 0]
    ∧ cc0_transform_3 (grid0.coords t) = ![t.val, 0]
    ∧ cc0_transform_4 (grid0.coords t) = ![t.val, 0]
    ∧ cc0_transform_5 (grid0.coords t) = ![t.val, 0]
    ∧ cc0_transform_6 (grid0.coords t) = ![t.val, 0]
    ∧ cc0_transform_7 (grid0.coords t) = ![t.val, 0]
    ∧ cc0_transform_8 (grid0.coords t) = ![t.val, 0]) t

theorem coord (t : Fin (cfgM m (admissible m)).N) : (grid0.coords t 0).val = t.val :=
  (by decide +kernel : ∀ t : Fin grid0.N, (grid0.coords t 0).val = t.val) t

theorem idx1 (t : Fin (cfgM m (admissible m)).N) : (pcfg0.win (adm m (admissible m)) 1).index t
    = ![if tword (tbl m) = BitVec.ofNat 32 (t.val / 4) then t.val % 4 else 0, 0] := by
  have e := map1 (tbl m) (grid0.coords t)
  rw [coord m t] at e
  exact e

theorem idx2 (t : Fin (cfgM m (admissible m)).N) : (pcfg0.win (adm m (admissible m)) 2).index t
    = ![if tword (tbl m) = BitVec.ofNat 32 (t.val / 4) then 0 else t.val % 4, 0] := by
  have e := map2 (tbl m) (grid0.coords t)
  rw [coord m t] at e
  exact e

/-- The blocks a point reads. -/
def block0 (c : Dev nD) (t : Fin (cfgM m (admissible m)).N) : FVec Ideal S256x1408 .f32 := iblk m (admissible m) c 0 t
def block1 (c : Dev nD) (t : Fin (cfgM m (admissible m)).N) : FVec Ideal S256x1408 .f32 := iblk m (admissible m) c 1 t
def block2 (c : Dev nD) (t : Fin (cfgM m (admissible m)).N) : FVec Ideal S256x1408 .f32 := iblk m (admissible m) c 2 t
def block3 (c : Dev nD) (t : Fin (cfgM m (admissible m)).N) : FVec Ideal S256x1408 .f32 := iblk m (admissible m) c 3 t
def block4 (c : Dev nD) (t : Fin (cfgM m (admissible m)).N) : FVec Ideal S256x1408 .f32 := iblk m (admissible m) c 4 t

theorem blk0 (c : Dev nD) (t : Fin (cfgM m (admissible m)).N) (r : Fin 256) (l : Fin 1408) (R : Fin 2048) (hR : R.val = t.val * 256 + r.val) :
    block0 m c t (ix2 r l) = (m ((c : Thread nD τ).loc main_arg1) : FVec Ideal S2048x1408 .f32) (ix2 R l) := by
  have e : (pcfg0.win (adm m (admissible m)) 0).index t = ![t.val, 0] := (idx m t).1
  unfold block0
  blk_point [iblk, V]
  · exact (congrArg (fun x : ℕ => x * 256 + r.val) (congrFun e 0)).trans hR.symm
  · exact (congrArg (fun x : ℕ => x * 1408 + l.val) (congrFun e 1)).trans (by simp)

theorem blk3 (c : Dev nD) (t : Fin (cfgM m (admissible m)).N) (r : Fin 256) (l : Fin 1408) (R : Fin 2048) (hR : R.val = t.val * 256 + r.val) :
    block3 m c t (ix2 r l) = (m ((c : Thread nD τ).loc main_arg4) : FVec Ideal S2048x1408 .f32) (ix2 R l) := by
  have e : (pcfg0.win (adm m (admissible m)) 3).index t = ![t.val, 0] := (idx m t).2.1
  unfold block3
  blk_point [iblk, V]
  · exact (congrArg (fun x : ℕ => x * 256 + r.val) (congrFun e 0)).trans hR.symm
  · exact (congrArg (fun x : ℕ => x * 1408 + l.val) (congrFun e 1)).trans (by simp)

theorem blk4 (c : Dev nD) (t : Fin (cfgM m (admissible m)).N) (r : Fin 256) (l : Fin 1408) (R : Fin 2048) (hR : R.val = t.val * 256 + r.val) :
    block4 m c t (ix2 r l) = (m ((c : Thread nD τ).loc main_arg5) : FVec Ideal S2048x1408 .f32) (ix2 R l) := by
  have e : (pcfg0.win (adm m (admissible m)) 4).index t = ![t.val, 0] := (idx m t).2.2.1
  unfold block4
  blk_point [iblk, V]
  · exact (congrArg (fun x : ℕ => x * 256 + r.val) (congrFun e 0)).trans hR.symm
  · exact (congrArg (fun x : ℕ => x * 1408 + l.val) (congrFun e 1)).trans (by simp)

/-- Where the half is this device's, its block is the tile's rows of it. -/
theorem blk1 (c : Dev nD) (t : Fin (cfgM m (admissible m)).N) (h : tword (tbl m) = BitVec.ofNat 32 (t.val / 4)) (r : Fin 256) (l : Fin 1408) (R : Fin 1024) (hR : R.val = t.val % 4 * 256 + r.val) :
    block1 m c t (ix2 r l) = (m ((c : Thread nD τ).loc main_arg2) : FVec Ideal S1024x1408 .f32) (ix2 R l) := by
  have e : (pcfg0.win (adm m (admissible m)) 1).index t = ![t.val % 4, 0] := (idx1 m t).trans (by rw [if_pos h])
  unfold block1
  blk_point [iblk, V]
  · exact (congrArg (fun x : ℕ => x * 256 + r.val) (congrFun e 0)).trans hR.symm
  · exact (congrArg (fun x : ℕ => x * 1408 + l.val) (congrFun e 1)).trans (by simp)

/-- Where the half is the partner's, its block is the tile's rows of it. -/
theorem blk2 (c : Dev nD) (t : Fin (cfgM m (admissible m)).N) (h : ¬tword (tbl m) = BitVec.ofNat 32 (t.val / 4)) (r : Fin 256) (l : Fin 1408) (R : Fin 1024) (hR : R.val = t.val % 4 * 256 + r.val) :
    block2 m c t (ix2 r l) = (m ((c : Thread nD τ).loc main_arg3) : FVec Ideal S1024x1408 .f32) (ix2 R l) := by
  have e : (pcfg0.win (adm m (admissible m)) 2).index t = ![t.val % 4, 0] := (idx2 m t).trans (by rw [if_neg h])
  unfold block2
  blk_point [iblk, V]
  · exact (congrArg (fun x : ℕ => x * 256 + r.val) (congrFun e 0)).trans hR.symm
  · exact (congrArg (fun x : ℕ => x * 1408 + l.val) (congrFun e 1)).trans (by simp)

/-- The gradient's block at a point. -/
def gradOf (c : Dev nD) (t : Fin (cfgM m (admissible m)).N) : FVec Ideal S256x1408 .f32 :=
  k0_pay3 (F := Ideal) (grid0.coords t) (tword (tbl m)) (block1 m c t) (block2 m c t)

/-- The first moment's. -/
def momOf (c : Dev nD) (t : Fin (cfgM m (admissible m)).N) : FVec Ideal S256x1408 .f32 :=
  k0_pay4 (F := Ideal) (grid0.coords t) (tword (tbl m)) (block1 m c t) (block2 m c t) (block3 m c t)

/-- The second moment's. -/
def secOf (c : Dev nD) (t : Fin (cfgM m (admissible m)).N) : FVec Ideal S256x1408 .f32 :=
  k0_pay1 (F := Ideal) (k0_pay5 (F := Ideal) (block4 m c t)) (k0_pay6 (F := Ideal) (grid0.coords t) (tword (tbl m)) (block1 m c t) (block2 m c t))
    (Scalar.ofBits .f32 0x3A83126F#32)

/-- The change's. -/
def changeOf (c : Dev nD) (t : Fin (cfgM m (admissible m)).N) : FVec Ideal S256x1408 .f32 :=
  k0_pay2 (F := Ideal) (block0 m c t) (momOf m c t) (k0_pay5 (F := Ideal) (block4 m c t))
    (k0_pay6 (F := Ideal) (grid0.coords t) (tword (tbl m)) (block1 m c t) (block2 m c t)) (Scalar.ofBits .f32 0x3A83126F#32)

theorem gradOf_at (c : Dev nD) (t : Fin (cfgM m (admissible m)).N) (r : Fin 256) (l : Fin 1408) (R : Fin 2048) (hR : R.val = t.val * 256 + r.val) :
    gradOf m c t (ix2 r l)
      = Cert.RefAdamGateIdeal.Value.grad (m ((c : Thread nD τ).loc main_arg0)) (m ((c : Thread nD τ).loc main_arg2)) (m ((c : Thread nD τ).loc main_arg3)) (ix2 R l) := by
  have ht : t.val < 8 := t.isLt
  have hr := r.isLt
  unfold gradOf
  rw [pay3_at, coord m t, Cert.RefAdamGateIdeal.Value.grad_at _ _ _ (t.val / 4) (by omega) ⟨t.val % 4 * 256 + r.val, by omega⟩ l R (by simp only; omega),
    ← tword_eq m c]
  unfold Cert.AdamTerms.pick
  by_cases h : tword (tbl m) = BitVec.ofNat 32 (t.val / 4)
  · rw [if_pos h, if_pos h]
    exact blk1 m c t h r l _ rfl
  · rw [if_neg h, if_neg h]
    exact blk2 m c t h r l _ rfl

theorem momOf_at (c : Dev nD) (t : Fin (cfgM m (admissible m)).N) (r : Fin 256) (l : Fin 1408) (R : Fin 2048) (hR : R.val = t.val * 256 + r.val) :
    momOf m c t (ix2 r l) = Cert.RefAdamGateIdeal.Value.mom (m ((c : Thread nD τ).loc main_arg0)) (m ((c : Thread nD τ).loc main_arg2)) (m ((c : Thread nD τ).loc main_arg3)) (m ((c : Thread nD τ).loc main_arg4)) (ix2 R l) := by
  rw [Cert.RefAdamGateIdeal.Value.mom_at, ← gradOf_at m c t r l R hR]
  unfold momOf
  rw [pay4_at, blk3 m c t r l R hR]
  rfl

theorem secOf_at (c : Dev nD) (t : Fin (cfgM m (admissible m)).N) (r : Fin 256) (l : Fin 1408) (R : Fin 2048) (hR : R.val = t.val * 256 + r.val) :
    secOf m c t (ix2 r l) = Cert.RefAdamGateIdeal.Value.sec (m ((c : Thread nD τ).loc main_arg0)) (m ((c : Thread nD τ).loc main_arg2)) (m ((c : Thread nD τ).loc main_arg3)) (m ((c : Thread nD τ).loc main_arg5)) (ix2 R l) := by
  rw [Cert.RefAdamGateIdeal.Value.sec_at, ← gradOf_at m c t r l R hR]
  unfold secOf
  rw [sec_at, blk4 m c t r l R hR]
  rfl

theorem changeOf_at (c : Dev nD) (t : Fin (cfgM m (admissible m)).N) (r : Fin 256) (l : Fin 1408) (R : Fin 2048) (hR : R.val = t.val * 256 + r.val) :
    changeOf m c t (ix2 r l) = Cert.RefAdamGateIdeal.Value.delta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R l) := by
  rw [Cert.RefAdamGateIdeal.Value.delta_at, ← momOf_at m c t r l R hR, ← secOf_at m c t r l R hR, ← blk0 m c t r l R hR]
  unfold changeOf
  rw [pay2_at]
  rfl

theorem outs_5 (c : Dev nD) (t : Fin (cfgM m (admissible m)).N) : (outsAt0 m (admissible m) c t).1 = gradOf m c t := by
  unfold outsAt0
  frame_out
  exact Cert.AdamTerms.congr5 (fun _ x y _ _ => k0_pay3 (F := Ideal) (grid0.coords t) (tword (tbl m)) x y) (rfl : block0 m c t = _)
    ((hs0_1 m (admissible m) t).read_unread _) ((hs0_2 m (admissible m) t).read_unread _) (rfl : block0 m c t = _) (rfl : block0 m c t = _)

theorem outs_6 (c : Dev nD) (t : Fin (cfgM m (admissible m)).N) : (outsAt0 m (admissible m) c t).2.1 = changeOf m c t := by
  unfold outsAt0
  frame_out
  exact Cert.AdamTerms.congr5 (fun w x y a b => k0_pay2 (F := Ideal) w (k0_pay4 (F := Ideal) (grid0.coords t) (tword (tbl m)) x y a) (k0_pay5 (F := Ideal) b)
    (k0_pay6 (F := Ideal) (grid0.coords t) (tword (tbl m)) x y) (Scalar.ofBits .f32 0x3A83126F#32)) ((hs0_0 m (admissible m) t).read_unread _)
    ((hs0_1 m (admissible m) t).read_unread _) ((hs0_2 m (admissible m) t).read_unread _) ((hs0_3 m (admissible m) t).read_unread _) ((hs0_4 m (admissible m) t).read_unread _)

theorem outs_7 (c : Dev nD) (t : Fin (cfgM m (admissible m)).N) : (outsAt0 m (admissible m) c t).2.2.1 = momOf m c t := by
  unfold outsAt0
  frame_out
  exact Cert.AdamTerms.congr5 (fun _ x y a _ => k0_pay4 (F := Ideal) (grid0.coords t) (tword (tbl m)) x y a) (rfl : block0 m c t = _)
    ((hs0_1 m (admissible m) t).read_unread _) ((hs0_2 m (admissible m) t).read_unread _) ((hs0_3 m (admissible m) t).read_unread _) (rfl : block0 m c t = _)

theorem outs_8 (c : Dev nD) (t : Fin (cfgM m (admissible m)).N) : (outsAt0 m (admissible m) c t).2.2.2 = secOf m c t := by
  unfold outsAt0
  frame_out
  exact Cert.AdamTerms.congr5 (fun _ x y _ b => k0_pay1 (F := Ideal) (k0_pay5 (F := Ideal) b)
    (k0_pay6 (F := Ideal) (grid0.coords t) (tword (tbl m)) x y) (Scalar.ofBits .f32 0x3A83126F#32)) (rfl : block0 m c t = _)
    ((hs0_1 m (admissible m) t).read_unread _) ((hs0_2 m (admissible m) t).read_unread _) (rfl : block0 m c t = _) ((hs0_4 m (admissible m) t).read_unread _)

theorem tileIdx (y : S256x1408.Idx) : ∃ (r : Fin 256) (l : Fin 1408), y = ix2 r l := ⟨y 0, y 1, (ix2_eta y).symm⟩

theorem arrIdx (y : S2048x1408.Idx) : ∃ (r : Fin 2048) (l : Fin 1408), y = ix2 r l := ⟨y 0, y 1, (ix2_eta y).symm⟩

/-- The gradient at the end is the reference's. -/
theorem final_grad (c : Dev nD) : (dats m (admissible m) 0 c).arrAt 5 (cfgM m (admissible m)).N
    = Cert.RefAdamGateIdeal.Value.grad (m ((c : Thread nD τ).loc main_arg0)) (m ((c : Thread nD τ).loc main_arg2)) (m ((c : Thread nD τ).loc main_arg3)) := by
  have place : ∀ (t : Fin (cfgM m (admissible m)).N) (r : Fin 256) (l : Fin 1408) (R : Fin 2048), R.val = t.val * 256 + r.val →
      (((cfgM m (admissible m)).win 5).blk t).view.emb (ix2 r l) = (ix2 R l : S2048x1408.Idx) := by
    intro t r l R hR
    have e : (pcfg0.win (adm m (admissible m)) 5).index t = ![t.val, 0] := (idx m t).2.2.2.1
    blk_ext []
    · exact (congrArg (fun x : ℕ => x * 256 + r.val) (congrFun e 0)).trans hR.symm
    · exact (congrArg (fun x : ℕ => x * 1408 + l.val) (congrFun e 1)).trans (by simp)
  refine (dats m (admissible m) 0 c).arrAt_eq_of_emb 5 _ (fun t hf y => ?_) fun i => ?_
  · have ht : t.val < 8 := t.isLt
    obtain ⟨r, l, rfl⟩ := tileIdx y
    have key := gradOf_at m c t r l ⟨t.val * 256 + r.val, by omega⟩ rfl
    rw [place t r l ⟨t.val * 256 + r.val, by omega⟩ rfl, after0_5, outs_5]
    exact key
  · obtain ⟨R, l, rfl⟩ := arrIdx i
    have hR := R.isLt
    refine ⟨(⟨R.val / 256, by omega⟩ : Fin 8), flush0_5 _ _, ?_⟩
    have e := place (⟨R.val / 256, by omega⟩ : Fin 8) ⟨R.val % 256, by omega⟩ l R (by simp only; omega)
    rw [← e]
    exact View.emb_mem_set _ _

/-- The weight's change at the end is the reference's. -/
theorem final_delta (c : Dev nD) : (dats m (admissible m) 0 c).arrAt 6 (cfgM m (admissible m)).N
    = Cert.RefAdamGateIdeal.Value.delta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have place : ∀ (t : Fin (cfgM m (admissible m)).N) (r : Fin 256) (l : Fin 1408) (R : Fin 2048), R.val = t.val * 256 + r.val →
      (((cfgM m (admissible m)).win 6).blk t).view.emb (ix2 r l) = (ix2 R l : S2048x1408.Idx) := by
    intro t r l R hR
    have e : (pcfg0.win (adm m (admissible m)) 6).index t = ![t.val, 0] := (idx m t).2.2.2.2.1
    blk_ext []
    · exact (congrArg (fun x : ℕ => x * 256 + r.val) (congrFun e 0)).trans hR.symm
    · exact (congrArg (fun x : ℕ => x * 1408 + l.val) (congrFun e 1)).trans (by simp)
  refine (dats m (admissible m) 0 c).arrAt_eq_of_emb 6 _ (fun t hf y => ?_) fun i => ?_
  · have ht : t.val < 8 := t.isLt
    obtain ⟨r, l, rfl⟩ := tileIdx y
    have key := changeOf_at m c t r l ⟨t.val * 256 + r.val, by omega⟩ rfl
    rw [place t r l ⟨t.val * 256 + r.val, by omega⟩ rfl, after0_6, outs_6]
    exact key
  · obtain ⟨R, l, rfl⟩ := arrIdx i
    have hR := R.isLt
    refine ⟨(⟨R.val / 256, by omega⟩ : Fin 8), flush0_6 _ _, ?_⟩
    have e := place (⟨R.val / 256, by omega⟩ : Fin 8) ⟨R.val % 256, by omega⟩ l R (by simp only; omega)
    rw [← e]
    exact View.emb_mem_set _ _

/-- The first moment at the end is the reference's. -/
theorem final_mom (c : Dev nD) : (dats m (admissible m) 0 c).arrAt 7 (cfgM m (admissible m)).N
    = Cert.RefAdamGateIdeal.Value.mom (m ((c : Thread nD τ).loc main_arg0)) (m ((c : Thread nD τ).loc main_arg2)) (m ((c : Thread nD τ).loc main_arg3)) (m ((c : Thread nD τ).loc main_arg4)) := by
  have place : ∀ (t : Fin (cfgM m (admissible m)).N) (r : Fin 256) (l : Fin 1408) (R : Fin 2048), R.val = t.val * 256 + r.val →
      (((cfgM m (admissible m)).win 7).blk t).view.emb (ix2 r l) = (ix2 R l : S2048x1408.Idx) := by
    intro t r l R hR
    have e : (pcfg0.win (adm m (admissible m)) 7).index t = ![t.val, 0] := (idx m t).2.2.2.2.2.1
    blk_ext []
    · exact (congrArg (fun x : ℕ => x * 256 + r.val) (congrFun e 0)).trans hR.symm
    · exact (congrArg (fun x : ℕ => x * 1408 + l.val) (congrFun e 1)).trans (by simp)
  refine (dats m (admissible m) 0 c).arrAt_eq_of_emb 7 _ (fun t hf y => ?_) fun i => ?_
  · have ht : t.val < 8 := t.isLt
    obtain ⟨r, l, rfl⟩ := tileIdx y
    have key := momOf_at m c t r l ⟨t.val * 256 + r.val, by omega⟩ rfl
    rw [place t r l ⟨t.val * 256 + r.val, by omega⟩ rfl, after0_7, outs_7]
    exact key
  · obtain ⟨R, l, rfl⟩ := arrIdx i
    have hR := R.isLt
    refine ⟨(⟨R.val / 256, by omega⟩ : Fin 8), flush0_7 _ _, ?_⟩
    have e := place (⟨R.val / 256, by omega⟩ : Fin 8) ⟨R.val % 256, by omega⟩ l R (by simp only; omega)
    rw [← e]
    exact View.emb_mem_set _ _

/-- The second moment at the end is the reference's. -/
theorem final_sec (c : Dev nD) : (dats m (admissible m) 0 c).arrAt 8 (cfgM m (admissible m)).N
    = Cert.RefAdamGateIdeal.Value.sec (m ((c : Thread nD τ).loc main_arg0)) (m ((c : Thread nD τ).loc main_arg2)) (m ((c : Thread nD τ).loc main_arg3)) (m ((c : Thread nD τ).loc main_arg5)) := by
  have place : ∀ (t : Fin (cfgM m (admissible m)).N) (r : Fin 256) (l : Fin 1408) (R : Fin 2048), R.val = t.val * 256 + r.val →
      (((cfgM m (admissible m)).win 8).blk t).view.emb (ix2 r l) = (ix2 R l : S2048x1408.Idx) := by
    intro t r l R hR
    have e : (pcfg0.win (adm m (admissible m)) 8).index t = ![t.val, 0] := (idx m t).2.2.2.2.2.2
    blk_ext []
    · exact (congrArg (fun x : ℕ => x * 256 + r.val) (congrFun e 0)).trans hR.symm
    · exact (congrArg (fun x : ℕ => x * 1408 + l.val) (congrFun e 1)).trans (by simp)
  refine (dats m (admissible m) 0 c).arrAt_eq_of_emb 8 _ (fun t hf y => ?_) fun i => ?_
  · have ht : t.val < 8 := t.isLt
    obtain ⟨r, l, rfl⟩ := tileIdx y
    have key := secOf_at m c t r l ⟨t.val * 256 + r.val, by omega⟩ rfl
    rw [place t r l ⟨t.val * 256 + r.val, by omega⟩ rfl, after0_8, outs_8]
    exact key
  · obtain ⟨R, l, rfl⟩ := arrIdx i
    have hR := R.isLt
    refine ⟨(⟨R.val / 256, by omega⟩ : Fin 8), flush0_8 _ _, ?_⟩
    have e := place (⟨R.val / 256, by omega⟩ : Fin 8) ⟨R.val % 256, by omega⟩ l R (by simp only; omega)
    rw [← e]
    exact View.emb_mem_set _ _

end Cert.AdamGateIdeal.Value

end
-- ==== Proof.AdamDown.lean ====
module

public import proofs.«01_k».proof.Proof.Gen.RefAdamDownIdeal.Run
public import proofs.«01_k».proof.Proof.Gen.AdamDown.Frame
public import proofs.«01_k».proof.Proof.Gen.AdamDownIdeal.Frame
public import proofs.«01_k».proof.Proof.Adam
public import Idealize.ShloMosaic.Lib.Pointwise
public import Idealize.ShloMosaic.Lib.Pipeline.ValueKit
public import Idealize.ShloMosaic.Lib.Pipeline.Value

@[expose] public section

set_option maxRecDepth 16384

noncomputable section

/-! The optimiser's step. -/

namespace Cert.RefAdamDownIdeal.Value

open Cert.RefAdamDownIdeal Cert.RefAdamDownIdeal.Gen Idealize.ShloMosaic Idealize.SL.Sem

/-- The word that says which half is this device's. -/
def word (t : IVec S2 32) : IVec S_ 32 := shapeCast _ (extractStridedSlice S1 ![1] t slices_S2_S1_1) shapeCasts_S1_S_

/-- Half `b` of the gradient. -/
def half (b : BitVec 32) (t : IVec S2 32) (mine theirs : FVec Ideal S704x2048 .f32) : FVec Ideal S704x2048 .f32 :=
  select (broadcastInDim S704x2048 ![] bcast_S_S704x2048 (cmpi .eq (word t) (constantI S_ 32 b))) mine theirs

/-- The gradient. -/
def grad (t : IVec S2 32) (mine theirs : FVec Ideal S704x2048 .f32) : FVec Ideal S1408x2048 .f32 :=
  concatenate S1408x2048 0 [⟨S704x2048, half 0#32 t mine theirs⟩, ⟨S704x2048, half 1#32 t mine theirs⟩] concatenates_S704x2048_S704x2048_S1408x2048_d0

/-- The first moment. -/
def mom (t : IVec S2 32) (mine theirs : FVec Ideal S704x2048 .f32) (m : FVec Ideal S1408x2048 .f32) : FVec Ideal S1408x2048 .f32 :=
  addf (mulf (broadcastInDim S1408x2048 ![] bcast_S_S1408x2048 (constant S_ .f32 0x3F666666#32)) m) (mulf (broadcastInDim S1408x2048 ![] bcast_S_S1408x2048 (constant S_ .f32 0x3DCCCCCD#32)) (grad t mine theirs))

/-- The second moment. -/
def sec (t : IVec S2 32) (mine theirs : FVec Ideal S704x2048 .f32) (v : FVec Ideal S1408x2048 .f32) : FVec Ideal S1408x2048 .f32 :=
  addf (mulf (broadcastInDim S1408x2048 ![] bcast_S_S1408x2048 (constant S_ .f32 0x3F7FBE77#32)) v) (mulf (broadcastInDim S1408x2048 ![] bcast_S_S1408x2048 (constant S_ .f32 0x3A83126F#32)) (mulf (grad t mine theirs) (grad t mine theirs)))

/-- The change of the weight. -/
def delta (t : IVec S2 32) (w : FVec Ideal S1408x2048 .f32) (mine theirs : FVec Ideal S704x2048 .f32) (m v : FVec Ideal S1408x2048 .f32) : FVec Ideal S1408x2048 .f32 :=
  mulf (broadcastInDim S1408x2048 ![] bcast_S_S1408x2048 (constant S_ .f32 0xBA83126F#32)) (addf (Host.divf (Host.divf (mom t mine theirs m) (broadcastInDim S1408x2048 ![] bcast_S_S1408x2048 (constant S_ .f32 0x3F26BD02#32)))
    (addf (Host.sqrt (Host.divf (sec t mine theirs v) (broadcastInDim S1408x2048 ![] bcast_S_S1408x2048 (constant S_ .f32 0x3C231ACC#32)))) (broadcastInDim S1408x2048 ![] bcast_S_S1408x2048 (constant S_ .f32 0x322BCC77#32))))
    (mulf (broadcastInDim S1408x2048 ![] bcast_S_S1408x2048 (constant S_ .f32 0x3C23D70A#32)) w))

theorem mom_at (t : IVec S2 32) (mine theirs : FVec Ideal S704x2048 .f32) (m : FVec Ideal S1408x2048 .f32) (r : Fin 1408) (l : Fin 2048) :
    mom t mine theirs m (ix2 r l) = Cert.AdamTerms.first (grad t mine theirs (ix2 r l)) (m (ix2 r l)) := by
  unfold mom Cert.AdamTerms.first
  generalize grad t mine theirs = g
  pointwise []

theorem sec_at (t : IVec S2 32) (mine theirs : FVec Ideal S704x2048 .f32) (v : FVec Ideal S1408x2048 .f32) (r : Fin 1408) (l : Fin 2048) :
    sec t mine theirs v (ix2 r l) = Cert.AdamTerms.second (grad t mine theirs (ix2 r l)) (v (ix2 r l)) := by
  unfold sec Cert.AdamTerms.second
  generalize grad t mine theirs = g
  pointwise []

theorem delta_at (t : IVec S2 32) (w : FVec Ideal S1408x2048 .f32) (mine theirs : FVec Ideal S704x2048 .f32) (m v : FVec Ideal S1408x2048 .f32) (r : Fin 1408) (l : Fin 2048) :
    delta t w mine theirs m v (ix2 r l) = Cert.AdamTerms.change (w (ix2 r l)) (mom t mine theirs m (ix2 r l)) (sec t mine theirs v (ix2 r l)) := by
  unfold delta Cert.AdamTerms.change
  generalize mom t mine theirs m = a
  generalize sec t mine theirs v = b
  pointwise []

theorem half_at (b : ℕ) (t : IVec S2 32) (mine theirs : FVec Ideal S704x2048 .f32) (r : Fin 704) (l : Fin 2048) :
    half (BitVec.ofNat 32 b) t mine theirs (ix2 r l) = Cert.AdamTerms.pick (t (ix1 1)) b (mine (ix2 r l)) (theirs (ix2 r l)) := by
  unfold Cert.AdamTerms.pick
  generalize BitVec.ofNat 32 b = k
  pointwise [half, word]
  exact Cert.AdamTerms.sel_eq _ _ _ _

theorem grad_at (t : IVec S2 32) (mine theirs : FVec Ideal S704x2048 .f32) (b : ℕ) (hb : b < 2) (r : Fin 704) (l : Fin 2048) (R : Fin 1408) (hR : R.val = b * 704 + r.val) :
    grad t mine theirs (ix2 R l) = Cert.AdamTerms.pick (t (ix1 1)) b (mine (ix2 r l)) (theirs (ix2 r l)) := by
  have e0 := half_at 0 t mine theirs
  have e1 := half_at 1 t mine theirs
  unfold grad
  generalize half 0#32 t mine theirs = x at e0
  generalize half 1#32 t mine theirs = y at e1
  pointwise []
  have hr := r.isLt
  by_cases h : R.val < 704
  · have hb0 : b = 0 := by omega
    subst hb0
    rw [dif_pos h, e0]
    have e : (⟨R.val, h⟩ : Fin 704) = r := Fin.ext (by simp only; omega)
    rw [e]
  · have hb1 : b = 1 := by omega
    subst hb1
    rw [dif_neg h, e1]
    have e : (⟨R.val - 704, by omega⟩ : Fin 704) = r := Fin.ext (by simp only; omega)
    rw [e]

end Cert.RefAdamDownIdeal.Value

namespace Cert.AdamDown.Value

open Cert.AdamDown Cert.AdamDown.Gen Idealize.ShloMosaic Idealize.ShloMosaic.TcCoe Idealize.SL.Sem

variable {F : FTy → Type} [FloatOps F]
variable (m : (ℓ : Loc nD τ sig) → Buf (Elt F) ℓ)

/-- The table's word. -/
def tword (pf : pre0.Contents (Elt F)) : BitVec 32 := pf.at 0 (Rect.unit (s := S2) ![1] S1.size inb_S2_S1_1) numel1_S1

theorem map1 (pf : pre0.Contents (Elt F)) (i : grid0.Coords) : cc0_transform_1 inb_S2_S1_1 numel1_S1 pf i
    = ![if tword pf = BitVec.ofNat 32 ((i 0).val / 4) then (i 0).val % 4 else 0, 0] := by
  rw [← Cert.AdamTerms.tile4 (i 0) (tword pf)]
  rfl

theorem map2 (pf : pre0.Contents (Elt F)) (i : grid0.Coords) : cc0_transform_2 inb_S2_S1_1 numel1_S1 pf i
    = ![if tword pf = BitVec.ofNat 32 ((i 0).val / 4) then 0 else (i 0).val % 4, 0] := by
  rw [← Cert.AdamTerms.tile4' (i 0) (tword pf)]
  rfl

/-- Whatever the table holds, every block named lies in its array. -/
theorem admissible : Ok m := by
  refine ⟨fun i => ⟨?_, .inl rfl⟩, fun i => ⟨?_, .inl rfl⟩⟩
  · rw [map1]
    intro a
    fin_cases a
    · exact Cert.AdamTerms.room _ 176
    · exact le_refl 2048
  · rw [map2]
    intro a
    fin_cases a
    · exact Cert.AdamTerms.room' _ 176
    · exact le_refl 2048

end Cert.AdamDown.Value

namespace Cert.AdamDownIdeal.Value

open Cert.AdamDownIdeal Cert.AdamDownIdeal.Gen Idealize.ShloMosaic Idealize.ShloMosaic.TcCoe Idealize.SL.Sem
open Idealize.ShloMosaic.Pipeline (Dat)

section any

variable {F : FTy → Type} [FloatOps F]
variable (m : (ℓ : Loc nD τ sig) → Buf (Elt F) ℓ)

/-- The table's word. -/
def tword (pf : pre0.Contents (Elt F)) : BitVec 32 := pf.at 0 (Rect.unit (s := S2) ![1] S1.size inb_S2_S1_1) numel1_S1

theorem map1 (pf : pre0.Contents (Elt F)) (i : grid0.Coords) : cc0_transform_1 inb_S2_S1_1 numel1_S1 pf i
    = ![if tword pf = BitVec.ofNat 32 ((i 0).val / 4) then (i 0).val % 4 else 0, 0] := by
  rw [← Cert.AdamTerms.tile4 (i 0) (tword pf)]
  rfl

theorem map2 (pf : pre0.Contents (Elt F)) (i : grid0.Coords) : cc0_transform_2 inb_S2_S1_1 numel1_S1 pf i
    = ![if tword pf = BitVec.ofNat 32 ((i 0).val / 4) then 0 else (i 0).val % 4, 0] := by
  rw [← Cert.AdamTerms.tile4' (i 0) (tword pf)]
  rfl

/-- Whatever the table holds, every block named lies in its array. -/
theorem admissible : Ok m := by
  refine ⟨fun i => ⟨?_, .inl rfl⟩, fun i => ⟨?_, .inl rfl⟩⟩
  · rw [map1]
    intro a
    fin_cases a
    · exact Cert.AdamTerms.room _ 176
    · exact le_refl 2048
  · rw [map2]
    intro a
    fin_cases a
    · exact Cert.AdamTerms.room' _ 176
    · exact le_refl 2048

end any

variable (m : (ℓ : Loc nD τ sig) → Buf (Elt Ideal) ℓ) (ρ : Dev nD → PrngReg)

/-- The program's run: the four results, and the arguments unchanged. -/
theorem run_blocks : θ_run defs (onTc (τ := τ) (main (F := Ideal))) ⟨m, fun _ => 0, ρ⟩ fun r => ∀ c : Dev nD,
      r.2.mem ((c : Thread nD τ).loc main_v0_0) = (dats m (admissible m) 0 c).arrAt 5 (cfgM m (admissible m)).N
      ∧ r.2.mem ((c : Thread nD τ).loc main_v0_1) = (dats m (admissible m) 0 c).arrAt 6 (cfgM m (admissible m)).N
      ∧ r.2.mem ((c : Thread nD τ).loc main_v0_2) = (dats m (admissible m) 0 c).arrAt 7 (cfgM m (admissible m)).N
      ∧ r.2.mem ((c : Thread nD τ).loc main_v0_3) = (dats m (admissible m) 0 c).arrAt 8 (cfgM m (admissible m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 5, (h c).1 6, (h c).1 7, (h c).1 8,
      ((h c).2 main_arg0 (by decide : main_arg0 ∈ Pipeline.restRefs sig spec0)).trans (V_main_arg0 m c),
      ((h c).1 0).trans (((dats m (admissible m) 0 c).arrAt_in 0 rfl _).trans ((A_eq m (admissible m) c 0).trans (V_main_arg1 m c))),
      ((h c).1 1).trans (((dats m (admissible m) 0 c).arrAt_in 1 rfl _).trans ((A_eq m (admissible m) c 1).trans (V_main_arg2 m c))),
      ((h c).1 2).trans (((dats m (admissible m) 0 c).arrAt_in 2 rfl _).trans ((A_eq m (admissible m) c 2).trans (V_main_arg3 m c))),
      ((h c).1 3).trans (((dats m (admissible m) 0 c).arrAt_in 3 rfl _).trans ((A_eq m (admissible m) c 3).trans (V_main_arg4 m c))),
      ((h c).1 4).trans (((dats m (admissible m) 0 c).arrAt_in 4 rfl _).trans ((A_eq m (admissible m) c 4).trans (V_main_arg5 m c)))⟩)
    (run_main m ρ (admissible m))

theorem pay3_at (i : grid0.Coords) (w : BitVec 32) (x y : FVec Ideal S176x2048 .f32) (r : Fin 176) (l : Fin 2048) :
    k0_pay3 (F := Ideal) i w x y (ix2 r l) = Cert.AdamTerms.pick w ((i 0).val / 4) (x (ix2 r l)) (y (ix2 r l)) := by
  have e : k0_pay3 (F := Ideal) i w x y = Scalar.select (IntOp.cmpi .eq (Cert.AdamTerms.quo (BitVec.ofNat 32 (i 0).val) 4#32) w) x y := rfl
  rw [e, Cert.AdamTerms.sel_eq, Cert.AdamTerms.quo4 (i 0)]
  unfold Cert.AdamTerms.pick
  by_cases h : w = BitVec.ofNat 32 ((i 0).val / 4)
  · rw [if_pos h.symm, if_pos h]
  · rw [if_neg (fun e => h e.symm), if_neg h]

theorem pay4_at (i : grid0.Coords) (w : BitVec 32) (x y z : FVec Ideal S176x2048 .f32) (r : Fin 176) (l : Fin 2048) :
    k0_pay4 (F := Ideal) i w x y z (ix2 r l) = Cert.AdamTerms.first (k0_pay3 (F := Ideal) i w x y (ix2 r l)) (z (ix2 r l)) := by
  unfold k0_pay4 Cert.AdamTerms.first
  generalize k0_pay3 (F := Ideal) i w x y = g
  pointwise []

theorem sec_at (i : grid0.Coords) (w : BitVec 32) (x y z : FVec Ideal S176x2048 .f32) (r : Fin 176) (l : Fin 2048) :
    k0_pay1 (F := Ideal) (k0_pay5 (F := Ideal) z) (k0_pay6 (F := Ideal) i w x y) (Scalar.ofBits .f32 0x3A83126F#32) (ix2 r l)
      = Cert.AdamTerms.second (k0_pay3 (F := Ideal) i w x y (ix2 r l)) (z (ix2 r l)) := by
  unfold k0_pay1 k0_pay5 k0_pay6 Cert.AdamTerms.second
  generalize k0_pay3 (F := Ideal) i w x y = g
  pointwise []

theorem pay2_at (w a b c : FVec Ideal S176x2048 .f32) (s : EReal) (r : Fin 176) (l : Fin 2048) :
    k0_pay2 (F := Ideal) w a b c s (ix2 r l) = Cert.AdamTerms.change (w (ix2 r l)) (a (ix2 r l)) (k0_pay1 (F := Ideal) b c s (ix2 r l)) := by
  unfold k0_pay2 Cert.AdamTerms.change
  generalize k0_pay1 (F := Ideal) b c s = v
  pointwise []

/-- The table's word is the second of the first argument. -/
theorem tword_eq (c : Dev nD) : tword (tbl m) = (m ((c : Thread nD τ).loc main_arg0) : IVec S2 32) (ix1 1) := by
  obtain rfl : c = (0 : Fin 1) := Fin.eq_zero _
  show m _ _ = m _ _
  refine congrArg (m _) ?_
  funext a
  fin_cases a
  rfl

/-- The windows' places. -/
theorem idx (t : Fin (cfgM m (admissible m)).N) : (pcfg0.win (adm m (admissible m)) 0).index t = ![t.val, 0]
    ∧ (pcfg0.win (adm m (admissible m)) 3).index t = ![t.val, 0]
    ∧ (pcfg0.win (adm m (admissible m)) 4).index t = ![t.val, 0]
    ∧ (pcfg0.win (adm m (admissible m)) 5).index t = ![t.val, 0]
    ∧ (pcfg0.win (adm m (admissible m)) 6).index t = ![t.val, 0]
    ∧ (pcfg0.win (adm m (admissible m)) 7).index t = ![t.val, 0]
    ∧ (pcfg0.win (adm m (admissible m)) 8).index t = ![t.val, 0] :=
  (by decide +kernel : ∀ t : Fin grid0.N, cc0_transform_0 (grid0.coords t) = ![t.val, 0]
    ∧ cc0_transform_3 (grid0.coords t) = ![t.val, 0]
    ∧ cc0_transform_4 (grid0.coords t) = ![t.val, 0]
    ∧ cc0_transform_5 (grid0.coords t) = ![t.val, 0]
    ∧ cc0_transform_6 (grid0.coords t) = ![t.val, 0]
    ∧ cc0_transform_7 (grid0.coords t) = ![t.val, 0]
    ∧ cc0_transform_8 (grid0.coords t) = ![t.val, 0]) t

theorem coord (t : Fin (cfgM m (admissible m)).N) : (grid0.coords t 0).val = t.val :=
  (by decide +kernel : ∀ t : Fin grid0.N, (grid0.coords t 0).val = t.val) t

theorem idx1 (t : Fin (cfgM m (admissible m)).N) : (pcfg0.win (adm m (admissible m)) 1).index t
    = ![if tword (tbl m) = BitVec.ofNat 32 (t.val / 4) then t.val % 4 else 0, 0] := by
  have e := map1 (tbl m) (grid0.coords t)
  rw [coord m t] at e
  exact e

theorem idx2 (t : Fin (cfgM m (admissible m)).N) : (pcfg0.win (adm m (admissible m)) 2).index t
    = ![if tword (tbl m) = BitVec.ofNat 32 (t.val / 4) then 0 else t.val % 4, 0] := by
  have e := map2 (tbl m) (grid0.coords t)
  rw [coord m t] at e
  exact e

/-- The blocks a point reads. -/
def block0 (c : Dev nD) (t : Fin (cfgM m (admissible m)).N) : FVec Ideal S176x2048 .f32 := iblk m (admissible m) c 0 t
def block1 (c : Dev nD) (t : Fin (cfgM m (admissible m)).N) : FVec Ideal S176x2048 .f32 := iblk m (admissible m) c 1 t
def block2 (c : Dev nD) (t : Fin (cfgM m (admissible m)).N) : FVec Ideal S176x2048 .f32 := iblk m (admissible m) c 2 t
def block3 (c : Dev nD) (t : Fin (cfgM m (admissible m)).N) : FVec Ideal S176x2048 .f32 := iblk m (admissible m) c 3 t
def block4 (c : Dev nD) (t : Fin (cfgM m (admissible m)).N) : FVec Ideal S176x2048 .f32 := iblk m (admissible m) c 4 t

theorem blk0 (c : Dev nD) (t : Fin (cfgM m (admissible m)).N) (r : Fin 176) (l : Fin 2048) (R : Fin 1408) (hR : R.val = t.val * 176 + r.val) :
    block0 m c t (ix2 r l) = (m ((c : Thread nD τ).loc main_arg1) : FVec Ideal S1408x2048 .f32) (ix2 R l) := by
  have e : (pcfg0.win (adm m (admissible m)) 0).index t = ![t.val, 0] := (idx m t).1
  unfold block0
  blk_point [iblk, V]
  · exact (congrArg (fun x : ℕ => x * 176 + r.val) (congrFun e 0)).trans hR.symm
  · exact (congrArg (fun x : ℕ => x * 2048 + l.val) (congrFun e 1)).trans (by simp)

theorem blk3 (c : Dev nD) (t : Fin (cfgM m (admissible m)).N) (r : Fin 176) (l : Fin 2048) (R : Fin 1408) (hR : R.val = t.val * 176 + r.val) :
    block3 m c t (ix2 r l) = (m ((c : Thread nD τ).loc main_arg4) : FVec Ideal S1408x2048 .f32) (ix2 R l) := by
  have e : (pcfg0.win (adm m (admissible m)) 3).index t = ![t.val, 0] := (idx m t).2.1
  unfold block3
  blk_point [iblk, V]
  · exact (congrArg (fun x : ℕ => x * 176 + r.val) (congrFun e 0)).trans hR.symm
  · exact (congrArg (fun x : ℕ => x * 2048 + l.val) (congrFun e 1)).trans (by simp)

theorem blk4 (c : Dev nD) (t : Fin (cfgM m (admissible m)).N) (r : Fin 176) (l : Fin 2048) (R : Fin 1408) (hR : R.val = t.val * 176 + r.val) :
    block4 m c t (ix2 r l) = (m ((c : Thread nD τ).loc main_arg5) : FVec Ideal S1408x2048 .f32) (ix2 R l) := by
  have e : (pcfg0.win (adm m (admissible m)) 4).index t = ![t.val, 0] := (idx m t).2.2.1
  unfold block4
  blk_point [iblk, V]
  · exact (congrArg (fun x : ℕ => x * 176 + r.val) (congrFun e 0)).trans hR.symm
  · exact (congrArg (fun x : ℕ => x * 2048 + l.val) (congrFun e 1)).trans (by simp)

/-- Where the half is this device's, its block is the tile's rows of it. -/
theorem blk1 (c : Dev nD) (t : Fin (cfgM m (admissible m)).N) (h : tword (tbl m) = BitVec.ofNat 32 (t.val / 4)) (r : Fin 176) (l : Fin 2048) (R : Fin 704) (hR : R.val = t.val % 4 * 176 + r.val) :
    block1 m c t (ix2 r l) = (m ((c : Thread nD τ).loc main_arg2) : FVec Ideal S704x2048 .f32) (ix2 R l) := by
  have e : (pcfg0.win (adm m (admissible m)) 1).index t = ![t.val % 4, 0] := (idx1 m t).trans (by rw [if_pos h])
  unfold block1
  blk_point [iblk, V]
  · exact (congrArg (fun x : ℕ => x * 176 + r.val) (congrFun e 0)).trans hR.symm
  · exact (congrArg (fun x : ℕ => x * 2048 + l.val) (congrFun e 1)).trans (by simp)

/-- Where the half is the partner's, its block is the tile's rows of it. -/
theorem blk2 (c : Dev nD) (t : Fin (cfgM m (admissible m)).N) (h : ¬tword (tbl m) = BitVec.ofNat 32 (t.val / 4)) (r : Fin 176) (l : Fin 2048) (R : Fin 704) (hR : R.val = t.val % 4 * 176 + r.val) :
    block2 m c t (ix2 r l) = (m ((c : Thread nD τ).loc main_arg3) : FVec Ideal S704x2048 .f32) (ix2 R l) := by
  have e : (pcfg0.win (adm m (admissible m)) 2).index t = ![t.val % 4, 0] := (idx2 m t).trans (by rw [if_neg h])
  unfold block2
  blk_point [iblk, V]
  · exact (congrArg (fun x : ℕ => x * 176 + r.val) (congrFun e 0)).trans hR.symm
  · exact (congrArg (fun x : ℕ => x * 2048 + l.val) (congrFun e 1)).trans (by simp)

/-- The gradient's block at a point. -/
def gradOf (c : Dev nD) (t : Fin (cfgM m (admissible m)).N) : FVec Ideal S176x2048 .f32 :=
  k0_pay3 (F := Ideal) (grid0.coords t) (tword (tbl m)) (block1 m c t) (block2 m c t)

/-- The first moment's. -/
def momOf (c : Dev nD) (t : Fin (cfgM m (admissible m)).N) : FVec Ideal S176x2048 .f32 :=
  k0_pay4 (F := Ideal) (grid0.coords t) (tword (tbl m)) (block1 m c t) (block2 m c t) (block3 m c t)

/-- The second moment's. -/
def secOf (c : Dev nD) (t : Fin (cfgM m (admissible m)).N) : FVec Ideal S176x2048 .f32 :=
  k0_pay1 (F := Ideal) (k0_pay5 (F := Ideal) (block4 m c t)) (k0_pay6 (F := Ideal) (grid0.coords t) (tword (tbl m)) (block1 m c t) (block2 m c t))
    (Scalar.ofBits .f32 0x3A83126F#32)

/-- The change's. -/
def changeOf (c : Dev nD) (t : Fin (cfgM m (admissible m)).N) : FVec Ideal S176x2048 .f32 :=
  k0_pay2 (F := Ideal) (block0 m c t) (momOf m c t) (k0_pay5 (F := Ideal) (block4 m c t))
    (k0_pay6 (F := Ideal) (grid0.coords t) (tword (tbl m)) (block1 m c t) (block2 m c t)) (Scalar.ofBits .f32 0x3A83126F#32)

theorem gradOf_at (c : Dev nD) (t : Fin (cfgM m (admissible m)).N) (r : Fin 176) (l : Fin 2048) (R : Fin 1408) (hR : R.val = t.val * 176 + r.val) :
    gradOf m c t (ix2 r l)
      = Cert.RefAdamDownIdeal.Value.grad (m ((c : Thread nD τ).loc main_arg0)) (m ((c : Thread nD τ).loc main_arg2)) (m ((c : Thread nD τ).loc main_arg3)) (ix2 R l) := by
  have ht : t.val < 8 := t.isLt
  have hr := r.isLt
  unfold gradOf
  rw [pay3_at, coord m t, Cert.RefAdamDownIdeal.Value.grad_at _ _ _ (t.val / 4) (by omega) ⟨t.val % 4 * 176 + r.val, by omega⟩ l R (by simp only; omega),
    ← tword_eq m c]
  unfold Cert.AdamTerms.pick
  by_cases h : tword (tbl m) = BitVec.ofNat 32 (t.val / 4)
  · rw [if_pos h, if_pos h]
    exact blk1 m c t h r l _ rfl
  · rw [if_neg h, if_neg h]
    exact blk2 m c t h r l _ rfl

theorem momOf_at (c : Dev nD) (t : Fin (cfgM m (admissible m)).N) (r : Fin 176) (l : Fin 2048) (R : Fin 1408) (hR : R.val = t.val * 176 + r.val) :
    momOf m c t (ix2 r l) = Cert.RefAdamDownIdeal.Value.mom (m ((c : Thread nD τ).loc main_arg0)) (m ((c : Thread nD τ).loc main_arg2)) (m ((c : Thread nD τ).loc main_arg3)) (m ((c : Thread nD τ).loc main_arg4)) (ix2 R l) := by
  rw [Cert.RefAdamDownIdeal.Value.mom_at, ← gradOf_at m c t r l R hR]
  unfold momOf
  rw [pay4_at, blk3 m c t r l R hR]
  rfl

theorem secOf_at (c : Dev nD) (t : Fin (cfgM m (admissible m)).N) (r : Fin 176) (l : Fin 2048) (R : Fin 1408) (hR : R.val = t.val * 176 + r.val) :
    secOf m c t (ix2 r l) = Cert.RefAdamDownIdeal.Value.sec (m ((c : Thread nD τ).loc main_arg0)) (m ((c : Thread nD τ).loc main_arg2)) (m ((c : Thread nD τ).loc main_arg3)) (m ((c : Thread nD τ).loc main_arg5)) (ix2 R l) := by
  rw [Cert.RefAdamDownIdeal.Value.sec_at, ← gradOf_at m c t r l R hR]
  unfold secOf
  rw [sec_at, blk4 m c t r l R hR]
  rfl

theorem changeOf_at (c : Dev nD) (t : Fin (cfgM m (admissible m)).N) (r : Fin 176) (l : Fin 2048) (R : Fin 1408) (hR : R.val = t.val * 176 + r.val) :
    changeOf m c t (ix2 r l) = Cert.RefAdamDownIdeal.Value.delta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R l) := by
  rw [Cert.RefAdamDownIdeal.Value.delta_at, ← momOf_at m c t r l R hR, ← secOf_at m c t r l R hR, ← blk0 m c t r l R hR]
  unfold changeOf
  rw [pay2_at]
  rfl

theorem outs_5 (c : Dev nD) (t : Fin (cfgM m (admissible m)).N) : (outsAt0 m (admissible m) c t).1 = gradOf m c t := by
  unfold outsAt0
  frame_out
  exact Cert.AdamTerms.congr5 (fun _ x y _ _ => k0_pay3 (F := Ideal) (grid0.coords t) (tword (tbl m)) x y) (rfl : block0 m c t = _)
    ((hs0_1 m (admissible m) t).read_unread _) ((hs0_2 m (admissible m) t).read_unread _) (rfl : block0 m c t = _) (rfl : block0 m c t = _)

theorem outs_6 (c : Dev nD) (t : Fin (cfgM m (admissible m)).N) : (outsAt0 m (admissible m) c t).2.1 = changeOf m c t := by
  unfold outsAt0
  frame_out
  exact Cert.AdamTerms.congr5 (fun w x y a b => k0_pay2 (F := Ideal) w (k0_pay4 (F := Ideal) (grid0.coords t) (tword (tbl m)) x y a) (k0_pay5 (F := Ideal) b)
    (k0_pay6 (F := Ideal) (grid0.coords t) (tword (tbl m)) x y) (Scalar.ofBits .f32 0x3A83126F#32)) ((hs0_0 m (admissible m) t).read_unread _)
    ((hs0_1 m (admissible m) t).read_unread _) ((hs0_2 m (admissible m) t).read_unread _) ((hs0_3 m (admissible m) t).read_unread _) ((hs0_4 m (admissible m) t).read_unread _)

theorem outs_7 (c : Dev nD) (t : Fin (cfgM m (admissible m)).N) : (outsAt0 m (admissible m) c t).2.2.1 = momOf m c t := by
  unfold outsAt0
  frame_out
  exact Cert.AdamTerms.congr5 (fun _ x y a _ => k0_pay4 (F := Ideal) (grid0.coords t) (tword (tbl m)) x y a) (rfl : block0 m c t = _)
    ((hs0_1 m (admissible m) t).read_unread _) ((hs0_2 m (admissible m) t).read_unread _) ((hs0_3 m (admissible m) t).read_unread _) (rfl : block0 m c t = _)

theorem outs_8 (c : Dev nD) (t : Fin (cfgM m (admissible m)).N) : (outsAt0 m (admissible m) c t).2.2.2 = secOf m c t := by
  unfold outsAt0
  frame_out
  exact Cert.AdamTerms.congr5 (fun _ x y _ b => k0_pay1 (F := Ideal) (k0_pay5 (F := Ideal) b)
    (k0_pay6 (F := Ideal) (grid0.coords t) (tword (tbl m)) x y) (Scalar.ofBits .f32 0x3A83126F#32)) (rfl : block0 m c t = _)
    ((hs0_1 m (admissible m) t).read_unread _) ((hs0_2 m (admissible m) t).read_unread _) (rfl : block0 m c t = _) ((hs0_4 m (admissible m) t).read_unread _)

theorem tileIdx (y : S176x2048.Idx) : ∃ (r : Fin 176) (l : Fin 2048), y = ix2 r l := ⟨y 0, y 1, (ix2_eta y).symm⟩

theorem arrIdx (y : S1408x2048.Idx) : ∃ (r : Fin 1408) (l : Fin 2048), y = ix2 r l := ⟨y 0, y 1, (ix2_eta y).symm⟩

/-- The gradient at the end is the reference's. -/
theorem final_grad (c : Dev nD) : (dats m (admissible m) 0 c).arrAt 5 (cfgM m (admissible m)).N
    = Cert.RefAdamDownIdeal.Value.grad (m ((c : Thread nD τ).loc main_arg0)) (m ((c : Thread nD τ).loc main_arg2)) (m ((c : Thread nD τ).loc main_arg3)) := by
  have place : ∀ (t : Fin (cfgM m (admissible m)).N) (r : Fin 176) (l : Fin 2048) (R : Fin 1408), R.val = t.val * 176 + r.val →
      (((cfgM m (admissible m)).win 5).blk t).view.emb (ix2 r l) = (ix2 R l : S1408x2048.Idx) := by
    intro t r l R hR
    have e : (pcfg0.win (adm m (admissible m)) 5).index t = ![t.val, 0] := (idx m t).2.2.2.1
    blk_ext []
    · exact (congrArg (fun x : ℕ => x * 176 + r.val) (congrFun e 0)).trans hR.symm
    · exact (congrArg (fun x : ℕ => x * 2048 + l.val) (congrFun e 1)).trans (by simp)
  refine (dats m (admissible m) 0 c).arrAt_eq_of_emb 5 _ (fun t hf y => ?_) fun i => ?_
  · have ht : t.val < 8 := t.isLt
    obtain ⟨r, l, rfl⟩ := tileIdx y
    have key := gradOf_at m c t r l ⟨t.val * 176 + r.val, by omega⟩ rfl
    rw [place t r l ⟨t.val * 176 + r.val, by omega⟩ rfl, after0_5, outs_5]
    exact key
  · obtain ⟨R, l, rfl⟩ := arrIdx i
    have hR := R.isLt
    refine ⟨(⟨R.val / 176, by omega⟩ : Fin 8), flush0_5 _ _, ?_⟩
    have e := place (⟨R.val / 176, by omega⟩ : Fin 8) ⟨R.val % 176, by omega⟩ l R (by simp only; omega)
    rw [← e]
    exact View.emb_mem_set _ _

/-- The weight's change at the end is the reference's. -/
theorem final_delta (c : Dev nD) : (dats m (admissible m) 0 c).arrAt 6 (cfgM m (admissible m)).N
    = Cert.RefAdamDownIdeal.Value.delta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have place : ∀ (t : Fin (cfgM m (admissible m)).N) (r : Fin 176) (l : Fin 2048) (R : Fin 1408), R.val = t.val * 176 + r.val →
      (((cfgM m (admissible m)).win 6).blk t).view.emb (ix2 r l) = (ix2 R l : S1408x2048.Idx) := by
    intro t r l R hR
    have e : (pcfg0.win (adm m (admissible m)) 6).index t = ![t.val, 0] := (idx m t).2.2.2.2.1
    blk_ext []
    · exact (congrArg (fun x : ℕ => x * 176 + r.val) (congrFun e 0)).trans hR.symm
    · exact (congrArg (fun x : ℕ => x * 2048 + l.val) (congrFun e 1)).trans (by simp)
  refine (dats m (admissible m) 0 c).arrAt_eq_of_emb 6 _ (fun t hf y => ?_) fun i => ?_
  · have ht : t.val < 8 := t.isLt
    obtain ⟨r, l, rfl⟩ := tileIdx y
    have key := changeOf_at m c t r l ⟨t.val * 176 + r.val, by omega⟩ rfl
    rw [place t r l ⟨t.val * 176 + r.val, by omega⟩ rfl, after0_6, outs_6]
    exact key
  · obtain ⟨R, l, rfl⟩ := arrIdx i
    have hR := R.isLt
    refine ⟨(⟨R.val / 176, by omega⟩ : Fin 8), flush0_6 _ _, ?_⟩
    have e := place (⟨R.val / 176, by omega⟩ : Fin 8) ⟨R.val % 176, by omega⟩ l R (by simp only; omega)
    rw [← e]
    exact View.emb_mem_set _ _

/-- The first moment at the end is the reference's. -/
theorem final_mom (c : Dev nD) : (dats m (admissible m) 0 c).arrAt 7 (cfgM m (admissible m)).N
    = Cert.RefAdamDownIdeal.Value.mom (m ((c : Thread nD τ).loc main_arg0)) (m ((c : Thread nD τ).loc main_arg2)) (m ((c : Thread nD τ).loc main_arg3)) (m ((c : Thread nD τ).loc main_arg4)) := by
  have place : ∀ (t : Fin (cfgM m (admissible m)).N) (r : Fin 176) (l : Fin 2048) (R : Fin 1408), R.val = t.val * 176 + r.val →
      (((cfgM m (admissible m)).win 7).blk t).view.emb (ix2 r l) = (ix2 R l : S1408x2048.Idx) := by
    intro t r l R hR
    have e : (pcfg0.win (adm m (admissible m)) 7).index t = ![t.val, 0] := (idx m t).2.2.2.2.2.1
    blk_ext []
    · exact (congrArg (fun x : ℕ => x * 176 + r.val) (congrFun e 0)).trans hR.symm
    · exact (congrArg (fun x : ℕ => x * 2048 + l.val) (congrFun e 1)).trans (by simp)
  refine (dats m (admissible m) 0 c).arrAt_eq_of_emb 7 _ (fun t hf y => ?_) fun i => ?_
  · have ht : t.val < 8 := t.isLt
    obtain ⟨r, l, rfl⟩ := tileIdx y
    have key := momOf_at m c t r l ⟨t.val * 176 + r.val, by omega⟩ rfl
    rw [place t r l ⟨t.val * 176 + r.val, by omega⟩ rfl, after0_7, outs_7]
    exact key
  · obtain ⟨R, l, rfl⟩ := arrIdx i
    have hR := R.isLt
    refine ⟨(⟨R.val / 176, by omega⟩ : Fin 8), flush0_7 _ _, ?_⟩
    have e := place (⟨R.val / 176, by omega⟩ : Fin 8) ⟨R.val % 176, by omega⟩ l R (by simp only; omega)
    rw [← e]
    exact View.emb_mem_set _ _

/-- The second moment at the end is the reference's. -/
theorem final_sec (c : Dev nD) : (dats m (admissible m) 0 c).arrAt 8 (cfgM m (admissible m)).N
    = Cert.RefAdamDownIdeal.Value.sec (m ((c : Thread nD τ).loc main_arg0)) (m ((c : Thread nD τ).loc main_arg2)) (m ((c : Thread nD τ).loc main_arg3)) (m ((c : Thread nD τ).loc main_arg5)) := by
  have place : ∀ (t : Fin (cfgM m (admissible m)).N) (r : Fin 176) (l : Fin 2048) (R : Fin 1408), R.val = t.val * 176 + r.val →
      (((cfgM m (admissible m)).win 8).blk t).view.emb (ix2 r l) = (ix2 R l : S1408x2048.Idx) := by
    intro t r l R hR
    have e : (pcfg0.win (adm m (admissible m)) 8).index t = ![t.val, 0] := (idx m t).2.2.2.2.2.2
    blk_ext []
    · exact (congrArg (fun x : ℕ => x * 176 + r.val) (congrFun e 0)).trans hR.symm
    · exact (congrArg (fun x : ℕ => x * 2048 + l.val) (congrFun e 1)).trans (by simp)
  refine (dats m (admissible m) 0 c).arrAt_eq_of_emb 8 _ (fun t hf y => ?_) fun i => ?_
  · have ht : t.val < 8 := t.isLt
    obtain ⟨r, l, rfl⟩ := tileIdx y
    have key := secOf_at m c t r l ⟨t.val * 176 + r.val, by omega⟩ rfl
    rw [place t r l ⟨t.val * 176 + r.val, by omega⟩ rfl, after0_8, outs_8]
    exact key
  · obtain ⟨R, l, rfl⟩ := arrIdx i
    have hR := R.isLt
    refine ⟨(⟨R.val / 176, by omega⟩ : Fin 8), flush0_8 _ _, ?_⟩
    have e := place (⟨R.val / 176, by omega⟩ : Fin 8) ⟨R.val % 176, by omega⟩ l R (by simp only; omega)
    rw [← e]
    exact View.emb_mem_set _ _

end Cert.AdamDownIdeal.Value

end
-- ==== Proof.lean ====
module

public import proofs.«01_k».proof.Defs
public import proofs.«01_k».proof.Proof.ChipsDown
public import proofs.«01_k».proof.Proof.ChipsGate
public import proofs.«01_k».proof.Proof.ChipsOut
public import proofs.«01_k».proof.Proof.ChipsMemKv
public import proofs.«01_k».proof.Proof.ChipsUkv
public import proofs.«01_k».proof.Proof.ChipsUq
public import proofs.«01_k».proof.Proof.ChipsIn
public import proofs.«01_k».proof.Proof.RmsFwd
public import proofs.«01_k».proof.Proof.MemAttn
public import proofs.«01_k».proof.Proof.MemKv
public import proofs.«01_k».proof.Proof.MemKvBwd
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Reals
public import proofs.«01_k».proof.Proof.Equation
public import proofs.«01_k».proof.Proof.DwDown
public import proofs.«01_k».proof.Proof.BwdAct
public import proofs.«01_k».proof.Proof.DwGate
public import proofs.«01_k».proof.Proof.DwUp
public import proofs.«01_k».proof.Proof.Dfn
public import proofs.«01_k».proof.Proof.GateUp
public import proofs.«01_k».proof.Proof.DownProj
public import proofs.«01_k».proof.Proof.DwOut
public import proofs.«01_k».proof.Proof.Dy
public import proofs.«01_k».proof.Proof.OutProj
public import proofs.«01_k».proof.Proof.InProj
public import proofs.«01_k».proof.Proof.DwIn
public import proofs.«01_k».proof.Proof.Dhn
public import proofs.«01_k».proof.Proof.RmsBwd
public import proofs.«01_k».proof.Proof.AdamIn
public import proofs.«01_k».proof.Proof.AdamUq
public import proofs.«01_k».proof.Proof.AdamUkv
public import proofs.«01_k».proof.Proof.AdamMemKv
public import proofs.«01_k».proof.Proof.AdamOut
public import proofs.«01_k».proof.Proof.AdamGate
public import proofs.«01_k».proof.Proof.AdamDown
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel's gradients of the memory attention are the reference's, on numbers. -/
theorem algebraic : Cert.algebraic_KernelIdeal_ReferenceIdeal_pre_finite := by
  have real {m} (hp : Cert.Pre_KernelIdeal_finite m) (c : Dev Cert.KernelIdeal.nD) :
      Cert.Equation.Real2 (Cert.KernelIdeal.Value.arrQ m c) ∧ Cert.Equation.Real2 (Cert.KernelIdeal.Value.arrK m c)
        ∧ Cert.Equation.Real2 (Cert.KernelIdeal.Value.arrV m c) ∧ Cert.Equation.Real2 (Cert.KernelIdeal.Value.arrD m c) :=
    ⟨Cert.Pre_finite.real0 _ _ _ _ (hp c).1, Cert.Pre_finite.real1 _ _ _ _ (hp c).2.1,
      Cert.Pre_finite.real2 _ _ _ _ (hp c).2.2.1, Cert.Pre_finite.real3 _ _ _ _ (hp c).2.2.2⟩
  pair_intro
  · run_from Cert.KernelIdeal.Value.run_blocks m g
  · refine (θ_run _ _ _).mono (fun r h c => ?_) (Cert.ReferenceIdeal.Value.run m' g')
    obtain ⟨e0, e1, e2, k⟩ := h c
    obtain ⟨h0, h1, h2, h3⟩ := hagree c
    obtain ⟨hQ, hK, hV, hD⟩ := real hpre c
    refine ⟨e0.trans ((Cert.ReferenceIdeal.Value.out0_eq m' c).trans ?_), e1.trans ((Cert.ReferenceIdeal.Value.out1_eq m' c).trans ?_),
      e2.trans (?_ : Cert.ReferenceIdeal.Value.dV (Cert.ReferenceIdeal.Value.expo (Cert.ReferenceIdeal.Value.scores
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))))
        (m' ((c.tc : Thread Cert.ReferenceIdeal.nD Cert.ReferenceIdeal.τ).loc Cert.ReferenceIdeal.main_arg3)) = _), k⟩
    · rw [h0, h1, h2, h3, Cert.KernelIdeal.Value.final5, Cert.KernelIdeal.Value.arrY_eq]
      exact (Cert.Equation.dq_eq hQ hK hV hD).symm
    · rw [h0, h1, h2, h3, Cert.KernelIdeal.Value.final6, Cert.KernelIdeal.Value.arrY_eq]
      exact (Cert.Equation.dk_eq hQ hK hV hD).symm
    · rw [h0, h1, h3, Cert.KernelIdeal.Value.final7]
      exact (Cert.Equation.dv_eq hQ hK).symm

/-- The reference runs, leaves its arguments, and has no semaphore. -/
theorem reference_frame : Cert.quiescent_ReferenceIdeal := by
  intro m g _
  exact (θ_run _ _ _).mono (fun r h => ⟨fun c => (h c).2.2.2, sem_eq_zero_of_no_sems (by decide) _⟩) (Cert.ReferenceIdeal.Value.run m g)

/-- What the further calls leave is what their references leave: the gradient of the down projection's weight. -/
theorem dw_down_eq : Cert.algebraic_DwDownIdeal_RefDwDownIdeal := by
  pair_intro
  · run_from Cert.DwDownIdeal.Value.run_blocks m g
  · refine (θ_run _ _ _).mono (fun r h c => ?_) (Cert.RefDwDownIdeal.Value.run m' g')
    obtain ⟨e0, k⟩ := h c
    obtain ⟨h0, h1⟩ := hagree c
    refine ⟨e0.trans (?_ : Cert.RefDwDownIdeal.Value.dw (m' ((c.tc : Thread Cert.RefDwDownIdeal.nD Cert.RefDwDownIdeal.τ).loc Cert.RefDwDownIdeal.main_arg0)) (m' ((c.tc : Thread Cert.RefDwDownIdeal.nD Cert.RefDwDownIdeal.τ).loc Cert.RefDwDownIdeal.main_arg1)) = _), k⟩
    · rw [h0, h1]
      exact (Cert.DwDownIdeal.Value.final m c).symm

/-- The gradients of the gate and of the other factor, where the gradient and both other arrays are finite. -/
theorem bwd_act_eq : Cert.algebraic_BwdActIdeal_RefBwdActIdeal_pre_finite_grad := by
  pair_intro
  · run_from Cert.BwdActIdeal.Value.run_blocks m g
  · refine (θ_run _ _ _).mono (fun r h c => ?_) (Cert.RefBwdActIdeal.Value.run m' g')
    obtain ⟨e0, e1, k⟩ := h c
    obtain ⟨h0, h1, h2, h3⟩ := hagree c
    refine ⟨e0.trans (?_ : Cert.RefBwdActIdeal.Value.dgate (m' ((c.tc : Thread Cert.RefBwdActIdeal.nD Cert.RefBwdActIdeal.τ).loc Cert.RefBwdActIdeal.main_arg0)) (m' ((c.tc : Thread Cert.RefBwdActIdeal.nD Cert.RefBwdActIdeal.τ).loc Cert.RefBwdActIdeal.main_arg1)) (m' ((c.tc : Thread Cert.RefBwdActIdeal.nD Cert.RefBwdActIdeal.τ).loc Cert.RefBwdActIdeal.main_arg2)) (m' ((c.tc : Thread Cert.RefBwdActIdeal.nD Cert.RefBwdActIdeal.τ).loc Cert.RefBwdActIdeal.main_arg3)) = _),
      e1.trans (?_ : Cert.RefBwdActIdeal.Value.dup (m' ((c.tc : Thread Cert.RefBwdActIdeal.nD Cert.RefBwdActIdeal.τ).loc Cert.RefBwdActIdeal.main_arg0)) (m' ((c.tc : Thread Cert.RefBwdActIdeal.nD Cert.RefBwdActIdeal.τ).loc Cert.RefBwdActIdeal.main_arg1)) (m' ((c.tc : Thread Cert.RefBwdActIdeal.nD Cert.RefBwdActIdeal.τ).loc Cert.RefBwdActIdeal.main_arg2)) = _), k⟩
    · rw [h0, h1, h2, h3]
      exact (Cert.BwdActIdeal.Value.final4 m c (Cert.Pre_finite_grad.real _ _ _ _ (hpre c).1 (hpre c).2.1 (hpre c).2.2)).symm
    · rw [h0, h1, h2]
      exact (Cert.BwdActIdeal.Value.final5 m c).symm

/-- The gradient of the gate's weight. -/
theorem dw_gate_eq : Cert.algebraic_DwGateIdeal_RefDwFfIdeal := by
  pair_intro
  · run_from Cert.DwGateIdeal.Value.run_blocks m g
  · refine (θ_run _ _ _).mono (fun r h c => ?_) (Cert.RefDwFfIdeal.Value.run m' g')
    obtain ⟨e0, k⟩ := h c
    obtain ⟨h0, h1⟩ := hagree c
    refine ⟨e0.trans (?_ : Cert.RefDwFfIdeal.Value.dw (m' ((c.tc : Thread Cert.RefDwFfIdeal.nD Cert.RefDwFfIdeal.τ).loc Cert.RefDwFfIdeal.main_arg0)) (m' ((c.tc : Thread Cert.RefDwFfIdeal.nD Cert.RefDwFfIdeal.τ).loc Cert.RefDwFfIdeal.main_arg1)) = _), k⟩
    · rw [h0, h1]
      exact (Cert.DwGateIdeal.Value.final m c).symm

/-- The gradient of the other factor's weight. -/
theorem dw_up_eq : Cert.algebraic_DwUpIdeal_RefDwFfIdeal := by
  pair_intro
  · run_from Cert.DwUpIdeal.Value.run_blocks m g
  · refine (θ_run _ _ _).mono (fun r h c => ?_) (Cert.RefDwFfIdeal.Value.run m' g')
    obtain ⟨e0, k⟩ := h c
    obtain ⟨h0, h1⟩ := hagree c
    refine ⟨e0.trans (?_ : Cert.RefDwFfIdeal.Value.dw (m' ((c.tc : Thread Cert.RefDwFfIdeal.nD Cert.RefDwFfIdeal.τ).loc Cert.RefDwFfIdeal.main_arg0)) (m' ((c.tc : Thread Cert.RefDwFfIdeal.nD Cert.RefDwFfIdeal.τ).loc Cert.RefDwFfIdeal.main_arg1)) = _), k⟩
    · rw [h0, h1]
      exact (Cert.DwUpIdeal.Value.final m c).symm

/-- The gradient of the feed-forward network's input. -/
theorem dfn_eq : Cert.algebraic_DfnIdeal_RefDfnIdeal := by
  pair_intro
  · run_from Cert.DfnIdeal.Value.run_blocks m g
  · refine (θ_run _ _ _).mono (fun r h c => ?_) (Cert.RefDfnIdeal.Value.run m' g')
    obtain ⟨e0, k⟩ := h c
    obtain ⟨h0, h1, h2, h3⟩ := hagree c
    refine ⟨e0.trans (?_ : Cert.RefDfnIdeal.Value.dfn (m' ((c.tc : Thread Cert.RefDfnIdeal.nD Cert.RefDfnIdeal.τ).loc Cert.RefDfnIdeal.main_arg0)) (m' ((c.tc : Thread Cert.RefDfnIdeal.nD Cert.RefDfnIdeal.τ).loc Cert.RefDfnIdeal.main_arg1)) (m' ((c.tc : Thread Cert.RefDfnIdeal.nD Cert.RefDfnIdeal.τ).loc Cert.RefDfnIdeal.main_arg2)) (m' ((c.tc : Thread Cert.RefDfnIdeal.nD Cert.RefDfnIdeal.τ).loc Cert.RefDfnIdeal.main_arg3)) = _), k⟩
    · rw [h0, h1, h2, h3]
      exact (Cert.DfnIdeal.Value.final m c).symm

/-- The gate, other factor and activation. -/
theorem gate_up_eq : Cert.algebraic_GateUpIdeal_RefGateUpIdeal := by
  pair_intro
  · run_from Cert.GateUpIdeal.Value.run_blocks m g
  · refine (θ_run _ _ _).mono (fun r h c => ?_) (Cert.RefGateUpIdeal.Value.run m' g')
    obtain ⟨e0, e1, e2, k⟩ := h c
    obtain ⟨h0, h1, h2⟩ := hagree c
    refine ⟨e0.trans (?_ : Cert.RefGateUpIdeal.Value.projB (m' ((c.tc : Thread Cert.RefGateUpIdeal.nD Cert.RefGateUpIdeal.τ).loc Cert.RefGateUpIdeal.main_arg0)) (m' ((c.tc : Thread Cert.RefGateUpIdeal.nD Cert.RefGateUpIdeal.τ).loc Cert.RefGateUpIdeal.main_arg1)) = _),
      e1.trans (?_ : Cert.RefGateUpIdeal.Value.projB (m' ((c.tc : Thread Cert.RefGateUpIdeal.nD Cert.RefGateUpIdeal.τ).loc Cert.RefGateUpIdeal.main_arg0)) (m' ((c.tc : Thread Cert.RefGateUpIdeal.nD Cert.RefGateUpIdeal.τ).loc Cert.RefGateUpIdeal.main_arg2)) = _),
      e2.trans (?_ : Cert.RefGateUpIdeal.Value.act (m' ((c.tc : Thread Cert.RefGateUpIdeal.nD Cert.RefGateUpIdeal.τ).loc Cert.RefGateUpIdeal.main_arg0)) (m' ((c.tc : Thread Cert.RefGateUpIdeal.nD Cert.RefGateUpIdeal.τ).loc Cert.RefGateUpIdeal.main_arg1)) (m' ((c.tc : Thread Cert.RefGateUpIdeal.nD Cert.RefGateUpIdeal.τ).loc Cert.RefGateUpIdeal.main_arg2)) = _), k⟩
    · rw [h0, h1]
      exact (Cert.GateUpIdeal.Value.final3 m c).symm
    · rw [h0, h2]
      exact (Cert.GateUpIdeal.Value.final4 m c).symm
    · rw [h0, h1, h2]
      exact (Cert.GateUpIdeal.Value.final5 m c).symm

/-- The gradient of the loss at the last projection's result, and the loss. -/
theorem down_proj_eq : Cert.algebraic_DownProjIdeal_RefDownProjIdeal := by
  pair_intro
  · run_from Cert.DownProjIdeal.Value.run_blocks m g
  · refine (θ_run _ _ _).mono (fun r h c => ?_) (Cert.RefDownProjIdeal.Value.run m' g')
    obtain ⟨e0, e1, e2, k⟩ := h c
    obtain ⟨h0, h1, h2, h3⟩ := hagree c
    refine ⟨e0.trans (?_ : Cert.RefDownProjIdeal.Value.dout (m' ((c.tc : Thread Cert.RefDownProjIdeal.nD Cert.RefDownProjIdeal.τ).loc Cert.RefDownProjIdeal.main_arg0)) (m' ((c.tc : Thread Cert.RefDownProjIdeal.nD Cert.RefDownProjIdeal.τ).loc Cert.RefDownProjIdeal.main_arg1)) (m' ((c.tc : Thread Cert.RefDownProjIdeal.nD Cert.RefDownProjIdeal.τ).loc Cert.RefDownProjIdeal.main_arg2)) (m' ((c.tc : Thread Cert.RefDownProjIdeal.nD Cert.RefDownProjIdeal.τ).loc Cert.RefDownProjIdeal.main_arg3)) = _),
      e1.trans (?_ : Cert.RefDownProjIdeal.Value.doutb (m' ((c.tc : Thread Cert.RefDownProjIdeal.nD Cert.RefDownProjIdeal.τ).loc Cert.RefDownProjIdeal.main_arg0)) (m' ((c.tc : Thread Cert.RefDownProjIdeal.nD Cert.RefDownProjIdeal.τ).loc Cert.RefDownProjIdeal.main_arg1)) (m' ((c.tc : Thread Cert.RefDownProjIdeal.nD Cert.RefDownProjIdeal.τ).loc Cert.RefDownProjIdeal.main_arg2)) (m' ((c.tc : Thread Cert.RefDownProjIdeal.nD Cert.RefDownProjIdeal.τ).loc Cert.RefDownProjIdeal.main_arg3)) = _),
      e2.trans (?_ : Cert.RefDownProjIdeal.Value.loss (m' ((c.tc : Thread Cert.RefDownProjIdeal.nD Cert.RefDownProjIdeal.τ).loc Cert.RefDownProjIdeal.main_arg0)) (m' ((c.tc : Thread Cert.RefDownProjIdeal.nD Cert.RefDownProjIdeal.τ).loc Cert.RefDownProjIdeal.main_arg1)) (m' ((c.tc : Thread Cert.RefDownProjIdeal.nD Cert.RefDownProjIdeal.τ).loc Cert.RefDownProjIdeal.main_arg2)) (m' ((c.tc : Thread Cert.RefDownProjIdeal.nD Cert.RefDownProjIdeal.τ).loc Cert.RefDownProjIdeal.main_arg3)) = _), k⟩
    · rw [h0, h1, h2, h3]
      exact (Cert.DownProjIdeal.Value.final_dout m c).symm
    · rw [h0, h1, h2, h3]
      exact (Cert.DownProjIdeal.Value.final_doutb m c).symm
    · rw [h0, h1, h2, h3]
      exact (Cert.DownProjIdeal.Value.final m c).symm

/-- The gradient of the output projection's weight. -/
theorem dw_out_eq : Cert.algebraic_DwOutIdeal_RefDwOutIdeal := by
  pair_intro
  · run_from Cert.DwOutIdeal.Value.run_blocks m g
  · refine (θ_run _ _ _).mono (fun r h c => ?_) (Cert.RefDwOutIdeal.Value.run m' g')
    obtain ⟨e0, k⟩ := h c
    obtain ⟨h0, h1⟩ := hagree c
    refine ⟨e0.trans (?_ : Cert.RefDwOutIdeal.Value.res (m' ((c.tc : Thread Cert.RefDwOutIdeal.nD Cert.RefDwOutIdeal.τ).loc Cert.RefDwOutIdeal.main_arg0)) (m' ((c.tc : Thread Cert.RefDwOutIdeal.nD Cert.RefDwOutIdeal.τ).loc Cert.RefDwOutIdeal.main_arg1)) = _), k⟩
    · rw [h0, h1]
      exact (Cert.DwOutIdeal.Value.final m c).symm

/-- The gradient of the attention's output. -/
theorem dy_eq : Cert.algebraic_DyIdeal_RefDyIdeal := by
  pair_intro
  · run_from Cert.DyIdeal.Value.run_blocks m g
  · refine (θ_run _ _ _).mono (fun r h c => ?_) (Cert.RefDyIdeal.Value.run m' g')
    obtain ⟨e0, k⟩ := h c
    obtain ⟨h0, h1⟩ := hagree c
    refine ⟨e0.trans (?_ : Cert.RefDyIdeal.Value.res (m' ((c.tc : Thread Cert.RefDyIdeal.nD Cert.RefDyIdeal.τ).loc Cert.RefDyIdeal.main_arg0)) (m' ((c.tc : Thread Cert.RefDyIdeal.nD Cert.RefDyIdeal.τ).loc Cert.RefDyIdeal.main_arg1)) = _), k⟩
    · rw [h0, h1]
      exact (Cert.DyIdeal.Value.final m c).symm

/-- The output projection with the residual, and its norm. -/
theorem out_proj_eq : Cert.algebraic_OutProjIdeal_RefOutProjIdeal := by
  pair_intro
  · run_from Cert.OutProjIdeal.Value.run_blocks m g
  · refine (θ_run _ _ _).mono (fun r h c => ?_) (Cert.RefOutProjIdeal.Value.run m' g')
    obtain ⟨e0, e1, k⟩ := h c
    obtain ⟨h0, h1, h2, h3⟩ := hagree c
    refine ⟨e0.trans (?_ : Cert.RefOutProjIdeal.Value.hid (m' ((c.tc : Thread Cert.RefOutProjIdeal.nD Cert.RefOutProjIdeal.τ).loc Cert.RefOutProjIdeal.main_arg0)) (m' ((c.tc : Thread Cert.RefOutProjIdeal.nD Cert.RefOutProjIdeal.τ).loc Cert.RefOutProjIdeal.main_arg1)) (m' ((c.tc : Thread Cert.RefOutProjIdeal.nD Cert.RefOutProjIdeal.τ).loc Cert.RefOutProjIdeal.main_arg2)) = _),
      e1.trans (?_ : Cert.RefOutProjIdeal.Value.res (m' ((c.tc : Thread Cert.RefOutProjIdeal.nD Cert.RefOutProjIdeal.τ).loc Cert.RefOutProjIdeal.main_arg0)) (m' ((c.tc : Thread Cert.RefOutProjIdeal.nD Cert.RefOutProjIdeal.τ).loc Cert.RefOutProjIdeal.main_arg1)) (m' ((c.tc : Thread Cert.RefOutProjIdeal.nD Cert.RefOutProjIdeal.τ).loc Cert.RefOutProjIdeal.main_arg2)) (m' ((c.tc : Thread Cert.RefOutProjIdeal.nD Cert.RefOutProjIdeal.τ).loc Cert.RefOutProjIdeal.main_arg3)) = _), k⟩
    · rw [h0, h1, h2]
      exact (Cert.OutProjIdeal.Value.final_hid m c).symm
    · rw [h0, h1, h2, h3]
      exact (Cert.OutProjIdeal.Value.final m c).symm

/-- The input projection. -/
theorem in_proj_eq : Cert.algebraic_InProjIdeal_RefInProjIdeal := by
  pair_intro
  · run_from Cert.InProjIdeal.Value.run_blocks m g
  · refine (θ_run _ _ _).mono (fun r h c => ?_) (Cert.RefInProjIdeal.Value.run m' g')
    obtain ⟨e0, k⟩ := h c
    obtain ⟨h0, h1⟩ := hagree c
    refine ⟨e0.trans (?_ : Cert.RefInProjIdeal.Value.res (m' ((c.tc : Thread Cert.RefInProjIdeal.nD Cert.RefInProjIdeal.τ).loc Cert.RefInProjIdeal.main_arg0)) (m' ((c.tc : Thread Cert.RefInProjIdeal.nD Cert.RefInProjIdeal.τ).loc Cert.RefInProjIdeal.main_arg1)) = _), k⟩
    · rw [h0, h1]
      exact (Cert.InProjIdeal.Value.final m c).symm

/-- The gradient of the input projection's weight. -/
theorem dw_in_eq : Cert.algebraic_DwInIdeal_RefDwInIdeal := by
  pair_intro
  · run_from Cert.DwInIdeal.Value.run_blocks m g
  · refine (θ_run _ _ _).mono (fun r h c => ?_) (Cert.RefDwInIdeal.Value.run m' g')
    obtain ⟨e0, k⟩ := h c
    obtain ⟨h0, h1⟩ := hagree c
    refine ⟨e0.trans (?_ : Cert.RefDwInIdeal.Value.res (m' ((c.tc : Thread Cert.RefDwInIdeal.nD Cert.RefDwInIdeal.τ).loc Cert.RefDwInIdeal.main_arg0)) (m' ((c.tc : Thread Cert.RefDwInIdeal.nD Cert.RefDwInIdeal.τ).loc Cert.RefDwInIdeal.main_arg1)) = _), k⟩
    · rw [h0, h1]
      exact (Cert.DwInIdeal.Value.final m c).symm

/-- The gradient of the normed input. -/
theorem dhn_eq : Cert.algebraic_DhnIdeal_RefDhnIdeal := by
  pair_intro
  · run_from Cert.DhnIdeal.Value.run_blocks m g
  · refine (θ_run _ _ _).mono (fun r h c => ?_) (Cert.RefDhnIdeal.Value.run m' g')
    obtain ⟨e0, k⟩ := h c
    obtain ⟨h0, h1⟩ := hagree c
    refine ⟨e0.trans (?_ : Cert.RefDhnIdeal.Value.res (m' ((c.tc : Thread Cert.RefDhnIdeal.nD Cert.RefDhnIdeal.τ).loc Cert.RefDhnIdeal.main_arg0)) (m' ((c.tc : Thread Cert.RefDhnIdeal.nD Cert.RefDhnIdeal.τ).loc Cert.RefDhnIdeal.main_arg1)) = _), k⟩
    · rw [h0, h1]
      exact (Cert.DhnIdeal.Value.final m c).symm

/-- The gradient of the norm's rows and of its gain. -/
theorem rms_bwd_eq : Cert.algebraic_RmsBwdIdeal_RefRmsBwdIdeal := by
  pair_intro
  · run_from Cert.RmsBwdIdeal.Value.run_blocks m g
  · refine (θ_run _ _ _).mono (fun r h c => ?_) (Cert.RefRmsBwdIdeal.Value.run m' g')
    obtain ⟨e0, e1, e2, k⟩ := h c
    obtain ⟨h0, h1, h2, h3⟩ := hagree c
    refine ⟨e0.trans (?_ : Cert.RefRmsBwdIdeal.Value.dx (m' ((c.tc : Thread Cert.RefRmsBwdIdeal.nD Cert.RefRmsBwdIdeal.τ).loc Cert.RefRmsBwdIdeal.main_arg0)) (m' ((c.tc : Thread Cert.RefRmsBwdIdeal.nD Cert.RefRmsBwdIdeal.τ).loc Cert.RefRmsBwdIdeal.main_arg1)) (m' ((c.tc : Thread Cert.RefRmsBwdIdeal.nD Cert.RefRmsBwdIdeal.τ).loc Cert.RefRmsBwdIdeal.main_arg2)) (m' ((c.tc : Thread Cert.RefRmsBwdIdeal.nD Cert.RefRmsBwdIdeal.τ).loc Cert.RefRmsBwdIdeal.main_arg3)) = _),
      e1.trans (?_ : Cert.RefRmsBwdIdeal.Value.dxb (m' ((c.tc : Thread Cert.RefRmsBwdIdeal.nD Cert.RefRmsBwdIdeal.τ).loc Cert.RefRmsBwdIdeal.main_arg0)) (m' ((c.tc : Thread Cert.RefRmsBwdIdeal.nD Cert.RefRmsBwdIdeal.τ).loc Cert.RefRmsBwdIdeal.main_arg1)) (m' ((c.tc : Thread Cert.RefRmsBwdIdeal.nD Cert.RefRmsBwdIdeal.τ).loc Cert.RefRmsBwdIdeal.main_arg2)) (m' ((c.tc : Thread Cert.RefRmsBwdIdeal.nD Cert.RefRmsBwdIdeal.τ).loc Cert.RefRmsBwdIdeal.main_arg3)) = _),
      e2.trans (?_ : Cert.RefRmsBwdIdeal.Value.dg (m' ((c.tc : Thread Cert.RefRmsBwdIdeal.nD Cert.RefRmsBwdIdeal.τ).loc Cert.RefRmsBwdIdeal.main_arg0)) (m' ((c.tc : Thread Cert.RefRmsBwdIdeal.nD Cert.RefRmsBwdIdeal.τ).loc Cert.RefRmsBwdIdeal.main_arg1)) = _), k⟩
    · rw [h0, h1, h2, h3]
      exact (Cert.RmsBwdIdeal.Value.final_dx m c).symm
    · rw [h0, h1, h2, h3]
      exact (Cert.RmsBwdIdeal.Value.final_dxb m c).symm
    · rw [h0, h1]
      exact (Cert.RmsBwdIdeal.Value.final m c).symm

/-- The optimiser's step of w_in: gradient, change and both moments. -/
theorem adam_in_eq : Cert.algebraic_AdamInIdeal_RefAdamInIdeal := by
  pair_intro
  · run_from Cert.AdamInIdeal.Value.run_blocks m g
  · refine (θ_run _ _ _).mono (fun r h c => ?_) (Cert.RefAdamInIdeal.Value.run m' g')
    obtain ⟨e0, e1, e2, e3, k⟩ := h c
    obtain ⟨h0, h1, h2, h3, h4, h5⟩ := hagree c
    refine ⟨e0.trans (?_ : Cert.RefAdamInIdeal.Value.grad (m' ((c.tc : Thread Cert.RefAdamInIdeal.nD Cert.RefAdamInIdeal.τ).loc Cert.RefAdamInIdeal.main_arg0)) (m' ((c.tc : Thread Cert.RefAdamInIdeal.nD Cert.RefAdamInIdeal.τ).loc Cert.RefAdamInIdeal.main_arg2)) (m' ((c.tc : Thread Cert.RefAdamInIdeal.nD Cert.RefAdamInIdeal.τ).loc Cert.RefAdamInIdeal.main_arg3)) = _),
      e1.trans (?_ : Cert.RefAdamInIdeal.Value.delta (m' ((c.tc : Thread Cert.RefAdamInIdeal.nD Cert.RefAdamInIdeal.τ).loc Cert.RefAdamInIdeal.main_arg0)) (m' ((c.tc : Thread Cert.RefAdamInIdeal.nD Cert.RefAdamInIdeal.τ).loc Cert.RefAdamInIdeal.main_arg1)) (m' ((c.tc : Thread Cert.RefAdamInIdeal.nD Cert.RefAdamInIdeal.τ).loc Cert.RefAdamInIdeal.main_arg2)) (m' ((c.tc : Thread Cert.RefAdamInIdeal.nD Cert.RefAdamInIdeal.τ).loc Cert.RefAdamInIdeal.main_arg3)) (m' ((c.tc : Thread Cert.RefAdamInIdeal.nD Cert.RefAdamInIdeal.τ).loc Cert.RefAdamInIdeal.main_arg4)) (m' ((c.tc : Thread Cert.RefAdamInIdeal.nD Cert.RefAdamInIdeal.τ).loc Cert.RefAdamInIdeal.main_arg5)) = _),
      e2.trans (?_ : Cert.RefAdamInIdeal.Value.mom (m' ((c.tc : Thread Cert.RefAdamInIdeal.nD Cert.RefAdamInIdeal.τ).loc Cert.RefAdamInIdeal.main_arg0)) (m' ((c.tc : Thread Cert.RefAdamInIdeal.nD Cert.RefAdamInIdeal.τ).loc Cert.RefAdamInIdeal.main_arg2)) (m' ((c.tc : Thread Cert.RefAdamInIdeal.nD Cert.RefAdamInIdeal.τ).loc Cert.RefAdamInIdeal.main_arg3)) (m' ((c.tc : Thread Cert.RefAdamInIdeal.nD Cert.RefAdamInIdeal.τ).loc Cert.RefAdamInIdeal.main_arg4)) = _),
      e3.trans (?_ : Cert.RefAdamInIdeal.Value.sec (m' ((c.tc : Thread Cert.RefAdamInIdeal.nD Cert.RefAdamInIdeal.τ).loc Cert.RefAdamInIdeal.main_arg0)) (m' ((c.tc : Thread Cert.RefAdamInIdeal.nD Cert.RefAdamInIdeal.τ).loc Cert.RefAdamInIdeal.main_arg2)) (m' ((c.tc : Thread Cert.RefAdamInIdeal.nD Cert.RefAdamInIdeal.τ).loc Cert.RefAdamInIdeal.main_arg3)) (m' ((c.tc : Thread Cert.RefAdamInIdeal.nD Cert.RefAdamInIdeal.τ).loc Cert.RefAdamInIdeal.main_arg5)) = _), k⟩
    · rw [h0, h2, h3]
      exact (Cert.AdamInIdeal.Value.final_grad m c).symm
    · rw [h0, h1, h2, h3, h4, h5]
      exact (Cert.AdamInIdeal.Value.final_delta m c).symm
    · rw [h0, h2, h3, h4]
      exact (Cert.AdamInIdeal.Value.final_mom m c).symm
    · rw [h0, h2, h3, h5]
      exact (Cert.AdamInIdeal.Value.final_sec m c).symm

/-- The optimiser's step of w_uq: gradient, change and both moments. -/
theorem adam_uq_eq : Cert.algebraic_AdamUqIdeal_RefAdamUqIdeal := by
  pair_intro
  · run_from Cert.AdamUqIdeal.Value.run_blocks m g
  · refine (θ_run _ _ _).mono (fun r h c => ?_) (Cert.RefAdamUqIdeal.Value.run m' g')
    obtain ⟨e0, e1, e2, e3, k⟩ := h c
    obtain ⟨h0, h1, h2, h3, h4, h5⟩ := hagree c
    refine ⟨e0.trans (?_ : Cert.RefAdamUqIdeal.Value.grad (m' ((c.tc : Thread Cert.RefAdamUqIdeal.nD Cert.RefAdamUqIdeal.τ).loc Cert.RefAdamUqIdeal.main_arg0)) (m' ((c.tc : Thread Cert.RefAdamUqIdeal.nD Cert.RefAdamUqIdeal.τ).loc Cert.RefAdamUqIdeal.main_arg2)) (m' ((c.tc : Thread Cert.RefAdamUqIdeal.nD Cert.RefAdamUqIdeal.τ).loc Cert.RefAdamUqIdeal.main_arg3)) = _),
      e1.trans (?_ : Cert.RefAdamUqIdeal.Value.delta (m' ((c.tc : Thread Cert.RefAdamUqIdeal.nD Cert.RefAdamUqIdeal.τ).loc Cert.RefAdamUqIdeal.main_arg0)) (m' ((c.tc : Thread Cert.RefAdamUqIdeal.nD Cert.RefAdamUqIdeal.τ).loc Cert.RefAdamUqIdeal.main_arg1)) (m' ((c.tc : Thread Cert.RefAdamUqIdeal.nD Cert.RefAdamUqIdeal.τ).loc Cert.RefAdamUqIdeal.main_arg2)) (m' ((c.tc : Thread Cert.RefAdamUqIdeal.nD Cert.RefAdamUqIdeal.τ).loc Cert.RefAdamUqIdeal.main_arg3)) (m' ((c.tc : Thread Cert.RefAdamUqIdeal.nD Cert.RefAdamUqIdeal.τ).loc Cert.RefAdamUqIdeal.main_arg4)) (m' ((c.tc : Thread Cert.RefAdamUqIdeal.nD Cert.RefAdamUqIdeal.τ).loc Cert.RefAdamUqIdeal.main_arg5)) = _),
      e2.trans (?_ : Cert.RefAdamUqIdeal.Value.mom (m' ((c.tc : Thread Cert.RefAdamUqIdeal.nD Cert.RefAdamUqIdeal.τ).loc Cert.RefAdamUqIdeal.main_arg0)) (m' ((c.tc : Thread Cert.RefAdamUqIdeal.nD Cert.RefAdamUqIdeal.τ).loc Cert.RefAdamUqIdeal.main_arg2)) (m' ((c.tc : Thread Cert.RefAdamUqIdeal.nD Cert.RefAdamUqIdeal.τ).loc Cert.RefAdamUqIdeal.main_arg3)) (m' ((c.tc : Thread Cert.RefAdamUqIdeal.nD Cert.RefAdamUqIdeal.τ).loc Cert.RefAdamUqIdeal.main_arg4)) = _),
      e3.trans (?_ : Cert.RefAdamUqIdeal.Value.sec (m' ((c.tc : Thread Cert.RefAdamUqIdeal.nD Cert.RefAdamUqIdeal.τ).loc Cert.RefAdamUqIdeal.main_arg0)) (m' ((c.tc : Thread Cert.RefAdamUqIdeal.nD Cert.RefAdamUqIdeal.τ).loc Cert.RefAdamUqIdeal.main_arg2)) (m' ((c.tc : Thread Cert.RefAdamUqIdeal.nD Cert.RefAdamUqIdeal.τ).loc Cert.RefAdamUqIdeal.main_arg3)) (m' ((c.tc : Thread Cert.RefAdamUqIdeal.nD Cert.RefAdamUqIdeal.τ).loc Cert.RefAdamUqIdeal.main_arg5)) = _), k⟩
    · rw [h0, h2, h3]
      exact (Cert.AdamUqIdeal.Value.final_grad m c).symm
    · rw [h0, h1, h2, h3, h4, h5]
      exact (Cert.AdamUqIdeal.Value.final_delta m c).symm
    · rw [h0, h2, h3, h4]
      exact (Cert.AdamUqIdeal.Value.final_mom m c).symm
    · rw [h0, h2, h3, h5]
      exact (Cert.AdamUqIdeal.Value.final_sec m c).symm

/-- The optimiser's step of w_ukv: gradient, change and both moments. -/
theorem adam_ukv_eq : Cert.algebraic_AdamUkvIdeal_RefAdamUkvIdeal := by
  pair_intro
  · run_from Cert.AdamUkvIdeal.Value.run_blocks m g
  · refine (θ_run _ _ _).mono (fun r h c => ?_) (Cert.RefAdamUkvIdeal.Value.run m' g')
    obtain ⟨e0, e1, e2, e3, k⟩ := h c
    obtain ⟨h0, h1, h2, h3, h4, h5⟩ := hagree c
    refine ⟨e0.trans (?_ : Cert.RefAdamUkvIdeal.Value.grad (m' ((c.tc : Thread Cert.RefAdamUkvIdeal.nD Cert.RefAdamUkvIdeal.τ).loc Cert.RefAdamUkvIdeal.main_arg0)) (m' ((c.tc : Thread Cert.RefAdamUkvIdeal.nD Cert.RefAdamUkvIdeal.τ).loc Cert.RefAdamUkvIdeal.main_arg2)) (m' ((c.tc : Thread Cert.RefAdamUkvIdeal.nD Cert.RefAdamUkvIdeal.τ).loc Cert.RefAdamUkvIdeal.main_arg3)) = _),
      e1.trans (?_ : Cert.RefAdamUkvIdeal.Value.delta (m' ((c.tc : Thread Cert.RefAdamUkvIdeal.nD Cert.RefAdamUkvIdeal.τ).loc Cert.RefAdamUkvIdeal.main_arg0)) (m' ((c.tc : Thread Cert.RefAdamUkvIdeal.nD Cert.RefAdamUkvIdeal.τ).loc Cert.RefAdamUkvIdeal.main_arg1)) (m' ((c.tc : Thread Cert.RefAdamUkvIdeal.nD Cert.RefAdamUkvIdeal.τ).loc Cert.RefAdamUkvIdeal.main_arg2)) (m' ((c.tc : Thread Cert.RefAdamUkvIdeal.nD Cert.RefAdamUkvIdeal.τ).loc Cert.RefAdamUkvIdeal.main_arg3)) (m' ((c.tc : Thread Cert.RefAdamUkvIdeal.nD Cert.RefAdamUkvIdeal.τ).loc Cert.RefAdamUkvIdeal.main_arg4)) (m' ((c.tc : Thread Cert.RefAdamUkvIdeal.nD Cert.RefAdamUkvIdeal.τ).loc Cert.RefAdamUkvIdeal.main_arg5)) = _),
      e2.trans (?_ : Cert.RefAdamUkvIdeal.Value.mom (m' ((c.tc : Thread Cert.RefAdamUkvIdeal.nD Cert.RefAdamUkvIdeal.τ).loc Cert.RefAdamUkvIdeal.main_arg0)) (m' ((c.tc : Thread Cert.RefAdamUkvIdeal.nD Cert.RefAdamUkvIdeal.τ).loc Cert.RefAdamUkvIdeal.main_arg2)) (m' ((c.tc : Thread Cert.RefAdamUkvIdeal.nD Cert.RefAdamUkvIdeal.τ).loc Cert.RefAdamUkvIdeal.main_arg3)) (m' ((c.tc : Thread Cert.RefAdamUkvIdeal.nD Cert.RefAdamUkvIdeal.τ).loc Cert.RefAdamUkvIdeal.main_arg4)) = _),
      e3.trans (?_ : Cert.RefAdamUkvIdeal.Value.sec (m' ((c.tc : Thread Cert.RefAdamUkvIdeal.nD Cert.RefAdamUkvIdeal.τ).loc Cert.RefAdamUkvIdeal.main_arg0)) (m' ((c.tc : Thread Cert.RefAdamUkvIdeal.nD Cert.RefAdamUkvIdeal.τ).loc Cert.RefAdamUkvIdeal.main_arg2)) (m' ((c.tc : Thread Cert.RefAdamUkvIdeal.nD Cert.RefAdamUkvIdeal.τ).loc Cert.RefAdamUkvIdeal.main_arg3)) (m' ((c.tc : Thread Cert.RefAdamUkvIdeal.nD Cert.RefAdamUkvIdeal.τ).loc Cert.RefAdamUkvIdeal.main_arg5)) = _), k⟩
    · rw [h0, h2, h3]
      exact (Cert.AdamUkvIdeal.Value.final_grad m c).symm
    · rw [h0, h1, h2, h3, h4, h5]
      exact (Cert.AdamUkvIdeal.Value.final_delta m c).symm
    · rw [h0, h2, h3, h4]
      exact (Cert.AdamUkvIdeal.Value.final_mom m c).symm
    · rw [h0, h2, h3, h5]
      exact (Cert.AdamUkvIdeal.Value.final_sec m c).symm

/-- The optimiser's step of w_mem_kv: gradient, change and both moments. -/
theorem adam_memkv_eq : Cert.algebraic_AdamMemKvIdeal_RefAdamMemKvIdeal := by
  pair_intro
  · run_from Cert.AdamMemKvIdeal.Value.run_blocks m g
  · refine (θ_run _ _ _).mono (fun r h c => ?_) (Cert.RefAdamMemKvIdeal.Value.run m' g')
    obtain ⟨e0, e1, e2, e3, k⟩ := h c
    obtain ⟨h0, h1, h2, h3, h4, h5⟩ := hagree c
    refine ⟨e0.trans (?_ : Cert.RefAdamMemKvIdeal.Value.grad (m' ((c.tc : Thread Cert.RefAdamMemKvIdeal.nD Cert.RefAdamMemKvIdeal.τ).loc Cert.RefAdamMemKvIdeal.main_arg0)) (m' ((c.tc : Thread Cert.RefAdamMemKvIdeal.nD Cert.RefAdamMemKvIdeal.τ).loc Cert.RefAdamMemKvIdeal.main_arg2)) (m' ((c.tc : Thread Cert.RefAdamMemKvIdeal.nD Cert.RefAdamMemKvIdeal.τ).loc Cert.RefAdamMemKvIdeal.main_arg3)) = _),
      e1.trans (?_ : Cert.RefAdamMemKvIdeal.Value.delta (m' ((c.tc : Thread Cert.RefAdamMemKvIdeal.nD Cert.RefAdamMemKvIdeal.τ).loc Cert.RefAdamMemKvIdeal.main_arg0)) (m' ((c.tc : Thread Cert.RefAdamMemKvIdeal.nD Cert.RefAdamMemKvIdeal.τ).loc Cert.RefAdamMemKvIdeal.main_arg1)) (m' ((c.tc : Thread Cert.RefAdamMemKvIdeal.nD Cert.RefAdamMemKvIdeal.τ).loc Cert.RefAdamMemKvIdeal.main_arg2)) (m' ((c.tc : Thread Cert.RefAdamMemKvIdeal.nD Cert.RefAdamMemKvIdeal.τ).loc Cert.RefAdamMemKvIdeal.main_arg3)) (m' ((c.tc : Thread Cert.RefAdamMemKvIdeal.nD Cert.RefAdamMemKvIdeal.τ).loc Cert.RefAdamMemKvIdeal.main_arg4)) (m' ((c.tc : Thread Cert.RefAdamMemKvIdeal.nD Cert.RefAdamMemKvIdeal.τ).loc Cert.RefAdamMemKvIdeal.main_arg5)) = _),
      e2.trans (?_ : Cert.RefAdamMemKvIdeal.Value.mom (m' ((c.tc : Thread Cert.RefAdamMemKvIdeal.nD Cert.RefAdamMemKvIdeal.τ).loc Cert.RefAdamMemKvIdeal.main_arg0)) (m' ((c.tc : Thread Cert.RefAdamMemKvIdeal.nD Cert.RefAdamMemKvIdeal.τ).loc Cert.RefAdamMemKvIdeal.main_arg2)) (m' ((c.tc : Thread Cert.RefAdamMemKvIdeal.nD Cert.RefAdamMemKvIdeal.τ).loc Cert.RefAdamMemKvIdeal.main_arg3)) (m' ((c.tc : Thread Cert.RefAdamMemKvIdeal.nD Cert.RefAdamMemKvIdeal.τ).loc Cert.RefAdamMemKvIdeal.main_arg4)) = _),
      e3.trans (?_ : Cert.RefAdamMemKvIdeal.Value.sec (m' ((c.tc : Thread Cert.RefAdamMemKvIdeal.nD Cert.RefAdamMemKvIdeal.τ).loc Cert.RefAdamMemKvIdeal.main_arg0)) (m' ((c.tc : Thread Cert.RefAdamMemKvIdeal.nD Cert.RefAdamMemKvIdeal.τ).loc Cert.RefAdamMemKvIdeal.main_arg2)) (m' ((c.tc : Thread Cert.RefAdamMemKvIdeal.nD Cert.RefAdamMemKvIdeal.τ).loc Cert.RefAdamMemKvIdeal.main_arg3)) (m' ((c.tc : Thread Cert.RefAdamMemKvIdeal.nD Cert.RefAdamMemKvIdeal.τ).loc Cert.RefAdamMemKvIdeal.main_arg5)) = _), k⟩
    · rw [h0, h2, h3]
      exact (Cert.AdamMemKvIdeal.Value.final_grad m c).symm
    · rw [h0, h1, h2, h3, h4, h5]
      exact (Cert.AdamMemKvIdeal.Value.final_delta m c).symm
    · rw [h0, h2, h3, h4]
      exact (Cert.AdamMemKvIdeal.Value.final_mom m c).symm
    · rw [h0, h2, h3, h5]
      exact (Cert.AdamMemKvIdeal.Value.final_sec m c).symm

/-- The optimiser's step of w_out: gradient, change and both moments. -/
theorem adam_out_eq : Cert.algebraic_AdamOutIdeal_RefAdamOutIdeal := by
  pair_intro
  · run_from Cert.AdamOutIdeal.Value.run_blocks m g
  · refine (θ_run _ _ _).mono (fun r h c => ?_) (Cert.RefAdamOutIdeal.Value.run m' g')
    obtain ⟨e0, e1, e2, e3, k⟩ := h c
    obtain ⟨h0, h1, h2, h3, h4, h5⟩ := hagree c
    refine ⟨e0.trans (?_ : Cert.RefAdamOutIdeal.Value.grad (m' ((c.tc : Thread Cert.RefAdamOutIdeal.nD Cert.RefAdamOutIdeal.τ).loc Cert.RefAdamOutIdeal.main_arg0)) (m' ((c.tc : Thread Cert.RefAdamOutIdeal.nD Cert.RefAdamOutIdeal.τ).loc Cert.RefAdamOutIdeal.main_arg2)) (m' ((c.tc : Thread Cert.RefAdamOutIdeal.nD Cert.RefAdamOutIdeal.τ).loc Cert.RefAdamOutIdeal.main_arg3)) = _),
      e1.trans (?_ : Cert.RefAdamOutIdeal.Value.delta (m' ((c.tc : Thread Cert.RefAdamOutIdeal.nD Cert.RefAdamOutIdeal.τ).loc Cert.RefAdamOutIdeal.main_arg0)) (m' ((c.tc : Thread Cert.RefAdamOutIdeal.nD Cert.RefAdamOutIdeal.τ).loc Cert.RefAdamOutIdeal.main_arg1)) (m' ((c.tc : Thread Cert.RefAdamOutIdeal.nD Cert.RefAdamOutIdeal.τ).loc Cert.RefAdamOutIdeal.main_arg2)) (m' ((c.tc : Thread Cert.RefAdamOutIdeal.nD Cert.RefAdamOutIdeal.τ).loc Cert.RefAdamOutIdeal.main_arg3)) (m' ((c.tc : Thread Cert.RefAdamOutIdeal.nD Cert.RefAdamOutIdeal.τ).loc Cert.RefAdamOutIdeal.main_arg4)) (m' ((c.tc : Thread Cert.RefAdamOutIdeal.nD Cert.RefAdamOutIdeal.τ).loc Cert.RefAdamOutIdeal.main_arg5)) = _),
      e2.trans (?_ : Cert.RefAdamOutIdeal.Value.mom (m' ((c.tc : Thread Cert.RefAdamOutIdeal.nD Cert.RefAdamOutIdeal.τ).loc Cert.RefAdamOutIdeal.main_arg0)) (m' ((c.tc : Thread Cert.RefAdamOutIdeal.nD Cert.RefAdamOutIdeal.τ).loc Cert.RefAdamOutIdeal.main_arg2)) (m' ((c.tc : Thread Cert.RefAdamOutIdeal.nD Cert.RefAdamOutIdeal.τ).loc Cert.RefAdamOutIdeal.main_arg3)) (m' ((c.tc : Thread Cert.RefAdamOutIdeal.nD Cert.RefAdamOutIdeal.τ).loc Cert.RefAdamOutIdeal.main_arg4)) = _),
      e3.trans (?_ : Cert.RefAdamOutIdeal.Value.sec (m' ((c.tc : Thread Cert.RefAdamOutIdeal.nD Cert.RefAdamOutIdeal.τ).loc Cert.RefAdamOutIdeal.main_arg0)) (m' ((c.tc : Thread Cert.RefAdamOutIdeal.nD Cert.RefAdamOutIdeal.τ).loc Cert.RefAdamOutIdeal.main_arg2)) (m' ((c.tc : Thread Cert.RefAdamOutIdeal.nD Cert.RefAdamOutIdeal.τ).loc Cert.RefAdamOutIdeal.main_arg3)) (m' ((c.tc : Thread Cert.RefAdamOutIdeal.nD Cert.RefAdamOutIdeal.τ).loc Cert.RefAdamOutIdeal.main_arg5)) = _), k⟩
    · rw [h0, h2, h3]
      exact (Cert.AdamOutIdeal.Value.final_grad m c).symm
    · rw [h0, h1, h2, h3, h4, h5]
      exact (Cert.AdamOutIdeal.Value.final_delta m c).symm
    · rw [h0, h2, h3, h4]
      exact (Cert.AdamOutIdeal.Value.final_mom m c).symm
    · rw [h0, h2, h3, h5]
      exact (Cert.AdamOutIdeal.Value.final_sec m c).symm

/-- The optimiser's step of w_gate and of w_up: gradient, change and both moments. -/
theorem adam_gate_eq : Cert.algebraic_AdamGateIdeal_RefAdamGateIdeal := by
  pair_intro
  · run_from Cert.AdamGateIdeal.Value.run_blocks m g
  · refine (θ_run _ _ _).mono (fun r h c => ?_) (Cert.RefAdamGateIdeal.Value.run m' g')
    obtain ⟨e0, e1, e2, e3, k⟩ := h c
    obtain ⟨h0, h1, h2, h3, h4, h5⟩ := hagree c
    refine ⟨e0.trans (?_ : Cert.RefAdamGateIdeal.Value.grad (m' ((c.tc : Thread Cert.RefAdamGateIdeal.nD Cert.RefAdamGateIdeal.τ).loc Cert.RefAdamGateIdeal.main_arg0)) (m' ((c.tc : Thread Cert.RefAdamGateIdeal.nD Cert.RefAdamGateIdeal.τ).loc Cert.RefAdamGateIdeal.main_arg2)) (m' ((c.tc : Thread Cert.RefAdamGateIdeal.nD Cert.RefAdamGateIdeal.τ).loc Cert.RefAdamGateIdeal.main_arg3)) = _),
      e1.trans (?_ : Cert.RefAdamGateIdeal.Value.delta (m' ((c.tc : Thread Cert.RefAdamGateIdeal.nD Cert.RefAdamGateIdeal.τ).loc Cert.RefAdamGateIdeal.main_arg0)) (m' ((c.tc : Thread Cert.RefAdamGateIdeal.nD Cert.RefAdamGateIdeal.τ).loc Cert.RefAdamGateIdeal.main_arg1)) (m' ((c.tc : Thread Cert.RefAdamGateIdeal.nD Cert.RefAdamGateIdeal.τ).loc Cert.RefAdamGateIdeal.main_arg2)) (m' ((c.tc : Thread Cert.RefAdamGateIdeal.nD Cert.RefAdamGateIdeal.τ).loc Cert.RefAdamGateIdeal.main_arg3)) (m' ((c.tc : Thread Cert.RefAdamGateIdeal.nD Cert.RefAdamGateIdeal.τ).loc Cert.RefAdamGateIdeal.main_arg4)) (m' ((c.tc : Thread Cert.RefAdamGateIdeal.nD Cert.RefAdamGateIdeal.τ).loc Cert.RefAdamGateIdeal.main_arg5)) = _),
      e2.trans (?_ : Cert.RefAdamGateIdeal.Value.mom (m' ((c.tc : Thread Cert.RefAdamGateIdeal.nD Cert.RefAdamGateIdeal.τ).loc Cert.RefAdamGateIdeal.main_arg0)) (m' ((c.tc : Thread Cert.RefAdamGateIdeal.nD Cert.RefAdamGateIdeal.τ).loc Cert.RefAdamGateIdeal.main_arg2)) (m' ((c.tc : Thread Cert.RefAdamGateIdeal.nD Cert.RefAdamGateIdeal.τ).loc Cert.RefAdamGateIdeal.main_arg3)) (m' ((c.tc : Thread Cert.RefAdamGateIdeal.nD Cert.RefAdamGateIdeal.τ).loc Cert.RefAdamGateIdeal.main_arg4)) = _),
      e3.trans (?_ : Cert.RefAdamGateIdeal.Value.sec (m' ((c.tc : Thread Cert.RefAdamGateIdeal.nD Cert.RefAdamGateIdeal.τ).loc Cert.RefAdamGateIdeal.main_arg0)) (m' ((c.tc : Thread Cert.RefAdamGateIdeal.nD Cert.RefAdamGateIdeal.τ).loc Cert.RefAdamGateIdeal.main_arg2)) (m' ((c.tc : Thread Cert.RefAdamGateIdeal.nD Cert.RefAdamGateIdeal.τ).loc Cert.RefAdamGateIdeal.main_arg3)) (m' ((c.tc : Thread Cert.RefAdamGateIdeal.nD Cert.RefAdamGateIdeal.τ).loc Cert.RefAdamGateIdeal.main_arg5)) = _), k⟩
    · rw [h0, h2, h3]
      exact (Cert.AdamGateIdeal.Value.final_grad m c).symm
    · rw [h0, h1, h2, h3, h4, h5]
      exact (Cert.AdamGateIdeal.Value.final_delta m c).symm
    · rw [h0, h2, h3, h4]
      exact (Cert.AdamGateIdeal.Value.final_mom m c).symm
    · rw [h0, h2, h3, h5]
      exact (Cert.AdamGateIdeal.Value.final_sec m c).symm

/-- The optimiser's step of w_down: gradient, change and both moments. -/
theorem adam_down_eq : Cert.algebraic_AdamDownIdeal_RefAdamDownIdeal := by
  pair_intro
  · run_from Cert.AdamDownIdeal.Value.run_blocks m g
  · refine (θ_run _ _ _).mono (fun r h c => ?_) (Cert.RefAdamDownIdeal.Value.run m' g')
    obtain ⟨e0, e1, e2, e3, k⟩ := h c
    obtain ⟨h0, h1, h2, h3, h4, h5⟩ := hagree c
    refine ⟨e0.trans (?_ : Cert.RefAdamDownIdeal.Value.grad (m' ((c.tc : Thread Cert.RefAdamDownIdeal.nD Cert.RefAdamDownIdeal.τ).loc Cert.RefAdamDownIdeal.main_arg0)) (m' ((c.tc : Thread Cert.RefAdamDownIdeal.nD Cert.RefAdamDownIdeal.τ).loc Cert.RefAdamDownIdeal.main_arg2)) (m' ((c.tc : Thread Cert.RefAdamDownIdeal.nD Cert.RefAdamDownIdeal.τ).loc Cert.RefAdamDownIdeal.main_arg3)) = _),
      e1.trans (?_ : Cert.RefAdamDownIdeal.Value.delta (m' ((c.tc : Thread Cert.RefAdamDownIdeal.nD Cert.RefAdamDownIdeal.τ).loc Cert.RefAdamDownIdeal.main_arg0)) (m' ((c.tc : Thread Cert.RefAdamDownIdeal.nD Cert.RefAdamDownIdeal.τ).loc Cert.RefAdamDownIdeal.main_arg1)) (m' ((c.tc : Thread Cert.RefAdamDownIdeal.nD Cert.RefAdamDownIdeal.τ).loc Cert.RefAdamDownIdeal.main_arg2)) (m' ((c.tc : Thread Cert.RefAdamDownIdeal.nD Cert.RefAdamDownIdeal.τ).loc Cert.RefAdamDownIdeal.main_arg3)) (m' ((c.tc : Thread Cert.RefAdamDownIdeal.nD Cert.RefAdamDownIdeal.τ).loc Cert.RefAdamDownIdeal.main_arg4)) (m' ((c.tc : Thread Cert.RefAdamDownIdeal.nD Cert.RefAdamDownIdeal.τ).loc Cert.RefAdamDownIdeal.main_arg5)) = _),
      e2.trans (?_ : Cert.RefAdamDownIdeal.Value.mom (m' ((c.tc : Thread Cert.RefAdamDownIdeal.nD Cert.RefAdamDownIdeal.τ).loc Cert.RefAdamDownIdeal.main_arg0)) (m' ((c.tc : Thread Cert.RefAdamDownIdeal.nD Cert.RefAdamDownIdeal.τ).loc Cert.RefAdamDownIdeal.main_arg2)) (m' ((c.tc : Thread Cert.RefAdamDownIdeal.nD Cert.RefAdamDownIdeal.τ).loc Cert.RefAdamDownIdeal.main_arg3)) (m' ((c.tc : Thread Cert.RefAdamDownIdeal.nD Cert.RefAdamDownIdeal.τ).loc Cert.RefAdamDownIdeal.main_arg4)) = _),
      e3.trans (?_ : Cert.RefAdamDownIdeal.Value.sec (m' ((c.tc : Thread Cert.RefAdamDownIdeal.nD Cert.RefAdamDownIdeal.τ).loc Cert.RefAdamDownIdeal.main_arg0)) (m' ((c.tc : Thread Cert.RefAdamDownIdeal.nD Cert.RefAdamDownIdeal.τ).loc Cert.RefAdamDownIdeal.main_arg2)) (m' ((c.tc : Thread Cert.RefAdamDownIdeal.nD Cert.RefAdamDownIdeal.τ).loc Cert.RefAdamDownIdeal.main_arg3)) (m' ((c.tc : Thread Cert.RefAdamDownIdeal.nD Cert.RefAdamDownIdeal.τ).loc Cert.RefAdamDownIdeal.main_arg5)) = _), k⟩
    · rw [h0, h2, h3]
      exact (Cert.AdamDownIdeal.Value.final_grad m c).symm
    · rw [h0, h1, h2, h3, h4, h5]
      exact (Cert.AdamDownIdeal.Value.final_delta m c).symm
    · rw [h0, h2, h3, h4]
      exact (Cert.AdamDownIdeal.Value.final_mom m c).symm
    · rw [h0, h2, h3, h5]
      exact (Cert.AdamDownIdeal.Value.final_sec m c).symm

/-- The the memory's normed rows, their projection, keys and values. -/
theorem mem_kv_eq : Cert.algebraic_MemKvIdeal_RefMemKvIdeal := by
  pair_intro
  · run_from Cert.MemKvIdeal.Value.run_blocks m g
  · refine (θ_run _ _ _).mono (fun r h c => ?_) (Cert.RefMemKvIdeal.Value.run m' g')
    obtain ⟨e0, e1, e2, e3, k⟩ := h c
    obtain ⟨h0, h1, h2, h3⟩ := hagree c
    refine ⟨e0.trans (?_ : Cert.RefMemKvIdeal.Value.mn (m' ((c.tc : Thread Cert.RefMemKvIdeal.nD Cert.RefMemKvIdeal.τ).loc Cert.RefMemKvIdeal.main_arg0)) (m' ((c.tc : Thread Cert.RefMemKvIdeal.nD Cert.RefMemKvIdeal.τ).loc Cert.RefMemKvIdeal.main_arg1)) = _),
      e1.trans (?_ : Cert.RefMemKvIdeal.Value.kv (m' ((c.tc : Thread Cert.RefMemKvIdeal.nD Cert.RefMemKvIdeal.τ).loc Cert.RefMemKvIdeal.main_arg0)) (m' ((c.tc : Thread Cert.RefMemKvIdeal.nD Cert.RefMemKvIdeal.τ).loc Cert.RefMemKvIdeal.main_arg1)) (m' ((c.tc : Thread Cert.RefMemKvIdeal.nD Cert.RefMemKvIdeal.τ).loc Cert.RefMemKvIdeal.main_arg2)) = _),
      e2.trans (?_ : Cert.RefMemKvIdeal.Value.kn (m' ((c.tc : Thread Cert.RefMemKvIdeal.nD Cert.RefMemKvIdeal.τ).loc Cert.RefMemKvIdeal.main_arg0)) (m' ((c.tc : Thread Cert.RefMemKvIdeal.nD Cert.RefMemKvIdeal.τ).loc Cert.RefMemKvIdeal.main_arg1)) (m' ((c.tc : Thread Cert.RefMemKvIdeal.nD Cert.RefMemKvIdeal.τ).loc Cert.RefMemKvIdeal.main_arg2)) (m' ((c.tc : Thread Cert.RefMemKvIdeal.nD Cert.RefMemKvIdeal.τ).loc Cert.RefMemKvIdeal.main_arg3)) = _),
      e3.trans (?_ : Cert.RefMemKvIdeal.Value.vn (m' ((c.tc : Thread Cert.RefMemKvIdeal.nD Cert.RefMemKvIdeal.τ).loc Cert.RefMemKvIdeal.main_arg0)) (m' ((c.tc : Thread Cert.RefMemKvIdeal.nD Cert.RefMemKvIdeal.τ).loc Cert.RefMemKvIdeal.main_arg1)) (m' ((c.tc : Thread Cert.RefMemKvIdeal.nD Cert.RefMemKvIdeal.τ).loc Cert.RefMemKvIdeal.main_arg2)) = _), k⟩
    · rw [h0, h1]
      exact (Cert.MemKvIdeal.Value.end_mn m c).symm
    · rw [h0, h1, h2]
      exact (Cert.MemKvIdeal.Value.end_kv m c).symm
    · rw [h0, h1, h2, h3]
      exact (Cert.MemKvIdeal.Value.end_kn m c).symm
    · rw [h0, h1, h2]
      exact (Cert.MemKvIdeal.Value.end_vn m c).symm

/-- The norm of the rows, forward. -/
theorem rms_fwd_eq : Cert.algebraic_RmsFwdIdeal_RefRmsFwdIdeal := by
  pair_intro
  · run_from Cert.RmsFwdIdeal.Value.run_blocks m g
  · refine (θ_run _ _ _).mono (fun r h c => ?_) (Cert.RefRmsFwdIdeal.Value.run m' g')
    obtain ⟨e0, k⟩ := h c
    obtain ⟨h0, h1⟩ := hagree c
    refine ⟨e0.trans (?_ : Cert.RefRmsFwdIdeal.Value.res (m' ((c.tc : Thread Cert.RefRmsFwdIdeal.nD Cert.RefRmsFwdIdeal.τ).loc Cert.RefRmsFwdIdeal.main_arg0)) (m' ((c.tc : Thread Cert.RefRmsFwdIdeal.nD Cert.RefRmsFwdIdeal.τ).loc Cert.RefRmsFwdIdeal.main_arg1)) = _), k⟩
    · rw [h0, h1]
      exact (Cert.RmsFwdIdeal.Value.final m c).symm

/-- The sum over the devices of a half of w_in's gradient. -/
theorem chips_in_eq : Cert.algebraic_ChipsInIdeal_RefChipsInIdeal := by
  pair_intro
  · run_from Cert.ChipsInIdeal.Value.run_blocks m g
  · refine (θ_run _ _ _).mono (fun r h c => ?_) (Cert.RefChipsInIdeal.Value.run m' g')
    obtain ⟨e0, k⟩ := h c
    obtain ⟨h0, h1⟩ := hagree c
    refine ⟨e0.trans (?_ : Cert.RefChipsInIdeal.Value.res (m' ((c.tc : Thread Cert.RefChipsInIdeal.nD Cert.RefChipsInIdeal.τ).loc Cert.RefChipsInIdeal.main_arg0)) (m' ((c.tc : Thread Cert.RefChipsInIdeal.nD Cert.RefChipsInIdeal.τ).loc Cert.RefChipsInIdeal.main_arg1)) = _), k⟩
    · rw [h0, h1]
      exact (Cert.ChipsInIdeal.Value.final m c).symm

/-- The sum over the devices of a half of w_uq's gradient. -/
theorem chips_uq_eq : Cert.algebraic_ChipsUqIdeal_RefChipsUqIdeal := by
  pair_intro
  · run_from Cert.ChipsUqIdeal.Value.run_blocks m g
  · refine (θ_run _ _ _).mono (fun r h c => ?_) (Cert.RefChipsUqIdeal.Value.run m' g')
    obtain ⟨e0, k⟩ := h c
    obtain ⟨h0, h1⟩ := hagree c
    refine ⟨e0.trans (?_ : Cert.RefChipsUqIdeal.Value.res (m' ((c.tc : Thread Cert.RefChipsUqIdeal.nD Cert.RefChipsUqIdeal.τ).loc Cert.RefChipsUqIdeal.main_arg0)) (m' ((c.tc : Thread Cert.RefChipsUqIdeal.nD Cert.RefChipsUqIdeal.τ).loc Cert.RefChipsUqIdeal.main_arg1)) = _), k⟩
    · rw [h0, h1]
      exact (Cert.ChipsUqIdeal.Value.final m c).symm

/-- The sum over the devices of a half of w_ukv's gradient. -/
theorem chips_ukv_eq : Cert.algebraic_ChipsUkvIdeal_RefChipsUkvIdeal := by
  pair_intro
  · run_from Cert.ChipsUkvIdeal.Value.run_blocks m g
  · refine (θ_run _ _ _).mono (fun r h c => ?_) (Cert.RefChipsUkvIdeal.Value.run m' g')
    obtain ⟨e0, k⟩ := h c
    obtain ⟨h0, h1⟩ := hagree c
    refine ⟨e0.trans (?_ : Cert.RefChipsUkvIdeal.Value.res (m' ((c.tc : Thread Cert.RefChipsUkvIdeal.nD Cert.RefChipsUkvIdeal.τ).loc Cert.RefChipsUkvIdeal.main_arg0)) (m' ((c.tc : Thread Cert.RefChipsUkvIdeal.nD Cert.RefChipsUkvIdeal.τ).loc Cert.RefChipsUkvIdeal.main_arg1)) = _), k⟩
    · rw [h0, h1]
      exact (Cert.ChipsUkvIdeal.Value.final m c).symm

/-- The sum over the devices of a half of w_mem_kv's gradient. -/
theorem chips_memkv_eq : Cert.algebraic_ChipsMemKvIdeal_RefChipsMemKvIdeal := by
  pair_intro
  · run_from Cert.ChipsMemKvIdeal.Value.run_blocks m g
  · refine (θ_run _ _ _).mono (fun r h c => ?_) (Cert.RefChipsMemKvIdeal.Value.run m' g')
    obtain ⟨e0, k⟩ := h c
    obtain ⟨h0, h1⟩ := hagree c
    refine ⟨e0.trans (?_ : Cert.RefChipsMemKvIdeal.Value.res (m' ((c.tc : Thread Cert.RefChipsMemKvIdeal.nD Cert.RefChipsMemKvIdeal.τ).loc Cert.RefChipsMemKvIdeal.main_arg0)) (m' ((c.tc : Thread Cert.RefChipsMemKvIdeal.nD Cert.RefChipsMemKvIdeal.τ).loc Cert.RefChipsMemKvIdeal.main_arg1)) = _), k⟩
    · rw [h0, h1]
      exact (Cert.ChipsMemKvIdeal.Value.final m c).symm

/-- The sum over the devices of a half of w_out's gradient. -/
theorem chips_out_eq : Cert.algebraic_ChipsOutIdeal_RefChipsOutIdeal := by
  pair_intro
  · run_from Cert.ChipsOutIdeal.Value.run_blocks m g
  · refine (θ_run _ _ _).mono (fun r h c => ?_) (Cert.RefChipsOutIdeal.Value.run m' g')
    obtain ⟨e0, k⟩ := h c
    obtain ⟨h0, h1⟩ := hagree c
    refine ⟨e0.trans (?_ : Cert.RefChipsOutIdeal.Value.res (m' ((c.tc : Thread Cert.RefChipsOutIdeal.nD Cert.RefChipsOutIdeal.τ).loc Cert.RefChipsOutIdeal.main_arg0)) (m' ((c.tc : Thread Cert.RefChipsOutIdeal.nD Cert.RefChipsOutIdeal.τ).loc Cert.RefChipsOutIdeal.main_arg1)) = _), k⟩
    · rw [h0, h1]
      exact (Cert.ChipsOutIdeal.Value.final m c).symm

/-- The sum over the devices of a half of w_gate and of w_up's gradient. -/
theorem chips_gate_eq : Cert.algebraic_ChipsGateIdeal_RefChipsGateIdeal := by
  pair_intro
  · run_from Cert.ChipsGateIdeal.Value.run_blocks m g
  · refine (θ_run _ _ _).mono (fun r h c => ?_) (Cert.RefChipsGateIdeal.Value.run m' g')
    obtain ⟨e0, k⟩ := h c
    obtain ⟨h0, h1⟩ := hagree c
    refine ⟨e0.trans (?_ : Cert.RefChipsGateIdeal.Value.res (m' ((c.tc : Thread Cert.RefChipsGateIdeal.nD Cert.RefChipsGateIdeal.τ).loc Cert.RefChipsGateIdeal.main_arg0)) (m' ((c.tc : Thread Cert.RefChipsGateIdeal.nD Cert.RefChipsGateIdeal.τ).loc Cert.RefChipsGateIdeal.main_arg1)) = _), k⟩
    · rw [h0, h1]
      exact (Cert.ChipsGateIdeal.Value.final m c).symm

/-- The sum over the devices of a half of w_down's gradient. -/
theorem chips_down_eq : Cert.algebraic_ChipsDownIdeal_RefChipsDownIdeal := by
  pair_intro
  · run_from Cert.ChipsDownIdeal.Value.run_blocks m g
  · refine (θ_run _ _ _).mono (fun r h c => ?_) (Cert.RefChipsDownIdeal.Value.run m' g')
    obtain ⟨e0, k⟩ := h c
    obtain ⟨h0, h1⟩ := hagree c
    refine ⟨e0.trans (?_ : Cert.RefChipsDownIdeal.Value.res (m' ((c.tc : Thread Cert.RefChipsDownIdeal.nD Cert.RefChipsDownIdeal.τ).loc Cert.RefChipsDownIdeal.main_arg0)) (m' ((c.tc : Thread Cert.RefChipsDownIdeal.nD Cert.RefChipsDownIdeal.τ).loc Cert.RefChipsDownIdeal.main_arg1)) = _), k⟩
    · rw [h0, h1]
      exact (Cert.ChipsDownIdeal.Value.final m c).symm

/-- The gradients of the memory's weight and of both gains. -/
theorem mem_kv_bwd_eq : Cert.algebraic_MemKvBwdIdeal_RefMemKvBwdIdeal := by
  pair_intro
  · run_from Cert.MemKvBwdIdeal.Value.run_blocks m g
  · refine (θ_run _ _ _).mono (fun r h c => ?_) (Cert.RefMemKvBwdIdeal.Value.run m' g')
    obtain ⟨e0, e1, e2, k⟩ := h c
    obtain ⟨h0, h1, h2, h3, h4, h5⟩ := hagree c
    refine ⟨e0.trans (?_ : Cert.RefMemKvBwdIdeal.Value.dw (m' ((c.tc : Thread Cert.RefMemKvBwdIdeal.nD Cert.RefMemKvBwdIdeal.τ).loc Cert.RefMemKvBwdIdeal.main_arg0)) (m' ((c.tc : Thread Cert.RefMemKvBwdIdeal.nD Cert.RefMemKvBwdIdeal.τ).loc Cert.RefMemKvBwdIdeal.main_arg1)) (m' ((c.tc : Thread Cert.RefMemKvBwdIdeal.nD Cert.RefMemKvBwdIdeal.τ).loc Cert.RefMemKvBwdIdeal.main_arg2)) (m' ((c.tc : Thread Cert.RefMemKvBwdIdeal.nD Cert.RefMemKvBwdIdeal.τ).loc Cert.RefMemKvBwdIdeal.main_arg3)) (m' ((c.tc : Thread Cert.RefMemKvBwdIdeal.nD Cert.RefMemKvBwdIdeal.τ).loc Cert.RefMemKvBwdIdeal.main_arg4)) (m' ((c.tc : Thread Cert.RefMemKvBwdIdeal.nD Cert.RefMemKvBwdIdeal.τ).loc Cert.RefMemKvBwdIdeal.main_arg5)) = _),
      e1.trans (?_ : Cert.RefMemKvBwdIdeal.Value.dg (m' ((c.tc : Thread Cert.RefMemKvBwdIdeal.nD Cert.RefMemKvBwdIdeal.τ).loc Cert.RefMemKvBwdIdeal.main_arg0)) (m' ((c.tc : Thread Cert.RefMemKvBwdIdeal.nD Cert.RefMemKvBwdIdeal.τ).loc Cert.RefMemKvBwdIdeal.main_arg1)) (m' ((c.tc : Thread Cert.RefMemKvBwdIdeal.nD Cert.RefMemKvBwdIdeal.τ).loc Cert.RefMemKvBwdIdeal.main_arg2)) (m' ((c.tc : Thread Cert.RefMemKvBwdIdeal.nD Cert.RefMemKvBwdIdeal.τ).loc Cert.RefMemKvBwdIdeal.main_arg3)) (m' ((c.tc : Thread Cert.RefMemKvBwdIdeal.nD Cert.RefMemKvBwdIdeal.τ).loc Cert.RefMemKvBwdIdeal.main_arg4)) (m' ((c.tc : Thread Cert.RefMemKvBwdIdeal.nD Cert.RefMemKvBwdIdeal.τ).loc Cert.RefMemKvBwdIdeal.main_arg5)) = _),
      e2.trans (?_ : Cert.RefMemKvBwdIdeal.Value.dgk (m' ((c.tc : Thread Cert.RefMemKvBwdIdeal.nD Cert.RefMemKvBwdIdeal.τ).loc Cert.RefMemKvBwdIdeal.main_arg0)) (m' ((c.tc : Thread Cert.RefMemKvBwdIdeal.nD Cert.RefMemKvBwdIdeal.τ).loc Cert.RefMemKvBwdIdeal.main_arg1)) (m' ((c.tc : Thread Cert.RefMemKvBwdIdeal.nD Cert.RefMemKvBwdIdeal.τ).loc Cert.RefMemKvBwdIdeal.main_arg2)) (m' ((c.tc : Thread Cert.RefMemKvBwdIdeal.nD Cert.RefMemKvBwdIdeal.τ).loc Cert.RefMemKvBwdIdeal.main_arg4)) = _), k⟩
    · rw [h0, h1, h2, h3, h4, h5]
      exact (Cert.MemKvBwdIdeal.Value.end_dw m c).symm
    · rw [h0, h1, h2, h3, h4, h5]
      exact (Cert.MemKvBwdIdeal.Value.end_dg m c).symm
    · rw [h0, h1, h2, h4]
      exact (Cert.MemKvBwdIdeal.Value.end_dgk m c).symm

/-- The memory's attention, forward, where the queries and the keys are finite. -/
theorem mem_attn_eq : Cert.algebraic_MemAttnIdeal_RefMemAttnIdeal_pre_finite_fwd := by
  pair_intro
  · run_from Cert.MemAttnIdeal.Value.run_blocks m g
  · refine (θ_run _ _ _).mono (fun r h c => ?_) (Cert.RefMemAttnIdeal.Value.run m' g')
    obtain ⟨e0, e1, k⟩ := h c
    obtain ⟨h0, h1, h2, h3⟩ := hagree c
    refine ⟨e0.trans (?_ : Cert.RefMemAttnIdeal.Value.o (m' ((c.tc : Thread Cert.RefMemAttnIdeal.nD Cert.RefMemAttnIdeal.τ).loc Cert.RefMemAttnIdeal.main_arg0)) (m' ((c.tc : Thread Cert.RefMemAttnIdeal.nD Cert.RefMemAttnIdeal.τ).loc Cert.RefMemAttnIdeal.main_arg1)) (m' ((c.tc : Thread Cert.RefMemAttnIdeal.nD Cert.RefMemAttnIdeal.τ).loc Cert.RefMemAttnIdeal.main_arg2)) = _),
      e1.trans (?_ : Cert.RefMemAttnIdeal.Value.yb (m' ((c.tc : Thread Cert.RefMemAttnIdeal.nD Cert.RefMemAttnIdeal.τ).loc Cert.RefMemAttnIdeal.main_arg0)) (m' ((c.tc : Thread Cert.RefMemAttnIdeal.nD Cert.RefMemAttnIdeal.τ).loc Cert.RefMemAttnIdeal.main_arg1)) (m' ((c.tc : Thread Cert.RefMemAttnIdeal.nD Cert.RefMemAttnIdeal.τ).loc Cert.RefMemAttnIdeal.main_arg2)) (m' ((c.tc : Thread Cert.RefMemAttnIdeal.nD Cert.RefMemAttnIdeal.τ).loc Cert.RefMemAttnIdeal.main_arg3)) = _), k⟩
    · rw [h0, h1, h2]
      exact (Cert.MemAttnIdeal.Value.end_o m c (Cert.Pre_finite_fwd.real0 _ _ _ _ (hpre c).1) (Cert.Pre_finite_fwd.real1 _ _ _ _ (hpre c).2)).symm
    · rw [h0, h1, h2, h3]
      exact (Cert.MemAttnIdeal.Value.end_yb m c (Cert.Pre_finite_fwd.real0 _ _ _ _ (hpre c).1) (Cert.Pre_finite_fwd.real1 _ _ _ _ (hpre c).2)).symm

/-- The further references run, leave their arguments, and have no semaphore. -/
theorem frame_RefDwDownIdeal : Cert.quiescent_RefDwDownIdeal := by
  intro m g _
  exact (θ_run _ _ _).mono (fun r h => ⟨fun c => (h c).2, sem_eq_zero_of_no_sems (by decide) _⟩) (Cert.RefDwDownIdeal.Value.run m g)

/-- Likewise. -/
theorem frame_RefBwdActIdeal : Cert.quiescent_RefBwdActIdeal_pre_none := by
  intro m g _
  exact (θ_run _ _ _).mono (fun r h => ⟨fun c => (h c).2.2, sem_eq_zero_of_no_sems (by decide) _⟩) (Cert.RefBwdActIdeal.Value.run m g)

/-- Likewise. -/
theorem frame_RefDwFfIdeal : Cert.quiescent_RefDwFfIdeal := by
  intro m g _
  exact (θ_run _ _ _).mono (fun r h => ⟨fun c => (h c).2, sem_eq_zero_of_no_sems (by decide) _⟩) (Cert.RefDwFfIdeal.Value.run m g)

/-- Likewise. -/
theorem frame_RefDfnIdeal : Cert.quiescent_RefDfnIdeal := by
  intro m g _
  exact (θ_run _ _ _).mono (fun r h => ⟨fun c => (h c).2, sem_eq_zero_of_no_sems (by decide) _⟩) (Cert.RefDfnIdeal.Value.run m g)

/-- Likewise. -/
theorem frame_RefGateUpIdeal : Cert.quiescent_RefGateUpIdeal := by
  intro m g _
  exact (θ_run _ _ _).mono (fun r h => ⟨fun c => (h c).2.2.2, sem_eq_zero_of_no_sems (by decide) _⟩) (Cert.RefGateUpIdeal.Value.run m g)

/-- Likewise. -/
theorem frame_RefDownProjIdeal : Cert.quiescent_RefDownProjIdeal := by
  intro m g _
  exact (θ_run _ _ _).mono (fun r h => ⟨fun c => (h c).2.2.2, sem_eq_zero_of_no_sems (by decide) _⟩) (Cert.RefDownProjIdeal.Value.run m g)

/-- Likewise. -/
theorem frame_RefDwOutIdeal : Cert.quiescent_RefDwOutIdeal := by
  intro m g _
  exact (θ_run _ _ _).mono (fun r h => ⟨fun c => (h c).2, sem_eq_zero_of_no_sems (by decide) _⟩) (Cert.RefDwOutIdeal.Value.run m g)

/-- Likewise. -/
theorem frame_RefDyIdeal : Cert.quiescent_RefDyIdeal := by
  intro m g _
  exact (θ_run _ _ _).mono (fun r h => ⟨fun c => (h c).2, sem_eq_zero_of_no_sems (by decide) _⟩) (Cert.RefDyIdeal.Value.run m g)

/-- Likewise. -/
theorem frame_RefOutProjIdeal : Cert.quiescent_RefOutProjIdeal := by
  intro m g _
  exact (θ_run _ _ _).mono (fun r h => ⟨fun c => (h c).2.2, sem_eq_zero_of_no_sems (by decide) _⟩) (Cert.RefOutProjIdeal.Value.run m g)

/-- Likewise. -/
theorem frame_RefInProjIdeal : Cert.quiescent_RefInProjIdeal := by
  intro m g _
  exact (θ_run _ _ _).mono (fun r h => ⟨fun c => (h c).2, sem_eq_zero_of_no_sems (by decide) _⟩) (Cert.RefInProjIdeal.Value.run m g)

/-- Likewise. -/
theorem frame_RefDwInIdeal : Cert.quiescent_RefDwInIdeal := by
  intro m g _
  exact (θ_run _ _ _).mono (fun r h => ⟨fun c => (h c).2, sem_eq_zero_of_no_sems (by decide) _⟩) (Cert.RefDwInIdeal.Value.run m g)

/-- Likewise. -/
theorem frame_RefDhnIdeal : Cert.quiescent_RefDhnIdeal := by
  intro m g _
  exact (θ_run _ _ _).mono (fun r h => ⟨fun c => (h c).2, sem_eq_zero_of_no_sems (by decide) _⟩) (Cert.RefDhnIdeal.Value.run m g)

/-- Likewise. -/
theorem frame_RefRmsBwdIdeal : Cert.quiescent_RefRmsBwdIdeal := by
  intro m g _
  exact (θ_run _ _ _).mono (fun r h => ⟨fun c => (h c).2.2.2, sem_eq_zero_of_no_sems (by decide) _⟩) (Cert.RefRmsBwdIdeal.Value.run m g)

/-- Likewise. -/
theorem frame_RefAdamInIdeal : Cert.quiescent_RefAdamInIdeal := by
  intro m g _
  exact (θ_run _ _ _).mono (fun r h => ⟨fun c => (h c).2.2.2.2, sem_eq_zero_of_no_sems (by decide) _⟩) (Cert.RefAdamInIdeal.Value.run m g)

/-- Likewise. -/
theorem frame_RefAdamUqIdeal : Cert.quiescent_RefAdamUqIdeal := by
  intro m g _
  exact (θ_run _ _ _).mono (fun r h => ⟨fun c => (h c).2.2.2.2, sem_eq_zero_of_no_sems (by decide) _⟩) (Cert.RefAdamUqIdeal.Value.run m g)

/-- Likewise. -/
theorem frame_RefAdamUkvIdeal : Cert.quiescent_RefAdamUkvIdeal := by
  intro m g _
  exact (θ_run _ _ _).mono (fun r h => ⟨fun c => (h c).2.2.2.2, sem_eq_zero_of_no_sems (by decide) _⟩) (Cert.RefAdamUkvIdeal.Value.run m g)

/-- Likewise. -/
theorem frame_RefAdamMemKvIdeal : Cert.quiescent_RefAdamMemKvIdeal := by
  intro m g _
  exact (θ_run _ _ _).mono (fun r h => ⟨fun c => (h c).2.2.2.2, sem_eq_zero_of_no_sems (by decide) _⟩) (Cert.RefAdamMemKvIdeal.Value.run m g)

/-- Likewise. -/
theorem frame_RefAdamOutIdeal : Cert.quiescent_RefAdamOutIdeal := by
  intro m g _
  exact (θ_run _ _ _).mono (fun r h => ⟨fun c => (h c).2.2.2.2, sem_eq_zero_of_no_sems (by decide) _⟩) (Cert.RefAdamOutIdeal.Value.run m g)

/-- Likewise. -/
theorem frame_RefAdamGateIdeal : Cert.quiescent_RefAdamGateIdeal := by
  intro m g _
  exact (θ_run _ _ _).mono (fun r h => ⟨fun c => (h c).2.2.2.2, sem_eq_zero_of_no_sems (by decide) _⟩) (Cert.RefAdamGateIdeal.Value.run m g)

/-- Likewise. -/
theorem frame_RefAdamDownIdeal : Cert.quiescent_RefAdamDownIdeal := by
  intro m g _
  exact (θ_run _ _ _).mono (fun r h => ⟨fun c => (h c).2.2.2.2, sem_eq_zero_of_no_sems (by decide) _⟩) (Cert.RefAdamDownIdeal.Value.run m g)

/-- Likewise. -/
theorem frame_RefMemKvIdeal : Cert.quiescent_RefMemKvIdeal := by
  intro m g _
  exact (θ_run _ _ _).mono (fun r h => ⟨fun c => (h c).2.2.2.2, sem_eq_zero_of_no_sems (by decide) _⟩) (Cert.RefMemKvIdeal.Value.run m g)

/-- Likewise. -/
theorem frame_RefRmsFwdIdeal : Cert.quiescent_RefRmsFwdIdeal := by
  intro m g _
  exact (θ_run _ _ _).mono (fun r h => ⟨fun c => (h c).2, sem_eq_zero_of_no_sems (by decide) _⟩) (Cert.RefRmsFwdIdeal.Value.run m g)

/-- Likewise. -/
theorem frame_RefChipsInIdeal : Cert.quiescent_RefChipsInIdeal := by
  intro m g _
  exact (θ_run _ _ _).mono (fun r h => ⟨fun c => (h c).2, sem_eq_zero_of_no_sems (by decide) _⟩) (Cert.RefChipsInIdeal.Value.run m g)

/-- Likewise. -/
theorem frame_RefChipsUqIdeal : Cert.quiescent_RefChipsUqIdeal := by
  intro m g _
  exact (θ_run _ _ _).mono (fun r h => ⟨fun c => (h c).2, sem_eq_zero_of_no_sems (by decide) _⟩) (Cert.RefChipsUqIdeal.Value.run m g)

/-- Likewise. -/
theorem frame_RefChipsUkvIdeal : Cert.quiescent_RefChipsUkvIdeal := by
  intro m g _
  exact (θ_run _ _ _).mono (fun r h => ⟨fun c => (h c).2, sem_eq_zero_of_no_sems (by decide) _⟩) (Cert.RefChipsUkvIdeal.Value.run m g)

/-- Likewise. -/
theorem frame_RefChipsMemKvIdeal : Cert.quiescent_RefChipsMemKvIdeal := by
  intro m g _
  exact (θ_run _ _ _).mono (fun r h => ⟨fun c => (h c).2, sem_eq_zero_of_no_sems (by decide) _⟩) (Cert.RefChipsMemKvIdeal.Value.run m g)

/-- Likewise. -/
theorem frame_RefChipsOutIdeal : Cert.quiescent_RefChipsOutIdeal := by
  intro m g _
  exact (θ_run _ _ _).mono (fun r h => ⟨fun c => (h c).2, sem_eq_zero_of_no_sems (by decide) _⟩) (Cert.RefChipsOutIdeal.Value.run m g)

/-- Likewise. -/
theorem frame_RefChipsGateIdeal : Cert.quiescent_RefChipsGateIdeal := by
  intro m g _
  exact (θ_run _ _ _).mono (fun r h => ⟨fun c => (h c).2, sem_eq_zero_of_no_sems (by decide) _⟩) (Cert.RefChipsGateIdeal.Value.run m g)

/-- Likewise. -/
theorem frame_RefChipsDownIdeal : Cert.quiescent_RefChipsDownIdeal := by
  intro m g _
  exact (θ_run _ _ _).mono (fun r h => ⟨fun c => (h c).2, sem_eq_zero_of_no_sems (by decide) _⟩) (Cert.RefChipsDownIdeal.Value.run m g)

/-- Likewise. -/
theorem frame_RefMemKvBwdIdeal : Cert.quiescent_RefMemKvBwdIdeal := by
  intro m g _
  exact (θ_run _ _ _).mono (fun r h => ⟨fun c => (h c).2.2.2, sem_eq_zero_of_no_sems (by decide) _⟩) (Cert.RefMemKvBwdIdeal.Value.run m g)

/-- Likewise. -/
theorem frame_RefMemAttnIdeal : Cert.quiescent_RefMemAttnIdeal_pre_none := by
  intro m g _
  exact (θ_run _ _ _).mono (fun r h => ⟨fun c => (h c).2.2, sem_eq_zero_of_no_sems (by decide) _⟩) (Cert.RefMemAttnIdeal.Value.run m g)

/-- The claims. -/
theorem claim : Cert.Claim :=
  ⟨Cert.Kernel.Gen.facts,
    Cert.KernelIdeal.Gen.facts,
    Cert.ReferenceIdeal.Gen.facts,
    Cert.DwDown.Gen.facts,
    Cert.DwDownIdeal.Gen.facts,
    Cert.RefDwDownIdeal.Gen.facts,
    Cert.BwdAct.Gen.facts,
    Cert.BwdActIdeal.Gen.facts,
    Cert.RefBwdActIdeal.Gen.facts,
    Cert.DwGate.Gen.facts,
    Cert.DwGateIdeal.Gen.facts,
    Cert.RefDwFfIdeal.Gen.facts,
    Cert.DwUp.Gen.facts,
    Cert.DwUpIdeal.Gen.facts,
    Cert.Dfn.Gen.facts,
    Cert.DfnIdeal.Gen.facts,
    Cert.RefDfnIdeal.Gen.facts,
    Cert.GateUp.Gen.facts,
    Cert.GateUpIdeal.Gen.facts,
    Cert.RefGateUpIdeal.Gen.facts,
    Cert.DownProj.Gen.facts,
    Cert.DownProjIdeal.Gen.facts,
    Cert.RefDownProjIdeal.Gen.facts,
    Cert.DwOut.Gen.facts,
    Cert.DwOutIdeal.Gen.facts,
    Cert.RefDwOutIdeal.Gen.facts,
    Cert.Dy.Gen.facts,
    Cert.DyIdeal.Gen.facts,
    Cert.RefDyIdeal.Gen.facts,
    Cert.OutProj.Gen.facts,
    Cert.OutProjIdeal.Gen.facts,
    Cert.RefOutProjIdeal.Gen.facts,
    Cert.InProj.Gen.facts,
    Cert.InProjIdeal.Gen.facts,
    Cert.RefInProjIdeal.Gen.facts,
    Cert.DwIn.Gen.facts,
    Cert.DwInIdeal.Gen.facts,
    Cert.RefDwInIdeal.Gen.facts,
    Cert.Dhn.Gen.facts,
    Cert.DhnIdeal.Gen.facts,
    Cert.RefDhnIdeal.Gen.facts,
    Cert.RmsBwd.Gen.facts,
    Cert.RmsBwdIdeal.Gen.facts,
    Cert.RefRmsBwdIdeal.Gen.facts,
    Cert.AdamIn.Gen.facts,
    Cert.AdamInIdeal.Gen.facts,
    Cert.RefAdamInIdeal.Gen.facts,
    Cert.AdamUq.Gen.facts,
    Cert.AdamUqIdeal.Gen.facts,
    Cert.RefAdamUqIdeal.Gen.facts,
    Cert.AdamUkv.Gen.facts,
    Cert.AdamUkvIdeal.Gen.facts,
    Cert.RefAdamUkvIdeal.Gen.facts,
    Cert.AdamMemKv.Gen.facts,
    Cert.AdamMemKvIdeal.Gen.facts,
    Cert.RefAdamMemKvIdeal.Gen.facts,
    Cert.AdamOut.Gen.facts,
    Cert.AdamOutIdeal.Gen.facts,
    Cert.RefAdamOutIdeal.Gen.facts,
    Cert.AdamGate.Gen.facts,
    Cert.AdamGateIdeal.Gen.facts,
    Cert.RefAdamGateIdeal.Gen.facts,
    Cert.AdamDown.Gen.facts,
    Cert.AdamDownIdeal.Gen.facts,
    Cert.RefAdamDownIdeal.Gen.facts,
    Cert.MemKvBwd.Gen.facts,
    Cert.MemKvBwdIdeal.Gen.facts,
    Cert.RefMemKvBwdIdeal.Gen.facts,
    Cert.MemKv.Gen.facts,
    Cert.MemKvIdeal.Gen.facts,
    Cert.RefMemKvIdeal.Gen.facts,
    Cert.MemAttn.Gen.facts,
    Cert.MemAttnIdeal.Gen.facts,
    Cert.RefMemAttnIdeal.Gen.facts,
    Cert.RmsFwd.Gen.facts,
    Cert.RmsFwdIdeal.Gen.facts,
    Cert.RefRmsFwdIdeal.Gen.facts,
    Cert.ChipsIn.Gen.facts,
    Cert.ChipsInIdeal.Gen.facts,
    Cert.RefChipsInIdeal.Gen.facts,
    Cert.ChipsUq.Gen.facts,
    Cert.ChipsUqIdeal.Gen.facts,
    Cert.RefChipsUqIdeal.Gen.facts,
    Cert.ChipsUkv.Gen.facts,
    Cert.ChipsUkvIdeal.Gen.facts,
    Cert.RefChipsUkvIdeal.Gen.facts,
    Cert.ChipsMemKv.Gen.facts,
    Cert.ChipsMemKvIdeal.Gen.facts,
    Cert.RefChipsMemKvIdeal.Gen.facts,
    Cert.ChipsOut.Gen.facts,
    Cert.ChipsOutIdeal.Gen.facts,
    Cert.RefChipsOutIdeal.Gen.facts,
    Cert.ChipsGate.Gen.facts,
    Cert.ChipsGateIdeal.Gen.facts,
    Cert.RefChipsGateIdeal.Gen.facts,
    Cert.ChipsDown.Gen.facts,
    Cert.ChipsDownIdeal.Gen.facts,
    Cert.RefChipsDownIdeal.Gen.facts,
    Cert.Pre_finite.facts,
    Cert.Pre_finite_grad.facts,
    Cert.Pre_finite_fwd.facts,
    fun m ρ _ => Cert.Kernel.Gen.frame m ρ,
    fun m ρ _ => Cert.KernelIdeal.Gen.frame m ρ,
    fun m ρ _ => Cert.KernelIdeal.Gen.frame m ρ,
    fun m g _ => reference_frame m g trivial,
    fun m g _ => reference_frame m g trivial,
    fun m ρ _ => Cert.DwDown.Gen.frame m ρ,
    fun m ρ _ => Cert.DwDownIdeal.Gen.frame m ρ,
    fun m g _ => frame_RefDwDownIdeal m g trivial,
    fun m ρ _ => Cert.BwdAct.Gen.frame m ρ,
    fun m ρ _ => Cert.BwdActIdeal.Gen.frame m ρ,
    fun m ρ _ => Cert.BwdActIdeal.Gen.frame m ρ,
    fun m g _ => frame_RefBwdActIdeal m g trivial,
    fun m g _ => frame_RefBwdActIdeal m g trivial,
    fun m ρ _ => Cert.DwGate.Gen.frame m ρ,
    fun m ρ _ => Cert.DwGateIdeal.Gen.frame m ρ,
    fun m g _ => frame_RefDwFfIdeal m g trivial,
    fun m ρ _ => Cert.DwUp.Gen.frame m ρ,
    fun m ρ _ => Cert.DwUpIdeal.Gen.frame m ρ,
    fun m ρ _ => Cert.Dfn.Gen.frame m ρ,
    fun m ρ _ => Cert.DfnIdeal.Gen.frame m ρ,
    fun m g _ => frame_RefDfnIdeal m g trivial,
    fun m ρ _ => Cert.GateUp.Gen.frame m ρ,
    fun m ρ _ => Cert.GateUpIdeal.Gen.frame m ρ,
    fun m g _ => frame_RefGateUpIdeal m g trivial,
    fun m ρ _ => Cert.DownProj.Gen.frame m ρ,
    fun m ρ _ => Cert.DownProjIdeal.Gen.frame m ρ,
    fun m g _ => frame_RefDownProjIdeal m g trivial,
    fun m ρ _ => Cert.DwOut.Gen.frame m ρ,
    fun m ρ _ => Cert.DwOutIdeal.Gen.frame m ρ,
    fun m g _ => frame_RefDwOutIdeal m g trivial,
    fun m ρ _ => Cert.Dy.Gen.frame m ρ,
    fun m ρ _ => Cert.DyIdeal.Gen.frame m ρ,
    fun m g _ => frame_RefDyIdeal m g trivial,
    fun m ρ _ => Cert.OutProj.Gen.frame m ρ,
    fun m ρ _ => Cert.OutProjIdeal.Gen.frame m ρ,
    fun m g _ => frame_RefOutProjIdeal m g trivial,
    fun m ρ _ => Cert.InProj.Gen.frame m ρ,
    fun m ρ _ => Cert.InProjIdeal.Gen.frame m ρ,
    fun m g _ => frame_RefInProjIdeal m g trivial,
    fun m ρ _ => Cert.DwIn.Gen.frame m ρ,
    fun m ρ _ => Cert.DwInIdeal.Gen.frame m ρ,
    fun m g _ => frame_RefDwInIdeal m g trivial,
    fun m ρ _ => Cert.Dhn.Gen.frame m ρ,
    fun m ρ _ => Cert.DhnIdeal.Gen.frame m ρ,
    fun m g _ => frame_RefDhnIdeal m g trivial,
    fun m ρ _ => Cert.RmsBwd.Gen.frame m ρ,
    fun m ρ _ => Cert.RmsBwdIdeal.Gen.frame m ρ,
    fun m g _ => frame_RefRmsBwdIdeal m g trivial,
    fun m ρ _ => Cert.AdamIn.Gen.frame m ρ (Cert.AdamIn.Value.admissible m),
    fun m ρ _ => Cert.AdamInIdeal.Gen.frame m ρ (Cert.AdamInIdeal.Value.admissible m),
    fun m g _ => frame_RefAdamInIdeal m g trivial,
    fun m ρ _ => Cert.AdamUq.Gen.frame m ρ (Cert.AdamUq.Value.admissible m),
    fun m ρ _ => Cert.AdamUqIdeal.Gen.frame m ρ (Cert.AdamUqIdeal.Value.admissible m),
    fun m g _ => frame_RefAdamUqIdeal m g trivial,
    fun m ρ _ => Cert.AdamUkv.Gen.frame m ρ (Cert.AdamUkv.Value.admissible m),
    fun m ρ _ => Cert.AdamUkvIdeal.Gen.frame m ρ (Cert.AdamUkvIdeal.Value.admissible m),
    fun m g _ => frame_RefAdamUkvIdeal m g trivial,
    fun m ρ _ => Cert.AdamMemKv.Gen.frame m ρ (Cert.AdamMemKv.Value.admissible m),
    fun m ρ _ => Cert.AdamMemKvIdeal.Gen.frame m ρ (Cert.AdamMemKvIdeal.Value.admissible m),
    fun m g _ => frame_RefAdamMemKvIdeal m g trivial,
    fun m ρ _ => Cert.AdamOut.Gen.frame m ρ (Cert.AdamOut.Value.admissible m),
    fun m ρ _ => Cert.AdamOutIdeal.Gen.frame m ρ (Cert.AdamOutIdeal.Value.admissible m),
    fun m g _ => frame_RefAdamOutIdeal m g trivial,
    fun m ρ _ => Cert.AdamGate.Gen.frame m ρ (Cert.AdamGate.Value.admissible m),
    fun m ρ _ => Cert.AdamGateIdeal.Gen.frame m ρ (Cert.AdamGateIdeal.Value.admissible m),
    fun m g _ => frame_RefAdamGateIdeal m g trivial,
    fun m ρ _ => Cert.AdamDown.Gen.frame m ρ (Cert.AdamDown.Value.admissible m),
    fun m ρ _ => Cert.AdamDownIdeal.Gen.frame m ρ (Cert.AdamDownIdeal.Value.admissible m),
    fun m g _ => frame_RefAdamDownIdeal m g trivial,
    fun m ρ _ => Cert.MemKvBwd.Gen.frame m ρ,
    fun m ρ _ => Cert.MemKvBwdIdeal.Gen.frame m ρ,
    fun m g _ => frame_RefMemKvBwdIdeal m g trivial,
    fun m ρ _ => Cert.MemKv.Gen.frame m ρ,
    fun m ρ _ => Cert.MemKvIdeal.Gen.frame m ρ,
    fun m g _ => frame_RefMemKvIdeal m g trivial,
    fun m ρ _ => Cert.MemAttn.Gen.frame m ρ,
    fun m ρ _ => Cert.MemAttnIdeal.Gen.frame m ρ,
    fun m ρ _ => Cert.MemAttnIdeal.Gen.frame m ρ,
    fun m g _ => frame_RefMemAttnIdeal m g trivial,
    fun m g _ => frame_RefMemAttnIdeal m g trivial,
    fun m ρ _ => Cert.RmsFwd.Gen.frame m ρ,
    fun m ρ _ => Cert.RmsFwdIdeal.Gen.frame m ρ,
    fun m g _ => frame_RefRmsFwdIdeal m g trivial,
    fun m ρ _ => Cert.ChipsIn.Gen.frame m ρ,
    fun m ρ _ => Cert.ChipsInIdeal.Gen.frame m ρ,
    fun m g _ => frame_RefChipsInIdeal m g trivial,
    fun m ρ _ => Cert.ChipsUq.Gen.frame m ρ,
    fun m ρ _ => Cert.ChipsUqIdeal.Gen.frame m ρ,
    fun m g _ => frame_RefChipsUqIdeal m g trivial,
    fun m ρ _ => Cert.ChipsUkv.Gen.frame m ρ,
    fun m ρ _ => Cert.ChipsUkvIdeal.Gen.frame m ρ,
    fun m g _ => frame_RefChipsUkvIdeal m g trivial,
    fun m ρ _ => Cert.ChipsMemKv.Gen.frame m ρ,
    fun m ρ _ => Cert.ChipsMemKvIdeal.Gen.frame m ρ,
    fun m g _ => frame_RefChipsMemKvIdeal m g trivial,
    fun m ρ _ => Cert.ChipsOut.Gen.frame m ρ,
    fun m ρ _ => Cert.ChipsOutIdeal.Gen.frame m ρ,
    fun m g _ => frame_RefChipsOutIdeal m g trivial,
    fun m ρ _ => Cert.ChipsGate.Gen.frame m ρ,
    fun m ρ _ => Cert.ChipsGateIdeal.Gen.frame m ρ,
    fun m g _ => frame_RefChipsGateIdeal m g trivial,
    fun m ρ _ => Cert.ChipsDown.Gen.frame m ρ,
    fun m ρ _ => Cert.ChipsDownIdeal.Gen.frame m ρ,
    fun m g _ => frame_RefChipsDownIdeal m g trivial,
    trivial,
    algebraic,
    trivial,
    dw_down_eq,
    trivial,
    bwd_act_eq,
    trivial,
    dw_gate_eq,
    trivial,
    dw_up_eq,
    trivial,
    dfn_eq,
    trivial,
    gate_up_eq,
    trivial,
    down_proj_eq,
    trivial,
    dw_out_eq,
    trivial,
    dy_eq,
    trivial,
    out_proj_eq,
    trivial,
    in_proj_eq,
    trivial,
    dw_in_eq,
    trivial,
    dhn_eq,
    trivial,
    rms_bwd_eq,
    trivial,
    adam_in_eq,
    trivial,
    adam_uq_eq,
    trivial,
    adam_ukv_eq,
    trivial,
    adam_memkv_eq,
    trivial,
    adam_out_eq,
    trivial,
    adam_gate_eq,
    trivial,
    adam_down_eq,
    trivial,
    mem_kv_bwd_eq,
    trivial,
    mem_kv_eq,
    trivial,
    mem_attn_eq,
    trivial,
    rms_fwd_eq,
    trivial,
    chips_in_eq,
    trivial,
    chips_uq_eq,
    trivial,
    chips_ukv_eq,
    trivial,
    chips_memkv_eq,
    trivial,
    chips_out_eq,
    trivial,
    chips_gate_eq,
    trivial,
    chips_down_eq⟩

end Cert.Proof

end
